-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))) = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_mlp_finite [hPre_mlp_finite : Cert.Pre_mlp_finite.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_mlp_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdReferenceIdeal (m : (ℓ : Loc Cert.OutBwdReferenceIdeal.nD Cert.OutBwdReferenceIdeal.τ Cert.OutBwdReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_MlpReferenceIdeal_pre_mlp_finite [hMlpReferenceIdeal : Cert.MlpReferenceIdeal.Facts] [hPre_mlp_finite : Cert.Pre_mlp_finite.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_mlp_finite m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ r.2.sem = fun _ => 0)

def quiescent_OutBwdReferenceIdeal [hOutBwdReferenceIdeal : Cert.OutBwdReferenceIdeal.Facts] : Prop :=
  ∀ (m : (ℓ : Loc Cert.OutBwdReferenceIdeal.nD Cert.OutBwdReferenceIdeal.τ Cert.OutBwdReferenceIdeal.sig) → Buf (Elt Ideal) ℓ) (g : Dev Cert.OutBwdReferenceIdeal.nD → PrngReg), Pre_OutBwdReferenceIdeal m →
    θ_run (Cert.OutBwdReferenceIdeal.defs (F := Ideal)) (onTc (τ := Cert.OutBwdReferenceIdeal.τ) (Cert.OutBwdReferenceIdeal.main (F := Ideal))) ⟨m, fun _ => 0, g⟩ (fun r => (∀ c : Dev Cert.OutBwdReferenceIdeal.nD,
      r.2.mem ((c.tc : Thread Cert.OutBwdReferenceIdeal.nD Cert.OutBwdReferenceIdeal.τ).loc Cert.OutBwdReferenceIdeal.main_arg0) = m ((c.tc : Thread Cert.OutBwdReferenceIdeal.nD Cert.OutBwdReferenceIdeal.τ).loc Cert.OutBwdReferenceIdeal.main_arg0)
      ∧ r.2.mem ((c.tc : Thread Cert.OutBwdReferenceIdeal.nD Cert.OutBwdReferenceIdeal.τ).loc Cert.OutBwdReferenceIdeal.main_arg1) = m ((c.tc : Thread Cert.OutBwdReferenceIdeal.nD Cert.OutBwdReferenceIdeal.τ).loc Cert.OutBwdReferenceIdeal.main_arg1)
      ∧ r.2.mem ((c.tc : Thread Cert.OutBwdReferenceIdeal.nD Cert.OutBwdReferenceIdeal.τ).loc Cert.OutBwdReferenceIdeal.main_arg2) = m ((c.tc : Thread Cert.OutBwdReferenceIdeal.nD Cert.OutBwdReferenceIdeal.τ).loc Cert.OutBwdReferenceIdeal.main_arg2)
      ∧ r.2.mem ((c.tc : Thread Cert.OutBwdReferenceIdeal.nD Cert.OutBwdReferenceIdeal.τ).loc Cert.OutBwdReferenceIdeal.main_arg3) = m ((c.tc : Thread Cert.OutBwdReferenceIdeal.nD Cert.OutBwdReferenceIdeal.τ).loc Cert.OutBwdReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v97_0)) (v1 : (c : Dev Cert.KernelIdeal.nD) → Buf (Elt Ideal) ((c.tc : Thread Cert.KernelIdeal.nD Cert.KernelIdeal.τ).loc Cert.KernelIdeal.main_v97_1)) (v2 : (c : Dev Cert.KernelIdeal.nD) → Buf (Elt Ideal) ((c.tc : Thread Cert.KernelIdeal.nD Cert.KernelIdeal.τ).loc Cert.KernelIdeal.main_v97_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97_0) = v0 c
          ∧ r.2.mem ((c.tc : Thread Cert.KernelIdeal.nD Cert.KernelIdeal.τ).loc Cert.KernelIdeal.main_v97_1) = v1 c
          ∧ r.2.mem ((c.tc : Thread Cert.KernelIdeal.nD Cert.KernelIdeal.τ).loc Cert.KernelIdeal.main_v97_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Mlp_MlpIdeal : Prop :=
  True

def algebraic_MlpIdeal_MlpReferenceIdeal_pre_mlp_finite [hMlpIdeal : Cert.MlpIdeal.Facts] [hMlpReferenceIdeal : Cert.MlpReferenceIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal_mlp_finite m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v23_0)) (v1 : (c : Dev Cert.MlpIdeal.nD) → Buf (Elt Ideal) ((c.tc : Thread Cert.MlpIdeal.nD Cert.MlpIdeal.τ).loc Cert.MlpIdeal.main_v23_1)) (v2 : (c : Dev Cert.MlpIdeal.nD) → Buf (Elt Ideal) ((c.tc : Thread Cert.MlpIdeal.nD Cert.MlpIdeal.τ).loc Cert.MlpIdeal.main_v23_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v23_0) = v0 c
          ∧ r.2.mem ((c.tc : Thread Cert.MlpIdeal.nD Cert.MlpIdeal.τ).loc Cert.MlpIdeal.main_v23_1) = v1 c
          ∧ r.2.mem ((c.tc : Thread Cert.MlpIdeal.nD Cert.MlpIdeal.τ).loc Cert.MlpIdeal.main_v23_2) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v53) = v0 c
          ∧ r.2.mem ((c.tc : Thread Cert.MlpReferenceIdeal.nD Cert.MlpReferenceIdeal.τ).loc Cert.MlpReferenceIdeal.main_v52) = v1 c
          ∧ r.2.mem ((c.tc : Thread Cert.MlpReferenceIdeal.nD Cert.MlpReferenceIdeal.τ).loc Cert.MlpReferenceIdeal.main_v35) = v2 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Fwd_FwdIdeal : Prop :=
  True

def algebraic_FwdIdeal_FwdReferenceIdeal [hFwdIdeal : Cert.FwdIdeal.Facts] [hFwdReferenceIdeal : Cert.FwdReferenceIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)
      ∧ m' ((c.tc : Thread Cert.FwdReferenceIdeal.nD Cert.FwdReferenceIdeal.τ).loc Cert.FwdReferenceIdeal.main_arg2) = m ((c.tc : Thread Cert.FwdIdeal.nD Cert.FwdIdeal.τ).loc Cert.FwdIdeal.main_arg2)
      ∧ m' ((c.tc : Thread Cert.FwdReferenceIdeal.nD Cert.FwdReferenceIdeal.τ).loc Cert.FwdReferenceIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v22_0)) (v1 : (c : Dev Cert.FwdIdeal.nD) → Buf (Elt Ideal) ((c.tc : Thread Cert.FwdIdeal.nD Cert.FwdIdeal.τ).loc Cert.FwdIdeal.main_v22_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v22_0) = v0 c
          ∧ r.2.mem ((c.tc : Thread Cert.FwdIdeal.nD Cert.FwdIdeal.τ).loc Cert.FwdIdeal.main_v22_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v13) = v0 c
          ∧ r.2.mem ((c.tc : Thread Cert.FwdReferenceIdeal.nD Cert.FwdReferenceIdeal.τ).loc Cert.FwdReferenceIdeal.main_v17) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v6) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v6) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_OutBwd_OutBwdIdeal : Prop :=
  True

def algebraic_OutBwdIdeal_OutBwdReferenceIdeal [hOutBwdIdeal : Cert.OutBwdIdeal.Facts] [hOutBwdReferenceIdeal : Cert.OutBwdReferenceIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdReferenceIdeal.nD Cert.OutBwdReferenceIdeal.τ Cert.OutBwdReferenceIdeal.sig) → Buf (Elt Ideal) ℓ) (g' : Dev Cert.OutBwdReferenceIdeal.nD → PrngReg), Pre_OutBwdIdeal m →
    (∀ c : Dev Cert.OutBwdIdeal.nD,
      m' ((c.tc : Thread Cert.OutBwdReferenceIdeal.nD Cert.OutBwdReferenceIdeal.τ).loc Cert.OutBwdReferenceIdeal.main_arg0) = m ((c.tc : Thread Cert.OutBwdIdeal.nD Cert.OutBwdIdeal.τ).loc Cert.OutBwdIdeal.main_arg0)
      ∧ m' ((c.tc : Thread Cert.OutBwdReferenceIdeal.nD Cert.OutBwdReferenceIdeal.τ).loc Cert.OutBwdReferenceIdeal.main_arg1) = m ((c.tc : Thread Cert.OutBwdIdeal.nD Cert.OutBwdIdeal.τ).loc Cert.OutBwdIdeal.main_arg1)
      ∧ m' ((c.tc : Thread Cert.OutBwdReferenceIdeal.nD Cert.OutBwdReferenceIdeal.τ).loc Cert.OutBwdReferenceIdeal.main_arg2) = m ((c.tc : Thread Cert.OutBwdIdeal.nD Cert.OutBwdIdeal.τ).loc Cert.OutBwdIdeal.main_arg2)
      ∧ m' ((c.tc : Thread Cert.OutBwdReferenceIdeal.nD Cert.OutBwdReferenceIdeal.τ).loc Cert.OutBwdReferenceIdeal.main_arg3) = m ((c.tc : Thread Cert.OutBwdIdeal.nD Cert.OutBwdIdeal.τ).loc Cert.OutBwdIdeal.main_arg3)) →
    ∃ (v0 : (c : Dev Cert.OutBwdIdeal.nD) → Buf (Elt Ideal) ((c.tc : Thread Cert.OutBwdIdeal.nD Cert.OutBwdIdeal.τ).loc Cert.OutBwdIdeal.main_v1_0)) (v1 : (c : Dev Cert.OutBwdIdeal.nD) → Buf (Elt Ideal) ((c.tc : Thread Cert.OutBwdIdeal.nD Cert.OutBwdIdeal.τ).loc Cert.OutBwdIdeal.main_v1_1)) (v2 : (c : Dev Cert.OutBwdIdeal.nD) → Buf (Elt Ideal) ((c.tc : Thread Cert.OutBwdIdeal.nD Cert.OutBwdIdeal.τ).loc Cert.OutBwdIdeal.main_v1_2)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v1_0) = v0 c
          ∧ r.2.mem ((c.tc : Thread Cert.OutBwdIdeal.nD Cert.OutBwdIdeal.τ).loc Cert.OutBwdIdeal.main_v1_1) = v1 c
          ∧ r.2.mem ((c.tc : Thread Cert.OutBwdIdeal.nD Cert.OutBwdIdeal.τ).loc Cert.OutBwdIdeal.main_v1_2) = v2 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ θ_run (Cert.OutBwdReferenceIdeal.defs (F := Ideal)) (onTc (τ := Cert.OutBwdReferenceIdeal.τ) (Cert.OutBwdReferenceIdeal.main (F := Ideal))) ⟨m', fun _ => 0, g'⟩ (fun r => ∀ c : Dev Cert.OutBwdReferenceIdeal.nD,
          r.2.mem ((c.tc : Thread Cert.OutBwdReferenceIdeal.nD Cert.OutBwdReferenceIdeal.τ).loc Cert.OutBwdReferenceIdeal.main_v5) = v0 c
          ∧ r.2.mem ((c.tc : Thread Cert.OutBwdReferenceIdeal.nD Cert.OutBwdReferenceIdeal.τ).loc Cert.OutBwdReferenceIdeal.main_v6) = v1 c
          ∧ r.2.mem ((c.tc : Thread Cert.OutBwdReferenceIdeal.nD Cert.OutBwdReferenceIdeal.τ).loc Cert.OutBwdReferenceIdeal.main_v7) = v2 c
          ∧ r.2.mem ((c.tc : Thread Cert.OutBwdReferenceIdeal.nD Cert.OutBwdReferenceIdeal.τ).loc Cert.OutBwdReferenceIdeal.main_arg0) = m' ((c.tc : Thread Cert.OutBwdReferenceIdeal.nD Cert.OutBwdReferenceIdeal.τ).loc Cert.OutBwdReferenceIdeal.main_arg0)
          ∧ r.2.mem ((c.tc : Thread Cert.OutBwdReferenceIdeal.nD Cert.OutBwdReferenceIdeal.τ).loc Cert.OutBwdReferenceIdeal.main_arg1) = m' ((c.tc : Thread Cert.OutBwdReferenceIdeal.nD Cert.OutBwdReferenceIdeal.τ).loc Cert.OutBwdReferenceIdeal.main_arg1)
          ∧ r.2.mem ((c.tc : Thread Cert.OutBwdReferenceIdeal.nD Cert.OutBwdReferenceIdeal.τ).loc Cert.OutBwdReferenceIdeal.main_arg2) = m' ((c.tc : Thread Cert.OutBwdReferenceIdeal.nD Cert.OutBwdReferenceIdeal.τ).loc Cert.OutBwdReferenceIdeal.main_arg2)
          ∧ r.2.mem ((c.tc : Thread Cert.OutBwdReferenceIdeal.nD Cert.OutBwdReferenceIdeal.τ).loc Cert.OutBwdReferenceIdeal.main_arg3) = m' ((c.tc : Thread Cert.OutBwdReferenceIdeal.nD Cert.OutBwdReferenceIdeal.τ).loc Cert.OutBwdReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v10_0)) (v1 : (c : Dev Cert.InProjIdeal.nD) → Buf (Elt Ideal) ((c.tc : Thread Cert.InProjIdeal.nD Cert.InProjIdeal.τ).loc Cert.InProjIdeal.main_v10_1)) (v2 : (c : Dev Cert.InProjIdeal.nD) → Buf (Elt Ideal) ((c.tc : Thread Cert.InProjIdeal.nD Cert.InProjIdeal.τ).loc Cert.InProjIdeal.main_v10_2)) (v3 : (c : Dev Cert.InProjIdeal.nD) → Buf (Elt Ideal) ((c.tc : Thread Cert.InProjIdeal.nD Cert.InProjIdeal.τ).loc Cert.InProjIdeal.main_v10_3)) (v4 : (c : Dev Cert.InProjIdeal.nD) → Buf (Elt Ideal) ((c.tc : Thread Cert.InProjIdeal.nD Cert.InProjIdeal.τ).loc Cert.InProjIdeal.main_v10_4)) (v5 : (c : Dev Cert.InProjIdeal.nD) → Buf (Elt Ideal) ((c.tc : Thread Cert.InProjIdeal.nD Cert.InProjIdeal.τ).loc Cert.InProjIdeal.main_v10_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v10_0) = v0 c
          ∧ r.2.mem ((c.tc : Thread Cert.InProjIdeal.nD Cert.InProjIdeal.τ).loc Cert.InProjIdeal.main_v10_1) = v1 c
          ∧ r.2.mem ((c.tc : Thread Cert.InProjIdeal.nD Cert.InProjIdeal.τ).loc Cert.InProjIdeal.main_v10_2) = v2 c
          ∧ r.2.mem ((c.tc : Thread Cert.InProjIdeal.nD Cert.InProjIdeal.τ).loc Cert.InProjIdeal.main_v10_3) = v3 c
          ∧ r.2.mem ((c.tc : Thread Cert.InProjIdeal.nD Cert.InProjIdeal.τ).loc Cert.InProjIdeal.main_v10_4) = v4 c
          ∧ r.2.mem ((c.tc : Thread Cert.InProjIdeal.nD Cert.InProjIdeal.τ).loc Cert.InProjIdeal.main_v10_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v52) = v0 c
          ∧ r.2.mem ((c.tc : Thread Cert.InProjReferenceIdeal.nD Cert.InProjReferenceIdeal.τ).loc Cert.InProjReferenceIdeal.main_v55) = v1 c
          ∧ r.2.mem ((c.tc : Thread Cert.InProjReferenceIdeal.nD Cert.InProjReferenceIdeal.τ).loc Cert.InProjReferenceIdeal.main_v56) = v2 c
          ∧ r.2.mem ((c.tc : Thread Cert.InProjReferenceIdeal.nD Cert.InProjReferenceIdeal.τ).loc Cert.InProjReferenceIdeal.main_v57) = v3 c
          ∧ r.2.mem ((c.tc : Thread Cert.InProjReferenceIdeal.nD Cert.InProjReferenceIdeal.τ).loc Cert.InProjReferenceIdeal.main_v54) = v4 c
          ∧ r.2.mem ((c.tc : Thread Cert.InProjReferenceIdeal.nD Cert.InProjReferenceIdeal.τ).loc Cert.InProjReferenceIdeal.main_v58) = v5 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hFwd : Cert.Fwd.Facts) (hFwdIdeal : Cert.FwdIdeal.Facts) (hFwdReferenceIdeal : Cert.FwdReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hOutBwd : Cert.OutBwd.Facts) (hOutBwdIdeal : Cert.OutBwdIdeal.Facts) (hOutBwdReferenceIdeal : Cert.OutBwdReferenceIdeal.Facts) (hInProj : Cert.InProj.Facts) (hInProjIdeal : Cert.InProjIdeal.Facts) (hInProjReferenceIdeal : Cert.InProjReferenceIdeal.Facts) (hPre_finite : Cert.Pre_finite.Facts) (hPre_mlp_finite : Cert.Pre_mlp_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpReferenceIdeal (hMlpReferenceIdeal := hMlpReferenceIdeal)
    ∧ quiescent_MlpReferenceIdeal_pre_mlp_finite (hMlpReferenceIdeal := hMlpReferenceIdeal) (hPre_mlp_finite := hPre_mlp_finite)
    ∧ quiescent_Fwd (hFwd := hFwd)
    ∧ quiescent_FwdIdeal (hFwdIdeal := hFwdIdeal)
    ∧ quiescent_FwdReferenceIdeal (hFwdReferenceIdeal := hFwdReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_OutBwd (hOutBwd := hOutBwd)
    ∧ quiescent_OutBwdIdeal (hOutBwdIdeal := hOutBwdIdeal)
    ∧ quiescent_OutBwdReferenceIdeal (hOutBwdReferenceIdeal := hOutBwdReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal_pre_mlp_finite (hMlpIdeal := hMlpIdeal) (hMlpReferenceIdeal := hMlpReferenceIdeal) (hPre_mlp_finite := hPre_mlp_finite)
    ∧ preserves_Fwd_FwdIdeal
    ∧ algebraic_FwdIdeal_FwdReferenceIdeal (hFwdIdeal := hFwdIdeal) (hFwdReferenceIdeal := hFwdReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_OutBwd_OutBwdIdeal
    ∧ algebraic_OutBwdIdeal_OutBwdReferenceIdeal (hOutBwdIdeal := hOutBwdIdeal) (hOutBwdReferenceIdeal := hOutBwdReferenceIdeal)
    ∧ preserves_InProj_InProjIdeal
    ∧ algebraic_InProjIdeal_InProjReferenceIdeal (hInProjIdeal := hInProjIdeal) (hInProjReferenceIdeal := hInProjReferenceIdeal)
-- ==== Pre_finite.lean ====
abbrev S4096x1536 : Shape := ⟨2, ![4096, 1536]⟩
abbrev S4096x512 : Shape := ⟨2, ![4096, 512]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x1536 .f32) (main_arg1 : FVec F S4096x512 .f32) : IVec S_ 1 :=
  let main_cst : FVec F S_ .f32 := constant S_ .f32 0xFF800000#32
  let main_v0 : FVec F S4096x1536 .f32 := broadcastInDim S4096x1536 ![] bcast_S_S4096x1536 main_cst
  let main_v1 : IVec S4096x1536 1 := cmpf .ogt main_arg0 main_v0
  let main_cst_0 : FVec F S_ .f32 := constant S_ .f32 0x7F800000#32
  let main_v2 : FVec F S4096x1536 .f32 := broadcastInDim S4096x1536 ![] bcast_S_S4096x1536 main_cst_0
  let main_v3 : IVec S4096x1536 1 := cmpf .olt main_arg0 main_v2
  let main_v4 : IVec S4096x1536 1 := andi main_v1 main_v3
  let main_c : IVec S_ 1 := constantI S_ 1 1#1
  let main_v5 : IVec S_ 1 := (fun x v => Host.reduce IntOp.andi x v reducesTo_S4096x1536_S_d0_1 h_S_) main_v4 main_c
  let main_cst_1 : FVec F S_ .f32 := constant S_ .f32 0xFF800000#32
  let main_v6 : FVec F S4096x512 .f32 := broadcastInDim S4096x512 ![] bcast_S_S4096x512 main_cst_1
  let main_v7 : IVec S4096x512 1 := cmpf .ogt main_arg1 main_v6
  let main_cst_2 : FVec F S_ .f32 := constant S_ .f32 0x7F800000#32
  let main_v8 : FVec F S4096x512 .f32 := broadcastInDim S4096x512 ![] bcast_S_S4096x512 main_cst_2
  let main_v9 : IVec S4096x512 1 := cmpf .olt main_arg1 main_v8
  let main_v10 : IVec S4096x512 1 := andi main_v7 main_v9
  let main_c_3 : IVec S_ 1 := constantI S_ 1 1#1
  let main_v11 : IVec S_ 1 := (fun x v => Host.reduce IntOp.andi x v reducesTo_S4096x512_S_d0_1 h_S_) main_v10 main_c_3
  let main_v12 : IVec S_ 1 := andi main_v5 main_v11
  main_v12
-- ==== Pre_mlp_finite.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S1024x4096 .f32) (main_arg3 : FVec F S4096x1024 .f32) (main_arg4 : FVec F S4096x1024 .f32) (main_v12 : IVec S_ 1) (main_v14 : IVec S1024x4096 1) (main_v15 : FVec F S1024x4096 .f32) : IVec S_ 1 :=
  let main_v16 : IVec S1024x4096 1 := cmpf .olt main_arg2 main_v15
  let main_v17 : IVec S1024x4096 1 := andi main_v14 main_v16
  let main_c_6 : IVec S_ 1 := constantI S_ 1 1#1
  let main_v18 : IVec S_ 1 := (fun x v => Host.reduce IntOp.andi x v reducesTo_S1024x4096_S_d0_1 h_S_) main_v17 main_c_6
  let main_v19 : IVec S_ 1 := andi main_v12 main_v18
  let main_cst_7 : FVec F S_ .f32 := constant S_ .f32 0xFF800000#32
  let main_v20 : FVec F S4096x1024 .f32 := broadcastInDim S4096x1024 ![] bcast_S_S4096x1024 main_cst_7
  let main_v21 : IVec S4096x1024 1 := cmpf .ogt main_arg3 main_v20
  let main_cst_8 : FVec F S_ .f32 := constant S_ .f32 0x7F800000#32
  let main_v22 : FVec F S4096x1024 .f32 := broadcastInDim S4096x1024 ![] bcast_S_S4096x1024 main_cst_8
  let main_v23 : IVec S4096x1024 1 := cmpf .olt main_arg3 main_v22
  let main_v24 : IVec S4096x1024 1 := andi main_v21 main_v23
  let main_c_9 : IVec S_ 1 := constantI S_ 1 1#1
  let main_v25 : IVec S_ 1 := (fun x v => Host.reduce IntOp.andi x v reducesTo_S4096x1024_S_d0_1 h_S_) main_v24 main_c_9
  let main_v26 : IVec S_ 1 := andi main_v19 main_v25
  let main_cst_10 : FVec F S_ .f32 := constant S_ .f32 0xFF800000#32
  let main_v27 : FVec F S4096x1024 .f32 := broadcastInDim S4096x1024 ![] bcast_S_S4096x1024 main_cst_10
  let main_v28 : IVec S4096x1024 1 := cmpf .ogt main_arg4 main_v27
  let main_cst_11 : FVec F S_ .f32 := constant S_ .f32 0x7F800000#32
  let main_v29 : FVec F S4096x1024 .f32 := broadcastInDim S4096x1024 ![] bcast_S_S4096x1024 main_cst_11
  let main_v30 : IVec S4096x1024 1 := cmpf .olt main_arg4 main_v29
  let main_v31 : IVec S4096x1024 1 := andi main_v28 main_v30
  let main_c_12 : IVec S_ 1 := constantI S_ 1 1#1
  let main_v32 : IVec S_ 1 := (fun x v => Host.reduce IntOp.andi x v reducesTo_S4096x1024_S_d0_1 h_S_) main_v31 main_c_12
  fn_part2 (F := F) main_v26 main_v32

def fn {F : FTy → Type} [FloatOps F] (main_arg0 : FVec F S4096x1024 .f32) (main_arg1 : FVec F S1x1024 .f32) (main_arg2 : FVec F S1024x4096 .f32) (main_arg3 : FVec F S4096x1024 .f32) (main_arg4 : FVec F S4096x1024 .f32) : IVec S_ 1 :=
  let main_cst : FVec F S_ .f32 := constant S_ .f32 0xFF800000#32
  let main_v0 : FVec F S4096x1024 .f32 := broadcastInDim S4096x1024 ![] bcast_S_S4096x1024 main_cst
  let main_v1 : IVec S4096x1024 1 := cmpf .ogt main_arg0 main_v0
  let main_cst_0 : FVec F S_ .f32 := constant S_ .f32 0x7F800000#32
  let main_v2 : FVec F S4096x1024 .f32 := broadcastInDim S4096x1024 ![] bcast_S_S4096x1024 main_cst_0
  let main_v3 : IVec S4096x1024 1 := cmpf .olt main_arg0 main_v2
  let main_v4 : IVec S4096x1024 1 := andi main_v1 main_v3
  let main_c : IVec S_ 1 := constantI S_ 1 1#1
  let main_v5 : IVec S_ 1 := (fun x v => Host.reduce IntOp.andi x v reducesTo_S4096x1024_S_d0_1 h_S_) main_v4 main_c
  let main_cst_1 : FVec F S_ .f32 := constant S_ .f32 0xFF800000#32
  let main_v6 : FVec F S1x1024 .f32 := broadcastInDim S1x1024 ![] bcast_S_S1x1024 main_cst_1
  let main_v7 : IVec S1x1024 1 := cmpf .ogt main_arg1 main_v6
  let main_cst_2 : FVec F S_ .f32 := constant S_ .f32 0x7F800000#32
  let main_v8 : FVec F S1x1024 .f32 := broadcastInDim S1x1024 ![] bcast_S_S1x1024 main_cst_2
  let main_v9 : IVec S1x1024 1 := cmpf .olt main_arg1 main_v8
  let main_v10 : IVec S1x1024 1 := andi main_v7 main_v9
  let main_c_3 : IVec S_ 1 := constantI S_ 1 1#1
  let main_v11 : IVec S_ 1 := (fun x v => Host.reduce IntOp.andi x v reducesTo_S1x1024_S_d0_1 h_S_) main_v10 main_c_3
  let main_v12 : IVec S_ 1 := andi main_v5 main_v11
  let main_cst_4 : FVec F S_ .f32 := constant S_ .f32 0xFF800000#32
  let main_v13 : FVec F S1024x4096 .f32 := broadcastInDim S1024x4096 ![] bcast_S_S1024x4096 main_cst_4
  let main_v14 : IVec S1024x4096 1 := cmpf .ogt main_arg2 main_v13
  let main_cst_5 : FVec F S_ .f32 := constant S_ .f32 0x7F800000#32
  let main_v15 : FVec F S1024x4096 .f32 := broadcastInDim S1024x4096 ![] bcast_S_S1024x4096 main_cst_5
  fn_part1 (F := F) main_arg2 main_arg3 main_arg4 main_v12 main_v14 main_v15
-- ==== Kernel.lean ====
abbrev S4096x1536 : Shape := ⟨2, ![4096, 1536]⟩
abbrev S4096x512 : Shape := ⟨2, ![4096, 512]⟩
abbrev S4096x8x64 : Shape := ⟨3, ![4096, 8, 64]⟩
abbrev S8x4096x64 : Shape := ⟨3, ![8, 4096, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x4096x4096 : Shape := ⟨3, ![8, 4096, 4096]⟩
abbrev S8x4096 : Shape := ⟨2, ![8, 4096]⟩
abbrev S8x4096x1 : Shape := ⟨3, ![8, 4096, 1]⟩
abbrev S1x4096x4096 : Shape := ⟨3, ![1, 4096, 4096]⟩
abbrev S4x4096 : Shape := ⟨2, ![4, 4096]⟩
abbrev S4096x4 : Shape := ⟨2, ![4096, 4]⟩
abbrev S4096x4x1 : Shape := ⟨3, ![4096, 4, 1]⟩
abbrev S4096x4x128 : Shape := ⟨3, ![4096, 4, 128]⟩
abbrev S4096x128 : Shape := ⟨2, ![4096, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S512x128 : Shape := ⟨2, ![512, 128]⟩
abbrev S512x256 : Shape := ⟨2, ![512, 256]⟩
abbrev S128x256 : Shape := ⟨2, ![128, 256]⟩
abbrev S128x128 : Shape := ⟨2, ![128, 128]⟩

abbrev nBuf : Space → Nat
  | .hbm => 183
  | .vmem => 25
  | .smem => 0
  | _ => 0

abbrev hbmTy0_0 (i : Nat) : BufTy := match i % 128 with
  | 0 => ⟨S4096x1536, .f32⟩
  | 1 => ⟨S4096x512, .f32⟩
  | 2 => ⟨S4096x512, .f32⟩
  | 3 => ⟨S4096x8x64, .f32⟩
  | 4 => ⟨S8x4096x64, .f32⟩
  | 5 => ⟨S4096x512, .f32⟩
  | 6 => ⟨S4096x8x64, .f32⟩
  | 7 => ⟨S8x4096x64, .f32⟩
  | 8 => ⟨S4096x512, .f32⟩
  | 9 => ⟨S4096x8x64, .f32⟩
  | 10 => ⟨S8x4096x64, .f32⟩
  | 11 => ⟨S4096, .i32⟩
  | 12 => ⟨S4096x1, .i32⟩
  | 13 => ⟨S4096, .i32⟩
  | 14 => ⟨S1x4096, .i32⟩
  | 15 => ⟨S4096x4096, .i32⟩
  | 16 => ⟨S4096x4096, .i32⟩
  | 17 => ⟨S4096x4096, .i32⟩
  | 18 => ⟨S_, .i32⟩
  | 19 => ⟨S4096x4096, .i32⟩
  | 20 => ⟨S4096x4096, .i1⟩
  | 21 => ⟨S_, .i32⟩
  | 22 => ⟨S4096x4096, .i32⟩
  | 23 => ⟨S4096x4096, .i1⟩
  | 24 => ⟨S4096x4096, .i1⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S4096x4096, .i32⟩
  | 32 => ⟨S4096x4096, .i32⟩
  | 33 => ⟨S_, .i32⟩
  | 34 => ⟨S4096x4096, .i32⟩
  | 35 => ⟨S4096x4096, .i1⟩
  | 36 => ⟨S_, .i32⟩
  | 37 => ⟨S4096x4096, .i32⟩
  | 38 => ⟨S4096x4096, .i1⟩
  | 39 => ⟨S_, .i32⟩
  | 40 => ⟨S_, .i1⟩
  | 41 => ⟨S4096x4096, .i1⟩
  | 42 => ⟨S4096x4096, .i1⟩
  | 43 => ⟨S4096x4096, .i1⟩
  | 44 => ⟨S4096x4096, .i32⟩
  | 45 => ⟨S4096x4096, .i32⟩
  | 46 => ⟨S4096x4096, .i32⟩
  | 47 => ⟨S_, .i32⟩
  | 48 => ⟨S4096x4096, .i32⟩
  | 49 => ⟨S4096x4096, .i1⟩
  | 50 => ⟨S4096x4096, .i1⟩
  | 51 => ⟨S4096x4096, .f32⟩
  | 52 => ⟨S_, .f32⟩
  | 53 => ⟨S4096x4096, .f32⟩
  | 54 => ⟨S4096x4096, .f32⟩
  | 55 => ⟨S4096, .i32⟩
  | 56 => ⟨S4096x1, .i32⟩
  | 57 => ⟨S4096, .i32⟩
  | 58 => ⟨S1x4096, .i32⟩
  | 59 => ⟨S4096x4096, .i32⟩
  | 60 => ⟨S4096x4096, .i32⟩
  | 61 => ⟨S4096x4096, .i32⟩
  | 62 => ⟨S_, .i32⟩
  | 63 => ⟨S4096x4096, .i32⟩
  | 64 => ⟨S4096x4096, .i1⟩
  | 65 => ⟨S_, .i32⟩
  | 66 => ⟨S4096x4096, .i32⟩
  | 67 => ⟨S4096x4096, .i1⟩
  | 68 => ⟨S4096x4096, .i1⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S4096x4096, .i32⟩
  | 76 => ⟨S4096x4096, .i32⟩
  | 77 => ⟨S_, .i32⟩
  | 78 => ⟨S4096x4096, .i32⟩
  | 79 => ⟨S4096x4096, .i1⟩
  | 80 => ⟨S_, .i32⟩
  | 81 => ⟨S4096x4096, .i32⟩
  | 82 => ⟨S4096x4096, .i1⟩
  | 83 => ⟨S_, .i32⟩
  | 84 => ⟨S_, .i1⟩
  | 85 => ⟨S4096x4096, .i1⟩
  | 86 => ⟨S4096x4096, .i1⟩
  | 87 => ⟨S4096x4096, .i1⟩
  | 88 => ⟨S4096x4096, .i32⟩
  | 89 => ⟨S4096x4096, .i32⟩
  | 90 => ⟨S4096x4096, .i32⟩
  | 91 => ⟨S_, .i32⟩
  | 92 => ⟨S4096x4096, .i32⟩
  | 93 => ⟨S4096x4096, .i1⟩
  | 94 => ⟨S4096x4096, .i1⟩
  | 95 => ⟨S4096x4096, .f32⟩
  | 96 => ⟨S4096x4096, .f32⟩
  | 97 => ⟨S4096, .i32⟩
  | 98 => ⟨S4096x1, .i32⟩
  | 99 => ⟨S4096, .i32⟩
  | 100 => ⟨S1x4096, .i32⟩
  | 101 => ⟨S4096x4096, .i32⟩
  | 102 => ⟨S4096x4096, .i32⟩
  | 103 => ⟨S4096x4096, .i32⟩
  | 104 => ⟨S_, .i32⟩
  | 105 => ⟨S4096x4096, .i32⟩
  | 106 => ⟨S4096x4096, .i1⟩
  | 107 => ⟨S_, .i32⟩
  | 108 => ⟨S4096x4096, .i32⟩
  | 109 => ⟨S4096x4096, .i1⟩
  | 110 => ⟨S4096x4096, .i1⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S4096x4096, .i32⟩
  | 118 => ⟨S4096x4096, .i32⟩
  | 119 => ⟨S_, .i32⟩
  | 120 => ⟨S4096x4096, .i32⟩
  | 121 => ⟨S4096x4096, .i1⟩
  | 122 => ⟨S_, .i32⟩
  | 123 => ⟨S4096x4096, .i32⟩
  | 124 => ⟨S4096x4096, .i1⟩
  | 125 => ⟨S_, .i32⟩
  | 126 => ⟨S_, .i1⟩
  | 127 => ⟨S4096x4096, .i1⟩
  | _ => ⟨S4096x1536, .f32⟩

abbrev hbmTy0_1 (i : Nat) : BufTy := match i % 128 with
  | 0 => ⟨S4096x4096, .i1⟩
  | 1 => ⟨S4096x4096, .i1⟩
  | 2 => ⟨S4096x4096, .i32⟩
  | 3 => ⟨S4096x4096, .i32⟩
  | 4 => ⟨S4096x4096, .i32⟩
  | 5 => ⟨S_, .i32⟩
  | 6 => ⟨S4096x4096, .i32⟩
  | 7 => ⟨S4096x4096, .i1⟩
  | 8 => ⟨S4096x4096, .i1⟩
  | 9 => ⟨S4096x4096, .f32⟩
  | 10 => ⟨S4096x4096, .f32⟩
  | 11 => ⟨S8x4096x4096, .f32⟩
  | 12 => ⟨S_, .f32⟩
  | 13 => ⟨S8x4096x4096, .f32⟩
  | 14 => ⟨S8x4096x4096, .f32⟩
  | 15 => ⟨S_, .f32⟩
  | 16 => ⟨S4096x4096, .f32⟩
  | 17 => ⟨S4096x4096, .i1⟩
  | 18 => ⟨S_, .f32⟩
  | 19 => ⟨S_, .f32⟩
  | 20 => ⟨S8x4096x4096, .i1⟩
  | 21 => ⟨S8x4096x4096, .f32⟩
  | 22 => ⟨S8x4096x4096, .f32⟩
  | 23 => ⟨S_, .f32⟩
  | 24 => ⟨S8x4096, .f32⟩
  | 25 => ⟨S8x4096x1, .f32⟩
  | 26 => ⟨S8x4096x4096, .f32⟩
  | 27 => ⟨S8x4096x4096, .f32⟩
  | 28 => ⟨S8x4096x4096, .f32⟩
  | 29 => ⟨S1x4096x4096, .f32⟩
  | 30 => ⟨S8x4096x4096, .f32⟩
  | 31 => ⟨S8x4096x4096, .f32⟩
  | 32 => ⟨S_, .f32⟩
  | 33 => ⟨S8x4096, .f32⟩
  | 34 => ⟨S8x4096x64, .f32⟩
  | 35 => ⟨S8x4096x1, .f32⟩
  | 36 => ⟨S8x4096x64, .f32⟩
  | 37 => ⟨S8x4096x64, .f32⟩
  | 38 => ⟨S8x4096, .f32⟩
  | 39 => ⟨S8x4096, .f32⟩
  | 40 => ⟨S4096x8x64, .f32⟩
  | 41 => ⟨S4096x512, .f32⟩
  | 42 => ⟨S4x4096, .f32⟩
  | 43 => ⟨S4096x4, .f32⟩
  | 44 => ⟨S4096x4x1, .f32⟩
  | 45 => ⟨S4096x4x128, .f32⟩
  | 46 => ⟨S4096x512, .f32⟩
  | 47 => ⟨S4x4096, .f32⟩
  | 48 => ⟨S4096x4, .f32⟩
  | 49 => ⟨S4096x4x1, .f32⟩
  | 50 => ⟨S4096x4x128, .f32⟩
  | 51 => ⟨S4096x512, .f32⟩
  | 52 => ⟨S4096x512, .bf16⟩
  | 53 => ⟨S4096x512, .bf16⟩
  | 54 => ⟨S4096x512, .bf16⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_1 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_1 : Ref sig .tc := ⟨.hbm, 33, rfl⟩
abbrev main_call0_v5 : Ref sig .tc := ⟨.hbm, 34, rfl⟩
abbrev main_call0_v6 : Ref sig .tc := ⟨.hbm, 35, rfl⟩
abbrev main_call0_c_2 : Ref sig .tc := ⟨.hbm, 36, rfl⟩
abbrev main_call0_v7 : Ref sig .tc := ⟨.hbm, 37, rfl⟩
abbrev main_call0_v8 : Ref sig .tc := ⟨.hbm, 38, rfl⟩
abbrev main_call0_c_3 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_v21 : Ref sig .tc := ⟨.hbm, 46, rfl⟩
abbrev main_c_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_3 : Ref sig .tc := ⟨.hbm, 62, rfl⟩
abbrev main_v35 : Ref sig .tc := ⟨.hbm, 63, rfl⟩
abbrev main_v36 : Ref sig .tc := ⟨.hbm, 64, rfl⟩
abbrev main_c_4 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_5 : Ref sig .tc := ⟨.hbm, 69, rfl⟩
abbrev main_call1_v0 : Ref sig .tc := ⟨.hbm, 70, rfl⟩
abbrev main_call1_c : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_c_1 : Ref sig .tc := ⟨.hbm, 77, rfl⟩
abbrev main_call1_v5 : Ref sig .tc := ⟨.hbm, 78, rfl⟩
abbrev main_call1_v6 : Ref sig .tc := ⟨.hbm, 79, rfl⟩
abbrev main_call1_c_2 : Ref sig .tc := ⟨.hbm, 80, rfl⟩
abbrev main_call1_v7 : Ref sig .tc := ⟨.hbm, 81, rfl⟩
abbrev main_call1_v8 : Ref sig .tc := ⟨.hbm, 82, rfl⟩
abbrev main_call1_c_3 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_v40 : Ref sig .tc := ⟨.hbm, 90, rfl⟩
abbrev main_c_6 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_c_7 : Ref sig .tc := ⟨.hbm, 104, rfl⟩
abbrev main_v53 : Ref sig .tc := ⟨.hbm, 105, rfl⟩
abbrev main_v54 : Ref sig .tc := ⟨.hbm, 106, rfl⟩
abbrev main_c_8 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_c_9 : Ref sig .tc := ⟨.hbm, 111, rfl⟩
abbrev main_call2_v0 : Ref sig .tc := ⟨.hbm, 112, rfl⟩
abbrev main_call2_c : Ref sig .tc := ⟨.hbm, 113, rfl⟩
abbrev main_call2_v1 : Ref sig .tc := ⟨.hbm, 114, rfl⟩
abbrev main_call2_c_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_c_1 : Ref sig .tc := ⟨.hbm, 119, rfl⟩
abbrev main_call2_v5 : Ref sig .tc := ⟨.hbm, 120, rfl⟩
abbrev main_call2_v6 : Ref sig .tc := ⟨.hbm, 121, rfl⟩
abbrev main_call2_c_2 : Ref sig .tc := ⟨.hbm, 122, rfl⟩
abbrev main_call2_v7 : Ref sig .tc := ⟨.hbm, 123, rfl⟩
abbrev main_call2_v8 : Ref sig .tc := ⟨.hbm, 124, rfl⟩
abbrev main_call2_c_3 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_v12 : Ref sig .tc := ⟨.hbm, 129, rfl⟩
abbrev main_call2_v13 : Ref sig .tc := ⟨.hbm, 130, rfl⟩
abbrev main_call2_v14 : Ref sig .tc := ⟨.hbm, 131, rfl⟩
abbrev main_v58 : Ref sig .tc := ⟨.hbm, 132, rfl⟩
abbrev main_c_10 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_cst_11 : Ref sig .tc := ⟨.hbm, 140, rfl⟩
abbrev main_v65 : Ref sig .tc := ⟨.hbm, 141, rfl⟩
abbrev main_v66 : Ref sig .tc := ⟨.hbm, 142, rfl⟩
abbrev main_cst_12 : Ref sig .tc := ⟨.hbm, 143, rfl⟩
abbrev main_v67 : Ref sig .tc := ⟨.hbm, 144, rfl⟩
abbrev main_v68 : Ref sig .tc := ⟨.hbm, 145, rfl⟩
abbrev main_cst_13 : Ref sig .tc := ⟨.hbm, 146, rfl⟩
abbrev main_call3_v0 : Ref sig .tc := ⟨.hbm, 147, rfl⟩
abbrev main_call3_v1 : Ref sig .tc := ⟨.hbm, 148, rfl⟩
abbrev main_call3_v2 : Ref sig .tc := ⟨.hbm, 149, rfl⟩
abbrev main_v69 : Ref sig .tc := ⟨.hbm, 150, rfl⟩
abbrev main_cst_14 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_cst_15 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97_0 : Ref sig .tc := ⟨.hbm, 180, rfl⟩
abbrev main_v97_1 : Ref sig .tc := ⟨.hbm, 181, rfl⟩
abbrev main_v97_2 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c256_i32 : BitVec 32 := 256#32
  let v5 : BitVec 32 := Scalar.muli arg16 c256_i32
  v5
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c256_i32 : BitVec 32 := 256#32
  let v5 : BitVec 32 := Scalar.muli arg16 c256_i32
  let v6 : BitVec 32 := v5
  let v10 : Index := Scalar.indexCast v6
  let c0 : Index := 0#32
  ![v10.toNat, 0]
@[reducible] def k0_t2_loop : Scf.Loop 32 :=
  let c0_i32_1 : BitVec 32 := 0#32
  let c8_i32 : BitVec 32 := 8#32
  let v1 : BitVec 32 := Scalar.addi c0_i32_1 c8_i32
  let c1_i32_2 : BitVec 32 := 1#32
  ⟨c0_i32_1, v1, c1_i32_2⟩
def k0_off2 (k0_t2 : Fin k0_t2_loop.trips) (c0_i32_16 : BitVec 32) : Fin 2 → Nat :=
  let c2_i32 : BitVec 32 := 2#32
  let c0_i32_1 : BitVec 32 := 0#32
  let c1_i32_2 : BitVec 32 := 1#32
  let arg16 : BitVec 32 := Scf.iv c0_i32_1 c1_i32_2 k0_t2
  let v8 : BitVec 32 := Scalar.muli c2_i32 arg16
  let v9 : BitVec 32 := Scalar.addi v8 c0_i32_16
  let v22 : Index := Scalar.indexCast v9
  let c0 : Index := 0#32
  ![v22.toNat, 0]
@[reducible] def k0_t3_loop : Scf.Loop 32 :=
  let c0_i32_4 : BitVec 32 := 0#32
  let c8_i32_5 : BitVec 32 := 8#32
  let v2 : BitVec 32 := Scalar.addi c0_i32_4 c8_i32_5
  let c1_i32_6 : BitVec 32 := 1#32
  ⟨c0_i32_4, v2, c1_i32_6⟩
def k0_off3 (k0_t3 : Fin k0_t3_loop.trips) (c0_i32_23 : BitVec 32) : Fin 2 → Nat :=
  let c0_i32_4 : BitVec 32 := 0#32
  let c1_i32_6 : BitVec 32 := 1#32
  let arg16 : BitVec 32 := Scf.iv c0_i32_4 c1_i32_6 k0_t3
  let c0_i32_17 : BitVec 32 := 0#32
  let v6 : BitVec 1 := Scalar.cmpi .sgt arg16 c0_i32_17
  let v7 : BitVec 32 := Scalar.extui v6
  let c0_i32_18 : BitVec 32 := 0#32
  let v8 : BitVec 1 := Scalar.cmpi .slt arg16 c0_i32_18
  let v9 : BitVec 32 := Scalar.extui v8
  let v10 : BitVec 32 := Scalar.subi v7 v9
  let c8_i32_16 : BitVec 32 := 8#32
  let c0_i32_19 : BitVec 32 := 0#32
  let v11 : BitVec 1 := Scalar.cmpi .sgt c8_i32_16 c0_i32_19
  let v12 : BitVec 32 := Scalar.extui v11
  let c0_i32_20 : BitVec 32 := 0#32
  let v13 : BitVec 1 := Scalar.cmpi .slt c8_i32_16 c0_i32_20
  let v14 : BitVec 32 := Scalar.extui v13
  let v15 : BitVec 32 := Scalar.subi v12 v14
  let v16 : BitVec 1 := Scalar.cmpi .ne v10 v15
  let v17 : BitVec 32 := Scalar.remsi arg16 c8_i32_16
  let c0_i32_21 : BitVec 32 := 0#32
  let v18 : BitVec 1 := Scalar.cmpi .ne v17 c0_i32_21
  let v19 : BitVec 1 := Scalar.andi v16 v18
  let v5 : BitVec 32 := Scalar.divsi arg16 c8_i32_16
  let c1_i32_22 : BitVec 32 := 1#32
  let v20 : BitVec 32 := Scalar.subi v5 c1_i32_22
  let v21 : BitVec 32 := Scalar.select v19 v20 v5
  let c4_i32 : BitVec 32 := 4#32
  let v22 : BitVec 32 := Scalar.muli v21 c4_i32
  let v23 : BitVec 32 := Scalar.addi v22 c0_i32_23
  let c8_i32_24 : BitVec 32 := 8#32
  let c0_i32_25 : BitVec 32 := 0#32
  let v24 : BitVec 1 := Scalar.cmpi .eq c8_i32_24 c0_i32_25
  let c1_i32_26 : BitVec 32 := 1#32
  let v25 : BitVec 32 := Scalar.select v24 c1_i32_26 c8_i32_24
  let v26 : BitVec 32 := Scalar.remsi arg16 v25
  let c0_i32_28 : BitVec 32 := 0#32
  let v28 : BitVec 1 := Scalar.cmpi .slt v26 c0_i32_28
  let c0_i32_29 : BitVec 32 := 0#32
  let v29 : BitVec 1 := Scalar.cmpi .slt v25 c0_i32_29
  let v30 : BitVec 1 := Scalar.xori v28 v29
  let c0_i32_27 : BitVec 32 := 0#32
  let v27 : BitVec 1 := Scalar.cmpi .ne v26 c0_i32_27
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c4_i32_30 : BitVec 32 := 4#32
  let v35 : BitVec 32 := Scalar.muli v34 c4_i32_30
  let v36 : BitVec 32 := Scalar.addi v23 v35
  let v197 : Index := Scalar.indexCast v36
  let c0 : Index := 0#32
  ![v197.toNat, 0]
def k0_off4 (k0_t3 : Fin k0_t3_loop.trips) (c0_i32_23 : BitVec 32) : Fin 2 → Nat :=
  let c0_i32_4 : BitVec 32 := 0#32
  let c1_i32_6 : BitVec 32 := 1#32
  let arg16 : BitVec 32 := Scf.iv c0_i32_4 c1_i32_6 k0_t3
  let c0_i32_17 : BitVec 32 := 0#32
  let v6 : BitVec 1 := Scalar.cmpi .sgt arg16 c0_i32_17
  let v7 : BitVec 32 := Scalar.extui v6
  let c0_i32_18 : BitVec 32 := 0#32
  let v8 : BitVec 1 := Scalar.cmpi .slt arg16 c0_i32_18
  let v9 : BitVec 32 := Scalar.extui v8
  let v10 : BitVec 32 := Scalar.subi v7 v9
  let c8_i32_16 : BitVec 32 := 8#32
  let c0_i32_19 : BitVec 32 := 0#32
  let v11 : BitVec 1 := Scalar.cmpi .sgt c8_i32_16 c0_i32_19
  let v12 : BitVec 32 := Scalar.extui v11
  let c0_i32_20 : BitVec 32 := 0#32
  let v13 : BitVec 1 := Scalar.cmpi .slt c8_i32_16 c0_i32_20
  let v14 : BitVec 32 := Scalar.extui v13
  let v15 : BitVec 32 := Scalar.subi v12 v14
  let v16 : BitVec 1 := Scalar.cmpi .ne v10 v15
  let v17 : BitVec 32 := Scalar.remsi arg16 c8_i32_16
  let c0_i32_21 : BitVec 32 := 0#32
  let v18 : BitVec 1 := Scalar.cmpi .ne v17 c0_i32_21
  let v19 : BitVec 1 := Scalar.andi v16 v18
  let v5 : BitVec 32 := Scalar.divsi arg16 c8_i32_16
  let c1_i32_22 : BitVec 32 := 1#32
  let v20 : BitVec 32 := Scalar.subi v5 c1_i32_22
  let v21 : BitVec 32 := Scalar.select v19 v20 v5
  let c4_i32 : BitVec 32 := 4#32
  let v22 : BitVec 32 := Scalar.muli v21 c4_i32
  let v23 : BitVec 32 := Scalar.addi v22 c0_i32_23
  let c8_i32_24 : BitVec 32 := 8#32
  let c0_i32_25 : BitVec 32 := 0#32
  let v24 : BitVec 1 := Scalar.cmpi .eq c8_i32_24 c0_i32_25
  let c1_i32_26 : BitVec 32 := 1#32
  let v25 : BitVec 32 := Scalar.select v24 c1_i32_26 c8_i32_24
  let v26 : BitVec 32 := Scalar.remsi arg16 v25
  let c0_i32_28 : BitVec 32 := 0#32
  let v28 : BitVec 1 := Scalar.cmpi .slt v26 c0_i32_28
  let c0_i32_29 : BitVec 32 := 0#32
  let v29 : BitVec 1 := Scalar.cmpi .slt v25 c0_i32_29
  let v30 : BitVec 1 := Scalar.xori v28 v29
  let c0_i32_27 : BitVec 32 := 0#32
  let v27 : BitVec 1 := Scalar.cmpi .ne v26 c0_i32_27
  let v31 : BitVec 1 := Scalar.andi v30 v27
  let v32 : BitVec 32 := Scalar.addi v26 v25
  let v33 : BitVec 32 := Scalar.select v31 v32 v26
  let c1_i32_31 : BitVec 32 := 1#32
  let v37 : BitVec 32 := Scalar.subi v33 c1_i32_31
  let c0_i32_32 : BitVec 32 := 0#32
  let v38 : BitVec 32 := Scalar.maxsi v37 c0_i32_32
  let c128_i32_33 : BitVec 32 := 128#32
  let v39 : BitVec 32 := Scalar.muli v38 c128_i32_33
  let c4_i32_34 : BitVec 32 := 4#32
  let v40 : BitVec 32 := Scalar.muli v39 c4_i32_34
  let v41 : BitVec 32 := Scalar.addi v23 v40
  let v199 : Index := Scalar.indexCast v41
  let c0_112 : Index := 0#32
  ![v199.toNat, 0]
@[reducible] def k0_t4_loop : Scf.Loop 32 :=
  let c0_i32_8 : BitVec 32 := 0#32
  let c8_i32_9 : BitVec 32 := 8#32
  let v3 : BitVec 32 := Scalar.addi c0_i32_8 c8_i32_9
  let c1_i32_10 : BitVec 32 := 1#32
  ⟨c0_i32_8, v3, c1_i32_10⟩
def k0_mult2 (k0_t4 : Fin k0_t4_loop.trips) : BitVec 32 :=
  let c0_i32_8 : BitVec 32 := 0#32
  let c1_i32_10 : BitVec 32 := 1#32
  let arg16 : BitVec 32 := Scf.iv c0_i32_8 c1_i32_10 k0_t4
  let c0_i32_16 : BitVec 32 := 0#32
  let v5 : BitVec 32 := Scalar.addi arg16 c0_i32_16
  let c128_i32 : BitVec 32 := 128#32
  let v6 : BitVec 32 := Scalar.muli v5 c128_i32
  v6
def k0_mult3 (k0_t4 : Fin k0_t4_loop.trips) : BitVec 32 :=
  let c0_i32_8 : BitVec 32 := 0#32
  let c1_i32_10 : BitVec 32 := 1#32
  let arg16 : BitVec 32 := Scf.iv c0_i32_8 c1_i32_10 k0_t4
  let c0_i32_16 : BitVec 32 := 0#32
  let v5 : BitVec 32 := Scalar.addi arg16 c0_i32_16
  let c1_i32_17 : BitVec 32 := 1#32
  let v8 : BitVec 32 := Scalar.subi v5 c1_i32_17
  let c0_i32_18 : BitVec 32 := 0#32
  let v9 : BitVec 32 := Scalar.maxsi v8 c0_i32_18
  let c128_i32_19 : BitVec 32 := 128#32
  let v10 : BitVec 32 := Scalar.muli v9 c128_i32_19
  v10
def k0_mult4 (k0_t4 : Fin k0_t4_loop.trips) : BitVec 32 :=
  let c0_i32_8 : BitVec 32 := 0#32
  let c1_i32_10 : BitVec 32 := 1#32
  let arg16 : BitVec 32 := Scf.iv c0_i32_8 c1_i32_10 k0_t4
  let c8_i32_24 : BitVec 32 := 8#32
  let v23 : BitVec 32 := Scalar.addi arg16 c8_i32_24
  let c128_i32_25 : BitVec 32 := 128#32
  let v24 : BitVec 32 := Scalar.muli v23 c128_i32_25
  v24
def k0_mult5 (k0_t4 : Fin k0_t4_loop.trips) : BitVec 32 :=
  let c0_i32_8 : BitVec 32 := 0#32
  let c1_i32_10 : BitVec 32 := 1#32
  let arg16 : BitVec 32 := Scf.iv c0_i32_8 c1_i32_10 k0_t4
  let c8_i32_24 : BitVec 32 := 8#32
  let v23 : BitVec 32 := Scalar.addi arg16 c8_i32_24
  let c1_i32_26 : BitVec 32 := 1#32
  let v26 : BitVec 32 := Scalar.subi v23 c1_i32_26
  let c0_i32_27 : BitVec 32 := 0#32
  let v27 : BitVec 32 := Scalar.maxsi v26 c0_i32_27
  let c128_i32_28 : BitVec 32 := 128#32
  let v28 : BitVec 32 := Scalar.muli v27 c128_i32_28
  v28
def k0_mult6 (k0_t4 : Fin k0_t4_loop.trips) : BitVec 32 :=
  let c0_i32_8 : BitVec 32 := 0#32
  let c1_i32_10 : BitVec 32 := 1#32
  let arg16 : BitVec 32 := Scf.iv c0_i32_8 c1_i32_10 k0_t4
  let c16_i32_33 : BitVec 32 := 16#32
  let v41 : BitVec 32 := Scalar.addi arg16 c16_i32_33
  let c128_i32_34 : BitVec 32 := 128#32
  let v42 : BitVec 32 := Scalar.muli v41 c128_i32_34
  v42
def k0_mult7 (k0_t4 : Fin k0_t4_loop.trips) : BitVec 32 :=
  let c0_i32_8 : BitVec 32 := 0#32
  let c1_i32_10 : BitVec 32 := 1#32
  let arg16 : BitVec 32 := Scf.iv c0_i32_8 c1_i32_10 k0_t4
  let c16_i32_33 : BitVec 32 := 16#32
  let v41 : BitVec 32 := Scalar.addi arg16 c16_i32_33
  let c1_i32_35 : BitVec 32 := 1#32
  let v44 : BitVec 32 := Scalar.subi v41 c1_i32_35
  let c0_i32_36 : BitVec 32 := 0#32
  let v45 : BitVec 32 := Scalar.maxsi v44 c0_i32_36
  let c128_i32_37 : BitVec 32 := 128#32
  let v46 : BitVec 32 := Scalar.muli v45 c128_i32_37
  v46
def k0_mult8 (k0_t4 : Fin k0_t4_loop.trips) : BitVec 32 :=
  let c0_i32_8 : BitVec 32 := 0#32
  let c1_i32_10 : BitVec 32 := 1#32
  let arg16 : BitVec 32 := Scf.iv c0_i32_8 c1_i32_10 k0_t4
  let c24_i32 : BitVec 32 := 24#32
  let v59 : BitVec 32 := Scalar.addi arg16 c24_i32
  let c128_i32_42 : BitVec 32 := 128#32
  let v60 : BitVec 32 := Scalar.muli v59 c128_i32_42
  v60
def k0_mult9 (k0_t4 : Fin k0_t4_loop.trips) : BitVec 32 :=
  let c0_i32_8 : BitVec 32 := 0#32
  let c1_i32_10 : BitVec 32 := 1#32
  let arg16 : BitVec 32 := Scf.iv c0_i32_8 c1_i32_10 k0_t4
  let c24_i32 : BitVec 32 := 24#32
  let v59 : BitVec 32 := Scalar.addi arg16 c24_i32
  let c1_i32_43 : BitVec 32 := 1#32
  let v62 : BitVec 32 := Scalar.subi v59 c1_i32_43
  let c0_i32_44 : BitVec 32 := 0#32
  let v63 : BitVec 32 := Scalar.maxsi v62 c0_i32_44
  let c128_i32_45 : BitVec 32 := 128#32
  let v64 : BitVec 32 := Scalar.muli v63 c128_i32_45
  v64
def k0_off5 (k0_t4 : Fin k0_t4_loop.trips) (c0_i32_16 : BitVec 32) : Fin 2 → Nat :=
  let c0_i32_8 : BitVec 32 := 0#32
  let c1_i32_10 : BitVec 32 := 1#32
  let arg16 : BitVec 32 := Scf.iv c0_i32_8 c1_i32_10 k0_t4
  let v5 : BitVec 32 := Scalar.addi arg16 c0_i32_16
  let c128_i32 : BitVec 32 := 128#32
  let v6 : BitVec 32 := Scalar.muli v5 c128_i32
  let v7 : BitVec 32 := v6
  let v77 : Index := Scalar.indexCast v7
  let c0 : Index := 0#32
  ![v77.toNat, 0]
def k0_off6 (k0_t4 : Fin k0_t4_loop.trips) (c0_i32_16 : BitVec 32) : Fin 2 → Nat :=
  let c0_i32_8 : BitVec 32 := 0#32
  let c1_i32_10 : BitVec 32 := 1#32
  let arg16 : BitVec 32 := Scf.iv c0_i32_8 c1_i32_10 k0_t4
  let v5 : BitVec 32 := Scalar.addi arg16 c0_i32_16
  let c1_i32_17 : BitVec 32 := 1#32
  let v8 : BitVec 32 := Scalar.subi v5 c1_i32_17
  let c0_i32_18 : BitVec 32 := 0#32
  let v9 : BitVec 32 := Scalar.maxsi v8 c0_i32_18
  let c128_i32_19 : BitVec 32 := 128#32
  let v10 : BitVec 32 := Scalar.muli v9 c128_i32_19
  let v11 : BitVec 32 := v10
  let v79 : Index := Scalar.indexCast v11
  let c0_50 : Index := 0#32
  ![v79.toNat, 0]
@[reducible] def k0_t5_loop : Scf.Loop 32 :=
  let c0_i32_12 : BitVec 32 := 0#32
  let c16_i32_13 : BitVec 32 := 16#32
  let v4 : BitVec 32 := Scalar.addi c0_i32_12 c16_i32_13
  let c1_i32_14 : BitVec 32 := 1#32
  ⟨c0_i32_12, v4, c1_i32_14⟩
def k0_mult10 (k0_t5 : Fin k0_t5_loop.trips) : BitVec 32 :=
  let c0_i32_12 : BitVec 32 := 0#32
  let c1_i32_14 : BitVec 32 := 1#32
  let arg16 : BitVec 32 := Scf.iv c0_i32_12 c1_i32_14 k0_t5
  let c256_i32 : BitVec 32 := 256#32
  let v5 : BitVec 32 := Scalar.muli arg16 c256_i32
  v5
def k0_off7 (k0_t5 : Fin k0_t5_loop.trips) : Fin 2 → Nat :=
  let c0_i32_12 : BitVec 32 := 0#32
  let c1_i32_14 : BitVec 32 := 1#32
  let arg16 : BitVec 32 := Scf.iv c0_i32_12 c1_i32_14 k0_t5
  let c256_i32 : BitVec 32 := 256#32
  let v5 : BitVec 32 := Scalar.muli arg16 c256_i32
  let v6 : BitVec 32 := v5
  let v7 : Index := Scalar.indexCast v6
  let c0 : Index := 0#32
  ![v7.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x1536 : Shape := ⟨2, ![4096, 1536]⟩
abbrev S4096x512 : Shape := ⟨2, ![4096, 512]⟩
abbrev S4096x8x64 : Shape := ⟨3, ![4096, 8, 64]⟩
abbrev S8x4096x64 : Shape := ⟨3, ![8, 4096, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x4096x4096 : Shape := ⟨3, ![8, 4096, 4096]⟩
abbrev S8x4096 : Shape := ⟨2, ![8, 4096]⟩
abbrev S8x4096x1 : Shape := ⟨3, ![8, 4096, 1]⟩
abbrev S1x4096x4096 : Shape := ⟨3, ![1, 4096, 4096]⟩
abbrev S8x64x4096 : Shape := ⟨3, ![8, 64, 4096]⟩

abbrev nBuf : Space → Nat
  | .hbm => 231
  | .vmem => 0
  | .smem => 0
  | _ => 0

abbrev hbmTy0_0 (i : Nat) : BufTy := match i % 128 with
  | 0 => ⟨S4096x1536, .f32⟩
  | 1 => ⟨S4096x512, .f32⟩
  | 2 => ⟨S4096x512, .f32⟩
  | 3 => ⟨S4096x8x64, .f32⟩
  | 4 => ⟨S8x4096x64, .f32⟩
  | 5 => ⟨S4096x512, .f32⟩
  | 6 => ⟨S4096x8x64, .f32⟩
  | 7 => ⟨S8x4096x64, .f32⟩
  | 8 => ⟨S4096x512, .f32⟩
  | 9 => ⟨S4096x8x64, .f32⟩
  | 10 => ⟨S8x4096x64, .f32⟩
  | 11 => ⟨S4096, .i32⟩
  | 12 => ⟨S4096x1, .i32⟩
  | 13 => ⟨S4096, .i32⟩
  | 14 => ⟨S1x4096, .i32⟩
  | 15 => ⟨S4096x4096, .i32⟩
  | 16 => ⟨S4096x4096, .i32⟩
  | 17 => ⟨S4096x4096, .i32⟩
  | 18 => ⟨S_, .i32⟩
  | 19 => ⟨S4096x4096, .i32⟩
  | 20 => ⟨S4096x4096, .i1⟩
  | 21 => ⟨S_, .i32⟩
  | 22 => ⟨S4096x4096, .i32⟩
  | 23 => ⟨S4096x4096, .i1⟩
  | 24 => ⟨S4096x4096, .i1⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S4096x4096, .i32⟩
  | 32 => ⟨S4096x4096, .i32⟩
  | 33 => ⟨S_, .i32⟩
  | 34 => ⟨S4096x4096, .i32⟩
  | 35 => ⟨S4096x4096, .i1⟩
  | 36 => ⟨S_, .i32⟩
  | 37 => ⟨S4096x4096, .i32⟩
  | 38 => ⟨S4096x4096, .i1⟩
  | 39 => ⟨S_, .i32⟩
  | 40 => ⟨S_, .i1⟩
  | 41 => ⟨S4096x4096, .i1⟩
  | 42 => ⟨S4096x4096, .i1⟩
  | 43 => ⟨S4096x4096, .i1⟩
  | 44 => ⟨S4096x4096, .i32⟩
  | 45 => ⟨S4096x4096, .i32⟩
  | 46 => ⟨S4096x4096, .i32⟩
  | 47 => ⟨S_, .i32⟩
  | 48 => ⟨S4096x4096, .i32⟩
  | 49 => ⟨S4096x4096, .i1⟩
  | 50 => ⟨S4096x4096, .i1⟩
  | 51 => ⟨S4096x4096, .f32⟩
  | 52 => ⟨S_, .f32⟩
  | 53 => ⟨S4096x4096, .f32⟩
  | 54 => ⟨S4096x4096, .f32⟩
  | 55 => ⟨S4096, .i32⟩
  | 56 => ⟨S4096x1, .i32⟩
  | 57 => ⟨S4096, .i32⟩
  | 58 => ⟨S1x4096, .i32⟩
  | 59 => ⟨S4096x4096, .i32⟩
  | 60 => ⟨S4096x4096, .i32⟩
  | 61 => ⟨S4096x4096, .i32⟩
  | 62 => ⟨S_, .i32⟩
  | 63 => ⟨S4096x4096, .i32⟩
  | 64 => ⟨S4096x4096, .i1⟩
  | 65 => ⟨S_, .i32⟩
  | 66 => ⟨S4096x4096, .i32⟩
  | 67 => ⟨S4096x4096, .i1⟩
  | 68 => ⟨S4096x4096, .i1⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S4096x4096, .i32⟩
  | 76 => ⟨S4096x4096, .i32⟩
  | 77 => ⟨S_, .i32⟩
  | 78 => ⟨S4096x4096, .i32⟩
  | 79 => ⟨S4096x4096, .i1⟩
  | 80 => ⟨S_, .i32⟩
  | 81 => ⟨S4096x4096, .i32⟩
  | 82 => ⟨S4096x4096, .i1⟩
  | 83 => ⟨S_, .i32⟩
  | 84 => ⟨S_, .i1⟩
  | 85 => ⟨S4096x4096, .i1⟩
  | 86 => ⟨S4096x4096, .i1⟩
  | 87 => ⟨S4096x4096, .i1⟩
  | 88 => ⟨S4096x4096, .i32⟩
  | 89 => ⟨S4096x4096, .i32⟩
  | 90 => ⟨S4096x4096, .i32⟩
  | 91 => ⟨S_, .i32⟩
  | 92 => ⟨S4096x4096, .i32⟩
  | 93 => ⟨S4096x4096, .i1⟩
  | 94 => ⟨S4096x4096, .i1⟩
  | 95 => ⟨S4096x4096, .f32⟩
  | 96 => ⟨S4096x4096, .f32⟩
  | 97 => ⟨S4096, .i32⟩
  | 98 => ⟨S4096x1, .i32⟩
  | 99 => ⟨S4096, .i32⟩
  | 100 => ⟨S1x4096, .i32⟩
  | 101 => ⟨S4096x4096, .i32⟩
  | 102 => ⟨S4096x4096, .i32⟩
  | 103 => ⟨S4096x4096, .i32⟩
  | 104 => ⟨S_, .i32⟩
  | 105 => ⟨S4096x4096, .i32⟩
  | 106 => ⟨S4096x4096, .i1⟩
  | 107 => ⟨S_, .i32⟩
  | 108 => ⟨S4096x4096, .i32⟩
  | 109 => ⟨S4096x4096, .i1⟩
  | 110 => ⟨S4096x4096, .i1⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S4096x4096, .i32⟩
  | 118 => ⟨S4096x4096, .i32⟩
  | 119 => ⟨S_, .i32⟩
  | 120 => ⟨S4096x4096, .i32⟩
  | 121 => ⟨S4096x4096, .i1⟩
  | 122 => ⟨S_, .i32⟩
  | 123 => ⟨S4096x4096, .i32⟩
  | 124 => ⟨S4096x4096, .i1⟩
  | 125 => ⟨S_, .i32⟩
  | 126 => ⟨S_, .i1⟩
  | 127 => ⟨S4096x4096, .i1⟩
  | _ => ⟨S4096x1536, .f32⟩

abbrev hbmTy0_1 (i : Nat) : BufTy := match i % 128 with
  | 0 => ⟨S4096x4096, .i1⟩
  | 1 => ⟨S4096x4096, .i1⟩
  | 2 => ⟨S4096x4096, .i32⟩
  | 3 => ⟨S4096x4096, .i32⟩
  | 4 => ⟨S4096x4096, .i32⟩
  | 5 => ⟨S_, .i32⟩
  | 6 => ⟨S4096x4096, .i32⟩
  | 7 => ⟨S4096x4096, .i1⟩
  | 8 => ⟨S4096x4096, .i1⟩
  | 9 => ⟨S4096x4096, .f32⟩
  | 10 => ⟨S4096x4096, .f32⟩
  | 11 => ⟨S8x4096x4096, .f32⟩
  | 12 => ⟨S_, .f32⟩
  | 13 => ⟨S8x4096x4096, .f32⟩
  | 14 => ⟨S8x4096x4096, .f32⟩
  | 15 => ⟨S_, .f32⟩
  | 16 => ⟨S4096x4096, .f32⟩
  | 17 => ⟨S4096x4096, .i1⟩
  | 18 => ⟨S_, .f32⟩
  | 19 => ⟨S_, .f32⟩
  | 20 => ⟨S8x4096x4096, .i1⟩
  | 21 => ⟨S8x4096x4096, .f32⟩
  | 22 => ⟨S8x4096x4096, .f32⟩
  | 23 => ⟨S_, .f32⟩
  | 24 => ⟨S8x4096x4096, .f32⟩
  | 25 => ⟨S_, .f32⟩
  | 26 => ⟨S8x4096, .f32⟩
  | 27 => ⟨S8x4096x1, .f32⟩
  | 28 => ⟨S8x4096x4096, .f32⟩
  | 29 => ⟨S8x4096x4096, .i1⟩
  | 30 => ⟨S8x4096x4096, .f32⟩
  | 31 => ⟨S_, .f32⟩
  | 32 => ⟨S8x4096, .f32⟩
  | 33 => ⟨S8x4096x1, .f32⟩
  | 34 => ⟨S8x4096x4096, .f32⟩
  | 35 => ⟨S8x4096x4096, .f32⟩
  | 36 => ⟨S8x4096x4096, .f32⟩
  | 37 => ⟨S1x4096x4096, .f32⟩
  | 38 => ⟨S8x4096x4096, .f32⟩
  | 39 => ⟨S8x4096x4096, .f32⟩
  | 40 => ⟨S_, .f32⟩
  | 41 => ⟨S8x4096, .f32⟩
  | 42 => ⟨S8x4096x64, .f32⟩
  | 43 => ⟨S8x4096x1, .f32⟩
  | 44 => ⟨S8x4096x64, .f32⟩
  | 45 => ⟨S8x4096x64, .f32⟩
  | 46 => ⟨S8x4096x1, .f32⟩
  | 47 => ⟨S_, .f32⟩
  | 48 => ⟨S8x4096x1, .f32⟩
  | 49 => ⟨S8x4096x1, .f32⟩
  | 50 => ⟨S8x4096, .f32⟩
  | 51 => ⟨S8x4096, .f32⟩
  | 52 => ⟨S4096x8x64, .f32⟩
  | 53 => ⟨S4096x512, .f32⟩
  | 54 => ⟨S4096x8x64, .f32⟩
  | 55 => ⟨S8x4096x64, .f32⟩
  | 56 => ⟨S8x4096x64, .f32⟩
  | 57 => ⟨S8x4096x64, .f32⟩
  | 58 => ⟨S8x4096x64, .f32⟩
  | 59 => ⟨S_, .f32⟩
  | 60 => ⟨S8x4096, .f32⟩
  | 61 => ⟨S8x4096x1, .f32⟩
  | 62 => ⟨S8x4096x1, .f32⟩
  | 63 => ⟨S8x4096x64, .f32⟩
  | 64 => ⟨S8x4096x64, .f32⟩
  | 65 => ⟨S_, .f32⟩
  | 66 => ⟨S8x4096, .f32⟩
  | 67 => ⟨S8x64x4096, .f32⟩
  | 68 => ⟨S8x4096x64, .f32⟩
  | 69 => ⟨S8x4096x4096, .f32⟩
  | 70 => ⟨S8x4096x4096, .f32⟩
  | 71 => ⟨S8x4096x4096, .f32⟩
  | 72 => ⟨S8x4096x4096, .f32⟩
  | 73 => ⟨S8x4096x4096, .f32⟩
  | 74 => ⟨S8x4096x4096, .f32⟩
  | 75 => ⟨S_, .f32⟩
  | 76 => ⟨S8x4096x4096, .f32⟩
  | 77 => ⟨S8x4096x4096, .f32⟩
  | 78 => ⟨S_, .f32⟩
  | 79 => ⟨S8x4096x4096, .f32⟩
  | 80 => ⟨S8x4096x4096, .f32⟩
  | 81 => ⟨S8x4096x64, .f32⟩
  | 82 => ⟨S8x4096x64, .f32⟩
  | 83 => ⟨S4096x8x64, .f32⟩
  | 84 => ⟨S4096x512, .f32⟩
  | 85 => ⟨S_, .f32⟩
  | 86 => ⟨S4096x1536, .f32⟩
  | 87 => ⟨S4096x8x64, .f32⟩
  | 88 => ⟨S4096x512, .f32⟩
  | 89 => ⟨S_, .f32⟩
  | 90 => ⟨S4096x1536, .f32⟩
  | 91 => ⟨S4096x1536, .f32⟩
  | 92 => ⟨S4096x8x64, .f32⟩
  | 93 => ⟨S4096x512, .f32⟩
  | 94 => ⟨S_, .f32⟩
  | 95 => ⟨S4096x1536, .f32⟩
  | 96 => ⟨S4096x1536, .f32⟩
  | 97 => ⟨S4096x512, .f32⟩
  | 98 => ⟨S4096x512, .bf16⟩
  | 99 => ⟨S4096x512, .f32⟩
  | 100 => ⟨S4096x512, .bf16⟩
  | 101 => ⟨S4096x512, .f32⟩
  | 102 => ⟨S4096x512, .bf16⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_1 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_1 : Ref sig .tc := ⟨.hbm, 33, rfl⟩
abbrev main_call0_v5 : Ref sig .tc := ⟨.hbm, 34, rfl⟩
abbrev main_call0_v6 : Ref sig .tc := ⟨.hbm, 35, rfl⟩
abbrev main_call0_c_2 : Ref sig .tc := ⟨.hbm, 36, rfl⟩
abbrev main_call0_v7 : Ref sig .tc := ⟨.hbm, 37, rfl⟩
abbrev main_call0_v8 : Ref sig .tc := ⟨.hbm, 38, rfl⟩
abbrev main_call0_c_3 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_v21 : Ref sig .tc := ⟨.hbm, 46, rfl⟩
abbrev main_c_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_3 : Ref sig .tc := ⟨.hbm, 62, rfl⟩
abbrev main_v35 : Ref sig .tc := ⟨.hbm, 63, rfl⟩
abbrev main_v36 : Ref sig .tc := ⟨.hbm, 64, rfl⟩
abbrev main_c_4 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_5 : Ref sig .tc := ⟨.hbm, 69, rfl⟩
abbrev main_call1_v0 : Ref sig .tc := ⟨.hbm, 70, rfl⟩
abbrev main_call1_c : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_c_1 : Ref sig .tc := ⟨.hbm, 77, rfl⟩
abbrev main_call1_v5 : Ref sig .tc := ⟨.hbm, 78, rfl⟩
abbrev main_call1_v6 : Ref sig .tc := ⟨.hbm, 79, rfl⟩
abbrev main_call1_c_2 : Ref sig .tc := ⟨.hbm, 80, rfl⟩
abbrev main_call1_v7 : Ref sig .tc := ⟨.hbm, 81, rfl⟩
abbrev main_call1_v8 : Ref sig .tc := ⟨.hbm, 82, rfl⟩
abbrev main_call1_c_3 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_v40 : Ref sig .tc := ⟨.hbm, 90, rfl⟩
abbrev main_c_6 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_c_7 : Ref sig .tc := ⟨.hbm, 104, rfl⟩
abbrev main_v53 : Ref sig .tc := ⟨.hbm, 105, rfl⟩
abbrev main_v54 : Ref sig .tc := ⟨.hbm, 106, rfl⟩
abbrev main_c_8 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_c_9 : Ref sig .tc := ⟨.hbm, 111, rfl⟩
abbrev main_call2_v0 : Ref sig .tc := ⟨.hbm, 112, rfl⟩
abbrev main_call2_c : Ref sig .tc := ⟨.hbm, 113, rfl⟩
abbrev main_call2_v1 : Ref sig .tc := ⟨.hbm, 114, rfl⟩
abbrev main_call2_c_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_c_1 : Ref sig .tc := ⟨.hbm, 119, rfl⟩
abbrev main_call2_v5 : Ref sig .tc := ⟨.hbm, 120, rfl⟩
abbrev main_call2_v6 : Ref sig .tc := ⟨.hbm, 121, rfl⟩
abbrev main_call2_c_2 : Ref sig .tc := ⟨.hbm, 122, rfl⟩
abbrev main_call2_v7 : Ref sig .tc := ⟨.hbm, 123, rfl⟩
abbrev main_call2_v8 : Ref sig .tc := ⟨.hbm, 124, rfl⟩
abbrev main_call2_c_3 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_v12 : Ref sig .tc := ⟨.hbm, 129, rfl⟩
abbrev main_call2_v13 : Ref sig .tc := ⟨.hbm, 130, rfl⟩
abbrev main_call2_v14 : Ref sig .tc := ⟨.hbm, 131, rfl⟩
abbrev main_v58 : Ref sig .tc := ⟨.hbm, 132, rfl⟩
abbrev main_c_10 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_cst_11 : Ref sig .tc := ⟨.hbm, 140, rfl⟩
abbrev main_v65 : Ref sig .tc := ⟨.hbm, 141, rfl⟩
abbrev main_v66 : Ref sig .tc := ⟨.hbm, 142, rfl⟩
abbrev main_cst_12 : Ref sig .tc := ⟨.hbm, 143, rfl⟩
abbrev main_v67 : Ref sig .tc := ⟨.hbm, 144, rfl⟩
abbrev main_v68 : Ref sig .tc := ⟨.hbm, 145, rfl⟩
abbrev main_cst_13 : Ref sig .tc := ⟨.hbm, 146, rfl⟩
abbrev main_call3_v0 : Ref sig .tc := ⟨.hbm, 147, rfl⟩
abbrev main_v69_1 : Ref sig .tc := ⟨.hbm, 148, rfl⟩
abbrev main_call3_v2 : Ref sig .tc := ⟨.hbm, 149, rfl⟩
abbrev main_v69_0 : Ref sig .tc := ⟨.hbm, 150, rfl⟩
abbrev main_call3_cst : Ref sig .tc := ⟨.hbm, 151, rfl⟩
abbrev main_v69_2 : Ref sig .tc := ⟨.hbm, 152, rfl⟩
abbrev main_cst_14 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_cst_15 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_cst_16 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_cst_17 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_cst_18 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_cst_19 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_call4_cst : Ref sig .tc := ⟨.hbm, 203, rfl⟩
abbrev main_call4_v0 : Ref sig .tc := ⟨.hbm, 204, rfl⟩
abbrev main_v114 : Ref sig .tc := ⟨.hbm, 205, rfl⟩
abbrev main_cst_20 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_cst_21 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_cst_22 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_cst_23 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩

abbrev nD : Nat := 1
abbrev τ : Topo := Topo.v7x

variable {F : FTy → Type} [FloatOps F]
-- ==== Mlp.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x8x512 : Shape := ⟨3, ![1024, 8, 512]⟩
abbrev S8x1024x512 : Shape := ⟨3, ![8, 1024, 512]⟩
abbrev S8x2x256x1024 : Shape := ⟨4, ![8, 2, 256, 1024]⟩
abbrev S8x1x256x1024 : Shape := ⟨4, ![8, 1, 256, 1024]⟩
abbrev S8x256x1024 : Shape := ⟨3, ![8, 256, 1024]⟩
abbrev S512x1024 : Shape := ⟨2, ![512, 1024]⟩
abbrev S512x4096 : Shape := ⟨2, ![512, 4096]⟩
abbrev S1x256x1024 : Shape := ⟨3, ![1, 256, 1024]⟩
abbrev S256x1024 : Shape := ⟨2, ![256, 1024]⟩
abbrev S512x256 : Shape := ⟨2, ![512, 256]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 34
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S4096x4096, .bf16⟩
  | .hbm, ⟨22, _⟩ => ⟨S1024x8x512, .f32⟩
  | .hbm, ⟨23, _⟩ => ⟨S8x1024x512, .f32⟩
  | .hbm, ⟨24, _⟩ => ⟨S8x1024x512, .bf16⟩
  | .hbm, ⟨25, _⟩ => ⟨S8x2x256x1024, .f32⟩
  | .hbm, ⟨26, _⟩ => ⟨S8x2x256x1024, .bf16⟩
  | .hbm, ⟨27, _⟩ => ⟨S8x1x256x1024, .bf16⟩
  | .hbm, ⟨28, _⟩ => ⟨S8x256x1024, .bf16⟩
  | .hbm, ⟨29, _⟩ => ⟨S8x1x256x1024, .bf16⟩
  | .hbm, ⟨30, _⟩ => ⟨S8x256x1024, .bf16⟩
  | .hbm, ⟨31, _⟩ => ⟨S4096x4096, .bf16⟩
  | .hbm, ⟨32, _⟩ => ⟨S4096x1024, .f32⟩
  | .hbm, ⟨33, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8x1024x512, .bf16⟩
  | .local _ .vmem, ⟨8, _⟩ => ⟨S8x256x1024, .bf16⟩
  | .local _ .vmem, ⟨9, _⟩ => ⟨S8x256x1024, .bf16⟩
  | .local _ .vmem, ⟨10, _⟩ => ⟨S512x4096, .bf16⟩
  | .local _ .vmem, ⟨11, _⟩ => ⟨S512x4096, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlpReferenceIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1024 : Shape := ⟨1, ![1024]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .i1⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Fwd.lean ====
abbrev S4096x1024 : Shape := ⟨2, ![4096, 1024]⟩
abbrev S1x1024 : Shape := ⟨2, ![1, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S8x2x256x1024 : Shape := ⟨4, ![8, 2, 256, 1024]⟩
abbrev S_ : Shape := ⟨0, ![]⟩
abbrev S4096 : Shape := ⟨1, ![4096]⟩
abbrev S4096x1 : Shape := ⟨2, ![4096, 1]⟩
abbrev S8x1x256x1024 : Shape := ⟨4, ![8, 1, 256, 1024]⟩
abbrev S8x256x1024 : Shape := ⟨3, ![8, 256, 1024]⟩
abbrev S4096x4096 : Shape := ⟨2, ![4096, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 31
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1024x8x512, .f32⟩
  | .hbm, ⟨5, _⟩ => ⟨S8x1024x512, .f32⟩
  | .hbm, ⟨6, _⟩ => ⟨S8x1024x512, .bf16⟩
  | .hbm, ⟨7, _⟩ => ⟨S8x2x256x1024, .f32⟩
  | .hbm, ⟨8, _⟩ => ⟨S8x2x256x1024, .bf16⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S8x1x256x1024, .bf16⟩
  | .hbm, ⟨26, _⟩ => ⟨S8x256x1024, .bf16⟩
  | .hbm, ⟨27, _⟩ => ⟨S8x1x256x1024, .bf16⟩
  | .hbm, ⟨28, _⟩ => ⟨S8x256x1024, .bf16⟩
  | .hbm, ⟨29, _⟩ => ⟨S4096x4096, .bf16⟩
  | .hbm, ⟨30, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S8x1024x512, .bf16⟩
  | .local _ .vmem, ⟨5, _⟩ => ⟨S8x256x1024, .bf16⟩
  | .local _ .vmem, ⟨6, _⟩ => ⟨S8x256x1024, .bf16⟩
  | .local _ .vmem, ⟨7, _⟩ => ⟨S512x4096, .bf16⟩
  | .local _ .vmem, ⟨8, _⟩ => ⟨S512x4096, .bf16⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FwdReferenceIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .bf16⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Up.lean ====
abbrev S4096x1024 : Shape := ⟨2, ![4096, 1024]⟩
abbrev S4096x4096 : Shape := ⟨2, ![4096, 4096]⟩
abbrev S8x1024x512 : Shape := ⟨3, ![8, 1024, 512]⟩
abbrev S512x1024 : Shape := ⟨2, ![512, 1024]⟩
abbrev S512x4096 : Shape := ⟨2, ![512, 4096]⟩
abbrev S1024x4096 : Shape := ⟨2, ![1024, 4096]⟩
abbrev S1024x512 : Shape := ⟨2, ![1024, 512]⟩
abbrev S1024x1024 : Shape := ⟨2, ![1024, 1024]⟩
abbrev S1x1024x512 : Shape := ⟨3, ![1, 1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S8x1024x512, .bf16⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S8x1024x512, .bf16⟩
  | .local _ .vmem, ⟨5, _⟩ => ⟨S1024x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v38 : BitVec 1 := Scalar.cmpi .eq arg0 c7_i32
  let v39 : BitVec 32 := Scalar.extui v38
  let c0_i32_26 : BitVec 32 := 0#32
  let v40 : BitVec 1 := Scalar.cmpi .ne v39 c0_i32_26
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== UpReferenceIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S512x4096 : Shape := ⟨2, ![512, 4096]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S4096x1024, .bf16⟩
  | .local _ .vmem, ⟨5, _⟩ => ⟨S4096x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v61 : BitVec 1 := Scalar.cmpi .eq arg0 c7_i32
  let v62 : BitVec 32 := Scalar.extui v61
  let c0_i32_30 : BitVec 32 := 0#32
  let v63 : BitVec 1 := Scalar.cmpi .ne v62 c0_i32_30
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DownReferenceIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== OutBwd.lean ====
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S1024x1024, .bf16⟩
  | .hbm, ⟨5, _⟩ => ⟨S4096x512, .f32⟩
  | .hbm, ⟨6, _⟩ => ⟨S4096x512, .f32⟩
  | .hbm, ⟨7, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S1024x1024, .bf16⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v28 : BitVec 1 := Scalar.cmpi .eq arg0 c7_i32
  let v29 : BitVec 32 := Scalar.extui v28
  let c0_i32_21 : BitVec 32 := 0#32
  let v30 : BitVec 1 := Scalar.cmpi .ne v29 c0_i32_21
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OutBwdReferenceIdeal.lean ====
abbrev S4096x1024 : Shape := ⟨2, ![4096, 1024]⟩
abbrev S4096x512 : Shape := ⟨2, ![4096, 512]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S4096x512, .f32⟩
  | .hbm, ⟨10, _⟩ => ⟨S4096x512, .f32⟩
  | .hbm, ⟨11, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== InProj.lean ====
abbrev S4096x1024 : Shape := ⟨2, ![4096, 1024]⟩
abbrev S1x1024 : Shape := ⟨2, ![1, 1024]⟩
abbrev S1024x3592 : Shape := ⟨2, ![1024, 3592]⟩
abbrev S4096x8 : Shape := ⟨2, ![4096, 8]⟩
abbrev S_ : Shape := ⟨0, ![]⟩
abbrev S1024x3840 : Shape := ⟨2, ![1024, 3840]⟩
abbrev S4096x48 : Shape := ⟨2, ![4096, 48]⟩
abbrev S4096x128 : Shape := ⟨2, ![4096, 128]⟩
abbrev S4096x1536 : Shape := ⟨2, ![4096, 1536]⟩
abbrev S4096x512 : Shape := ⟨2, ![4096, 512]⟩
abbrev S512x1024 : Shape := ⟨2, ![512, 1024]⟩
abbrev S512x128 : Shape := ⟨2, ![512, 128]⟩
abbrev S512x1536 : Shape := ⟨2, ![512, 1536]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S1024x128 : Shape := ⟨2, ![1024, 128]⟩

abbrev nBuf : Space → Nat
  | .hbm => 26
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3592, .f32⟩
  | .hbm, ⟨3, _⟩ => ⟨S4096x8, .f32⟩
  | .hbm, ⟨4, _⟩ => ⟨S4096x8, .f32⟩
  | .hbm, ⟨5, _⟩ => ⟨S_, .i32⟩
  | .hbm, ⟨6, _⟩ => ⟨S_, .f32⟩
  | .hbm, ⟨7, _⟩ => ⟨S1024x3840, .f32⟩
  | .hbm, ⟨8, _⟩ => ⟨S1024x3840, .bf16⟩
  | .hbm, ⟨9, _⟩ => ⟨S_, .f32⟩
  | .hbm, ⟨10, _⟩ => ⟨S4096x48, .f32⟩
  | .hbm, ⟨11, _⟩ => ⟨S_, .f32⟩
  | .hbm, ⟨12, _⟩ => ⟨S4096x8, .f32⟩
  | .hbm, ⟨13, _⟩ => ⟨S_, .f32⟩
  | .hbm, ⟨14, _⟩ => ⟨S4096x48, .f32⟩
  | .hbm, ⟨15, _⟩ => ⟨S4096x128, .f32⟩
  | .hbm, ⟨16, _⟩ => ⟨S4096x8, .f32⟩
  | .hbm, ⟨17, _⟩ => ⟨S4096x8, .f32⟩
  | .hbm, ⟨18, _⟩ => ⟨S4096x128, .f32⟩
  | .hbm, ⟨19, _⟩ => ⟨S4096x128, .f32⟩
  | .hbm, ⟨20, _⟩ => ⟨S4096x1536, .f32⟩
  | .hbm, ⟨21, _⟩ => ⟨S4096x1024, .f32⟩
  | .hbm, ⟨22, _⟩ => ⟨S4096x512, .f32⟩
  | .hbm, ⟨23, _⟩ => ⟨S4096x512, .f32⟩
  | .hbm, ⟨24, _⟩ => ⟨S4096x128, .f32⟩
  | .hbm, ⟨25, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3840, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1536, .f32⟩
  | .local _ .vmem, ⟨11, _⟩ => ⟨S512x1536, .f32⟩
  | .local _ .vmem, ⟨12, _⟩ => ⟨S512x1024, .f32⟩
  | .local _ .vmem, ⟨13, _⟩ => ⟨S512x1024, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x128, .f32⟩
  | .local _ .vmem, ⟨19, _⟩ => ⟨S512x128, .f32⟩
  | .local _ .vmem, ⟨20, _⟩ => ⟨S512x1024, .bf16⟩
  | .local _ .vmem, ⟨21, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InProjReferenceIdeal.lean ====
abbrev S4096x1024 : Shape := ⟨2, ![4096, 1024]⟩
abbrev S1x1024 : Shape := ⟨2, ![1, 1024]⟩
abbrev S1024x3592 : Shape := ⟨2, ![1024, 3592]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S4096x3592 : Shape := ⟨2, ![4096, 3592]⟩
abbrev S4096x512 : Shape := ⟨2, ![4096, 512]⟩
abbrev S4096x8x64 : Shape := ⟨3, ![4096, 8, 64]⟩
abbrev S4096x1x8 : Shape := ⟨3, ![4096, 1, 8]⟩
abbrev S4096x8x8 : Shape := ⟨3, ![4096, 8, 8]⟩
abbrev S4096x8x48 : Shape := ⟨3, ![4096, 8, 48]⟩
abbrev S4096x1536 : Shape := ⟨2, ![4096, 1536]⟩
abbrev S4096x128 : Shape := ⟨2, ![4096, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3592, .f32⟩
  | .hbm, ⟨3, _⟩ => ⟨S4096x8, .f32⟩
  | .hbm, ⟨4, _⟩ => ⟨S4096x8, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x3592, .f32⟩
  | .hbm, ⟨21, _⟩ => ⟨S4096x512, .f32⟩
  | .hbm, ⟨22, _⟩ => ⟨S4096x8x64, .f32⟩
  | .hbm, ⟨23, _⟩ => ⟨S4096x1x8, .f32⟩
  | .hbm, ⟨24, _⟩ => ⟨S4096x1x8, .f32⟩
  | .hbm, ⟨25, _⟩ => ⟨S4096x8x8, .f32⟩
  | .hbm, ⟨26, _⟩ => ⟨S4096x8x8, .f32⟩
  | .hbm, ⟨27, _⟩ => ⟨S4096x8x8, .f32⟩
  | .hbm, ⟨28, _⟩ => ⟨S4096x8x8, .f32⟩
  | .hbm, ⟨29, _⟩ => ⟨S4096x8x8, .f32⟩
  | .hbm, ⟨30, _⟩ => ⟨S4096x8x8, .f32⟩
  | .hbm, ⟨31, _⟩ => ⟨S4096x8x8, .f32⟩
  | .hbm, ⟨32, _⟩ => ⟨S4096x8x8, .f32⟩
  | .hbm, ⟨33, _⟩ => ⟨S4096x8x8, .f32⟩
  | .hbm, ⟨34, _⟩ => ⟨S4096x8x8, .f32⟩
  | .hbm, ⟨35, _⟩ => ⟨S4096x8x8, .f32⟩
  | .hbm, ⟨36, _⟩ => ⟨S4096x8x8, .f32⟩
  | .hbm, ⟨37, _⟩ => ⟨S4096x8x48, .f32⟩
  | .hbm, ⟨38, _⟩ => ⟨S4096x8x64, .f32⟩
  | .hbm, ⟨39, _⟩ => ⟨S4096x512, .f32⟩
  | .hbm, ⟨40, _⟩ => ⟨S4096x512, .f32⟩
  | .hbm, ⟨41, _⟩ => ⟨S4096x8x64, .f32⟩
  | .hbm, ⟨42, _⟩ => ⟨S4096x1x8, .f32⟩
  | .hbm, ⟨43, _⟩ => ⟨S4096x1x8, .f32⟩
  | .hbm, ⟨44, _⟩ => ⟨S4096x8x8, .f32⟩
  | .hbm, ⟨45, _⟩ => ⟨S4096x8x8, .f32⟩
  | .hbm, ⟨46, _⟩ => ⟨S4096x8x8, .f32⟩
  | .hbm, ⟨47, _⟩ => ⟨S4096x8x8, .f32⟩
  | .hbm, ⟨48, _⟩ => ⟨S4096x8x8, .f32⟩
  | .hbm, ⟨49, _⟩ => ⟨S4096x8x8, .f32⟩
  | .hbm, ⟨50, _⟩ => ⟨S4096x8x8, .f32⟩
  | .hbm, ⟨51, _⟩ => ⟨S4096x8x8, .f32⟩
  | .hbm, ⟨52, _⟩ => ⟨S4096x8x8, .f32⟩
  | .hbm, ⟨53, _⟩ => ⟨S4096x8x8, .f32⟩
  | .hbm, ⟨54, _⟩ => ⟨S4096x8x8, .f32⟩
  | .hbm, ⟨55, _⟩ => ⟨S4096x8x8, .f32⟩
  | .hbm, ⟨56, _⟩ => ⟨S4096x8x48, .f32⟩
  | .hbm, ⟨57, _⟩ => ⟨S4096x8x64, .f32⟩
  | .hbm, ⟨58, _⟩ => ⟨S4096x512, .f32⟩
  | .hbm, ⟨59, _⟩ => ⟨S4096x512, .f32⟩
  | .hbm, ⟨60, _⟩ => ⟨S4096x1536, .f32⟩
  | .hbm, ⟨61, _⟩ => ⟨S4096x8, .f32⟩
  | .hbm, ⟨62, _⟩ => ⟨S_, .i32⟩
  | .hbm, ⟨63, _⟩ => ⟨S_, .f32⟩
  | .hbm, ⟨64, _⟩ => ⟨S4096x128, .f32⟩
  | .hbm, ⟨65, _⟩ => ⟨S4096x1024, .f32⟩
  | .hbm, ⟨66, _⟩ => ⟨S4096x512, .f32⟩
  | .hbm, ⟨67, _⟩ => ⟨S4096x512, .f32⟩
  | .hbm, ⟨68, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_c : Ref sig .tc := ⟨.hbm, 62, rfl⟩
abbrev main_call0_v0 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩

abbrev nD : Nat := 1
abbrev τ : Topo := Topo.v7x

variable {F : FTy → Type} [FloatOps F]
-- ==== Proof.Ideal.Trip2.lean ====
/- One trip of the loop `k0_t2_loop` of the attention gradient. -/
module

public import proofs.«01_k».proof.Proof.Gen.KernelIdeal.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What a trip holds: the blocks it reads, and the three accumulators it adds to. -/
abbrev Trip2 (c : Dev nD) (arg1 : Memref sig .tc .vmem S4096x128 .f32) (arg2 : Memref sig .tc .vmem S4096x128 .f32) (arg3 : Memref sig .tc .vmem S4096x128 .f32) (arg5 : Memref sig .tc .vmem S4096x128 .f32) (arg6 : Memref sig .tc .vmem S4096x128 .f32) (arg7 : Memref sig .tc .vmem S4096x128 .f32) (arg11 : Memref sig .tc .vmem S4096x128 .f32) (arg12 : Memref sig .tc .vmem S4096x128 .f32) (arg13 : Memref sig .tc .vmem S4096x128 .f32) (arg14 : Memref sig .tc .vmem S4096x128 .f32) (arg15 : Memref sig .tc .vmem S4096x128 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (f13 : BufTy.Contents (Elt F) arg13.view.ty) (f14 : BufTy.Contents (Elt F) arg14.view.ty) (f15 : BufTy.Contents (Elt F) arg15.view.ty) :
    sProp (MT nD τ sig Unit (Elt F) ℕ (UR sig nD τ) ℕ) :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))

/-- One trip: the accumulators end with the pieces it writes. -/
@[irreducible] def trip2 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (f13 : BufTy.Contents (Elt F) arg13.view.ty) (f14 : BufTy.Contents (Elt F) arg14.view.ty) (f15 : BufTy.Contents (Elt F) arg15.view.ty) (k : Fin k0_t2_loop.trips) :
    Σ' (L13 : List (View.Piece (Elt F) S4096x128 .f32)) (L14 : List (View.Piece (Elt F) S4096x128 .f32)), { L15 : List (View.Piece (Elt F) S4096x128 .f32) // ∀ (E : Set ℕ),
      Trip2 (F := F) c arg1 arg2 arg3 arg5 arg6 arg7 arg11 arg12 arg13 arg14 arg15 X1 X2 X3 X5 X6 X7 X11 X12 f13 f14 f15
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k PUnit.unit)
          (fun _ => Trip2 (F := F) c arg1 arg2 arg3 arg5 arg6 arg7 arg11 arg12 arg13 arg14 arg15 X1 X2 X3 X5 X6 X7 X11 X12 (arg13.view.writes (Elt F) f13 L13) (arg14.view.writes (Elt F) f14 L14) (arg15.view.writes (Elt F) f15 L15)) } := by
  have hk : k.val < 8 := Nat.lt_of_lt_of_le k.isLt k0_t2_abs.2.1
  refine ⟨?_, ?_, ?_, fun E => ?run⟩
  case run =>
    unfold k0_t2_body
    iintro ⟨H1, H2, H3, H5, H6, H7, H11, H12, H13, H14, H15⟩
    sl_exec
    sl_step
    sl_close

end Cert.Proof.KernelIdeal

end
-- ==== Proof.Ideal.Loop2.lean ====
/- The loop `k0_t2_loop` of the attention gradient, by what its accumulators hold before each trip. -/
module

public import proofs.«01_k».proof.Proof.Ideal.Trip2

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The three accumulators after trip `k`, from what they held before it; past the last trip, unchanged. -/
@[irreducible] def next2 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (k : ℕ) (S : BufTy.Contents (Elt F) arg13.view.ty × BufTy.Contents (Elt F) arg14.view.ty × BufTy.Contents (Elt F) arg15.view.ty) : BufTy.Contents (Elt F) arg13.view.ty × BufTy.Contents (Elt F) arg14.view.ty × BufTy.Contents (Elt F) arg15.view.ty :=
  if h : k < k0_t2_loop.trips then
    (arg13.view.writes (Elt F) S.1 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 ⟨k, h⟩).1,
      arg14.view.writes (Elt F) S.2.1 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 ⟨k, h⟩).2.1,
      arg15.view.writes (Elt F) S.2.2 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 ⟨k, h⟩).2.2.1)
  else S

/-- The three accumulators before trip `k`, from what they held when the loop was entered. -/
def acc2 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) : ℕ → BufTy.Contents (Elt F) arg13.view.ty × BufTy.Contents (Elt F) arg14.view.ty × BufTy.Contents (Elt F) arg15.view.ty
  | 0 => (G13, G14, G15)
  | k + 1 => next2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 k (acc2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k)

theorem next2_eq (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (k : Fin k0_t2_loop.trips) (S : BufTy.Contents (Elt F) arg13.view.ty × BufTy.Contents (Elt F) arg14.view.ty × BufTy.Contents (Elt F) arg15.view.ty) :
    next2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 k.val S = (arg13.view.writes (Elt F) S.1 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 k).1,
      arg14.view.writes (Elt F) S.2.1 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 k).2.1,
      arg15.view.writes (Elt F) S.2.2 (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 k).2.2.1) := by
  unfold next2; exact dif_pos k.isLt

/-- The invariant before trip `k`: what the loop reads unchanged, the accumulators at `acc2 k`. -/
abbrev inv2 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) (k : ℕ) (_ : Unit) : sProp (MT nD τ sig Unit (Elt F) ℕ (UR sig nD τ) ℕ) :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg12.view.loc (c : Thread nD τ) ↦[arg12.view.set]{fullShare} X12) ∗ (∃ f13, (arg13.view.loc (c : Thread nD τ) ↦[arg13.view.set]{fullShare} f13) ∗ ⌜f13 = (acc2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).1⌝) ∗ (∃ f14, (arg14.view.loc (c : Thread nD τ) ↦[arg14.view.set]{fullShare} f14) ∗ ⌜f14 = (acc2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).2.1⌝) ∗ (∃ f15, (arg15.view.loc (c : Thread nD τ) ↦[arg15.view.set]{fullShare} f15) ∗ ⌜f15 = (acc2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).2.2⌝))

set_option warn.classDefReducibility false in
/-- The loop, one trip at a time. -/
@[sl_loop] def loopInv_k0_t2 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 where
  inv := inv2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15
  step k acc := by
    iintro ⟨H1, H2, H3, H5, H6, H7, H11, H12, ⟨%f13, H13, %h13⟩, ⟨%f14, H14, %h14⟩, ⟨%f15, H15, %h15⟩⟩
    iapply (wp_wand_r Idealize.ShloMosaic.frame (wpE (defs₀ (F := F)) 𝒱 (c : Thread nD τ) bd) E)
    isplitl [H1 H2 H3 H5 H6 H7 H11 H12 H13 H14 H15]
    · iapply ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).2.2.2 E)
      isplitl [H1]; · iexact H1
      isplitl [H2]; · iexact H2
      isplitl [H3]; · iexact H3
      isplitl [H5]; · iexact H5
      isplitl [H6]; · iexact H6
      isplitl [H7]; · iexact H7
      isplitl [H11]; · iexact H11
      isplitl [H12]; · iexact H12
      isplitl [H13]; · iexact H13
      isplitl [H14]; · iexact H14
      iexact H15
    · iintro %_ ⟨H1, H2, H3, H5, H6, H7, H11, H12, H13, H14, H15⟩
      isplitl [H1]; · iexact H1
      isplitl [H2]; · iexact H2
      isplitl [H3]; · iexact H3
      isplitl [H5]; · iexact H5
      isplitl [H6]; · iexact H6
      isplitl [H7]; · iexact H7
      isplitl [H11]; · iexact H11
      isplitl [H12]; · iexact H12
      have hS : acc2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 (k.val + 1) = _ := next2_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 k (acc2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k.val)
      rw [hS]
      subst h13 h14 h15
      isplitl [H13]
      · iexists _; isplitl [H13]; · iexact H13
        ipureintro; rfl
      isplitl [H14]
      · iexists _; isplitl [H14]; · iexact H14
        ipureintro; rfl
      iexists _; isplitl [H15]; · iexact H15
      ipureintro; rfl

end Cert.Proof.KernelIdeal

end
-- ==== Proof.Ideal.Offsets.lean ====
/- The offsets of the blocks, in closed form. -/
module

public import proofs.«01_k».proof.Proof.Gen.KernelIdeal.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The rows a block of the stride-4 pass starts at. -/
theorem off3_eq : ∀ k : Fin k0_t3_loop.trips, ∀ (r : Fin 4), k0_off3 k (BitVec.ofNat 32 r.val) = ![512 * k.val + r.val, 0] := by decide +kernel
instance closedOff_off3_0 (k : Fin k0_t3_loop.trips) : ClosedOff (k0_off3 k (BitVec.ofNat 32 0)) := ⟨![512 * k.val + 0, 0], off3_eq k ⟨0, by decide⟩⟩
instance closedOff_off3_1 (k : Fin k0_t3_loop.trips) : ClosedOff (k0_off3 k (BitVec.ofNat 32 1)) := ⟨![512 * k.val + 1, 0], off3_eq k ⟨1, by decide⟩⟩
instance closedOff_off3_2 (k : Fin k0_t3_loop.trips) : ClosedOff (k0_off3 k (BitVec.ofNat 32 2)) := ⟨![512 * k.val + 2, 0], off3_eq k ⟨2, by decide⟩⟩
instance closedOff_off3_3 (k : Fin k0_t3_loop.trips) : ClosedOff (k0_off3 k (BitVec.ofNat 32 3)) := ⟨![512 * k.val + 3, 0], off3_eq k ⟨3, by decide⟩⟩

/-- The rows its keys start at. -/
theorem off4_eq : ∀ k : Fin k0_t3_loop.trips, ∀ (r : Fin 4), k0_off4 k (BitVec.ofNat 32 r.val) = ![512 * (k.val - 1) + r.val, 0] := by decide +kernel
instance closedOff_off4_0 (k : Fin k0_t3_loop.trips) : ClosedOff (k0_off4 k (BitVec.ofNat 32 0)) := ⟨![512 * (k.val - 1) + 0, 0], off4_eq k ⟨0, by decide⟩⟩
instance closedOff_off4_1 (k : Fin k0_t3_loop.trips) : ClosedOff (k0_off4 k (BitVec.ofNat 32 1)) := ⟨![512 * (k.val - 1) + 1, 0], off4_eq k ⟨1, by decide⟩⟩
instance closedOff_off4_2 (k : Fin k0_t3_loop.trips) : ClosedOff (k0_off4 k (BitVec.ofNat 32 2)) := ⟨![512 * (k.val - 1) + 2, 0], off4_eq k ⟨2, by decide⟩⟩
instance closedOff_off4_3 (k : Fin k0_t3_loop.trips) : ClosedOff (k0_off4 k (BitVec.ofNat 32 3)) := ⟨![512 * (k.val - 1) + 3, 0], off4_eq k ⟨3, by decide⟩⟩

/-- The rows the keys of a block of the stride-1 pass start at. -/
theorem off6_eq : ∀ k : Fin k0_t4_loop.trips, ∀ (r : Fin 4), k0_off6 k (BitVec.ofNat 32 (8 * r.val)) = ![128 * (k.val + 8 * r.val - 1), 0] := by decide +kernel
instance closedOff_off6_0 (k : Fin k0_t4_loop.trips) : ClosedOff (k0_off6 k (BitVec.ofNat 32 0)) := ⟨![128 * (k.val + 0 - 1), 0], off6_eq k ⟨0, by decide⟩⟩
instance closedOff_off6_1 (k : Fin k0_t4_loop.trips) : ClosedOff (k0_off6 k (BitVec.ofNat 32 8)) := ⟨![128 * (k.val + 8 - 1), 0], off6_eq k ⟨1, by decide⟩⟩
instance closedOff_off6_2 (k : Fin k0_t4_loop.trips) : ClosedOff (k0_off6 k (BitVec.ofNat 32 16)) := ⟨![128 * (k.val + 16 - 1), 0], off6_eq k ⟨2, by decide⟩⟩
instance closedOff_off6_3 (k : Fin k0_t4_loop.trips) : ClosedOff (k0_off6 k (BitVec.ofNat 32 24)) := ⟨![128 * (k.val + 24 - 1), 0], off6_eq k ⟨3, by decide⟩⟩

end Cert.Proof.KernelIdeal

end
-- ==== Proof.Ideal.Trip3.lean ====
/- One trip of the loop `k0_t3_loop` of the attention gradient. -/
module

public import proofs.«01_k».proof.Proof.Gen.KernelIdeal.Loops
public import proofs.«01_k».proof.Proof.Ideal.Offsets

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What a trip holds: the blocks it reads, and the three accumulators it adds to. -/
abbrev Trip3 (c : Dev nD) (arg1 : Memref sig .tc .vmem S4096x128 .f32) (arg2 : Memref sig .tc .vmem S4096x128 .f32) (arg3 : Memref sig .tc .vmem S4096x128 .f32) (arg5 : Memref sig .tc .vmem S4096x128 .f32) (arg6 : Memref sig .tc .vmem S4096x128 .f32) (arg7 : Memref sig .tc .vmem S4096x128 .f32) (arg11 : Memref sig .tc .vmem S4096x128 .f32) (arg12 : Memref sig .tc .vmem S4096x128 .f32) (arg13 : Memref sig .tc .vmem S4096x128 .f32) (arg14 : Memref sig .tc .vmem S4096x128 .f32) (arg15 : Memref sig .tc .vmem S4096x128 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (f13 : BufTy.Contents (Elt F) arg13.view.ty) (f14 : BufTy.Contents (Elt F) arg14.view.ty) (f15 : BufTy.Contents (Elt F) arg15.view.ty) :
    sProp (MT nD τ sig Unit (Elt F) ℕ (UR sig nD τ) ℕ) :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))

/-- One trip: the accumulators end with the pieces it writes. -/
@[irreducible] def trip3 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (f13 : BufTy.Contents (Elt F) arg13.view.ty) (f14 : BufTy.Contents (Elt F) arg14.view.ty) (f15 : BufTy.Contents (Elt F) arg15.view.ty) (k : Fin k0_t3_loop.trips) :
    Σ' (L13 : List (View.Piece (Elt F) S4096x128 .f32)) (L14 : List (View.Piece (Elt F) S4096x128 .f32)), { L15 : List (View.Piece (Elt F) S4096x128 .f32) // ∀ (E : Set ℕ),
      Trip3 (F := F) c arg1 arg2 arg3 arg5 arg6 arg7 arg11 arg12 arg13 arg14 arg15 X1 X2 X3 X5 X6 X7 X11 X12 f13 f14 f15
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k PUnit.unit)
          (fun _ => Trip3 (F := F) c arg1 arg2 arg3 arg5 arg6 arg7 arg11 arg12 arg13 arg14 arg15 X1 X2 X3 X5 X6 X7 X11 X12 (arg13.view.writes (Elt F) f13 L13) (arg14.view.writes (Elt F) f14 L14) (arg15.view.writes (Elt F) f15 L15)) } := by
  have hk : k.val < 8 := Nat.lt_of_lt_of_le k.isLt k0_t3_abs.2.1
  refine ⟨?_, ?_, ?_, fun E => ?run⟩
  case run =>
    unfold k0_t3_body
    iintro ⟨H1, H2, H3, H5, H6, H7, H11, H12, H13, H14, H15⟩
    sl_exec
    sl_step
    sl_close

end Cert.Proof.KernelIdeal

end
-- ==== Proof.Ideal.Loop3.lean ====
/- The loop `k0_t3_loop` of the attention gradient, by what its accumulators hold before each trip. -/
module

public import proofs.«01_k».proof.Proof.Ideal.Trip3

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The three accumulators after trip `k`, from what they held before it; past the last trip, unchanged. -/
@[irreducible] def next3 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (k : ℕ) (S : BufTy.Contents (Elt F) arg13.view.ty × BufTy.Contents (Elt F) arg14.view.ty × BufTy.Contents (Elt F) arg15.view.ty) : BufTy.Contents (Elt F) arg13.view.ty × BufTy.Contents (Elt F) arg14.view.ty × BufTy.Contents (Elt F) arg15.view.ty :=
  if h : k < k0_t3_loop.trips then
    (arg13.view.writes (Elt F) S.1 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 ⟨k, h⟩).1,
      arg14.view.writes (Elt F) S.2.1 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 ⟨k, h⟩).2.1,
      arg15.view.writes (Elt F) S.2.2 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 ⟨k, h⟩).2.2.1)
  else S

/-- The three accumulators before trip `k`, from what they held when the loop was entered. -/
def acc3 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) : ℕ → BufTy.Contents (Elt F) arg13.view.ty × BufTy.Contents (Elt F) arg14.view.ty × BufTy.Contents (Elt F) arg15.view.ty
  | 0 => (G13, G14, G15)
  | k + 1 => next3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 k (acc3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k)

theorem next3_eq (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (k : Fin k0_t3_loop.trips) (S : BufTy.Contents (Elt F) arg13.view.ty × BufTy.Contents (Elt F) arg14.view.ty × BufTy.Contents (Elt F) arg15.view.ty) :
    next3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 k.val S = (arg13.view.writes (Elt F) S.1 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 k).1,
      arg14.view.writes (Elt F) S.2.1 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 k).2.1,
      arg15.view.writes (Elt F) S.2.2 (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 k).2.2.1) := by
  unfold next3; exact dif_pos k.isLt

/-- The invariant before trip `k`: what the loop reads unchanged, the accumulators at `acc3 k`. -/
abbrev inv3 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) (k : ℕ) (_ : Unit) : sProp (MT nD τ sig Unit (Elt F) ℕ (UR sig nD τ) ℕ) :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg12.view.loc (c : Thread nD τ) ↦[arg12.view.set]{fullShare} X12) ∗ (∃ f13, (arg13.view.loc (c : Thread nD τ) ↦[arg13.view.set]{fullShare} f13) ∗ ⌜f13 = (acc3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).1⌝) ∗ (∃ f14, (arg14.view.loc (c : Thread nD τ) ↦[arg14.view.set]{fullShare} f14) ∗ ⌜f14 = (acc3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).2.1⌝) ∗ (∃ f15, (arg15.view.loc (c : Thread nD τ) ↦[arg15.view.set]{fullShare} f15) ∗ ⌜f15 = (acc3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).2.2⌝))

set_option warn.classDefReducibility false in
/-- The loop, one trip at a time. -/
@[sl_loop] def loopInv_k0_t3 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 where
  inv := inv3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15
  step k acc := by
    iintro ⟨H1, H2, H3, H5, H6, H7, H11, H12, ⟨%f13, H13, %h13⟩, ⟨%f14, H14, %h14⟩, ⟨%f15, H15, %h15⟩⟩
    iapply (wp_wand_r Idealize.ShloMosaic.frame (wpE (defs₀ (F := F)) 𝒱 (c : Thread nD τ) bd) E)
    isplitl [H1 H2 H3 H5 H6 H7 H11 H12 H13 H14 H15]
    · iapply ((trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).2.2.2 E)
      isplitl [H1]; · iexact H1
      isplitl [H2]; · iexact H2
      isplitl [H3]; · iexact H3
      isplitl [H5]; · iexact H5
      isplitl [H6]; · iexact H6
      isplitl [H7]; · iexact H7
      isplitl [H11]; · iexact H11
      isplitl [H12]; · iexact H12
      isplitl [H13]; · iexact H13
      isplitl [H14]; · iexact H14
      iexact H15
    · iintro %_ ⟨H1, H2, H3, H5, H6, H7, H11, H12, H13, H14, H15⟩
      isplitl [H1]; · iexact H1
      isplitl [H2]; · iexact H2
      isplitl [H3]; · iexact H3
      isplitl [H5]; · iexact H5
      isplitl [H6]; · iexact H6
      isplitl [H7]; · iexact H7
      isplitl [H11]; · iexact H11
      isplitl [H12]; · iexact H12
      have hS : acc3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 (k.val + 1) = _ := next3_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 k (acc3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k.val)
      rw [hS]
      subst h13 h14 h15
      isplitl [H13]
      · iexists _; isplitl [H13]; · iexact H13
        ipureintro; rfl
      isplitl [H14]
      · iexists _; isplitl [H14]; · iexact H14
        ipureintro; rfl
      iexists _; isplitl [H15]; · iexact H15
      ipureintro; rfl

end Cert.Proof.KernelIdeal

end
-- ==== Proof.Ideal.Trip4.lean ====
/- One trip of the loop `k0_t4_loop` of the attention gradient. -/
module

public import proofs.«01_k».proof.Proof.Gen.KernelIdeal.Loops
public import proofs.«01_k».proof.Proof.Ideal.Offsets

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What a trip holds: the blocks it reads, and the three accumulators it adds to. -/
abbrev Trip4 (c : Dev nD) (arg1 : Memref sig .tc .vmem S4096x128 .f32) (arg2 : Memref sig .tc .vmem S4096x128 .f32) (arg3 : Memref sig .tc .vmem S4096x128 .f32) (arg5 : Memref sig .tc .vmem S4096x128 .f32) (arg6 : Memref sig .tc .vmem S4096x128 .f32) (arg7 : Memref sig .tc .vmem S4096x128 .f32) (arg11 : Memref sig .tc .vmem S4096x128 .f32) (arg12 : Memref sig .tc .vmem S4096x128 .f32) (arg13 : Memref sig .tc .vmem S4096x128 .f32) (arg14 : Memref sig .tc .vmem S4096x128 .f32) (arg15 : Memref sig .tc .vmem S4096x128 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (f13 : BufTy.Contents (Elt F) arg13.view.ty) (f14 : BufTy.Contents (Elt F) arg14.view.ty) (f15 : BufTy.Contents (Elt F) arg15.view.ty) :
    sProp (MT nD τ sig Unit (Elt F) ℕ (UR sig nD τ) ℕ) :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))

/-- One trip: the accumulators end with the pieces it writes. -/
@[irreducible] def trip4 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (f13 : BufTy.Contents (Elt F) arg13.view.ty) (f14 : BufTy.Contents (Elt F) arg14.view.ty) (f15 : BufTy.Contents (Elt F) arg15.view.ty) (k : Fin k0_t4_loop.trips) :
    Σ' (L13 : List (View.Piece (Elt F) S4096x128 .f32)) (L14 : List (View.Piece (Elt F) S4096x128 .f32)), { L15 : List (View.Piece (Elt F) S4096x128 .f32) // ∀ (E : Set ℕ),
      Trip4 (F := F) c arg1 arg2 arg3 arg5 arg6 arg7 arg11 arg12 arg13 arg14 arg15 X1 X2 X3 X5 X6 X7 X11 X12 f13 f14 f15
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k PUnit.unit)
          (fun _ => Trip4 (F := F) c arg1 arg2 arg3 arg5 arg6 arg7 arg11 arg12 arg13 arg14 arg15 X1 X2 X3 X5 X6 X7 X11 X12 (arg13.view.writes (Elt F) f13 L13) (arg14.view.writes (Elt F) f14 L14) (arg15.view.writes (Elt F) f15 L15)) } := by
  have hk : k.val < 8 := Nat.lt_of_lt_of_le k.isLt k0_t4_abs.2.1
  refine ⟨?_, ?_, ?_, fun E => ?run⟩
  case run =>
    unfold k0_t4_body
    iintro ⟨H1, H2, H3, H5, H6, H7, H11, H12, H13, H14, H15⟩
    sl_exec
    sl_step
    sl_close

end Cert.Proof.KernelIdeal

end
-- ==== Proof.Ideal.Loop4.lean ====
/- The loop `k0_t4_loop` of the attention gradient, by what its accumulators hold before each trip. -/
module

public import proofs.«01_k».proof.Proof.Ideal.Trip4

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The three accumulators after trip `k`, from what they held before it; past the last trip, unchanged. -/
@[irreducible] def next4 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (k : ℕ) (S : BufTy.Contents (Elt F) arg13.view.ty × BufTy.Contents (Elt F) arg14.view.ty × BufTy.Contents (Elt F) arg15.view.ty) : BufTy.Contents (Elt F) arg13.view.ty × BufTy.Contents (Elt F) arg14.view.ty × BufTy.Contents (Elt F) arg15.view.ty :=
  if h : k < k0_t4_loop.trips then
    (arg13.view.writes (Elt F) S.1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 ⟨k, h⟩).1,
      arg14.view.writes (Elt F) S.2.1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 ⟨k, h⟩).2.1,
      arg15.view.writes (Elt F) S.2.2 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 ⟨k, h⟩).2.2.1)
  else S

/-- The three accumulators before trip `k`, from what they held when the loop was entered. -/
def acc4 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) : ℕ → BufTy.Contents (Elt F) arg13.view.ty × BufTy.Contents (Elt F) arg14.view.ty × BufTy.Contents (Elt F) arg15.view.ty
  | 0 => (G13, G14, G15)
  | k + 1 => next4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 k (acc4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k)

theorem next4_eq (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (k : Fin k0_t4_loop.trips) (S : BufTy.Contents (Elt F) arg13.view.ty × BufTy.Contents (Elt F) arg14.view.ty × BufTy.Contents (Elt F) arg15.view.ty) :
    next4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 k.val S = (arg13.view.writes (Elt F) S.1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 k).1,
      arg14.view.writes (Elt F) S.2.1 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 k).2.1,
      arg15.view.writes (Elt F) S.2.2 (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 S.1 S.2.1 S.2.2 k).2.2.1) := by
  unfold next4; exact dif_pos k.isLt

/-- The invariant before trip `k`: what the loop reads unchanged, the accumulators at `acc4 k`. -/
abbrev inv4 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) (k : ℕ) (_ : Unit) : sProp (MT nD τ sig Unit (Elt F) ℕ (UR sig nD τ) ℕ) :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg12.view.loc (c : Thread nD τ) ↦[arg12.view.set]{fullShare} X12) ∗ (∃ f13, (arg13.view.loc (c : Thread nD τ) ↦[arg13.view.set]{fullShare} f13) ∗ ⌜f13 = (acc4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).1⌝) ∗ (∃ f14, (arg14.view.loc (c : Thread nD τ) ↦[arg14.view.set]{fullShare} f14) ∗ ⌜f14 = (acc4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).2.1⌝) ∗ (∃ f15, (arg15.view.loc (c : Thread nD τ) ↦[arg15.view.set]{fullShare} f15) ∗ ⌜f15 = (acc4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).2.2⌝))

set_option warn.classDefReducibility false in
/-- The loop, one trip at a time. -/
@[sl_loop] def loopInv_k0_t4 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 where
  inv := inv4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15
  step k acc := by
    iintro ⟨H1, H2, H3, H5, H6, H7, H11, H12, ⟨%f13, H13, %h13⟩, ⟨%f14, H14, %h14⟩, ⟨%f15, H15, %h15⟩⟩
    iapply (wp_wand_r Idealize.ShloMosaic.frame (wpE (defs₀ (F := F)) 𝒱 (c : Thread nD τ) bd) E)
    isplitl [H1 H2 H3 H5 H6 H7 H11 H12 H13 H14 H15]
    · iapply ((trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).2.2.2 E)
      isplitl [H1]; · iexact H1
      isplitl [H2]; · iexact H2
      isplitl [H3]; · iexact H3
      isplitl [H5]; · iexact H5
      isplitl [H6]; · iexact H6
      isplitl [H7]; · iexact H7
      isplitl [H11]; · iexact H11
      isplitl [H12]; · iexact H12
      isplitl [H13]; · iexact H13
      isplitl [H14]; · iexact H14
      iexact H15
    · iintro %_ ⟨H1, H2, H3, H5, H6, H7, H11, H12, H13, H14, H15⟩
      isplitl [H1]; · iexact H1
      isplitl [H2]; · iexact H2
      isplitl [H3]; · iexact H3
      isplitl [H5]; · iexact H5
      isplitl [H6]; · iexact H6
      isplitl [H7]; · iexact H7
      isplitl [H11]; · iexact H11
      isplitl [H12]; · iexact H12
      have hS : acc4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 (k.val + 1) = _ := next4_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 k (acc4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k.val)
      rw [hS]
      subst h13 h14 h15
      isplitl [H13]
      · iexists _; isplitl [H13]; · iexact H13
        ipureintro; rfl
      isplitl [H14]
      · iexists _; isplitl [H14]; · iexact H14
        ipureintro; rfl
      iexists _; isplitl [H15]; · iexact H15
      ipureintro; rfl

end Cert.Proof.KernelIdeal

end
-- ==== Proof.Ideal.Body.lean ====
/- The body of the attention gradient, through its five loops. -/
module

public import proofs.«01_k».proof.Proof.Ideal.Loop2
public import proofs.«01_k».proof.Proof.Ideal.Loop3
public import proofs.«01_k».proof.Proof.Ideal.Loop4

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The body, run: the inputs' buffers as they were, the results' buffers at contents found by the run, the scratch at some contents. -/
@[irreducible] def bodyRun (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) :
    Σ' (O8 : BufTy.Contents (Elt F) arg8.view.ty) (O9 : BufTy.Contents (Elt F) arg9.view.ty), { O10 : BufTy.Contents (Elt F) arg10.view.ty // ∀ (E : Set ℕ),
      (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp (MT nD τ sig Unit (Elt F) ℕ (UR sig nD τ) ℕ))
      ⊢ wp frame (wpE (defs₀ (F := F)) Variants.none (c : Thread nD τ) none) E (cc0_attn_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} O8) ∗ (arg9.view.loc (c : Thread nD τ) ↦[arg9.view.set]{fullShare} O9) ∗ (arg10.view.loc (c : Thread nD τ) ↦[arg10.view.set]{fullShare} O10) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)))) } := by
  refine ⟨?_, ?_, ?_, fun E => ?run⟩
  case run =>
    simp only [cc0_attn_bwd_eq_skeleton]; unfold cc0_attn_bwd_skel
    iintro ⟨H1, H2, H3, H4, H5, H6, H7, H8, H9, H10, H11, H12, H13, H14, H15⟩
    sl_exec
    sl_step

    sl_close

end Cert.Proof.KernelIdeal

end
-- ==== Proof.Ideal.Launch.lean ====
/- The launch of the attention gradient: the pipeline around its body, and what the run leaves unchanged. -/
module

public import proofs.«01_k».proof.Proof.Ideal.Body
public import proofs.«01_k».proof.Proof.Gen.KernelIdeal.Frame
public import Idealize.ShloMosaic.Lib.Claim

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation BodyObligationLoose cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The body's triple -/

/-- What the body leaves in the results' buffers, whatever they and the scratch held, when the inputs' buffers read as `x1`, …, `x7`. -/
def Leaves (c : Dev nD) (i : grid0.Coords) (x1 x2 x3 x4 x5 x6 x7 : Vec F S4096x128 .f32) (y8 y9 y10 : Vec F S4096x128 .bf16) : Prop :=
  ∃ (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty),
    arg1.view.read (Elt F) X1 = x1 ∧ arg2.view.read (Elt F) X2 = x2 ∧ arg3.view.read (Elt F) X3 = x3 ∧ arg4.view.read (Elt F) X4 = x4 ∧ arg5.view.read (Elt F) X5 = x5 ∧ arg6.view.read (Elt F) X6 = x6 ∧ arg7.view.read (Elt F) X7 = x7
    ∧ y8 = arg8.view.read (Elt F) (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 f8 f9 f10 f11 f12 f13 f14 f15).1 ∧ y9 = arg9.view.read (Elt F) (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 f8 f9 f10 f11 f12 f13 f14 f15).2.1 ∧ y10 = arg10.view.read (Elt F) (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 f8 f9 f10 f11 f12 f13 f14 f15).2.2.1

set_option maxHeartbeats 4000000 in
/-- The body on whole memrefs: the inputs' buffers as they were, the results' at what `Leaves` says, the scratch at some contents. -/
theorem sound_kernel (c : Dev nD) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole)
    (x1 x2 x3 x4 x5 x6 x7 : Vec F S4096x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ y8 y9 y10, ⌜Leaves c i x1 x2 x3 x4 x5 x6 x7 y8 y9 y10⌝ ∗ owns (c : Thread nD τ) arg8 fullShare y8 ∗ owns (c : Thread nD τ) arg9 fullShare y9 ∗ owns (c : Thread nD τ) arg10 fullShare y10) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none (c : Thread nD τ) none) E (cc0_attn_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%X1, %h1, H1⟩, ⟨%X2, %h2, H2⟩, ⟨%X3, %h3, H3⟩, ⟨%X4, %h4, H4⟩, ⟨%X5, %h5, H5⟩, ⟨%X6, %h6, H6⟩, ⟨%X7, %h7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  iapply (wp_wand_r Idealize.ShloMosaic.frame (wpE (defs₀ (F := F)) Variants.none (c : Thread nD τ) none) E)
  isplitl [H1 H2 H3 H4 H5 H6 H7 H8 H9 H10 H11 H12 H13 H14 H15]
  · iapply ((bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 f8 f9 f10 f11 f12 f13 f14 f15).2.2.2 E)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iintro %_ ⟨H1, H2, H3, H4, H5, H6, H7, H8, H9, H10, ⟨%g11, H11⟩, ⟨%g12, H12⟩, ⟨%g13, H13⟩, ⟨%g14, H14⟩, ⟨%g15, H15⟩⟩
    iapply Hk
    isplitl [H1]
    · iexists X1; isplitr; · ipureintro; exact h1
      iexact H1
    isplitl [H2]
    · iexists X2; isplitr; · ipureintro; exact h2
      iexact H2
    isplitl [H3]
    · iexists X3; isplitr; · ipureintro; exact h3
      iexact H3
    isplitl [H4]
    · iexists X4; isplitr; · ipureintro; exact h4
      iexact H4
    isplitl [H5]
    · iexists X5; isplitr; · ipureintro; exact h5
      iexact H5
    isplitl [H6]
    · iexists X6; isplitr; · ipureintro; exact h6
      iexact H6
    isplitl [H7]
    · iexists X7; isplitr; · ipureintro; exact h7
      iexact H7
    isplitl [H8 H9 H10]
    · iexists _, _, _; isplitr
      · ipureintro; exact ⟨arg1, harg1, arg2, harg2, arg3, harg3, arg4, harg4, arg5, harg5, arg6, harg6, arg7, harg7, arg8, harg8, arg9, harg9, arg10, harg10, arg11, harg11, arg12, harg12, arg13, harg13, arg14, harg14, arg15, harg15, X1, X2, X3, X4, X5, X6, X7, f8, f9, f10, f11, f12, f13, f14, f15, h1, h2, h3, h4, h5, h6, h7, rfl, rfl, rfl⟩
      isplitl [H8]; · iexists _; isplitr; · ipureintro; rfl
                      iexact H8
      isplitl [H9]; · iexists _; isplitr; · ipureintro; rfl
                      iexact H9
      iexists _; isplitr; · ipureintro; rfl
      iexact H10
    isplitl [H11]; · iexists _, g11; isplitr; · ipureintro; rfl
                     iexact H11
    isplitl [H12]; · iexists _, g12; isplitr; · ipureintro; rfl
                     iexact H12
    isplitl [H13]; · iexists _, g13; isplitr; · ipureintro; rfl
                     iexact H13
    isplitl [H14]; · iexists _, g14; isplitr; · ipureintro; rfl
                     iexact H14
    iexists _, g15; isplitr; · ipureintro; rfl
    iexact H15

/-! ## The pipeline's proof data -/

variable (m : (ℓ : Loc nD τ sig) → Buf (Elt F) ℓ) (ρ : Dev nD → PrngReg)
variable (O7 O8 O9 : Dev nD → Fin cfg0.N → Vec F S4096x128 .bf16)

/-- The proof data: the arrays as the region finds them, each input's buffer at its block after the body, the results' at `O7`, `O8`, `O9`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => O7 c t
    | ⟨8, _⟩ => O8 c t
    | ⟨9, _⟩ => O9 c t
  Φ _ := Pipeline.ΦA spec0 c
  q w := Pipeline.shareOf spec0 w
  owed _ := 0

theorem A_eq (c : Dev nD) (w : Fin cfg0.W) : (dats m O7 O8 O9 0 c).A w = V m c (Pipeline.arrRef spec0 w) := by
  dsimp only [dats]

theorem after0_0 (c : Dev nD) (t : Fin cfg0.N) : (dats m O7 O8 O9 0 c).after 0 t = iblk m c 0 t := by dsimp only [dats]
theorem after0_1 (c : Dev nD) (t : Fin cfg0.N) : (dats m O7 O8 O9 0 c).after 1 t = iblk m c 1 t := by dsimp only [dats]
theorem after0_2 (c : Dev nD) (t : Fin cfg0.N) : (dats m O7 O8 O9 0 c).after 2 t = iblk m c 2 t := by dsimp only [dats]
theorem after0_3 (c : Dev nD) (t : Fin cfg0.N) : (dats m O7 O8 O9 0 c).after 3 t = iblk m c 3 t := by dsimp only [dats]
theorem after0_4 (c : Dev nD) (t : Fin cfg0.N) : (dats m O7 O8 O9 0 c).after 4 t = iblk m c 4 t := by dsimp only [dats]
theorem after0_5 (c : Dev nD) (t : Fin cfg0.N) : (dats m O7 O8 O9 0 c).after 5 t = iblk m c 5 t := by dsimp only [dats]
theorem after0_6 (c : Dev nD) (t : Fin cfg0.N) : (dats m O7 O8 O9 0 c).after 6 t = iblk m c 6 t := by dsimp only [dats]
theorem after0_7 (c : Dev nD) (t : Fin cfg0.N) : (dats m O7 O8 O9 0 c).after 7 t = O7 c t := by dsimp only [dats]
theorem after0_8 (c : Dev nD) (t : Fin cfg0.N) : (dats m O7 O8 O9 0 c).after 8 t = O8 c t := by dsimp only [dats]
theorem after0_9 (c : Dev nD) (t : Fin cfg0.N) : (dats m O7 O8 O9 0 c).after 9 t = O9 c t := by dsimp only [dats]
theorem before0_0 (c : Dev nD) (t : Fin cfg0.N) (d) : (dats m O7 O8 O9 0 c).before 0 t d = iblk m c 0 t :=
  before0_0_of m (dats m O7 O8 O9 0 c) (A_eq m O7 O8 O9 c 0) (after0_0 m O7 O8 O9 c) t d
theorem before0_1 (c : Dev nD) (t : Fin cfg0.N) (d) : (dats m O7 O8 O9 0 c).before 1 t d = iblk m c 1 t :=
  before0_1_of m (dats m O7 O8 O9 0 c) (A_eq m O7 O8 O9 c 1) (after0_1 m O7 O8 O9 c) t d
theorem before0_2 (c : Dev nD) (t : Fin cfg0.N) (d) : (dats m O7 O8 O9 0 c).before 2 t d = iblk m c 2 t :=
  before0_2_of m (dats m O7 O8 O9 0 c) (A_eq m O7 O8 O9 c 2) (after0_2 m O7 O8 O9 c) t d
theorem before0_3 (c : Dev nD) (t : Fin cfg0.N) (d) : (dats m O7 O8 O9 0 c).before 3 t d = iblk m c 3 t :=
  before0_3_of m (dats m O7 O8 O9 0 c) (A_eq m O7 O8 O9 c 3) (after0_3 m O7 O8 O9 c) t d
theorem before0_4 (c : Dev nD) (t : Fin cfg0.N) (d) : (dats m O7 O8 O9 0 c).before 4 t d = iblk m c 4 t :=
  before0_4_of m (dats m O7 O8 O9 0 c) (A_eq m O7 O8 O9 c 4) (after0_4 m O7 O8 O9 c) t d
theorem before0_5 (c : Dev nD) (t : Fin cfg0.N) (d) : (dats m O7 O8 O9 0 c).before 5 t d = iblk m c 5 t :=
  before0_5_of m (dats m O7 O8 O9 0 c) (A_eq m O7 O8 O9 c 5) (after0_5 m O7 O8 O9 c) t d
theorem before0_6 (c : Dev nD) (t : Fin cfg0.N) (d) : (dats m O7 O8 O9 0 c).before 6 t d = iblk m c 6 t :=
  before0_6_of m (dats m O7 O8 O9 0 c) (A_eq m O7 O8 O9 c 6) (after0_6 m O7 O8 O9 c) t d

/-! ## The body at a point -/

/-- The scratch as the memrefs the body is called with. -/
theorem scratch_eq (c : Dev nD) : (Pipeline.scopedRest (Ix := Unit) (Name := ℕ) (U := UR sig nD τ) (Lvl := ℕ) (Val := Elt F) spec0 c : sProp 𝕄)
    = iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) := by
  rw [scopedRest0_eq]
  simp only [owns_whole]
  try rfl

/-- What the body is called with at point `t`, -/
def bodyPre (c : Dev nD) (t : Fin cfg0.N) : sProp 𝕄 :=
  iprop((dats m O7 O8 O9 0 c).Φ t.castSucc ∗ (dats m O7 O8 O9 0 c).owesAt () t.castSucc
    ∗ (∃ d, owns (c : Thread nD τ) (st0_0 t) fullShare ((dats m O7 O8 O9 0 c).before 0 t d))
    ∗ (∃ d, owns (c : Thread nD τ) (st0_1 t) fullShare ((dats m O7 O8 O9 0 c).before 1 t d))
    ∗ (∃ d, owns (c : Thread nD τ) (st0_2 t) fullShare ((dats m O7 O8 O9 0 c).before 2 t d))
    ∗ (∃ d, owns (c : Thread nD τ) (st0_3 t) fullShare ((dats m O7 O8 O9 0 c).before 3 t d))
    ∗ (∃ d, owns (c : Thread nD τ) (st0_4 t) fullShare ((dats m O7 O8 O9 0 c).before 4 t d))
    ∗ (∃ d, owns (c : Thread nD τ) (st0_5 t) fullShare ((dats m O7 O8 O9 0 c).before 5 t d))
    ∗ (∃ d, owns (c : Thread nD τ) (st0_6 t) fullShare ((dats m O7 O8 O9 0 c).before 6 t d))
    ∗ (∃ X, owns (c : Thread nD τ) (st0_7 t) fullShare X)
    ∗ (∃ X, owns (c : Thread nD τ) (st0_8 t) fullShare X)
    ∗ (∃ X, owns (c : Thread nD τ) (st0_9 t) fullShare X))

/-- and what it returns, the results' buffers as `Leaves` says. -/
def bodyPost (c : Dev nD) (t : Fin cfg0.N) : sProp 𝕄 :=
  iprop((dats m O7 O8 O9 0 c).Φ t.succ ∗ (dats m O7 O8 O9 0 c).owesAt () t.succ
    ∗ owns (c : Thread nD τ) (st0_0 t) fullShare ((dats m O7 O8 O9 0 c).after 0 t)
    ∗ owns (c : Thread nD τ) (st0_1 t) fullShare ((dats m O7 O8 O9 0 c).after 1 t)
    ∗ owns (c : Thread nD τ) (st0_2 t) fullShare ((dats m O7 O8 O9 0 c).after 2 t)
    ∗ owns (c : Thread nD τ) (st0_3 t) fullShare ((dats m O7 O8 O9 0 c).after 3 t)
    ∗ owns (c : Thread nD τ) (st0_4 t) fullShare ((dats m O7 O8 O9 0 c).after 4 t)
    ∗ owns (c : Thread nD τ) (st0_5 t) fullShare ((dats m O7 O8 O9 0 c).after 5 t)
    ∗ owns (c : Thread nD τ) (st0_6 t) fullShare ((dats m O7 O8 O9 0 c).after 6 t)
    ∗ (∃ y8 y9 y10, ⌜Leaves c (grid0.coords t) (iblk m c 0 t) (iblk m c 1 t) (iblk m c 2 t) (iblk m c 3 t) (iblk m c 4 t) (iblk m c 5 t) (iblk m c 6 t) y8 y9 y10⌝ ∗ owns (c : Thread nD τ) (st0_7 t) fullShare y8 ∗ owns (c : Thread nD τ) (st0_8 t) fullShare y9 ∗ owns (c : Thread nD τ) (st0_9 t) fullShare y10))

/-- The body at any point. -/
theorem sound_body (c : Dev nD) (t : Fin cfg0.N) :
    bodyPre m O7 O8 O9 c t ⊢ wp frame (wpE (defs₀ (F := F)) Variants.none c none) Set.univ (bodyAt0 t) (fun _ => bodyPost m O7 O8 O9 c t) := by
  unfold bodyPre bodyPost bodyAt0
  simp only [before0_0, before0_1, before0_2, before0_3, before0_4, before0_5, before0_6]
  rw [show (dats m O7 O8 O9 0 c).Φ t.succ = Pipeline.ΦA spec0 c from rfl, show (dats m O7 O8 O9 0 c).Φ t.castSucc = Pipeline.ΦA spec0 c from rfl,
    show (dats m O7 O8 O9 0 c).owesAt () t.succ = (dats m O7 O8 O9 0 c).owesAt () t.castSucc from rfl,
    after0_0, after0_1, after0_2, after0_3, after0_4, after0_5, after0_6]
  unfold Pipeline.ΦA
  rw [scratch_eq]
  iintro ⟨⟨⟨HS0, HS1, HS2, HS3, HS4⟩, HP⟩, Ho, ⟨%d0, H0⟩, ⟨%d1, H1⟩, ⟨%d2, H2⟩, ⟨%d3, H3⟩, ⟨%d4, H4⟩, ⟨%d5, H5⟩, ⟨%d6, H6⟩, H7, H8, H9⟩
  iapply (sound_kernel c Set.univ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HO, HS0, HS1, HS2, HS3, HS4⟩
  isplitl [HS0 HS1 HS2 HS3 HS4 HP]
  · isplitl [HS0 HS1 HS2 HS3 HS4]
    · isplitl [HS0]; · iexact HS0
      isplitl [HS1]; · iexact HS1
      isplitl [HS2]; · iexact HS2
      isplitl [HS3]; · iexact HS3
      iexact HS4
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HO

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-! ## The run that names the inputs only -/

/-- The windows whose contents this run leaves unnamed: the results'. -/
def unnamedW (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true

/-- What it returns, the results' buffers at anything. -/
def bodyPostAny (c : Dev nD) (t : Fin cfg0.N) : sProp 𝕄 :=
  iprop((dats m O7 O8 O9 0 c).Φ t.succ ∗ (dats m O7 O8 O9 0 c).owesAt () t.succ
    ∗ owns (c : Thread nD τ) (st0_0 t) fullShare ((dats m O7 O8 O9 0 c).after 0 t)
    ∗ owns (c : Thread nD τ) (st0_1 t) fullShare ((dats m O7 O8 O9 0 c).after 1 t)
    ∗ owns (c : Thread nD τ) (st0_2 t) fullShare ((dats m O7 O8 O9 0 c).after 2 t)
    ∗ owns (c : Thread nD τ) (st0_3 t) fullShare ((dats m O7 O8 O9 0 c).after 3 t)
    ∗ owns (c : Thread nD τ) (st0_4 t) fullShare ((dats m O7 O8 O9 0 c).after 4 t)
    ∗ owns (c : Thread nD τ) (st0_5 t) fullShare ((dats m O7 O8 O9 0 c).after 5 t)
    ∗ owns (c : Thread nD τ) (st0_6 t) fullShare ((dats m O7 O8 O9 0 c).after 6 t)
    ∗ (∃ X, owns (c : Thread nD τ) (st0_7 t) fullShare X)
    ∗ (∃ X, owns (c : Thread nD τ) (st0_8 t) fullShare X)
    ∗ (∃ X, owns (c : Thread nD τ) (st0_9 t) fullShare X))

theorem sound_body_any (c : Dev nD) (t : Fin cfg0.N) :
    bodyPre m O7 O8 O9 c t ⊢ wp frame (wpE (defs₀ (F := F)) Variants.none c none) Set.univ (bodyAt0 t) (fun _ => bodyPostAny m O7 O8 O9 c t) := by
  refine (sound_body m O7 O8 O9 c t).trans (wp_mono Idealize.ShloMosaic.frame _ _ fun _ => ?_)
  unfold bodyPost bodyPostAny
  iintro ⟨HΦ, Ho, H0, H1, H2, H3, H4, H5, H6, ⟨%y8, %y9, %y10, -, H7, H8, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iexists _; iexact H9

theorem body_obligation_any (c : Dev nD) : BodyObligationLoose (dats (F := F) m O7 O8 O9 0 c) (defs₀ (F := F)) Variants.none () Set.univ unnamedW := fun t => by
  rw [bigSep_W0, bigSep_W0, defs₀_row]
  exact triple_restated (sound_body_any m O7 O8 O9 c t) rfl .rfl fun _ => .rfl

set_option backward.isDefEq.respectTransparency.types false in
/-- The launch: every array of an input as the region found it, every other buffer that is no result's too, and every counter at zero. -/
theorem run_main_any : θ_run defs (onTc (τ := τ) (main (F := F))) (s₀ m ρ) (fun r => (Pipeline.RDat.FramePost cfg0 (fun c => (dats m O7 O8 O9 0 c).toRForget unnamedW) (V m)) r ∧ r.2.sem = fun _ => 0) :=
  Pipeline.θ_run_frame_forget_shared (Q' := _) cfgs (dats m O7 O8 O9) (0 : Fin 1) launch₀0 defs₀ Variants.none unnamedW m ρ main
    (hbody := fun c => body_obligation_any m O7 O8 O9 c) (hq := fun _ _ _ => rfl)
    (howed := fun _ _ => rfl) (V := V m) (hmain := hmain m Variants.none) (hA := A_eq m O7 O8 O9) (hΦ := fun _ _ => rfl)

/-- Some contents of a result's buffer, of which nothing is said. -/
def anyO (_ : Dev nD) (_ : Fin cfg0.N) : Vec F S4096x128 .bf16 := fun _ => Classical.choice ((inferInstance : ∀ e, Nonempty (Elt F e)) .bf16)

/-- The frame: the arguments end unchanged and the counters at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(Pipeline.RDat.FramePost.arr_in h.1 c 2 rfl).trans ((A_eq m anyO anyO anyO c 2).trans (V_main_arg0 m c)),
      (Pipeline.RDat.FramePost.arr_in h.1 c 6 rfl).trans ((A_eq m anyO anyO anyO c 6).trans (V_main_arg1 m c))⟩, h.2⟩)
    (run_main_any m ρ anyO anyO anyO)

end Cert.Proof.KernelIdeal

end
-- ==== Proof.Bits.Body.lean ====
/- The body of the attention gradient, through its five loops. -/
module

public import proofs.«01_k».proof.Proof.Bits.Loop2
public import proofs.«01_k».proof.Proof.Bits.Loop3
public import proofs.«01_k».proof.Proof.Bits.Loop4

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The body, run: the inputs' buffers as they were, the results' buffers at contents found by the run, the scratch at some contents. -/
@[irreducible] def bodyRun (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) :
    Σ' (O8 : BufTy.Contents (Elt F) arg8.view.ty) (O9 : BufTy.Contents (Elt F) arg9.view.ty), { O10 : BufTy.Contents (Elt F) arg10.view.ty // ∀ (E : Set ℕ),
      (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp (MT nD τ sig Unit (Elt F) ℕ (UR sig nD τ) ℕ))
      ⊢ wp frame (wpE (defs₀ (F := F)) Variants.none (c : Thread nD τ) none) E (cc0_attn_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} O8) ∗ (arg9.view.loc (c : Thread nD τ) ↦[arg9.view.set]{fullShare} O9) ∗ (arg10.view.loc (c : Thread nD τ) ↦[arg10.view.set]{fullShare} O10) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)))) } := by
  refine ⟨?_, ?_, ?_, fun E => ?run⟩
  case run =>
    simp only [cc0_attn_bwd_eq_skeleton]; unfold cc0_attn_bwd_skel
    iintro ⟨H1, H2, H3, H4, H5, H6, H7, H8, H9, H10, H11, H12, H13, H14, H15⟩
    sl_exec
    sl_step

    sl_close

end Cert.Proof.Kernel

end
-- ==== Proof.Value.Real.lean ====
/- One block of the attention gradient over the reals: two heads of 64 lanes stacked over `n` query rows each. -/
module

public import proofs.«01_k».proof.Proof.Gen.KernelIdeal.Loops
public import Idealize.ShloMosaic.Lib.Pointwise

@[expose] public section

set_option maxRecDepth 16384
set_option maxHeartbeats 4000000

noncomputable section

namespace Cert.Proof.Value

open Cert.KernelIdeal Cert.KernelIdeal.Gen
open Idealize.ShloMosaic Idealize.ShloMosaic.TcCoe Idealize.ShloMosaic.Tactic

/-- A block's rows stacked for the two heads: row `R` is row `R % n` of head `R / n`, zero on the other head's lanes. -/
def hd (n : ℕ) (x : ℕ → ℕ → ℝ) (R e : ℕ) : ℝ := if e / 64 = R / n then x (R % n) e else 0

/-- Stacked rows against a block of keys. -/
def bS (n : ℕ) (x y : ℕ → ℕ → ℝ) (R c : ℕ) : ℝ := ∑ e : Fin 128, hd n x R e.val * y c e.val

/-- The weights: zero off the mask. -/
def bP (n : ℕ) (val : ℕ → ℕ → Prop) [∀ r c, Decidable (val r c)] (q k l : ℕ → ℕ → ℝ) (R c : ℕ) : ℝ :=
  if val (R % n) c then Real.exp (bS n (fun r e => q r e * 0.125) k R c - l (R / n) (R % n)) else 0

/-- The scores' gradient. -/
def bDS (n : ℕ) (val : ℕ → ℕ → Prop) [∀ r c, Decidable (val r c)] (q k v g l d : ℕ → ℕ → ℝ) (R c : ℕ) : ℝ :=
  bP n val q k l R c * (bS n g v R c - d (R / n) (R % n)) * 0.125

/-- `0.125`, by its bits. -/
theorem ofBits_eighth : Ideal.ofBits .f32 0x3E000000#32 = ((0.125 : ℝ) : EReal) := by
  simp [Ideal.ofBits, Ideal.ieee, -EReal.coe_mul]; norm_num

/-- Whether a lane belongs to the first head, as the comparison's bit. -/
theorem lane_lt (e : Fin 128) : (BitVec.ofNat 32 e.val).slt 64#32 = decide (e.val / 64 = 0) := by
  revert e; decide +kernel

theorem lane_select {α : Type} (e : Fin 128) (a b : α) :
    Scalar.select (IntOp.cmpi .slt (BitVec.ofNat 32 e.val) 64#32) a b = if e.val / 64 = 0 then a else b := by
  have h := lane_lt e
  by_cases he : e.val / 64 = 0
  · rw [if_pos he]; rw [he] at h; simp only [decide_true] at h
    show Scalar.select (BitVec.ofBool ((BitVec.ofNat 32 e.val).slt 64#32)) a b = a
    rw [h]; rfl
  · rw [if_neg he]
    show Scalar.select (BitVec.ofBool ((BitVec.ofNat 32 e.val).slt 64#32)) a b = b
    rw [h, decide_eq_false he]; rfl

theorem select_one {α : Type} (a b : α) : Scalar.select 1#1 a b = a := rfl
theorem select_zero {α : Type} (a b : α) : Scalar.select 0#1 a b = b := rfl

theorem toReal_sum {ι : Type} [Fintype ι] (f : ι → ℝ) : (∑ i, ((f i : ℝ) : EReal)) = ((∑ i, f i : ℝ) : EReal) :=
  (map_sum (⟨⟨Real.toEReal, EReal.coe_zero⟩, EReal.coe_add⟩ : ℝ →+ EReal) f Finset.univ).symm

end Cert.Proof.Value

end
-- ==== Proof.Value.Attend.lean ====
/- One attention pattern's gradient over the reals, and a block of it. -/
module

public import proofs.«01_k».proof.Proof.Value.Real

@[expose] public section

set_option maxHeartbeats 4000000

noncomputable section

namespace Cert.Proof.Value

open Idealize.ShloMosaic

/-- The product of two rows over the lanes of head `a`. -/
def dotp (a : ℕ) (x y : ℕ → ℝ) : ℝ := ∑ e : Fin 128, if e.val / 64 = a then x e.val * y e.val else 0

/-- Whether a query at `t` sees a key at `j` in the pattern of stride `d`: not in the future, at most `128 * d` back,
and in the same residue class. -/
abbrev Sees (d t j : ℕ) : Prop := j ≤ t ∧ t ≤ j + 128 * d ∧ t % d = j % d

/-- The pattern's weights, from the scores and their saved log-sums. -/
def wt (d : ℕ) (q k l : ℕ → ℕ → ℝ) (a t j : ℕ) : ℝ :=
  if Sees d t j then Real.exp (dotp a (fun e => q t e * 0.125) (k j) - l a t) else 0

/-- The gradient of the pattern's scores. -/
def ds (d : ℕ) (q k v g l dd : ℕ → ℕ → ℝ) (a t j : ℕ) : ℝ :=
  wt d q k l a t j * (dotp a (g t) (v j) - dd a t) * 0.125

theorem bS_eq (n : ℕ) (x y : ℕ → ℕ → ℝ) (a r c : ℕ) (hr : r < n) : bS n x y (n * a + r) c = dotp a (x r) (y c) := by
  have h1 : (n * a + r) / n = a := by rw [Nat.mul_add_div (by omega), Nat.div_eq_of_lt hr, Nat.add_zero]
  have h2 : (n * a + r) % n = r := by rw [Nat.mul_add_mod, Nat.mod_eq_of_lt hr]
  unfold bS dotp hd
  rw [h1, h2]
  refine Finset.sum_congr rfl fun e _ => ?_
  by_cases h : e.val / 64 = a <;> simp [h]

theorem bP_eq (n d : ℕ) (val : ℕ → ℕ → Prop) [∀ r c, Decidable (val r c)] (q k l : ℕ → ℕ → ℝ) (row col : ℕ → ℕ) (a r c : ℕ) (hr : r < n)
    (hval : val r c ↔ Sees d (row r) (col c)) :
    bP n val (fun r => q (row r)) (fun c => k (col c)) (fun a r => l a (row r)) (n * a + r) c = wt d q k l a (row r) (col c) := by
  have h1 : (n * a + r) / n = a := by rw [Nat.mul_add_div (by omega), Nat.div_eq_of_lt hr, Nat.add_zero]
  have h2 : (n * a + r) % n = r := by rw [Nat.mul_add_mod, Nat.mod_eq_of_lt hr]
  unfold bP wt
  rw [bS_eq n _ _ a r c hr, h1, h2]
  by_cases h : val r c
  · rw [if_pos h, if_pos (hval.mp h)]
  · rw [if_neg h, if_neg (fun h' => h (hval.mpr h'))]

theorem bDS_eq (n d : ℕ) (val : ℕ → ℕ → Prop) [∀ r c, Decidable (val r c)] (q k v g l dd : ℕ → ℕ → ℝ) (row col : ℕ → ℕ) (a r c : ℕ) (hr : r < n)
    (hval : val r c ↔ Sees d (row r) (col c)) :
    bDS n val (fun r => q (row r)) (fun c => k (col c)) (fun c => v (col c)) (fun r => g (row r)) (fun a r => l a (row r))
      (fun a r => dd a (row r)) (n * a + r) c = ds d q k v g l dd a (row r) (col c) := by
  have h1 : (n * a + r) / n = a := by rw [Nat.mul_add_div (by omega), Nat.div_eq_of_lt hr, Nat.add_zero]
  have h2 : (n * a + r) % n = r := by rw [Nat.mul_add_mod, Nat.mod_eq_of_lt hr]
  unfold bDS ds
  rw [bP_eq n d val q k l row col a r c hr hval, bS_eq n _ _ a r c hr, h1, h2]

theorem wt_eq_zero {d : ℕ} (q k l : ℕ → ℕ → ℝ) (a : ℕ) {t j : ℕ} (h : ¬ Sees d t j) : wt d q k l a t j = 0 := if_neg h

theorem ds_eq_zero {d : ℕ} (q k v g l dd : ℕ → ℕ → ℝ) (a : ℕ) {t j : ℕ} (h : ¬ Sees d t j) : ds d q k v g l dd a t j = 0 := by
  unfold ds; rw [wt_eq_zero q k l a h]; simp

/-- A sum over a block of equally spaced rows is the sum over every row, when the rows left out give zero. -/
theorem sum_block (n b s : ℕ) (f g : ℕ → ℝ) (hs : 0 < s) (hb : ∀ c < n, b + s * c < 4096) (hfg : ∀ c < n, f c = g (b + s * c))
    (hz : ∀ j < 4096, g j ≠ 0 → ∃ c < n, j = b + s * c) : ∑ c : Fin n, f c.val = ∑ j ∈ Finset.range 4096, g j := by
  rw [← Fin.sum_univ_eq_sum_range]
  symm
  refine (Finset.sum_of_injOn (fun c : Fin n => (⟨b + s * c.val, hb c.val c.isLt⟩ : Fin 4096)) ?_ ?_ ?_ ?_).symm
  · intro x _ y _ h
    have := congrArg Fin.val h
    simp only at this
    exact Fin.ext (Nat.eq_of_mul_eq_mul_left hs (by omega))
  · intro x _; simp
  · intro j _ hj
    by_contra h0
    obtain ⟨c, hc, he⟩ := hz j.val j.isLt h0
    exact hj ⟨⟨c, hc⟩, by simp, Fin.ext (by simp [he])⟩
  · intro c _; exact hfg c.val c.isLt

/-- Stacked rows against one lane: the rows of the lane's own head. -/
theorem sum_hd (n : ℕ) (f : ℕ → ℝ) (x : ℕ → ℕ → ℝ) (e : ℕ) (he : e < 128) (hn : 0 < n) :
    ∑ R : Fin (2 * n), f R.val * hd n x R.val e = ∑ r : Fin n, f (n * (e / 64) + r.val) * x r.val e := by
  have ha : e / 64 = 0 ∨ e / 64 = 1 := by omega
  symm
  refine Finset.sum_of_injOn (fun r : Fin n => (⟨n * (e / 64) + r.val, by rcases ha with h | h <;> rw [h] <;> omega⟩ : Fin (2 * n))) ?_ ?_ ?_ ?_
  · intro x _ y _ h
    have := congrArg Fin.val h
    simp only at this
    exact Fin.ext (by omega)
  · intro x _; simp
  · intro R _ hR
    have : ¬ e / 64 = R.val / n := by
      intro h
      refine hR ⟨⟨R.val % n, Nat.mod_lt _ hn⟩, by simp, Fin.ext ?_⟩
      simp only
      rw [h]; exact Nat.div_add_mod _ _
    unfold hd; rw [if_neg this, mul_zero]
  · intro r _
    have h1 : (n * (e / 64) + r.val) / n = e / 64 := by rw [Nat.mul_add_div (by omega), Nat.div_eq_of_lt r.isLt, Nat.add_zero]
    have h2 : (n * (e / 64) + r.val) % n = r.val := by rw [Nat.mul_add_mod, Nat.mod_eq_of_lt r.isLt]
    unfold hd; simp only [h1, h2, if_true]

end Cert.Proof.Value

end
-- ==== Proof.Value.Sums.lean ====
/- The sums of one pattern over every query and key. -/
module

public import proofs.«01_k».proof.Proof.Value.Attend

@[expose] public section

set_option maxRecDepth 16384
set_option maxHeartbeats 4000000

noncomputable section

namespace Cert.Proof.Value

open Cert.KernelIdeal Cert.KernelIdeal.Gen
open Idealize.ShloMosaic Idealize.ShloMosaic.TcCoe Idealize.ShloMosaic.Tactic

/-- One pattern's share of the queries' gradient. -/
def dqSum (d : ℕ) (q kk v g l dd : ℕ → ℕ → ℝ) (t e : ℕ) : ℝ := ∑ j ∈ Finset.range 4096, ds d q kk v g l dd (e / 64) t j * kk j e
/-- One pattern's share of the keys' gradient. -/
def dkSum (d : ℕ) (q kk v g l dd : ℕ → ℕ → ℝ) (j e : ℕ) : ℝ := ∑ t ∈ Finset.range 4096, ds d q kk v g l dd (e / 64) t j * q t e
/-- One pattern's share of the values' gradient. -/
def dvSum (d : ℕ) (q kk g l : ℕ → ℕ → ℝ) (j e : ℕ) : ℝ := ∑ t ∈ Finset.range 4096, wt d q kk l (e / 64) t j * g t e

theorem add_if_succ (a s : ℝ) (x k : ℕ) : (a + if x < k then s else 0) + (if x = k then s else 0) = a + if x < k + 1 then s else 0 := by
  rcases lt_trichotomy x k with h | h | h
  · rw [if_pos h, if_neg (by omega), if_pos (by omega)]; ring
  · rw [if_neg (by omega), if_pos h, if_pos (by omega)]; ring
  · rw [if_neg (by omega), if_neg (by omega), if_neg (by omega)]; ring

theorem add_sum_if_succ (a : ℝ) (x : ℕ → ℕ) (s : ℕ → ℝ) (k : ℕ) :
    (a + ∑ t ∈ Finset.range 4096, if x t < k then s t else 0) + (∑ t ∈ Finset.range 4096, if x t = k then s t else 0)
      = a + ∑ t ∈ Finset.range 4096, if x t < k + 1 then s t else 0 := by
  rw [add_assoc, ← Finset.sum_add_distrib]
  refine congrArg (a + ·) (Finset.sum_congr rfl fun t _ => ?_)
  have h := add_if_succ 0 (s t) (x t) k
  rw [zero_add, zero_add] at h
  exact h

end Cert.Proof.Value

end
-- ==== Proof.Value.RefMask.lean ====
/- The reference's attention pattern, read at a query and a key. -/
module

public import proofs.«01_k».proof.Proof.Gen.ReferenceIdeal.Read
public import proofs.«01_k».proof.Proof.Value.Sums

@[expose] public section

set_option maxRecDepth 16384
set_option maxHeartbeats 4000000

noncomputable section

namespace Cert.Proof.Value

open Cert.ReferenceIdeal Cert.ReferenceIdeal.Gen Cert.ReferenceIdeal.Read
open Idealize.ShloMosaic Idealize.ShloMosaic.TcCoe Idealize.ShloMosaic.Tactic

theorem and_bits (p q r : Bool) : IntOp.andi (IntOp.andi (BitVec.ofBool p) (BitVec.ofBool q)) (BitVec.ofBool r) = if (p && q && r) = true then 1#1 else 0#1 := by
  cases p <;> cases q <;> cases r <;> rfl

theorem small_toInt (n : ℕ) (hn : n < 4096) : (BitVec.ofNat 32 n).toInt = (n : ℤ) := by
  rw [BitVec.toInt_ofNat', Int.bmod_def]
  omega

theorem lag_toInt (t j : ℕ) (ht : t < 4096) (hj : j < 4096) : (BitVec.ofNat 32 t - BitVec.ofNat 32 j).toInt = (t : ℤ) - j := by
  rw [BitVec.toInt_sub, small_toInt t ht, small_toInt j hj]
  simp only [Int.bmod_def]
  omega

/-- One pattern of dilation `d`: the key at most 128 steps of `d` back, on the query's residue. -/
theorem pattern_bit (d t j : ℕ) (hd : d = 1 ∨ d = 4 ∨ d = 16) (ht : t < 4096) (hj : j < 4096) (b : BitVec 1) (hb : b = 0#1) (D : BitVec 32) (hD : D = BitVec.ofNat 32 d)
    (w : BitVec 32) (hw : w = BitVec.ofNat 32 (128 * d)) :
    IntOp.andi (IntOp.andi (IntOp.cmpi .sge (IntOp.subi (BitVec.ofNat 32 t) (BitVec.ofNat 32 j)) 0#32) (IntOp.cmpi .sle (IntOp.subi (BitVec.ofNat 32 t) (BitVec.ofNat 32 j)) w))
      (IntOp.cmpi .eq (Scalar.select
        (IntOp.andi (IntOp.cmpi .ne (IntOp.cmpi .slt (IntOp.remsi .host (IntOp.subi (BitVec.ofNat 32 t) (BitVec.ofNat 32 j)) D) 0#32) b)
          (IntOp.cmpi .ne (IntOp.remsi .host (IntOp.subi (BitVec.ofNat 32 t) (BitVec.ofNat 32 j)) D) 0#32))
        (IntOp.addi (IntOp.remsi .host (IntOp.subi (BitVec.ofNat 32 t) (BitVec.ofNat 32 j)) D) D)
        (IntOp.remsi .host (IntOp.subi (BitVec.ofNat 32 t) (BitVec.ofNat 32 j)) D)) 0#32)
      = if Sees d t j then 1#1 else 0#1 := by
  subst hb hD hw
  have h0 : (0#32 : BitVec 32).toInt = 0 := rfl
  have hwi : (BitVec.ofNat 32 (128 * d)).toInt = 128 * (d : ℤ) := by rw [small_toInt _ (by omega)]; push_cast; rfl
  have hl := lag_toInt t j ht hj
  by_cases hjt : j ≤ t
  · have hx : IntOp.subi (BitVec.ofNat 32 t) (BitVec.ofNat 32 j) = BitVec.ofNat 32 (t - j) := by
      apply BitVec.eq_of_toInt_eq
      rw [small_toInt _ (by omega)]
      show (BitVec.ofNat 32 t - BitVec.ofNat 32 j).toInt = _
      rw [hl]; omega
    have hr : IntOp.remsi .host (BitVec.ofNat 32 (t - j)) (BitVec.ofNat 32 d) = BitVec.ofNat 32 ((t - j) % d) := by
      apply BitVec.eq_of_toNat_eq
      rw [IntOp.toNat_remsi .host (by rw [BitVec.toNat_ofNat]; omega) d (by omega) (by omega), BitVec.toNat_ofNat, BitVec.toNat_ofNat, Nat.mod_eq_of_lt (a := t - j) (by omega),
        Nat.mod_eq_of_lt (a := (t - j) % d) (by have := Nat.mod_le (t - j) d; omega)]
    rw [hx, hr]
    have hm : (t - j) % d < 4096 := by have := Nat.mod_le (t - j) d; omega
    generalize hR : (t - j) % d = R at hm ⊢
    have hsel : Scalar.select (IntOp.andi (IntOp.cmpi .ne (IntOp.cmpi .slt (BitVec.ofNat 32 R) 0#32) 0#1) (IntOp.cmpi .ne (BitVec.ofNat 32 R) 0#32))
        (IntOp.addi (BitVec.ofNat 32 R) (BitVec.ofNat 32 d)) (BitVec.ofNat 32 R) = BitVec.ofNat 32 R := by
      have : IntOp.cmpi .slt (BitVec.ofNat 32 R) 0#32 = 0#1 := by
        show BitVec.ofBool ((BitVec.ofNat 32 R).slt 0#32) = _
        rw [BitVec.slt_eq_decide, small_toInt R hm, h0, decide_eq_false (by omega)]; rfl
      rw [this]
      show Scalar.select (0#1 &&& _) _ _ = _
      rw [BitVec.zero_and]; rfl
    rw [hsel]
    show IntOp.andi (IntOp.andi (BitVec.ofBool ((0#32 : BitVec 32).sle (BitVec.ofNat 32 (t - j)))) (BitVec.ofBool ((BitVec.ofNat 32 (t - j)).sle (BitVec.ofNat 32 (128 * d))))) (BitVec.ofBool (BitVec.ofNat 32 R == 0#32)) = _
    rw [and_bits, BitVec.sle_eq_decide, BitVec.sle_eq_decide, small_toInt _ (by omega : t - j < 4096), hwi, h0]
    have hz : (BitVec.ofNat 32 R == 0#32) = decide (R = 0) := by
      rw [Bool.eq_iff_iff, beq_iff_eq, decide_eq_true_iff, ← BitVec.toInt_inj, small_toInt R hm, h0]; omega
    rw [hz]
    refine if_congr ?_ rfl rfl
    simp only [Bool.and_eq_true, decide_eq_true_iff]
    subst hR
    rcases hd with rfl | rfl | rfl <;> simp only [Sees] <;> omega
  · rw [if_neg (fun h => hjt h.1)]
    have : IntOp.cmpi .sge (IntOp.subi (BitVec.ofNat 32 t) (BitVec.ofNat 32 j)) 0#32 = 0#1 := by
      show BitVec.ofBool ((0#32 : BitVec 32).sle (BitVec.ofNat 32 t - BitVec.ofNat 32 j)) = _
      rw [BitVec.sle_eq_decide, hl, h0, decide_eq_false (by omega)]; rfl
    rw [this]
    show (0#1 &&& _) &&& _ = _
    rw [BitVec.zero_and, BitVec.zero_and]

theorem bit_real (p : Prop) [Decidable p] : (FloatOps.uitofp (F := Ideal) FTy.f32 (if p then 1#1 else 0#1 : BitVec 1)) = (((if p then 1 else 0 : ℝ)) : EReal) := by
  by_cases h : p
  · rw [if_pos h, if_pos h]; show (((_ : BitVec 1).toNat : ℝ) : EReal) = _; simp
  · rw [if_neg h, if_neg h]; show (((_ : BitVec 1).toNat : ℝ) : EReal) = _; simp

theorem v25_at (t j : Fin 4096) : val_main_v25 (F := Ideal) (ix2 t j) = (((if Sees 1 t.val j.val then 1 else 0 : ℝ)) : EReal) := by
  simp only [val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_call0_v0_apply, val_main_call0_v1_apply, val_main_call0_v2_apply, val_main_call0_v3_apply, val_main_call0_v4_apply, val_main_call0_v5_apply, val_main_call0_v6_apply, val_main_call0_v7_apply, val_main_call0_v8_apply, val_main_call0_v9_apply, val_main_call0_v10_apply, val_main_call0_v11_apply, val_main_call0_v12_apply, val_main_call0_v13_apply, val_main_call0_v14_apply]
  refine Eq.trans ?_ (bit_real (Sees 1 t.val j.val))
  refine congrArg (FloatOps.uitofp (F := Ideal) FTy.f32) ?_
  exact pattern_bit 1 t.val j.val (by omega) t.isLt j.isLt _ rfl _ rfl _ rfl

theorem v44_at (t j : Fin 4096) : val_main_v44 (F := Ideal) (ix2 t j) = (((if Sees 4 t.val j.val then 1 else 0 : ℝ)) : EReal) := by
  simp only [val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_call1_v0_apply, val_main_call1_v1_apply, val_main_call1_v2_apply, val_main_call1_v3_apply, val_main_call1_v4_apply, val_main_call1_v5_apply, val_main_call1_v6_apply, val_main_call1_v7_apply, val_main_call1_v8_apply, val_main_call1_v9_apply, val_main_call1_v10_apply, val_main_call1_v11_apply, val_main_call1_v12_apply, val_main_call1_v13_apply, val_main_call1_v14_apply]
  refine Eq.trans ?_ (bit_real (Sees 4 t.val j.val))
  refine congrArg (FloatOps.uitofp (F := Ideal) FTy.f32) ?_
  exact pattern_bit 4 t.val j.val (by omega) t.isLt j.isLt _ rfl _ rfl _ rfl

theorem v62_at (t j : Fin 4096) : val_main_v62 (F := Ideal) (ix2 t j) = (((if Sees 16 t.val j.val then 1 else 0 : ℝ)) : EReal) := by
  simp only [val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_call2_v0_apply, val_main_call2_v1_apply, val_main_call2_v2_apply, val_main_call2_v3_apply, val_main_call2_v4_apply, val_main_call2_v5_apply, val_main_call2_v6_apply, val_main_call2_v7_apply, val_main_call2_v8_apply, val_main_call2_v9_apply, val_main_call2_v10_apply, val_main_call2_v11_apply, val_main_call2_v12_apply, val_main_call2_v13_apply, val_main_call2_v14_apply]
  refine Eq.trans ?_ (bit_real (Sees 16 t.val j.val))
  refine congrArg (FloatOps.uitofp (F := Ideal) FTy.f32) ?_
  exact pattern_bit 16 t.val j.val (by omega) t.isLt j.isLt _ rfl _ rfl _ rfl

/-- How many of the three patterns let the query see the key. -/
def tm (t j : ℕ) : ℝ := (if Sees 1 t j then 1 else 0) + (if Sees 4 t j then 1 else 0) + (if Sees 16 t j then 1 else 0)

theorem v63_at (t j : Fin 4096) : val_main_v63 (F := Ideal) (ix2 t j) = ((tm t.val j.val : ℝ) : EReal) := by
  rw [val_main_v63_apply, val_main_v45_apply, val_main_v27_apply, v25_at, v44_at, v62_at, val_main_v26_apply]
  show ((Ideal.ofBits .f32 0x00000000#32 + _) + _) + _ = _
  rw [Ideal.ofBits_zero_f32, zero_add, ← EReal.coe_add, ← EReal.coe_add]
  rfl

theorem tm_pos_iff (t j : ℕ) : 0 < tm t j ↔ Sees 1 t j ∨ Sees 4 t j ∨ Sees 16 t j := by
  unfold tm; split_ifs with h1 h4 h16 h16 h4 h16 h16 <;> first | exact iff_of_false (by norm_num) (fun h => h.elim h1 fun h => h.elim h4 h16) | exact iff_of_true (by norm_num) (by first | exact Or.inl h1 | exact Or.inr (Or.inl h4) | exact Or.inr (Or.inr h16))

theorem v68_at (t j : Fin 4096) : val_main_v68 (F := Ideal) (ix2 t j) = if 0 < tm t.val j.val then 1#1 else 0#1 := by
  rw [val_main_v68_apply, v63_at, val_main_v67_apply]
  show FloatOps.cmpf (F := Ideal) .ogt _ (Ideal.ofBits .f32 0x00000000#32) = _
  rw [Ideal.ofBits_zero_f32, Ideal.cmpf_def]
  by_cases h : 0 < tm t.val j.val
  · rw [if_pos h]; simp [Ideal.cmp, h]
  · rw [if_neg h]; simp [Ideal.cmp, h]

end Cert.Proof.Value

end
-- ==== Proof.Value.Ref.lean ====
/- The reference's gradients over the reals: one head's row of the masked, multiplicity-weighted softmax and its derivative. -/
module

public import proofs.«01_k».proof.Proof.Value.RefMask

@[expose] public section

set_option maxRecDepth 16384
set_option maxHeartbeats 4000000

noncomputable section

namespace Cert.Proof.Value

open Cert.ReferenceIdeal Cert.ReferenceIdeal.Gen Cert.ReferenceIdeal.Read
open Idealize.ShloMosaic Idealize.ShloMosaic.TcCoe Idealize.ShloMosaic.Tactic

abbrev X0 : Type := (⟨S4096x1536, .f32⟩ : BufTy).Contents (Elt Ideal)
abbrev X1 : Type := (⟨S4096x512, .f32⟩ : BufTy).Contents (Elt Ideal)

/-- Every entry of the projections is the real `W`'s. -/
abbrev Arr (x0 : X0) (W : ℕ → ℕ → ℝ) : Prop := ∀ i : S4096x1536.Idx, x0 i = ((W (i 0).val (i 1).val : ℝ) : EReal)
/-- Every entry of the cotangent is the real `G`'s. -/
abbrev Arr1 (x1 : X1) (G : ℕ → ℕ → ℝ) : Prop := ∀ i : S4096x512.Idx, x1 i = ((G (i 0).val (i 1).val : ℝ) : EReal)

theorem mul2 {x y : EReal} {a b : ℝ} (hx : x = (a : EReal)) (hy : y = (b : EReal)) : x * y = ((a * b : ℝ) : EReal) := by
  rw [hx, hy, EReal.coe_mul]
theorem add2 {x y : EReal} {a b : ℝ} (hx : x = (a : EReal)) (hy : y = (b : EReal)) : x + y = ((a + b : ℝ) : EReal) := by
  rw [hx, hy, EReal.coe_add]
theorem div2 {x y : EReal} {a b : ℝ} (hb : b ≠ 0) (hx : x = (a : EReal)) (hy : y = (b : EReal)) : Ideal.div x y = ((a / b : ℝ) : EReal) := by
  rw [hx, hy]; unfold Ideal.div
  rw [if_neg (by rw [← EReal.coe_zero, EReal.coe_eq_coe_iff]; exact hb), ← EReal.coe_inv, ← EReal.coe_mul, div_eq_mul_inv]
theorem sum2 {n : ℕ} {f : Fin n → EReal} {g : Fin n → ℝ} (h : ∀ k, f k = (g k : EReal)) : ∑ k, f k = ((∑ k, g k : ℝ) : EReal) :=
  (Finset.sum_congr rfl fun k _ => h k).trans (toReal_sum g)
theorem zsum2 {n : ℕ} {z : EReal} {f : Fin n → EReal} {g : Fin n → ℝ} (hz : z = 0) (h : ∀ k, f k = (g k : EReal)) : z + ∑ k, f k = ((∑ k, g k : ℝ) : EReal) := by
  rw [hz, zero_add]; exact sum2 h

/-- One head's scores. -/
def rs (W : ℕ → ℕ → ℝ) (h t j : ℕ) : ℝ := (∑ d : Fin 64, W t (64 * h + d.val) * W j (512 + 64 * h + d.val)) * 0.125
/-- The scores' exponentials off the row's shift, zero where no pattern sees the key. -/
def rE (W M : ℕ → ℕ → ℝ) (h t j : ℕ) : ℝ := if 0 < tm t j then Real.exp (rs W h t j - M h t) else 0
def rp (W M : ℕ → ℕ → ℝ) (h t j : ℕ) : ℝ := tm t j * rE W M h t j
def rden (W M : ℕ → ℕ → ℝ) (h t : ℕ) : ℝ := ∑ j : Fin 4096, rp W M h t j.val
def rnum (W M : ℕ → ℕ → ℝ) (h t d : ℕ) : ℝ := ∑ j : Fin 4096, rp W M h t j.val * W j.val (1024 + 64 * h + d)
/-- The attention's output. -/
def ro (W M : ℕ → ℕ → ℝ) (h t d : ℕ) : ℝ := rnum W M h t d / rden W M h t
/-- The rows' log of the weighted sum of exponentials. -/
def rl (W M : ℕ → ℕ → ℝ) (h t : ℕ) : ℝ := M h t + Real.log (rden W M h t)
/-- The rows' correction of the scores' gradient. -/
def rc (W M G : ℕ → ℕ → ℝ) (h t : ℕ) : ℝ := ∑ d : Fin 64, G t (64 * h + d.val) * (1 / (rden W M h t * rden W M h t)) * rnum W M h t d.val
def rgv (W M G : ℕ → ℕ → ℝ) (h t j : ℕ) : ℝ := ∑ d : Fin 64, G t (64 * h + d.val) / rden W M h t * W j (1024 + 64 * h + d.val)
def rds (W M G : ℕ → ℕ → ℝ) (h t j : ℕ) : ℝ := tm t j * (rgv W M G h t j + -rc W M G h t) * rE W M h t j * 0.125
/-- The three gradients. -/
def rdq (W M G : ℕ → ℕ → ℝ) (h t d : ℕ) : ℝ := ∑ j : Fin 4096, rds W M G h t j.val * W j.val (512 + 64 * h + d)
def rdk (W M G : ℕ → ℕ → ℝ) (h j d : ℕ) : ℝ := ∑ t : Fin 4096, rds W M G h t.val j * W t.val (64 * h + d)
def rdv (W M G : ℕ → ℕ → ℝ) (h j d : ℕ) : ℝ := ∑ t : Fin 4096, G t.val (64 * h + d) / rden W M h t.val * rp W M h t.val j

theorem tm_self (t : ℕ) : 0 < tm t t := (tm_pos_iff t t).mpr (Or.inl ⟨le_refl _, by omega, rfl⟩)
theorem tm_nonneg (t j : ℕ) : 0 ≤ tm t j := by
  unfold tm; split_ifs <;> norm_num
theorem rE_nonneg (W M : ℕ → ℕ → ℝ) (h t j : ℕ) : 0 ≤ rE W M h t j := by
  unfold rE; split_ifs
  · exact (Real.exp_pos _).le
  · exact le_refl _
theorem rden_pos (W M : ℕ → ℕ → ℝ) (h t : ℕ) (ht : t < 4096) : 0 < rden W M h t := by
  refine Finset.sum_pos' (fun j _ => mul_nonneg (tm_nonneg _ _) (rE_nonneg _ _ _ _ _)) ⟨⟨t, ht⟩, Finset.mem_univ _, ?_⟩
  refine mul_pos (tm_self t) ?_
  show 0 < rE W M h t t
  unfold rE; rw [if_pos (tm_self t)]; exact Real.exp_pos _

section
variable {x0 : X0} {W : ℕ → ℕ → ℝ} (hx : Arr x0 W)
include hx

theorem v2_at (i : S8x4096x64.Idx) : val_main_v2 (F := Ideal) x0 i = ((W (i 1).val (64 * (i 0).val + (i 2).val) : ℝ) : EReal) := by
  have h0 : (i 0).val < 8 := (i 0).isLt
  have h1 : (i 1).val < 4096 := (i 1).isLt
  have h2 : (i 2).val < 64 := (i 2).isLt
  rw [val_main_v2_apply, val_main_v1_apply, val_main_v0_apply, hx]
  refine congrArg Real.toEReal (congrArg₂ W ?_ ?_)
  · show (((i 1).val * 8 + (i 0).val) * 64 + (i 2).val) / 512 = (i 1).val
    omega
  · show (((i 1).val * 8 + (i 0).val) * 64 + (i 2).val) % 512 = 64 * (i 0).val + (i 2).val
    omega

theorem v5_at (i : S8x4096x64.Idx) : val_main_v5 (F := Ideal) x0 i = ((W (i 1).val (512 + 64 * (i 0).val + (i 2).val) : ℝ) : EReal) := by
  have h0 : (i 0).val < 8 := (i 0).isLt
  have h1 : (i 1).val < 4096 := (i 1).isLt
  have h2 : (i 2).val < 64 := (i 2).isLt
  rw [val_main_v5_apply, val_main_v4_apply, val_main_v3_apply, hx]
  refine congrArg Real.toEReal (congrArg₂ W ?_ ?_)
  · show (((i 1).val * 8 + (i 0).val) * 64 + (i 2).val) / 512 = (i 1).val
    omega
  · show 512 + (((i 1).val * 8 + (i 0).val) * 64 + (i 2).val) % 512 = 512 + 64 * (i 0).val + (i 2).val
    omega

theorem v8_at (i : S8x4096x64.Idx) : val_main_v8 (F := Ideal) x0 i = ((W (i 1).val (1024 + 64 * (i 0).val + (i 2).val) : ℝ) : EReal) := by
  have h0 : (i 0).val < 8 := (i 0).isLt
  have h1 : (i 1).val < 4096 := (i 1).isLt
  have h2 : (i 2).val < 64 := (i 2).isLt
  rw [val_main_v8_apply, val_main_v7_apply, val_main_v6_apply, hx]
  refine congrArg Real.toEReal (congrArg₂ W ?_ ?_)
  · show (((i 1).val * 8 + (i 0).val) * 64 + (i 2).val) / 512 = (i 1).val
    omega
  · show 1024 + (((i 1).val * 8 + (i 0).val) * 64 + (i 2).val) % 512 = 1024 + 64 * (i 0).val + (i 2).val
    omega

theorem v66_at (i : S8x4096x4096.Idx) : val_main_v66 (F := Ideal) x0 i = ((rs W (i 0).val (i 1).val (i 2).val : ℝ) : EReal) := by
  rw [val_main_v66_apply, val_main_v64_apply, val_main_v65_apply]
  exact mul2 (sum2 fun k => mul2 (v2_at hx _) (v5_at hx _)) ofBits_eighth

omit hx in
theorem v691_at (i : S8x4096x4096.Idx) : val_main_v69_1 (F := Ideal) i = if 0 < tm (i 1).val (i 2).val then 1#1 else 0#1 := by
  rw [val_main_v69_1_apply]
  exact (congrArg (val_main_v68 (F := Ideal)) (eq_ix2 _)).trans (v68_at _ _)

theorem v69_at (i : S8x4096x4096.Idx) : val_main_v69_0 (F := Ideal) x0 i = if 0 < tm (i 1).val (i 2).val then ((rs W (i 0).val (i 1).val (i 2).val : ℝ) : EReal) else ⊥ := by
  rw [val_main_v69_0_apply, v691_at, v66_at hx]
  have hb : val_main_call3_v2 (F := Ideal) i = ⊥ := by
    rw [val_main_call3_v2_apply, val_main_call3_v0_apply]
    show Ideal.ofBits .f32 0xFF800000#32 = ⊥
    simp [Ideal.ofBits, Ideal.ieee]
  rw [hb]
  by_cases h : 0 < tm (i 1).val (i 2).val
  · rw [if_pos h, if_pos h]; rfl
  · rw [if_neg h, if_neg h]; rfl

/-- The rows' maxima are real: the query sees itself, and no score is infinite. -/
theorem v70_real : ∃ M : ℕ → ℕ → ℝ, ∀ i : S8x4096.Idx, val_main_v70 (F := Ideal) x0 i = ((M (i 0).val (i 1).val : ℝ) : EReal) := by
  have key : ∀ i : S8x4096.Idx, val_main_v70 (F := Ideal) x0 i ≠ ⊥ ∧ val_main_v70 (F := Ideal) x0 i ≠ ⊤ := by
    intro i
    have hf : val_main_v70 (F := Ideal) x0 i = Finset.univ.fold max (val_main_cst_14 (F := Ideal) (Shape.Idx.first h_S_)) fun k : Fin 4096 => val_main_v69_0 (F := Ideal) x0 (ix3 (i 0) (i 1) k) := by
      unfold val_main_v70
      generalize val_main_v69_0 (F := Ideal) x0 = y
      generalize val_main_cst_14 (F := Ideal) = z
      simp only [pointwise]
    have hbot : val_main_cst_14 (F := Ideal) (Shape.Idx.first h_S_) = (⊥ : EReal) := by
      show Ideal.ofBits .f32 0xFF800000#32 = ⊥
      simp [Ideal.ofBits, Ideal.ieee]
    rw [hf, hbot]
    constructor
    · refine ne_of_gt (lt_of_lt_of_le ?_ ((Finset.le_fold_max (c := ((rs W (i 0).val (i 1).val (i 1).val : ℝ) : EReal))).mpr (Or.inr ⟨i 1, Finset.mem_univ _, ?_⟩)))
      · exact EReal.bot_lt_coe _
      · rw [v69_at hx]
        exact le_of_eq (if_pos (tm_self _)).symm
    · refine ne_of_lt ((Finset.fold_max_lt _).mpr ⟨bot_lt_top, fun k _ => ?_⟩)
      rw [v69_at hx]
      split_ifs
      · exact EReal.coe_lt_top _
      · exact bot_lt_top
  refine ⟨fun h t => if hh : h < 8 ∧ t < 4096 then (val_main_v70 (F := Ideal) x0 (ix2 ⟨h, hh.1⟩ ⟨t, hh.2⟩)).toReal else 0, fun i => ?_⟩
  dsimp only
  rw [dif_pos ⟨(i 0).isLt, (i 1).isLt⟩]
  have e : ix2 (⟨(i 0).val, (i 0).isLt⟩ : Fin 8) (⟨(i 1).val, (i 1).isLt⟩ : Fin 4096) = i := (eq_ix2 i).symm
  rw [e]
  exact (EReal.coe_toReal (key i).2 (key i).1).symm

variable {M : ℕ → ℕ → ℝ} (hM : ∀ i : S8x4096.Idx, val_main_v70 (F := Ideal) x0 i = ((M (i 0).val (i 1).val : ℝ) : EReal))
include hM

theorem v79_at (i : S8x4096x4096.Idx) : val_main_v79 (F := Ideal) x0 i = ((rE W M (i 0).val (i 1).val (i 2).val : ℝ) : EReal) := by
  rw [val_main_v79_apply, val_main_v78_apply, v69_at hx, val_main_v77_apply, val_main_v76_apply, hM]
  show Ideal.exp ((if _ then _ else _ : EReal) - ((M (i 0).val (i 1).val : ℝ) : EReal)) = _
  unfold rE
  by_cases h : 0 < tm (i 1).val (i 2).val
  · rw [if_pos h, if_pos h, ← EReal.coe_sub]; rfl
  · rw [if_neg h, if_neg h, EReal.bot_sub]; exact EReal.coe_zero.symm

omit hx hM in
theorem v81_at (i : S8x4096x4096.Idx) : val_main_v81 (F := Ideal) i = ((tm (i 1).val (i 2).val : ℝ) : EReal) := by
  rw [val_main_v81_apply, val_main_v80_apply]
  exact (congrArg (val_main_v63 (F := Ideal)) (eq_ix2 _)).trans (v63_at _ _)

omit hx hM in
theorem v111_at (i : S8x4096x4096.Idx) : val_main_v111 (F := Ideal) i = ((tm (i 1).val (i 2).val : ℝ) : EReal) := by
  rw [val_main_v111_apply, val_main_v80_apply]
  exact (congrArg (val_main_v63 (F := Ideal)) (eq_ix2 _)).trans (v63_at _ _)

theorem v82_at (i : S8x4096x4096.Idx) : val_main_v82 (F := Ideal) x0 i = ((rp W M (i 0).val (i 1).val (i 2).val : ℝ) : EReal) := by
  rw [val_main_v82_apply]
  exact mul2 (v81_at i) (v79_at hx hM i)

theorem v83_at (i : S8x4096.Idx) : val_main_v83 (F := Ideal) x0 i = ((rden W M (i 0).val (i 1).val : ℝ) : EReal) := by
  rw [val_main_v83_apply]
  exact zsum2 Ideal.ofBits_zero_f32 fun k => v82_at hx hM _

theorem v84_at (i : S8x4096x64.Idx) : val_main_v84 (F := Ideal) x0 i = ((rnum W M (i 0).val (i 1).val (i 2).val : ℝ) : EReal) := by
  rw [val_main_v84_apply]
  exact sum2 fun k => mul2 (v82_at hx hM _) (v8_at hx _)

theorem v85_at (i : S8x4096x1.Idx) : val_main_v85 (F := Ideal) x0 i = ((rden W M (i 0).val (i 1).val : ℝ) : EReal) := by
  rw [val_main_v85_apply]
  exact v83_at hx hM _

omit hx hM in
theorem rden_ne (i : Fin 4096) (h : ℕ) : rden W M h i.val ≠ 0 := (rden_pos W M h i.val i.isLt).ne'

theorem v87_at (i : S8x4096x64.Idx) : val_main_v87 (F := Ideal) x0 i = ((ro W M (i 0).val (i 1).val (i 2).val : ℝ) : EReal) := by
  rw [val_main_v87_apply, val_main_v86_apply]
  exact div2 (rden_ne (i 1) _) (v84_at hx hM i) (v85_at hx hM _)

theorem v94_at (i : S4096x512.Idx) : val_main_v94 (F := Ideal) x0 i = ((ro W M ((i 1).val / 64) (i 0).val ((i 1).val % 64) : ℝ) : EReal) := by
  have h0 : (i 0).val < 4096 := (i 0).isLt
  have h1 : (i 1).val < 512 := (i 1).isLt
  rw [val_main_v94_apply, val_main_v93_apply, v87_at hx hM]
  have a0 : (idx_main_v93 (idx_main_v94 i) 0).val = (i 1).val / 64 := by
    show ((i 0).val * 512 + (i 1).val) / 64 % 8 = _
    omega
  have a1 : (idx_main_v93 (idx_main_v94 i) 1).val = (i 0).val := by
    show ((i 0).val * 512 + (i 1).val) / 512 = _
    omega
  have a2 : (idx_main_v93 (idx_main_v94 i) 2).val = (i 1).val % 64 := by
    show ((i 0).val * 512 + (i 1).val) % 64 = _
    omega
  rw [a0, a1, a2]

theorem v92_at (i : S8x4096.Idx) : val_main_v92 (F := Ideal) x0 i = ((rl W M (i 0).val (i 1).val : ℝ) : EReal) := by
  rw [val_main_v92_apply, val_main_v91_apply]
  refine add2 (hM i) ?_
  rw [v83_at hx hM]
  show Ideal.log ((rden W M (i 0).val (i 1).val : ℝ) : EReal) = _
  exact if_neg (not_le.mpr (rden_pos W M _ _ (i 1).isLt))

theorem v90_at (i : S8x4096x1.Idx) : val_main_v90 (F := Ideal) x0 i = ((1 / (rden W M (i 0).val (i 1).val * rden W M (i 0).val (i 1).val) : ℝ) : EReal) := by
  rw [val_main_v90_apply, val_main_v89_apply, val_main_v88_apply]
  refine div2 (mul_ne_zero (rden_ne (i 1) _) (rden_ne (i 1) _)) ?_ (mul2 (v85_at hx hM i) (v85_at hx hM i))
  show Ideal.ofBits .f32 0x3F800000#32 = _
  simp [Ideal.ofBits, Ideal.ieee, -EReal.coe_mul]; norm_num

variable {x1 : X1} {G : ℕ → ℕ → ℝ} (hg : Arr1 x1 G)
include hg

omit hx hM in
theorem v96_at (i : S8x4096x64.Idx) : val_main_v96 (F := Ideal) x1 i = ((G (i 1).val (64 * (i 0).val + (i 2).val) : ℝ) : EReal) := by
  have h0 : (i 0).val < 8 := (i 0).isLt
  have h1 : (i 1).val < 4096 := (i 1).isLt
  have h2 : (i 2).val < 64 := (i 2).isLt
  rw [val_main_v96_apply, val_main_v95_apply, hg]
  refine congrArg Real.toEReal (congrArg₂ G ?_ ?_)
  · show (((i 1).val * 8 + (i 0).val) * 64 + (i 2).val) / 512 = (i 1).val
    omega
  · show (((i 1).val * 8 + (i 0).val) * 64 + (i 2).val) % 512 = 64 * (i 0).val + (i 2).val
    omega

theorem v105_at (i : S8x4096.Idx) : val_main_v105 (F := Ideal) x0 x1 i = ((-rc W M G (i 0).val (i 1).val : ℝ) : EReal) := by
  have h0 : (i 0).val < 8 := (i 0).isLt
  have h1 : (i 1).val < 4096 := (i 1).isLt
  rw [val_main_v105_apply]
  have h : ∀ k : Fin 1, val_main_v102 (F := Ideal) x0 x1 (idx_main_v105 i k) = ((-rc W M G (i 0).val (i 1).val : ℝ) : EReal) := by
    intro k
    have hk : k.val = 0 := by omega
    have e : idx_main_v101 (idx_main_v105 i k) = i := funext fun a => Fin.ext (match a with
      | ⟨0, _⟩ => by show (((i 0).val * 4096 + (i 1).val) * 1 + k.val) / 4096 = (i 0).val; omega
      | ⟨1, _⟩ => by show (((i 0).val * 4096 + (i 1).val) * 1 + k.val) % 4096 = (i 1).val; omega)
    rw [val_main_v102_apply, val_main_v101_apply, e, val_main_v100_apply]
    refine (congrArg (fun y : EReal => -y) (zsum2 Ideal.ofBits_zero_f32 fun d => ?_)).trans (EReal.coe_neg _).symm
    rw [val_main_v99_apply, val_main_v98_apply, val_main_v97_apply]
    refine mul2 (mul2 (v96_at hg _) (v90_at hx hM _)) (v84_at hx hM _)
  refine (zsum2 Ideal.ofBits_zero_f32 h).trans ?_
  rw [Fin.sum_univ_one]

theorem v104_at (i : S8x4096x64.Idx) : val_main_v104 (F := Ideal) x0 x1 i = ((G (i 1).val (64 * (i 0).val + (i 2).val) / rden W M (i 0).val (i 1).val : ℝ) : EReal) := by
  rw [val_main_v104_apply, val_main_v103_apply]
  exact div2 (rden_ne (i 1) _) (v96_at hg i) (v85_at hx hM _)

theorem v107_at (i : S8x4096x64.Idx) : val_main_v107 (F := Ideal) x0 x1 i = ((rdv W M G (i 0).val (i 1).val (i 2).val : ℝ) : EReal) := by
  rw [val_main_v107_apply, val_main_v106_apply]
  exact sum2 fun k => mul2 (v104_at hx hM hg _) (v82_at hx hM _)

theorem v116_at (i : S8x4096x4096.Idx) : val_main_v116 (F := Ideal) x0 x1 i = ((rds W M G (i 0).val (i 1).val (i 2).val : ℝ) : EReal) := by
  rw [val_main_v116_apply, val_main_v115_apply]
  refine mul2 ?_ ofBits_eighth
  have h : val_main_v113 (F := Ideal) x0 x1 i = ((tm (i 1).val (i 2).val * (rgv W M G (i 0).val (i 1).val (i 2).val + -rc W M G (i 0).val (i 1).val) * rE W M (i 0).val (i 1).val (i 2).val : ℝ) : EReal) := by
    rw [val_main_v113_apply, val_main_v112_apply, val_main_v110_apply, val_main_v108_apply, val_main_v109_apply]
    exact mul2 (mul2 (v111_at i) (add2 (sum2 fun k => mul2 (v104_at hx hM hg _) (v8_at hx _)) (v105_at hx hM hg _))) (v79_at hx hM i)
  rw [val_main_v114_apply, v691_at, h]
  by_cases ht : 0 < tm (i 1).val (i 2).val
  · rw [if_pos ht]; rfl
  · rw [if_neg ht]
    have hz : rE W M (i 0).val (i 1).val (i 2).val = 0 := if_neg ht
    rw [hz, mul_zero]
    show val_main_call4_v0 (F := Ideal) i = _
    rw [val_main_call4_v0_apply]
    exact Ideal.ofBits_zero_f32

theorem v117_at (i : S8x4096x64.Idx) : val_main_v117 (F := Ideal) x0 x1 i = ((rdk W M G (i 0).val (i 1).val (i 2).val : ℝ) : EReal) := by
  rw [val_main_v117_apply]
  exact sum2 fun k => mul2 (v116_at hx hM hg _) (v2_at hx _)

theorem v118_at (i : S8x4096x64.Idx) : val_main_v118 (F := Ideal) x0 x1 i = ((rdq W M G (i 0).val (i 1).val (i 2).val : ℝ) : EReal) := by
  rw [val_main_v118_apply]
  exact sum2 fun k => mul2 (v116_at hx hM hg _) (v5_at hx _)

theorem v120_at (i : S4096x512.Idx) : val_main_v120 (F := Ideal) x0 x1 i = ((rdv W M G ((i 1).val / 64) (i 0).val ((i 1).val % 64) : ℝ) : EReal) := by
  have h0 : (i 0).val < 4096 := (i 0).isLt
  have h1 : (i 1).val < 512 := (i 1).isLt
  rw [val_main_v120_apply, val_main_v119_apply, v107_at hx hM hg]
  have a0 : (idx_main_v119 (idx_main_v120 i) 0).val = (i 1).val / 64 := by
    show ((i 0).val * 512 + (i 1).val) / 64 % 8 = _
    omega
  have a1 : (idx_main_v119 (idx_main_v120 i) 1).val = (i 0).val := by
    show ((i 0).val * 512 + (i 1).val) / 512 = _
    omega
  have a2 : (idx_main_v119 (idx_main_v120 i) 2).val = (i 1).val % 64 := by
    show ((i 0).val * 512 + (i 1).val) % 64 = _
    omega
  rw [a0, a1, a2]

theorem v123_at (i : S4096x512.Idx) : val_main_v123 (F := Ideal) x0 x1 i = ((rdk W M G ((i 1).val / 64) (i 0).val ((i 1).val % 64) : ℝ) : EReal) := by
  have h0 : (i 0).val < 4096 := (i 0).isLt
  have h1 : (i 1).val < 512 := (i 1).isLt
  rw [val_main_v123_apply, val_main_v122_apply, v117_at hx hM hg]
  have a0 : (idx_main_v122 (idx_main_v123 i) 0).val = (i 1).val / 64 := by
    show ((i 0).val * 512 + (i 1).val) / 64 % 8 = _
    omega
  have a1 : (idx_main_v122 (idx_main_v123 i) 1).val = (i 0).val := by
    show ((i 0).val * 512 + (i 1).val) / 512 = _
    omega
  have a2 : (idx_main_v122 (idx_main_v123 i) 2).val = (i 1).val % 64 := by
    show ((i 0).val * 512 + (i 1).val) % 64 = _
    omega
  rw [a0, a1, a2]

theorem v127_at (i : S4096x512.Idx) : val_main_v127 (F := Ideal) x0 x1 i = ((rdq W M G ((i 1).val / 64) (i 0).val ((i 1).val % 64) : ℝ) : EReal) := by
  have h0 : (i 0).val < 4096 := (i 0).isLt
  have h1 : (i 1).val < 512 := (i 1).isLt
  rw [val_main_v127_apply, val_main_v126_apply, v118_at hx hM hg]
  have a0 : (idx_main_v126 (idx_main_v127 i) 0).val = (i 1).val / 64 := by
    show ((i 0).val * 512 + (i 1).val) / 64 % 8 = _
    omega
  have a1 : (idx_main_v126 (idx_main_v127 i) 1).val = (i 0).val := by
    show ((i 0).val * 512 + (i 1).val) / 512 = _
    omega
  have a2 : (idx_main_v126 (idx_main_v127 i) 2).val = (i 1).val % 64 := by
    show ((i 0).val * 512 + (i 1).val) % 64 = _
    omega
  rw [a0, a1, a2]

end

theorem v121_in (x0 : X0) (x1 : X1) (i : S4096x512.Idx) (j : S4096x1536.Idx) (h0 : (j 0).val = (i 0).val) (h1 : (j 1).val = 1024 + (i 1).val) :
    val_main_v121 (F := Ideal) x0 x1 j = val_main_v120 (F := Ideal) x0 x1 i := by
  unfold val_main_v121
  generalize val_main_v120 (F := Ideal) x0 x1 = y
  have hi0 : (i 0).val < 4096 := (i 0).isLt
  have hi1 : (i 1).val < 512 := (i 1).isLt
  unfold pad
  rw [dif_pos (fun a => match a with
    | ⟨0, _⟩ => by show 0 ≤ (j 0).val ∧ ((j 0).val - 0) % (0 + 1) = 0 ∧ ((j 0).val - 0) / (0 + 1) < 4096; omega
    | ⟨1, _⟩ => by show 1024 ≤ (j 1).val ∧ ((j 1).val - 1024) % (0 + 1) = 0 ∧ ((j 1).val - 1024) / (0 + 1) < 512; omega)]
  refine congrArg y (funext fun a => Fin.ext ?_)
  match a with
  | ⟨0, _⟩ => show ((j 0).val - 0) / (0 + 1) = (i 0).val; omega
  | ⟨1, _⟩ => show ((j 1).val - 1024) / (0 + 1) = (i 1).val; omega

theorem v121_out (x0 : X0) (x1 : X1) (j : S4096x1536.Idx) (h : (j 1).val < 1024 ∨ 1024 + 512 ≤ (j 1).val) : val_main_v121 (F := Ideal) x0 x1 j = (0 : EReal) := by
  unfold val_main_v121
  generalize val_main_v120 (F := Ideal) x0 x1 = y
  unfold pad
  rw [dif_neg (fun hin => by
    have h1 := hin ⟨1, by decide⟩
    have h2 : 1024 ≤ (j 1).val ∧ ((j 1).val - 1024) % (0 + 1) = 0 ∧ ((j 1).val - 1024) / (0 + 1) < 512 := h1
    omega)]
  exact Ideal.ofBits_zero_f32

theorem v124_in (x0 : X0) (x1 : X1) (i : S4096x512.Idx) (j : S4096x1536.Idx) (h0 : (j 0).val = (i 0).val) (h1 : (j 1).val = 512 + (i 1).val) :
    val_main_v124 (F := Ideal) x0 x1 j = val_main_v123 (F := Ideal) x0 x1 i := by
  unfold val_main_v124
  generalize val_main_v123 (F := Ideal) x0 x1 = y
  have hi0 : (i 0).val < 4096 := (i 0).isLt
  have hi1 : (i 1).val < 512 := (i 1).isLt
  unfold pad
  rw [dif_pos (fun a => match a with
    | ⟨0, _⟩ => by show 0 ≤ (j 0).val ∧ ((j 0).val - 0) % (0 + 1) = 0 ∧ ((j 0).val - 0) / (0 + 1) < 4096; omega
    | ⟨1, _⟩ => by show 512 ≤ (j 1).val ∧ ((j 1).val - 512) % (0 + 1) = 0 ∧ ((j 1).val - 512) / (0 + 1) < 512; omega)]
  refine congrArg y (funext fun a => Fin.ext ?_)
  match a with
  | ⟨0, _⟩ => show ((j 0).val - 0) / (0 + 1) = (i 0).val; omega
  | ⟨1, _⟩ => show ((j 1).val - 512) / (0 + 1) = (i 1).val; omega

theorem v124_out (x0 : X0) (x1 : X1) (j : S4096x1536.Idx) (h : (j 1).val < 512 ∨ 512 + 512 ≤ (j 1).val) : val_main_v124 (F := Ideal) x0 x1 j = (0 : EReal) := by
  unfold val_main_v124
  generalize val_main_v123 (F := Ideal) x0 x1 = y
  unfold pad
  rw [dif_neg (fun hin => by
    have h1 := hin ⟨1, by decide⟩
    have h2 : 512 ≤ (j 1).val ∧ ((j 1).val - 512) % (0 + 1) = 0 ∧ ((j 1).val - 512) / (0 + 1) < 512 := h1
    omega)]
  exact Ideal.ofBits_zero_f32

theorem v128_in (x0 : X0) (x1 : X1) (i : S4096x512.Idx) (j : S4096x1536.Idx) (h0 : (j 0).val = (i 0).val) (h1 : (j 1).val = 0 + (i 1).val) :
    val_main_v128 (F := Ideal) x0 x1 j = val_main_v127 (F := Ideal) x0 x1 i := by
  unfold val_main_v128
  generalize val_main_v127 (F := Ideal) x0 x1 = y
  have hi0 : (i 0).val < 4096 := (i 0).isLt
  have hi1 : (i 1).val < 512 := (i 1).isLt
  unfold pad
  rw [dif_pos (fun a => match a with
    | ⟨0, _⟩ => by show 0 ≤ (j 0).val ∧ ((j 0).val - 0) % (0 + 1) = 0 ∧ ((j 0).val - 0) / (0 + 1) < 4096; omega
    | ⟨1, _⟩ => by show 0 ≤ (j 1).val ∧ ((j 1).val - 0) % (0 + 1) = 0 ∧ ((j 1).val - 0) / (0 + 1) < 512; omega)]
  refine congrArg y (funext fun a => Fin.ext ?_)
  match a with
  | ⟨0, _⟩ => show ((j 0).val - 0) / (0 + 1) = (i 0).val; omega
  | ⟨1, _⟩ => show ((j 1).val - 0) / (0 + 1) = (i 1).val; omega

theorem v128_out (x0 : X0) (x1 : X1) (j : S4096x1536.Idx) (h : (j 1).val < 0 ∨ 0 + 512 ≤ (j 1).val) : val_main_v128 (F := Ideal) x0 x1 j = (0 : EReal) := by
  unfold val_main_v128
  generalize val_main_v127 (F := Ideal) x0 x1 = y
  unfold pad
  rw [dif_neg (fun hin => by
    have h1 := hin ⟨1, by decide⟩
    have h2 : 0 ≤ (j 1).val ∧ ((j 1).val - 0) % (0 + 1) = 0 ∧ ((j 1).val - 0) / (0 + 1) < 512 := h1
    omega)]
  exact Ideal.ofBits_zero_f32

section
variable {x0 : X0} {W M : ℕ → ℕ → ℝ} (hx : Arr x0 W) (hM : ∀ i : S8x4096.Idx, val_main_v70 (F := Ideal) x0 i = ((M (i 0).val (i 1).val : ℝ) : EReal)) {x1 : X1} {G : ℕ → ℕ → ℝ} (hg : Arr1 x1 G)
include hx hM hg

theorem v131_at (i : S4096x512.Idx) : val_main_v131 (F := Ideal) x0 x1 i = ((rdq W M G ((i 1).val / 64) (i 0).val ((i 1).val % 64) : ℝ) : EReal) := by
  have h1 : (i 1).val < 512 := (i 1).isLt
  rw [val_main_v131_apply]
  show val_main_v130 (F := Ideal) x0 x1 i = _
  rw [val_main_v130_apply, val_main_v129_apply, val_main_v125_apply, v121_out x0 x1 (idx_main_v130 i) (by show (i 1).val < 1024 ∨ 1024 + 512 ≤ (i 1).val; omega), v124_out x0 x1 (idx_main_v130 i) (by show (i 1).val < 512 ∨ 512 + 512 ≤ (i 1).val; omega), v128_in x0 x1 i (idx_main_v130 i) rfl (by show (i 1).val = 0 + (i 1).val; omega), v127_at hx hM hg]
  show ((_ : EReal) + _) + _ = _
  simp only [add_zero, zero_add]

theorem v133_at (i : S4096x512.Idx) : val_main_v133 (F := Ideal) x0 x1 i = ((rdk W M G ((i 1).val / 64) (i 0).val ((i 1).val % 64) : ℝ) : EReal) := by
  have h1 : (i 1).val < 512 := (i 1).isLt
  rw [val_main_v133_apply]
  show val_main_v132 (F := Ideal) x0 x1 i = _
  rw [val_main_v132_apply, val_main_v129_apply, val_main_v125_apply, v121_out x0 x1 (idx_main_v132 i) (by show 512 + (i 1).val < 1024 ∨ 1024 + 512 ≤ 512 + (i 1).val; omega), v124_in x0 x1 i (idx_main_v132 i) rfl (by show 512 + (i 1).val = 512 + (i 1).val; omega), v123_at hx hM hg, v128_out x0 x1 (idx_main_v132 i) (by show 512 + (i 1).val < 0 ∨ 0 + 512 ≤ 512 + (i 1).val; omega)]
  show ((_ : EReal) + _) + _ = _
  simp only [add_zero, zero_add]

theorem v135_at (i : S4096x512.Idx) : val_main_v135 (F := Ideal) x0 x1 i = ((rdv W M G ((i 1).val / 64) (i 0).val ((i 1).val % 64) : ℝ) : EReal) := by
  have h1 : (i 1).val < 512 := (i 1).isLt
  rw [val_main_v135_apply]
  show val_main_v134 (F := Ideal) x0 x1 i = _
  rw [val_main_v134_apply, val_main_v129_apply, val_main_v125_apply, v121_in x0 x1 i (idx_main_v134 i) rfl (by show 1024 + (i 1).val = 1024 + (i 1).val; omega), v120_at hx hM hg, v124_out x0 x1 (idx_main_v134 i) (by show 1024 + (i 1).val < 512 ∨ 512 + 512 ≤ 1024 + (i 1).val; omega), v128_out x0 x1 (idx_main_v134 i) (by show 1024 + (i 1).val < 0 ∨ 0 + 512 ≤ 1024 + (i 1).val; omega)]
  show ((_ : EReal) + _) + _ = _
  simp only [add_zero, zero_add]

end

end Cert.Proof.Value

end
-- ==== Proof.Mlp.Spec.lean ====
/- The feed-forward block's gradients over the reals. -/
module

public import proofs.«01_k».proof.Proof.Value.Ref

@[expose] public section

noncomputable section

namespace Cert.Proof.Mlp

open Idealize.ShloMosaic Cert.Proof.Value

/-- The arguments as real functions: the residual stream, the norm's scale (row 0), the two weights and the cotangent. -/
structure Args where
  h : ℕ → ℕ → ℝ
  g : ℕ → ℕ → ℝ
  up : ℕ → ℕ → ℝ
  down : ℕ → ℕ → ℝ
  d : ℕ → ℕ → ℝ

/-- The constant under the root: the number nearest to a millionth. -/
def eps : ℝ := 8796093 / 8796093022208

variable (p : Args)

/-- A row's mean square with the constant added. -/
def ms (r : ℕ) : ℝ := (∑ k : Fin 1024, p.h r k.val * p.h r k.val) / 1024 + eps
/-- The reciprocal of its root. -/
def irt (r : ℕ) : ℝ := (Real.sqrt (ms p r))⁻¹
/-- The normalised row. -/
def nrm (r k : ℕ) : ℝ := p.h r k * irt p r
/-- The hidden layer before its activation. -/
def hid (r c : ℕ) : ℝ := ∑ k : Fin 1024, nrm p r k.val * p.g 0 k.val * p.up k.val c
/-- The hidden layer's gradient. -/
def dhid (r c : ℕ) : ℝ := (∑ k : Fin 1024, p.d r k.val * p.down c k.val) * (2 * max (hid p r c) 0)
/-- The gradient of the block's input. -/
def din (r k : ℕ) : ℝ := ∑ c : Fin 4096, dhid p r c.val * p.up k c.val
/-- The gradient of the norm's scale. -/
def dgam (k : ℕ) : ℝ := ∑ r : Fin 4096, din p r.val k * nrm p r.val k
/-- The gradient of the residual stream. -/
def dres (r k : ℕ) : ℝ := p.d r k + irt p r * (din p r k * p.g 0 k - nrm p r k * ((∑ j : Fin 1024, din p r j.val * p.g 0 j.val * nrm p r j.val) / 1024))

theorem eps_pos : 0 < eps := by unfold eps; norm_num
theorem ms_pos (r : ℕ) : 0 < ms p r :=
  add_pos_of_nonneg_of_pos (div_nonneg (Finset.sum_nonneg fun k _ => mul_self_nonneg _) (by norm_num)) eps_pos
theorem irt_sq (r : ℕ) : irt p r / ms p r = irt p r * irt p r * irt p r := by
  have hp := ms_pos p r
  have hs : Real.sqrt (ms p r) * Real.sqrt (ms p r) = ms p r := Real.mul_self_sqrt hp.le
  have hn : Real.sqrt (ms p r) ≠ 0 := (Real.sqrt_pos.mpr hp).ne'
  unfold irt
  generalize Real.sqrt (ms p r) = s at hs hn ⊢
  rw [← hs]
  field_simp

theorem ofBits_1024 : Ideal.ofBits .f32 0x44800000#32 = ((1024 : ℝ) : EReal) := by
  simp [Ideal.ofBits, Ideal.ieee, -EReal.coe_mul]; norm_num
theorem ofBits_eps : Ideal.ofBits .f32 0x358637BD#32 = ((eps : ℝ) : EReal) := by
  unfold eps
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_two_bf16 : Ideal.ofBits .bf16 0x4000#16 = ((2 : ℝ) : EReal) := by
  simp [Ideal.ofBits, Ideal.ieee, -EReal.coe_mul]; norm_num
theorem ofBits_zero_bf16 : Ideal.ofBits .bf16 0x0000#16 = 0 := by
  simp [Ideal.ofBits, Ideal.ieee]

theorem rsqrt2 {x : EReal} {a : ℝ} (ha : 0 < a) (hx : x = (a : EReal)) : Ideal.rsqrt x = (((Real.sqrt a)⁻¹ : ℝ) : EReal) := by
  rw [hx, Ideal.rsqrt_coe, if_neg (not_lt.mpr ha.le), if_neg ha.ne']
theorem max2 {x y : EReal} {a : ℝ} (hx : x = (a : EReal)) (hy : y = 0) : max x y = ((max a 0 : ℝ) : EReal) := by
  rw [hx, hy, ← EReal.coe_zero]; exact (EReal.coe_strictMono.monotone.map_max).symm
theorem sub2 {x y : EReal} {a b : ℝ} (hx : x = (a : EReal)) (hy : y = (b : EReal)) : x - y = ((a - b : ℝ) : EReal) := by
  rw [hx, hy, EReal.coe_sub]

end Cert.Proof.Mlp

end
-- ==== Proof.Mlp.Chunk.lean ====
/- The steps of one grid point's body, read at an index. -/
module

public import proofs.«01_k».proof.Proof.Gen.MlpIdeal.Frame
public import Idealize.ShloMosaic.Lib.Pipeline.ValueKit
public import Idealize.ShloMosaic.Lib.Pipeline.ValueKit.Acc
public import proofs.«01_k».proof.Proof.Mlp.Spec

@[expose] public section

noncomputable section

namespace Cert.Proof.Mlp

open Cert.MlpIdeal Cert.MlpIdeal.Gen
open Idealize.ShloMosaic Idealize.ShloMosaic.TcCoe Idealize.ShloMosaic.Tactic
open Cert.Proof.Value (mul2 add2 div2 sum2 zsum2)

variable {p : Args} {R c : ℕ}

/-- Rows `R` and on of the cotangent. -/
abbrev IsD (p : Args) (R : ℕ) (z : S512x1024.Idx → EReal) : Prop := ∀ i : S512x1024.Idx, z i = ((p.d (R + (i 0).val) (i 1).val : ℝ) : EReal)
/-- Rows `R` and on of the residual stream. -/
abbrev IsH (p : Args) (R : ℕ) (z : S512x1024.Idx → EReal) : Prop := ∀ i : S512x1024.Idx, z i = ((p.h (R + (i 0).val) (i 1).val : ℝ) : EReal)
/-- The norm's scale. -/
abbrev IsG (p : Args) (z : S1x1024.Idx → EReal) : Prop := ∀ i : S1x1024.Idx, z i = ((p.g 0 (i 1).val : ℝ) : EReal)
/-- Chunk `c`'s rows of the second weight: the first 256 of them. -/
abbrev IsA (p : Args) (c : ℕ) (z : S1x256x1024.Idx → EReal) : Prop := ∀ i : S1x256x1024.Idx, z i = ((p.down (512 * c + (i 1).val) (i 2).val : ℝ) : EReal)
/-- The other 256. -/
abbrev IsB (p : Args) (c : ℕ) (z : S1x256x1024.Idx → EReal) : Prop := ∀ i : S1x256x1024.Idx, z i = ((p.down (512 * c + 256 + (i 1).val) (i 2).val : ℝ) : EReal)
/-- Chunk `c`'s columns of the hidden layer. -/
abbrev IsI (p : Args) (R c : ℕ) (z : S512x512.Idx → EReal) : Prop := ∀ i : S512x512.Idx, z i = ((hid p (R + (i 0).val) (512 * c + (i 1).val) : ℝ) : EReal)
/-- Chunk `c`'s columns of the first weight. -/
abbrev IsU (p : Args) (c : ℕ) (z : S1x1024x512.Idx → EReal) : Prop := ∀ i : S1x1024x512.Idx, z i = ((p.up (i 1).val (512 * c + (i 2).val) : ℝ) : EReal)
/-- Chunk `c`'s columns of the hidden layer's gradient. -/
abbrev IsDA (p : Args) (R c : ℕ) (z : S512x512.Idx → EReal) : Prop := ∀ i : S512x512.Idx, z i = ((dhid p (R + (i 0).val) (512 * c + (i 1).val) : ℝ) : EReal)
/-- The first half of chunk `c`'s product with the second weight. -/
abbrev IsHalf (p : Args) (R c : ℕ) (z : S512x256.Idx → EReal) : Prop := ∀ i : S512x256.Idx, z i = ((∑ k : Fin 1024, p.d (R + (i 0).val) k.val * p.down (512 * c + (i 1).val) k.val : ℝ) : EReal)
/-- The input's gradient over the first `c` chunks. -/
def part (p : Args) (c r k : ℕ) : ℝ := ∑ j ∈ Finset.range (512 * c), dhid p r j * p.up k j
abbrev IsAcc (p : Args) (R c : ℕ) (z : S512x1024.Idx → EReal) : Prop := ∀ i : S512x1024.Idx, z i = ((part p c (R + (i 0).val) (i 1).val : ℝ) : EReal)

theorem part_zero (r k : ℕ) : part p 0 r k = 0 := by simp [part]
theorem part_succ (c r k : ℕ) : part p (c + 1) r k = part p c r k + ∑ j : Fin 512, dhid p r (512 * c + j.val) * p.up k (512 * c + j.val) := by
  unfold part
  rw [show 512 * (c + 1) = 512 * c + 512 by ring, Finset.sum_range_add]
  rw [← Finset.sum_range fun j => dhid p r (512 * c + j) * p.up k (512 * c + j)]
theorem part_eight (r k : ℕ) : part p 8 r k = din p r k := by
  unfold part din
  exact Finset.sum_range fun j => dhid p r j * p.up k j

theorem gate {r c : ℕ} {x y : EReal} (hx : x = ((∑ k : Fin 1024, p.d r k.val * p.down c k.val : ℝ) : EReal)) (hy : y = ((hid p r c : ℝ) : EReal)) :
    x * (Ideal.ofBits .bf16 0x4000#16 * max y 0) = ((dhid p r c : ℝ) : EReal) :=
  mul2 hx (mul2 ofBits_two_bf16 (max2 hy rfl))

theorem grow {z : S512x512.Idx → EReal} {u : S1x1024x512.Idx → EReal} (hz : IsDA p R c z) (hu : IsU p c u) (i : S512x1024.Idx) :
    0 + ∑ k : Fin 512, z (ix2 (i 0) k) * u (ix3 0 (i 1) k) = ((∑ j : Fin 512, dhid p (R + (i 0).val) (512 * c + j.val) * p.up (i 1).val (512 * c + j.val) : ℝ) : EReal) :=
  zsum2 rfl fun k => mul2 (hz _) (hu _)

theorem pay3_at {v3 : Vec Ideal S512x1024 .f32} (h : IsD p R v3) : IsD p R (k0_pay3 v3) := fun i => h i

theorem pay4_at {v3 : Vec Ideal S512x1024 .f32} {va vb : Vec Ideal S1x256x1024 .bf16} {v13 : Vec Ideal S512x512 .bf16} (h3 : IsD p R v3) (hA : IsA p c va) (hB : IsB p c vb) (h13 : IsI p R c v13) : IsDA p R c (k0_pay4 v3 va vb v13) := by
  intro i
  have h4 := pay3_at h3
  unfold k0_pay4
  generalize k0_pay3 v3 = v4 at h4 ⊢
  simp only [pointwise]
  refine gate ?_ (h13 i)
  split
  · exact (zsum2 rfl fun k => mul2 (h4 _) (hA _))
  · rename_i h
    have h' : ¬ (i 1).val < 256 := h
    have h1 : (i 1).val < 512 := (i 1).isLt
    refine (zsum2 rfl fun k => mul2 (h4 _) (hB _)).trans (congrArg Real.toEReal (Finset.sum_congr rfl fun k _ => congrArg₂ (· * ·) rfl (congrArg₂ p.down ?_ rfl)))
    show 512 * c + 256 + ((i 1).val - 256) = 512 * c + (i 1).val
    omega

theorem pay9_at {v4 : FVec Ideal S512x1024 .bf16} {va vb : Vec Ideal S1x256x1024 .bf16} {v13 : Vec Ideal S512x512 .bf16} (h4 : IsD p R v4) (hA : IsA p c va) (hB : IsB p c vb) (h13 : IsI p R c v13) : IsDA p R c (k0_pay9 v4 va vb v13) := by
  intro i
  unfold k0_pay9
  simp only [pointwise]
  refine gate ?_ (h13 i)
  split
  · exact (zsum2 rfl fun k => mul2 (h4 _) (hA _))
  · rename_i h
    have h' : ¬ (i 1).val < 256 := h
    have h1 : (i 1).val < 512 := (i 1).isLt
    refine (zsum2 rfl fun k => mul2 (h4 _) (hB _)).trans (congrArg Real.toEReal (Finset.sum_congr rfl fun k _ => congrArg₂ (· * ·) rfl (congrArg₂ p.down ?_ rfl)))
    show 512 * c + 256 + ((i 1).val - 256) = 512 * c + (i 1).val
    omega

theorem pay11_at {v4 : FVec Ideal S512x1024 .bf16} {va vb : Vec Ideal S1x256x1024 .bf16} {v13 : Vec Ideal S512x512 .bf16} (h4 : IsD p R v4) (hA : IsA p c va) (hB : IsB p c vb) (h13 : IsI p R c v13) : IsDA p R c (k0_pay11 v4 va vb v13) := by
  intro i
  unfold k0_pay11
  simp only [pointwise]
  refine gate ?_ (h13 i)
  split
  · exact (zsum2 rfl fun k => mul2 (h4 _) (hA _))
  · rename_i h
    have h' : ¬ (i 1).val < 256 := h
    have h1 : (i 1).val < 512 := (i 1).isLt
    refine (zsum2 rfl fun k => mul2 (h4 _) (hB _)).trans (congrArg Real.toEReal (Finset.sum_congr rfl fun k _ => congrArg₂ (· * ·) rfl (congrArg₂ p.down ?_ rfl)))
    show 512 * c + 256 + ((i 1).val - 256) = 512 * c + (i 1).val
    omega

theorem pay16_at {v4 : FVec Ideal S512x1024 .bf16} {va vb : Vec Ideal S1x256x1024 .bf16} {v13 : Vec Ideal S512x512 .bf16} (h4 : IsD p R v4) (hA : IsA p c va) (hB : IsB p c vb) (h13 : IsI p R c v13) : IsDA p R c (k0_pay16 v4 va vb v13) := by
  intro i
  unfold k0_pay16
  simp only [pointwise]
  refine gate ?_ (h13 i)
  split
  · exact (zsum2 rfl fun k => mul2 (h4 _) (hA _))
  · rename_i h
    have h' : ¬ (i 1).val < 256 := h
    have h1 : (i 1).val < 512 := (i 1).isLt
    refine (zsum2 rfl fun k => mul2 (h4 _) (hB _)).trans (congrArg Real.toEReal (Finset.sum_congr rfl fun k _ => congrArg₂ (· * ·) rfl (congrArg₂ p.down ?_ rfl)))
    show 512 * c + 256 + ((i 1).val - 256) = 512 * c + (i 1).val
    omega

theorem pay18_at {v4 : FVec Ideal S512x1024 .bf16} {va vb : Vec Ideal S1x256x1024 .bf16} {v13 : Vec Ideal S512x512 .bf16} (h4 : IsD p R v4) (hA : IsA p c va) (hB : IsB p c vb) (h13 : IsI p R c v13) : IsDA p R c (k0_pay18 v4 va vb v13) := by
  intro i
  unfold k0_pay18
  simp only [pointwise]
  refine gate ?_ (h13 i)
  split
  · exact (zsum2 rfl fun k => mul2 (h4 _) (hA _))
  · rename_i h
    have h' : ¬ (i 1).val < 256 := h
    have h1 : (i 1).val < 512 := (i 1).isLt
    refine (zsum2 rfl fun k => mul2 (h4 _) (hB _)).trans (congrArg Real.toEReal (Finset.sum_congr rfl fun k _ => congrArg₂ (· * ·) rfl (congrArg₂ p.down ?_ rfl)))
    show 512 * c + 256 + ((i 1).val - 256) = 512 * c + (i 1).val
    omega

theorem pay6_at {v3 : Vec Ideal S512x1024 .f32} {va : Vec Ideal S1x256x1024 .bf16} (h3 : IsD p R v3) (hA : IsA p c va) : IsHalf p R c (k0_pay6 v3 va) := by
  intro i
  have h4 := pay3_at h3
  unfold k0_pay6
  generalize k0_pay3 v3 = v4 at h4 ⊢
  simp only [pointwise]
  exact (zsum2 rfl fun k => mul2 (h4 _) (hA _))

theorem pay13_at {v4 : FVec Ideal S512x1024 .bf16} {va : Vec Ideal S1x256x1024 .bf16} (h4 : IsD p R v4) (hA : IsA p c va) : IsHalf p R c (k0_pay13 v4 va) := by
  intro i
  unfold k0_pay13
  simp only [pointwise]
  exact (zsum2 rfl fun k => mul2 (h4 _) (hA _))

theorem pay20_at {v4 : FVec Ideal S512x1024 .bf16} {va : Vec Ideal S1x256x1024 .bf16} (h4 : IsD p R v4) (hA : IsA p c va) : IsHalf p R c (k0_pay20 v4 va) := by
  intro i
  unfold k0_pay20
  simp only [pointwise]
  exact (zsum2 rfl fun k => mul2 (h4 _) (hA _))

theorem pay7_at {v4 : FVec Ideal S512x1024 .bf16} {va : FVec Ideal S512x256 .f32} {vb : Vec Ideal S1x256x1024 .bf16} {v13 : Vec Ideal S512x512 .bf16} (h4 : IsD p R v4) (hA : IsHalf p R c va) (hB : IsB p c vb) (h13 : IsI p R c v13) : IsDA p R c (k0_pay7 v4 va vb v13) := by
  intro i
  unfold k0_pay7
  simp only [pointwise]
  refine gate ?_ (h13 i)
  split
  · exact hA _
  · rename_i h
    have h' : ¬ (i 1).val < 256 := h
    have h1 : (i 1).val < 512 := (i 1).isLt
    refine (zsum2 rfl fun k => mul2 (h4 _) (hB _)).trans (congrArg Real.toEReal (Finset.sum_congr rfl fun k _ => congrArg₂ (· * ·) rfl (congrArg₂ p.down ?_ rfl)))
    show 512 * c + 256 + ((i 1).val - 256) = 512 * c + (i 1).val
    omega

theorem pay14_at {v4 : FVec Ideal S512x1024 .bf16} {va : FVec Ideal S512x256 .f32} {vb : Vec Ideal S1x256x1024 .bf16} {v13 : Vec Ideal S512x512 .bf16} (h4 : IsD p R v4) (hA : IsHalf p R c va) (hB : IsB p c vb) (h13 : IsI p R c v13) : IsDA p R c (k0_pay14 v4 va vb v13) := by
  intro i
  unfold k0_pay14
  simp only [pointwise]
  refine gate ?_ (h13 i)
  split
  · exact hA _
  · rename_i h
    have h' : ¬ (i 1).val < 256 := h
    have h1 : (i 1).val < 512 := (i 1).isLt
    refine (zsum2 rfl fun k => mul2 (h4 _) (hB _)).trans (congrArg Real.toEReal (Finset.sum_congr rfl fun k _ => congrArg₂ (· * ·) rfl (congrArg₂ p.down ?_ rfl)))
    show 512 * c + 256 + ((i 1).val - 256) = 512 * c + (i 1).val
    omega

theorem pay21_at {v4 : FVec Ideal S512x1024 .bf16} {va : FVec Ideal S512x256 .f32} {vb : Vec Ideal S1x256x1024 .bf16} {v13 : Vec Ideal S512x512 .bf16} (h4 : IsD p R v4) (hA : IsHalf p R c va) (hB : IsB p c vb) (h13 : IsI p R c v13) : IsDA p R c (k0_pay21 v4 va vb v13) := by
  intro i
  unfold k0_pay21
  simp only [pointwise]
  refine gate ?_ (h13 i)
  split
  · exact hA _
  · rename_i h
    have h' : ¬ (i 1).val < 256 := h
    have h1 : (i 1).val < 512 := (i 1).isLt
    refine (zsum2 rfl fun k => mul2 (h4 _) (hB _)).trans (congrArg Real.toEReal (Finset.sum_congr rfl fun k _ => congrArg₂ (· * ·) rfl (congrArg₂ p.down ?_ rfl)))
    show 512 * c + 256 + ((i 1).val - 256) = 512 * c + (i 1).val
    omega

theorem pay10_at {z : FVec Ideal S512x512 .f32} (h : IsDA p R c z) : IsDA p R c (k0_pay10 z) := fun i => h i

theorem pay17_at {z : FVec Ideal S512x512 .f32} (h : IsDA p R c z) : IsDA p R c (k0_pay17 z) := fun i => h i

theorem pay5_at {v3 : Vec Ideal S512x1024 .f32} {va vb : Vec Ideal S1x256x1024 .bf16} {v13 : Vec Ideal S512x512 .bf16} {u : Vec Ideal S1x1024x512 .bf16} (h3 : IsD p R v3) (hA : IsA p 0 va) (hB : IsB p 0 vb) (h13 : IsI p R 0 v13) (hu : IsU p 0 u) : IsAcc p R 1 (k0_pay5 v3 va vb v13 u) := by
  intro i
  have hz := pay4_at h3 hA hB h13
  unfold k0_pay5
  generalize k0_pay4 v3 va vb v13 = z at hz ⊢
  simp only [pointwise]
  rw [part_succ, part_zero]
  exact add2 EReal.coe_zero.symm (grow hz hu i)

theorem pay8_at {v4 : FVec Ideal S512x1024 .bf16} {acc : FVec Ideal S512x1024 .f32} {va : FVec Ideal S512x256 .f32} {vb : Vec Ideal S1x256x1024 .bf16} {v13 : Vec Ideal S512x512 .bf16} {u : Vec Ideal S1x1024x512 .bf16} (h4 : IsD p R v4) (ha : IsAcc p R c acc) (hA : IsHalf p R c va) (hB : IsB p c vb) (h13 : IsI p R c v13) (hu : IsU p c u) : IsAcc p R (c + 1) (k0_pay8 v4 acc va vb v13 u) := by
  intro i
  have hz := pay7_at h4 hA hB h13
  unfold k0_pay8
  generalize k0_pay7 v4 va vb v13 = z at hz ⊢
  simp only [pointwise]
  rw [part_succ]
  exact add2 (ha i) (grow hz hu i)

theorem pay15_at {v4 : FVec Ideal S512x1024 .bf16} {acc : FVec Ideal S512x1024 .f32} {va : FVec Ideal S512x256 .f32} {vb : Vec Ideal S1x256x1024 .bf16} {v13 : Vec Ideal S512x512 .bf16} {u : Vec Ideal S1x1024x512 .bf16} (h4 : IsD p R v4) (ha : IsAcc p R c acc) (hA : IsHalf p R c va) (hB : IsB p c vb) (h13 : IsI p R c v13) (hu : IsU p c u) : IsAcc p R (c + 1) (k0_pay15 v4 acc va vb v13 u) := by
  intro i
  have hz := pay14_at h4 hA hB h13
  unfold k0_pay15
  generalize k0_pay14 v4 va vb v13 = z at hz ⊢
  simp only [pointwise]
  rw [part_succ]
  exact add2 (ha i) (grow hz hu i)

theorem pay22_at {v4 : FVec Ideal S512x1024 .bf16} {acc : FVec Ideal S512x1024 .f32} {va : FVec Ideal S512x256 .f32} {vb : Vec Ideal S1x256x1024 .bf16} {v13 : Vec Ideal S512x512 .bf16} {u : Vec Ideal S1x1024x512 .bf16} (h4 : IsD p R v4) (ha : IsAcc p R c acc) (hA : IsHalf p R c va) (hB : IsB p c vb) (h13 : IsI p R c v13) (hu : IsU p c u) : IsAcc p R (c + 1) (k0_pay22 v4 acc va vb v13 u) := by
  intro i
  have hz := pay21_at h4 hA hB h13
  unfold k0_pay22
  generalize k0_pay21 v4 va vb v13 = z at hz ⊢
  simp only [pointwise]
  rw [part_succ]
  exact add2 (ha i) (grow hz hu i)

theorem pay12_at {v4 : FVec Ideal S512x1024 .bf16} {acc : FVec Ideal S512x1024 .f32} {z : FVec Ideal S512x512 .f32} {w : Vec Ideal S1x1024x512 .bf16} {va vb : Vec Ideal S1x256x1024 .bf16} {v13 : Vec Ideal S512x512 .bf16} {u : Vec Ideal S1x1024x512 .bf16} (h4 : IsD p R v4) (ha : IsAcc p R c acc) (hz : IsDA p R c z) (hw : IsU p c w) (hA : IsA p (c + 1) va) (hB : IsB p (c + 1) vb) (h13 : IsI p R (c + 1) v13) (hu : IsU p (c + 1) u) : IsAcc p R (c + 2) (k0_pay12 v4 acc z w va vb v13 u) := by
  intro i
  have hy := pay10_at hz
  have hx := pay11_at h4 hA hB h13
  unfold k0_pay12
  generalize k0_pay10 z = y at hy ⊢
  generalize k0_pay11 v4 va vb v13 = x at hx ⊢
  simp only [pointwise]
  rw [part_succ, part_succ]
  exact add2 (add2 (ha i) (grow hy hw i)) (grow hx hu i)

theorem pay19_at {v4 : FVec Ideal S512x1024 .bf16} {acc : FVec Ideal S512x1024 .f32} {z : FVec Ideal S512x512 .f32} {w : Vec Ideal S1x1024x512 .bf16} {va vb : Vec Ideal S1x256x1024 .bf16} {v13 : Vec Ideal S512x512 .bf16} {u : Vec Ideal S1x1024x512 .bf16} (h4 : IsD p R v4) (ha : IsAcc p R c acc) (hz : IsDA p R c z) (hw : IsU p c w) (hA : IsA p (c + 1) va) (hB : IsB p (c + 1) vb) (h13 : IsI p R (c + 1) v13) (hu : IsU p (c + 1) u) : IsAcc p R (c + 2) (k0_pay19 v4 acc z w va vb v13 u) := by
  intro i
  have hy := pay17_at hz
  have hx := pay18_at h4 hA hB h13
  unfold k0_pay19
  generalize k0_pay17 z = y at hy ⊢
  generalize k0_pay18 v4 va vb v13 = x at hx ⊢
  simp only [pointwise]
  rw [part_succ, part_succ]
  exact add2 (add2 (ha i) (grow hy hw i)) (grow hx hu i)

theorem pay23_at {v : Vec Ideal S512x1024 .f32} (h : IsH p R v) (i : S512x1.Idx) : k0_pay23 v i = ((irt p (R + (i 0).val) : ℝ) : EReal) := by
  unfold k0_pay23
  simp only [pointwise]
  exact rsqrt2 (ms_pos p _) (add2 (div2 (by norm_num) (sum2 fun k => mul2 (h _) (h _)) ofBits_1024) ofBits_eps)

theorem pay24_at {v : Vec Ideal S512x1024 .f32} (h : IsH p R v) (i : S512x1024.Idx) : k0_pay24 v i = ((nrm p (R + (i 0).val) (i 1).val : ℝ) : EReal) := by
  have h23 := pay23_at h
  unfold k0_pay24
  generalize k0_pay23 v = z at h23 ⊢
  simp only [pointwise]
  exact mul2 (h i) (h23 _)

theorem pay1_at {v3 : Vec Ideal S512x1024 .f32} {u : FVec Ideal S512x1024 .f32} {a : FVec Ideal S512x1 .f32} {n : FVec Ideal S512x1024 .f32} {g : Vec Ideal S1x1024 .f32} (h3 : IsD p R v3) (hu : IsAcc p R 8 u)
    (ha : ∀ i : S512x1.Idx, a i = ((irt p (R + (i 0).val) : ℝ) : EReal)) (hn : ∀ i : S512x1024.Idx, n i = ((nrm p (R + (i 0).val) (i 1).val : ℝ) : EReal)) (hg : IsG p g) (i : S512x1024.Idx) :
    k0_pay1 v3 u a n g i = ((dres p (R + (i 0).val) (i 1).val : ℝ) : EReal) := by
  unfold k0_pay1
  simp only [pointwise]
  have hu' : ∀ j : S512x1024.Idx, u j = ((din p (R + (j 0).val) (j 1).val : ℝ) : EReal) := fun j => (hu j).trans (congrArg Real.toEReal (part_eight _ _))
  exact add2 (h3 i) (mul2 (ha _) (sub2 (mul2 (hu' i) (hg _)) (mul2 (hn i) (div2 (by norm_num) (sum2 fun k => mul2 (mul2 (hu' _) (hg _)) (hn _)) ofBits_1024))))

/-- The rows' term of the scale's gradient. -/
def rows (p : Args) (R k : ℕ) : ℝ := ∑ r : Fin 512, din p (R + r.val) k * nrm p (R + r.val) k

theorem pay25_at {v4 : FVec Ideal S512x1024 .bf16} {acc : FVec Ideal S512x1024 .f32} {va : FVec Ideal S512x256 .f32} {vb : Vec Ideal S1x256x1024 .bf16} {v13 : Vec Ideal S512x512 .bf16} {u : Vec Ideal S1x1024x512 .bf16} {v : Vec Ideal S512x1024 .f32} {o : Vec Ideal S1x1024 .f32} {s : ℕ → ℝ}
    (h4 : IsD p R v4) (ha : IsAcc p R 7 acc) (hA : IsHalf p R 7 va) (hB : IsB p 7 vb) (h13 : IsI p R 7 v13) (hu : IsU p 7 u) (h : IsH p R v) (ho : ∀ i : S1x1024.Idx, o i = ((s (i 1).val : ℝ) : EReal)) (i : S1x1024.Idx) :
    k0_pay25 v4 acc va vb v13 u v o i = ((s (i 1).val + rows p R (i 1).val : ℝ) : EReal) := by
  have hz := pay22_at h4 ha hA hB h13 hu
  have hn := pay24_at h
  unfold k0_pay25
  generalize k0_pay22 v4 acc va vb v13 u = z at hz ⊢
  generalize k0_pay24 v = n at hn ⊢
  have hu' : ∀ j : S512x1024.Idx, z j = ((din p (R + (j 0).val) (j 1).val : ℝ) : EReal) := fun j => (hz j).trans (congrArg Real.toEReal (part_eight _ _))
  simp only [pointwise]
  exact add2 (ho i) (sum2 fun k => mul2 (hu' _) (hn _))

end Cert.Proof.Mlp

end
-- ==== Proof.Mlp.Body.lean ====
/- What one grid point leaves in its three results. -/
module

public import proofs.«01_k».proof.Proof.Gen.MlpIdeal.Value
public import proofs.«01_k».proof.Proof.Mlp.Chunk

@[expose] public section

noncomputable section

namespace Cert.Proof.Mlp

open Cert.MlpIdeal Cert.MlpIdeal.Gen
open Idealize.ShloMosaic Idealize.ShloMosaic.TcCoe Idealize.ShloMosaic.Tactic

variable {p : Args} {R : ℕ}

theorem ldA {x : Vec Ideal S8x256x1024 .bf16} (h : ∀ i : S8x256x1024.Idx, x i = ((p.down (512 * (i 0).val + (i 1).val) (i 2).val : ℝ) : EReal)) (c : ℕ)
    (inb : ∀ a, (![c, 0, 0] : Fin 3 → ℕ) a + (![1, 256, 1024] : Fin 3 → ℕ) a ≤ S8x256x1024.size a) : IsA p c (View.ld x (Rect.unit ![c, 0, 0] ![1, 256, 1024] inb)) := by
  intro i
  have h0 : (i 0).val < 1 := (i 0).isLt
  refine (h _).trans (congrArg Real.toEReal (congrArg₂ p.down ?_ ?_))
  · show 512 * (c + 1 * (i 0).val) + (0 + 1 * (i 1).val) = 512 * c + (i 1).val
    omega
  · show 0 + 1 * (i 2).val = (i 2).val
    omega

theorem ldB {x : Vec Ideal S8x256x1024 .bf16} (h : ∀ i : S8x256x1024.Idx, x i = ((p.down (512 * (i 0).val + 256 + (i 1).val) (i 2).val : ℝ) : EReal)) (c : ℕ)
    (inb : ∀ a, (![c, 0, 0] : Fin 3 → ℕ) a + (![1, 256, 1024] : Fin 3 → ℕ) a ≤ S8x256x1024.size a) : IsB p c (View.ld x (Rect.unit ![c, 0, 0] ![1, 256, 1024] inb)) := by
  intro i
  have h0 : (i 0).val < 1 := (i 0).isLt
  refine (h _).trans (congrArg Real.toEReal (congrArg₂ p.down ?_ ?_))
  · show 512 * (c + 1 * (i 0).val) + 256 + (0 + 1 * (i 1).val) = 512 * c + 256 + (i 1).val
    omega
  · show 0 + 1 * (i 2).val = (i 2).val
    omega

theorem ldU {x : Vec Ideal S8x1024x512 .bf16} (h : ∀ i : S8x1024x512.Idx, x i = ((p.up (i 1).val (512 * (i 0).val + (i 2).val) : ℝ) : EReal)) (c : ℕ)
    (inb : ∀ a, (![c, 0, 0] : Fin 3 → ℕ) a + (![1, 1024, 512] : Fin 3 → ℕ) a ≤ S8x1024x512.size a) : IsU p c (View.ld x (Rect.unit ![c, 0, 0] ![1, 1024, 512] inb)) := by
  intro i
  have h0 : (i 0).val < 1 := (i 0).isLt
  refine (h _).trans (congrArg Real.toEReal (congrArg₂ p.up ?_ ?_))
  · show 0 + 1 * (i 1).val = (i 1).val
    omega
  · show 512 * (c + 1 * (i 0).val) + (0 + 1 * (i 2).val) = 512 * c + (i 2).val
    omega

theorem ldI {x : Vec Ideal S512x4096 .bf16} (h : ∀ i : S512x4096.Idx, x i = ((hid p (R + (i 0).val) (i 1).val : ℝ) : EReal)) (c : ℕ) {o : ℕ} (ho : o = 512 * c)
    (inb : ∀ a, (![0, o] : Fin 2 → ℕ) a + (![512, 512] : Fin 2 → ℕ) a ≤ S512x4096.size a) : IsI p R c (View.ld x (Rect.unit ![0, o] ![512, 512] inb)) := by
  intro i
  refine (h _).trans (congrArg Real.toEReal (congrArg₂ (hid p) ?_ ?_))
  · show R + (0 + 1 * (i 0).val) = R + (i 0).val
    omega
  · show o + 1 * (i 1).val = 512 * c + (i 1).val
    omega

/-- The blocks a grid point reads, the rows' blocks from row `R`. -/
structure Reads (p : Args) (R : ℕ) (x0 : Vec Ideal S512x1024 .f32) (x1 : Vec Ideal S512x4096 .bf16) (x2 : Vec Ideal S512x1024 .f32) (x3 : Vec Ideal S1x1024 .f32) (x4 : Vec Ideal S8x1024x512 .bf16) (x5 x6 : Vec Ideal S8x256x1024 .bf16) : Prop where
  h0 : IsD p R x0
  h1 : ∀ i : S512x4096.Idx, x1 i = ((hid p (R + (i 0).val) (i 1).val : ℝ) : EReal)
  h2 : IsH p R x2
  h3 : IsG p x3
  h4 : ∀ i : S8x1024x512.Idx, x4 i = ((p.up (i 1).val (512 * (i 0).val + (i 2).val) : ℝ) : EReal)
  h5 : ∀ i : S8x256x1024.Idx, x5 i = ((p.down (512 * (i 0).val + (i 1).val) (i 2).val : ℝ) : EReal)
  h6 : ∀ i : S8x256x1024.Idx, x6 i = ((p.down (512 * (i 0).val + 256 + (i 1).val) (i 2).val : ℝ) : EReal)

variable (m : (ℓ : Loc nD τ sig) → Buf (Elt Ideal) ℓ)

/-- Point `t`'s input blocks hold the reals of `p`. -/
abbrev At (p : Args) (c : Dev nD) (t : Fin cfg0.N) : Prop :=
  Reads p (512 * t.val) (iblk m c 0 t) (iblk m c 1 t) (iblk m c 2 t) (iblk m c 3 t) (iblk m c 4 t) (iblk m c 5 t) (iblk m c 6 t)

theorem out9_A {c : Dev nD} {t : Fin cfg0.N} (h : t.val % 8 = 0) (H : At m p c t) (i : S1x1024.Idx) :
    (outsAt0 m c t.val t.isLt).2.2 i = ((0 + rows p (512 * t.val) (i 1).val : ℝ) : EReal) := by
  rw [outsAt0_A m c t h]
  frame_out
  exact pay25_at (pay3_at H.h0) (pay19_at (pay3_at H.h0) (pay15_at (pay3_at H.h0) (pay12_at (pay3_at H.h0) (pay8_at (pay3_at H.h0) (pay5_at H.h0 (ldA H.h5 0 _) (ldB H.h6 0 _) (ldI H.h1 0 rfl _) (ldU H.h4 0 _)) (pay6_at H.h0 (ldA H.h5 1 _)) (ldB H.h6 1 _) (ldI H.h1 1 rfl _) (ldU H.h4 1 _)) (pay9_at (pay3_at H.h0) (ldA H.h5 2 _) (ldB H.h6 2 _) (ldI H.h1 2 rfl _)) (ldU H.h4 2 _) (ldA H.h5 3 _) (ldB H.h6 3 _) (ldI H.h1 3 rfl _) (ldU H.h4 3 _)) (pay13_at (pay3_at H.h0) (ldA H.h5 4 _)) (ldB H.h6 4 _) (ldI H.h1 4 rfl _) (ldU H.h4 4 _)) (pay16_at (pay3_at H.h0) (ldA H.h5 5 _) (ldB H.h6 5 _) (ldI H.h1 5 rfl _)) (ldU H.h4 5 _) (ldA H.h5 6 _) (ldB H.h6 6 _) (ldI H.h1 6 rfl _) (ldU H.h4 6 _)) (pay20_at (pay3_at H.h0) (ldA H.h5 7 _)) (ldB H.h6 7 _) (ldI H.h1 7 rfl _) (ldU H.h4 7 _) H.h2 (s := fun _ => 0) (fun _ => Ideal.ofBits_zero_f32.trans EReal.coe_zero.symm) i

theorem out8_A {c : Dev nD} {t : Fin cfg0.N} (h : t.val % 8 = 0) (H : At m p c t) (i : S512x1024.Idx) :
    (outsAt0 m c t.val t.isLt).2.1 i = ((dres p (512 * t.val + (i 0).val) (i 1).val : ℝ) : EReal) := by
  rw [outsAt0_A m c t h]
  frame_out
  exact pay1_at H.h0 (pay22_at (pay3_at H.h0) (pay19_at (pay3_at H.h0) (pay15_at (pay3_at H.h0) (pay12_at (pay3_at H.h0) (pay8_at (pay3_at H.h0) (pay5_at H.h0 (ldA H.h5 0 _) (ldB H.h6 0 _) (ldI H.h1 0 rfl _) (ldU H.h4 0 _)) (pay6_at H.h0 (ldA H.h5 1 _)) (ldB H.h6 1 _) (ldI H.h1 1 rfl _) (ldU H.h4 1 _)) (pay9_at (pay3_at H.h0) (ldA H.h5 2 _) (ldB H.h6 2 _) (ldI H.h1 2 rfl _)) (ldU H.h4 2 _) (ldA H.h5 3 _) (ldB H.h6 3 _) (ldI H.h1 3 rfl _) (ldU H.h4 3 _)) (pay13_at (pay3_at H.h0) (ldA H.h5 4 _)) (ldB H.h6 4 _) (ldI H.h1 4 rfl _) (ldU H.h4 4 _)) (pay16_at (pay3_at H.h0) (ldA H.h5 5 _) (ldB H.h6 5 _) (ldI H.h1 5 rfl _)) (ldU H.h4 5 _) (ldA H.h5 6 _) (ldB H.h6 6 _) (ldI H.h1 6 rfl _) (ldU H.h4 6 _)) (pay20_at (pay3_at H.h0) (ldA H.h5 7 _)) (ldB H.h6 7 _) (ldI H.h1 7 rfl _) (ldU H.h4 7 _)) (pay23_at H.h2) (pay24_at H.h2) H.h3 i

theorem out7_A {c : Dev nD} {t : Fin cfg0.N} (h : t.val % 8 = 0) (H : At m p c t) (i : S512x4096.Idx) :
    (outsAt0 m c t.val t.isLt).1 i = ((dhid p (512 * t.val + (i 0).val) (i 1).val : ℝ) : EReal) := by
  rw [outsAt0_A m c t h]
  frame_out
  canon_tiles x h
  · exact (pay21_at (pay3_at H.h0) (pay20_at (pay3_at H.h0) (ldA H.h5 7 _)) (ldB H.h6 7 _) (ldI H.h1 7 rfl _) x).trans (congrArg Real.toEReal (congrArg₂ (dhid p) (by omega) (by omega)))
  · exact (pay18_at (pay3_at H.h0) (ldA H.h5 6 _) (ldB H.h6 6 _) (ldI H.h1 6 rfl _) x).trans (congrArg Real.toEReal (congrArg₂ (dhid p) (by omega) (by omega)))
  · exact (pay17_at (pay16_at (pay3_at H.h0) (ldA H.h5 5 _) (ldB H.h6 5 _) (ldI H.h1 5 rfl _)) x).trans (congrArg Real.toEReal (congrArg₂ (dhid p) (by omega) (by omega)))
  · exact (pay14_at (pay3_at H.h0) (pay13_at (pay3_at H.h0) (ldA H.h5 4 _)) (ldB H.h6 4 _) (ldI H.h1 4 rfl _) x).trans (congrArg Real.toEReal (congrArg₂ (dhid p) (by omega) (by omega)))
  · exact (pay11_at (pay3_at H.h0) (ldA H.h5 3 _) (ldB H.h6 3 _) (ldI H.h1 3 rfl _) x).trans (congrArg Real.toEReal (congrArg₂ (dhid p) (by omega) (by omega)))
  · exact (pay10_at (pay9_at (pay3_at H.h0) (ldA H.h5 2 _) (ldB H.h6 2 _) (ldI H.h1 2 rfl _)) x).trans (congrArg Real.toEReal (congrArg₂ (dhid p) (by omega) (by omega)))
  · exact (pay7_at (pay3_at H.h0) (pay6_at H.h0 (ldA H.h5 1 _)) (ldB H.h6 1 _) (ldI H.h1 1 rfl _) x).trans (congrArg Real.toEReal (congrArg₂ (dhid p) (by omega) (by omega)))
  · exact (pay4_at H.h0 (ldA H.h5 0 _) (ldB H.h6 0 _) (ldI H.h1 0 rfl _) x).trans (congrArg Real.toEReal (congrArg₂ (dhid p) (by omega) (by omega)))

theorem out9_B {c : Dev nD} {t : Fin cfg0.N} (h : ¬ t.val % 8 = 0) (H : At m p c t) {s : ℕ → ℝ} (hs : ∀ i : S1x1024.Idx, (outsAt0 m c (t.val - 1) (Nat.lt_of_le_of_lt (Nat.sub_le _ _) t.isLt)).2.2 i = ((s (i 1).val : ℝ) : EReal)) (i : S1x1024.Idx) :
    (outsAt0 m c t.val t.isLt).2.2 i = ((s (i 1).val + rows p (512 * t.val) (i 1).val : ℝ) : EReal) := by
  rw [outsAt0_B m c t h]
  frame_out
  exact pay25_at (pay3_at H.h0) (pay19_at (pay3_at H.h0) (pay15_at (pay3_at H.h0) (pay12_at (pay3_at H.h0) (pay8_at (pay3_at H.h0) (pay5_at H.h0 (ldA H.h5 0 _) (ldB H.h6 0 _) (ldI H.h1 0 rfl _) (ldU H.h4 0 _)) (pay6_at H.h0 (ldA H.h5 1 _)) (ldB H.h6 1 _) (ldI H.h1 1 rfl _) (ldU H.h4 1 _)) (pay9_at (pay3_at H.h0) (ldA H.h5 2 _) (ldB H.h6 2 _) (ldI H.h1 2 rfl _)) (ldU H.h4 2 _) (ldA H.h5 3 _) (ldB H.h6 3 _) (ldI H.h1 3 rfl _) (ldU H.h4 3 _)) (pay13_at (pay3_at H.h0) (ldA H.h5 4 _)) (ldB H.h6 4 _) (ldI H.h1 4 rfl _) (ldU H.h4 4 _)) (pay16_at (pay3_at H.h0) (ldA H.h5 5 _) (ldB H.h6 5 _) (ldI H.h1 5 rfl _)) (ldU H.h4 5 _) (ldA H.h5 6 _) (ldB H.h6 6 _) (ldI H.h1 6 rfl _) (ldU H.h4 6 _)) (pay20_at (pay3_at H.h0) (ldA H.h5 7 _)) (ldB H.h6 7 _) (ldI H.h1 7 rfl _) (ldU H.h4 7 _) H.h2 hs i

theorem out8_B {c : Dev nD} {t : Fin cfg0.N} (h : ¬ t.val % 8 = 0) (H : At m p c t) (i : S512x1024.Idx) :
    (outsAt0 m c t.val t.isLt).2.1 i = ((dres p (512 * t.val + (i 0).val) (i 1).val : ℝ) : EReal) := by
  rw [outsAt0_B m c t h]
  frame_out
  exact pay1_at H.h0 (pay22_at (pay3_at H.h0) (pay19_at (pay3_at H.h0) (pay15_at (pay3_at H.h0) (pay12_at (pay3_at H.h0) (pay8_at (pay3_at H.h0) (pay5_at H.h0 (ldA H.h5 0 _) (ldB H.h6 0 _) (ldI H.h1 0 rfl _) (ldU H.h4 0 _)) (pay6_at H.h0 (ldA H.h5 1 _)) (ldB H.h6 1 _) (ldI H.h1 1 rfl _) (ldU H.h4 1 _)) (pay9_at (pay3_at H.h0) (ldA H.h5 2 _) (ldB H.h6 2 _) (ldI H.h1 2 rfl _)) (ldU H.h4 2 _) (ldA H.h5 3 _) (ldB H.h6 3 _) (ldI H.h1 3 rfl _) (ldU H.h4 3 _)) (pay13_at (pay3_at H.h0) (ldA H.h5 4 _)) (ldB H.h6 4 _) (ldI H.h1 4 rfl _) (ldU H.h4 4 _)) (pay16_at (pay3_at H.h0) (ldA H.h5 5 _) (ldB H.h6 5 _) (ldI H.h1 5 rfl _)) (ldU H.h4 5 _) (ldA H.h5 6 _) (ldB H.h6 6 _) (ldI H.h1 6 rfl _) (ldU H.h4 6 _)) (pay20_at (pay3_at H.h0) (ldA H.h5 7 _)) (ldB H.h6 7 _) (ldI H.h1 7 rfl _) (ldU H.h4 7 _)) (pay23_at H.h2) (pay24_at H.h2) H.h3 i

theorem out7_B {c : Dev nD} {t : Fin cfg0.N} (h : ¬ t.val % 8 = 0) (H : At m p c t) (i : S512x4096.Idx) :
    (outsAt0 m c t.val t.isLt).1 i = ((dhid p (512 * t.val + (i 0).val) (i 1).val : ℝ) : EReal) := by
  rw [outsAt0_B m c t h]
  frame_out
  canon_tiles x h
  · exact (pay21_at (pay3_at H.h0) (pay20_at (pay3_at H.h0) (ldA H.h5 7 _)) (ldB H.h6 7 _) (ldI H.h1 7 rfl _) x).trans (congrArg Real.toEReal (congrArg₂ (dhid p) (by omega) (by omega)))
  · exact (pay18_at (pay3_at H.h0) (ldA H.h5 6 _) (ldB H.h6 6 _) (ldI H.h1 6 rfl _) x).trans (congrArg Real.toEReal (congrArg₂ (dhid p) (by omega) (by omega)))
  · exact (pay17_at (pay16_at (pay3_at H.h0) (ldA H.h5 5 _) (ldB H.h6 5 _) (ldI H.h1 5 rfl _)) x).trans (congrArg Real.toEReal (congrArg₂ (dhid p) (by omega) (by omega)))
  · exact (pay14_at (pay3_at H.h0) (pay13_at (pay3_at H.h0) (ldA H.h5 4 _)) (ldB H.h6 4 _) (ldI H.h1 4 rfl _) x).trans (congrArg Real.toEReal (congrArg₂ (dhid p) (by omega) (by omega)))
  · exact (pay11_at (pay3_at H.h0) (ldA H.h5 3 _) (ldB H.h6 3 _) (ldI H.h1 3 rfl _) x).trans (congrArg Real.toEReal (congrArg₂ (dhid p) (by omega) (by omega)))
  · exact (pay10_at (pay9_at (pay3_at H.h0) (ldA H.h5 2 _) (ldB H.h6 2 _) (ldI H.h1 2 rfl _)) x).trans (congrArg Real.toEReal (congrArg₂ (dhid p) (by omega) (by omega)))
  · exact (pay7_at (pay3_at H.h0) (pay6_at H.h0 (ldA H.h5 1 _)) (ldB H.h6 1 _) (ldI H.h1 1 rfl _) x).trans (congrArg Real.toEReal (congrArg₂ (dhid p) (by omega) (by omega)))
  · exact (pay4_at H.h0 (ldA H.h5 0 _) (ldB H.h6 0 _) (ldI H.h1 0 rfl _) x).trans (congrArg Real.toEReal (congrArg₂ (dhid p) (by omega) (by omega)))

end Cert.Proof.Mlp

end
-- ==== Proof.Mlp.Ref.lean ====
/- The reference's three results over the reals. -/
module

public import proofs.«01_k».proof.Proof.Gen.MlpReferenceIdeal.Read
public import proofs.«01_k».proof.Proof.Mlp.Spec

@[expose] public section

noncomputable section

namespace Cert.Proof.Mlp

open Cert.MlpReferenceIdeal Cert.MlpReferenceIdeal.Gen Cert.MlpReferenceIdeal.Read
open Idealize.ShloMosaic Idealize.ShloMosaic.TcCoe
open Cert.Proof.Value (mul2 add2 div2 sum2 zsum2)

abbrev A0 : Type := (⟨S4096x1024, .f32⟩ : BufTy).Contents (Elt Ideal)
abbrev A1 : Type := (⟨S1x1024, .f32⟩ : BufTy).Contents (Elt Ideal)
abbrev A2 : Type := (⟨S1024x4096, .f32⟩ : BufTy).Contents (Elt Ideal)

/-- The arrays hold the reals of `p`. -/
structure Holds (p : Args) (x0 : A0) (x1 : A1) (x2 : A2) (x3 x4 : A0) : Prop where
  h : ∀ i : S4096x1024.Idx, x0 i = ((p.h (i 0).val (i 1).val : ℝ) : EReal)
  g : ∀ i : S1x1024.Idx, x1 i = ((p.g (i 0).val (i 1).val : ℝ) : EReal)
  up : ∀ i : S1024x4096.Idx, x2 i = ((p.up (i 0).val (i 1).val : ℝ) : EReal)
  down : ∀ i : S4096x1024.Idx, x3 i = ((p.down (i 0).val (i 1).val : ℝ) : EReal)
  d : ∀ i : S4096x1024.Idx, x4 i = ((p.d (i 0).val (i 1).val : ℝ) : EReal)

variable {p : Args} {x0 : A0} {x1 : A1} {x2 : A2} {x3 x4 : A0}

theorem r8_at (H : Holds p x0 x1 x2 x3 x4) (i : S4096x1.Idx) :
    val_main_v7 (F := Ideal) x0 i = ((ms p (i 0).val : ℝ) : EReal) ∧ val_main_v8 (F := Ideal) x0 i = ((irt p (i 0).val : ℝ) : EReal) := by
  have h7 : val_main_v7 (F := Ideal) x0 i = ((ms p (i 0).val : ℝ) : EReal) := by
    rw [val_main_v7_apply, val_main_v5_apply, val_main_v3_apply, val_main_v2_apply, val_main_v4_apply, val_main_v6_apply]
    exact add2 (div2 (by norm_num) (zsum2 Ideal.ofBits_zero_f32 fun k => mul2 (H.h _) (H.h _)) ofBits_1024) ofBits_eps
  refine ⟨h7, ?_⟩
  rw [val_main_v8_apply]
  exact rsqrt2 (ms_pos p _) h7

theorem r13_at (H : Holds p x0 x1 x2 x3 x4) (i : S4096x1024.Idx) : val_main_v13 (F := Ideal) x0 i = ((nrm p (i 0).val (i 1).val : ℝ) : EReal) := by
  rw [val_main_v13_apply, val_main_v12_apply]
  exact mul2 (H.h _) (r8_at H _).2

theorem r16_at (H : Holds p x0 x1 x2 x3 x4) (i : S4096x4096.Idx) : val_main_v16 (F := Ideal) x0 x1 x2 i = ((hid p (i 0).val (i 1).val : ℝ) : EReal) := by
  rw [val_main_v16_apply]
  refine sum2 fun k => mul2 ?_ (H.up _)
  rw [val_main_v15_apply, val_main_v14_apply]
  exact mul2 (r13_at H _) (H.g _)

theorem r17_at (H : Holds p x0 x1 x2 x3 x4) (i : S4096x4096.Idx) : val_main_v17 (F := Ideal) x0 x1 x2 i = ((hid p (i 0).val (i 1).val : ℝ) : EReal) := by
  rw [val_main_v17_apply, val_main_v0_apply]
  have hz : val_main_cst (F := Ideal) (idx_main_v0 i) = ((0 : ℝ) : EReal) := Ideal.ofBits_zero_f32.trans EReal.coe_zero.symm
  exact (add2 (r16_at H i) hz).trans (by rw [add_zero])

theorem r18_at (H : Holds p x0 x1 x2 x3 x4) (i : S4096x4096.Idx) : val_main_v18 (F := Ideal) x0 x1 x2 i = ((max (hid p (i 0).val (i 1).val) 0 : ℝ) : EReal) := by
  rw [val_main_v18_apply, val_main_call0_v0_apply]
  exact max2 (r17_at H i) Ideal.ofBits_zero_f32

/-- The hidden layer's gradient: where the layer is not positive, both sides are zero. -/
theorem r31_at (H : Holds p x0 x1 x2 x3 x4) (i : S4096x4096.Idx) : val_main_v31 (F := Ideal) x0 x1 x2 x3 x4 i = ((dhid p (i 0).val (i 1).val : ℝ) : EReal) := by
  have h29 : val_main_v29 (F := Ideal) x0 x1 x2 x3 x4 i = ((dhid p (i 0).val (i 1).val : ℝ) : EReal) := by
    rw [val_main_v29_apply, val_main_v28_apply, val_main_v24_apply, val_main_v23_apply]
    refine mul2 (sum2 fun k => mul2 ?_ (H.down _)) (mul2 ofBits_two (r18_at H i))
    rw [val_main_v27_apply, H.d]
    have h1 : (i 0).val < 4096 := (i 0).isLt
    have h2 : k.val < 1024 := k.isLt
    refine congrArg Real.toEReal (congrArg₂ p.d ?_ ?_)
    · show ((i 0).val * 1024 + k.val) / 1024 = (i 0).val
      omega
    · show ((i 0).val * 1024 + k.val) % 1024 = k.val
      omega
  rw [val_main_v31_apply, h29, val_main_v20_apply, val_main_v19_apply, val_main_v30_apply, r17_at H]
  have hz : val_main_cst_4 (F := Ideal) (idx_main_v19 i) = ((0 : ℝ) : EReal) := Ideal.ofBits_zero_f32.trans EReal.coe_zero.symm
  have hw : val_main_cst_7 (F := Ideal) (idx_main_v30 i) = ((0 : ℝ) : EReal) := Ideal.ofBits_zero_f32.trans EReal.coe_zero.symm
  rw [hz, hw, Ideal.cmpf_def]
  by_cases hp : 0 < hid p (i 0).val (i 1).val
  · have hc : Ideal.cmp .ogt ((hid p (i 0).val (i 1).val : ℝ) : EReal) ((0 : ℝ) : EReal) = 1#1 := by
      show BitVec.ofBool (decide (((0 : ℝ) : EReal) < _)) = 1#1
      rw [decide_eq_true (EReal.coe_lt_coe_iff.mpr hp)]; rfl
    rw [hc]; rfl
  · have hc : Ideal.cmp .ogt ((hid p (i 0).val (i 1).val : ℝ) : EReal) ((0 : ℝ) : EReal) = 0#1 := by
      show BitVec.ofBool (decide (((0 : ℝ) : EReal) < _)) = 0#1
      rw [decide_eq_false (fun h => hp (EReal.coe_lt_coe_iff.mp h))]; rfl
    rw [hc]
    refine Eq.trans rfl (congrArg Real.toEReal ?_ : ((0 : ℝ) : EReal) = _)
    unfold dhid
    rw [max_eq_right (not_lt.mp hp), mul_zero, mul_zero]

theorem r32_at (H : Holds p x0 x1 x2 x3 x4) (i : S4096x1024.Idx) : val_main_v32 (F := Ideal) x0 x1 x2 x3 x4 i = ((din p (i 0).val (i 1).val : ℝ) : EReal) := by
  rw [val_main_v32_apply]
  exact sum2 fun k => mul2 (r31_at H _) (H.up _)

theorem res_da (H : Holds p x0 x1 x2 x3 x4) (i : S4096x4096.Idx) : val_main_v53 (F := Ideal) x0 x1 x2 x3 x4 i = ((dhid p (i 0).val (i 1).val : ℝ) : EReal) :=
  (val_main_v53_apply _ _ _ _ _ i).trans (r31_at H i)

theorem res_dg (H : Holds p x0 x1 x2 x3 x4) (i : S1x1024.Idx) : val_main_v35 (F := Ideal) x0 x1 x2 x3 x4 i = ((dgam p (i 1).val : ℝ) : EReal) := by
  rw [val_main_v35_apply, val_main_v34_apply]
  refine (zsum2 Ideal.ofBits_zero_f32 fun k => (mul2 (r13_at H _) (r32_at H _))).trans (congrArg Real.toEReal ?_)
  have h0 : (i 0).val < 1 := (i 0).isLt
  refine Finset.sum_congr rfl fun k _ => ?_
  show nrm p k.val ((i 0).val * 1024 + (i 1).val) * din p k.val ((i 0).val * 1024 + (i 1).val) = _
  rw [show (i 0).val * 1024 + (i 1).val = (i 1).val by omega, mul_comm]

theorem r37_at (H : Holds p x0 x1 x2 x3 x4) (i : S4096x1024.Idx) : val_main_v37 (F := Ideal) x0 x1 x2 x3 x4 i = ((din p (i 0).val (i 1).val * p.g 0 (i 1).val : ℝ) : EReal) := by
  rw [val_main_v37_apply, val_main_v36_apply]
  exact mul2 (r32_at H i) (H.g _)

/-- The gradient through the mean square. -/
def half (p : Args) (r : ℕ) : ℝ := (∑ k : Fin 1024, p.h r k.val * (din p r k.val * p.g 0 k.val)) * (-(1 / 2) * (irt p r / ms p r)) / 1024

theorem r48_at (H : Holds p x0 x1 x2 x3 x4) (i : S4096x1024.Idx) : val_main_v48 (F := Ideal) x0 x1 x2 x3 x4 i = ((half p (i 0).val : ℝ) : EReal) := by
  rw [val_main_v48_apply, val_main_v47_apply]
  have hone : ∀ k : Fin 1, val_main_v46 (F := Ideal) x0 x1 x2 x3 x4 (idx_main_v47 (idx_main_v48 i) k) = ((half p (i 0).val : ℝ) : EReal) := by
    intro k
    rw [val_main_v46_apply, val_main_v44_apply, val_main_v45_apply, val_main_v40_apply, val_main_v39_apply, val_main_v11_apply, val_main_v10_apply, val_main_v9_apply]
    refine div2 (by norm_num) (mul2 (zsum2 Ideal.ofBits_zero_f32 fun j => ?_) (mul2 ofBits_neg_half (div2 (ms_pos p _).ne' (r8_at H _).2 (r8_at H _).1))) ofBits_1024
    rw [val_main_v38_apply]
    have hk : k.val = 0 := by omega
    refine (mul2 (H.h _) (r37_at H _)).trans (congrArg Real.toEReal ?_)
    show p.h ((i 0).val * 1 + k.val) j.val * (din p ((i 0).val * 1 + k.val) j.val * _) = _
    rw [hk, mul_one, add_zero]
  refine (zsum2 Ideal.ofBits_zero_f32 hone).trans (congrArg Real.toEReal ?_)
  simp

theorem res_dh (H : Holds p x0 x1 x2 x3 x4) (i : S4096x1024.Idx) : val_main_v52 (F := Ideal) x0 x1 x2 x3 x4 i = ((dres p (i 0).val (i 1).val : ℝ) : EReal) := by
  rw [val_main_v52_apply, val_main_v50_apply, val_main_v43_apply, val_main_v42_apply, val_main_v41_apply, val_main_v49_apply, val_main_v51_apply]
  refine (add2 (add2 (add2 (H.d _) (mul2 (r37_at H _) (r8_at H _).2)) (mul2 (H.h _) (r48_at H _))) (mul2 (r48_at H _) (H.h _))).trans (congrArg Real.toEReal ?_)
  show p.d (i 0).val (i 1).val + din p (i 0).val (i 1).val * p.g 0 (i 1).val * irt p (i 0).val + p.h (i 0).val (i 1).val * half p (i 0).val + half p (i 0).val * p.h (i 0).val (i 1).val = _
  generalize (i 0).val = r
  generalize (i 1).val = k
  have hs : (∑ j : Fin 1024, din p r j.val * p.g 0 j.val * nrm p r j.val) = irt p r * ∑ j : Fin 1024, p.h r j.val * (din p r j.val * p.g 0 j.val) := by
    rw [Finset.mul_sum]; exact Finset.sum_congr rfl fun j _ => by unfold nrm; ring
  unfold dres half
  rw [hs, irt_sq]
  unfold nrm
  ring

end Cert.Proof.Mlp

end
-- ==== Proof.Mlp.Inputs.lean ====
/- The input blocks of a grid point, as real numbers, and the arrays the host prepares for them. -/
module

public import proofs.«01_k».proof.Proof.Mlp.Body
public import proofs.«01_k».proof.Proof.Mlp.Ref
public import Idealize.ShloMosaic.Lib.Claim

@[expose] public section

noncomputable section

namespace Cert.Proof.Mlp

open Cert.MlpIdeal Cert.MlpIdeal.Gen
open Idealize.ShloMosaic Idealize.ShloMosaic.TcCoe Idealize.ShloMosaic.Tactic

variable (m : (ℓ : Loc nD τ sig) → Buf (Elt Ideal) ℓ)

/-- A device's arguments hold the reals of `p`. -/
abbrev Args.In (p : Args) (c : Dev nD) : Prop :=
  Holds p (m ((c : Thread nD τ).loc main_arg0)) (m ((c : Thread nD τ).loc main_arg1)) (m ((c : Thread nD τ).loc main_arg2)) (m ((c : Thread nD τ).loc main_arg3)) (m ((c : Thread nD τ).loc main_arg4))

/-- The hidden layer's array is the product the reference forms. -/
theorem entry_a (c : Dev nD) (i : S4096x4096.Idx) :
    V m c main_v13 i = Cert.MlpReferenceIdeal.Read.val_main_v16 (F := Ideal) (m ((c : Thread nD τ).loc main_arg0)) (m ((c : Thread nD τ).loc main_arg1)) (m ((c : Thread nD τ).loc main_arg2)) i := by
  entry_read
  rfl

theorem entry_up {p : Args} {c : Dev nD} (H : p.In m c) (i : S8x1024x512.Idx) : V m c main_v16 i = ((p.up (i 1).val (512 * (i 0).val + (i 2).val) : ℝ) : EReal) := by
  entry_read
  pointwise
  refine (H.up _).trans (congrArg Real.toEReal (congrArg₂ p.up rfl ?_))
  show (i 0).val * 512 + (i 2).val = 512 * (i 0).val + (i 2).val
  omega

theorem entry_down {p : Args} {c : Dev nD} (H : p.In m c) (i : S8x256x1024.Idx) : V m c main_v20 i = ((p.down (512 * (i 0).val + (i 1).val) (i 2).val : ℝ) : EReal) := by
  entry_read
  pointwise
  refine (H.down _).trans (congrArg Real.toEReal (congrArg₂ p.down ?_ rfl))
  show (i 0).val * 512 + (i 1).val = 512 * (i 0).val + (i 1).val
  omega

theorem entry_b {p : Args} {c : Dev nD} (H : p.In m c) (i : S8x256x1024.Idx) : V m c main_v22 i = ((p.down (512 * (i 0).val + 256 + (i 1).val) (i 2).val : ℝ) : EReal) := by
  entry_read
  pointwise
  refine (H.down _).trans (congrArg Real.toEReal (congrArg₂ p.down ?_ rfl))
  show (i 0).val * 512 + 256 + (i 1).val = 512 * (i 0).val + 256 + (i 1).val
  omega

theorem read0 (c : Dev nD) (Z : (b : Ref sig .tc) → Buf (Elt Ideal) ((c : Thread nD τ).loc b)) (t : Fin cfg0.N) (y : S512x1024.Idx) :
    ((cfg0.win 0).blk t).view.read (Elt Ideal) (Z (Pipeline.arrRef spec0 0)) y = Z main_arg4 (((cfg0.win 0).rect t).emb y) := rfl
theorem read1 (c : Dev nD) (Z : (b : Ref sig .tc) → Buf (Elt Ideal) ((c : Thread nD τ).loc b)) (t : Fin cfg0.N) (y : S512x4096.Idx) :
    ((cfg0.win 1).blk t).view.read (Elt Ideal) (Z (Pipeline.arrRef spec0 1)) y = Z main_v13 (((cfg0.win 1).rect t).emb y) := rfl
theorem read2 (c : Dev nD) (Z : (b : Ref sig .tc) → Buf (Elt Ideal) ((c : Thread nD τ).loc b)) (t : Fin cfg0.N) (y : S512x1024.Idx) :
    ((cfg0.win 2).blk t).view.read (Elt Ideal) (Z (Pipeline.arrRef spec0 2)) y = Z main_arg0 (((cfg0.win 2).rect t).emb y) := rfl
theorem read3 (c : Dev nD) (Z : (b : Ref sig .tc) → Buf (Elt Ideal) ((c : Thread nD τ).loc b)) (t : Fin cfg0.N) (y : S1x1024.Idx) :
    ((cfg0.win 3).blk t).view.read (Elt Ideal) (Z (Pipeline.arrRef spec0 3)) y = Z main_arg1 (((cfg0.win 3).rect t).emb y) := rfl
theorem read4 (c : Dev nD) (Z : (b : Ref sig .tc) → Buf (Elt Ideal) ((c : Thread nD τ).loc b)) (t : Fin cfg0.N) (y : S8x1024x512.Idx) :
    ((cfg0.win 4).blk t).view.read (Elt Ideal) (Z (Pipeline.arrRef spec0 4)) y = Z main_v16 (((cfg0.win 4).rect t).emb y) := rfl
theorem read5 (c : Dev nD) (Z : (b : Ref sig .tc) → Buf (Elt Ideal) ((c : Thread nD τ).loc b)) (t : Fin cfg0.N) (y : S8x256x1024.Idx) :
    ((cfg0.win 5).blk t).view.read (Elt Ideal) (Z (Pipeline.arrRef spec0 5)) y = Z main_v20 (((cfg0.win 5).rect t).emb y) := rfl
theorem read6 (c : Dev nD) (Z : (b : Ref sig .tc) → Buf (Elt Ideal) ((c : Thread nD τ).loc b)) (t : Fin cfg0.N) (y : S8x256x1024.Idx) :
    ((cfg0.win 6).blk t).view.read (Elt Ideal) (Z (Pipeline.arrRef spec0 6)) y = Z main_v22 (((cfg0.win 6).rect t).emb y) := rfl

theorem idx0_0 : ∀ t : Fin cfg0.N, (cfg0.win 0).index t (0 : Fin 2) = t.val := by decide
theorem emb0_0 (t : Fin cfg0.N) (y : S512x1024.Idx) : (((cfg0.win 0).rect t).emb y (0 : Fin 2) : ℕ) = 512 * t.val + (y 0).val := by
  refine ((cfg0.win 0).rect_emb_val t y (0 : Fin 2)).trans ?_
  rw [idx0_0]
  show t.val * 512 + (y 0).val = _
  omega
theorem idx0_1 : ∀ t : Fin cfg0.N, (cfg0.win 0).index t (1 : Fin 2) = 0 := by decide
theorem emb0_1 (t : Fin cfg0.N) (y : S512x1024.Idx) : (((cfg0.win 0).rect t).emb y (1 : Fin 2) : ℕ) = (y 1).val := by
  refine ((cfg0.win 0).rect_emb_val t y (1 : Fin 2)).trans ?_
  rw [idx0_1, zero_mul, zero_add]
theorem idx1_0 : ∀ t : Fin cfg0.N, (cfg0.win 1).index t (0 : Fin 2) = t.val := by decide
theorem emb1_0 (t : Fin cfg0.N) (y : S512x4096.Idx) : (((cfg0.win 1).rect t).emb y (0 : Fin 2) : ℕ) = 512 * t.val + (y 0).val := by
  refine ((cfg0.win 1).rect_emb_val t y (0 : Fin 2)).trans ?_
  rw [idx1_0]
  show t.val * 512 + (y 0).val = _
  omega
theorem idx1_1 : ∀ t : Fin cfg0.N, (cfg0.win 1).index t (1 : Fin 2) = 0 := by decide
theorem emb1_1 (t : Fin cfg0.N) (y : S512x4096.Idx) : (((cfg0.win 1).rect t).emb y (1 : Fin 2) : ℕ) = (y 1).val := by
  refine ((cfg0.win 1).rect_emb_val t y (1 : Fin 2)).trans ?_
  rw [idx1_1, zero_mul, zero_add]
theorem idx2_0 : ∀ t : Fin cfg0.N, (cfg0.win 2).index t (0 : Fin 2) = t.val := by decide
theorem emb2_0 (t : Fin cfg0.N) (y : S512x1024.Idx) : (((cfg0.win 2).rect t).emb y (0 : Fin 2) : ℕ) = 512 * t.val + (y 0).val := by
  refine ((cfg0.win 2).rect_emb_val t y (0 : Fin 2)).trans ?_
  rw [idx2_0]
  show t.val * 512 + (y 0).val = _
  omega
theorem idx2_1 : ∀ t : Fin cfg0.N, (cfg0.win 2).index t (1 : Fin 2) = 0 := by decide
theorem emb2_1 (t : Fin cfg0.N) (y : S512x1024.Idx) : (((cfg0.win 2).rect t).emb y (1 : Fin 2) : ℕ) = (y 1).val := by
  refine ((cfg0.win 2).rect_emb_val t y (1 : Fin 2)).trans ?_
  rw [idx2_1, zero_mul, zero_add]
theorem idx3_0 : ∀ t : Fin cfg0.N, (cfg0.win 3).index t (0 : Fin 2) = 0 := by decide
theorem emb3_0 (t : Fin cfg0.N) (y : S1x1024.Idx) : (((cfg0.win 3).rect t).emb y (0 : Fin 2) : ℕ) = (y 0).val := by
  refine ((cfg0.win 3).rect_emb_val t y (0 : Fin 2)).trans ?_
  rw [idx3_0, zero_mul, zero_add]
theorem idx3_1 : ∀ t : Fin cfg0.N, (cfg0.win 3).index t (1 : Fin 2) = 0 := by decide
theorem emb3_1 (t : Fin cfg0.N) (y : S1x1024.Idx) : (((cfg0.win 3).rect t).emb y (1 : Fin 2) : ℕ) = (y 1).val := by
  refine ((cfg0.win 3).rect_emb_val t y (1 : Fin 2)).trans ?_
  rw [idx3_1, zero_mul, zero_add]
theorem idx4_0 : ∀ t : Fin cfg0.N, (cfg0.win 4).index t (0 : Fin 3) = 0 := by decide
theorem emb4_0 (t : Fin cfg0.N) (y : S8x1024x512.Idx) : (((cfg0.win 4).rect t).emb y (0 : Fin 3) : ℕ) = (y 0).val := by
  refine ((cfg0.win 4).rect_emb_val t y (0 : Fin 3)).trans ?_
  rw [idx4_0, zero_mul, zero_add]
theorem idx4_1 : ∀ t : Fin cfg0.N, (cfg0.win 4).index t (1 : Fin 3) = 0 := by decide
theorem emb4_1 (t : Fin cfg0.N) (y : S8x1024x512.Idx) : (((cfg0.win 4).rect t).emb y (1 : Fin 3) : ℕ) = (y 1).val := by
  refine ((cfg0.win 4).rect_emb_val t y (1 : Fin 3)).trans ?_
  rw [idx4_1, zero_mul, zero_add]
theorem idx4_2 : ∀ t : Fin cfg0.N, (cfg0.win 4).index t (2 : Fin 3) = 0 := by decide
theorem emb4_2 (t : Fin cfg0.N) (y : S8x1024x512.Idx) : (((cfg0.win 4).rect t).emb y (2 : Fin 3) : ℕ) = (y 2).val := by
  refine ((cfg0.win 4).rect_emb_val t y (2 : Fin 3)).trans ?_
  rw [idx4_2, zero_mul, zero_add]
theorem idx5_0 : ∀ t : Fin cfg0.N, (cfg0.win 5).index t (0 : Fin 3) = 0 := by decide
theorem emb5_0 (t : Fin cfg0.N) (y : S8x256x1024.Idx) : (((cfg0.win 5).rect t).emb y (0 : Fin 3) : ℕ) = (y 0).val := by
  refine ((cfg0.win 5).rect_emb_val t y (0 : Fin 3)).trans ?_
  rw [idx5_0, zero_mul, zero_add]
theorem idx5_1 : ∀ t : Fin cfg0.N, (cfg0.win 5).index t (1 : Fin 3) = 0 := by decide
theorem emb5_1 (t : Fin cfg0.N) (y : S8x256x1024.Idx) : (((cfg0.win 5).rect t).emb y (1 : Fin 3) : ℕ) = (y 1).val := by
  refine ((cfg0.win 5).rect_emb_val t y (1 : Fin 3)).trans ?_
  rw [idx5_1, zero_mul, zero_add]
theorem idx5_2 : ∀ t : Fin cfg0.N, (cfg0.win 5).index t (2 : Fin 3) = 0 := by decide
theorem emb5_2 (t : Fin cfg0.N) (y : S8x256x1024.Idx) : (((cfg0.win 5).rect t).emb y (2 : Fin 3) : ℕ) = (y 2).val := by
  refine ((cfg0.win 5).rect_emb_val t y (2 : Fin 3)).trans ?_
  rw [idx5_2, zero_mul, zero_add]
theorem idx6_0 : ∀ t : Fin cfg0.N, (cfg0.win 6).index t (0 : Fin 3) = 0 := by decide
theorem emb6_0 (t : Fin cfg0.N) (y : S8x256x1024.Idx) : (((cfg0.win 6).rect t).emb y (0 : Fin 3) : ℕ) = (y 0).val := by
  refine ((cfg0.win 6).rect_emb_val t y (0 : Fin 3)).trans ?_
  rw [idx6_0, zero_mul, zero_add]
theorem idx6_1 : ∀ t : Fin cfg0.N, (cfg0.win 6).index t (1 : Fin 3) = 0 := by decide
theorem emb6_1 (t : Fin cfg0.N) (y : S8x256x1024.Idx) : (((cfg0.win 6).rect t).emb y (1 : Fin 3) : ℕ) = (y 1).val := by
  refine ((cfg0.win 6).rect_emb_val t y (1 : Fin 3)).trans ?_
  rw [idx6_1, zero_mul, zero_add]
theorem idx6_2 : ∀ t : Fin cfg0.N, (cfg0.win 6).index t (2 : Fin 3) = 0 := by decide
theorem emb6_2 (t : Fin cfg0.N) (y : S8x256x1024.Idx) : (((cfg0.win 6).rect t).emb y (2 : Fin 3) : ℕ) = (y 2).val := by
  refine ((cfg0.win 6).rect_emb_val t y (2 : Fin 3)).trans ?_
  rw [idx6_2, zero_mul, zero_add]
theorem idx7_0 : ∀ t : Fin cfg0.N, (cfg0.win 7).index t (0 : Fin 2) = t.val := by decide
theorem emb7_0 (t : Fin cfg0.N) (y : S512x4096.Idx) : (((cfg0.win 7).rect t).emb y (0 : Fin 2) : ℕ) = 512 * t.val + (y 0).val := by
  refine ((cfg0.win 7).rect_emb_val t y (0 : Fin 2)).trans ?_
  rw [idx7_0]
  show t.val * 512 + (y 0).val = _
  omega
theorem idx7_1 : ∀ t : Fin cfg0.N, (cfg0.win 7).index t (1 : Fin 2) = 0 := by decide
theorem emb7_1 (t : Fin cfg0.N) (y : S512x4096.Idx) : (((cfg0.win 7).rect t).emb y (1 : Fin 2) : ℕ) = (y 1).val := by
  refine ((cfg0.win 7).rect_emb_val t y (1 : Fin 2)).trans ?_
  rw [idx7_1, zero_mul, zero_add]
theorem idx8_0 : ∀ t : Fin cfg0.N, (cfg0.win 8).index t (0 : Fin 2) = t.val := by decide
theorem emb8_0 (t : Fin cfg0.N) (y : S512x1024.Idx) : (((cfg0.win 8).rect t).emb y (0 : Fin 2) : ℕ) = 512 * t.val + (y 0).val := by
  refine ((cfg0.win 8).rect_emb_val t y (0 : Fin 2)).trans ?_
  rw [idx8_0]
  show t.val * 512 + (y 0).val = _
  omega
theorem idx8_1 : ∀ t : Fin cfg0.N, (cfg0.win 8).index t (1 : Fin 2) = 0 := by decide
theorem emb8_1 (t : Fin cfg0.N) (y : S512x1024.Idx) : (((cfg0.win 8).rect t).emb y (1 : Fin 2) : ℕ) = (y 1).val := by
  refine ((cfg0.win 8).rect_emb_val t y (1 : Fin 2)).trans ?_
  rw [idx8_1, zero_mul, zero_add]
theorem idx9_0 : ∀ t : Fin cfg0.N, (cfg0.win 9).index t (0 : Fin 2) = 0 := by decide
theorem emb9_0 (t : Fin cfg0.N) (y : S1x1024.Idx) : (((cfg0.win 9).rect t).emb y (0 : Fin 2) : ℕ) = (y 0).val := by
  refine ((cfg0.win 9).rect_emb_val t y (0 : Fin 2)).trans ?_
  rw [idx9_0, zero_mul, zero_add]
theorem idx9_1 : ∀ t : Fin cfg0.N, (cfg0.win 9).index t (1 : Fin 2) = 0 := by decide
theorem emb9_1 (t : Fin cfg0.N) (y : S1x1024.Idx) : (((cfg0.win 9).rect t).emb y (1 : Fin 2) : ℕ) = (y 1).val := by
  refine ((cfg0.win 9).rect_emb_val t y (1 : Fin 2)).trans ?_
  rw [idx9_1, zero_mul, zero_add]

variable {m} {p : Args} {c : Dev nD} (H : p.In m c) (t : Fin cfg0.N)
include H

theorem in0 : IsD p (512 * t.val) (iblk m c 0 t) := fun y =>
  (read0 c (fun b => V m c b) t y).trans ((congrFun (V_main_arg4 m c) _).trans ((H.d _).trans (congrArg Real.toEReal (congrArg₂ p.d (emb0_0 t y) (emb0_1 t y)))))

theorem in1 (y : S512x4096.Idx) : (iblk m c 1 t : S512x4096.Idx → EReal) y = ((hid p (512 * t.val + (y 0).val) (y 1).val : ℝ) : EReal) :=
  (read1 c (fun b => V m c b) t y).trans ((entry_a m c _).trans ((r16_at H _).trans (congrArg Real.toEReal (congrArg₂ (hid p) (emb1_0 t y) (emb1_1 t y)))))

theorem in2 : IsH p (512 * t.val) (iblk m c 2 t) := fun y =>
  (read2 c (fun b => V m c b) t y).trans ((congrFun (V_main_arg0 m c) _).trans ((H.h _).trans (congrArg Real.toEReal (congrArg₂ p.h (emb2_0 t y) (emb2_1 t y)))))

theorem in3 : IsG p (iblk m c 3 t) := fun y =>
  (read3 c (fun b => V m c b) t y).trans ((congrFun (V_main_arg1 m c) _).trans ((H.g _).trans (congrArg Real.toEReal (congrArg₂ p.g
    ((emb3_0 t y).trans (Nat.lt_one_iff.mp (y 0).isLt)) (emb3_1 t y)))))

theorem in4 (y : S8x1024x512.Idx) : (iblk m c 4 t : S8x1024x512.Idx → EReal) y = ((p.up (y 1).val (512 * (y 0).val + (y 2).val) : ℝ) : EReal) :=
  (read4 c (fun b => V m c b) t y).trans ((entry_up m H _).trans (congrArg Real.toEReal (congrArg₂ p.up (emb4_1 t y)
    (congrArg₂ (fun a b : ℕ => 512 * a + b) (emb4_0 t y) (emb4_2 t y)))))

theorem in5 (y : S8x256x1024.Idx) : (iblk m c 5 t : S8x256x1024.Idx → EReal) y = ((p.down (512 * (y 0).val + (y 1).val) (y 2).val : ℝ) : EReal) :=
  (read5 c (fun b => V m c b) t y).trans ((entry_down m H _).trans (congrArg Real.toEReal (congrArg₂ p.down
    (congrArg₂ (fun a b : ℕ => 512 * a + b) (emb5_0 t y) (emb5_1 t y)) (emb5_2 t y))))

theorem in6 (y : S8x256x1024.Idx) : (iblk m c 6 t : S8x256x1024.Idx → EReal) y = ((p.down (512 * (y 0).val + 256 + (y 1).val) (y 2).val : ℝ) : EReal) :=
  (read6 c (fun b => V m c b) t y).trans ((entry_b m H _).trans (congrArg Real.toEReal (congrArg₂ p.down
    (congrArg₂ (fun a b : ℕ => 512 * a + 256 + b) (emb6_0 t y) (emb6_1 t y)) (emb6_2 t y))))

theorem at_point : At m p c t := ⟨in0 H t, in1 H t, in2 H t, in3 H t, in4 H t, in5 H t, in6 H t⟩

end Cert.Proof.Mlp

end
-- ==== Proof.Value.Finite.lean ====
/- The precondition read: every entry of the arguments is a real number. -/
module

public import proofs.«01_k».proof.Proof.Gen.Pre_finite
public import proofs.«01_k».proof.Proof.Value.Ref
public import Idealize.ShloMosaic.Lib.ReduceAll

@[expose] public section

noncomputable section

namespace Cert.Proof.Value

open Idealize.ShloMosaic

/-- A word that is 1 exactly when an extended real lies strictly between the infinities. -/
theorem real_of_cmp {x : EReal} (h : IntOp.andi (FloatOps.cmpf (F := Ideal) (φ := .f32) .ogt x (Ideal.ofBits .f32 0xFF800000#32)) (FloatOps.cmpf (F := Ideal) (φ := .f32) .olt x (Ideal.ofBits .f32 0x7F800000#32)) = 1#1) :
    x = ((EReal.toReal x : ℝ) : EReal) := by
  have hb : Ideal.ofBits .f32 0xFF800000#32 = (⊥ : EReal) := by simp [Ideal.ofBits, Ideal.ieee]
  have ht : Ideal.ofBits .f32 0x7F800000#32 = (⊤ : EReal) := by simp [Ideal.ofBits, Ideal.ieee]
  rw [hb, ht, Ideal.cmpf_def, Ideal.cmpf_def] at h
  have h3 : Ideal.cmp .ogt x ⊥ = 1#1 ∧ Ideal.cmp .olt x ⊤ = 1#1 := by
    revert h; generalize Ideal.cmp .ogt x ⊥ = a; generalize Ideal.cmp .olt x ⊤ = b; revert a b; decide
  have h1 : (⊥ : EReal) < x := by
    by_contra hn
    have hc : BitVec.ofBool (decide (⊥ < x)) = 1#1 := h3.1
    rw [decide_eq_false hn] at hc
    exact absurd hc (by decide)
  have h2 : x < (⊤ : EReal) := by
    by_contra hn
    have hc : BitVec.ofBool (decide (x < ⊤)) = 1#1 := h3.2
    rw [decide_eq_false hn] at hc
    exact absurd hc (by decide)
  exact (EReal.coe_toReal (ne_of_lt h2) (ne_of_gt h1)).symm

instance : Subsingleton Cert.Pre_finite.S_.Idx := ⟨fun _ _ => funext fun a => Fin.elim0 a⟩

theorem andi_one {a b : BitVec 1} (h : IntOp.andi a b = 1#1) : a = 1#1 ∧ b = 1#1 := by
  revert a b; decide

theorem finite_entries (x0 : FVec Ideal Cert.Pre_finite.S4096x1536 .f32) (x1 : FVec Ideal Cert.Pre_finite.S4096x512 .f32) (h : Cert.Pre_finite.fn (F := Ideal) x0 x1 = fun _ => 1#1) :
    (∀ i, x0 i = ((EReal.toReal (x0 i) : ℝ) : EReal)) ∧ ∀ i, x1 i = ((EReal.toReal (x1 i) : ℝ) : EReal) := by
  have h0 := congrFun h (Shape.Idx.first Cert.Pre_finite.Facts.h_S_)
  unfold Cert.Pre_finite.fn at h0
  obtain ⟨ha, hb⟩ := andi_one h0
  exact ⟨fun i => real_of_cmp (Host.reduce_andi_all _ _ _ _ _ ha i), fun i => real_of_cmp (Host.reduce_andi_all _ _ _ _ _ hb i)⟩

/-- An array of extended reals at natural numbers, zero outside the array. -/
def atNat {a b : ℕ} (x : (⟨2, ![a, b]⟩ : Shape).Idx → EReal) (i j : ℕ) : ℝ :=
  if h : i < a ∧ j < b then EReal.toReal (x (ix2 (⟨i, h.1⟩ : Fin a) (⟨j, h.2⟩ : Fin b))) else 0

theorem atNat_eq {a b : ℕ} (x : (⟨2, ![a, b]⟩ : Shape).Idx → EReal) (h : ∀ i, x i = ((EReal.toReal (x i) : ℝ) : EReal)) (i : (⟨2, ![a, b]⟩ : Shape).Idx) :
    x i = ((atNat x (i 0).val (i 1).val : ℝ) : EReal) := by
  have hi : (i 0).val < a ∧ (i 1).val < b := ⟨(i 0).isLt, (i 1).isLt⟩
  unfold atNat
  rw [dif_pos hi]
  refine (h i).trans (congrArg (fun k => ((EReal.toReal (x k) : ℝ) : EReal)) ?_)
  exact eq_ix2 i

end Cert.Proof.Value

end
-- ==== Proof.Mlp.Whole.lean ====
/- The arrays the run leaves, as real numbers, and what the precondition says of the arguments. -/
module

public import proofs.«01_k».proof.Proof.Gen.Pre_mlp_finite
public import proofs.«01_k».proof.Proof.Mlp.Inputs
public import proofs.«01_k».proof.Proof.Value.Finite
public import Idealize.ShloMosaic.Lib.Pipeline.Covers

@[expose] public section

noncomputable section

namespace Cert.Proof.Mlp

open Cert.MlpIdeal Cert.MlpIdeal.Gen
open Idealize.ShloMosaic Idealize.ShloMosaic.TcCoe Idealize.ShloMosaic.Tactic

variable {m : (ℓ : Loc nD τ sig) → Buf (Elt Ideal) ℓ} {p : Args} {c : Dev nD} (H : p.In m c)

/-- The scale's gradient is the sum of the eight row blocks' shares. -/
theorem rows_all (k : ℕ) : ∑ s ∈ Finset.range 8, rows p (512 * s) k = dgam p k := by
  have h : ∀ n : ℕ, ∑ s ∈ Finset.range n, rows p (512 * s) k = ∑ r ∈ Finset.range (512 * n), din p r k * nrm p r k := by
    intro n
    induction n with
    | zero => rfl
    | succ n ih =>
      rw [Finset.sum_range_succ, ih, show 512 * (n + 1) = 512 * n + 512 by ring, Finset.sum_range_add]
      exact congrArg (_ + ·) (Finset.sum_range fun r => din p (512 * n + r) k * nrm p (512 * n + r) k).symm
  exact (h 8).trans (Finset.sum_range fun r => din p r k * nrm p r k)

include H

theorem left7 (t : Fin cfg0.N) (i : S512x4096.Idx) : (outsAt0 m c t.val t.isLt).1 i = ((dhid p (512 * t.val + (i 0).val) (i 1).val : ℝ) : EReal) := by
  by_cases h : t.val % 8 = 0
  · exact out7_A m h (at_point H t) i
  · exact out7_B m h (at_point H t) i

theorem left8 (t : Fin cfg0.N) (i : S512x1024.Idx) : (outsAt0 m c t.val t.isLt).2.1 i = ((dres p (512 * t.val + (i 0).val) (i 1).val : ℝ) : EReal) := by
  by_cases h : t.val % 8 = 0
  · exact out8_A m h (at_point H t) i
  · exact out8_B m h (at_point H t) i

/-- After point `n` the third result's buffer holds the shares of the row blocks so far. -/
theorem left9 : ∀ (n : ℕ) (hn : n < cfg0.N) (i : S1x1024.Idx), (outsAt0 m c n hn).2.2 i = ((∑ s ∈ Finset.range (n + 1), rows p (512 * s) (i 1).val : ℝ) : EReal)
  | 0, hn, i => (out9_A m (t := ⟨0, hn⟩) rfl (at_point H _) i).trans (congrArg Real.toEReal (Finset.sum_range_succ (fun s => rows p (512 * s) (i 1).val) 0).symm)
  | n + 1, hn, i => by
    have h8 : n + 1 < 8 := hn
    refine (out9_B m (t := ⟨n + 1, hn⟩) (by show ¬ (n + 1) % 8 = 0; omega) (at_point H _) (s := fun k => ∑ s ∈ Finset.range (n + 1), rows p (512 * s) k) (fun j => ?_) i).trans ?_
    · exact left9 n (Nat.lt_of_succ_lt hn) j
    · exact congrArg Real.toEReal (Finset.sum_range_succ (fun s => rows p (512 * s) (i 1).val) (n + 1)).symm

theorem arr7 : (dats m 0 c).arrAt 7 cfg0.N = fun i : S4096x4096.Idx => ((dhid p (i 0).val (i 1).val : ℝ) : EReal) := by
  refine (dats m 0 c).arrAt_eq_of_covers 7 _ (by decide +kernel) fun t hf y => ?_
  blk_simp
  rw [after0_7]
  refine (left7 H t y).trans (congrArg Real.toEReal (congrArg₂ (dhid p) ?_ ?_))
  · rw [show win0_7.index t 0 = t.val from idx7_0 t]
    omega
  · rw [show win0_7.index t 1 = 0 from idx7_1 t]
    omega

theorem arr8 : (dats m 0 c).arrAt 8 cfg0.N = fun i : S4096x1024.Idx => ((dres p (i 0).val (i 1).val : ℝ) : EReal) := by
  refine (dats m 0 c).arrAt_eq_of_covers 8 _ (by decide +kernel) fun t hf y => ?_
  blk_simp
  rw [after0_8]
  refine (left8 H t y).trans (congrArg Real.toEReal (congrArg₂ (dres p) ?_ ?_))
  · rw [show win0_8.index t 0 = t.val from idx8_0 t]
    omega
  · rw [show win0_8.index t 1 = 0 from idx8_1 t]
    omega

theorem arr9 : (dats m 0 c).arrAt 9 cfg0.N = fun i : S1x1024.Idx => ((dgam p (i 1).val : ℝ) : EReal) := by
  refine (dats m 0 c).arrAt_eq_of_covers 9 _ (by decide +kernel) fun t hf y => ?_
  have h8 : t.val % 8 = 7 := (flush0_9 t).mp hf
  have ht : t.val < 8 := t.isLt
  have h7 : t.val + 1 = 8 := by omega
  blk_simp
  rw [after0_9]
  refine (left9 H t.val t.isLt y).trans (congrArg Real.toEReal ?_)
  rw [h7, rows_all, show win0_9.index t 1 = 0 from idx9_1 t]
  exact congrArg (dgam p) (by omega)

omit H

open Cert.Proof.Value in
theorem finite_args (x0 : FVec Ideal Cert.Pre_mlp_finite.S4096x1024 .f32) (x1 : FVec Ideal Cert.Pre_mlp_finite.S1x1024 .f32) (x2 : FVec Ideal Cert.Pre_mlp_finite.S1024x4096 .f32) (x3 x4 : FVec Ideal Cert.Pre_mlp_finite.S4096x1024 .f32)
    (h : Cert.Pre_mlp_finite.fn (F := Ideal) x0 x1 x2 x3 x4 = fun _ => 1#1) : Holds ⟨atNat x0, atNat x1, atNat x2, atNat x3, atNat x4⟩ x0 x1 x2 x3 x4 := by
  have h0 := congrFun h (Shape.Idx.first Cert.Pre_mlp_finite.Facts.h_S_)
  unfold Cert.Pre_mlp_finite.fn Cert.Pre_mlp_finite.fn_part1 Cert.Pre_mlp_finite.fn_part2 at h0
  haveI : Subsingleton Cert.Pre_mlp_finite.S_.Idx := ⟨fun _ _ => funext fun a => Fin.elim0 a⟩
  obtain ⟨h1, a4⟩ := andi_one h0
  obtain ⟨h2, a3⟩ := andi_one h1
  obtain ⟨h3, a2⟩ := andi_one h2
  obtain ⟨a0, a1⟩ := andi_one h3
  exact ⟨atNat_eq _ fun i => real_of_cmp (Host.reduce_andi_all _ _ _ _ _ a0 i), atNat_eq _ fun i => real_of_cmp (Host.reduce_andi_all _ _ _ _ _ a1 i),
    atNat_eq _ fun i => real_of_cmp (Host.reduce_andi_all _ _ _ _ _ a2 i), atNat_eq _ fun i => real_of_cmp (Host.reduce_andi_all _ _ _ _ _ a3 i),
    atNat_eq _ fun i => real_of_cmp (Host.reduce_andi_all _ _ _ _ _ a4 i)⟩

end Cert.Proof.Mlp

end
-- ==== Proof.Mlp.Claims.lean ====
/- The claims about the feed-forward block's backward call. -/
module

public import proofs.«01_k».proof.Defs
public import proofs.«01_k».proof.Proof.Gen.Mlp.Frame
public import proofs.«01_k».proof.Proof.Gen.MlpIdeal.Frame
public import proofs.«01_k».proof.Proof.Gen.MlpIdeal.Value
public import proofs.«01_k».proof.Proof.Gen.MlpReferenceIdeal.Run
public import proofs.«01_k».proof.Proof.Gen.MlpReferenceIdeal.Read
public import proofs.«01_k».proof.Proof.Gen.Pre_mlp_finite
public import proofs.«01_k».proof.Proof.Mlp.Whole
public import Idealize.ShloMosaic.Lib.Claim

@[expose] public section

noncomputable section

namespace Cert.Proof.Mlp

open Idealize.ShloMosaic Idealize.SL.Sem

theorem frame_mlp : Cert.quiescent_Mlp := fun m ρ _ => Cert.Mlp.Gen.frame (F := Bits) m ρ

theorem frame_mlpIdeal : Cert.quiescent_MlpIdeal := fun m ρ _ => Cert.MlpIdeal.Gen.frame (F := Ideal) m ρ

theorem frame_mlpIdeal_finite : Cert.quiescent_MlpIdeal_pre_mlp_finite := fun m ρ _ => Cert.MlpIdeal.Gen.frame (F := Ideal) m ρ

theorem frame_mlpReferenceIdeal : Cert.quiescent_MlpReferenceIdeal := fun m ρ _ =>
  (θ_run Cert.MlpReferenceIdeal.defs _ _).mono (fun r h => ⟨fun c => (h c).2.2.2, Idealize.ShloMosaic.sem_eq_zero_of_no_sems (by decide) r.2⟩)
    (Cert.MlpReferenceIdeal.Value.run (F := Ideal) m ρ)

theorem frame_mlpReferenceIdeal_finite : Cert.quiescent_MlpReferenceIdeal_pre_mlp_finite := fun m ρ _ => frame_mlpReferenceIdeal m ρ trivial

/-- Of finite arguments the two programs leave the same three gradients. -/
theorem algebraic_mlp : Cert.algebraic_MlpIdeal_MlpReferenceIdeal_pre_mlp_finite := by
  intro m ρ m' ρ' hpre hagree
  have hp := fun c => finite_args _ _ _ _ _ (hpre c)
  generalize hP : (fun c : Dev Cert.MlpIdeal.nD => (⟨Value.atNat (m ((c.tc : Thread Cert.MlpIdeal.nD Cert.MlpIdeal.τ).loc Cert.MlpIdeal.main_arg0)), Value.atNat (m ((c.tc : Thread Cert.MlpIdeal.nD Cert.MlpIdeal.τ).loc Cert.MlpIdeal.main_arg1)), Value.atNat (m ((c.tc : Thread Cert.MlpIdeal.nD Cert.MlpIdeal.τ).loc Cert.MlpIdeal.main_arg2)),
    Value.atNat (m ((c.tc : Thread Cert.MlpIdeal.nD Cert.MlpIdeal.τ).loc Cert.MlpIdeal.main_arg3)), Value.atNat (m ((c.tc : Thread Cert.MlpIdeal.nD Cert.MlpIdeal.τ).loc Cert.MlpIdeal.main_arg4))⟩ : Args)) = P
  have H : ∀ c : Dev Cert.MlpIdeal.nD, (P c).In m c := fun c => hP ▸ hp c
  refine ⟨fun c => fun i : Cert.MlpIdeal.S4096x4096.Idx => ((dhid (P c) (i 0).val (i 1).val : ℝ) : EReal), fun c => fun i : Cert.MlpIdeal.S4096x1024.Idx => ((dres (P c) (i 0).val (i 1).val : ℝ) : EReal),
    fun c => fun i : Cert.MlpIdeal.S1x1024.Idx => ((dgam (P c) (i 1).val : ℝ) : EReal),
    (θ_run Cert.MlpIdeal.defs _ _).mono (fun r h c => ⟨(h c).1.trans (arr7 (H c)), (h c).2.1.trans (arr8 (H c)), (h c).2.2.1.trans (arr9 (H c)), (h c).2.2.2⟩) (Cert.MlpIdeal.Value.run_blocks (F := Ideal) m ρ), ?_⟩
  have H' : ∀ c : Dev Cert.MlpReferenceIdeal.nD, Holds (P c) (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1))
      (m' ((c.tc : Thread Cert.MlpReferenceIdeal.nD Cert.MlpReferenceIdeal.τ).loc Cert.MlpReferenceIdeal.main_arg2)) (m' ((c.tc : Thread Cert.MlpReferenceIdeal.nD Cert.MlpReferenceIdeal.τ).loc Cert.MlpReferenceIdeal.main_arg3)) (m' ((c.tc : Thread Cert.MlpReferenceIdeal.nD Cert.MlpReferenceIdeal.τ).loc Cert.MlpReferenceIdeal.main_arg4)) := fun c => by
    obtain ⟨a0, a1, a2, a3, a4⟩ := hagree c
    rw [a0, a1, a2, a3, a4]
    exact H c
  refine (θ_run Cert.MlpReferenceIdeal.defs _ _).mono (fun r h c => ⟨?_, ?_, ?_, (h c).2.2.2⟩) (Cert.MlpReferenceIdeal.Value.run (F := Ideal) m' ρ')
  · exact (h c).1.trans ((Cert.MlpReferenceIdeal.Read.val_main_v53_eq (F := Ideal) _ _ _ _ _).trans (funext fun i => res_da (H' c) i))
  · exact (h c).2.1.trans ((Cert.MlpReferenceIdeal.Read.val_main_v52_eq (F := Ideal) m' c).trans (funext fun i => res_dh (H' c) i))
  · exact (h c).2.2.1.trans ((Cert.MlpReferenceIdeal.Read.val_main_v35_eq (F := Ideal) _ _ _ _ _).trans (funext fun i => res_dg (H' c) i))

end Cert.Proof.Mlp

end
-- ==== Proof.Value.Writes.lean ====
/- A list of pieces read at an index, when every piece holds the values of one function. -/
module

public import proofs.«01_k».proof.Proof.Gen.KernelIdeal.Loops

@[expose] public section

namespace Cert.Proof.Value

open Idealize.ShloMosaic

variable {sig : RefSig} {Val : EltTy → Type} {κ : Kind} {sp : Space} {s : Shape} {e : EltTy}

/-- Every piece holds `G` on its rectangle, and off all of them the buffer read `G` before: so it reads `G` after. -/
theorem read_pieces (v : View sig κ sp s e) (f : v.ty.Contents Val) (G : s.Idx → Val e) :
    ∀ (L : List (View.Piece Val s e)), (∀ p ∈ L, ∀ x, p.2 x = G (p.1.emb x)) →
      ∀ y, ((∀ p ∈ L, ∀ x, y ≠ p.1.emb x) → v.read Val f y = G y) → v.read Val (v.writes Val f L) y = G y
  | [], _, y, h => h (fun p hp => absurd hp List.not_mem_nil)
  | ⟨r, w⟩ :: L, hin, y, h => by
    by_cases hy : ∃ x, y = r.emb x
    · obtain ⟨x, rfl⟩ := hy
      rw [View.read_writes_cons_emb]
      exact hin ⟨r, w⟩ List.mem_cons_self x
    · rw [View.writes_cons, View.read_slice_write_of_not_mem]
      · refine read_pieces v f G L (fun p hp => hin p (List.mem_cons_of_mem _ hp)) y fun h' => h fun p hp => ?_
        rcases List.mem_cons.mp hp with rfl | hp
        · exact fun x hx => hy ⟨x, hx⟩
        · exact h' p hp
      · intro hm
        obtain ⟨x, _, hx⟩ := Finset.mem_map.mp hm
        exact hy ⟨x, hx.symm⟩

end Cert.Proof.Value
-- ==== Proof.Value.Load.lean ====
/- Blocks of rows of an array of real numbers: what a load reads, and where a piece lies. -/
module

public import proofs.«01_k».proof.Proof.Value.Attend
public import proofs.«01_k».proof.Proof.Value.Writes

@[expose] public section

set_option maxRecDepth 16384

noncomputable section

namespace Cert.Proof.Value

open Cert.KernelIdeal Cert.KernelIdeal.Gen
open Idealize.ShloMosaic Idealize.ShloMosaic.TcCoe Idealize.ShloMosaic.Tactic

/-- The array under a view holds the real numbers `x`. -/
abbrev RealAt {κ : Kind} {sp : Space} (v : View sig κ sp S4096x128 .f32) (X : BufTy.Contents (Elt Ideal) v.ty) (x : ℕ → ℕ → ℝ) : Prop :=
  ∀ (t : Fin 4096) (e : Fin 128), v.read (Elt Ideal) X (ix2 t e) = ((x t.val e.val : ℝ) : EReal)

variable {κ : Kind} {sp : Space} (v : View sig κ sp S4096x128 .f32) {X : BufTy.Contents (Elt Ideal) v.ty} {x : ℕ → ℕ → ℝ}

theorem RealAt.idx (h : RealAt v X x) (y : S4096x128.Idx) : v.read (Elt Ideal) X y = ((x (y 0).val (y 1).val : ℝ) : EReal) := by
  rw [show y = ix2 (y 0) (y 1) from eq_ix2 y]; exact h (y 0) (y 1)

theorem load_at (h : RealAt v X x) (n s o : ℕ) (off : Fin 2 → ℕ) (hoff : off = ![o, 0])
    (inb : ∀ a : Fin 2, (![n, 128] : Fin 2 → ℕ) a = 0 ∨ off a + (![s, 1] : Fin 2 → ℕ) a * ((![n, 128] : Fin 2 → ℕ) a - 1) < S4096x128.size a)
    (r : Fin n) (e : Fin 128) :
    View.readAt (Elt Ideal) v (⟨off, ![n, 128], ![s, 1], inb⟩ : LoadRect S4096x128) X (ix2 r e) = ((x (o + s * r.val) e.val : ℝ) : EReal) := by
  subst hoff
  rw [View.readAt_apply, RealAt.idx v h]
  have h0 : (((⟨![o, 0], ![n, 128], ![s, 1], inb⟩ : LoadRect S4096x128).idx (ix2 r e)) 0).val = o + s * r.val := rfl
  have h1 : (((⟨![o, 0], ![n, 128], ![s, 1], inb⟩ : LoadRect S4096x128).idx (ix2 r e)) 1).val = 0 + 1 * e.val := rfl
  rw [h0, h1, Nat.zero_add, Nat.one_mul]

theorem load_unit (h : RealAt v X x) (n o : ℕ) (off : Fin 2 → ℕ) (hoff : off = ![o, 0])
    (inb : ∀ a : Fin 2, off a + (![n, 128] : Fin 2 → ℕ) a ≤ S4096x128.size a) (r : Fin n) (e : Fin 128) :
    View.readAt (Elt Ideal) v (Rect.unit (s := S4096x128) off ![n, 128] inb).toLoadRect X (ix2 r e) = ((x (o + 1 * r.val) e.val : ℝ) : EReal) := by
  subst hoff
  rw [View.readAt_apply, RealAt.idx v h]
  have h0 : (((Rect.unit (s := S4096x128) ![o, 0] ![n, 128] inb).toLoadRect.idx (ix2 r e)) 0).val = o + 1 * r.val := rfl
  have h1 : (((Rect.unit (s := S4096x128) ![o, 0] ![n, 128] inb).toLoadRect.idx (ix2 r e)) 1).val = 0 + 1 * e.val := rfl
  rw [h0, h1, Nat.zero_add, Nat.one_mul e.val]

theorem piece_at (n s o : ℕ) (off : Fin 2 → ℕ) (hoff : off = ![o, 0])
    (inb : ∀ a : Fin 2, (![n, 128] : Fin 2 → ℕ) a = 0 ∨ off a + (![s, 1] : Fin 2 → ℕ) a * ((![n, 128] : Fin 2 → ℕ) a - 1) < S4096x128.size a)
    (hst : ∀ a : Fin 2, 0 < (![s, 1] : Fin 2 → ℕ) a) (w : (⟨2, ![n, 128]⟩ : Shape).Idx → EReal) (x : ℕ → ℕ → ℝ)
    (hw : ∀ (r : Fin n) (e : Fin 128), w (ix2 r e) = ((x (o + s * r.val) e.val : ℝ) : EReal)) (j : (⟨2, ![n, 128]⟩ : Shape).Idx) :
    w j = ((x ((⟨⟨off, ![n, 128], ![s, 1], inb⟩, hst⟩ : Rect S4096x128).emb j 0).val ((⟨⟨off, ![n, 128], ![s, 1], inb⟩, hst⟩ : Rect S4096x128).emb j 1).val : ℝ) : EReal) := by
  subst hoff
  have h0 : (((⟨⟨![o, 0], ![n, 128], ![s, 1], inb⟩, hst⟩ : Rect S4096x128).emb j) 0).val = o + s * (j 0).val := rfl
  have h1 : (((⟨⟨![o, 0], ![n, 128], ![s, 1], inb⟩, hst⟩ : Rect S4096x128).emb j) 1).val = 0 + 1 * (j 1).val := rfl
  rw [h0, h1, Nat.zero_add, Nat.one_mul]
  exact (congrArg w (eq_ix2 j)).trans (hw (j 0) (j 1))

theorem piece_if (n s o : ℕ) (off : Fin 2 → ℕ) (hoff : off = ![o, 0])
    (inb : ∀ a : Fin 2, (![n, 128] : Fin 2 → ℕ) a = 0 ∨ off a + (![s, 1] : Fin 2 → ℕ) a * ((![n, 128] : Fin 2 → ℕ) a - 1) < S4096x128.size a)
    (hst : ∀ a : Fin 2, 0 < (![s, 1] : Fin 2 → ℕ) a) (w : (⟨2, ![n, 128]⟩ : Shape).Idx → EReal) (x : ℕ → ℕ → ℝ) (S : ℕ → Prop) [DecidablePred S]
    (hw : ∀ (r : Fin n) (e : Fin 128), w (ix2 r e) = ((x (o + s * r.val) e.val : ℝ) : EReal)) (hS : ∀ r < n, S (o + s * r)) (z : EReal)
    (j : (⟨2, ![n, 128]⟩ : Shape).Idx) :
    w j = if S ((⟨⟨off, ![n, 128], ![s, 1], inb⟩, hst⟩ : Rect S4096x128).emb j 0).val then
      ((x ((⟨⟨off, ![n, 128], ![s, 1], inb⟩, hst⟩ : Rect S4096x128).emb j 0).val ((⟨⟨off, ![n, 128], ![s, 1], inb⟩, hst⟩ : Rect S4096x128).emb j 1).val : ℝ) : EReal) else z := by
  have h := piece_at n s o off hoff inb hst w x hw j
  subst hoff
  have h0 : (((⟨⟨![o, 0], ![n, 128], ![s, 1], inb⟩, hst⟩ : Rect S4096x128).emb j) 0).val = o + s * (j 0).val := rfl
  rw [if_pos (by rw [h0]; exact hS _ (j 0).isLt)]
  exact h

theorem ix2_apply_0 {n m : ℕ} (r : Fin n) (e : Fin m) : (ix2 r e) 0 = r := rfl
theorem ix2_apply_1 {n m : ℕ} (r : Fin n) (e : Fin m) : (ix2 r e) 1 = e := rfl

theorem read_add_zero {a : EReal} {A z : ℝ} (h : a = (A : EReal)) (hz : z = 0) : a = ((A + z : ℝ) : EReal) := by
  rw [hz, add_zero]; exact h

theorem zero_row (i : S256x128.Idx) : (broadcast S256x128 (Scalar.ofBits (F := Ideal) .f32 0x00000000#32) : FVec Ideal S256x128 .f32) i = ((0 : ℝ) : EReal) := by
  show Ideal.ofBits .f32 0x00000000#32 = ((0 : ℝ) : EReal)
  simp [Ideal.ofBits, Ideal.ieee]

theorem piece_unit (n o : ℕ) (off : Fin 2 → ℕ) (hoff : off = ![o, 0])
    (inb : ∀ a : Fin 2, off a + (![n, 128] : Fin 2 → ℕ) a ≤ S4096x128.size a) (w : (⟨2, ![n, 128]⟩ : Shape).Idx → EReal) (x : ℕ → ℕ → ℝ)
    (hw : ∀ (r : Fin n) (e : Fin 128), w (ix2 r e) = ((x (o + 1 * r.val) e.val : ℝ) : EReal)) (j : (⟨2, ![n, 128]⟩ : Shape).Idx) :
    w j = ((x ((Rect.unit (s := S4096x128) off ![n, 128] inb).emb j 0).val ((Rect.unit (s := S4096x128) off ![n, 128] inb).emb j 1).val : ℝ) : EReal) := by
  subst hoff
  have h0 : (((Rect.unit (s := S4096x128) ![o, 0] ![n, 128] inb).emb j) 0).val = o + 1 * (j 0).val := rfl
  have h1 : (((Rect.unit (s := S4096x128) ![o, 0] ![n, 128] inb).emb j) 1).val = 0 + 1 * (j 1).val := rfl
  rw [h0, h1, Nat.zero_add, Nat.one_mul (j 1).val]
  exact (congrArg w (eq_ix2 j)).trans (hw (j 0) (j 1))

theorem mem_at (n s o : ℕ) (off : Fin 2 → ℕ) (hoff : off = ![o, 0])
    (inb : ∀ a : Fin 2, (![n, 128] : Fin 2 → ℕ) a = 0 ∨ off a + (![s, 1] : Fin 2 → ℕ) a * ((![n, 128] : Fin 2 → ℕ) a - 1) < S4096x128.size a)
    (hst : ∀ a : Fin 2, 0 < (![s, 1] : Fin 2 → ℕ) a) (y : S4096x128.Idx) (hy : ∃ r < n, (y 0).val = o + s * r) :
    ∃ j : (⟨2, ![n, 128]⟩ : Shape).Idx, y = (⟨⟨off, ![n, 128], ![s, 1], inb⟩, hst⟩ : Rect S4096x128).emb j := by
  subst hoff
  obtain ⟨r, hr, h⟩ := hy
  refine ⟨ix2 ⟨r, hr⟩ (y 1), funext fun a => Fin.ext ?_⟩
  match a with
  | ⟨0, _⟩ => exact h
  | ⟨1, _⟩ => exact (show (y 1).val = 0 + 1 * (y 1).val by omega)

theorem mem_unit (n o : ℕ) (off : Fin 2 → ℕ) (hoff : off = ![o, 0])
    (inb : ∀ a : Fin 2, off a + (![n, 128] : Fin 2 → ℕ) a ≤ S4096x128.size a) (y : S4096x128.Idx) (hy : ∃ r < n, (y 0).val = o + 1 * r) :
    ∃ j : (⟨2, ![n, 128]⟩ : Shape).Idx, y = (Rect.unit (s := S4096x128) off ![n, 128] inb).emb j := by
  subst hoff
  obtain ⟨r, hr, h⟩ := hy
  refine ⟨ix2 ⟨r, hr⟩ (y 1), funext fun a => Fin.ext ?_⟩
  match a with
  | ⟨0, _⟩ => exact h
  | ⟨1, _⟩ => exact (show (y 1).val = 0 + 1 * (y 1).val by omega)

end Cert.Proof.Value

end
-- ==== Proof.Value.Ends.lean ====
/- The first and the last loop: the sums of the products of the results' gradients with the results, and the casts of the gradients. -/
module

public import proofs.«01_k».proof.Proof.Value.Load
public import proofs.«01_k».proof.Proof.Ideal.Trip2

@[expose] public section

set_option maxRecDepth 16384
set_option maxHeartbeats 4000000

noncomputable section

namespace Cert.Proof.Value

open Cert.KernelIdeal Cert.KernelIdeal.Gen Cert.Proof.KernelIdeal
open Idealize.ShloMosaic Idealize.ShloMosaic.TcCoe Idealize.ShloMosaic.Tactic

/-- Sixteen pieces of 256 rows each, one after the other, cover an array. -/
theorem rows_all {κ : Kind} {sp : Space} {e : EltTy} (v : View sig κ sp S4096x128 e) (f : v.ty.Contents (Elt Ideal)) (G : S4096x128.Idx → Elt Ideal e)
    (L : ℕ → List (View.Piece (Elt Ideal) S4096x128 e))
    (hs : ∀ k < 16, ∃ p, L (k + 1) = p :: L k ∧ (∀ x, p.2 x = G (p.1.emb x)) ∧ ∀ y : S4096x128.Idx, (y 0).val / 256 = k → ∃ x, y = p.1.emb x)
    (h0 : L 0 = []) (y : S4096x128.Idx) : v.read (Elt Ideal) (v.writes (Elt Ideal) f (L 16)) y = G y := by
  have key : ∀ k ≤ 16, (∀ p ∈ L k, ∀ x, p.2 x = G (p.1.emb x)) ∧ ∀ y : S4096x128.Idx, (y 0).val / 256 < k → ∃ p ∈ L k, ∃ x, y = p.1.emb x := by
    intro k
    induction k with
    | zero => exact fun _ => ⟨fun p hp => by rw [h0] at hp; exact absurd hp List.not_mem_nil, fun y hy => absurd hy (Nat.not_lt_zero _)⟩
    | succ k ih =>
      intro hk
      obtain ⟨ih1, ih2⟩ := ih (by omega)
      obtain ⟨p, hp, hv, hc⟩ := hs k (by omega)
      rw [hp]
      refine ⟨fun p' hp' => ?_, fun y hy => ?_⟩
      · rcases List.mem_cons.mp hp' with rfl | hp'
        · exact hv
        · exact ih1 p' hp'
      · by_cases hyk : (y 0).val / 256 = k
        · exact ⟨p, List.mem_cons_self, hc y hyk⟩
        · obtain ⟨p', hp', hx⟩ := ih2 y (by omega)
          exact ⟨p', List.mem_cons_of_mem _ hp', hx⟩
  have hy : (y 0).val < 4096 := (y 0).isLt
  obtain ⟨h1, h2⟩ := key 16 le_rfl
  refine read_pieces (Val := Elt Ideal) v f G (L 16) h1 y fun hn => ?_
  obtain ⟨p, hp, x, hx⟩ := h2 y (by omega)
  exact absurd hx (hn p hp x)

theorem pay3_apply (x y : FVec Ideal S256x128 .f32) (a b : ℕ → ℕ → ℝ) (hx : ∀ (r : Fin 256) (e : Fin 128), x (ix2 r e) = ((a r.val e.val : ℝ) : EReal))
    (hy : ∀ (r : Fin 256) (e : Fin 128), y (ix2 r e) = ((b r.val e.val : ℝ) : EReal)) (r : Fin 256) (e : Fin 128) :
    k0_pay3 (F := Ideal) x y (ix2 r e) = ((dotp 0 (a r.val) (b r.val) : ℝ) : EReal) := by
  unfold dotp
  rw [← toReal_sum]
  unfold k0_pay3 k0_pay1 k0_pay2
  pointwise
  refine Finset.sum_congr rfl fun e _ => ?_
  have he : e.val / 64 = 0 ∨ e.val / 64 = 1 := by omega
  simp only [hx, hy, lane_select]
  rcases he with he | he <;> simp only [he, if_true, one_ne_zero, zero_ne_one, if_false, EReal.coe_zero, EReal.coe_mul]

theorem pay4_apply (x y : FVec Ideal S256x128 .f32) (a b : ℕ → ℕ → ℝ) (hx : ∀ (r : Fin 256) (e : Fin 128), x (ix2 r e) = ((a r.val e.val : ℝ) : EReal))
    (hy : ∀ (r : Fin 256) (e : Fin 128), y (ix2 r e) = ((b r.val e.val : ℝ) : EReal)) (r : Fin 256) (e : Fin 128) :
    k0_pay4 (F := Ideal) x y (ix2 r e) = ((dotp 1 (a r.val) (b r.val) : ℝ) : EReal) := by
  unfold dotp
  rw [← toReal_sum]
  unfold k0_pay4 k0_pay1 k0_pay2
  pointwise
  refine Finset.sum_congr rfl fun e _ => ?_
  have he : e.val / 64 = 0 ∨ e.val / 64 = 1 := by omega
  simp only [hx, hy, lane_select]
  rcases he with he | he <;> simp only [he, if_true, one_ne_zero, zero_ne_one, if_false, EReal.coe_zero, EReal.coe_mul]

theorem trip1_11 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X4 : BufTy.Contents (Elt Ideal) arg4.view.ty) (X7 : BufTy.Contents (Elt Ideal) arg7.view.ty) (k : Fin k0_t1_loop.trips) :
    (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X4 X7 k).1 = [⟨(Rect.unit (s := S4096x128) (k0_off1 k) S256x128.size (k0_off1_inb k)), k0_pay3 (View.readAt (Elt Ideal) arg7.view (Rect.unit (s := S4096x128) (k0_off1 k) S256x128.size (k0_off1_inb k)).toLoadRect X7) (View.readAt (Elt Ideal) arg4.view (Rect.unit (s := S4096x128) (k0_off1 k) S256x128.size (k0_off1_inb k)).toLoadRect X4)⟩] := by
  unfold tripL_k0_t1 trip_k0_t1; rfl

theorem trip1_12 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X4 : BufTy.Contents (Elt Ideal) arg4.view.ty) (X7 : BufTy.Contents (Elt Ideal) arg7.view.ty) (k : Fin k0_t1_loop.trips) :
    (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X4 X7 k).2 = [⟨(Rect.unit (s := S4096x128) (k0_off1 k) S256x128.size (k0_off1_inb k)), k0_pay4 (View.readAt (Elt Ideal) arg7.view (Rect.unit (s := S4096x128) (k0_off1 k) S256x128.size (k0_off1_inb k)).toLoadRect X7) (View.readAt (Elt Ideal) arg4.view (Rect.unit (s := S4096x128) (k0_off1 k) S256x128.size (k0_off1_inb k)).toLoadRect X4)⟩] := by
  unfold tripL_k0_t1 trip_k0_t1; rfl

theorem trip5_8 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X13 : BufTy.Contents (Elt Ideal) arg13.view.ty) (X14 : BufTy.Contents (Elt Ideal) arg14.view.ty) (X15 : BufTy.Contents (Elt Ideal) arg15.view.ty) (k : Fin k0_t5_loop.trips) :
    (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X13 X14 X15 k).1 = [⟨(Rect.unit (s := S4096x128) (k0_off7 k) S256x128.size (k0_off7_inb k)), k0_pay14 (View.readAt (Elt Ideal) arg13.view (Rect.unit (s := S4096x128) (k0_off7 k) S256x128.size (k0_off7_inb k)).toLoadRect X13)⟩] := by
  unfold tripL_k0_t5 trip_k0_t5; rfl

theorem trip5_9 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X13 : BufTy.Contents (Elt Ideal) arg13.view.ty) (X14 : BufTy.Contents (Elt Ideal) arg14.view.ty) (X15 : BufTy.Contents (Elt Ideal) arg15.view.ty) (k : Fin k0_t5_loop.trips) :
    (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X13 X14 X15 k).2.1 = [⟨(Rect.unit (s := S4096x128) (k0_off7 k) S256x128.size (k0_off7_inb k)), k0_pay15 (View.readAt (Elt Ideal) arg14.view (Rect.unit (s := S4096x128) (k0_off7 k) S256x128.size (k0_off7_inb k)).toLoadRect X14)⟩] := by
  unfold tripL_k0_t5 trip_k0_t5; rfl

theorem trip5_10 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X13 : BufTy.Contents (Elt Ideal) arg13.view.ty) (X14 : BufTy.Contents (Elt Ideal) arg14.view.ty) (X15 : BufTy.Contents (Elt Ideal) arg15.view.ty) (k : Fin k0_t5_loop.trips) :
    (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X13 X14 X15 k).2.2 = [⟨(Rect.unit (s := S4096x128) (k0_off7 k) S256x128.size (k0_off7_inb k)), k0_pay16 (View.readAt (Elt Ideal) arg15.view (Rect.unit (s := S4096x128) (k0_off7 k) S256x128.size (k0_off7_inb k)).toLoadRect X15)⟩] := by
  unfold tripL_k0_t5 trip_k0_t5; rfl

theorem pre_11 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X4 : BufTy.Contents (Elt Ideal) arg4.view.ty) (X7 : BufTy.Contents (Elt Ideal) arg7.view.ty) (f11 : BufTy.Contents (Elt Ideal) arg11.view.ty) (o g : ℕ → ℕ → ℝ) (h4 : RealAt arg4.view X4 o) (h7 : RealAt arg7.view X7 g) :
    RealAt arg11.view (arg11.view.writes (Elt Ideal) f11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X4 X7 16).1) (fun t _ => dotp 0 (g t) (o t)) := fun t e =>
  rows_all arg11.view f11 (fun y => ((dotp 0 (g (y 0).val) (o (y 0).val) : ℝ) : EReal)) (fun k => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X4 X7 k).1)
    (fun k hk => by
      have hk' : k < k0_t1_loop.trips := lt_of_lt_of_eq hk (show 16 = k0_t1_loop.trips by decide)
      refine ⟨_, (congrArg (fun z => z.1) (pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X4 X7 ⟨k, hk'⟩)).trans
        (congrArg (· ++ _) (trip1_11 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X4 X7 ⟨k, hk'⟩)), fun x => ?_, fun y hy => ?_⟩
      · exact piece_unit 256 (256 * k) _ (k0_off1_eq ⟨k, hk'⟩) (k0_off1_inb ⟨k, hk'⟩) _ (fun t _ => dotp 0 (g t) (o t))
          (pay3_apply _ _ (fun r e => g (256 * k + 1 * r) e) (fun r e => o (256 * k + 1 * r) e)
            (load_unit arg7.view h7 256 (256 * k) _ (k0_off1_eq ⟨k, hk'⟩) (k0_off1_inb ⟨k, hk'⟩))
            (load_unit arg4.view h4 256 (256 * k) _ (k0_off1_eq ⟨k, hk'⟩) (k0_off1_inb ⟨k, hk'⟩))) x
      · exact mem_unit 256 (256 * k) _ (k0_off1_eq ⟨k, hk'⟩) (k0_off1_inb ⟨k, hk'⟩) y ⟨(y 0).val % 256, Nat.mod_lt _ (by decide), by omega⟩)
    rfl (ix2 t e)

theorem pre_12 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X4 : BufTy.Contents (Elt Ideal) arg4.view.ty) (X7 : BufTy.Contents (Elt Ideal) arg7.view.ty) (f12 : BufTy.Contents (Elt Ideal) arg12.view.ty) (o g : ℕ → ℕ → ℝ) (h4 : RealAt arg4.view X4 o) (h7 : RealAt arg7.view X7 g) :
    RealAt arg12.view (arg12.view.writes (Elt Ideal) f12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X4 X7 16).2) (fun t _ => dotp 1 (g t) (o t)) := fun t e =>
  rows_all arg12.view f12 (fun y => ((dotp 1 (g (y 0).val) (o (y 0).val) : ℝ) : EReal)) (fun k => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X4 X7 k).2)
    (fun k hk => by
      have hk' : k < k0_t1_loop.trips := lt_of_lt_of_eq hk (show 16 = k0_t1_loop.trips by decide)
      refine ⟨_, (congrArg (fun z => z.2) (pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X4 X7 ⟨k, hk'⟩)).trans
        (congrArg (· ++ _) (trip1_12 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X4 X7 ⟨k, hk'⟩)), fun x => ?_, fun y hy => ?_⟩
      · exact piece_unit 256 (256 * k) _ (k0_off1_eq ⟨k, hk'⟩) (k0_off1_inb ⟨k, hk'⟩) _ (fun t _ => dotp 1 (g t) (o t))
          (pay4_apply _ _ (fun r e => g (256 * k + 1 * r) e) (fun r e => o (256 * k + 1 * r) e)
            (load_unit arg7.view h7 256 (256 * k) _ (k0_off1_eq ⟨k, hk'⟩) (k0_off1_inb ⟨k, hk'⟩))
            (load_unit arg4.view h4 256 (256 * k) _ (k0_off1_eq ⟨k, hk'⟩) (k0_off1_inb ⟨k, hk'⟩))) x
      · exact mem_unit 256 (256 * k) _ (k0_off1_eq ⟨k, hk'⟩) (k0_off1_inb ⟨k, hk'⟩) y ⟨(y 0).val % 256, Nat.mod_lt _ (by decide), by omega⟩)
    rfl (ix2 t e)

theorem fin_8 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X13 : BufTy.Contents (Elt Ideal) arg13.view.ty) (X14 : BufTy.Contents (Elt Ideal) arg14.view.ty) (X15 : BufTy.Contents (Elt Ideal) arg15.view.ty) (f8 : BufTy.Contents (Elt Ideal) arg8.view.ty) (x : ℕ → ℕ → ℝ) (h : RealAt arg13.view X13 x) (t : Fin 4096) (e : Fin 128) :
    arg8.view.read (Elt Ideal) (arg8.view.writes (Elt Ideal) f8 (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X13 X14 X15 16).1) (ix2 t e) = ((x t.val e.val : ℝ) : EReal) :=
  rows_all arg8.view f8 (fun y => ((x (y 0).val (y 1).val : ℝ) : EReal)) (fun k => (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X13 X14 X15 k).1)
    (fun k hk => by
      have hk' : k < k0_t5_loop.trips := lt_of_lt_of_eq hk (show 16 = k0_t5_loop.trips by decide)
      refine ⟨_, (congrArg (fun z => z.1) (pb_k0_t5_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X13 X14 X15 ⟨k, hk'⟩)).trans
        (congrArg (· ++ _) (trip5_8 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X13 X14 X15 ⟨k, hk'⟩)), fun y => ?_, fun y hy => ?_⟩
      · exact piece_unit 256 (256 * k) _ (k0_off7_eq ⟨k, hk'⟩) (k0_off7_inb ⟨k, hk'⟩) _ x
          (load_unit arg13.view h 256 (256 * k) _ (k0_off7_eq ⟨k, hk'⟩) (k0_off7_inb ⟨k, hk'⟩)) y
      · exact mem_unit 256 (256 * k) _ (k0_off7_eq ⟨k, hk'⟩) (k0_off7_inb ⟨k, hk'⟩) y ⟨(y 0).val % 256, Nat.mod_lt _ (by decide), by omega⟩)
    rfl (ix2 t e)

theorem fin_9 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X13 : BufTy.Contents (Elt Ideal) arg13.view.ty) (X14 : BufTy.Contents (Elt Ideal) arg14.view.ty) (X15 : BufTy.Contents (Elt Ideal) arg15.view.ty) (f9 : BufTy.Contents (Elt Ideal) arg9.view.ty) (x : ℕ → ℕ → ℝ) (h : RealAt arg14.view X14 x) (t : Fin 4096) (e : Fin 128) :
    arg9.view.read (Elt Ideal) (arg9.view.writes (Elt Ideal) f9 (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X13 X14 X15 16).2.1) (ix2 t e) = ((x t.val e.val : ℝ) : EReal) :=
  rows_all arg9.view f9 (fun y => ((x (y 0).val (y 1).val : ℝ) : EReal)) (fun k => (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X13 X14 X15 k).2.1)
    (fun k hk => by
      have hk' : k < k0_t5_loop.trips := lt_of_lt_of_eq hk (show 16 = k0_t5_loop.trips by decide)
      refine ⟨_, (congrArg (fun z => z.2.1) (pb_k0_t5_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X13 X14 X15 ⟨k, hk'⟩)).trans
        (congrArg (· ++ _) (trip5_9 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X13 X14 X15 ⟨k, hk'⟩)), fun y => ?_, fun y hy => ?_⟩
      · exact piece_unit 256 (256 * k) _ (k0_off7_eq ⟨k, hk'⟩) (k0_off7_inb ⟨k, hk'⟩) _ x
          (load_unit arg14.view h 256 (256 * k) _ (k0_off7_eq ⟨k, hk'⟩) (k0_off7_inb ⟨k, hk'⟩)) y
      · exact mem_unit 256 (256 * k) _ (k0_off7_eq ⟨k, hk'⟩) (k0_off7_inb ⟨k, hk'⟩) y ⟨(y 0).val % 256, Nat.mod_lt _ (by decide), by omega⟩)
    rfl (ix2 t e)

theorem fin_10 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X13 : BufTy.Contents (Elt Ideal) arg13.view.ty) (X14 : BufTy.Contents (Elt Ideal) arg14.view.ty) (X15 : BufTy.Contents (Elt Ideal) arg15.view.ty) (f10 : BufTy.Contents (Elt Ideal) arg10.view.ty) (x : ℕ → ℕ → ℝ) (h : RealAt arg15.view X15 x) (t : Fin 4096) (e : Fin 128) :
    arg10.view.read (Elt Ideal) (arg10.view.writes (Elt Ideal) f10 (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X13 X14 X15 16).2.2) (ix2 t e) = ((x t.val e.val : ℝ) : EReal) :=
  rows_all arg10.view f10 (fun y => ((x (y 0).val (y 1).val : ℝ) : EReal)) (fun k => (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X13 X14 X15 k).2.2)
    (fun k hk => by
      have hk' : k < k0_t5_loop.trips := lt_of_lt_of_eq hk (show 16 = k0_t5_loop.trips by decide)
      refine ⟨_, (congrArg (fun z => z.2.2) (pb_k0_t5_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X13 X14 X15 ⟨k, hk'⟩)).trans
        (congrArg (· ++ _) (trip5_10 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X13 X14 X15 ⟨k, hk'⟩)), fun y => ?_, fun y hy => ?_⟩
      · exact piece_unit 256 (256 * k) _ (k0_off7_eq ⟨k, hk'⟩) (k0_off7_inb ⟨k, hk'⟩) _ x
          (load_unit arg15.view h 256 (256 * k) _ (k0_off7_eq ⟨k, hk'⟩) (k0_off7_inb ⟨k, hk'⟩)) y
      · exact mem_unit 256 (256 * k) _ (k0_off7_eq ⟨k, hk'⟩) (k0_off7_inb ⟨k, hk'⟩) y ⟨(y 0).val % 256, Nat.mod_lt _ (by decide), by omega⟩)
    rfl (ix2 t e)

end Cert.Proof.Value

end
-- ==== Proof.Value.Block256.lean ====
/- One block of the attention gradient, 256 query rows by 256 keys, read at an index. -/
module

public import proofs.«01_k».proof.Proof.Gen.KernelIdeal.Loops
public import proofs.«01_k».proof.Proof.Value.Attend

@[expose] public section

set_option maxRecDepth 16384
set_option maxHeartbeats 4000000

noncomputable section

namespace Cert.Proof.Value.B256

open Cert.KernelIdeal Cert.KernelIdeal.Gen
open Idealize.ShloMosaic Idealize.ShloMosaic.TcCoe Idealize.ShloMosaic.Tactic

/-- Rows stacked for the two heads. -/
def heads (t : FVec Ideal S256x128 .f32) : FVec Ideal S512x128 .bf16 :=
  concatenate S512x128 0 [⟨S256x128, select (cmpi .slt (iota .tc S256x128 32 [1] iota_S256x128_d1_w32) (broadcast S256x128 64#32))
      (truncf .bf16 t bitsLt_bf16_f32) (broadcast S256x128 (Scalar.ofBits .bf16 0x0000#16))⟩,
    ⟨S256x128, select (cmpi .slt (iota .tc S256x128 32 [1] iota_S256x128_d1_w32) (broadcast S256x128 64#32))
      (broadcast S256x128 (Scalar.ofBits .bf16 0x0000#16)) (truncf .bf16 t bitsLt_bf16_f32)⟩] concatenates_S256x128_S256x128_S512x128_d0

/-- Two heads' lane arrays stacked, and repeated over the keys. -/
def lanes (a b : FVec Ideal S256x128 .f32) : FVec Ideal S512x256 .f32 :=
  concatenate S512x256 1 [⟨S512x128, concatenate S512x128 0 [⟨S256x128, a⟩, ⟨S256x128, b⟩] concatenates_S256x128_S256x128_S512x128_d0⟩,
    ⟨S512x128, concatenate S512x128 0 [⟨S256x128, a⟩, ⟨S256x128, b⟩] concatenates_S256x128_S256x128_S512x128_d0⟩] concatenates_S512x128_S512x128_S512x256_d1

/-- Stacked rows against keys. -/
def scores (x : FVec Ideal S512x128 .bf16) (y : FVec Ideal S256x128 .f32) : FVec Ideal S512x256 .f32 :=
  matmul dot_S512x128_S256x128_S512x256_1_1_0_0_n_n none x (truncf .bf16 y bitsLt_bf16_f32) (constant S512x256 .f32 0x00000000#32)

/-- The weights. -/
def weights (valid : IVec S256x256 1) (q : FVec Ideal S256x128 .f32) (k : FVec Ideal S256x128 .f32) (l0 l1 : FVec Ideal S256x128 .f32) : FVec Ideal S512x256 .f32 :=
  exp (subf (select (concatenate S512x256 0 [⟨S256x256, valid⟩, ⟨S256x256, valid⟩] concatenates_S256x256_S256x256_S512x256_d0)
    (scores (heads (mulf q (broadcast S256x128 (Scalar.ofBits .f32 0x3E000000#32)))) k) (broadcast S512x256 (Named.named κ "mask" 0xF149F2CA#32))) (lanes l0 l1))

/-- The scores' gradient. -/
def dscores (p : FVec Ideal S512x256 .f32) (g : FVec Ideal S256x128 .f32) (v : FVec Ideal S256x128 .f32) (d0 d1 : FVec Ideal S256x128 .f32) : FVec Ideal S512x256 .bf16 :=
  truncf .bf16 (mulf (mulf p (subf (scores (heads g) v) (lanes d0 d1))) (broadcast S512x256 (Scalar.ofBits .f32 0x3E000000#32))) bitsLt_bf16_f32

/-- The queries' sum, the two heads' lanes put together. -/
def queries (ds : FVec Ideal S512x256 .bf16) (k : FVec Ideal S256x128 .f32) : FVec Ideal S256x128 .f32 :=
  select (cmpi .slt (iota .tc S256x128 32 [1] iota_S256x128_d1_w32) (broadcast S256x128 64#32))
    (extractStridedSlice S256x128 ![0, 0] (matmul dot_S512x256_S256x128_S512x128_1_0_0_1_n_n none ds (truncf .bf16 k bitsLt_bf16_f32) (constant S512x128 .f32 0x00000000#32)) slices_S512x128_o0_0_S256x128)
    (extractStridedSlice S256x128 ![256, 0] (matmul dot_S512x256_S256x128_S512x128_1_0_0_1_n_n none ds (truncf .bf16 k bitsLt_bf16_f32) (constant S512x128 .f32 0x00000000#32)) slices_S512x128_o256_0_S256x128)

/-- The keys' sum. -/
def keys (ds : FVec Ideal S512x256 .bf16) (x : FVec Ideal S512x128 .bf16) : FVec Ideal S256x128 .f32 :=
  matmul dot_S512x256_S512x128_S256x128_0_0_1_1_n_n none ds x (constant S256x128 .f32 0x00000000#32)

theorem heads_apply (t : FVec Ideal S256x128 .f32) (x : ℕ → ℕ → ℝ) (ht : ∀ (r : Fin 256) (e : Fin 128), t (ix2 r e) = ((x r.val e.val : ℝ) : EReal))
    (R : Fin 512) (e : Fin 128) : heads t (ix2 R e) = ((hd 256 x R.val e.val : ℝ) : EReal) := by
  unfold heads hd
  pointwise
  have he : e.val / 64 = 0 ∨ e.val / 64 = 1 := by omega
  by_cases hR : R.val < 256
  · have h0 : R.val / 256 = 0 := Nat.div_eq_of_lt hR
    have h1 : R.val % 256 = R.val := Nat.mod_eq_of_lt hR
    simp only [hR, dite_true, h0, h1, ht, lane_select]
    rcases he with he | he <;> simp only [he, if_true, one_ne_zero, if_false, EReal.coe_zero]
  · have h0 : R.val / 256 = 1 := by omega
    have h1 : R.val % 256 = R.val - 256 := by omega
    simp only [hR, dite_false, h0, h1, ht, lane_select]
    rcases he with he | he <;> simp only [he, if_true, one_ne_zero, zero_ne_one, if_false, EReal.coe_zero]

theorem lanes_apply (a b : FVec Ideal S256x128 .f32) (l : ℕ → ℕ → ℝ) (ha : ∀ (r : Fin 256) (e : Fin 128), a (ix2 r e) = ((l 0 r.val : ℝ) : EReal))
    (hb : ∀ (r : Fin 256) (e : Fin 128), b (ix2 r e) = ((l 1 r.val : ℝ) : EReal)) (R : Fin 512) (c : Fin 256) :
    lanes a b (ix2 R c) = ((l (R.val / 256) (R.val % 256) : ℝ) : EReal) := by
  unfold lanes
  pointwise
  by_cases hR : R.val < 256
  · have h0 : R.val / 256 = 0 := Nat.div_eq_of_lt hR
    have h1 : R.val % 256 = R.val := Nat.mod_eq_of_lt hR
    simp [hR, h0, h1, ha]
  · have h0 : R.val / 256 = 1 := by omega
    have h1 : R.val % 256 = R.val - 256 := by omega
    simp [hR, h0, h1, hb]

theorem scores_apply (t : FVec Ideal S512x128 .bf16) (s : FVec Ideal S256x128 .f32) (x y : ℕ → ℕ → ℝ)
    (ht : ∀ (R : Fin 512) (e : Fin 128), t (ix2 R e) = ((hd 256 x R.val e.val : ℝ) : EReal))
    (hs : ∀ (c : Fin 256) (e : Fin 128), s (ix2 c e) = ((y c.val e.val : ℝ) : EReal)) (R : Fin 512) (c : Fin 256) :
    scores t s (ix2 R c) = ((bS 256 x y R.val c.val : ℝ) : EReal) := by
  unfold scores bS
  pointwise
  simp only [ht, hs, ← EReal.coe_mul, toReal_sum]

theorem weights_apply (valid : IVec S256x256 1) (q : FVec Ideal S256x128 .f32) (k : FVec Ideal S256x128 .f32) (l0 l1 : FVec Ideal S256x128 .f32)
    (val : ℕ → ℕ → Prop) [∀ r c, Decidable (val r c)] (q' k' l : ℕ → ℕ → ℝ)
    (hv : ∀ (r : Fin 256) (c : Fin 256), valid (ix2 r c) = if val r.val c.val then 1#1 else 0#1)
    (hq : ∀ (r : Fin 256) (e : Fin 128), q (ix2 r e) = ((q' r.val e.val : ℝ) : EReal))
    (hk : ∀ (c : Fin 256) (e : Fin 128), k (ix2 c e) = ((k' c.val e.val : ℝ) : EReal))
    (h0 : ∀ (r : Fin 256) (e : Fin 128), l0 (ix2 r e) = ((l 0 r.val : ℝ) : EReal))
    (h1 : ∀ (r : Fin 256) (e : Fin 128), l1 (ix2 r e) = ((l 1 r.val : ℝ) : EReal)) (R : Fin 512) (c : Fin 256) :
    weights valid q k l0 l1 (ix2 R c) = ((bP 256 val q' k' l R.val c.val : ℝ) : EReal) := by
  have hh : ∀ (r : Fin 256) (e : Fin 128), (mulf q (broadcast S256x128 (Scalar.ofBits .f32 0x3E000000#32)) : FVec Ideal S256x128 .f32) (ix2 r e) = (((fun r e => q' r e * 0.125) r.val e.val : ℝ) : EReal) := by
    intro r e
    pointwise
    simp only [hq, ofBits_eighth, ← EReal.coe_mul]
  have hs := scores_apply (heads (mulf q (broadcast S256x128 (Scalar.ofBits .f32 0x3E000000#32)))) k (fun r e => q' r e * 0.125) k' (heads_apply _ (fun r e => q' r e * 0.125) hh) hk R c
  have hl := lanes_apply l0 l1 l h0 h1 R c
  have hm : (Named.named (F := Ideal) (φ := .f32) κ "mask" 0xF149F2CA#32 : EReal) = ⊥ := IdealRules.named_const.ideal_named_scalar κ "mask" (φ := .f32) 0xF149F2CA#32 ⊥ rfl
  have hvv : concatenate S512x256 0 [⟨S256x256, valid⟩, ⟨S256x256, valid⟩] concatenates_S256x256_S256x256_S512x256_d0 (ix2 R c) = if val (R.val % 256) c.val then 1#1 else 0#1 := by
    pointwise
    by_cases hR : R.val < 256
    · have h1 : R.val % 256 = R.val := Nat.mod_eq_of_lt hR
      simp [hR, h1, hv]
    · have h1 : R.val % 256 = R.val - 256 := by omega
      simp [hR, h1, hv]
  have hw : weights valid q k l0 l1 (ix2 R c) = Ideal.exp (Scalar.select (concatenate S512x256 0 [⟨S256x256, valid⟩, ⟨S256x256, valid⟩] concatenates_S256x256_S256x256_S512x256_d0 (ix2 R c))
      (scores (heads (mulf q (broadcast S256x128 (Scalar.ofBits .f32 0x3E000000#32)))) k (ix2 R c)) (Named.named (F := Ideal) (φ := .f32) κ "mask" 0xF149F2CA#32)
      - lanes l0 l1 (ix2 R c)) := rfl
  rw [hw, hvv, hs, hl, hm]
  unfold bP
  by_cases hval : val (R.val % 256) c.val
  · rw [if_pos hval, if_pos hval]
    rw [select_one, ← EReal.coe_sub]; rfl
  · rw [if_neg hval, if_neg hval]
    rw [select_zero, EReal.bot_sub]; rfl

theorem dscores_apply (p : FVec Ideal S512x256 .f32) (g : FVec Ideal S256x128 .f32) (v : FVec Ideal S256x128 .f32) (d0 d1 : FVec Ideal S256x128 .f32)
    (p' g' v' d : ℕ → ℕ → ℝ)
    (hp : ∀ (R : Fin 512) (c : Fin 256), p (ix2 R c) = ((p' R.val c.val : ℝ) : EReal))
    (hg : ∀ (r : Fin 256) (e : Fin 128), g (ix2 r e) = ((g' r.val e.val : ℝ) : EReal))
    (hv : ∀ (c : Fin 256) (e : Fin 128), v (ix2 c e) = ((v' c.val e.val : ℝ) : EReal))
    (h0 : ∀ (r : Fin 256) (e : Fin 128), d0 (ix2 r e) = ((d 0 r.val : ℝ) : EReal))
    (h1 : ∀ (r : Fin 256) (e : Fin 128), d1 (ix2 r e) = ((d 1 r.val : ℝ) : EReal)) (R : Fin 512) (c : Fin 256) :
    dscores p g v d0 d1 (ix2 R c) = ((p' R.val c.val * (bS 256 g' v' R.val c.val - d (R.val / 256) (R.val % 256)) * 0.125 : ℝ) : EReal) := by
  have hs := scores_apply (heads g) v _ v' (heads_apply _ _ hg) hv R c
  have hl := lanes_apply d0 d1 d h0 h1 R c
  unfold dscores
  simp only [truncf_apply, mulf_apply, subf_apply, hs, hl, hp]
  pointwise
  simp only [ofBits_eighth, ← EReal.coe_mul, ← EReal.coe_sub]

theorem queries_apply (ds : FVec Ideal S512x256 .bf16) (k : FVec Ideal S256x128 .f32) (s' k' : ℕ → ℕ → ℝ)
    (hs : ∀ (R : Fin 512) (c : Fin 256), ds (ix2 R c) = ((s' R.val c.val : ℝ) : EReal))
    (hk : ∀ (c : Fin 256) (e : Fin 128), k (ix2 c e) = ((k' c.val e.val : ℝ) : EReal)) (r : Fin 256) (e : Fin 128) :
    queries ds k (ix2 r e) = ((∑ c : Fin 256, s' (256 * (e.val / 64) + r.val) c.val * k' c.val e.val : ℝ) : EReal) := by
  unfold queries
  pointwise
  have he : e.val / 64 = 0 ∨ e.val / 64 = 1 := by omega
  simp only [hs, hk, ← EReal.coe_mul, toReal_sum, lane_select]
  rcases he with he | he <;> simp only [he, if_true, one_ne_zero, if_false, Nat.mul_zero, Nat.mul_one, Nat.zero_add]

theorem keys_apply (ds : FVec Ideal S512x256 .bf16) (x : FVec Ideal S512x128 .bf16) (s' x' : ℕ → ℕ → ℝ)
    (hs : ∀ (R : Fin 512) (c : Fin 256), ds (ix2 R c) = ((s' R.val c.val : ℝ) : EReal))
    (hx : ∀ (R : Fin 512) (e : Fin 128), x (ix2 R e) = ((hd 256 x' R.val e.val : ℝ) : EReal)) (c : Fin 256) (e : Fin 128) :
    keys ds x (ix2 c e) = ((∑ R : Fin 512, s' R.val c.val * hd 256 x' R.val e.val : ℝ) : EReal) := by
  unfold keys
  pointwise
  simp only [hs, hx, ← EReal.coe_mul, toReal_sum]

/-- The queries' gradient of a block, added to what was there. -/
def dq (valid : IVec S256x256 1) (q : FVec Ideal S256x128 .f32) (k v : FVec Ideal S256x128 .f32) (l0 l1 g d0 d1 : FVec Ideal S256x128 .f32) (o : FVec Ideal S256x128 .f32) : FVec Ideal S256x128 .f32 :=
  shapeCast S256x128 (addf o (queries (dscores (weights valid q k (shapeCast S256x128 l0 shapeCasts_S256x128_S256x128) (shapeCast S256x128 l1 shapeCasts_S256x128_S256x128)) g v d0 d1) k)) shapeCasts_S256x128_S256x128

/-- The keys' gradient of a block, added to what was there. -/
def dk (valid : IVec S256x256 1) (q : FVec Ideal S256x128 .f32) (k v : FVec Ideal S256x128 .f32) (l0 l1 g d0 d1 : FVec Ideal S256x128 .f32) (o : FVec Ideal S256x128 .f32) : FVec Ideal S256x128 .f32 :=
  shapeCast S256x128 (addf o (keys (dscores (weights valid q k (shapeCast S256x128 l0 shapeCasts_S256x128_S256x128) (shapeCast S256x128 l1 shapeCasts_S256x128_S256x128)) g v d0 d1) (heads q))) shapeCasts_S256x128_S256x128

/-- The values' gradient of a block, added to what was there. -/
def dv (valid : IVec S256x256 1) (q : FVec Ideal S256x128 .f32) (k v : FVec Ideal S256x128 .f32) (l0 l1 g d0 d1 : FVec Ideal S256x128 .f32) (o : FVec Ideal S256x128 .f32) : FVec Ideal S256x128 .f32 :=
  shapeCast S256x128 (addf o (keys (truncf .bf16 (weights valid q k (shapeCast S256x128 l0 shapeCasts_S256x128_S256x128) (shapeCast S256x128 l1 shapeCasts_S256x128_S256x128)) bitsLt_bf16_f32) (heads g))) shapeCasts_S256x128_S256x128

theorem cast_self {s : Shape} {α : Type} (x : s.Idx → α) (h : s.ShapeCasts s) : shapeCast s x h = x := by
  funext j; unfold shapeCast; simp [Shape.reshapeEquiv_self]

theorem dq_apply (valid : IVec S256x256 1) (q : FVec Ideal S256x128 .f32) (k v : FVec Ideal S256x128 .f32) (l0 l1 g d0 d1 : FVec Ideal S256x128 .f32) (o : FVec Ideal S256x128 .f32) (val : ℕ → ℕ → Prop) [∀ r c, Decidable (val r c)] (q' k' v' g' l d o' : ℕ → ℕ → ℝ)
    (hv : ∀ (r : Fin 256) (c : Fin 256), valid (ix2 r c) = if val r.val c.val then 1#1 else 0#1)
    (hq : ∀ (r : Fin 256) (e : Fin 128), q (ix2 r e) = ((q' r.val e.val : ℝ) : EReal))
    (hk : ∀ (r : Fin 256) (e : Fin 128), k (ix2 r e) = ((k' r.val e.val : ℝ) : EReal))
    (hw : ∀ (r : Fin 256) (e : Fin 128), v (ix2 r e) = ((v' r.val e.val : ℝ) : EReal))
    (h0 : ∀ (r : Fin 256) (e : Fin 128), l0 (ix2 r e) = ((l 0 r.val : ℝ) : EReal))
    (h1 : ∀ (r : Fin 256) (e : Fin 128), l1 (ix2 r e) = ((l 1 r.val : ℝ) : EReal))
    (hg : ∀ (r : Fin 256) (e : Fin 128), g (ix2 r e) = ((g' r.val e.val : ℝ) : EReal))
    (hd0 : ∀ (r : Fin 256) (e : Fin 128), d0 (ix2 r e) = ((d 0 r.val : ℝ) : EReal))
    (hd1 : ∀ (r : Fin 256) (e : Fin 128), d1 (ix2 r e) = ((d 1 r.val : ℝ) : EReal))
    (ho : ∀ (r : Fin 256) (e : Fin 128), o (ix2 r e) = ((o' r.val e.val : ℝ) : EReal)) (r : Fin 256) (e : Fin 128) :
    dq valid q k v l0 l1 g d0 d1 o (ix2 r e) = ((o' r.val e.val + ∑ c : Fin 256, bDS 256 val q' k' v' g' l d (256 * (e.val / 64) + r.val) c.val * k' c.val e.val : ℝ) : EReal) := by
  have hP := weights_apply valid q k l0 l1 val q' k' l hv hq hk h0 h1
  have hD := dscores_apply _ g v d0 d1 _ g' v' d hP hg hw hd0 hd1
  have hQ := queries_apply _ k (bDS 256 val q' k' v' g' l d) k' (fun R c => (hD R c)) hk r e
  unfold dq
  rw [cast_self, cast_self, cast_self, addf_apply, hQ, ho, EReal.coe_add]; rfl

theorem dk_apply (valid : IVec S256x256 1) (q : FVec Ideal S256x128 .f32) (k v : FVec Ideal S256x128 .f32) (l0 l1 g d0 d1 : FVec Ideal S256x128 .f32) (o : FVec Ideal S256x128 .f32) (val : ℕ → ℕ → Prop) [∀ r c, Decidable (val r c)] (q' k' v' g' l d o' : ℕ → ℕ → ℝ)
    (hv : ∀ (r : Fin 256) (c : Fin 256), valid (ix2 r c) = if val r.val c.val then 1#1 else 0#1)
    (hq : ∀ (r : Fin 256) (e : Fin 128), q (ix2 r e) = ((q' r.val e.val : ℝ) : EReal))
    (hk : ∀ (r : Fin 256) (e : Fin 128), k (ix2 r e) = ((k' r.val e.val : ℝ) : EReal))
    (hw : ∀ (r : Fin 256) (e : Fin 128), v (ix2 r e) = ((v' r.val e.val : ℝ) : EReal))
    (h0 : ∀ (r : Fin 256) (e : Fin 128), l0 (ix2 r e) = ((l 0 r.val : ℝ) : EReal))
    (h1 : ∀ (r : Fin 256) (e : Fin 128), l1 (ix2 r e) = ((l 1 r.val : ℝ) : EReal))
    (hg : ∀ (r : Fin 256) (e : Fin 128), g (ix2 r e) = ((g' r.val e.val : ℝ) : EReal))
    (hd0 : ∀ (r : Fin 256) (e : Fin 128), d0 (ix2 r e) = ((d 0 r.val : ℝ) : EReal))
    (hd1 : ∀ (r : Fin 256) (e : Fin 128), d1 (ix2 r e) = ((d 1 r.val : ℝ) : EReal))
    (ho : ∀ (r : Fin 256) (e : Fin 128), o (ix2 r e) = ((o' r.val e.val : ℝ) : EReal)) (r : Fin 256) (e : Fin 128) :
    dk valid q k v l0 l1 g d0 d1 o (ix2 r e) = ((o' r.val e.val + ∑ R : Fin 512, bDS 256 val q' k' v' g' l d R.val r.val * hd 256 q' R.val e.val : ℝ) : EReal) := by
  have hP := weights_apply valid q k l0 l1 val q' k' l hv hq hk h0 h1
  have hD := dscores_apply _ g v d0 d1 _ g' v' d hP hg hw hd0 hd1
  have hQ := keys_apply _ (heads q) (bDS 256 val q' k' v' g' l d) q' (fun R c => (hD R c)) (heads_apply q q' hq) r e
  unfold dk
  rw [cast_self, cast_self, cast_self, addf_apply, hQ, ho, EReal.coe_add]; rfl

theorem dv_apply (valid : IVec S256x256 1) (q : FVec Ideal S256x128 .f32) (k v : FVec Ideal S256x128 .f32) (l0 l1 g d0 d1 : FVec Ideal S256x128 .f32) (o : FVec Ideal S256x128 .f32) (val : ℕ → ℕ → Prop) [∀ r c, Decidable (val r c)] (q' k' v' g' l d o' : ℕ → ℕ → ℝ)
    (hv : ∀ (r : Fin 256) (c : Fin 256), valid (ix2 r c) = if val r.val c.val then 1#1 else 0#1)
    (hq : ∀ (r : Fin 256) (e : Fin 128), q (ix2 r e) = ((q' r.val e.val : ℝ) : EReal))
    (hk : ∀ (r : Fin 256) (e : Fin 128), k (ix2 r e) = ((k' r.val e.val : ℝ) : EReal))
    (hw : ∀ (r : Fin 256) (e : Fin 128), v (ix2 r e) = ((v' r.val e.val : ℝ) : EReal))
    (h0 : ∀ (r : Fin 256) (e : Fin 128), l0 (ix2 r e) = ((l 0 r.val : ℝ) : EReal))
    (h1 : ∀ (r : Fin 256) (e : Fin 128), l1 (ix2 r e) = ((l 1 r.val : ℝ) : EReal))
    (hg : ∀ (r : Fin 256) (e : Fin 128), g (ix2 r e) = ((g' r.val e.val : ℝ) : EReal))
    (hd0 : ∀ (r : Fin 256) (e : Fin 128), d0 (ix2 r e) = ((d 0 r.val : ℝ) : EReal))
    (hd1 : ∀ (r : Fin 256) (e : Fin 128), d1 (ix2 r e) = ((d 1 r.val : ℝ) : EReal))
    (ho : ∀ (r : Fin 256) (e : Fin 128), o (ix2 r e) = ((o' r.val e.val : ℝ) : EReal)) (r : Fin 256) (e : Fin 128) :
    dv valid q k v l0 l1 g d0 d1 o (ix2 r e) = ((o' r.val e.val + ∑ R : Fin 512, bP 256 val q' k' l R.val r.val * hd 256 g' R.val e.val : ℝ) : EReal) := by
  have hP := weights_apply valid q k l0 l1 val q' k' l hv hq hk h0 h1
  have hD := dscores_apply _ g v d0 d1 _ g' v' d hP hg hw hd0 hd1
  have hQ := keys_apply (truncf .bf16 (weights valid q k l0 l1) bitsLt_bf16_f32) (heads g) (bP 256 val q' k' l) g' (fun R c => (hP R c)) (heads_apply g g' hg) r e
  unfold dv
  rw [cast_self, cast_self, cast_self, addf_apply, hQ, ho, EReal.coe_add]; rfl

/-- A block at its place: its rows are `ro + s * r`, its keys `co + s * c`. The queries' gradient. -/
theorem dq_at (valid : IVec S256x256 1) (q : FVec Ideal S256x128 .f32) (k v : FVec Ideal S256x128 .f32) (l0 l1 g d0 d1 : FVec Ideal S256x128 .f32) (o : FVec Ideal S256x128 .f32) (d s ro co : ℕ) (Q K W G L D A : ℕ → ℕ → ℝ) (val : ℕ → ℕ → Prop) [∀ r c, Decidable (val r c)]
    (hv : ∀ (r : Fin 256) (c : Fin 256), valid (ix2 r c) = if val r.val c.val then 1#1 else 0#1)
    (hval : ∀ r < 256, ∀ c < 256, (val r c ↔ Sees d (ro + s * r) (co + s * c)))
    (hq : ∀ (r : Fin 256) (e : Fin 128), q (ix2 r e) = ((Q (ro + s * r.val) e.val : ℝ) : EReal)) (hk : ∀ (r : Fin 256) (e : Fin 128), k (ix2 r e) = ((K (co + s * r.val) e.val : ℝ) : EReal)) (hw : ∀ (r : Fin 256) (e : Fin 128), v (ix2 r e) = ((W (co + s * r.val) e.val : ℝ) : EReal))
    (h0 : ∀ (r : Fin 256) (e : Fin 128), l0 (ix2 r e) = ((L 0 (ro + s * r.val) : ℝ) : EReal)) (h1 : ∀ (r : Fin 256) (e : Fin 128), l1 (ix2 r e) = ((L 1 (ro + s * r.val) : ℝ) : EReal)) (hg : ∀ (r : Fin 256) (e : Fin 128), g (ix2 r e) = ((G (ro + s * r.val) e.val : ℝ) : EReal))
    (hd0 : ∀ (r : Fin 256) (e : Fin 128), d0 (ix2 r e) = ((D 0 (ro + s * r.val) : ℝ) : EReal)) (hd1 : ∀ (r : Fin 256) (e : Fin 128), d1 (ix2 r e) = ((D 1 (ro + s * r.val) : ℝ) : EReal)) (hs : 0 < s)
    (ho : ∀ (r : Fin 256) (e : Fin 128), o (ix2 r e) = ((A (ro + s * r.val) e.val : ℝ) : EReal)) (hb : ∀ c < 256, co + s * c < 4096)
    (hcov : ∀ r < 256, ∀ j < 4096, Sees d (ro + s * r) j → ∃ c < 256, j = co + s * c) (r : Fin 256) (e : Fin 128) :
    dq valid q k v l0 l1 g d0 d1 o (ix2 r e)
      = ((A (ro + s * r.val) e.val + ∑ j ∈ Finset.range 4096, ds d Q K W G L D (e.val / 64) (ro + s * r.val) j * K j e.val : ℝ) : EReal) := by
  rw [dq_apply valid q k v l0 l1 g d0 d1 o val (fun r e => Q (ro + s * r) e) (fun c e => K (co + s * c) e) (fun c e => W (co + s * c) e) (fun r e => G (ro + s * r) e)
    (fun a r => L a (ro + s * r)) (fun a r => D a (ro + s * r)) (fun r e => A (ro + s * r) e) hv hq hk hw h0 h1 hg hd0 hd1 ho r e]
  congr 2
  refine sum_block 256 co s (fun c => bDS 256 val _ _ _ _ _ _ (256 * (e.val / 64) + r.val) c * K (co + s * c) e.val) _ hs hb ?_ ?_
  · intro c hc
    rw [bDS_eq 256 d val Q K W G L D (fun r => ro + s * r) (fun c => co + s * c) (e.val / 64) r.val c r.isLt (hval _ r.isLt _ hc)]
  · intro j hj hne
    by_contra h
    exact hne (by rw [ds_eq_zero Q K W G L D _ (fun hsee => h (hcov _ r.isLt j hj hsee)), zero_mul])

/-- The keys' gradient. -/
theorem dk_at (valid : IVec S256x256 1) (q : FVec Ideal S256x128 .f32) (k v : FVec Ideal S256x128 .f32) (l0 l1 g d0 d1 : FVec Ideal S256x128 .f32) (o : FVec Ideal S256x128 .f32) (d s ro co : ℕ) (Q K W G L D A : ℕ → ℕ → ℝ) (val : ℕ → ℕ → Prop) [∀ r c, Decidable (val r c)]
    (hv : ∀ (r : Fin 256) (c : Fin 256), valid (ix2 r c) = if val r.val c.val then 1#1 else 0#1)
    (hval : ∀ r < 256, ∀ c < 256, (val r c ↔ Sees d (ro + s * r) (co + s * c)))
    (hq : ∀ (r : Fin 256) (e : Fin 128), q (ix2 r e) = ((Q (ro + s * r.val) e.val : ℝ) : EReal)) (hk : ∀ (r : Fin 256) (e : Fin 128), k (ix2 r e) = ((K (co + s * r.val) e.val : ℝ) : EReal)) (hw : ∀ (r : Fin 256) (e : Fin 128), v (ix2 r e) = ((W (co + s * r.val) e.val : ℝ) : EReal))
    (h0 : ∀ (r : Fin 256) (e : Fin 128), l0 (ix2 r e) = ((L 0 (ro + s * r.val) : ℝ) : EReal)) (h1 : ∀ (r : Fin 256) (e : Fin 128), l1 (ix2 r e) = ((L 1 (ro + s * r.val) : ℝ) : EReal)) (hg : ∀ (r : Fin 256) (e : Fin 128), g (ix2 r e) = ((G (ro + s * r.val) e.val : ℝ) : EReal))
    (hd0 : ∀ (r : Fin 256) (e : Fin 128), d0 (ix2 r e) = ((D 0 (ro + s * r.val) : ℝ) : EReal)) (hd1 : ∀ (r : Fin 256) (e : Fin 128), d1 (ix2 r e) = ((D 1 (ro + s * r.val) : ℝ) : EReal)) (hs : 0 < s)
    (S : ℕ → Prop) [DecidablePred S] (ho : ∀ (r : Fin 256) (e : Fin 128), o (ix2 r e) = ((A (co + s * r.val) e.val : ℝ) : EReal)) (hb : ∀ r < 256, ro + s * r < 4096) (hS : ∀ r < 256, S (ro + s * r))
    (hcov : ∀ c < 256, ∀ t < 4096, S t → Sees d t (co + s * c) → ∃ r < 256, t = ro + s * r) (c : Fin 256) (e : Fin 128) :
    dk valid q k v l0 l1 g d0 d1 o (ix2 c e)
      = ((A (co + s * c.val) e.val + ∑ t ∈ Finset.range 4096, (if S t then ds d Q K W G L D (e.val / 64) t (co + s * c.val) * Q t e.val else 0) : ℝ) : EReal) := by
  rw [dk_apply valid q k v l0 l1 g d0 d1 o val (fun r e => Q (ro + s * r) e) (fun c e => K (co + s * c) e) (fun c e => W (co + s * c) e) (fun r e => G (ro + s * r) e)
    (fun a r => L a (ro + s * r)) (fun a r => D a (ro + s * r)) (fun r e => A (co + s * r) e) hv hq hk hw h0 h1 hg hd0 hd1 ho c e]
  congr 2
  refine (sum_hd 256 (fun R => bDS 256 val _ _ _ _ _ _ R c.val) _ e.val e.isLt (by omega)).trans ?_
  refine sum_block 256 ro s (fun r => bDS 256 val _ _ _ _ _ _ (256 * (e.val / 64) + r) c.val * Q (ro + s * r) e.val) _ hs hb ?_ ?_
  · intro r hr
    rw [if_pos (hS r hr), bDS_eq 256 d val Q K W G L D (fun r => ro + s * r) (fun c => co + s * c) (e.val / 64) r c.val hr (hval _ hr _ c.isLt)]
  · intro t ht hne
    by_contra h
    by_cases hSt : S t
    · exact hne (by rw [if_pos hSt, ds_eq_zero Q K W G L D _ (fun hsee => h (hcov _ c.isLt t ht hSt hsee)), zero_mul])
    · exact hne (if_neg hSt)

/-- The values' gradient. -/
theorem dv_at (valid : IVec S256x256 1) (q : FVec Ideal S256x128 .f32) (k v : FVec Ideal S256x128 .f32) (l0 l1 g d0 d1 : FVec Ideal S256x128 .f32) (o : FVec Ideal S256x128 .f32) (d s ro co : ℕ) (Q K W G L D A : ℕ → ℕ → ℝ) (val : ℕ → ℕ → Prop) [∀ r c, Decidable (val r c)]
    (hv : ∀ (r : Fin 256) (c : Fin 256), valid (ix2 r c) = if val r.val c.val then 1#1 else 0#1)
    (hval : ∀ r < 256, ∀ c < 256, (val r c ↔ Sees d (ro + s * r) (co + s * c)))
    (hq : ∀ (r : Fin 256) (e : Fin 128), q (ix2 r e) = ((Q (ro + s * r.val) e.val : ℝ) : EReal)) (hk : ∀ (r : Fin 256) (e : Fin 128), k (ix2 r e) = ((K (co + s * r.val) e.val : ℝ) : EReal)) (hw : ∀ (r : Fin 256) (e : Fin 128), v (ix2 r e) = ((W (co + s * r.val) e.val : ℝ) : EReal))
    (h0 : ∀ (r : Fin 256) (e : Fin 128), l0 (ix2 r e) = ((L 0 (ro + s * r.val) : ℝ) : EReal)) (h1 : ∀ (r : Fin 256) (e : Fin 128), l1 (ix2 r e) = ((L 1 (ro + s * r.val) : ℝ) : EReal)) (hg : ∀ (r : Fin 256) (e : Fin 128), g (ix2 r e) = ((G (ro + s * r.val) e.val : ℝ) : EReal))
    (hd0 : ∀ (r : Fin 256) (e : Fin 128), d0 (ix2 r e) = ((D 0 (ro + s * r.val) : ℝ) : EReal)) (hd1 : ∀ (r : Fin 256) (e : Fin 128), d1 (ix2 r e) = ((D 1 (ro + s * r.val) : ℝ) : EReal)) (hs : 0 < s)
    (S : ℕ → Prop) [DecidablePred S] (ho : ∀ (r : Fin 256) (e : Fin 128), o (ix2 r e) = ((A (co + s * r.val) e.val : ℝ) : EReal)) (hb : ∀ r < 256, ro + s * r < 4096) (hS : ∀ r < 256, S (ro + s * r))
    (hcov : ∀ c < 256, ∀ t < 4096, S t → Sees d t (co + s * c) → ∃ r < 256, t = ro + s * r) (c : Fin 256) (e : Fin 128) :
    dv valid q k v l0 l1 g d0 d1 o (ix2 c e)
      = ((A (co + s * c.val) e.val + ∑ t ∈ Finset.range 4096, (if S t then wt d Q K L (e.val / 64) t (co + s * c.val) * G t e.val else 0) : ℝ) : EReal) := by
  rw [dv_apply valid q k v l0 l1 g d0 d1 o val (fun r e => Q (ro + s * r) e) (fun c e => K (co + s * c) e) (fun c e => W (co + s * c) e) (fun r e => G (ro + s * r) e)
    (fun a r => L a (ro + s * r)) (fun a r => D a (ro + s * r)) (fun r e => A (co + s * r) e) hv hq hk hw h0 h1 hg hd0 hd1 ho c e]
  congr 2
  refine (sum_hd 256 (fun R => bP 256 val _ _ _ R c.val) _ e.val e.isLt (by omega)).trans ?_
  refine sum_block 256 ro s (fun r => bP 256 val _ _ _ (256 * (e.val / 64) + r) c.val * G (ro + s * r) e.val) _ hs hb ?_ ?_
  · intro r hr
    rw [if_pos (hS r hr), bP_eq 256 d val Q K L (fun r => ro + s * r) (fun c => co + s * c) (e.val / 64) r c.val hr (hval _ hr _ c.isLt)]
  · intro t ht hne
    by_contra h
    by_cases hSt : S t
    · exact hne (by rw [if_pos hSt, wt_eq_zero Q K L _ (fun hsee => h (hcov _ c.isLt t ht hSt hsee)), zero_mul])
    · exact hne (if_neg hSt)

end Cert.Proof.Value.B256

end
-- ==== Proof.Value.Pieces2.lean ====
/- What one trip of the loop `k0_t2_loop` writes, in blocks of the attention gradient. -/
module

public import proofs.«01_k».proof.Proof.Ideal.Trip2
public import proofs.«01_k».proof.Proof.Value.Block256

@[expose] public section

set_option maxRecDepth 16384
set_option maxHeartbeats 4000000

noncomputable section

namespace Cert.Proof.Value

open Cert.KernelIdeal Cert.KernelIdeal.Gen Cert.Proof.KernelIdeal
open Idealize.ShloMosaic Idealize.ShloMosaic.TcCoe Idealize.ShloMosaic.Tactic

theorem trip2_dq (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t2_loop.trips) :
    (trip2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).1 = [⟨⟨⟨k0_off2 k 1#32, S256x128.size, ![16, 1], k0_off2_inb k 1⟩, spos_16_1⟩, B256.dq (andi trip2.sl.v13 trip2.sl.v15) (View.readAt (Elt Ideal) arg1.view ⟨k0_off2 k 1#32, S256x128.size, ![16, 1], k0_off2_inb k 1⟩ X1) (View.readAt (Elt Ideal) arg2.view ⟨k0_off2 k 1#32, S256x128.size, ![16, 1], k0_off2_inb k 1⟩ X2) (View.readAt (Elt Ideal) arg3.view ⟨k0_off2 k 1#32, S256x128.size, ![16, 1], k0_off2_inb k 1⟩ X3) (View.readAt (Elt Ideal) arg5.view ⟨k0_off2 k 1#32, S256x128.size, ![16, 1], k0_off2_inb k 1⟩ X5) (View.readAt (Elt Ideal) arg6.view ⟨k0_off2 k 1#32, S256x128.size, ![16, 1], k0_off2_inb k 1⟩ X6) (View.readAt (Elt Ideal) arg7.view ⟨k0_off2 k 1#32, S256x128.size, ![16, 1], k0_off2_inb k 1⟩ X7) (View.readAt (Elt Ideal) arg11.view ⟨k0_off2 k 1#32, S256x128.size, ![16, 1], k0_off2_inb k 1⟩ X11) (View.readAt (Elt Ideal) arg12.view ⟨k0_off2 k 1#32, S256x128.size, ![16, 1], k0_off2_inb k 1⟩ X12) (broadcast S256x128 (Scalar.ofBits .f32 0x00000000#32))⟩, ⟨⟨⟨k0_off2 k 0#32, S256x128.size, ![16, 1], k0_off2_inb k 0⟩, spos_16_1⟩, B256.dq (andi trip2.sl.v13 trip2.sl.v15) (View.readAt (Elt Ideal) arg1.view ⟨k0_off2 k 0#32, S256x128.size, ![16, 1], k0_off2_inb k 0⟩ X1) (View.readAt (Elt Ideal) arg2.view ⟨k0_off2 k 0#32, S256x128.size, ![16, 1], k0_off2_inb k 0⟩ X2) (View.readAt (Elt Ideal) arg3.view ⟨k0_off2 k 0#32, S256x128.size, ![16, 1], k0_off2_inb k 0⟩ X3) (View.readAt (Elt Ideal) arg5.view ⟨k0_off2 k 0#32, S256x128.size, ![16, 1], k0_off2_inb k 0⟩ X5) (View.readAt (Elt Ideal) arg6.view ⟨k0_off2 k 0#32, S256x128.size, ![16, 1], k0_off2_inb k 0⟩ X6) (View.readAt (Elt Ideal) arg7.view ⟨k0_off2 k 0#32, S256x128.size, ![16, 1], k0_off2_inb k 0⟩ X7) (View.readAt (Elt Ideal) arg11.view ⟨k0_off2 k 0#32, S256x128.size, ![16, 1], k0_off2_inb k 0⟩ X11) (View.readAt (Elt Ideal) arg12.view ⟨k0_off2 k 0#32, S256x128.size, ![16, 1], k0_off2_inb k 0⟩ X12) (broadcast S256x128 (Scalar.ofBits .f32 0x00000000#32))⟩] := by
  unfold trip2; rfl

theorem trip2_dk (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t2_loop.trips) :
    (trip2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).2.1 = [⟨⟨⟨k0_off2 k 1#32, S256x128.size, ![16, 1], k0_off2_inb k 1⟩, spos_16_1⟩, B256.dk (andi trip2.sl.v13 trip2.sl.v15) (View.readAt (Elt Ideal) arg1.view ⟨k0_off2 k 1#32, S256x128.size, ![16, 1], k0_off2_inb k 1⟩ X1) (View.readAt (Elt Ideal) arg2.view ⟨k0_off2 k 1#32, S256x128.size, ![16, 1], k0_off2_inb k 1⟩ X2) (View.readAt (Elt Ideal) arg3.view ⟨k0_off2 k 1#32, S256x128.size, ![16, 1], k0_off2_inb k 1⟩ X3) (View.readAt (Elt Ideal) arg5.view ⟨k0_off2 k 1#32, S256x128.size, ![16, 1], k0_off2_inb k 1⟩ X5) (View.readAt (Elt Ideal) arg6.view ⟨k0_off2 k 1#32, S256x128.size, ![16, 1], k0_off2_inb k 1⟩ X6) (View.readAt (Elt Ideal) arg7.view ⟨k0_off2 k 1#32, S256x128.size, ![16, 1], k0_off2_inb k 1⟩ X7) (View.readAt (Elt Ideal) arg11.view ⟨k0_off2 k 1#32, S256x128.size, ![16, 1], k0_off2_inb k 1⟩ X11) (View.readAt (Elt Ideal) arg12.view ⟨k0_off2 k 1#32, S256x128.size, ![16, 1], k0_off2_inb k 1⟩ X12) (broadcast S256x128 (Scalar.ofBits .f32 0x00000000#32))⟩, ⟨⟨⟨k0_off2 k 0#32, S256x128.size, ![16, 1], k0_off2_inb k 0⟩, spos_16_1⟩, B256.dk (andi trip2.sl.v13 trip2.sl.v15) (View.readAt (Elt Ideal) arg1.view ⟨k0_off2 k 0#32, S256x128.size, ![16, 1], k0_off2_inb k 0⟩ X1) (View.readAt (Elt Ideal) arg2.view ⟨k0_off2 k 0#32, S256x128.size, ![16, 1], k0_off2_inb k 0⟩ X2) (View.readAt (Elt Ideal) arg3.view ⟨k0_off2 k 0#32, S256x128.size, ![16, 1], k0_off2_inb k 0⟩ X3) (View.readAt (Elt Ideal) arg5.view ⟨k0_off2 k 0#32, S256x128.size, ![16, 1], k0_off2_inb k 0⟩ X5) (View.readAt (Elt Ideal) arg6.view ⟨k0_off2 k 0#32, S256x128.size, ![16, 1], k0_off2_inb k 0⟩ X6) (View.readAt (Elt Ideal) arg7.view ⟨k0_off2 k 0#32, S256x128.size, ![16, 1], k0_off2_inb k 0⟩ X7) (View.readAt (Elt Ideal) arg11.view ⟨k0_off2 k 0#32, S256x128.size, ![16, 1], k0_off2_inb k 0⟩ X11) (View.readAt (Elt Ideal) arg12.view ⟨k0_off2 k 0#32, S256x128.size, ![16, 1], k0_off2_inb k 0⟩ X12) (broadcast S256x128 (Scalar.ofBits .f32 0x00000000#32))⟩] := by
  unfold trip2; rfl

theorem trip2_dv (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t2_loop.trips) :
    (trip2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).2.2.1 = [⟨⟨⟨k0_off2 k 1#32, S256x128.size, ![16, 1], k0_off2_inb k 1⟩, spos_16_1⟩, B256.dv (andi trip2.sl.v13 trip2.sl.v15) (View.readAt (Elt Ideal) arg1.view ⟨k0_off2 k 1#32, S256x128.size, ![16, 1], k0_off2_inb k 1⟩ X1) (View.readAt (Elt Ideal) arg2.view ⟨k0_off2 k 1#32, S256x128.size, ![16, 1], k0_off2_inb k 1⟩ X2) (View.readAt (Elt Ideal) arg3.view ⟨k0_off2 k 1#32, S256x128.size, ![16, 1], k0_off2_inb k 1⟩ X3) (View.readAt (Elt Ideal) arg5.view ⟨k0_off2 k 1#32, S256x128.size, ![16, 1], k0_off2_inb k 1⟩ X5) (View.readAt (Elt Ideal) arg6.view ⟨k0_off2 k 1#32, S256x128.size, ![16, 1], k0_off2_inb k 1⟩ X6) (View.readAt (Elt Ideal) arg7.view ⟨k0_off2 k 1#32, S256x128.size, ![16, 1], k0_off2_inb k 1⟩ X7) (View.readAt (Elt Ideal) arg11.view ⟨k0_off2 k 1#32, S256x128.size, ![16, 1], k0_off2_inb k 1⟩ X11) (View.readAt (Elt Ideal) arg12.view ⟨k0_off2 k 1#32, S256x128.size, ![16, 1], k0_off2_inb k 1⟩ X12) (broadcast S256x128 (Scalar.ofBits .f32 0x00000000#32))⟩, ⟨⟨⟨k0_off2 k 0#32, S256x128.size, ![16, 1], k0_off2_inb k 0⟩, spos_16_1⟩, B256.dv (andi trip2.sl.v13 trip2.sl.v15) (View.readAt (Elt Ideal) arg1.view ⟨k0_off2 k 0#32, S256x128.size, ![16, 1], k0_off2_inb k 0⟩ X1) (View.readAt (Elt Ideal) arg2.view ⟨k0_off2 k 0#32, S256x128.size, ![16, 1], k0_off2_inb k 0⟩ X2) (View.readAt (Elt Ideal) arg3.view ⟨k0_off2 k 0#32, S256x128.size, ![16, 1], k0_off2_inb k 0⟩ X3) (View.readAt (Elt Ideal) arg5.view ⟨k0_off2 k 0#32, S256x128.size, ![16, 1], k0_off2_inb k 0⟩ X5) (View.readAt (Elt Ideal) arg6.view ⟨k0_off2 k 0#32, S256x128.size, ![16, 1], k0_off2_inb k 0⟩ X6) (View.readAt (Elt Ideal) arg7.view ⟨k0_off2 k 0#32, S256x128.size, ![16, 1], k0_off2_inb k 0⟩ X7) (View.readAt (Elt Ideal) arg11.view ⟨k0_off2 k 0#32, S256x128.size, ![16, 1], k0_off2_inb k 0⟩ X11) (View.readAt (Elt Ideal) arg12.view ⟨k0_off2 k 0#32, S256x128.size, ![16, 1], k0_off2_inb k 0⟩ X12) (broadcast S256x128 (Scalar.ofBits .f32 0x00000000#32))⟩] := by
  unfold trip2; rfl

end Cert.Proof.Value

end
-- ==== Proof.Value.Masks.lean ====
/- The masks of the three patterns, read at an index. -/
module

public import proofs.«01_k».proof.Proof.Ideal.Trip2
public import proofs.«01_k».proof.Proof.Ideal.Trip3
public import proofs.«01_k».proof.Proof.Ideal.Trip4
public import proofs.«01_k».proof.Proof.Value.Real

@[expose] public section

set_option maxRecDepth 16384
set_option maxHeartbeats 4000000

noncomputable section

namespace Cert.Proof.Value

open Cert.KernelIdeal Cert.KernelIdeal.Gen Cert.Proof.KernelIdeal
open Idealize.ShloMosaic Idealize.ShloMosaic.TcCoe Idealize.ShloMosaic.Tactic

/-- The difference of two small counters, as an integer. -/
theorem diff_toInt (a b : ℕ) (ha : a < 256) (hb : b < 256) : (BitVec.ofNat 32 a - BitVec.ofNat 32 b).toInt = (a : ℤ) - b := by
  have h : ∀ n : Fin 256, (BitVec.ofNat 32 n.val).toInt = (n.val : ℤ) := by decide +kernel
  rw [BitVec.toInt_sub, h ⟨a, ha⟩, h ⟨b, hb⟩]
  simp only [Int.bmod_def]
  omega

theorem bit_and (p q : Bool) : (BitVec.ofBool p &&& BitVec.ofBool q : BitVec 1) = if (p && q) = true then 1#1 else 0#1 := by
  cases p <;> cases q <;> rfl

/-- The lag window of a block: `x` is the key's offset less the query's, between `hi - 128` and `hi`. -/
theorem window_bit (a b hi : ℕ) (ha : a < 256) (hb : b < 256) (hh : hi = 0 ∨ hi = 128) :
    IntOp.andi (IntOp.cmpi .sle (IntOp.subi (BitVec.ofNat 32 a) (BitVec.ofNat 32 b)) (BitVec.ofNat 32 hi))
      (IntOp.cmpi .sge (IntOp.subi (BitVec.ofNat 32 a) (BitVec.ofNat 32 b)) (IntOp.subi (BitVec.ofNat 32 hi) 128#32))
      = if a ≤ b + hi ∧ b + hi ≤ a + 128 then 1#1 else 0#1 := by
  show (BitVec.ofBool ((BitVec.ofNat 32 a - BitVec.ofNat 32 b).sle (BitVec.ofNat 32 hi)) &&&
    BitVec.ofBool ((BitVec.ofNat 32 hi - 128#32).sle (BitVec.ofNat 32 a - BitVec.ofNat 32 b)) : BitVec 1) = _
  rw [bit_and]
  have h1 : (BitVec.ofNat 32 hi).toInt = hi := by rcases hh with rfl | rfl <;> decide
  have h2 : (BitVec.ofNat 32 hi - 128#32).toInt = (hi : ℤ) - 128 := by rcases hh with rfl | rfl <;> decide
  refine if_congr ?_ rfl rfl
  simp only [Bool.and_eq_true, BitVec.sle, decide_eq_true_eq, diff_toInt a b ha hb, h1, h2]
  omega

theorem mask2_apply (r : Fin 256) (c : Fin 256) :
    (andi trip2.sl.v13 trip2.sl.v15 : IVec S256x256 1) (ix2 r c) = if (c.val ≤ r.val ∧ r.val ≤ c.val + 128) then 1#1 else 0#1 := by
  unfold trip2.sl.v13 trip2.sl.v15 trip2.sl.v5 trip2.sl.v6 trip2.sl.v12 trip2.sl.v14
  pointwise
  show (BitVec.ofBool ((0#32).sle (BitVec.ofNat 32 r.val - BitVec.ofNat 32 c.val)) &&&
    BitVec.ofBool ((BitVec.ofNat 32 r.val - BitVec.ofNat 32 c.val).sle 128#32) : BitVec 1) = _
  rw [bit_and]
  have h1 : (0#32).toInt = 0 := by decide
  have h2 : (128#32).toInt = 128 := by decide
  refine if_congr ?_ rfl rfl
  simp only [Bool.and_eq_true, BitVec.sle, decide_eq_true_eq, diff_toInt r.val c.val r.isLt c.isLt, h1, h2]
  omega

theorem mask3_apply (k : Fin k0_t3_loop.trips) (r : Fin 128) (c : Fin 256) :
    (trip3.sl.v52 k : IVec S128x256 1) (ix2 r c) = if (c.val ≤ r.val + (if k.val = 0 then 0 else 128) ∧ r.val + (if k.val = 0 then 0 else 128) ≤ c.val + 128) then 1#1 else 0#1 := by
  have hs : trip3.sl.v46 k = BitVec.ofNat 32 (if k.val = 0 then 0 else 128) := by revert k; decide +kernel
  have := window_bit c.val r.val (if k.val = 0 then 0 else 128) c.isLt (by omega) (by split <;> simp)
  rw [← this, ← hs]
  unfold trip3.sl.v52 trip3.sl.v48 trip3.sl.v51 trip3.sl.v47 trip3.sl.v50 trip3.sl.v49 trip3.sl.v42 trip3.sl.v43
  generalize trip3.sl.v46 k = w
  pointwise
  rfl

theorem mask4_0_apply (k : Fin k0_t4_loop.trips) (r : Fin 128) (c : Fin 256) :
    (trip4.sl.v22 k : IVec S128x256 1) (ix2 r c) = if (c.val ≤ r.val + (if k.val = 0 then 0 else 128) ∧ r.val + (if k.val = 0 then 0 else 128) ≤ c.val + 128) then 1#1 else 0#1 := by
  have hs : trip4.sl.v16 k = BitVec.ofNat 32 (if k.val = 0 then 0 else 128) := by revert k; decide +kernel
  have := window_bit c.val r.val (if k.val = 0 then 0 else 128) c.isLt (by omega) (by split <;> simp)
  rw [← this, ← hs]
  unfold trip4.sl.v22 trip4.sl.v18 trip4.sl.v21 trip4.sl.v17 trip4.sl.v20 trip4.sl.v19 trip4.sl.v12 trip4.sl.v13
  generalize trip4.sl.v16 k = w
  pointwise
  rfl

theorem mask4_apply (r : Fin 128) (c : Fin 256) :
    (andi trip4.sl.v36 trip4.sl.v39 : IVec S128x256 1) (ix2 r c) = if (c.val ≤ r.val + 128 ∧ r.val + 128 ≤ c.val + 128) then 1#1 else 0#1 := by
  rw [← window_bit c.val r.val 128 c.isLt (by omega) (by simp)]
  unfold trip4.sl.v36 trip4.sl.v39 trip4.sl.v35 trip4.sl.v38 trip4.sl.v12 trip4.sl.v13
  pointwise
  rfl

end Cert.Proof.Value

end
-- ==== Proof.Value.Step2.lean ====
/- What one trip of the loop `k0_t2_loop` adds to the gradients, row by row. -/
module

public import proofs.«01_k».proof.Proof.Value.Pieces2
public import proofs.«01_k».proof.Proof.Value.Masks
public import proofs.«01_k».proof.Proof.Value.Load
public import proofs.«01_k».proof.Proof.Ideal.Offsets

@[expose] public section

set_option maxRecDepth 16384
set_option maxHeartbeats 4000000

noncomputable section

namespace Cert.Proof.Value

open Cert.KernelIdeal Cert.KernelIdeal.Gen Cert.Proof.KernelIdeal
open Idealize.ShloMosaic Idealize.ShloMosaic.TcCoe Idealize.ShloMosaic.Tactic

theorem step2_dq (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t2_loop.trips)
    (q kk v g A : ℕ → ℕ → ℝ) (l dd : ℕ → ℕ → ℝ)
    (h1 : RealAt arg1.view X1 q) (h2 : RealAt arg2.view X2 kk) (h3 : RealAt arg3.view X3 v) (h5 : RealAt arg5.view X5 (fun t _ => l 0 t))
    (h6 : RealAt arg6.view X6 (fun t _ => l 1 t)) (h7 : RealAt arg7.view X7 g) (h11 : RealAt arg11.view X11 (fun t _ => dd 0 t))
    (h12 : RealAt arg12.view X12 (fun t _ => dd 1 t)) (y : S4096x128.Idx) :
    arg13.view.read (Elt Ideal) (arg13.view.writes (Elt Ideal) f13 (trip2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).1) y
      = if (y 0).val % 16 / 2 = k.val then (((fun t e => ∑ j ∈ Finset.range 4096, ds 16 q kk v g l dd (e / 64) t j * kk j e) (y 0).val (y 1).val : ℝ) : EReal) else arg13.view.read (Elt Ideal) f13 y := by
  have hk : k.val < 8 := Nat.lt_of_lt_of_le k.isLt k0_t2_abs.2.1
  rw [trip2_dq]
  refine read_pieces (Val := Elt Ideal) arg13.view f13 ((fun (y : S4096x128.Idx) => if (y 0).val % 16 / 2 = k.val then (((fun t e => ∑ j ∈ Finset.range 4096, ds 16 q kk v g l dd (e / 64) t j * kk j e) (y 0).val (y 1).val : ℝ) : EReal) else arg13.view.read (Elt Ideal) f13 y) : S4096x128.Idx → EReal) _ ?_ y ?_
  · intro p hp x
    simp only [List.mem_cons, List.not_mem_nil, or_false] at hp
    rcases hp with rfl | rfl
    · exact piece_if 256 16 (2 * k.val + 1) _ (k0_off2_eq k ⟨1, by decide⟩) _ _ _ (fun t e => ∑ j ∈ Finset.range 4096, ds 16 q kk v g l dd (e / 64) t j * kk j e) (fun t => t % 16 / 2 = k.val) (fun r e => (B256.dq_at _ _ _ _ _ _ _ _ _ _ 16 16 (2 * k.val + 1) (2 * k.val + 1) q kk
        v g l dd (fun _ _ => 0) (fun r c => c ≤ r ∧ r ≤ c + 128)
        mask2_apply (by intro r hr c hc; simp only [Sees]; omega) (load_at _ h1 256 16 (2 * k.val + 1) _ (k0_off2_eq k ⟨1, by decide⟩) _) (load_at _ h2 256 16 (2 * k.val + 1) _ (k0_off2_eq k ⟨1, by decide⟩) _) (load_at _ h3 256 16 (2 * k.val + 1) _ (k0_off2_eq k ⟨1, by decide⟩) _) (load_at _ h5 256 16 (2 * k.val + 1) _ (k0_off2_eq k ⟨1, by decide⟩) _)
        (load_at _ h6 256 16 (2 * k.val + 1) _ (k0_off2_eq k ⟨1, by decide⟩) _) (load_at _ h7 256 16 (2 * k.val + 1) _ (k0_off2_eq k ⟨1, by decide⟩) _) (load_at _ h11 256 16 (2 * k.val + 1) _ (k0_off2_eq k ⟨1, by decide⟩) _) (load_at _ h12 256 16 (2 * k.val + 1) _ (k0_off2_eq k ⟨1, by decide⟩) _) (by omega) (fun r e => by rw [zero_row])
        (by intro c hc; omega) (by intro r hr j hj hs; simp only [Sees] at hs; exact ⟨(j - (2 * k.val + 1)) / 16, by omega, by omega⟩) r e).trans (by show ((0 + _ : ℝ) : EReal) = _; rw [zero_add])) (by intro r hr; omega) _ x
    · exact piece_if 256 16 (2 * k.val + 0) _ (k0_off2_eq k ⟨0, by decide⟩) _ _ _ (fun t e => ∑ j ∈ Finset.range 4096, ds 16 q kk v g l dd (e / 64) t j * kk j e) (fun t => t % 16 / 2 = k.val) (fun r e => (B256.dq_at _ _ _ _ _ _ _ _ _ _ 16 16 (2 * k.val + 0) (2 * k.val + 0) q kk
        v g l dd (fun _ _ => 0) (fun r c => c ≤ r ∧ r ≤ c + 128)
        mask2_apply (by intro r hr c hc; simp only [Sees]; omega) (load_at _ h1 256 16 (2 * k.val + 0) _ (k0_off2_eq k ⟨0, by decide⟩) _) (load_at _ h2 256 16 (2 * k.val + 0) _ (k0_off2_eq k ⟨0, by decide⟩) _) (load_at _ h3 256 16 (2 * k.val + 0) _ (k0_off2_eq k ⟨0, by decide⟩) _) (load_at _ h5 256 16 (2 * k.val + 0) _ (k0_off2_eq k ⟨0, by decide⟩) _)
        (load_at _ h6 256 16 (2 * k.val + 0) _ (k0_off2_eq k ⟨0, by decide⟩) _) (load_at _ h7 256 16 (2 * k.val + 0) _ (k0_off2_eq k ⟨0, by decide⟩) _) (load_at _ h11 256 16 (2 * k.val + 0) _ (k0_off2_eq k ⟨0, by decide⟩) _) (load_at _ h12 256 16 (2 * k.val + 0) _ (k0_off2_eq k ⟨0, by decide⟩) _) (by omega) (fun r e => by rw [zero_row])
        (by intro c hc; omega) (by intro r hr j hj hs; simp only [Sees] at hs; exact ⟨(j - (2 * k.val + 0)) / 16, by omega, by omega⟩) r e).trans (by show ((0 + _ : ℝ) : EReal) = _; rw [zero_add])) (by intro r hr; omega) _ x
  · intro hout
    have hne : ∀ u < 2, ∀ r < 256, (y 0).val ≠ (2 * k.val + u) + 16 * r := by
      intro u hu r hr h
      have hu' : u = 0 ∨ u = 1 := by omega
      rcases hu' with rfl | rfl
      · obtain ⟨j, hj⟩ := mem_at 256 16 (2 * k.val + 0) _ (k0_off2_eq k ⟨0, by decide⟩) _ _ y ⟨r, hr, h⟩
        exact hout _ (List.mem_cons_of_mem _ List.mem_cons_self) j hj
      · obtain ⟨j, hj⟩ := mem_at 256 16 (2 * k.val + 1) _ (k0_off2_eq k ⟨1, by decide⟩) _ _ y ⟨r, hr, h⟩
        exact hout _ List.mem_cons_self j hj
    simp only
    rw [if_neg]
    intro hS
    exact hne ((y 0).val % 16 % 2) (by omega) ((y 0).val / 16) (by have hy : (y 0).val < 4096 := (y 0).isLt; omega) (by omega)

theorem step2_dk (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t2_loop.trips)
    (q kk v g A : ℕ → ℕ → ℝ) (l dd : ℕ → ℕ → ℝ)
    (h1 : RealAt arg1.view X1 q) (h2 : RealAt arg2.view X2 kk) (h3 : RealAt arg3.view X3 v) (h5 : RealAt arg5.view X5 (fun t _ => l 0 t))
    (h6 : RealAt arg6.view X6 (fun t _ => l 1 t)) (h7 : RealAt arg7.view X7 g) (h11 : RealAt arg11.view X11 (fun t _ => dd 0 t))
    (h12 : RealAt arg12.view X12 (fun t _ => dd 1 t)) (y : S4096x128.Idx) :
    arg14.view.read (Elt Ideal) (arg14.view.writes (Elt Ideal) f14 (trip2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).2.1) y
      = if (y 0).val % 16 / 2 = k.val then (((fun j e => ∑ t ∈ Finset.range 4096, (if True then ds 16 q kk v g l dd (e / 64) t j * q t e else 0)) (y 0).val (y 1).val : ℝ) : EReal) else arg14.view.read (Elt Ideal) f14 y := by
  have hk : k.val < 8 := Nat.lt_of_lt_of_le k.isLt k0_t2_abs.2.1
  rw [trip2_dk]
  refine read_pieces (Val := Elt Ideal) arg14.view f14 ((fun (y : S4096x128.Idx) => if (y 0).val % 16 / 2 = k.val then (((fun j e => ∑ t ∈ Finset.range 4096, (if True then ds 16 q kk v g l dd (e / 64) t j * q t e else 0)) (y 0).val (y 1).val : ℝ) : EReal) else arg14.view.read (Elt Ideal) f14 y) : S4096x128.Idx → EReal) _ ?_ y ?_
  · intro p hp x
    simp only [List.mem_cons, List.not_mem_nil, or_false] at hp
    rcases hp with rfl | rfl
    · exact piece_if 256 16 (2 * k.val + 1) _ (k0_off2_eq k ⟨1, by decide⟩) _ _ _ (fun j e => ∑ t ∈ Finset.range 4096, (if True then ds 16 q kk v g l dd (e / 64) t j * q t e else 0)) (fun t => t % 16 / 2 = k.val) (fun r e => (B256.dk_at _ _ _ _ _ _ _ _ _ _ 16 16 (2 * k.val + 1) (2 * k.val + 1) q kk
        v g l dd (fun _ _ => 0) (fun r c => c ≤ r ∧ r ≤ c + 128)
        mask2_apply (by intro r hr c hc; simp only [Sees]; omega) (load_at _ h1 256 16 (2 * k.val + 1) _ (k0_off2_eq k ⟨1, by decide⟩) _) (load_at _ h2 256 16 (2 * k.val + 1) _ (k0_off2_eq k ⟨1, by decide⟩) _) (load_at _ h3 256 16 (2 * k.val + 1) _ (k0_off2_eq k ⟨1, by decide⟩) _) (load_at _ h5 256 16 (2 * k.val + 1) _ (k0_off2_eq k ⟨1, by decide⟩) _)
        (load_at _ h6 256 16 (2 * k.val + 1) _ (k0_off2_eq k ⟨1, by decide⟩) _) (load_at _ h7 256 16 (2 * k.val + 1) _ (k0_off2_eq k ⟨1, by decide⟩) _) (load_at _ h11 256 16 (2 * k.val + 1) _ (k0_off2_eq k ⟨1, by decide⟩) _) (load_at _ h12 256 16 (2 * k.val + 1) _ (k0_off2_eq k ⟨1, by decide⟩) _) (by omega) (fun _ => True)
        (fun r e => by rw [zero_row]) (by intro r hr; omega) (fun _ _ => trivial) (by intro c hc t ht hS hs; simp only [Sees] at hs; exact ⟨(t - (2 * k.val + 1)) / 16, by omega, by omega⟩) r e).trans (by show ((0 + _ : ℝ) : EReal) = _; rw [zero_add])) (by intro r hr; omega) _ x
    · exact piece_if 256 16 (2 * k.val + 0) _ (k0_off2_eq k ⟨0, by decide⟩) _ _ _ (fun j e => ∑ t ∈ Finset.range 4096, (if True then ds 16 q kk v g l dd (e / 64) t j * q t e else 0)) (fun t => t % 16 / 2 = k.val) (fun r e => (B256.dk_at _ _ _ _ _ _ _ _ _ _ 16 16 (2 * k.val + 0) (2 * k.val + 0) q kk
        v g l dd (fun _ _ => 0) (fun r c => c ≤ r ∧ r ≤ c + 128)
        mask2_apply (by intro r hr c hc; simp only [Sees]; omega) (load_at _ h1 256 16 (2 * k.val + 0) _ (k0_off2_eq k ⟨0, by decide⟩) _) (load_at _ h2 256 16 (2 * k.val + 0) _ (k0_off2_eq k ⟨0, by decide⟩) _) (load_at _ h3 256 16 (2 * k.val + 0) _ (k0_off2_eq k ⟨0, by decide⟩) _) (load_at _ h5 256 16 (2 * k.val + 0) _ (k0_off2_eq k ⟨0, by decide⟩) _)
        (load_at _ h6 256 16 (2 * k.val + 0) _ (k0_off2_eq k ⟨0, by decide⟩) _) (load_at _ h7 256 16 (2 * k.val + 0) _ (k0_off2_eq k ⟨0, by decide⟩) _) (load_at _ h11 256 16 (2 * k.val + 0) _ (k0_off2_eq k ⟨0, by decide⟩) _) (load_at _ h12 256 16 (2 * k.val + 0) _ (k0_off2_eq k ⟨0, by decide⟩) _) (by omega) (fun _ => True)
        (fun r e => by rw [zero_row]) (by intro r hr; omega) (fun _ _ => trivial) (by intro c hc t ht hS hs; simp only [Sees] at hs; exact ⟨(t - (2 * k.val + 0)) / 16, by omega, by omega⟩) r e).trans (by show ((0 + _ : ℝ) : EReal) = _; rw [zero_add])) (by intro r hr; omega) _ x
  · intro hout
    have hne : ∀ u < 2, ∀ r < 256, (y 0).val ≠ (2 * k.val + u) + 16 * r := by
      intro u hu r hr h
      have hu' : u = 0 ∨ u = 1 := by omega
      rcases hu' with rfl | rfl
      · obtain ⟨j, hj⟩ := mem_at 256 16 (2 * k.val + 0) _ (k0_off2_eq k ⟨0, by decide⟩) _ _ y ⟨r, hr, h⟩
        exact hout _ (List.mem_cons_of_mem _ List.mem_cons_self) j hj
      · obtain ⟨j, hj⟩ := mem_at 256 16 (2 * k.val + 1) _ (k0_off2_eq k ⟨1, by decide⟩) _ _ y ⟨r, hr, h⟩
        exact hout _ List.mem_cons_self j hj
    simp only
    rw [if_neg]
    intro hS
    exact hne ((y 0).val % 16 % 2) (by omega) ((y 0).val / 16) (by have hy : (y 0).val < 4096 := (y 0).isLt; omega) (by omega)

theorem step2_dv (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t2_loop.trips)
    (q kk v g A : ℕ → ℕ → ℝ) (l dd : ℕ → ℕ → ℝ)
    (h1 : RealAt arg1.view X1 q) (h2 : RealAt arg2.view X2 kk) (h3 : RealAt arg3.view X3 v) (h5 : RealAt arg5.view X5 (fun t _ => l 0 t))
    (h6 : RealAt arg6.view X6 (fun t _ => l 1 t)) (h7 : RealAt arg7.view X7 g) (h11 : RealAt arg11.view X11 (fun t _ => dd 0 t))
    (h12 : RealAt arg12.view X12 (fun t _ => dd 1 t)) (y : S4096x128.Idx) :
    arg15.view.read (Elt Ideal) (arg15.view.writes (Elt Ideal) f15 (trip2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).2.2.1) y
      = if (y 0).val % 16 / 2 = k.val then (((fun j e => ∑ t ∈ Finset.range 4096, (if True then wt 16 q kk l (e / 64) t j * g t e else 0)) (y 0).val (y 1).val : ℝ) : EReal) else arg15.view.read (Elt Ideal) f15 y := by
  have hk : k.val < 8 := Nat.lt_of_lt_of_le k.isLt k0_t2_abs.2.1
  rw [trip2_dv]
  refine read_pieces (Val := Elt Ideal) arg15.view f15 ((fun (y : S4096x128.Idx) => if (y 0).val % 16 / 2 = k.val then (((fun j e => ∑ t ∈ Finset.range 4096, (if True then wt 16 q kk l (e / 64) t j * g t e else 0)) (y 0).val (y 1).val : ℝ) : EReal) else arg15.view.read (Elt Ideal) f15 y) : S4096x128.Idx → EReal) _ ?_ y ?_
  · intro p hp x
    simp only [List.mem_cons, List.not_mem_nil, or_false] at hp
    rcases hp with rfl | rfl
    · exact piece_if 256 16 (2 * k.val + 1) _ (k0_off2_eq k ⟨1, by decide⟩) _ _ _ (fun j e => ∑ t ∈ Finset.range 4096, (if True then wt 16 q kk l (e / 64) t j * g t e else 0)) (fun t => t % 16 / 2 = k.val) (fun r e => (B256.dv_at _ _ _ (View.readAt (Elt Ideal) arg3.view ⟨k0_off2 k 1#32, S256x128.size, ![16, 1], k0_off2_inb k 1⟩ X3) _ _ _ (View.readAt (Elt Ideal) arg11.view ⟨k0_off2 k 1#32, S256x128.size, ![16, 1], k0_off2_inb k 1⟩ X11) (View.readAt (Elt Ideal) arg12.view ⟨k0_off2 k 1#32, S256x128.size, ![16, 1], k0_off2_inb k 1⟩ X12) _ 16 16 (2 * k.val + 1) (2 * k.val + 1) q kk
        v g l dd (fun _ _ => 0) (fun r c => c ≤ r ∧ r ≤ c + 128)
        mask2_apply (by intro r hr c hc; simp only [Sees]; omega) (load_at _ h1 256 16 (2 * k.val + 1) _ (k0_off2_eq k ⟨1, by decide⟩) _) (load_at _ h2 256 16 (2 * k.val + 1) _ (k0_off2_eq k ⟨1, by decide⟩) _) (load_at _ h3 256 16 (2 * k.val + 1) _ (k0_off2_eq k ⟨1, by decide⟩) _) (load_at _ h5 256 16 (2 * k.val + 1) _ (k0_off2_eq k ⟨1, by decide⟩) _)
        (load_at _ h6 256 16 (2 * k.val + 1) _ (k0_off2_eq k ⟨1, by decide⟩) _) (load_at _ h7 256 16 (2 * k.val + 1) _ (k0_off2_eq k ⟨1, by decide⟩) _) (load_at _ h11 256 16 (2 * k.val + 1) _ (k0_off2_eq k ⟨1, by decide⟩) _) (load_at _ h12 256 16 (2 * k.val + 1) _ (k0_off2_eq k ⟨1, by decide⟩) _) (by omega) (fun _ => True)
        (fun r e => by rw [zero_row]) (by intro r hr; omega) (fun _ _ => trivial) (by intro c hc t ht hS hs; simp only [Sees] at hs; exact ⟨(t - (2 * k.val + 1)) / 16, by omega, by omega⟩) r e).trans (by show ((0 + _ : ℝ) : EReal) = _; rw [zero_add])) (by intro r hr; omega) _ x
    · exact piece_if 256 16 (2 * k.val + 0) _ (k0_off2_eq k ⟨0, by decide⟩) _ _ _ (fun j e => ∑ t ∈ Finset.range 4096, (if True then wt 16 q kk l (e / 64) t j * g t e else 0)) (fun t => t % 16 / 2 = k.val) (fun r e => (B256.dv_at _ _ _ (View.readAt (Elt Ideal) arg3.view ⟨k0_off2 k 0#32, S256x128.size, ![16, 1], k0_off2_inb k 0⟩ X3) _ _ _ (View.readAt (Elt Ideal) arg11.view ⟨k0_off2 k 0#32, S256x128.size, ![16, 1], k0_off2_inb k 0⟩ X11) (View.readAt (Elt Ideal) arg12.view ⟨k0_off2 k 0#32, S256x128.size, ![16, 1], k0_off2_inb k 0⟩ X12) _ 16 16 (2 * k.val + 0) (2 * k.val + 0) q kk
        v g l dd (fun _ _ => 0) (fun r c => c ≤ r ∧ r ≤ c + 128)
        mask2_apply (by intro r hr c hc; simp only [Sees]; omega) (load_at _ h1 256 16 (2 * k.val + 0) _ (k0_off2_eq k ⟨0, by decide⟩) _) (load_at _ h2 256 16 (2 * k.val + 0) _ (k0_off2_eq k ⟨0, by decide⟩) _) (load_at _ h3 256 16 (2 * k.val + 0) _ (k0_off2_eq k ⟨0, by decide⟩) _) (load_at _ h5 256 16 (2 * k.val + 0) _ (k0_off2_eq k ⟨0, by decide⟩) _)
        (load_at _ h6 256 16 (2 * k.val + 0) _ (k0_off2_eq k ⟨0, by decide⟩) _) (load_at _ h7 256 16 (2 * k.val + 0) _ (k0_off2_eq k ⟨0, by decide⟩) _) (load_at _ h11 256 16 (2 * k.val + 0) _ (k0_off2_eq k ⟨0, by decide⟩) _) (load_at _ h12 256 16 (2 * k.val + 0) _ (k0_off2_eq k ⟨0, by decide⟩) _) (by omega) (fun _ => True)
        (fun r e => by rw [zero_row]) (by intro r hr; omega) (fun _ _ => trivial) (by intro c hc t ht hS hs; simp only [Sees] at hs; exact ⟨(t - (2 * k.val + 0)) / 16, by omega, by omega⟩) r e).trans (by show ((0 + _ : ℝ) : EReal) = _; rw [zero_add])) (by intro r hr; omega) _ x
  · intro hout
    have hne : ∀ u < 2, ∀ r < 256, (y 0).val ≠ (2 * k.val + u) + 16 * r := by
      intro u hu r hr h
      have hu' : u = 0 ∨ u = 1 := by omega
      rcases hu' with rfl | rfl
      · obtain ⟨j, hj⟩ := mem_at 256 16 (2 * k.val + 0) _ (k0_off2_eq k ⟨0, by decide⟩) _ _ y ⟨r, hr, h⟩
        exact hout _ (List.mem_cons_of_mem _ List.mem_cons_self) j hj
      · obtain ⟨j, hj⟩ := mem_at 256 16 (2 * k.val + 1) _ (k0_off2_eq k ⟨1, by decide⟩) _ _ y ⟨r, hr, h⟩
        exact hout _ List.mem_cons_self j hj
    simp only
    rw [if_neg]
    intro hS
    exact hne ((y 0).val % 16 % 2) (by omega) ((y 0).val / 16) (by have hy : (y 0).val < 4096 := (y 0).isLt; omega) (by omega)

end Cert.Proof.Value

end
-- ==== Proof.Value.All2.lean ====
/- The loop `k0_t2_loop`: what all its trips leave in the gradients. -/
module

public import proofs.«01_k».proof.Proof.Value.Step2
public import proofs.«01_k».proof.Proof.Ideal.Loop2
public import proofs.«01_k».proof.Proof.Value.Sums

@[expose] public section

set_option maxRecDepth 16384
set_option maxHeartbeats 4000000

noncomputable section

namespace Cert.Proof.Value

open Cert.KernelIdeal Cert.KernelIdeal.Gen Cert.Proof.KernelIdeal
open Idealize.ShloMosaic Idealize.ShloMosaic.TcCoe Idealize.ShloMosaic.Tactic

theorem loop2_aux (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (G13 : BufTy.Contents (Elt Ideal) arg13.view.ty) (G14 : BufTy.Contents (Elt Ideal) arg14.view.ty) (G15 : BufTy.Contents (Elt Ideal) arg15.view.ty)
    (q kk v g : ℕ → ℕ → ℝ) (l dd : ℕ → ℕ → ℝ)
    (h1 : RealAt arg1.view X1 q) (h2 : RealAt arg2.view X2 kk) (h3 : RealAt arg3.view X3 v) (h5 : RealAt arg5.view X5 (fun t _ => l 0 t))
    (h6 : RealAt arg6.view X6 (fun t _ => l 1 t)) (h7 : RealAt arg7.view X7 g) (h11 : RealAt arg11.view X11 (fun t _ => dd 0 t))
    (h12 : RealAt arg12.view X12 (fun t _ => dd 1 t)) :
    ∀ k ≤ 8, (∀ y : S4096x128.Idx, (y 0).val % 16 / 2 < k → arg13.view.read (Elt Ideal) (acc2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).1 y = ((dqSum 16 q kk v g l dd (y 0).val (y 1).val : ℝ) : EReal)) ∧ (∀ y : S4096x128.Idx, (y 0).val % 16 / 2 < k → arg14.view.read (Elt Ideal) (acc2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).2.1 y = ((dkSum 16 q kk v g l dd (y 0).val (y 1).val : ℝ) : EReal)) ∧ (∀ y : S4096x128.Idx, (y 0).val % 16 / 2 < k → arg15.view.read (Elt Ideal) (acc2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).2.2 y = ((dvSum 16 q kk g l (y 0).val (y 1).val : ℝ) : EReal))
  | 0, _ => ⟨fun y h => absurd h (Nat.not_lt_zero _), fun y h => absurd h (Nat.not_lt_zero _), fun y h => absurd h (Nat.not_lt_zero _)⟩
  | k + 1, hk1 => by
    obtain ⟨ihdq, ihdk, ihdv⟩ := loop2_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 q kk v g l dd h1 h2 h3 h5 h6 h7 h11 h12 k (by omega)
    have hk : k < k0_t2_loop.trips := lt_of_lt_of_eq (show k < 8 by omega) (show 8 = k0_t2_loop.trips by decide)
    have he : (acc2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 (k + 1)) = _ := next2_eq (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 ⟨k, hk⟩ (acc2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k)
    rw [he]
    refine ⟨fun y hy => ?_, fun y hy => ?_, fun y hy => ?_⟩
    · refine (step2_dq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 _ _ _ ⟨k, hk⟩ q kk v g (fun _ _ => 0) l dd h1 h2 h3 h5 h6 h7 h11 h12 y).trans ?_
      by_cases h : (y 0).val % 16 / 2 = k
      · exact if_pos h
      · refine (if_neg h).trans ?_
        exact ihdq y (by omega)
    · refine (step2_dk 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 _ _ _ ⟨k, hk⟩ q kk v g (fun _ _ => 0) l dd h1 h2 h3 h5 h6 h7 h11 h12 y).trans ?_
      by_cases h : (y 0).val % 16 / 2 = k
      · refine (if_pos h).trans (congrArg Real.toEReal (Finset.sum_congr rfl fun j _ => if_pos trivial))
      · refine (if_neg h).trans ?_
        exact ihdk y (by omega)
    · refine (step2_dv 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 _ _ _ ⟨k, hk⟩ q kk v g (fun _ _ => 0) l dd h1 h2 h3 h5 h6 h7 h11 h12 y).trans ?_
      by_cases h : (y 0).val % 16 / 2 = k
      · refine (if_pos h).trans (congrArg Real.toEReal (Finset.sum_congr rfl fun j _ => if_pos trivial))
      · refine (if_neg h).trans ?_
        exact ihdv y (by omega)

theorem loop2 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (G13 : BufTy.Contents (Elt Ideal) arg13.view.ty) (G14 : BufTy.Contents (Elt Ideal) arg14.view.ty) (G15 : BufTy.Contents (Elt Ideal) arg15.view.ty)
    (q kk v g : ℕ → ℕ → ℝ) (l dd : ℕ → ℕ → ℝ)
    (h1 : RealAt arg1.view X1 q) (h2 : RealAt arg2.view X2 kk) (h3 : RealAt arg3.view X3 v) (h5 : RealAt arg5.view X5 (fun t _ => l 0 t))
    (h6 : RealAt arg6.view X6 (fun t _ => l 1 t)) (h7 : RealAt arg7.view X7 g) (h11 : RealAt arg11.view X11 (fun t _ => dd 0 t))
    (h12 : RealAt arg12.view X12 (fun t _ => dd 1 t)) :
    RealAt arg13.view (acc2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 8).1 (dqSum 16 q kk v g l dd) ∧ RealAt arg14.view (acc2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 8).2.1 (dkSum 16 q kk v g l dd) ∧ RealAt arg15.view (acc2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 8).2.2 (dvSum 16 q kk g l) := by
  obtain ⟨hA, hB, hC⟩ := loop2_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 q kk v g l dd h1 h2 h3 h5 h6 h7 h11 h12 8 le_rfl
  exact ⟨fun t e => hA (ix2 t e) (show t.val % 16 / 2 < 8 by omega), fun t e => hB (ix2 t e) (show t.val % 16 / 2 < 8 by omega), fun t e => hC (ix2 t e) (show t.val % 16 / 2 < 8 by omega)⟩

end Cert.Proof.Value

end
-- ==== Proof.Value.Block128.lean ====
/- One block of the attention gradient, 128 query rows by 256 keys, read at an index. -/
module

public import proofs.«01_k».proof.Proof.Gen.KernelIdeal.Loops
public import proofs.«01_k».proof.Proof.Value.Attend

@[expose] public section

set_option maxRecDepth 16384
set_option maxHeartbeats 4000000

noncomputable section

namespace Cert.Proof.Value.B128

open Cert.KernelIdeal Cert.KernelIdeal.Gen
open Idealize.ShloMosaic Idealize.ShloMosaic.TcCoe Idealize.ShloMosaic.Tactic

/-- Rows stacked for the two heads. -/
def heads (t : FVec Ideal S128x128 .f32) : FVec Ideal S256x128 .bf16 :=
  concatenate S256x128 0 [⟨S128x128, select (cmpi .slt (iota .tc S128x128 32 [1] iota_S128x128_d1_w32) (broadcast S128x128 64#32))
      (truncf .bf16 t bitsLt_bf16_f32) (broadcast S128x128 (Scalar.ofBits .bf16 0x0000#16))⟩,
    ⟨S128x128, select (cmpi .slt (iota .tc S128x128 32 [1] iota_S128x128_d1_w32) (broadcast S128x128 64#32))
      (broadcast S128x128 (Scalar.ofBits .bf16 0x0000#16)) (truncf .bf16 t bitsLt_bf16_f32)⟩] concatenates_S128x128_S128x128_S256x128_d0

/-- Two heads' lane arrays stacked, and repeated over the keys. -/
def lanes (a b : FVec Ideal S128x128 .f32) : FVec Ideal S256x256 .f32 :=
  concatenate S256x256 1 [⟨S256x128, concatenate S256x128 0 [⟨S128x128, a⟩, ⟨S128x128, b⟩] concatenates_S128x128_S128x128_S256x128_d0⟩,
    ⟨S256x128, concatenate S256x128 0 [⟨S128x128, a⟩, ⟨S128x128, b⟩] concatenates_S128x128_S128x128_S256x128_d0⟩] concatenates_S256x128_S256x128_S256x256_d1

/-- Stacked rows against keys. -/
def scores (x : FVec Ideal S256x128 .bf16) (y : FVec Ideal S256x128 .f32) : FVec Ideal S256x256 .f32 :=
  matmul dot_S256x128_S256x128_S256x256_1_1_0_0_n_n none x (truncf .bf16 y bitsLt_bf16_f32) (constant S256x256 .f32 0x00000000#32)

/-- The weights. -/
def weights (valid : IVec S128x256 1) (q : FVec Ideal S128x128 .f32) (k : FVec Ideal S256x128 .f32) (l0 l1 : FVec Ideal S128x128 .f32) : FVec Ideal S256x256 .f32 :=
  exp (subf (select (concatenate S256x256 0 [⟨S128x256, valid⟩, ⟨S128x256, valid⟩] concatenates_S128x256_S128x256_S256x256_d0)
    (scores (heads (mulf q (broadcast S128x128 (Scalar.ofBits .f32 0x3E000000#32)))) k) (broadcast S256x256 (Named.named κ "mask" 0xF149F2CA#32))) (lanes l0 l1))

/-- The scores' gradient. -/
def dscores (p : FVec Ideal S256x256 .f32) (g : FVec Ideal S128x128 .f32) (v : FVec Ideal S256x128 .f32) (d0 d1 : FVec Ideal S128x128 .f32) : FVec Ideal S256x256 .bf16 :=
  truncf .bf16 (mulf (mulf p (subf (scores (heads g) v) (lanes d0 d1))) (broadcast S256x256 (Scalar.ofBits .f32 0x3E000000#32))) bitsLt_bf16_f32

/-- The queries' sum, the two heads' lanes put together. -/
def queries (ds : FVec Ideal S256x256 .bf16) (k : FVec Ideal S256x128 .f32) : FVec Ideal S128x128 .f32 :=
  select (cmpi .slt (iota .tc S128x128 32 [1] iota_S128x128_d1_w32) (broadcast S128x128 64#32))
    (extractStridedSlice S128x128 ![0, 0] (matmul dot_S256x256_S256x128_S256x128_1_0_0_1_n_n none ds (truncf .bf16 k bitsLt_bf16_f32) (constant S256x128 .f32 0x00000000#32)) slices_S256x128_o0_0_S128x128)
    (extractStridedSlice S128x128 ![128, 0] (matmul dot_S256x256_S256x128_S256x128_1_0_0_1_n_n none ds (truncf .bf16 k bitsLt_bf16_f32) (constant S256x128 .f32 0x00000000#32)) slices_S256x128_o128_0_S128x128)

/-- The keys' sum. -/
def keys (ds : FVec Ideal S256x256 .bf16) (x : FVec Ideal S256x128 .bf16) : FVec Ideal S256x128 .f32 :=
  matmul dot_S256x256_S256x128_S256x128_0_0_1_1_n_n none ds x (constant S256x128 .f32 0x00000000#32)

theorem heads_apply (t : FVec Ideal S128x128 .f32) (x : ℕ → ℕ → ℝ) (ht : ∀ (r : Fin 128) (e : Fin 128), t (ix2 r e) = ((x r.val e.val : ℝ) : EReal))
    (R : Fin 256) (e : Fin 128) : heads t (ix2 R e) = ((hd 128 x R.val e.val : ℝ) : EReal) := by
  unfold heads hd
  pointwise
  have he : e.val / 64 = 0 ∨ e.val / 64 = 1 := by omega
  by_cases hR : R.val < 128
  · have h0 : R.val / 128 = 0 := Nat.div_eq_of_lt hR
    have h1 : R.val % 128 = R.val := Nat.mod_eq_of_lt hR
    simp only [hR, dite_true, h0, h1, ht, lane_select]
    rcases he with he | he <;> simp only [he, if_true, one_ne_zero, if_false, EReal.coe_zero]
  · have h0 : R.val / 128 = 1 := by omega
    have h1 : R.val % 128 = R.val - 128 := by omega
    simp only [hR, dite_false, h0, h1, ht, lane_select]
    rcases he with he | he <;> simp only [he, if_true, one_ne_zero, zero_ne_one, if_false, EReal.coe_zero]

theorem lanes_apply (a b : FVec Ideal S128x128 .f32) (l : ℕ → ℕ → ℝ) (ha : ∀ (r : Fin 128) (e : Fin 128), a (ix2 r e) = ((l 0 r.val : ℝ) : EReal))
    (hb : ∀ (r : Fin 128) (e : Fin 128), b (ix2 r e) = ((l 1 r.val : ℝ) : EReal)) (R : Fin 256) (c : Fin 256) :
    lanes a b (ix2 R c) = ((l (R.val / 128) (R.val % 128) : ℝ) : EReal) := by
  unfold lanes
  pointwise
  by_cases hR : R.val < 128
  · have h0 : R.val / 128 = 0 := Nat.div_eq_of_lt hR
    have h1 : R.val % 128 = R.val := Nat.mod_eq_of_lt hR
    simp [hR, h0, h1, ha]
  · have h0 : R.val / 128 = 1 := by omega
    have h1 : R.val % 128 = R.val - 128 := by omega
    simp [hR, h0, h1, hb]

theorem scores_apply (t : FVec Ideal S256x128 .bf16) (s : FVec Ideal S256x128 .f32) (x y : ℕ → ℕ → ℝ)
    (ht : ∀ (R : Fin 256) (e : Fin 128), t (ix2 R e) = ((hd 128 x R.val e.val : ℝ) : EReal))
    (hs : ∀ (c : Fin 256) (e : Fin 128), s (ix2 c e) = ((y c.val e.val : ℝ) : EReal)) (R : Fin 256) (c : Fin 256) :
    scores t s (ix2 R c) = ((bS 128 x y R.val c.val : ℝ) : EReal) := by
  unfold scores bS
  pointwise
  simp only [ht, hs, ← EReal.coe_mul, toReal_sum]

theorem weights_apply (valid : IVec S128x256 1) (q : FVec Ideal S128x128 .f32) (k : FVec Ideal S256x128 .f32) (l0 l1 : FVec Ideal S128x128 .f32)
    (val : ℕ → ℕ → Prop) [∀ r c, Decidable (val r c)] (q' k' l : ℕ → ℕ → ℝ)
    (hv : ∀ (r : Fin 128) (c : Fin 256), valid (ix2 r c) = if val r.val c.val then 1#1 else 0#1)
    (hq : ∀ (r : Fin 128) (e : Fin 128), q (ix2 r e) = ((q' r.val e.val : ℝ) : EReal))
    (hk : ∀ (c : Fin 256) (e : Fin 128), k (ix2 c e) = ((k' c.val e.val : ℝ) : EReal))
    (h0 : ∀ (r : Fin 128) (e : Fin 128), l0 (ix2 r e) = ((l 0 r.val : ℝ) : EReal))
    (h1 : ∀ (r : Fin 128) (e : Fin 128), l1 (ix2 r e) = ((l 1 r.val : ℝ) : EReal)) (R : Fin 256) (c : Fin 256) :
    weights valid q k l0 l1 (ix2 R c) = ((bP 128 val q' k' l R.val c.val : ℝ) : EReal) := by
  have hh : ∀ (r : Fin 128) (e : Fin 128), (mulf q (broadcast S128x128 (Scalar.ofBits .f32 0x3E000000#32)) : FVec Ideal S128x128 .f32) (ix2 r e) = (((fun r e => q' r e * 0.125) r.val e.val : ℝ) : EReal) := by
    intro r e
    pointwise
    simp only [hq, ofBits_eighth, ← EReal.coe_mul]
  have hs := scores_apply (heads (mulf q (broadcast S128x128 (Scalar.ofBits .f32 0x3E000000#32)))) k (fun r e => q' r e * 0.125) k' (heads_apply _ (fun r e => q' r e * 0.125) hh) hk R c
  have hl := lanes_apply l0 l1 l h0 h1 R c
  have hm : (Named.named (F := Ideal) (φ := .f32) κ "mask" 0xF149F2CA#32 : EReal) = ⊥ := IdealRules.named_const.ideal_named_scalar κ "mask" (φ := .f32) 0xF149F2CA#32 ⊥ rfl
  have hvv : concatenate S256x256 0 [⟨S128x256, valid⟩, ⟨S128x256, valid⟩] concatenates_S128x256_S128x256_S256x256_d0 (ix2 R c) = if val (R.val % 128) c.val then 1#1 else 0#1 := by
    pointwise
    by_cases hR : R.val < 128
    · have h1 : R.val % 128 = R.val := Nat.mod_eq_of_lt hR
      simp [hR, h1, hv]
    · have h1 : R.val % 128 = R.val - 128 := by omega
      simp [hR, h1, hv]
  have hw : weights valid q k l0 l1 (ix2 R c) = Ideal.exp (Scalar.select (concatenate S256x256 0 [⟨S128x256, valid⟩, ⟨S128x256, valid⟩] concatenates_S128x256_S128x256_S256x256_d0 (ix2 R c))
      (scores (heads (mulf q (broadcast S128x128 (Scalar.ofBits .f32 0x3E000000#32)))) k (ix2 R c)) (Named.named (F := Ideal) (φ := .f32) κ "mask" 0xF149F2CA#32)
      - lanes l0 l1 (ix2 R c)) := rfl
  rw [hw, hvv, hs, hl, hm]
  unfold bP
  by_cases hval : val (R.val % 128) c.val
  · rw [if_pos hval, if_pos hval]
    rw [select_one, ← EReal.coe_sub]; rfl
  · rw [if_neg hval, if_neg hval]
    rw [select_zero, EReal.bot_sub]; rfl

theorem dscores_apply (p : FVec Ideal S256x256 .f32) (g : FVec Ideal S128x128 .f32) (v : FVec Ideal S256x128 .f32) (d0 d1 : FVec Ideal S128x128 .f32)
    (p' g' v' d : ℕ → ℕ → ℝ)
    (hp : ∀ (R : Fin 256) (c : Fin 256), p (ix2 R c) = ((p' R.val c.val : ℝ) : EReal))
    (hg : ∀ (r : Fin 128) (e : Fin 128), g (ix2 r e) = ((g' r.val e.val : ℝ) : EReal))
    (hv : ∀ (c : Fin 256) (e : Fin 128), v (ix2 c e) = ((v' c.val e.val : ℝ) : EReal))
    (h0 : ∀ (r : Fin 128) (e : Fin 128), d0 (ix2 r e) = ((d 0 r.val : ℝ) : EReal))
    (h1 : ∀ (r : Fin 128) (e : Fin 128), d1 (ix2 r e) = ((d 1 r.val : ℝ) : EReal)) (R : Fin 256) (c : Fin 256) :
    dscores p g v d0 d1 (ix2 R c) = ((p' R.val c.val * (bS 128 g' v' R.val c.val - d (R.val / 128) (R.val % 128)) * 0.125 : ℝ) : EReal) := by
  have hs := scores_apply (heads g) v _ v' (heads_apply _ _ hg) hv R c
  have hl := lanes_apply d0 d1 d h0 h1 R c
  unfold dscores
  simp only [truncf_apply, mulf_apply, subf_apply, hs, hl, hp]
  pointwise
  simp only [ofBits_eighth, ← EReal.coe_mul, ← EReal.coe_sub]

theorem queries_apply (ds : FVec Ideal S256x256 .bf16) (k : FVec Ideal S256x128 .f32) (s' k' : ℕ → ℕ → ℝ)
    (hs : ∀ (R : Fin 256) (c : Fin 256), ds (ix2 R c) = ((s' R.val c.val : ℝ) : EReal))
    (hk : ∀ (c : Fin 256) (e : Fin 128), k (ix2 c e) = ((k' c.val e.val : ℝ) : EReal)) (r : Fin 128) (e : Fin 128) :
    queries ds k (ix2 r e) = ((∑ c : Fin 256, s' (128 * (e.val / 64) + r.val) c.val * k' c.val e.val : ℝ) : EReal) := by
  unfold queries
  pointwise
  have he : e.val / 64 = 0 ∨ e.val / 64 = 1 := by omega
  simp only [hs, hk, ← EReal.coe_mul, toReal_sum, lane_select]
  rcases he with he | he <;> simp only [he, if_true, one_ne_zero, if_false, Nat.mul_zero, Nat.mul_one, Nat.zero_add]

theorem keys_apply (ds : FVec Ideal S256x256 .bf16) (x : FVec Ideal S256x128 .bf16) (s' x' : ℕ → ℕ → ℝ)
    (hs : ∀ (R : Fin 256) (c : Fin 256), ds (ix2 R c) = ((s' R.val c.val : ℝ) : EReal))
    (hx : ∀ (R : Fin 256) (e : Fin 128), x (ix2 R e) = ((hd 128 x' R.val e.val : ℝ) : EReal)) (c : Fin 256) (e : Fin 128) :
    keys ds x (ix2 c e) = ((∑ R : Fin 256, s' R.val c.val * hd 128 x' R.val e.val : ℝ) : EReal) := by
  unfold keys
  pointwise
  simp only [hs, hx, ← EReal.coe_mul, toReal_sum]

/-- The queries' gradient of a block, added to what was there. -/
def dq (valid : IVec S128x256 1) (q : FVec Ideal S128x128 .f32) (k v : FVec Ideal S256x128 .f32) (l0 l1 g d0 d1 : FVec Ideal S128x128 .f32) (o : FVec Ideal S128x128 .f32) : FVec Ideal S128x128 .f32 :=
  shapeCast S128x128 (addf o (queries (dscores (weights valid q k (shapeCast S128x128 l0 shapeCasts_S128x128_S128x128) (shapeCast S128x128 l1 shapeCasts_S128x128_S128x128)) g v d0 d1) k)) shapeCasts_S128x128_S128x128

/-- The keys' gradient of a block, added to what was there. -/
def dk (valid : IVec S128x256 1) (q : FVec Ideal S128x128 .f32) (k v : FVec Ideal S256x128 .f32) (l0 l1 g d0 d1 : FVec Ideal S128x128 .f32) (o : FVec Ideal S256x128 .f32) : FVec Ideal S256x128 .f32 :=
  shapeCast S256x128 (addf o (keys (dscores (weights valid q k (shapeCast S128x128 l0 shapeCasts_S128x128_S128x128) (shapeCast S128x128 l1 shapeCasts_S128x128_S128x128)) g v d0 d1) (heads q))) shapeCasts_S256x128_S256x128

/-- The values' gradient of a block, added to what was there. -/
def dv (valid : IVec S128x256 1) (q : FVec Ideal S128x128 .f32) (k v : FVec Ideal S256x128 .f32) (l0 l1 g d0 d1 : FVec Ideal S128x128 .f32) (o : FVec Ideal S256x128 .f32) : FVec Ideal S256x128 .f32 :=
  shapeCast S256x128 (addf o (keys (truncf .bf16 (weights valid q k (shapeCast S128x128 l0 shapeCasts_S128x128_S128x128) (shapeCast S128x128 l1 shapeCasts_S128x128_S128x128)) bitsLt_bf16_f32) (heads g))) shapeCasts_S256x128_S256x128

theorem cast_self {s : Shape} {α : Type} (x : s.Idx → α) (h : s.ShapeCasts s) : shapeCast s x h = x := by
  funext j; unfold shapeCast; simp [Shape.reshapeEquiv_self]

theorem dq_apply (valid : IVec S128x256 1) (q : FVec Ideal S128x128 .f32) (k v : FVec Ideal S256x128 .f32) (l0 l1 g d0 d1 : FVec Ideal S128x128 .f32) (o : FVec Ideal S128x128 .f32) (val : ℕ → ℕ → Prop) [∀ r c, Decidable (val r c)] (q' k' v' g' l d o' : ℕ → ℕ → ℝ)
    (hv : ∀ (r : Fin 128) (c : Fin 256), valid (ix2 r c) = if val r.val c.val then 1#1 else 0#1)
    (hq : ∀ (r : Fin 128) (e : Fin 128), q (ix2 r e) = ((q' r.val e.val : ℝ) : EReal))
    (hk : ∀ (r : Fin 256) (e : Fin 128), k (ix2 r e) = ((k' r.val e.val : ℝ) : EReal))
    (hw : ∀ (r : Fin 256) (e : Fin 128), v (ix2 r e) = ((v' r.val e.val : ℝ) : EReal))
    (h0 : ∀ (r : Fin 128) (e : Fin 128), l0 (ix2 r e) = ((l 0 r.val : ℝ) : EReal))
    (h1 : ∀ (r : Fin 128) (e : Fin 128), l1 (ix2 r e) = ((l 1 r.val : ℝ) : EReal))
    (hg : ∀ (r : Fin 128) (e : Fin 128), g (ix2 r e) = ((g' r.val e.val : ℝ) : EReal))
    (hd0 : ∀ (r : Fin 128) (e : Fin 128), d0 (ix2 r e) = ((d 0 r.val : ℝ) : EReal))
    (hd1 : ∀ (r : Fin 128) (e : Fin 128), d1 (ix2 r e) = ((d 1 r.val : ℝ) : EReal))
    (ho : ∀ (r : Fin 128) (e : Fin 128), o (ix2 r e) = ((o' r.val e.val : ℝ) : EReal)) (r : Fin 128) (e : Fin 128) :
    dq valid q k v l0 l1 g d0 d1 o (ix2 r e) = ((o' r.val e.val + ∑ c : Fin 256, bDS 128 val q' k' v' g' l d (128 * (e.val / 64) + r.val) c.val * k' c.val e.val : ℝ) : EReal) := by
  have hP := weights_apply valid q k l0 l1 val q' k' l hv hq hk h0 h1
  have hD := dscores_apply _ g v d0 d1 _ g' v' d hP hg hw hd0 hd1
  have hQ := queries_apply _ k (bDS 128 val q' k' v' g' l d) k' (fun R c => (hD R c)) hk r e
  unfold dq
  rw [cast_self, cast_self, cast_self, addf_apply, hQ, ho, EReal.coe_add]; rfl

theorem dk_apply (valid : IVec S128x256 1) (q : FVec Ideal S128x128 .f32) (k v : FVec Ideal S256x128 .f32) (l0 l1 g d0 d1 : FVec Ideal S128x128 .f32) (o : FVec Ideal S256x128 .f32) (val : ℕ → ℕ → Prop) [∀ r c, Decidable (val r c)] (q' k' v' g' l d o' : ℕ → ℕ → ℝ)
    (hv : ∀ (r : Fin 128) (c : Fin 256), valid (ix2 r c) = if val r.val c.val then 1#1 else 0#1)
    (hq : ∀ (r : Fin 128) (e : Fin 128), q (ix2 r e) = ((q' r.val e.val : ℝ) : EReal))
    (hk : ∀ (r : Fin 256) (e : Fin 128), k (ix2 r e) = ((k' r.val e.val : ℝ) : EReal))
    (hw : ∀ (r : Fin 256) (e : Fin 128), v (ix2 r e) = ((v' r.val e.val : ℝ) : EReal))
    (h0 : ∀ (r : Fin 128) (e : Fin 128), l0 (ix2 r e) = ((l 0 r.val : ℝ) : EReal))
    (h1 : ∀ (r : Fin 128) (e : Fin 128), l1 (ix2 r e) = ((l 1 r.val : ℝ) : EReal))
    (hg : ∀ (r : Fin 128) (e : Fin 128), g (ix2 r e) = ((g' r.val e.val : ℝ) : EReal))
    (hd0 : ∀ (r : Fin 128) (e : Fin 128), d0 (ix2 r e) = ((d 0 r.val : ℝ) : EReal))
    (hd1 : ∀ (r : Fin 128) (e : Fin 128), d1 (ix2 r e) = ((d 1 r.val : ℝ) : EReal))
    (ho : ∀ (r : Fin 256) (e : Fin 128), o (ix2 r e) = ((o' r.val e.val : ℝ) : EReal)) (r : Fin 256) (e : Fin 128) :
    dk valid q k v l0 l1 g d0 d1 o (ix2 r e) = ((o' r.val e.val + ∑ R : Fin 256, bDS 128 val q' k' v' g' l d R.val r.val * hd 128 q' R.val e.val : ℝ) : EReal) := by
  have hP := weights_apply valid q k l0 l1 val q' k' l hv hq hk h0 h1
  have hD := dscores_apply _ g v d0 d1 _ g' v' d hP hg hw hd0 hd1
  have hQ := keys_apply _ (heads q) (bDS 128 val q' k' v' g' l d) q' (fun R c => (hD R c)) (heads_apply q q' hq) r e
  unfold dk
  rw [cast_self, cast_self, cast_self, addf_apply, hQ, ho, EReal.coe_add]; rfl

theorem dv_apply (valid : IVec S128x256 1) (q : FVec Ideal S128x128 .f32) (k v : FVec Ideal S256x128 .f32) (l0 l1 g d0 d1 : FVec Ideal S128x128 .f32) (o : FVec Ideal S256x128 .f32) (val : ℕ → ℕ → Prop) [∀ r c, Decidable (val r c)] (q' k' v' g' l d o' : ℕ → ℕ → ℝ)
    (hv : ∀ (r : Fin 128) (c : Fin 256), valid (ix2 r c) = if val r.val c.val then 1#1 else 0#1)
    (hq : ∀ (r : Fin 128) (e : Fin 128), q (ix2 r e) = ((q' r.val e.val : ℝ) : EReal))
    (hk : ∀ (r : Fin 256) (e : Fin 128), k (ix2 r e) = ((k' r.val e.val : ℝ) : EReal))
    (hw : ∀ (r : Fin 256) (e : Fin 128), v (ix2 r e) = ((v' r.val e.val : ℝ) : EReal))
    (h0 : ∀ (r : Fin 128) (e : Fin 128), l0 (ix2 r e) = ((l 0 r.val : ℝ) : EReal))
    (h1 : ∀ (r : Fin 128) (e : Fin 128), l1 (ix2 r e) = ((l 1 r.val : ℝ) : EReal))
    (hg : ∀ (r : Fin 128) (e : Fin 128), g (ix2 r e) = ((g' r.val e.val : ℝ) : EReal))
    (hd0 : ∀ (r : Fin 128) (e : Fin 128), d0 (ix2 r e) = ((d 0 r.val : ℝ) : EReal))
    (hd1 : ∀ (r : Fin 128) (e : Fin 128), d1 (ix2 r e) = ((d 1 r.val : ℝ) : EReal))
    (ho : ∀ (r : Fin 256) (e : Fin 128), o (ix2 r e) = ((o' r.val e.val : ℝ) : EReal)) (r : Fin 256) (e : Fin 128) :
    dv valid q k v l0 l1 g d0 d1 o (ix2 r e) = ((o' r.val e.val + ∑ R : Fin 256, bP 128 val q' k' l R.val r.val * hd 128 g' R.val e.val : ℝ) : EReal) := by
  have hP := weights_apply valid q k l0 l1 val q' k' l hv hq hk h0 h1
  have hD := dscores_apply _ g v d0 d1 _ g' v' d hP hg hw hd0 hd1
  have hQ := keys_apply (truncf .bf16 (weights valid q k l0 l1) bitsLt_bf16_f32) (heads g) (bP 128 val q' k' l) g' (fun R c => (hP R c)) (heads_apply g g' hg) r e
  unfold dv
  rw [cast_self, cast_self, cast_self, addf_apply, hQ, ho, EReal.coe_add]; rfl

/-- A block at its place: its rows are `ro + s * r`, its keys `co + s * c`. The queries' gradient. -/
theorem dq_at (valid : IVec S128x256 1) (q : FVec Ideal S128x128 .f32) (k v : FVec Ideal S256x128 .f32) (l0 l1 g d0 d1 : FVec Ideal S128x128 .f32) (o : FVec Ideal S128x128 .f32) (d s ro co : ℕ) (Q K W G L D A : ℕ → ℕ → ℝ) (val : ℕ → ℕ → Prop) [∀ r c, Decidable (val r c)]
    (hv : ∀ (r : Fin 128) (c : Fin 256), valid (ix2 r c) = if val r.val c.val then 1#1 else 0#1)
    (hval : ∀ r < 128, ∀ c < 256, (val r c ↔ Sees d (ro + s * r) (co + s * c)))
    (hq : ∀ (r : Fin 128) (e : Fin 128), q (ix2 r e) = ((Q (ro + s * r.val) e.val : ℝ) : EReal)) (hk : ∀ (r : Fin 256) (e : Fin 128), k (ix2 r e) = ((K (co + s * r.val) e.val : ℝ) : EReal)) (hw : ∀ (r : Fin 256) (e : Fin 128), v (ix2 r e) = ((W (co + s * r.val) e.val : ℝ) : EReal))
    (h0 : ∀ (r : Fin 128) (e : Fin 128), l0 (ix2 r e) = ((L 0 (ro + s * r.val) : ℝ) : EReal)) (h1 : ∀ (r : Fin 128) (e : Fin 128), l1 (ix2 r e) = ((L 1 (ro + s * r.val) : ℝ) : EReal)) (hg : ∀ (r : Fin 128) (e : Fin 128), g (ix2 r e) = ((G (ro + s * r.val) e.val : ℝ) : EReal))
    (hd0 : ∀ (r : Fin 128) (e : Fin 128), d0 (ix2 r e) = ((D 0 (ro + s * r.val) : ℝ) : EReal)) (hd1 : ∀ (r : Fin 128) (e : Fin 128), d1 (ix2 r e) = ((D 1 (ro + s * r.val) : ℝ) : EReal)) (hs : 0 < s)
    (ho : ∀ (r : Fin 128) (e : Fin 128), o (ix2 r e) = ((A (ro + s * r.val) e.val : ℝ) : EReal)) (hb : ∀ c < 256, co + s * c < 4096)
    (hcov : ∀ r < 128, ∀ j < 4096, Sees d (ro + s * r) j → ∃ c < 256, j = co + s * c) (r : Fin 128) (e : Fin 128) :
    dq valid q k v l0 l1 g d0 d1 o (ix2 r e)
      = ((A (ro + s * r.val) e.val + ∑ j ∈ Finset.range 4096, ds d Q K W G L D (e.val / 64) (ro + s * r.val) j * K j e.val : ℝ) : EReal) := by
  rw [dq_apply valid q k v l0 l1 g d0 d1 o val (fun r e => Q (ro + s * r) e) (fun c e => K (co + s * c) e) (fun c e => W (co + s * c) e) (fun r e => G (ro + s * r) e)
    (fun a r => L a (ro + s * r)) (fun a r => D a (ro + s * r)) (fun r e => A (ro + s * r) e) hv hq hk hw h0 h1 hg hd0 hd1 ho r e]
  congr 2
  refine sum_block 256 co s (fun c => bDS 128 val _ _ _ _ _ _ (128 * (e.val / 64) + r.val) c * K (co + s * c) e.val) _ hs hb ?_ ?_
  · intro c hc
    rw [bDS_eq 128 d val Q K W G L D (fun r => ro + s * r) (fun c => co + s * c) (e.val / 64) r.val c r.isLt (hval _ r.isLt _ hc)]
  · intro j hj hne
    by_contra h
    exact hne (by rw [ds_eq_zero Q K W G L D _ (fun hsee => h (hcov _ r.isLt j hj hsee)), zero_mul])

/-- The keys' gradient. -/
theorem dk_at (valid : IVec S128x256 1) (q : FVec Ideal S128x128 .f32) (k v : FVec Ideal S256x128 .f32) (l0 l1 g d0 d1 : FVec Ideal S128x128 .f32) (o : FVec Ideal S256x128 .f32) (d s ro co : ℕ) (Q K W G L D A : ℕ → ℕ → ℝ) (val : ℕ → ℕ → Prop) [∀ r c, Decidable (val r c)]
    (hv : ∀ (r : Fin 128) (c : Fin 256), valid (ix2 r c) = if val r.val c.val then 1#1 else 0#1)
    (hval : ∀ r < 128, ∀ c < 256, (val r c ↔ Sees d (ro + s * r) (co + s * c)))
    (hq : ∀ (r : Fin 128) (e : Fin 128), q (ix2 r e) = ((Q (ro + s * r.val) e.val : ℝ) : EReal)) (hk : ∀ (r : Fin 256) (e : Fin 128), k (ix2 r e) = ((K (co + s * r.val) e.val : ℝ) : EReal)) (hw : ∀ (r : Fin 256) (e : Fin 128), v (ix2 r e) = ((W (co + s * r.val) e.val : ℝ) : EReal))
    (h0 : ∀ (r : Fin 128) (e : Fin 128), l0 (ix2 r e) = ((L 0 (ro + s * r.val) : ℝ) : EReal)) (h1 : ∀ (r : Fin 128) (e : Fin 128), l1 (ix2 r e) = ((L 1 (ro + s * r.val) : ℝ) : EReal)) (hg : ∀ (r : Fin 128) (e : Fin 128), g (ix2 r e) = ((G (ro + s * r.val) e.val : ℝ) : EReal))
    (hd0 : ∀ (r : Fin 128) (e : Fin 128), d0 (ix2 r e) = ((D 0 (ro + s * r.val) : ℝ) : EReal)) (hd1 : ∀ (r : Fin 128) (e : Fin 128), d1 (ix2 r e) = ((D 1 (ro + s * r.val) : ℝ) : EReal)) (hs : 0 < s)
    (S : ℕ → Prop) [DecidablePred S] (ho : ∀ (r : Fin 256) (e : Fin 128), o (ix2 r e) = ((A (co + s * r.val) e.val : ℝ) : EReal)) (hb : ∀ r < 128, ro + s * r < 4096) (hS : ∀ r < 128, S (ro + s * r))
    (hcov : ∀ c < 256, ∀ t < 4096, S t → Sees d t (co + s * c) → ∃ r < 128, t = ro + s * r) (c : Fin 256) (e : Fin 128) :
    dk valid q k v l0 l1 g d0 d1 o (ix2 c e)
      = ((A (co + s * c.val) e.val + ∑ t ∈ Finset.range 4096, (if S t then ds d Q K W G L D (e.val / 64) t (co + s * c.val) * Q t e.val else 0) : ℝ) : EReal) := by
  rw [dk_apply valid q k v l0 l1 g d0 d1 o val (fun r e => Q (ro + s * r) e) (fun c e => K (co + s * c) e) (fun c e => W (co + s * c) e) (fun r e => G (ro + s * r) e)
    (fun a r => L a (ro + s * r)) (fun a r => D a (ro + s * r)) (fun r e => A (co + s * r) e) hv hq hk hw h0 h1 hg hd0 hd1 ho c e]
  congr 2
  refine (sum_hd 128 (fun R => bDS 128 val _ _ _ _ _ _ R c.val) _ e.val e.isLt (by omega)).trans ?_
  refine sum_block 128 ro s (fun r => bDS 128 val _ _ _ _ _ _ (128 * (e.val / 64) + r) c.val * Q (ro + s * r) e.val) _ hs hb ?_ ?_
  · intro r hr
    rw [if_pos (hS r hr), bDS_eq 128 d val Q K W G L D (fun r => ro + s * r) (fun c => co + s * c) (e.val / 64) r c.val hr (hval _ hr _ c.isLt)]
  · intro t ht hne
    by_contra h
    by_cases hSt : S t
    · exact hne (by rw [if_pos hSt, ds_eq_zero Q K W G L D _ (fun hsee => h (hcov _ c.isLt t ht hSt hsee)), zero_mul])
    · exact hne (if_neg hSt)

/-- The values' gradient. -/
theorem dv_at (valid : IVec S128x256 1) (q : FVec Ideal S128x128 .f32) (k v : FVec Ideal S256x128 .f32) (l0 l1 g d0 d1 : FVec Ideal S128x128 .f32) (o : FVec Ideal S256x128 .f32) (d s ro co : ℕ) (Q K W G L D A : ℕ → ℕ → ℝ) (val : ℕ → ℕ → Prop) [∀ r c, Decidable (val r c)]
    (hv : ∀ (r : Fin 128) (c : Fin 256), valid (ix2 r c) = if val r.val c.val then 1#1 else 0#1)
    (hval : ∀ r < 128, ∀ c < 256, (val r c ↔ Sees d (ro + s * r) (co + s * c)))
    (hq : ∀ (r : Fin 128) (e : Fin 128), q (ix2 r e) = ((Q (ro + s * r.val) e.val : ℝ) : EReal)) (hk : ∀ (r : Fin 256) (e : Fin 128), k (ix2 r e) = ((K (co + s * r.val) e.val : ℝ) : EReal)) (hw : ∀ (r : Fin 256) (e : Fin 128), v (ix2 r e) = ((W (co + s * r.val) e.val : ℝ) : EReal))
    (h0 : ∀ (r : Fin 128) (e : Fin 128), l0 (ix2 r e) = ((L 0 (ro + s * r.val) : ℝ) : EReal)) (h1 : ∀ (r : Fin 128) (e : Fin 128), l1 (ix2 r e) = ((L 1 (ro + s * r.val) : ℝ) : EReal)) (hg : ∀ (r : Fin 128) (e : Fin 128), g (ix2 r e) = ((G (ro + s * r.val) e.val : ℝ) : EReal))
    (hd0 : ∀ (r : Fin 128) (e : Fin 128), d0 (ix2 r e) = ((D 0 (ro + s * r.val) : ℝ) : EReal)) (hd1 : ∀ (r : Fin 128) (e : Fin 128), d1 (ix2 r e) = ((D 1 (ro + s * r.val) : ℝ) : EReal)) (hs : 0 < s)
    (S : ℕ → Prop) [DecidablePred S] (ho : ∀ (r : Fin 256) (e : Fin 128), o (ix2 r e) = ((A (co + s * r.val) e.val : ℝ) : EReal)) (hb : ∀ r < 128, ro + s * r < 4096) (hS : ∀ r < 128, S (ro + s * r))
    (hcov : ∀ c < 256, ∀ t < 4096, S t → Sees d t (co + s * c) → ∃ r < 128, t = ro + s * r) (c : Fin 256) (e : Fin 128) :
    dv valid q k v l0 l1 g d0 d1 o (ix2 c e)
      = ((A (co + s * c.val) e.val + ∑ t ∈ Finset.range 4096, (if S t then wt d Q K L (e.val / 64) t (co + s * c.val) * G t e.val else 0) : ℝ) : EReal) := by
  rw [dv_apply valid q k v l0 l1 g d0 d1 o val (fun r e => Q (ro + s * r) e) (fun c e => K (co + s * c) e) (fun c e => W (co + s * c) e) (fun r e => G (ro + s * r) e)
    (fun a r => L a (ro + s * r)) (fun a r => D a (ro + s * r)) (fun r e => A (co + s * r) e) hv hq hk hw h0 h1 hg hd0 hd1 ho c e]
  congr 2
  refine (sum_hd 128 (fun R => bP 128 val _ _ _ R c.val) _ e.val e.isLt (by omega)).trans ?_
  refine sum_block 128 ro s (fun r => bP 128 val _ _ _ (128 * (e.val / 64) + r) c.val * G (ro + s * r) e.val) _ hs hb ?_ ?_
  · intro r hr
    rw [if_pos (hS r hr), bP_eq 128 d val Q K L (fun r => ro + s * r) (fun c => co + s * c) (e.val / 64) r c.val hr (hval _ hr _ c.isLt)]
  · intro t ht hne
    by_contra h
    by_cases hSt : S t
    · exact hne (by rw [if_pos hSt, wt_eq_zero Q K L _ (fun hsee => h (hcov _ c.isLt t ht hSt hsee)), zero_mul])
    · exact hne (if_neg hSt)

end Cert.Proof.Value.B128

end
-- ==== Proof.Value.Pieces3.lean ====
/- What one trip of the loop `k0_t3_loop` writes, in blocks of the attention gradient. -/
module

public import proofs.«01_k».proof.Proof.Ideal.Trip3
public import proofs.«01_k».proof.Proof.Value.Block128

@[expose] public section

set_option maxRecDepth 16384
set_option maxHeartbeats 4000000

noncomputable section

namespace Cert.Proof.Value

open Cert.KernelIdeal Cert.KernelIdeal.Gen Cert.Proof.KernelIdeal
open Idealize.ShloMosaic Idealize.ShloMosaic.TcCoe Idealize.ShloMosaic.Tactic

theorem trip3_dq (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t3_loop.trips) :
    (trip3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).1 = [⟨⟨⟨k0_off3 k 3#32, S128x128.size, ![4, 1], k0_off3_inb k 3⟩, spos_4_1⟩, B128.dq (trip3.sl.v52 k) (View.readAt (Elt Ideal) arg1.view ⟨k0_off3 k 3#32, S128x128.size, ![4, 1], k0_off3_inb k 3⟩ X1) (View.readAt (Elt Ideal) arg2.view ⟨k0_off4 k 3#32, S256x128.size, ![4, 1], k0_off4_inb k 3⟩ X2) (View.readAt (Elt Ideal) arg3.view ⟨k0_off4 k 3#32, S256x128.size, ![4, 1], k0_off4_inb k 3⟩ X3) (View.readAt (Elt Ideal) arg5.view ⟨k0_off3 k 3#32, S128x128.size, ![4, 1], k0_off3_inb k 3⟩ X5) (View.readAt (Elt Ideal) arg6.view ⟨k0_off3 k 3#32, S128x128.size, ![4, 1], k0_off3_inb k 3⟩ X6) (View.readAt (Elt Ideal) arg7.view ⟨k0_off3 k 3#32, S128x128.size, ![4, 1], k0_off3_inb k 3⟩ X7) (View.readAt (Elt Ideal) arg11.view ⟨k0_off3 k 3#32, S128x128.size, ![4, 1], k0_off3_inb k 3⟩ X11) (View.readAt (Elt Ideal) arg12.view ⟨k0_off3 k 3#32, S128x128.size, ![4, 1], k0_off3_inb k 3⟩ X12) (View.readAt (Elt Ideal) arg13.view ⟨k0_off3 k 3#32, S128x128.size, ![4, 1], k0_off3_inb k 3⟩ f13)⟩, ⟨⟨⟨k0_off3 k 2#32, S128x128.size, ![4, 1], k0_off3_inb k 2⟩, spos_4_1⟩, B128.dq (trip3.sl.v52 k) (View.readAt (Elt Ideal) arg1.view ⟨k0_off3 k 2#32, S128x128.size, ![4, 1], k0_off3_inb k 2⟩ X1) (View.readAt (Elt Ideal) arg2.view ⟨k0_off4 k 2#32, S256x128.size, ![4, 1], k0_off4_inb k 2⟩ X2) (View.readAt (Elt Ideal) arg3.view ⟨k0_off4 k 2#32, S256x128.size, ![4, 1], k0_off4_inb k 2⟩ X3) (View.readAt (Elt Ideal) arg5.view ⟨k0_off3 k 2#32, S128x128.size, ![4, 1], k0_off3_inb k 2⟩ X5) (View.readAt (Elt Ideal) arg6.view ⟨k0_off3 k 2#32, S128x128.size, ![4, 1], k0_off3_inb k 2⟩ X6) (View.readAt (Elt Ideal) arg7.view ⟨k0_off3 k 2#32, S128x128.size, ![4, 1], k0_off3_inb k 2⟩ X7) (View.readAt (Elt Ideal) arg11.view ⟨k0_off3 k 2#32, S128x128.size, ![4, 1], k0_off3_inb k 2⟩ X11) (View.readAt (Elt Ideal) arg12.view ⟨k0_off3 k 2#32, S128x128.size, ![4, 1], k0_off3_inb k 2⟩ X12) (View.readAt (Elt Ideal) arg13.view ⟨k0_off3 k 2#32, S128x128.size, ![4, 1], k0_off3_inb k 2⟩ f13)⟩, ⟨⟨⟨k0_off3 k 1#32, S128x128.size, ![4, 1], k0_off3_inb k 1⟩, spos_4_1⟩, B128.dq (trip3.sl.v52 k) (View.readAt (Elt Ideal) arg1.view ⟨k0_off3 k 1#32, S128x128.size, ![4, 1], k0_off3_inb k 1⟩ X1) (View.readAt (Elt Ideal) arg2.view ⟨k0_off4 k 1#32, S256x128.size, ![4, 1], k0_off4_inb k 1⟩ X2) (View.readAt (Elt Ideal) arg3.view ⟨k0_off4 k 1#32, S256x128.size, ![4, 1], k0_off4_inb k 1⟩ X3) (View.readAt (Elt Ideal) arg5.view ⟨k0_off3 k 1#32, S128x128.size, ![4, 1], k0_off3_inb k 1⟩ X5) (View.readAt (Elt Ideal) arg6.view ⟨k0_off3 k 1#32, S128x128.size, ![4, 1], k0_off3_inb k 1⟩ X6) (View.readAt (Elt Ideal) arg7.view ⟨k0_off3 k 1#32, S128x128.size, ![4, 1], k0_off3_inb k 1⟩ X7) (View.readAt (Elt Ideal) arg11.view ⟨k0_off3 k 1#32, S128x128.size, ![4, 1], k0_off3_inb k 1⟩ X11) (View.readAt (Elt Ideal) arg12.view ⟨k0_off3 k 1#32, S128x128.size, ![4, 1], k0_off3_inb k 1⟩ X12) (View.readAt (Elt Ideal) arg13.view ⟨k0_off3 k 1#32, S128x128.size, ![4, 1], k0_off3_inb k 1⟩ f13)⟩, ⟨⟨⟨k0_off3 k 0#32, S128x128.size, ![4, 1], k0_off3_inb k 0⟩, spos_4_1⟩, B128.dq (trip3.sl.v52 k) (View.readAt (Elt Ideal) arg1.view ⟨k0_off3 k 0#32, S128x128.size, ![4, 1], k0_off3_inb k 0⟩ X1) (View.readAt (Elt Ideal) arg2.view ⟨k0_off4 k 0#32, S256x128.size, ![4, 1], k0_off4_inb k 0⟩ X2) (View.readAt (Elt Ideal) arg3.view ⟨k0_off4 k 0#32, S256x128.size, ![4, 1], k0_off4_inb k 0⟩ X3) (View.readAt (Elt Ideal) arg5.view ⟨k0_off3 k 0#32, S128x128.size, ![4, 1], k0_off3_inb k 0⟩ X5) (View.readAt (Elt Ideal) arg6.view ⟨k0_off3 k 0#32, S128x128.size, ![4, 1], k0_off3_inb k 0⟩ X6) (View.readAt (Elt Ideal) arg7.view ⟨k0_off3 k 0#32, S128x128.size, ![4, 1], k0_off3_inb k 0⟩ X7) (View.readAt (Elt Ideal) arg11.view ⟨k0_off3 k 0#32, S128x128.size, ![4, 1], k0_off3_inb k 0⟩ X11) (View.readAt (Elt Ideal) arg12.view ⟨k0_off3 k 0#32, S128x128.size, ![4, 1], k0_off3_inb k 0⟩ X12) (View.readAt (Elt Ideal) arg13.view ⟨k0_off3 k 0#32, S128x128.size, ![4, 1], k0_off3_inb k 0⟩ f13)⟩] := by
  unfold trip3; rfl

theorem trip3_dk (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t3_loop.trips) :
    (trip3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).2.1 = [⟨⟨⟨k0_off4 k 3#32, S256x128.size, ![4, 1], k0_off4_inb k 3⟩, spos_4_1⟩, B128.dk (trip3.sl.v52 k) (View.readAt (Elt Ideal) arg1.view ⟨k0_off3 k 3#32, S128x128.size, ![4, 1], k0_off3_inb k 3⟩ X1) (View.readAt (Elt Ideal) arg2.view ⟨k0_off4 k 3#32, S256x128.size, ![4, 1], k0_off4_inb k 3⟩ X2) (View.readAt (Elt Ideal) arg3.view ⟨k0_off4 k 3#32, S256x128.size, ![4, 1], k0_off4_inb k 3⟩ X3) (View.readAt (Elt Ideal) arg5.view ⟨k0_off3 k 3#32, S128x128.size, ![4, 1], k0_off3_inb k 3⟩ X5) (View.readAt (Elt Ideal) arg6.view ⟨k0_off3 k 3#32, S128x128.size, ![4, 1], k0_off3_inb k 3⟩ X6) (View.readAt (Elt Ideal) arg7.view ⟨k0_off3 k 3#32, S128x128.size, ![4, 1], k0_off3_inb k 3⟩ X7) (View.readAt (Elt Ideal) arg11.view ⟨k0_off3 k 3#32, S128x128.size, ![4, 1], k0_off3_inb k 3⟩ X11) (View.readAt (Elt Ideal) arg12.view ⟨k0_off3 k 3#32, S128x128.size, ![4, 1], k0_off3_inb k 3⟩ X12) (View.readAt (Elt Ideal) arg14.view ⟨k0_off4 k 3#32, S256x128.size, ![4, 1], k0_off4_inb k 3⟩ f14)⟩, ⟨⟨⟨k0_off4 k 2#32, S256x128.size, ![4, 1], k0_off4_inb k 2⟩, spos_4_1⟩, B128.dk (trip3.sl.v52 k) (View.readAt (Elt Ideal) arg1.view ⟨k0_off3 k 2#32, S128x128.size, ![4, 1], k0_off3_inb k 2⟩ X1) (View.readAt (Elt Ideal) arg2.view ⟨k0_off4 k 2#32, S256x128.size, ![4, 1], k0_off4_inb k 2⟩ X2) (View.readAt (Elt Ideal) arg3.view ⟨k0_off4 k 2#32, S256x128.size, ![4, 1], k0_off4_inb k 2⟩ X3) (View.readAt (Elt Ideal) arg5.view ⟨k0_off3 k 2#32, S128x128.size, ![4, 1], k0_off3_inb k 2⟩ X5) (View.readAt (Elt Ideal) arg6.view ⟨k0_off3 k 2#32, S128x128.size, ![4, 1], k0_off3_inb k 2⟩ X6) (View.readAt (Elt Ideal) arg7.view ⟨k0_off3 k 2#32, S128x128.size, ![4, 1], k0_off3_inb k 2⟩ X7) (View.readAt (Elt Ideal) arg11.view ⟨k0_off3 k 2#32, S128x128.size, ![4, 1], k0_off3_inb k 2⟩ X11) (View.readAt (Elt Ideal) arg12.view ⟨k0_off3 k 2#32, S128x128.size, ![4, 1], k0_off3_inb k 2⟩ X12) (View.readAt (Elt Ideal) arg14.view ⟨k0_off4 k 2#32, S256x128.size, ![4, 1], k0_off4_inb k 2⟩ f14)⟩, ⟨⟨⟨k0_off4 k 1#32, S256x128.size, ![4, 1], k0_off4_inb k 1⟩, spos_4_1⟩, B128.dk (trip3.sl.v52 k) (View.readAt (Elt Ideal) arg1.view ⟨k0_off3 k 1#32, S128x128.size, ![4, 1], k0_off3_inb k 1⟩ X1) (View.readAt (Elt Ideal) arg2.view ⟨k0_off4 k 1#32, S256x128.size, ![4, 1], k0_off4_inb k 1⟩ X2) (View.readAt (Elt Ideal) arg3.view ⟨k0_off4 k 1#32, S256x128.size, ![4, 1], k0_off4_inb k 1⟩ X3) (View.readAt (Elt Ideal) arg5.view ⟨k0_off3 k 1#32, S128x128.size, ![4, 1], k0_off3_inb k 1⟩ X5) (View.readAt (Elt Ideal) arg6.view ⟨k0_off3 k 1#32, S128x128.size, ![4, 1], k0_off3_inb k 1⟩ X6) (View.readAt (Elt Ideal) arg7.view ⟨k0_off3 k 1#32, S128x128.size, ![4, 1], k0_off3_inb k 1⟩ X7) (View.readAt (Elt Ideal) arg11.view ⟨k0_off3 k 1#32, S128x128.size, ![4, 1], k0_off3_inb k 1⟩ X11) (View.readAt (Elt Ideal) arg12.view ⟨k0_off3 k 1#32, S128x128.size, ![4, 1], k0_off3_inb k 1⟩ X12) (View.readAt (Elt Ideal) arg14.view ⟨k0_off4 k 1#32, S256x128.size, ![4, 1], k0_off4_inb k 1⟩ f14)⟩, ⟨⟨⟨k0_off4 k 0#32, S256x128.size, ![4, 1], k0_off4_inb k 0⟩, spos_4_1⟩, B128.dk (trip3.sl.v52 k) (View.readAt (Elt Ideal) arg1.view ⟨k0_off3 k 0#32, S128x128.size, ![4, 1], k0_off3_inb k 0⟩ X1) (View.readAt (Elt Ideal) arg2.view ⟨k0_off4 k 0#32, S256x128.size, ![4, 1], k0_off4_inb k 0⟩ X2) (View.readAt (Elt Ideal) arg3.view ⟨k0_off4 k 0#32, S256x128.size, ![4, 1], k0_off4_inb k 0⟩ X3) (View.readAt (Elt Ideal) arg5.view ⟨k0_off3 k 0#32, S128x128.size, ![4, 1], k0_off3_inb k 0⟩ X5) (View.readAt (Elt Ideal) arg6.view ⟨k0_off3 k 0#32, S128x128.size, ![4, 1], k0_off3_inb k 0⟩ X6) (View.readAt (Elt Ideal) arg7.view ⟨k0_off3 k 0#32, S128x128.size, ![4, 1], k0_off3_inb k 0⟩ X7) (View.readAt (Elt Ideal) arg11.view ⟨k0_off3 k 0#32, S128x128.size, ![4, 1], k0_off3_inb k 0⟩ X11) (View.readAt (Elt Ideal) arg12.view ⟨k0_off3 k 0#32, S128x128.size, ![4, 1], k0_off3_inb k 0⟩ X12) (View.readAt (Elt Ideal) arg14.view ⟨k0_off4 k 0#32, S256x128.size, ![4, 1], k0_off4_inb k 0⟩ f14)⟩] := by
  unfold trip3; rfl

theorem trip3_dv (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t3_loop.trips) :
    (trip3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).2.2.1 = [⟨⟨⟨k0_off4 k 3#32, S256x128.size, ![4, 1], k0_off4_inb k 3⟩, spos_4_1⟩, B128.dv (trip3.sl.v52 k) (View.readAt (Elt Ideal) arg1.view ⟨k0_off3 k 3#32, S128x128.size, ![4, 1], k0_off3_inb k 3⟩ X1) (View.readAt (Elt Ideal) arg2.view ⟨k0_off4 k 3#32, S256x128.size, ![4, 1], k0_off4_inb k 3⟩ X2) (View.readAt (Elt Ideal) arg3.view ⟨k0_off4 k 3#32, S256x128.size, ![4, 1], k0_off4_inb k 3⟩ X3) (View.readAt (Elt Ideal) arg5.view ⟨k0_off3 k 3#32, S128x128.size, ![4, 1], k0_off3_inb k 3⟩ X5) (View.readAt (Elt Ideal) arg6.view ⟨k0_off3 k 3#32, S128x128.size, ![4, 1], k0_off3_inb k 3⟩ X6) (View.readAt (Elt Ideal) arg7.view ⟨k0_off3 k 3#32, S128x128.size, ![4, 1], k0_off3_inb k 3⟩ X7) (View.readAt (Elt Ideal) arg11.view ⟨k0_off3 k 3#32, S128x128.size, ![4, 1], k0_off3_inb k 3⟩ X11) (View.readAt (Elt Ideal) arg12.view ⟨k0_off3 k 3#32, S128x128.size, ![4, 1], k0_off3_inb k 3⟩ X12) (View.readAt (Elt Ideal) arg15.view ⟨k0_off4 k 3#32, S256x128.size, ![4, 1], k0_off4_inb k 3⟩ f15)⟩, ⟨⟨⟨k0_off4 k 2#32, S256x128.size, ![4, 1], k0_off4_inb k 2⟩, spos_4_1⟩, B128.dv (trip3.sl.v52 k) (View.readAt (Elt Ideal) arg1.view ⟨k0_off3 k 2#32, S128x128.size, ![4, 1], k0_off3_inb k 2⟩ X1) (View.readAt (Elt Ideal) arg2.view ⟨k0_off4 k 2#32, S256x128.size, ![4, 1], k0_off4_inb k 2⟩ X2) (View.readAt (Elt Ideal) arg3.view ⟨k0_off4 k 2#32, S256x128.size, ![4, 1], k0_off4_inb k 2⟩ X3) (View.readAt (Elt Ideal) arg5.view ⟨k0_off3 k 2#32, S128x128.size, ![4, 1], k0_off3_inb k 2⟩ X5) (View.readAt (Elt Ideal) arg6.view ⟨k0_off3 k 2#32, S128x128.size, ![4, 1], k0_off3_inb k 2⟩ X6) (View.readAt (Elt Ideal) arg7.view ⟨k0_off3 k 2#32, S128x128.size, ![4, 1], k0_off3_inb k 2⟩ X7) (View.readAt (Elt Ideal) arg11.view ⟨k0_off3 k 2#32, S128x128.size, ![4, 1], k0_off3_inb k 2⟩ X11) (View.readAt (Elt Ideal) arg12.view ⟨k0_off3 k 2#32, S128x128.size, ![4, 1], k0_off3_inb k 2⟩ X12) (View.readAt (Elt Ideal) arg15.view ⟨k0_off4 k 2#32, S256x128.size, ![4, 1], k0_off4_inb k 2⟩ f15)⟩, ⟨⟨⟨k0_off4 k 1#32, S256x128.size, ![4, 1], k0_off4_inb k 1⟩, spos_4_1⟩, B128.dv (trip3.sl.v52 k) (View.readAt (Elt Ideal) arg1.view ⟨k0_off3 k 1#32, S128x128.size, ![4, 1], k0_off3_inb k 1⟩ X1) (View.readAt (Elt Ideal) arg2.view ⟨k0_off4 k 1#32, S256x128.size, ![4, 1], k0_off4_inb k 1⟩ X2) (View.readAt (Elt Ideal) arg3.view ⟨k0_off4 k 1#32, S256x128.size, ![4, 1], k0_off4_inb k 1⟩ X3) (View.readAt (Elt Ideal) arg5.view ⟨k0_off3 k 1#32, S128x128.size, ![4, 1], k0_off3_inb k 1⟩ X5) (View.readAt (Elt Ideal) arg6.view ⟨k0_off3 k 1#32, S128x128.size, ![4, 1], k0_off3_inb k 1⟩ X6) (View.readAt (Elt Ideal) arg7.view ⟨k0_off3 k 1#32, S128x128.size, ![4, 1], k0_off3_inb k 1⟩ X7) (View.readAt (Elt Ideal) arg11.view ⟨k0_off3 k 1#32, S128x128.size, ![4, 1], k0_off3_inb k 1⟩ X11) (View.readAt (Elt Ideal) arg12.view ⟨k0_off3 k 1#32, S128x128.size, ![4, 1], k0_off3_inb k 1⟩ X12) (View.readAt (Elt Ideal) arg15.view ⟨k0_off4 k 1#32, S256x128.size, ![4, 1], k0_off4_inb k 1⟩ f15)⟩, ⟨⟨⟨k0_off4 k 0#32, S256x128.size, ![4, 1], k0_off4_inb k 0⟩, spos_4_1⟩, B128.dv (trip3.sl.v52 k) (View.readAt (Elt Ideal) arg1.view ⟨k0_off3 k 0#32, S128x128.size, ![4, 1], k0_off3_inb k 0⟩ X1) (View.readAt (Elt Ideal) arg2.view ⟨k0_off4 k 0#32, S256x128.size, ![4, 1], k0_off4_inb k 0⟩ X2) (View.readAt (Elt Ideal) arg3.view ⟨k0_off4 k 0#32, S256x128.size, ![4, 1], k0_off4_inb k 0⟩ X3) (View.readAt (Elt Ideal) arg5.view ⟨k0_off3 k 0#32, S128x128.size, ![4, 1], k0_off3_inb k 0⟩ X5) (View.readAt (Elt Ideal) arg6.view ⟨k0_off3 k 0#32, S128x128.size, ![4, 1], k0_off3_inb k 0⟩ X6) (View.readAt (Elt Ideal) arg7.view ⟨k0_off3 k 0#32, S128x128.size, ![4, 1], k0_off3_inb k 0⟩ X7) (View.readAt (Elt Ideal) arg11.view ⟨k0_off3 k 0#32, S128x128.size, ![4, 1], k0_off3_inb k 0⟩ X11) (View.readAt (Elt Ideal) arg12.view ⟨k0_off3 k 0#32, S128x128.size, ![4, 1], k0_off3_inb k 0⟩ X12) (View.readAt (Elt Ideal) arg15.view ⟨k0_off4 k 0#32, S256x128.size, ![4, 1], k0_off4_inb k 0⟩ f15)⟩] := by
  unfold trip3; rfl

end Cert.Proof.Value

end
-- ==== Proof.Value.Step3.lean ====
/- What one trip of the loop `k0_t3_loop` adds to the gradients, row by row. -/
module

public import proofs.«01_k».proof.Proof.Value.Pieces3
public import proofs.«01_k».proof.Proof.Value.Masks
public import proofs.«01_k».proof.Proof.Value.Load
public import proofs.«01_k».proof.Proof.Ideal.Offsets

@[expose] public section

set_option maxRecDepth 16384
set_option maxHeartbeats 4000000

noncomputable section

namespace Cert.Proof.Value

open Cert.KernelIdeal Cert.KernelIdeal.Gen Cert.Proof.KernelIdeal
open Idealize.ShloMosaic Idealize.ShloMosaic.TcCoe Idealize.ShloMosaic.Tactic

theorem step3_dq (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t3_loop.trips)
    (q kk v g A : ℕ → ℕ → ℝ) (l dd : ℕ → ℕ → ℝ)
    (h1 : RealAt arg1.view X1 q) (h2 : RealAt arg2.view X2 kk) (h3 : RealAt arg3.view X3 v) (h5 : RealAt arg5.view X5 (fun t _ => l 0 t))
    (h6 : RealAt arg6.view X6 (fun t _ => l 1 t)) (h7 : RealAt arg7.view X7 g) (h11 : RealAt arg11.view X11 (fun t _ => dd 0 t))
    (h12 : RealAt arg12.view X12 (fun t _ => dd 1 t))
    (hA : RealAt arg13.view f13 A) : RealAt arg13.view (arg13.view.writes (Elt Ideal) f13 (trip3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).1)
      (fun t e => A t e + if t / 512 = k.val then ∑ j ∈ Finset.range 4096, ds 4 q kk v g l dd (e / 64) t j * kk j e else 0) := by
  have hk : k.val < 8 := Nat.lt_of_lt_of_le k.isLt k0_t3_abs.2.1
  intro ti ei
  rw [trip3_dq]
  refine read_pieces (Val := Elt Ideal) arg13.view f13 ((fun (y : S4096x128.Idx) => (((fun t e => A t e + if t / 512 = k.val then ∑ j ∈ Finset.range 4096, ds 4 q kk v g l dd (e / 64) t j * kk j e else 0) (y 0).val (y 1).val : ℝ) : EReal)) : S4096x128.Idx → EReal) _ ?_ (ix2 ti ei) ?_
  · intro p hp x
    simp only [List.mem_cons, List.not_mem_nil, or_false] at hp
    rcases hp with rfl | rfl | rfl | rfl
    · exact piece_at 128 4 (512 * k.val + 3) _ (off3_eq k ⟨3, by decide⟩) _ _ _ (fun t e => A t e + if t / 512 = k.val then ∑ j ∈ Finset.range 4096, ds 4 q kk v g l dd (e / 64) t j * kk j e else 0) (fun r e => (B128.dq_at _ _ _ _ _ _ _ _ _ _ 4 4 (512 * k.val + 3) (512 * (k.val - 1) + 3) q kk
        v g l dd A (fun r c => c ≤ r + (if k.val = 0 then 0 else 128) ∧ r + (if k.val = 0 then 0 else 128) ≤ c + 128)
        (mask3_apply k) (by intro r hr c hc; by_cases h0 : k.val = 0 <;> simp only [h0, if_true, if_false] <;> simp only [Sees] <;> omega) (load_at _ h1 128 4 (512 * k.val + 3) _ (off3_eq k ⟨3, by decide⟩) _) (load_at _ h2 256 4 (512 * (k.val - 1) + 3) _ (off4_eq k ⟨3, by decide⟩) _) (load_at _ h3 256 4 (512 * (k.val - 1) + 3) _ (off4_eq k ⟨3, by decide⟩) _) (load_at _ h5 128 4 (512 * k.val + 3) _ (off3_eq k ⟨3, by decide⟩) _)
        (load_at _ h6 128 4 (512 * k.val + 3) _ (off3_eq k ⟨3, by decide⟩) _) (load_at _ h7 128 4 (512 * k.val + 3) _ (off3_eq k ⟨3, by decide⟩) _) (load_at _ h11 128 4 (512 * k.val + 3) _ (off3_eq k ⟨3, by decide⟩) _) (load_at _ h12 128 4 (512 * k.val + 3) _ (off3_eq k ⟨3, by decide⟩) _) (by omega) (load_at _ hA 128 4 (512 * k.val + 3) _ (off3_eq k ⟨3, by decide⟩) _)
        (by intro c hc; omega) (by intro r hr j hj hs; simp only [Sees] at hs; exact ⟨(j - (512 * (k.val - 1) + 3)) / 4, by omega, by omega⟩) r e).trans (by rw [if_pos (by omega)])) x
    · exact piece_at 128 4 (512 * k.val + 2) _ (off3_eq k ⟨2, by decide⟩) _ _ _ (fun t e => A t e + if t / 512 = k.val then ∑ j ∈ Finset.range 4096, ds 4 q kk v g l dd (e / 64) t j * kk j e else 0) (fun r e => (B128.dq_at _ _ _ _ _ _ _ _ _ _ 4 4 (512 * k.val + 2) (512 * (k.val - 1) + 2) q kk
        v g l dd A (fun r c => c ≤ r + (if k.val = 0 then 0 else 128) ∧ r + (if k.val = 0 then 0 else 128) ≤ c + 128)
        (mask3_apply k) (by intro r hr c hc; by_cases h0 : k.val = 0 <;> simp only [h0, if_true, if_false] <;> simp only [Sees] <;> omega) (load_at _ h1 128 4 (512 * k.val + 2) _ (off3_eq k ⟨2, by decide⟩) _) (load_at _ h2 256 4 (512 * (k.val - 1) + 2) _ (off4_eq k ⟨2, by decide⟩) _) (load_at _ h3 256 4 (512 * (k.val - 1) + 2) _ (off4_eq k ⟨2, by decide⟩) _) (load_at _ h5 128 4 (512 * k.val + 2) _ (off3_eq k ⟨2, by decide⟩) _)
        (load_at _ h6 128 4 (512 * k.val + 2) _ (off3_eq k ⟨2, by decide⟩) _) (load_at _ h7 128 4 (512 * k.val + 2) _ (off3_eq k ⟨2, by decide⟩) _) (load_at _ h11 128 4 (512 * k.val + 2) _ (off3_eq k ⟨2, by decide⟩) _) (load_at _ h12 128 4 (512 * k.val + 2) _ (off3_eq k ⟨2, by decide⟩) _) (by omega) (load_at _ hA 128 4 (512 * k.val + 2) _ (off3_eq k ⟨2, by decide⟩) _)
        (by intro c hc; omega) (by intro r hr j hj hs; simp only [Sees] at hs; exact ⟨(j - (512 * (k.val - 1) + 2)) / 4, by omega, by omega⟩) r e).trans (by rw [if_pos (by omega)])) x
    · exact piece_at 128 4 (512 * k.val + 1) _ (off3_eq k ⟨1, by decide⟩) _ _ _ (fun t e => A t e + if t / 512 = k.val then ∑ j ∈ Finset.range 4096, ds 4 q kk v g l dd (e / 64) t j * kk j e else 0) (fun r e => (B128.dq_at _ _ _ _ _ _ _ _ _ _ 4 4 (512 * k.val + 1) (512 * (k.val - 1) + 1) q kk
        v g l dd A (fun r c => c ≤ r + (if k.val = 0 then 0 else 128) ∧ r + (if k.val = 0 then 0 else 128) ≤ c + 128)
        (mask3_apply k) (by intro r hr c hc; by_cases h0 : k.val = 0 <;> simp only [h0, if_true, if_false] <;> simp only [Sees] <;> omega) (load_at _ h1 128 4 (512 * k.val + 1) _ (off3_eq k ⟨1, by decide⟩) _) (load_at _ h2 256 4 (512 * (k.val - 1) + 1) _ (off4_eq k ⟨1, by decide⟩) _) (load_at _ h3 256 4 (512 * (k.val - 1) + 1) _ (off4_eq k ⟨1, by decide⟩) _) (load_at _ h5 128 4 (512 * k.val + 1) _ (off3_eq k ⟨1, by decide⟩) _)
        (load_at _ h6 128 4 (512 * k.val + 1) _ (off3_eq k ⟨1, by decide⟩) _) (load_at _ h7 128 4 (512 * k.val + 1) _ (off3_eq k ⟨1, by decide⟩) _) (load_at _ h11 128 4 (512 * k.val + 1) _ (off3_eq k ⟨1, by decide⟩) _) (load_at _ h12 128 4 (512 * k.val + 1) _ (off3_eq k ⟨1, by decide⟩) _) (by omega) (load_at _ hA 128 4 (512 * k.val + 1) _ (off3_eq k ⟨1, by decide⟩) _)
        (by intro c hc; omega) (by intro r hr j hj hs; simp only [Sees] at hs; exact ⟨(j - (512 * (k.val - 1) + 1)) / 4, by omega, by omega⟩) r e).trans (by rw [if_pos (by omega)])) x
    · exact piece_at 128 4 (512 * k.val + 0) _ (off3_eq k ⟨0, by decide⟩) _ _ _ (fun t e => A t e + if t / 512 = k.val then ∑ j ∈ Finset.range 4096, ds 4 q kk v g l dd (e / 64) t j * kk j e else 0) (fun r e => (B128.dq_at _ _ _ _ _ _ _ _ _ _ 4 4 (512 * k.val + 0) (512 * (k.val - 1) + 0) q kk
        v g l dd A (fun r c => c ≤ r + (if k.val = 0 then 0 else 128) ∧ r + (if k.val = 0 then 0 else 128) ≤ c + 128)
        (mask3_apply k) (by intro r hr c hc; by_cases h0 : k.val = 0 <;> simp only [h0, if_true, if_false] <;> simp only [Sees] <;> omega) (load_at _ h1 128 4 (512 * k.val + 0) _ (off3_eq k ⟨0, by decide⟩) _) (load_at _ h2 256 4 (512 * (k.val - 1) + 0) _ (off4_eq k ⟨0, by decide⟩) _) (load_at _ h3 256 4 (512 * (k.val - 1) + 0) _ (off4_eq k ⟨0, by decide⟩) _) (load_at _ h5 128 4 (512 * k.val + 0) _ (off3_eq k ⟨0, by decide⟩) _)
        (load_at _ h6 128 4 (512 * k.val + 0) _ (off3_eq k ⟨0, by decide⟩) _) (load_at _ h7 128 4 (512 * k.val + 0) _ (off3_eq k ⟨0, by decide⟩) _) (load_at _ h11 128 4 (512 * k.val + 0) _ (off3_eq k ⟨0, by decide⟩) _) (load_at _ h12 128 4 (512 * k.val + 0) _ (off3_eq k ⟨0, by decide⟩) _) (by omega) (load_at _ hA 128 4 (512 * k.val + 0) _ (off3_eq k ⟨0, by decide⟩) _)
        (by intro c hc; omega) (by intro r hr j hj hs; simp only [Sees] at hs; exact ⟨(j - (512 * (k.val - 1) + 0)) / 4, by omega, by omega⟩) r e).trans (by rw [if_pos (by omega)])) x
  · intro hout
    have hne : ∀ u < 4, ∀ r < 128, ((ix2 ti ei) 0).val ≠ (512 * k.val + u) + 4 * r := by
      intro u hu r hr h
      have hu' : u = 0 ∨ u = 1 ∨ u = 2 ∨ u = 3 := by omega
      rcases hu' with rfl | rfl | rfl | rfl
      · obtain ⟨j, hj⟩ := mem_at 128 4 (512 * k.val + 0) _ (off3_eq k ⟨0, by decide⟩) _ _ (ix2 ti ei) ⟨r, hr, h⟩
        exact hout _ (List.mem_cons_of_mem _ (List.mem_cons_of_mem _ (List.mem_cons_of_mem _ List.mem_cons_self))) j hj
      · obtain ⟨j, hj⟩ := mem_at 128 4 (512 * k.val + 1) _ (off3_eq k ⟨1, by decide⟩) _ _ (ix2 ti ei) ⟨r, hr, h⟩
        exact hout _ (List.mem_cons_of_mem _ (List.mem_cons_of_mem _ List.mem_cons_self)) j hj
      · obtain ⟨j, hj⟩ := mem_at 128 4 (512 * k.val + 2) _ (off3_eq k ⟨2, by decide⟩) _ _ (ix2 ti ei) ⟨r, hr, h⟩
        exact hout _ (List.mem_cons_of_mem _ List.mem_cons_self) j hj
      · obtain ⟨j, hj⟩ := mem_at 128 4 (512 * k.val + 3) _ (off3_eq k ⟨3, by decide⟩) _ _ (ix2 ti ei) ⟨r, hr, h⟩
        exact hout _ List.mem_cons_self j hj
    have hS : ¬ (ti.val / 512 = k.val) := fun hS => hne (ti.val % 4) (by omega) (ti.val % 512 / 4) (by omega) (by simp only [ix2_apply_0]; omega)
    exact read_add_zero (hA ti ei) (if_neg hS)

theorem step3_dk (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t3_loop.trips)
    (q kk v g A : ℕ → ℕ → ℝ) (l dd : ℕ → ℕ → ℝ)
    (h1 : RealAt arg1.view X1 q) (h2 : RealAt arg2.view X2 kk) (h3 : RealAt arg3.view X3 v) (h5 : RealAt arg5.view X5 (fun t _ => l 0 t))
    (h6 : RealAt arg6.view X6 (fun t _ => l 1 t)) (h7 : RealAt arg7.view X7 g) (h11 : RealAt arg11.view X11 (fun t _ => dd 0 t))
    (h12 : RealAt arg12.view X12 (fun t _ => dd 1 t))
    (hA : RealAt arg14.view f14 A) : RealAt arg14.view (arg14.view.writes (Elt Ideal) f14 (trip3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).2.1)
      (fun j e => A j e + ∑ t ∈ Finset.range 4096, (if t / 512 = k.val then ds 4 q kk v g l dd (e / 64) t j * q t e else 0)) := by
  have hk : k.val < 8 := Nat.lt_of_lt_of_le k.isLt k0_t3_abs.2.1
  intro ti ei
  rw [trip3_dk]
  refine read_pieces (Val := Elt Ideal) arg14.view f14 ((fun (y : S4096x128.Idx) => (((fun j e => A j e + ∑ t ∈ Finset.range 4096, (if t / 512 = k.val then ds 4 q kk v g l dd (e / 64) t j * q t e else 0)) (y 0).val (y 1).val : ℝ) : EReal)) : S4096x128.Idx → EReal) _ ?_ (ix2 ti ei) ?_
  · intro p hp x
    simp only [List.mem_cons, List.not_mem_nil, or_false] at hp
    rcases hp with rfl | rfl | rfl | rfl
    · exact piece_at 256 4 (512 * (k.val - 1) + 3) _ (off4_eq k ⟨3, by decide⟩) _ _ _ (fun j e => A j e + ∑ t ∈ Finset.range 4096, (if t / 512 = k.val then ds 4 q kk v g l dd (e / 64) t j * q t e else 0)) (fun r e => B128.dk_at _ _ _ _ _ _ _ _ _ _ 4 4 (512 * k.val + 3) (512 * (k.val - 1) + 3) q kk
        v g l dd A (fun r c => c ≤ r + (if k.val = 0 then 0 else 128) ∧ r + (if k.val = 0 then 0 else 128) ≤ c + 128)
        (mask3_apply k) (by intro r hr c hc; by_cases h0 : k.val = 0 <;> simp only [h0, if_true, if_false] <;> simp only [Sees] <;> omega) (load_at _ h1 128 4 (512 * k.val + 3) _ (off3_eq k ⟨3, by decide⟩) _) (load_at _ h2 256 4 (512 * (k.val - 1) + 3) _ (off4_eq k ⟨3, by decide⟩) _) (load_at _ h3 256 4 (512 * (k.val - 1) + 3) _ (off4_eq k ⟨3, by decide⟩) _) (load_at _ h5 128 4 (512 * k.val + 3) _ (off3_eq k ⟨3, by decide⟩) _)
        (load_at _ h6 128 4 (512 * k.val + 3) _ (off3_eq k ⟨3, by decide⟩) _) (load_at _ h7 128 4 (512 * k.val + 3) _ (off3_eq k ⟨3, by decide⟩) _) (load_at _ h11 128 4 (512 * k.val + 3) _ (off3_eq k ⟨3, by decide⟩) _) (load_at _ h12 128 4 (512 * k.val + 3) _ (off3_eq k ⟨3, by decide⟩) _) (by omega) (fun t => t / 512 = k.val)
        (load_at _ hA 256 4 (512 * (k.val - 1) + 3) _ (off4_eq k ⟨3, by decide⟩) _) (by intro r hr; omega) (by intro r hr; omega) (by intro c hc t ht hS hs; simp only [Sees] at hs; exact ⟨(t - (512 * k.val + 3)) / 4, by omega, by omega⟩) r e) x
    · exact piece_at 256 4 (512 * (k.val - 1) + 2) _ (off4_eq k ⟨2, by decide⟩) _ _ _ (fun j e => A j e + ∑ t ∈ Finset.range 4096, (if t / 512 = k.val then ds 4 q kk v g l dd (e / 64) t j * q t e else 0)) (fun r e => B128.dk_at _ _ _ _ _ _ _ _ _ _ 4 4 (512 * k.val + 2) (512 * (k.val - 1) + 2) q kk
        v g l dd A (fun r c => c ≤ r + (if k.val = 0 then 0 else 128) ∧ r + (if k.val = 0 then 0 else 128) ≤ c + 128)
        (mask3_apply k) (by intro r hr c hc; by_cases h0 : k.val = 0 <;> simp only [h0, if_true, if_false] <;> simp only [Sees] <;> omega) (load_at _ h1 128 4 (512 * k.val + 2) _ (off3_eq k ⟨2, by decide⟩) _) (load_at _ h2 256 4 (512 * (k.val - 1) + 2) _ (off4_eq k ⟨2, by decide⟩) _) (load_at _ h3 256 4 (512 * (k.val - 1) + 2) _ (off4_eq k ⟨2, by decide⟩) _) (load_at _ h5 128 4 (512 * k.val + 2) _ (off3_eq k ⟨2, by decide⟩) _)
        (load_at _ h6 128 4 (512 * k.val + 2) _ (off3_eq k ⟨2, by decide⟩) _) (load_at _ h7 128 4 (512 * k.val + 2) _ (off3_eq k ⟨2, by decide⟩) _) (load_at _ h11 128 4 (512 * k.val + 2) _ (off3_eq k ⟨2, by decide⟩) _) (load_at _ h12 128 4 (512 * k.val + 2) _ (off3_eq k ⟨2, by decide⟩) _) (by omega) (fun t => t / 512 = k.val)
        (load_at _ hA 256 4 (512 * (k.val - 1) + 2) _ (off4_eq k ⟨2, by decide⟩) _) (by intro r hr; omega) (by intro r hr; omega) (by intro c hc t ht hS hs; simp only [Sees] at hs; exact ⟨(t - (512 * k.val + 2)) / 4, by omega, by omega⟩) r e) x
    · exact piece_at 256 4 (512 * (k.val - 1) + 1) _ (off4_eq k ⟨1, by decide⟩) _ _ _ (fun j e => A j e + ∑ t ∈ Finset.range 4096, (if t / 512 = k.val then ds 4 q kk v g l dd (e / 64) t j * q t e else 0)) (fun r e => B128.dk_at _ _ _ _ _ _ _ _ _ _ 4 4 (512 * k.val + 1) (512 * (k.val - 1) + 1) q kk
        v g l dd A (fun r c => c ≤ r + (if k.val = 0 then 0 else 128) ∧ r + (if k.val = 0 then 0 else 128) ≤ c + 128)
        (mask3_apply k) (by intro r hr c hc; by_cases h0 : k.val = 0 <;> simp only [h0, if_true, if_false] <;> simp only [Sees] <;> omega) (load_at _ h1 128 4 (512 * k.val + 1) _ (off3_eq k ⟨1, by decide⟩) _) (load_at _ h2 256 4 (512 * (k.val - 1) + 1) _ (off4_eq k ⟨1, by decide⟩) _) (load_at _ h3 256 4 (512 * (k.val - 1) + 1) _ (off4_eq k ⟨1, by decide⟩) _) (load_at _ h5 128 4 (512 * k.val + 1) _ (off3_eq k ⟨1, by decide⟩) _)
        (load_at _ h6 128 4 (512 * k.val + 1) _ (off3_eq k ⟨1, by decide⟩) _) (load_at _ h7 128 4 (512 * k.val + 1) _ (off3_eq k ⟨1, by decide⟩) _) (load_at _ h11 128 4 (512 * k.val + 1) _ (off3_eq k ⟨1, by decide⟩) _) (load_at _ h12 128 4 (512 * k.val + 1) _ (off3_eq k ⟨1, by decide⟩) _) (by omega) (fun t => t / 512 = k.val)
        (load_at _ hA 256 4 (512 * (k.val - 1) + 1) _ (off4_eq k ⟨1, by decide⟩) _) (by intro r hr; omega) (by intro r hr; omega) (by intro c hc t ht hS hs; simp only [Sees] at hs; exact ⟨(t - (512 * k.val + 1)) / 4, by omega, by omega⟩) r e) x
    · exact piece_at 256 4 (512 * (k.val - 1) + 0) _ (off4_eq k ⟨0, by decide⟩) _ _ _ (fun j e => A j e + ∑ t ∈ Finset.range 4096, (if t / 512 = k.val then ds 4 q kk v g l dd (e / 64) t j * q t e else 0)) (fun r e => B128.dk_at _ _ _ _ _ _ _ _ _ _ 4 4 (512 * k.val + 0) (512 * (k.val - 1) + 0) q kk
        v g l dd A (fun r c => c ≤ r + (if k.val = 0 then 0 else 128) ∧ r + (if k.val = 0 then 0 else 128) ≤ c + 128)
        (mask3_apply k) (by intro r hr c hc; by_cases h0 : k.val = 0 <;> simp only [h0, if_true, if_false] <;> simp only [Sees] <;> omega) (load_at _ h1 128 4 (512 * k.val + 0) _ (off3_eq k ⟨0, by decide⟩) _) (load_at _ h2 256 4 (512 * (k.val - 1) + 0) _ (off4_eq k ⟨0, by decide⟩) _) (load_at _ h3 256 4 (512 * (k.val - 1) + 0) _ (off4_eq k ⟨0, by decide⟩) _) (load_at _ h5 128 4 (512 * k.val + 0) _ (off3_eq k ⟨0, by decide⟩) _)
        (load_at _ h6 128 4 (512 * k.val + 0) _ (off3_eq k ⟨0, by decide⟩) _) (load_at _ h7 128 4 (512 * k.val + 0) _ (off3_eq k ⟨0, by decide⟩) _) (load_at _ h11 128 4 (512 * k.val + 0) _ (off3_eq k ⟨0, by decide⟩) _) (load_at _ h12 128 4 (512 * k.val + 0) _ (off3_eq k ⟨0, by decide⟩) _) (by omega) (fun t => t / 512 = k.val)
        (load_at _ hA 256 4 (512 * (k.val - 1) + 0) _ (off4_eq k ⟨0, by decide⟩) _) (by intro r hr; omega) (by intro r hr; omega) (by intro c hc t ht hS hs; simp only [Sees] at hs; exact ⟨(t - (512 * k.val + 0)) / 4, by omega, by omega⟩) r e) x
  · intro hout
    have hne : ∀ u < 4, ∀ r < 256, ((ix2 ti ei) 0).val ≠ (512 * (k.val - 1) + u) + 4 * r := by
      intro u hu r hr h
      have hu' : u = 0 ∨ u = 1 ∨ u = 2 ∨ u = 3 := by omega
      rcases hu' with rfl | rfl | rfl | rfl
      · obtain ⟨j, hj⟩ := mem_at 256 4 (512 * (k.val - 1) + 0) _ (off4_eq k ⟨0, by decide⟩) _ _ (ix2 ti ei) ⟨r, hr, h⟩
        exact hout _ (List.mem_cons_of_mem _ (List.mem_cons_of_mem _ (List.mem_cons_of_mem _ List.mem_cons_self))) j hj
      · obtain ⟨j, hj⟩ := mem_at 256 4 (512 * (k.val - 1) + 1) _ (off4_eq k ⟨1, by decide⟩) _ _ (ix2 ti ei) ⟨r, hr, h⟩
        exact hout _ (List.mem_cons_of_mem _ (List.mem_cons_of_mem _ List.mem_cons_self)) j hj
      · obtain ⟨j, hj⟩ := mem_at 256 4 (512 * (k.val - 1) + 2) _ (off4_eq k ⟨2, by decide⟩) _ _ (ix2 ti ei) ⟨r, hr, h⟩
        exact hout _ (List.mem_cons_of_mem _ List.mem_cons_self) j hj
      · obtain ⟨j, hj⟩ := mem_at 256 4 (512 * (k.val - 1) + 3) _ (off4_eq k ⟨3, by decide⟩) _ _ (ix2 ti ei) ⟨r, hr, h⟩
        exact hout _ List.mem_cons_self j hj
    have hz : ∀ t < 4096, t / 512 = k.val → ¬ Sees 4 t ti.val := by
      intro t ht hS hs
      simp only [Sees] at hs
      exact hne (t % 4) (by omega) ((ti.val - (512 * (k.val - 1) + t % 4)) / 4) (by omega) (by simp only [ix2_apply_0]; omega)
    refine read_add_zero (hA ti ei) (Finset.sum_eq_zero fun t ht => ?_)
    by_cases hS : t / 512 = k.val
    · refine (if_pos hS).trans ?_
      show ds 4 q kk v g l dd (ei.val / 64) t ti.val * q t ei.val = 0
      rw [ds_eq_zero q kk v g l dd _ (hz t (Finset.mem_range.mp ht) hS), zero_mul]
    · exact if_neg hS

theorem step3_dv (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t3_loop.trips)
    (q kk v g A : ℕ → ℕ → ℝ) (l dd : ℕ → ℕ → ℝ)
    (h1 : RealAt arg1.view X1 q) (h2 : RealAt arg2.view X2 kk) (h3 : RealAt arg3.view X3 v) (h5 : RealAt arg5.view X5 (fun t _ => l 0 t))
    (h6 : RealAt arg6.view X6 (fun t _ => l 1 t)) (h7 : RealAt arg7.view X7 g) (h11 : RealAt arg11.view X11 (fun t _ => dd 0 t))
    (h12 : RealAt arg12.view X12 (fun t _ => dd 1 t))
    (hA : RealAt arg15.view f15 A) : RealAt arg15.view (arg15.view.writes (Elt Ideal) f15 (trip3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).2.2.1)
      (fun j e => A j e + ∑ t ∈ Finset.range 4096, (if t / 512 = k.val then wt 4 q kk l (e / 64) t j * g t e else 0)) := by
  have hk : k.val < 8 := Nat.lt_of_lt_of_le k.isLt k0_t3_abs.2.1
  intro ti ei
  rw [trip3_dv]
  refine read_pieces (Val := Elt Ideal) arg15.view f15 ((fun (y : S4096x128.Idx) => (((fun j e => A j e + ∑ t ∈ Finset.range 4096, (if t / 512 = k.val then wt 4 q kk l (e / 64) t j * g t e else 0)) (y 0).val (y 1).val : ℝ) : EReal)) : S4096x128.Idx → EReal) _ ?_ (ix2 ti ei) ?_
  · intro p hp x
    simp only [List.mem_cons, List.not_mem_nil, or_false] at hp
    rcases hp with rfl | rfl | rfl | rfl
    · exact piece_at 256 4 (512 * (k.val - 1) + 3) _ (off4_eq k ⟨3, by decide⟩) _ _ _ (fun j e => A j e + ∑ t ∈ Finset.range 4096, (if t / 512 = k.val then wt 4 q kk l (e / 64) t j * g t e else 0)) (fun r e => B128.dv_at _ _ _ (View.readAt (Elt Ideal) arg3.view ⟨k0_off4 k 3#32, S256x128.size, ![4, 1], k0_off4_inb k 3⟩ X3) _ _ _ (View.readAt (Elt Ideal) arg11.view ⟨k0_off3 k 3#32, S128x128.size, ![4, 1], k0_off3_inb k 3⟩ X11) (View.readAt (Elt Ideal) arg12.view ⟨k0_off3 k 3#32, S128x128.size, ![4, 1], k0_off3_inb k 3⟩ X12) _ 4 4 (512 * k.val + 3) (512 * (k.val - 1) + 3) q kk
        v g l dd A (fun r c => c ≤ r + (if k.val = 0 then 0 else 128) ∧ r + (if k.val = 0 then 0 else 128) ≤ c + 128)
        (mask3_apply k) (by intro r hr c hc; by_cases h0 : k.val = 0 <;> simp only [h0, if_true, if_false] <;> simp only [Sees] <;> omega) (load_at _ h1 128 4 (512 * k.val + 3) _ (off3_eq k ⟨3, by decide⟩) _) (load_at _ h2 256 4 (512 * (k.val - 1) + 3) _ (off4_eq k ⟨3, by decide⟩) _) (load_at _ h3 256 4 (512 * (k.val - 1) + 3) _ (off4_eq k ⟨3, by decide⟩) _) (load_at _ h5 128 4 (512 * k.val + 3) _ (off3_eq k ⟨3, by decide⟩) _)
        (load_at _ h6 128 4 (512 * k.val + 3) _ (off3_eq k ⟨3, by decide⟩) _) (load_at _ h7 128 4 (512 * k.val + 3) _ (off3_eq k ⟨3, by decide⟩) _) (load_at _ h11 128 4 (512 * k.val + 3) _ (off3_eq k ⟨3, by decide⟩) _) (load_at _ h12 128 4 (512 * k.val + 3) _ (off3_eq k ⟨3, by decide⟩) _) (by omega) (fun t => t / 512 = k.val)
        (load_at _ hA 256 4 (512 * (k.val - 1) + 3) _ (off4_eq k ⟨3, by decide⟩) _) (by intro r hr; omega) (by intro r hr; omega) (by intro c hc t ht hS hs; simp only [Sees] at hs; exact ⟨(t - (512 * k.val + 3)) / 4, by omega, by omega⟩) r e) x
    · exact piece_at 256 4 (512 * (k.val - 1) + 2) _ (off4_eq k ⟨2, by decide⟩) _ _ _ (fun j e => A j e + ∑ t ∈ Finset.range 4096, (if t / 512 = k.val then wt 4 q kk l (e / 64) t j * g t e else 0)) (fun r e => B128.dv_at _ _ _ (View.readAt (Elt Ideal) arg3.view ⟨k0_off4 k 2#32, S256x128.size, ![4, 1], k0_off4_inb k 2⟩ X3) _ _ _ (View.readAt (Elt Ideal) arg11.view ⟨k0_off3 k 2#32, S128x128.size, ![4, 1], k0_off3_inb k 2⟩ X11) (View.readAt (Elt Ideal) arg12.view ⟨k0_off3 k 2#32, S128x128.size, ![4, 1], k0_off3_inb k 2⟩ X12) _ 4 4 (512 * k.val + 2) (512 * (k.val - 1) + 2) q kk
        v g l dd A (fun r c => c ≤ r + (if k.val = 0 then 0 else 128) ∧ r + (if k.val = 0 then 0 else 128) ≤ c + 128)
        (mask3_apply k) (by intro r hr c hc; by_cases h0 : k.val = 0 <;> simp only [h0, if_true, if_false] <;> simp only [Sees] <;> omega) (load_at _ h1 128 4 (512 * k.val + 2) _ (off3_eq k ⟨2, by decide⟩) _) (load_at _ h2 256 4 (512 * (k.val - 1) + 2) _ (off4_eq k ⟨2, by decide⟩) _) (load_at _ h3 256 4 (512 * (k.val - 1) + 2) _ (off4_eq k ⟨2, by decide⟩) _) (load_at _ h5 128 4 (512 * k.val + 2) _ (off3_eq k ⟨2, by decide⟩) _)
        (load_at _ h6 128 4 (512 * k.val + 2) _ (off3_eq k ⟨2, by decide⟩) _) (load_at _ h7 128 4 (512 * k.val + 2) _ (off3_eq k ⟨2, by decide⟩) _) (load_at _ h11 128 4 (512 * k.val + 2) _ (off3_eq k ⟨2, by decide⟩) _) (load_at _ h12 128 4 (512 * k.val + 2) _ (off3_eq k ⟨2, by decide⟩) _) (by omega) (fun t => t / 512 = k.val)
        (load_at _ hA 256 4 (512 * (k.val - 1) + 2) _ (off4_eq k ⟨2, by decide⟩) _) (by intro r hr; omega) (by intro r hr; omega) (by intro c hc t ht hS hs; simp only [Sees] at hs; exact ⟨(t - (512 * k.val + 2)) / 4, by omega, by omega⟩) r e) x
    · exact piece_at 256 4 (512 * (k.val - 1) + 1) _ (off4_eq k ⟨1, by decide⟩) _ _ _ (fun j e => A j e + ∑ t ∈ Finset.range 4096, (if t / 512 = k.val then wt 4 q kk l (e / 64) t j * g t e else 0)) (fun r e => B128.dv_at _ _ _ (View.readAt (Elt Ideal) arg3.view ⟨k0_off4 k 1#32, S256x128.size, ![4, 1], k0_off4_inb k 1⟩ X3) _ _ _ (View.readAt (Elt Ideal) arg11.view ⟨k0_off3 k 1#32, S128x128.size, ![4, 1], k0_off3_inb k 1⟩ X11) (View.readAt (Elt Ideal) arg12.view ⟨k0_off3 k 1#32, S128x128.size, ![4, 1], k0_off3_inb k 1⟩ X12) _ 4 4 (512 * k.val + 1) (512 * (k.val - 1) + 1) q kk
        v g l dd A (fun r c => c ≤ r + (if k.val = 0 then 0 else 128) ∧ r + (if k.val = 0 then 0 else 128) ≤ c + 128)
        (mask3_apply k) (by intro r hr c hc; by_cases h0 : k.val = 0 <;> simp only [h0, if_true, if_false] <;> simp only [Sees] <;> omega) (load_at _ h1 128 4 (512 * k.val + 1) _ (off3_eq k ⟨1, by decide⟩) _) (load_at _ h2 256 4 (512 * (k.val - 1) + 1) _ (off4_eq k ⟨1, by decide⟩) _) (load_at _ h3 256 4 (512 * (k.val - 1) + 1) _ (off4_eq k ⟨1, by decide⟩) _) (load_at _ h5 128 4 (512 * k.val + 1) _ (off3_eq k ⟨1, by decide⟩) _)
        (load_at _ h6 128 4 (512 * k.val + 1) _ (off3_eq k ⟨1, by decide⟩) _) (load_at _ h7 128 4 (512 * k.val + 1) _ (off3_eq k ⟨1, by decide⟩) _) (load_at _ h11 128 4 (512 * k.val + 1) _ (off3_eq k ⟨1, by decide⟩) _) (load_at _ h12 128 4 (512 * k.val + 1) _ (off3_eq k ⟨1, by decide⟩) _) (by omega) (fun t => t / 512 = k.val)
        (load_at _ hA 256 4 (512 * (k.val - 1) + 1) _ (off4_eq k ⟨1, by decide⟩) _) (by intro r hr; omega) (by intro r hr; omega) (by intro c hc t ht hS hs; simp only [Sees] at hs; exact ⟨(t - (512 * k.val + 1)) / 4, by omega, by omega⟩) r e) x
    · exact piece_at 256 4 (512 * (k.val - 1) + 0) _ (off4_eq k ⟨0, by decide⟩) _ _ _ (fun j e => A j e + ∑ t ∈ Finset.range 4096, (if t / 512 = k.val then wt 4 q kk l (e / 64) t j * g t e else 0)) (fun r e => B128.dv_at _ _ _ (View.readAt (Elt Ideal) arg3.view ⟨k0_off4 k 0#32, S256x128.size, ![4, 1], k0_off4_inb k 0⟩ X3) _ _ _ (View.readAt (Elt Ideal) arg11.view ⟨k0_off3 k 0#32, S128x128.size, ![4, 1], k0_off3_inb k 0⟩ X11) (View.readAt (Elt Ideal) arg12.view ⟨k0_off3 k 0#32, S128x128.size, ![4, 1], k0_off3_inb k 0⟩ X12) _ 4 4 (512 * k.val + 0) (512 * (k.val - 1) + 0) q kk
        v g l dd A (fun r c => c ≤ r + (if k.val = 0 then 0 else 128) ∧ r + (if k.val = 0 then 0 else 128) ≤ c + 128)
        (mask3_apply k) (by intro r hr c hc; by_cases h0 : k.val = 0 <;> simp only [h0, if_true, if_false] <;> simp only [Sees] <;> omega) (load_at _ h1 128 4 (512 * k.val + 0) _ (off3_eq k ⟨0, by decide⟩) _) (load_at _ h2 256 4 (512 * (k.val - 1) + 0) _ (off4_eq k ⟨0, by decide⟩) _) (load_at _ h3 256 4 (512 * (k.val - 1) + 0) _ (off4_eq k ⟨0, by decide⟩) _) (load_at _ h5 128 4 (512 * k.val + 0) _ (off3_eq k ⟨0, by decide⟩) _)
        (load_at _ h6 128 4 (512 * k.val + 0) _ (off3_eq k ⟨0, by decide⟩) _) (load_at _ h7 128 4 (512 * k.val + 0) _ (off3_eq k ⟨0, by decide⟩) _) (load_at _ h11 128 4 (512 * k.val + 0) _ (off3_eq k ⟨0, by decide⟩) _) (load_at _ h12 128 4 (512 * k.val + 0) _ (off3_eq k ⟨0, by decide⟩) _) (by omega) (fun t => t / 512 = k.val)
        (load_at _ hA 256 4 (512 * (k.val - 1) + 0) _ (off4_eq k ⟨0, by decide⟩) _) (by intro r hr; omega) (by intro r hr; omega) (by intro c hc t ht hS hs; simp only [Sees] at hs; exact ⟨(t - (512 * k.val + 0)) / 4, by omega, by omega⟩) r e) x
  · intro hout
    have hne : ∀ u < 4, ∀ r < 256, ((ix2 ti ei) 0).val ≠ (512 * (k.val - 1) + u) + 4 * r := by
      intro u hu r hr h
      have hu' : u = 0 ∨ u = 1 ∨ u = 2 ∨ u = 3 := by omega
      rcases hu' with rfl | rfl | rfl | rfl
      · obtain ⟨j, hj⟩ := mem_at 256 4 (512 * (k.val - 1) + 0) _ (off4_eq k ⟨0, by decide⟩) _ _ (ix2 ti ei) ⟨r, hr, h⟩
        exact hout _ (List.mem_cons_of_mem _ (List.mem_cons_of_mem _ (List.mem_cons_of_mem _ List.mem_cons_self))) j hj
      · obtain ⟨j, hj⟩ := mem_at 256 4 (512 * (k.val - 1) + 1) _ (off4_eq k ⟨1, by decide⟩) _ _ (ix2 ti ei) ⟨r, hr, h⟩
        exact hout _ (List.mem_cons_of_mem _ (List.mem_cons_of_mem _ List.mem_cons_self)) j hj
      · obtain ⟨j, hj⟩ := mem_at 256 4 (512 * (k.val - 1) + 2) _ (off4_eq k ⟨2, by decide⟩) _ _ (ix2 ti ei) ⟨r, hr, h⟩
        exact hout _ (List.mem_cons_of_mem _ List.mem_cons_self) j hj
      · obtain ⟨j, hj⟩ := mem_at 256 4 (512 * (k.val - 1) + 3) _ (off4_eq k ⟨3, by decide⟩) _ _ (ix2 ti ei) ⟨r, hr, h⟩
        exact hout _ List.mem_cons_self j hj
    have hz : ∀ t < 4096, t / 512 = k.val → ¬ Sees 4 t ti.val := by
      intro t ht hS hs
      simp only [Sees] at hs
      exact hne (t % 4) (by omega) ((ti.val - (512 * (k.val - 1) + t % 4)) / 4) (by omega) (by simp only [ix2_apply_0]; omega)
    refine read_add_zero (hA ti ei) (Finset.sum_eq_zero fun t ht => ?_)
    by_cases hS : t / 512 = k.val
    · refine (if_pos hS).trans ?_
      show wt 4 q kk l (ei.val / 64) t ti.val * g t ei.val = 0
      rw [wt_eq_zero q kk l _ (hz t (Finset.mem_range.mp ht) hS), zero_mul]
    · exact if_neg hS

end Cert.Proof.Value

end
-- ==== Proof.Value.All3.lean ====
/- The loop `k0_t3_loop`: what all its trips add to the gradients. -/
module

public import proofs.«01_k».proof.Proof.Value.Step3
public import proofs.«01_k».proof.Proof.Ideal.Loop3
public import proofs.«01_k».proof.Proof.Value.Sums

@[expose] public section

set_option maxRecDepth 16384
set_option maxHeartbeats 4000000

noncomputable section

namespace Cert.Proof.Value

open Cert.KernelIdeal Cert.KernelIdeal.Gen Cert.Proof.KernelIdeal
open Idealize.ShloMosaic Idealize.ShloMosaic.TcCoe Idealize.ShloMosaic.Tactic

theorem loop3_aux (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (G13 : BufTy.Contents (Elt Ideal) arg13.view.ty) (G14 : BufTy.Contents (Elt Ideal) arg14.view.ty) (G15 : BufTy.Contents (Elt Ideal) arg15.view.ty)
    (q kk v g : ℕ → ℕ → ℝ) (l dd : ℕ → ℕ → ℝ)
    (h1 : RealAt arg1.view X1 q) (h2 : RealAt arg2.view X2 kk) (h3 : RealAt arg3.view X3 v) (h5 : RealAt arg5.view X5 (fun t _ => l 0 t))
    (h6 : RealAt arg6.view X6 (fun t _ => l 1 t)) (h7 : RealAt arg7.view X7 g) (h11 : RealAt arg11.view X11 (fun t _ => dd 0 t))
    (h12 : RealAt arg12.view X12 (fun t _ => dd 1 t)) (A B C : ℕ → ℕ → ℝ) (hA : RealAt arg13.view G13 A) (hB : RealAt arg14.view G14 B) (hC : RealAt arg15.view G15 C) :
    ∀ k ≤ 8, RealAt arg13.view (acc3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).1 (fun t e => A t e + if t / 512 < k then ∑ j ∈ Finset.range 4096, ds 4 q kk v g l dd (e / 64) t j * kk j e else 0)
      ∧ RealAt arg14.view (acc3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).2.1 (fun j e => B j e + ∑ t ∈ Finset.range 4096, if t / 512 < k then ds 4 q kk v g l dd (e / 64) t j * q t e else 0)
      ∧ RealAt arg15.view (acc3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).2.2 (fun j e => C j e + ∑ t ∈ Finset.range 4096, if t / 512 < k then wt 4 q kk l (e / 64) t j * g t e else 0)
  | 0, _ => by
    refine ⟨fun t e => ?_, fun t e => ?_, fun t e => ?_⟩
    · exact read_add_zero (hA t e) (if_neg (Nat.not_lt_zero _))
    · exact read_add_zero (hB t e) (Finset.sum_eq_zero fun _ _ => if_neg (Nat.not_lt_zero _))
    · exact read_add_zero (hC t e) (Finset.sum_eq_zero fun _ _ => if_neg (Nat.not_lt_zero _))
  | k + 1, hk1 => by
    obtain ⟨ihA, ihB, ihC⟩ := loop3_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 q kk v g l dd h1 h2 h3 h5 h6 h7 h11 h12 A B C hA hB hC k (by omega)
    have hk : k < k0_t3_loop.trips := lt_of_lt_of_eq (show k < 8 by omega) (show 8 = k0_t3_loop.trips by decide)
    have he : (acc3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 (k + 1)) = _ := next3_eq (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 ⟨k, hk⟩ (acc3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k)
    rw [he]
    refine ⟨fun t e => ?_, fun t e => ?_, fun t e => ?_⟩
    · refine (step3_dq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 _ _ _ ⟨k, hk⟩ q kk v g _ l dd h1 h2 h3 h5 h6 h7 h11 h12 ihA t e).trans (congrArg Real.toEReal ?_)
      exact add_if_succ _ _ _ k
    · refine (step3_dk 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 _ _ _ ⟨k, hk⟩ q kk v g _ l dd h1 h2 h3 h5 h6 h7 h11 h12 ihB t e).trans (congrArg Real.toEReal ?_)
      exact add_sum_if_succ _ _ _ k
    · refine (step3_dv 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 _ _ _ ⟨k, hk⟩ q kk v g _ l dd h1 h2 h3 h5 h6 h7 h11 h12 ihC t e).trans (congrArg Real.toEReal ?_)
      exact add_sum_if_succ _ _ _ k

theorem loop3 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (G13 : BufTy.Contents (Elt Ideal) arg13.view.ty) (G14 : BufTy.Contents (Elt Ideal) arg14.view.ty) (G15 : BufTy.Contents (Elt Ideal) arg15.view.ty)
    (q kk v g : ℕ → ℕ → ℝ) (l dd : ℕ → ℕ → ℝ)
    (h1 : RealAt arg1.view X1 q) (h2 : RealAt arg2.view X2 kk) (h3 : RealAt arg3.view X3 v) (h5 : RealAt arg5.view X5 (fun t _ => l 0 t))
    (h6 : RealAt arg6.view X6 (fun t _ => l 1 t)) (h7 : RealAt arg7.view X7 g) (h11 : RealAt arg11.view X11 (fun t _ => dd 0 t))
    (h12 : RealAt arg12.view X12 (fun t _ => dd 1 t)) (A B C : ℕ → ℕ → ℝ) (hA : RealAt arg13.view G13 A) (hB : RealAt arg14.view G14 B) (hC : RealAt arg15.view G15 C) :
    RealAt arg13.view (acc3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 8).1 (fun t e => A t e + dqSum 4 q kk v g l dd t e)
      ∧ RealAt arg14.view (acc3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 8).2.1 (fun t e => B t e + dkSum 4 q kk v g l dd t e)
      ∧ RealAt arg15.view (acc3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 8).2.2 (fun t e => C t e + dvSum 4 q kk g l t e) := by
  obtain ⟨ihA, ihB, ihC⟩ := loop3_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 q kk v g l dd h1 h2 h3 h5 h6 h7 h11 h12 A B C hA hB hC 8 le_rfl
  have hlt : ∀ t < 4096, t / 512 < 8 := by intro t ht; omega
  refine ⟨fun t e => (ihA t e).trans (congrArg Real.toEReal ?_), fun t e => (ihB t e).trans (congrArg Real.toEReal ?_), fun t e => (ihC t e).trans (congrArg Real.toEReal ?_)⟩
  · exact congrArg (A t.val e.val + ·) (if_pos (hlt _ t.isLt))
  · exact congrArg (B t.val e.val + ·) (Finset.sum_congr rfl fun j hj => if_pos (hlt _ (Finset.mem_range.mp hj)))
  · exact congrArg (C t.val e.val + ·) (Finset.sum_congr rfl fun j hj => if_pos (hlt _ (Finset.mem_range.mp hj)))

end Cert.Proof.Value

end
-- ==== Proof.Value.Pieces4.lean ====
/- What one trip of the loop `k0_t4_loop` writes, in blocks of the attention gradient. -/
module

public import proofs.«01_k».proof.Proof.Ideal.Trip4
public import proofs.«01_k».proof.Proof.Value.Block128

@[expose] public section

set_option maxRecDepth 16384
set_option maxHeartbeats 4000000

noncomputable section

namespace Cert.Proof.Value

open Cert.KernelIdeal Cert.KernelIdeal.Gen Cert.Proof.KernelIdeal
open Idealize.ShloMosaic Idealize.ShloMosaic.TcCoe Idealize.ShloMosaic.Tactic

theorem trip4_dq (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t4_loop.trips) :
    (trip4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).1 = [⟨(Rect.unit (s := S4096x128) (k0_off5 k 24#32) S128x128.size (k0_off5_inb k 3)), B128.dq (andi trip4.sl.v36 trip4.sl.v39) (View.readAt (Elt Ideal) arg1.view (Rect.unit (s := S4096x128) (k0_off5 k 24#32) S128x128.size (k0_off5_inb k 3)).toLoadRect X1) (View.readAt (Elt Ideal) arg2.view (Rect.unit (s := S4096x128) (k0_off6 k 24#32) S256x128.size (k0_off6_inb k 3)).toLoadRect X2) (View.readAt (Elt Ideal) arg3.view (Rect.unit (s := S4096x128) (k0_off6 k 24#32) S256x128.size (k0_off6_inb k 3)).toLoadRect X3) (View.readAt (Elt Ideal) arg5.view (Rect.unit (s := S4096x128) (k0_off5 k 24#32) S128x128.size (k0_off5_inb k 3)).toLoadRect X5) (View.readAt (Elt Ideal) arg6.view (Rect.unit (s := S4096x128) (k0_off5 k 24#32) S128x128.size (k0_off5_inb k 3)).toLoadRect X6) (View.readAt (Elt Ideal) arg7.view (Rect.unit (s := S4096x128) (k0_off5 k 24#32) S128x128.size (k0_off5_inb k 3)).toLoadRect X7) (View.readAt (Elt Ideal) arg11.view (Rect.unit (s := S4096x128) (k0_off5 k 24#32) S128x128.size (k0_off5_inb k 3)).toLoadRect X11) (View.readAt (Elt Ideal) arg12.view (Rect.unit (s := S4096x128) (k0_off5 k 24#32) S128x128.size (k0_off5_inb k 3)).toLoadRect X12) (View.readAt (Elt Ideal) arg13.view (Rect.unit (s := S4096x128) (k0_off5 k 24#32) S128x128.size (k0_off5_inb k 3)).toLoadRect f13)⟩, ⟨(Rect.unit (s := S4096x128) (k0_off5 k 16#32) S128x128.size (k0_off5_inb k 2)), B128.dq (andi trip4.sl.v36 trip4.sl.v39) (View.readAt (Elt Ideal) arg1.view (Rect.unit (s := S4096x128) (k0_off5 k 16#32) S128x128.size (k0_off5_inb k 2)).toLoadRect X1) (View.readAt (Elt Ideal) arg2.view (Rect.unit (s := S4096x128) (k0_off6 k 16#32) S256x128.size (k0_off6_inb k 2)).toLoadRect X2) (View.readAt (Elt Ideal) arg3.view (Rect.unit (s := S4096x128) (k0_off6 k 16#32) S256x128.size (k0_off6_inb k 2)).toLoadRect X3) (View.readAt (Elt Ideal) arg5.view (Rect.unit (s := S4096x128) (k0_off5 k 16#32) S128x128.size (k0_off5_inb k 2)).toLoadRect X5) (View.readAt (Elt Ideal) arg6.view (Rect.unit (s := S4096x128) (k0_off5 k 16#32) S128x128.size (k0_off5_inb k 2)).toLoadRect X6) (View.readAt (Elt Ideal) arg7.view (Rect.unit (s := S4096x128) (k0_off5 k 16#32) S128x128.size (k0_off5_inb k 2)).toLoadRect X7) (View.readAt (Elt Ideal) arg11.view (Rect.unit (s := S4096x128) (k0_off5 k 16#32) S128x128.size (k0_off5_inb k 2)).toLoadRect X11) (View.readAt (Elt Ideal) arg12.view (Rect.unit (s := S4096x128) (k0_off5 k 16#32) S128x128.size (k0_off5_inb k 2)).toLoadRect X12) (View.readAt (Elt Ideal) arg13.view (Rect.unit (s := S4096x128) (k0_off5 k 16#32) S128x128.size (k0_off5_inb k 2)).toLoadRect f13)⟩, ⟨(Rect.unit (s := S4096x128) (k0_off5 k 8#32) S128x128.size (k0_off5_inb k 1)), B128.dq (andi trip4.sl.v36 trip4.sl.v39) (View.readAt (Elt Ideal) arg1.view (Rect.unit (s := S4096x128) (k0_off5 k 8#32) S128x128.size (k0_off5_inb k 1)).toLoadRect X1) (View.readAt (Elt Ideal) arg2.view (Rect.unit (s := S4096x128) (k0_off6 k 8#32) S256x128.size (k0_off6_inb k 1)).toLoadRect X2) (View.readAt (Elt Ideal) arg3.view (Rect.unit (s := S4096x128) (k0_off6 k 8#32) S256x128.size (k0_off6_inb k 1)).toLoadRect X3) (View.readAt (Elt Ideal) arg5.view (Rect.unit (s := S4096x128) (k0_off5 k 8#32) S128x128.size (k0_off5_inb k 1)).toLoadRect X5) (View.readAt (Elt Ideal) arg6.view (Rect.unit (s := S4096x128) (k0_off5 k 8#32) S128x128.size (k0_off5_inb k 1)).toLoadRect X6) (View.readAt (Elt Ideal) arg7.view (Rect.unit (s := S4096x128) (k0_off5 k 8#32) S128x128.size (k0_off5_inb k 1)).toLoadRect X7) (View.readAt (Elt Ideal) arg11.view (Rect.unit (s := S4096x128) (k0_off5 k 8#32) S128x128.size (k0_off5_inb k 1)).toLoadRect X11) (View.readAt (Elt Ideal) arg12.view (Rect.unit (s := S4096x128) (k0_off5 k 8#32) S128x128.size (k0_off5_inb k 1)).toLoadRect X12) (View.readAt (Elt Ideal) arg13.view (Rect.unit (s := S4096x128) (k0_off5 k 8#32) S128x128.size (k0_off5_inb k 1)).toLoadRect f13)⟩, ⟨(Rect.unit (s := S4096x128) (k0_off5 k 0#32) S128x128.size (k0_off5_inb k 0)), B128.dq (trip4.sl.v22 k) (View.readAt (Elt Ideal) arg1.view (Rect.unit (s := S4096x128) (k0_off5 k 0#32) S128x128.size (k0_off5_inb k 0)).toLoadRect X1) (View.readAt (Elt Ideal) arg2.view (Rect.unit (s := S4096x128) (k0_off6 k 0#32) S256x128.size (k0_off6_inb k 0)).toLoadRect X2) (View.readAt (Elt Ideal) arg3.view (Rect.unit (s := S4096x128) (k0_off6 k 0#32) S256x128.size (k0_off6_inb k 0)).toLoadRect X3) (View.readAt (Elt Ideal) arg5.view (Rect.unit (s := S4096x128) (k0_off5 k 0#32) S128x128.size (k0_off5_inb k 0)).toLoadRect X5) (View.readAt (Elt Ideal) arg6.view (Rect.unit (s := S4096x128) (k0_off5 k 0#32) S128x128.size (k0_off5_inb k 0)).toLoadRect X6) (View.readAt (Elt Ideal) arg7.view (Rect.unit (s := S4096x128) (k0_off5 k 0#32) S128x128.size (k0_off5_inb k 0)).toLoadRect X7) (View.readAt (Elt Ideal) arg11.view (Rect.unit (s := S4096x128) (k0_off5 k 0#32) S128x128.size (k0_off5_inb k 0)).toLoadRect X11) (View.readAt (Elt Ideal) arg12.view (Rect.unit (s := S4096x128) (k0_off5 k 0#32) S128x128.size (k0_off5_inb k 0)).toLoadRect X12) (View.readAt (Elt Ideal) arg13.view (Rect.unit (s := S4096x128) (k0_off5 k 0#32) S128x128.size (k0_off5_inb k 0)).toLoadRect f13)⟩] := by
  unfold trip4; rfl

theorem trip4_dk (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t4_loop.trips) :
    (trip4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).2.1 = [⟨(Rect.unit (s := S4096x128) (k0_off6 k 24#32) S256x128.size (k0_off6_inb k 3)), B128.dk (andi trip4.sl.v36 trip4.sl.v39) (View.readAt (Elt Ideal) arg1.view (Rect.unit (s := S4096x128) (k0_off5 k 24#32) S128x128.size (k0_off5_inb k 3)).toLoadRect X1) (View.readAt (Elt Ideal) arg2.view (Rect.unit (s := S4096x128) (k0_off6 k 24#32) S256x128.size (k0_off6_inb k 3)).toLoadRect X2) (View.readAt (Elt Ideal) arg3.view (Rect.unit (s := S4096x128) (k0_off6 k 24#32) S256x128.size (k0_off6_inb k 3)).toLoadRect X3) (View.readAt (Elt Ideal) arg5.view (Rect.unit (s := S4096x128) (k0_off5 k 24#32) S128x128.size (k0_off5_inb k 3)).toLoadRect X5) (View.readAt (Elt Ideal) arg6.view (Rect.unit (s := S4096x128) (k0_off5 k 24#32) S128x128.size (k0_off5_inb k 3)).toLoadRect X6) (View.readAt (Elt Ideal) arg7.view (Rect.unit (s := S4096x128) (k0_off5 k 24#32) S128x128.size (k0_off5_inb k 3)).toLoadRect X7) (View.readAt (Elt Ideal) arg11.view (Rect.unit (s := S4096x128) (k0_off5 k 24#32) S128x128.size (k0_off5_inb k 3)).toLoadRect X11) (View.readAt (Elt Ideal) arg12.view (Rect.unit (s := S4096x128) (k0_off5 k 24#32) S128x128.size (k0_off5_inb k 3)).toLoadRect X12) (View.readAt (Elt Ideal) arg14.view (Rect.unit (s := S4096x128) (k0_off6 k 24#32) S256x128.size (k0_off6_inb k 3)).toLoadRect f14)⟩, ⟨(Rect.unit (s := S4096x128) (k0_off6 k 16#32) S256x128.size (k0_off6_inb k 2)), B128.dk (andi trip4.sl.v36 trip4.sl.v39) (View.readAt (Elt Ideal) arg1.view (Rect.unit (s := S4096x128) (k0_off5 k 16#32) S128x128.size (k0_off5_inb k 2)).toLoadRect X1) (View.readAt (Elt Ideal) arg2.view (Rect.unit (s := S4096x128) (k0_off6 k 16#32) S256x128.size (k0_off6_inb k 2)).toLoadRect X2) (View.readAt (Elt Ideal) arg3.view (Rect.unit (s := S4096x128) (k0_off6 k 16#32) S256x128.size (k0_off6_inb k 2)).toLoadRect X3) (View.readAt (Elt Ideal) arg5.view (Rect.unit (s := S4096x128) (k0_off5 k 16#32) S128x128.size (k0_off5_inb k 2)).toLoadRect X5) (View.readAt (Elt Ideal) arg6.view (Rect.unit (s := S4096x128) (k0_off5 k 16#32) S128x128.size (k0_off5_inb k 2)).toLoadRect X6) (View.readAt (Elt Ideal) arg7.view (Rect.unit (s := S4096x128) (k0_off5 k 16#32) S128x128.size (k0_off5_inb k 2)).toLoadRect X7) (View.readAt (Elt Ideal) arg11.view (Rect.unit (s := S4096x128) (k0_off5 k 16#32) S128x128.size (k0_off5_inb k 2)).toLoadRect X11) (View.readAt (Elt Ideal) arg12.view (Rect.unit (s := S4096x128) (k0_off5 k 16#32) S128x128.size (k0_off5_inb k 2)).toLoadRect X12) (View.readAt (Elt Ideal) arg14.view (Rect.unit (s := S4096x128) (k0_off6 k 16#32) S256x128.size (k0_off6_inb k 2)).toLoadRect f14)⟩, ⟨(Rect.unit (s := S4096x128) (k0_off6 k 8#32) S256x128.size (k0_off6_inb k 1)), B128.dk (andi trip4.sl.v36 trip4.sl.v39) (View.readAt (Elt Ideal) arg1.view (Rect.unit (s := S4096x128) (k0_off5 k 8#32) S128x128.size (k0_off5_inb k 1)).toLoadRect X1) (View.readAt (Elt Ideal) arg2.view (Rect.unit (s := S4096x128) (k0_off6 k 8#32) S256x128.size (k0_off6_inb k 1)).toLoadRect X2) (View.readAt (Elt Ideal) arg3.view (Rect.unit (s := S4096x128) (k0_off6 k 8#32) S256x128.size (k0_off6_inb k 1)).toLoadRect X3) (View.readAt (Elt Ideal) arg5.view (Rect.unit (s := S4096x128) (k0_off5 k 8#32) S128x128.size (k0_off5_inb k 1)).toLoadRect X5) (View.readAt (Elt Ideal) arg6.view (Rect.unit (s := S4096x128) (k0_off5 k 8#32) S128x128.size (k0_off5_inb k 1)).toLoadRect X6) (View.readAt (Elt Ideal) arg7.view (Rect.unit (s := S4096x128) (k0_off5 k 8#32) S128x128.size (k0_off5_inb k 1)).toLoadRect X7) (View.readAt (Elt Ideal) arg11.view (Rect.unit (s := S4096x128) (k0_off5 k 8#32) S128x128.size (k0_off5_inb k 1)).toLoadRect X11) (View.readAt (Elt Ideal) arg12.view (Rect.unit (s := S4096x128) (k0_off5 k 8#32) S128x128.size (k0_off5_inb k 1)).toLoadRect X12) (View.readAt (Elt Ideal) arg14.view (Rect.unit (s := S4096x128) (k0_off6 k 8#32) S256x128.size (k0_off6_inb k 1)).toLoadRect f14)⟩, ⟨(Rect.unit (s := S4096x128) (k0_off6 k 0#32) S256x128.size (k0_off6_inb k 0)), B128.dk (trip4.sl.v22 k) (View.readAt (Elt Ideal) arg1.view (Rect.unit (s := S4096x128) (k0_off5 k 0#32) S128x128.size (k0_off5_inb k 0)).toLoadRect X1) (View.readAt (Elt Ideal) arg2.view (Rect.unit (s := S4096x128) (k0_off6 k 0#32) S256x128.size (k0_off6_inb k 0)).toLoadRect X2) (View.readAt (Elt Ideal) arg3.view (Rect.unit (s := S4096x128) (k0_off6 k 0#32) S256x128.size (k0_off6_inb k 0)).toLoadRect X3) (View.readAt (Elt Ideal) arg5.view (Rect.unit (s := S4096x128) (k0_off5 k 0#32) S128x128.size (k0_off5_inb k 0)).toLoadRect X5) (View.readAt (Elt Ideal) arg6.view (Rect.unit (s := S4096x128) (k0_off5 k 0#32) S128x128.size (k0_off5_inb k 0)).toLoadRect X6) (View.readAt (Elt Ideal) arg7.view (Rect.unit (s := S4096x128) (k0_off5 k 0#32) S128x128.size (k0_off5_inb k 0)).toLoadRect X7) (View.readAt (Elt Ideal) arg11.view (Rect.unit (s := S4096x128) (k0_off5 k 0#32) S128x128.size (k0_off5_inb k 0)).toLoadRect X11) (View.readAt (Elt Ideal) arg12.view (Rect.unit (s := S4096x128) (k0_off5 k 0#32) S128x128.size (k0_off5_inb k 0)).toLoadRect X12) (View.readAt (Elt Ideal) arg14.view (Rect.unit (s := S4096x128) (k0_off6 k 0#32) S256x128.size (k0_off6_inb k 0)).toLoadRect f14)⟩] := by
  unfold trip4; rfl

theorem trip4_dv (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t4_loop.trips) :
    (trip4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).2.2.1 = [⟨(Rect.unit (s := S4096x128) (k0_off6 k 24#32) S256x128.size (k0_off6_inb k 3)), B128.dv (andi trip4.sl.v36 trip4.sl.v39) (View.readAt (Elt Ideal) arg1.view (Rect.unit (s := S4096x128) (k0_off5 k 24#32) S128x128.size (k0_off5_inb k 3)).toLoadRect X1) (View.readAt (Elt Ideal) arg2.view (Rect.unit (s := S4096x128) (k0_off6 k 24#32) S256x128.size (k0_off6_inb k 3)).toLoadRect X2) (View.readAt (Elt Ideal) arg3.view (Rect.unit (s := S4096x128) (k0_off6 k 24#32) S256x128.size (k0_off6_inb k 3)).toLoadRect X3) (View.readAt (Elt Ideal) arg5.view (Rect.unit (s := S4096x128) (k0_off5 k 24#32) S128x128.size (k0_off5_inb k 3)).toLoadRect X5) (View.readAt (Elt Ideal) arg6.view (Rect.unit (s := S4096x128) (k0_off5 k 24#32) S128x128.size (k0_off5_inb k 3)).toLoadRect X6) (View.readAt (Elt Ideal) arg7.view (Rect.unit (s := S4096x128) (k0_off5 k 24#32) S128x128.size (k0_off5_inb k 3)).toLoadRect X7) (View.readAt (Elt Ideal) arg11.view (Rect.unit (s := S4096x128) (k0_off5 k 24#32) S128x128.size (k0_off5_inb k 3)).toLoadRect X11) (View.readAt (Elt Ideal) arg12.view (Rect.unit (s := S4096x128) (k0_off5 k 24#32) S128x128.size (k0_off5_inb k 3)).toLoadRect X12) (View.readAt (Elt Ideal) arg15.view (Rect.unit (s := S4096x128) (k0_off6 k 24#32) S256x128.size (k0_off6_inb k 3)).toLoadRect f15)⟩, ⟨(Rect.unit (s := S4096x128) (k0_off6 k 16#32) S256x128.size (k0_off6_inb k 2)), B128.dv (andi trip4.sl.v36 trip4.sl.v39) (View.readAt (Elt Ideal) arg1.view (Rect.unit (s := S4096x128) (k0_off5 k 16#32) S128x128.size (k0_off5_inb k 2)).toLoadRect X1) (View.readAt (Elt Ideal) arg2.view (Rect.unit (s := S4096x128) (k0_off6 k 16#32) S256x128.size (k0_off6_inb k 2)).toLoadRect X2) (View.readAt (Elt Ideal) arg3.view (Rect.unit (s := S4096x128) (k0_off6 k 16#32) S256x128.size (k0_off6_inb k 2)).toLoadRect X3) (View.readAt (Elt Ideal) arg5.view (Rect.unit (s := S4096x128) (k0_off5 k 16#32) S128x128.size (k0_off5_inb k 2)).toLoadRect X5) (View.readAt (Elt Ideal) arg6.view (Rect.unit (s := S4096x128) (k0_off5 k 16#32) S128x128.size (k0_off5_inb k 2)).toLoadRect X6) (View.readAt (Elt Ideal) arg7.view (Rect.unit (s := S4096x128) (k0_off5 k 16#32) S128x128.size (k0_off5_inb k 2)).toLoadRect X7) (View.readAt (Elt Ideal) arg11.view (Rect.unit (s := S4096x128) (k0_off5 k 16#32) S128x128.size (k0_off5_inb k 2)).toLoadRect X11) (View.readAt (Elt Ideal) arg12.view (Rect.unit (s := S4096x128) (k0_off5 k 16#32) S128x128.size (k0_off5_inb k 2)).toLoadRect X12) (View.readAt (Elt Ideal) arg15.view (Rect.unit (s := S4096x128) (k0_off6 k 16#32) S256x128.size (k0_off6_inb k 2)).toLoadRect f15)⟩, ⟨(Rect.unit (s := S4096x128) (k0_off6 k 8#32) S256x128.size (k0_off6_inb k 1)), B128.dv (andi trip4.sl.v36 trip4.sl.v39) (View.readAt (Elt Ideal) arg1.view (Rect.unit (s := S4096x128) (k0_off5 k 8#32) S128x128.size (k0_off5_inb k 1)).toLoadRect X1) (View.readAt (Elt Ideal) arg2.view (Rect.unit (s := S4096x128) (k0_off6 k 8#32) S256x128.size (k0_off6_inb k 1)).toLoadRect X2) (View.readAt (Elt Ideal) arg3.view (Rect.unit (s := S4096x128) (k0_off6 k 8#32) S256x128.size (k0_off6_inb k 1)).toLoadRect X3) (View.readAt (Elt Ideal) arg5.view (Rect.unit (s := S4096x128) (k0_off5 k 8#32) S128x128.size (k0_off5_inb k 1)).toLoadRect X5) (View.readAt (Elt Ideal) arg6.view (Rect.unit (s := S4096x128) (k0_off5 k 8#32) S128x128.size (k0_off5_inb k 1)).toLoadRect X6) (View.readAt (Elt Ideal) arg7.view (Rect.unit (s := S4096x128) (k0_off5 k 8#32) S128x128.size (k0_off5_inb k 1)).toLoadRect X7) (View.readAt (Elt Ideal) arg11.view (Rect.unit (s := S4096x128) (k0_off5 k 8#32) S128x128.size (k0_off5_inb k 1)).toLoadRect X11) (View.readAt (Elt Ideal) arg12.view (Rect.unit (s := S4096x128) (k0_off5 k 8#32) S128x128.size (k0_off5_inb k 1)).toLoadRect X12) (View.readAt (Elt Ideal) arg15.view (Rect.unit (s := S4096x128) (k0_off6 k 8#32) S256x128.size (k0_off6_inb k 1)).toLoadRect f15)⟩, ⟨(Rect.unit (s := S4096x128) (k0_off6 k 0#32) S256x128.size (k0_off6_inb k 0)), B128.dv (trip4.sl.v22 k) (View.readAt (Elt Ideal) arg1.view (Rect.unit (s := S4096x128) (k0_off5 k 0#32) S128x128.size (k0_off5_inb k 0)).toLoadRect X1) (View.readAt (Elt Ideal) arg2.view (Rect.unit (s := S4096x128) (k0_off6 k 0#32) S256x128.size (k0_off6_inb k 0)).toLoadRect X2) (View.readAt (Elt Ideal) arg3.view (Rect.unit (s := S4096x128) (k0_off6 k 0#32) S256x128.size (k0_off6_inb k 0)).toLoadRect X3) (View.readAt (Elt Ideal) arg5.view (Rect.unit (s := S4096x128) (k0_off5 k 0#32) S128x128.size (k0_off5_inb k 0)).toLoadRect X5) (View.readAt (Elt Ideal) arg6.view (Rect.unit (s := S4096x128) (k0_off5 k 0#32) S128x128.size (k0_off5_inb k 0)).toLoadRect X6) (View.readAt (Elt Ideal) arg7.view (Rect.unit (s := S4096x128) (k0_off5 k 0#32) S128x128.size (k0_off5_inb k 0)).toLoadRect X7) (View.readAt (Elt Ideal) arg11.view (Rect.unit (s := S4096x128) (k0_off5 k 0#32) S128x128.size (k0_off5_inb k 0)).toLoadRect X11) (View.readAt (Elt Ideal) arg12.view (Rect.unit (s := S4096x128) (k0_off5 k 0#32) S128x128.size (k0_off5_inb k 0)).toLoadRect X12) (View.readAt (Elt Ideal) arg15.view (Rect.unit (s := S4096x128) (k0_off6 k 0#32) S256x128.size (k0_off6_inb k 0)).toLoadRect f15)⟩] := by
  unfold trip4; rfl

end Cert.Proof.Value

end
-- ==== Proof.Value.Step4.lean ====
/- What one trip of the loop `k0_t4_loop` adds to the gradients, row by row. -/
module

public import proofs.«01_k».proof.Proof.Value.Pieces4
public import proofs.«01_k».proof.Proof.Value.Masks
public import proofs.«01_k».proof.Proof.Value.Load
public import proofs.«01_k».proof.Proof.Ideal.Offsets

@[expose] public section

set_option maxRecDepth 16384
set_option maxHeartbeats 4000000

noncomputable section

namespace Cert.Proof.Value

open Cert.KernelIdeal Cert.KernelIdeal.Gen Cert.Proof.KernelIdeal
open Idealize.ShloMosaic Idealize.ShloMosaic.TcCoe Idealize.ShloMosaic.Tactic

theorem step4_dq (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t4_loop.trips)
    (q kk v g A : ℕ → ℕ → ℝ) (l dd : ℕ → ℕ → ℝ)
    (h1 : RealAt arg1.view X1 q) (h2 : RealAt arg2.view X2 kk) (h3 : RealAt arg3.view X3 v) (h5 : RealAt arg5.view X5 (fun t _ => l 0 t))
    (h6 : RealAt arg6.view X6 (fun t _ => l 1 t)) (h7 : RealAt arg7.view X7 g) (h11 : RealAt arg11.view X11 (fun t _ => dd 0 t))
    (h12 : RealAt arg12.view X12 (fun t _ => dd 1 t))
    (hA : RealAt arg13.view f13 A) : RealAt arg13.view (arg13.view.writes (Elt Ideal) f13 (trip4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).1)
      (fun t e => A t e + if t % 1024 / 128 = k.val then ∑ j ∈ Finset.range 4096, ds 1 q kk v g l dd (e / 64) t j * kk j e else 0) := by
  have hk : k.val < 8 := Nat.lt_of_lt_of_le k.isLt k0_t4_abs.2.1
  intro ti ei
  rw [trip4_dq]
  refine read_pieces (Val := Elt Ideal) arg13.view f13 ((fun (y : S4096x128.Idx) => (((fun t e => A t e + if t % 1024 / 128 = k.val then ∑ j ∈ Finset.range 4096, ds 1 q kk v g l dd (e / 64) t j * kk j e else 0) (y 0).val (y 1).val : ℝ) : EReal)) : S4096x128.Idx → EReal) _ ?_ (ix2 ti ei) ?_
  · intro p hp x
    simp only [List.mem_cons, List.not_mem_nil, or_false] at hp
    rcases hp with rfl | rfl | rfl | rfl
    · exact piece_unit 128 (128 * k.val + 1024 * 3) _ (k0_off5_eq k ⟨3, by decide⟩) (k0_off5_inb k ⟨3, by decide⟩) _ (fun t e => A t e + if t % 1024 / 128 = k.val then ∑ j ∈ Finset.range 4096, ds 1 q kk v g l dd (e / 64) t j * kk j e else 0) (fun r e => (B128.dq_at _ _ _ _ _ _ _ _ _ _ 1 1 (128 * k.val + 1024 * 3) (128 * (k.val + 8 * 3 - 1)) q kk
        v g l dd A (fun r c => c ≤ r + 128 ∧ r + 128 ≤ c + 128)
        mask4_apply (by intro r hr c hc; simp only [Sees]; omega) (load_unit _ h1 128 (128 * k.val + 1024 * 3) _ (k0_off5_eq k ⟨3, by decide⟩) (k0_off5_inb k ⟨3, by decide⟩)) (load_unit _ h2 256 (128 * (k.val + 8 * 3 - 1)) _ (off6_eq k ⟨3, by decide⟩) (k0_off6_inb k ⟨3, by decide⟩)) (load_unit _ h3 256 (128 * (k.val + 8 * 3 - 1)) _ (off6_eq k ⟨3, by decide⟩) (k0_off6_inb k ⟨3, by decide⟩)) (load_unit _ h5 128 (128 * k.val + 1024 * 3) _ (k0_off5_eq k ⟨3, by decide⟩) (k0_off5_inb k ⟨3, by decide⟩))
        (load_unit _ h6 128 (128 * k.val + 1024 * 3) _ (k0_off5_eq k ⟨3, by decide⟩) (k0_off5_inb k ⟨3, by decide⟩)) (load_unit _ h7 128 (128 * k.val + 1024 * 3) _ (k0_off5_eq k ⟨3, by decide⟩) (k0_off5_inb k ⟨3, by decide⟩)) (load_unit _ h11 128 (128 * k.val + 1024 * 3) _ (k0_off5_eq k ⟨3, by decide⟩) (k0_off5_inb k ⟨3, by decide⟩)) (load_unit _ h12 128 (128 * k.val + 1024 * 3) _ (k0_off5_eq k ⟨3, by decide⟩) (k0_off5_inb k ⟨3, by decide⟩)) (by omega) (load_unit _ hA 128 (128 * k.val + 1024 * 3) _ (k0_off5_eq k ⟨3, by decide⟩) (k0_off5_inb k ⟨3, by decide⟩))
        (by intro c hc; omega) (by intro r hr j hj hs; simp only [Sees] at hs; exact ⟨(j - (128 * (k.val + 8 * 3 - 1))) / 1, by omega, by omega⟩) r e).trans (by rw [if_pos (by omega)])) x
    · exact piece_unit 128 (128 * k.val + 1024 * 2) _ (k0_off5_eq k ⟨2, by decide⟩) (k0_off5_inb k ⟨2, by decide⟩) _ (fun t e => A t e + if t % 1024 / 128 = k.val then ∑ j ∈ Finset.range 4096, ds 1 q kk v g l dd (e / 64) t j * kk j e else 0) (fun r e => (B128.dq_at _ _ _ _ _ _ _ _ _ _ 1 1 (128 * k.val + 1024 * 2) (128 * (k.val + 8 * 2 - 1)) q kk
        v g l dd A (fun r c => c ≤ r + 128 ∧ r + 128 ≤ c + 128)
        mask4_apply (by intro r hr c hc; simp only [Sees]; omega) (load_unit _ h1 128 (128 * k.val + 1024 * 2) _ (k0_off5_eq k ⟨2, by decide⟩) (k0_off5_inb k ⟨2, by decide⟩)) (load_unit _ h2 256 (128 * (k.val + 8 * 2 - 1)) _ (off6_eq k ⟨2, by decide⟩) (k0_off6_inb k ⟨2, by decide⟩)) (load_unit _ h3 256 (128 * (k.val + 8 * 2 - 1)) _ (off6_eq k ⟨2, by decide⟩) (k0_off6_inb k ⟨2, by decide⟩)) (load_unit _ h5 128 (128 * k.val + 1024 * 2) _ (k0_off5_eq k ⟨2, by decide⟩) (k0_off5_inb k ⟨2, by decide⟩))
        (load_unit _ h6 128 (128 * k.val + 1024 * 2) _ (k0_off5_eq k ⟨2, by decide⟩) (k0_off5_inb k ⟨2, by decide⟩)) (load_unit _ h7 128 (128 * k.val + 1024 * 2) _ (k0_off5_eq k ⟨2, by decide⟩) (k0_off5_inb k ⟨2, by decide⟩)) (load_unit _ h11 128 (128 * k.val + 1024 * 2) _ (k0_off5_eq k ⟨2, by decide⟩) (k0_off5_inb k ⟨2, by decide⟩)) (load_unit _ h12 128 (128 * k.val + 1024 * 2) _ (k0_off5_eq k ⟨2, by decide⟩) (k0_off5_inb k ⟨2, by decide⟩)) (by omega) (load_unit _ hA 128 (128 * k.val + 1024 * 2) _ (k0_off5_eq k ⟨2, by decide⟩) (k0_off5_inb k ⟨2, by decide⟩))
        (by intro c hc; omega) (by intro r hr j hj hs; simp only [Sees] at hs; exact ⟨(j - (128 * (k.val + 8 * 2 - 1))) / 1, by omega, by omega⟩) r e).trans (by rw [if_pos (by omega)])) x
    · exact piece_unit 128 (128 * k.val + 1024 * 1) _ (k0_off5_eq k ⟨1, by decide⟩) (k0_off5_inb k ⟨1, by decide⟩) _ (fun t e => A t e + if t % 1024 / 128 = k.val then ∑ j ∈ Finset.range 4096, ds 1 q kk v g l dd (e / 64) t j * kk j e else 0) (fun r e => (B128.dq_at _ _ _ _ _ _ _ _ _ _ 1 1 (128 * k.val + 1024 * 1) (128 * (k.val + 8 * 1 - 1)) q kk
        v g l dd A (fun r c => c ≤ r + 128 ∧ r + 128 ≤ c + 128)
        mask4_apply (by intro r hr c hc; simp only [Sees]; omega) (load_unit _ h1 128 (128 * k.val + 1024 * 1) _ (k0_off5_eq k ⟨1, by decide⟩) (k0_off5_inb k ⟨1, by decide⟩)) (load_unit _ h2 256 (128 * (k.val + 8 * 1 - 1)) _ (off6_eq k ⟨1, by decide⟩) (k0_off6_inb k ⟨1, by decide⟩)) (load_unit _ h3 256 (128 * (k.val + 8 * 1 - 1)) _ (off6_eq k ⟨1, by decide⟩) (k0_off6_inb k ⟨1, by decide⟩)) (load_unit _ h5 128 (128 * k.val + 1024 * 1) _ (k0_off5_eq k ⟨1, by decide⟩) (k0_off5_inb k ⟨1, by decide⟩))
        (load_unit _ h6 128 (128 * k.val + 1024 * 1) _ (k0_off5_eq k ⟨1, by decide⟩) (k0_off5_inb k ⟨1, by decide⟩)) (load_unit _ h7 128 (128 * k.val + 1024 * 1) _ (k0_off5_eq k ⟨1, by decide⟩) (k0_off5_inb k ⟨1, by decide⟩)) (load_unit _ h11 128 (128 * k.val + 1024 * 1) _ (k0_off5_eq k ⟨1, by decide⟩) (k0_off5_inb k ⟨1, by decide⟩)) (load_unit _ h12 128 (128 * k.val + 1024 * 1) _ (k0_off5_eq k ⟨1, by decide⟩) (k0_off5_inb k ⟨1, by decide⟩)) (by omega) (load_unit _ hA 128 (128 * k.val + 1024 * 1) _ (k0_off5_eq k ⟨1, by decide⟩) (k0_off5_inb k ⟨1, by decide⟩))
        (by intro c hc; omega) (by intro r hr j hj hs; simp only [Sees] at hs; exact ⟨(j - (128 * (k.val + 8 * 1 - 1))) / 1, by omega, by omega⟩) r e).trans (by rw [if_pos (by omega)])) x
    · exact piece_unit 128 (128 * k.val + 1024 * 0) _ (k0_off5_eq k ⟨0, by decide⟩) (k0_off5_inb k ⟨0, by decide⟩) _ (fun t e => A t e + if t % 1024 / 128 = k.val then ∑ j ∈ Finset.range 4096, ds 1 q kk v g l dd (e / 64) t j * kk j e else 0) (fun r e => (B128.dq_at _ _ _ _ _ _ _ _ _ _ 1 1 (128 * k.val + 1024 * 0) (128 * (k.val + 8 * 0 - 1)) q kk
        v g l dd A (fun r c => c ≤ r + (if k.val = 0 then 0 else 128) ∧ r + (if k.val = 0 then 0 else 128) ≤ c + 128)
        (mask4_0_apply k) (by intro r hr c hc; by_cases h0 : k.val = 0 <;> simp only [h0, if_true, if_false] <;> simp only [Sees] <;> omega) (load_unit _ h1 128 (128 * k.val + 1024 * 0) _ (k0_off5_eq k ⟨0, by decide⟩) (k0_off5_inb k ⟨0, by decide⟩)) (load_unit _ h2 256 (128 * (k.val + 8 * 0 - 1)) _ (off6_eq k ⟨0, by decide⟩) (k0_off6_inb k ⟨0, by decide⟩)) (load_unit _ h3 256 (128 * (k.val + 8 * 0 - 1)) _ (off6_eq k ⟨0, by decide⟩) (k0_off6_inb k ⟨0, by decide⟩)) (load_unit _ h5 128 (128 * k.val + 1024 * 0) _ (k0_off5_eq k ⟨0, by decide⟩) (k0_off5_inb k ⟨0, by decide⟩))
        (load_unit _ h6 128 (128 * k.val + 1024 * 0) _ (k0_off5_eq k ⟨0, by decide⟩) (k0_off5_inb k ⟨0, by decide⟩)) (load_unit _ h7 128 (128 * k.val + 1024 * 0) _ (k0_off5_eq k ⟨0, by decide⟩) (k0_off5_inb k ⟨0, by decide⟩)) (load_unit _ h11 128 (128 * k.val + 1024 * 0) _ (k0_off5_eq k ⟨0, by decide⟩) (k0_off5_inb k ⟨0, by decide⟩)) (load_unit _ h12 128 (128 * k.val + 1024 * 0) _ (k0_off5_eq k ⟨0, by decide⟩) (k0_off5_inb k ⟨0, by decide⟩)) (by omega) (load_unit _ hA 128 (128 * k.val + 1024 * 0) _ (k0_off5_eq k ⟨0, by decide⟩) (k0_off5_inb k ⟨0, by decide⟩))
        (by intro c hc; omega) (by intro r hr j hj hs; simp only [Sees] at hs; exact ⟨(j - (128 * (k.val + 8 * 0 - 1))) / 1, by omega, by omega⟩) r e).trans (by rw [if_pos (by omega)])) x
  · intro hout
    have hne : ∀ u < 4, ∀ r < 128, ((ix2 ti ei) 0).val ≠ (128 * k.val + 1024 * u) + 1 * r := by
      intro u hu r hr h
      have hu' : u = 0 ∨ u = 1 ∨ u = 2 ∨ u = 3 := by omega
      rcases hu' with rfl | rfl | rfl | rfl
      · obtain ⟨j, hj⟩ := mem_unit 128 (128 * k.val + 1024 * 0) _ (k0_off5_eq k ⟨0, by decide⟩) (k0_off5_inb k ⟨0, by decide⟩) (ix2 ti ei) ⟨r, hr, h⟩
        exact hout _ (List.mem_cons_of_mem _ (List.mem_cons_of_mem _ (List.mem_cons_of_mem _ List.mem_cons_self))) j hj
      · obtain ⟨j, hj⟩ := mem_unit 128 (128 * k.val + 1024 * 1) _ (k0_off5_eq k ⟨1, by decide⟩) (k0_off5_inb k ⟨1, by decide⟩) (ix2 ti ei) ⟨r, hr, h⟩
        exact hout _ (List.mem_cons_of_mem _ (List.mem_cons_of_mem _ List.mem_cons_self)) j hj
      · obtain ⟨j, hj⟩ := mem_unit 128 (128 * k.val + 1024 * 2) _ (k0_off5_eq k ⟨2, by decide⟩) (k0_off5_inb k ⟨2, by decide⟩) (ix2 ti ei) ⟨r, hr, h⟩
        exact hout _ (List.mem_cons_of_mem _ List.mem_cons_self) j hj
      · obtain ⟨j, hj⟩ := mem_unit 128 (128 * k.val + 1024 * 3) _ (k0_off5_eq k ⟨3, by decide⟩) (k0_off5_inb k ⟨3, by decide⟩) (ix2 ti ei) ⟨r, hr, h⟩
        exact hout _ List.mem_cons_self j hj
    have hS : ¬ (ti.val % 1024 / 128 = k.val) := fun hS => hne (ti.val / 1024) (by omega) (ti.val % 128) (by omega) (by simp only [ix2_apply_0]; omega)
    exact read_add_zero (hA ti ei) (if_neg hS)

theorem step4_dk (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t4_loop.trips)
    (q kk v g A : ℕ → ℕ → ℝ) (l dd : ℕ → ℕ → ℝ)
    (h1 : RealAt arg1.view X1 q) (h2 : RealAt arg2.view X2 kk) (h3 : RealAt arg3.view X3 v) (h5 : RealAt arg5.view X5 (fun t _ => l 0 t))
    (h6 : RealAt arg6.view X6 (fun t _ => l 1 t)) (h7 : RealAt arg7.view X7 g) (h11 : RealAt arg11.view X11 (fun t _ => dd 0 t))
    (h12 : RealAt arg12.view X12 (fun t _ => dd 1 t))
    (hA : RealAt arg14.view f14 A) : RealAt arg14.view (arg14.view.writes (Elt Ideal) f14 (trip4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).2.1)
      (fun j e => A j e + ∑ t ∈ Finset.range 4096, (if t % 1024 / 128 = k.val then ds 1 q kk v g l dd (e / 64) t j * q t e else 0)) := by
  have hk : k.val < 8 := Nat.lt_of_lt_of_le k.isLt k0_t4_abs.2.1
  intro ti ei
  rw [trip4_dk]
  refine read_pieces (Val := Elt Ideal) arg14.view f14 ((fun (y : S4096x128.Idx) => (((fun j e => A j e + ∑ t ∈ Finset.range 4096, (if t % 1024 / 128 = k.val then ds 1 q kk v g l dd (e / 64) t j * q t e else 0)) (y 0).val (y 1).val : ℝ) : EReal)) : S4096x128.Idx → EReal) _ ?_ (ix2 ti ei) ?_
  · intro p hp x
    simp only [List.mem_cons, List.not_mem_nil, or_false] at hp
    rcases hp with rfl | rfl | rfl | rfl
    · exact piece_unit 256 (128 * (k.val + 8 * 3 - 1)) _ (off6_eq k ⟨3, by decide⟩) (k0_off6_inb k ⟨3, by decide⟩) _ (fun j e => A j e + ∑ t ∈ Finset.range 4096, (if t % 1024 / 128 = k.val then ds 1 q kk v g l dd (e / 64) t j * q t e else 0)) (fun r e => B128.dk_at _ _ _ _ _ _ _ _ _ _ 1 1 (128 * k.val + 1024 * 3) (128 * (k.val + 8 * 3 - 1)) q kk
        v g l dd A (fun r c => c ≤ r + 128 ∧ r + 128 ≤ c + 128)
        mask4_apply (by intro r hr c hc; simp only [Sees]; omega) (load_unit _ h1 128 (128 * k.val + 1024 * 3) _ (k0_off5_eq k ⟨3, by decide⟩) (k0_off5_inb k ⟨3, by decide⟩)) (load_unit _ h2 256 (128 * (k.val + 8 * 3 - 1)) _ (off6_eq k ⟨3, by decide⟩) (k0_off6_inb k ⟨3, by decide⟩)) (load_unit _ h3 256 (128 * (k.val + 8 * 3 - 1)) _ (off6_eq k ⟨3, by decide⟩) (k0_off6_inb k ⟨3, by decide⟩)) (load_unit _ h5 128 (128 * k.val + 1024 * 3) _ (k0_off5_eq k ⟨3, by decide⟩) (k0_off5_inb k ⟨3, by decide⟩))
        (load_unit _ h6 128 (128 * k.val + 1024 * 3) _ (k0_off5_eq k ⟨3, by decide⟩) (k0_off5_inb k ⟨3, by decide⟩)) (load_unit _ h7 128 (128 * k.val + 1024 * 3) _ (k0_off5_eq k ⟨3, by decide⟩) (k0_off5_inb k ⟨3, by decide⟩)) (load_unit _ h11 128 (128 * k.val + 1024 * 3) _ (k0_off5_eq k ⟨3, by decide⟩) (k0_off5_inb k ⟨3, by decide⟩)) (load_unit _ h12 128 (128 * k.val + 1024 * 3) _ (k0_off5_eq k ⟨3, by decide⟩) (k0_off5_inb k ⟨3, by decide⟩)) (by omega) (fun t => t % 1024 / 128 = k.val)
        (load_unit _ hA 256 (128 * (k.val + 8 * 3 - 1)) _ (off6_eq k ⟨3, by decide⟩) (k0_off6_inb k ⟨3, by decide⟩)) (by intro r hr; omega) (by intro r hr; omega) (by intro c hc t ht hS hs; simp only [Sees] at hs; exact ⟨(t - (128 * k.val + 1024 * 3)) / 1, by omega, by omega⟩) r e) x
    · exact piece_unit 256 (128 * (k.val + 8 * 2 - 1)) _ (off6_eq k ⟨2, by decide⟩) (k0_off6_inb k ⟨2, by decide⟩) _ (fun j e => A j e + ∑ t ∈ Finset.range 4096, (if t % 1024 / 128 = k.val then ds 1 q kk v g l dd (e / 64) t j * q t e else 0)) (fun r e => B128.dk_at _ _ _ _ _ _ _ _ _ _ 1 1 (128 * k.val + 1024 * 2) (128 * (k.val + 8 * 2 - 1)) q kk
        v g l dd A (fun r c => c ≤ r + 128 ∧ r + 128 ≤ c + 128)
        mask4_apply (by intro r hr c hc; simp only [Sees]; omega) (load_unit _ h1 128 (128 * k.val + 1024 * 2) _ (k0_off5_eq k ⟨2, by decide⟩) (k0_off5_inb k ⟨2, by decide⟩)) (load_unit _ h2 256 (128 * (k.val + 8 * 2 - 1)) _ (off6_eq k ⟨2, by decide⟩) (k0_off6_inb k ⟨2, by decide⟩)) (load_unit _ h3 256 (128 * (k.val + 8 * 2 - 1)) _ (off6_eq k ⟨2, by decide⟩) (k0_off6_inb k ⟨2, by decide⟩)) (load_unit _ h5 128 (128 * k.val + 1024 * 2) _ (k0_off5_eq k ⟨2, by decide⟩) (k0_off5_inb k ⟨2, by decide⟩))
        (load_unit _ h6 128 (128 * k.val + 1024 * 2) _ (k0_off5_eq k ⟨2, by decide⟩) (k0_off5_inb k ⟨2, by decide⟩)) (load_unit _ h7 128 (128 * k.val + 1024 * 2) _ (k0_off5_eq k ⟨2, by decide⟩) (k0_off5_inb k ⟨2, by decide⟩)) (load_unit _ h11 128 (128 * k.val + 1024 * 2) _ (k0_off5_eq k ⟨2, by decide⟩) (k0_off5_inb k ⟨2, by decide⟩)) (load_unit _ h12 128 (128 * k.val + 1024 * 2) _ (k0_off5_eq k ⟨2, by decide⟩) (k0_off5_inb k ⟨2, by decide⟩)) (by omega) (fun t => t % 1024 / 128 = k.val)
        (load_unit _ hA 256 (128 * (k.val + 8 * 2 - 1)) _ (off6_eq k ⟨2, by decide⟩) (k0_off6_inb k ⟨2, by decide⟩)) (by intro r hr; omega) (by intro r hr; omega) (by intro c hc t ht hS hs; simp only [Sees] at hs; exact ⟨(t - (128 * k.val + 1024 * 2)) / 1, by omega, by omega⟩) r e) x
    · exact piece_unit 256 (128 * (k.val + 8 * 1 - 1)) _ (off6_eq k ⟨1, by decide⟩) (k0_off6_inb k ⟨1, by decide⟩) _ (fun j e => A j e + ∑ t ∈ Finset.range 4096, (if t % 1024 / 128 = k.val then ds 1 q kk v g l dd (e / 64) t j * q t e else 0)) (fun r e => B128.dk_at _ _ _ _ _ _ _ _ _ _ 1 1 (128 * k.val + 1024 * 1) (128 * (k.val + 8 * 1 - 1)) q kk
        v g l dd A (fun r c => c ≤ r + 128 ∧ r + 128 ≤ c + 128)
        mask4_apply (by intro r hr c hc; simp only [Sees]; omega) (load_unit _ h1 128 (128 * k.val + 1024 * 1) _ (k0_off5_eq k ⟨1, by decide⟩) (k0_off5_inb k ⟨1, by decide⟩)) (load_unit _ h2 256 (128 * (k.val + 8 * 1 - 1)) _ (off6_eq k ⟨1, by decide⟩) (k0_off6_inb k ⟨1, by decide⟩)) (load_unit _ h3 256 (128 * (k.val + 8 * 1 - 1)) _ (off6_eq k ⟨1, by decide⟩) (k0_off6_inb k ⟨1, by decide⟩)) (load_unit _ h5 128 (128 * k.val + 1024 * 1) _ (k0_off5_eq k ⟨1, by decide⟩) (k0_off5_inb k ⟨1, by decide⟩))
        (load_unit _ h6 128 (128 * k.val + 1024 * 1) _ (k0_off5_eq k ⟨1, by decide⟩) (k0_off5_inb k ⟨1, by decide⟩)) (load_unit _ h7 128 (128 * k.val + 1024 * 1) _ (k0_off5_eq k ⟨1, by decide⟩) (k0_off5_inb k ⟨1, by decide⟩)) (load_unit _ h11 128 (128 * k.val + 1024 * 1) _ (k0_off5_eq k ⟨1, by decide⟩) (k0_off5_inb k ⟨1, by decide⟩)) (load_unit _ h12 128 (128 * k.val + 1024 * 1) _ (k0_off5_eq k ⟨1, by decide⟩) (k0_off5_inb k ⟨1, by decide⟩)) (by omega) (fun t => t % 1024 / 128 = k.val)
        (load_unit _ hA 256 (128 * (k.val + 8 * 1 - 1)) _ (off6_eq k ⟨1, by decide⟩) (k0_off6_inb k ⟨1, by decide⟩)) (by intro r hr; omega) (by intro r hr; omega) (by intro c hc t ht hS hs; simp only [Sees] at hs; exact ⟨(t - (128 * k.val + 1024 * 1)) / 1, by omega, by omega⟩) r e) x
    · exact piece_unit 256 (128 * (k.val + 8 * 0 - 1)) _ (off6_eq k ⟨0, by decide⟩) (k0_off6_inb k ⟨0, by decide⟩) _ (fun j e => A j e + ∑ t ∈ Finset.range 4096, (if t % 1024 / 128 = k.val then ds 1 q kk v g l dd (e / 64) t j * q t e else 0)) (fun r e => B128.dk_at _ _ _ _ _ _ _ _ _ _ 1 1 (128 * k.val + 1024 * 0) (128 * (k.val + 8 * 0 - 1)) q kk
        v g l dd A (fun r c => c ≤ r + (if k.val = 0 then 0 else 128) ∧ r + (if k.val = 0 then 0 else 128) ≤ c + 128)
        (mask4_0_apply k) (by intro r hr c hc; by_cases h0 : k.val = 0 <;> simp only [h0, if_true, if_false] <;> simp only [Sees] <;> omega) (load_unit _ h1 128 (128 * k.val + 1024 * 0) _ (k0_off5_eq k ⟨0, by decide⟩) (k0_off5_inb k ⟨0, by decide⟩)) (load_unit _ h2 256 (128 * (k.val + 8 * 0 - 1)) _ (off6_eq k ⟨0, by decide⟩) (k0_off6_inb k ⟨0, by decide⟩)) (load_unit _ h3 256 (128 * (k.val + 8 * 0 - 1)) _ (off6_eq k ⟨0, by decide⟩) (k0_off6_inb k ⟨0, by decide⟩)) (load_unit _ h5 128 (128 * k.val + 1024 * 0) _ (k0_off5_eq k ⟨0, by decide⟩) (k0_off5_inb k ⟨0, by decide⟩))
        (load_unit _ h6 128 (128 * k.val + 1024 * 0) _ (k0_off5_eq k ⟨0, by decide⟩) (k0_off5_inb k ⟨0, by decide⟩)) (load_unit _ h7 128 (128 * k.val + 1024 * 0) _ (k0_off5_eq k ⟨0, by decide⟩) (k0_off5_inb k ⟨0, by decide⟩)) (load_unit _ h11 128 (128 * k.val + 1024 * 0) _ (k0_off5_eq k ⟨0, by decide⟩) (k0_off5_inb k ⟨0, by decide⟩)) (load_unit _ h12 128 (128 * k.val + 1024 * 0) _ (k0_off5_eq k ⟨0, by decide⟩) (k0_off5_inb k ⟨0, by decide⟩)) (by omega) (fun t => t % 1024 / 128 = k.val)
        (load_unit _ hA 256 (128 * (k.val + 8 * 0 - 1)) _ (off6_eq k ⟨0, by decide⟩) (k0_off6_inb k ⟨0, by decide⟩)) (by intro r hr; omega) (by intro r hr; omega) (by intro c hc t ht hS hs; simp only [Sees] at hs; exact ⟨(t - (128 * k.val + 1024 * 0)) / 1, by omega, by omega⟩) r e) x
  · intro hout
    have hne : ∀ u < 4, ∀ r < 256, ((ix2 ti ei) 0).val ≠ (128 * (k.val + 8 * u - 1)) + 1 * r := by
      intro u hu r hr h
      have hu' : u = 0 ∨ u = 1 ∨ u = 2 ∨ u = 3 := by omega
      rcases hu' with rfl | rfl | rfl | rfl
      · obtain ⟨j, hj⟩ := mem_unit 256 (128 * (k.val + 8 * 0 - 1)) _ (off6_eq k ⟨0, by decide⟩) (k0_off6_inb k ⟨0, by decide⟩) (ix2 ti ei) ⟨r, hr, h⟩
        exact hout _ (List.mem_cons_of_mem _ (List.mem_cons_of_mem _ (List.mem_cons_of_mem _ List.mem_cons_self))) j hj
      · obtain ⟨j, hj⟩ := mem_unit 256 (128 * (k.val + 8 * 1 - 1)) _ (off6_eq k ⟨1, by decide⟩) (k0_off6_inb k ⟨1, by decide⟩) (ix2 ti ei) ⟨r, hr, h⟩
        exact hout _ (List.mem_cons_of_mem _ (List.mem_cons_of_mem _ List.mem_cons_self)) j hj
      · obtain ⟨j, hj⟩ := mem_unit 256 (128 * (k.val + 8 * 2 - 1)) _ (off6_eq k ⟨2, by decide⟩) (k0_off6_inb k ⟨2, by decide⟩) (ix2 ti ei) ⟨r, hr, h⟩
        exact hout _ (List.mem_cons_of_mem _ List.mem_cons_self) j hj
      · obtain ⟨j, hj⟩ := mem_unit 256 (128 * (k.val + 8 * 3 - 1)) _ (off6_eq k ⟨3, by decide⟩) (k0_off6_inb k ⟨3, by decide⟩) (ix2 ti ei) ⟨r, hr, h⟩
        exact hout _ List.mem_cons_self j hj
    have hz : ∀ t < 4096, t % 1024 / 128 = k.val → ¬ Sees 1 t ti.val := by
      intro t ht hS hs
      simp only [Sees] at hs
      exact hne (t / 1024) (by omega) (ti.val - 128 * (k.val + 8 * (t / 1024) - 1)) (by omega) (by simp only [ix2_apply_0]; omega)
    refine read_add_zero (hA ti ei) (Finset.sum_eq_zero fun t ht => ?_)
    by_cases hS : t % 1024 / 128 = k.val
    · refine (if_pos hS).trans ?_
      show ds 1 q kk v g l dd (ei.val / 64) t ti.val * q t ei.val = 0
      rw [ds_eq_zero q kk v g l dd _ (hz t (Finset.mem_range.mp ht) hS), zero_mul]
    · exact if_neg hS

theorem step4_dv (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (k : Fin k0_t4_loop.trips)
    (q kk v g A : ℕ → ℕ → ℝ) (l dd : ℕ → ℕ → ℝ)
    (h1 : RealAt arg1.view X1 q) (h2 : RealAt arg2.view X2 kk) (h3 : RealAt arg3.view X3 v) (h5 : RealAt arg5.view X5 (fun t _ => l 0 t))
    (h6 : RealAt arg6.view X6 (fun t _ => l 1 t)) (h7 : RealAt arg7.view X7 g) (h11 : RealAt arg11.view X11 (fun t _ => dd 0 t))
    (h12 : RealAt arg12.view X12 (fun t _ => dd 1 t))
    (hA : RealAt arg15.view f15 A) : RealAt arg15.view (arg15.view.writes (Elt Ideal) f15 (trip4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 f13 f14 f15 k).2.2.1)
      (fun j e => A j e + ∑ t ∈ Finset.range 4096, (if t % 1024 / 128 = k.val then wt 1 q kk l (e / 64) t j * g t e else 0)) := by
  have hk : k.val < 8 := Nat.lt_of_lt_of_le k.isLt k0_t4_abs.2.1
  intro ti ei
  rw [trip4_dv]
  refine read_pieces (Val := Elt Ideal) arg15.view f15 ((fun (y : S4096x128.Idx) => (((fun j e => A j e + ∑ t ∈ Finset.range 4096, (if t % 1024 / 128 = k.val then wt 1 q kk l (e / 64) t j * g t e else 0)) (y 0).val (y 1).val : ℝ) : EReal)) : S4096x128.Idx → EReal) _ ?_ (ix2 ti ei) ?_
  · intro p hp x
    simp only [List.mem_cons, List.not_mem_nil, or_false] at hp
    rcases hp with rfl | rfl | rfl | rfl
    · exact piece_unit 256 (128 * (k.val + 8 * 3 - 1)) _ (off6_eq k ⟨3, by decide⟩) (k0_off6_inb k ⟨3, by decide⟩) (B128.dv (andi trip4.sl.v36 trip4.sl.v39) (View.readAt (Elt Ideal) arg1.view (Rect.unit (s := S4096x128) (k0_off5 k 24#32) S128x128.size (k0_off5_inb k 3)).toLoadRect X1) (View.readAt (Elt Ideal) arg2.view (Rect.unit (s := S4096x128) (k0_off6 k 24#32) S256x128.size (k0_off6_inb k 3)).toLoadRect X2) (View.readAt (Elt Ideal) arg3.view (Rect.unit (s := S4096x128) (k0_off6 k 24#32) S256x128.size (k0_off6_inb k 3)).toLoadRect X3) (View.readAt (Elt Ideal) arg5.view (Rect.unit (s := S4096x128) (k0_off5 k 24#32) S128x128.size (k0_off5_inb k 3)).toLoadRect X5) (View.readAt (Elt Ideal) arg6.view (Rect.unit (s := S4096x128) (k0_off5 k 24#32) S128x128.size (k0_off5_inb k 3)).toLoadRect X6) (View.readAt (Elt Ideal) arg7.view (Rect.unit (s := S4096x128) (k0_off5 k 24#32) S128x128.size (k0_off5_inb k 3)).toLoadRect X7) (View.readAt (Elt Ideal) arg11.view (Rect.unit (s := S4096x128) (k0_off5 k 24#32) S128x128.size (k0_off5_inb k 3)).toLoadRect X11) (View.readAt (Elt Ideal) arg12.view (Rect.unit (s := S4096x128) (k0_off5 k 24#32) S128x128.size (k0_off5_inb k 3)).toLoadRect X12) (View.readAt (Elt Ideal) arg15.view (Rect.unit (s := S4096x128) (k0_off6 k 24#32) S256x128.size (k0_off6_inb k 3)).toLoadRect f15) ) (fun j e => A j e + ∑ t ∈ Finset.range 4096, (if t % 1024 / 128 = k.val then wt 1 q kk l (e / 64) t j * g t e else 0)) (fun r e => B128.dv_at (andi trip4.sl.v36 trip4.sl.v39) (View.readAt (Elt Ideal) arg1.view (Rect.unit (s := S4096x128) (k0_off5 k 24#32) S128x128.size (k0_off5_inb k 3)).toLoadRect X1) (View.readAt (Elt Ideal) arg2.view (Rect.unit (s := S4096x128) (k0_off6 k 24#32) S256x128.size (k0_off6_inb k 3)).toLoadRect X2) (View.readAt (Elt Ideal) arg3.view (Rect.unit (s := S4096x128) (k0_off6 k 24#32) S256x128.size (k0_off6_inb k 3)).toLoadRect X3) (View.readAt (Elt Ideal) arg5.view (Rect.unit (s := S4096x128) (k0_off5 k 24#32) S128x128.size (k0_off5_inb k 3)).toLoadRect X5) (View.readAt (Elt Ideal) arg6.view (Rect.unit (s := S4096x128) (k0_off5 k 24#32) S128x128.size (k0_off5_inb k 3)).toLoadRect X6) (View.readAt (Elt Ideal) arg7.view (Rect.unit (s := S4096x128) (k0_off5 k 24#32) S128x128.size (k0_off5_inb k 3)).toLoadRect X7) (View.readAt (Elt Ideal) arg11.view (Rect.unit (s := S4096x128) (k0_off5 k 24#32) S128x128.size (k0_off5_inb k 3)).toLoadRect X11) (View.readAt (Elt Ideal) arg12.view (Rect.unit (s := S4096x128) (k0_off5 k 24#32) S128x128.size (k0_off5_inb k 3)).toLoadRect X12) (View.readAt (Elt Ideal) arg15.view (Rect.unit (s := S4096x128) (k0_off6 k 24#32) S256x128.size (k0_off6_inb k 3)).toLoadRect f15) 1 1 (128 * k.val + 1024 * 3) (128 * (k.val + 8 * 3 - 1)) q kk
        v g l dd A (fun r c => c ≤ r + 128 ∧ r + 128 ≤ c + 128)
        mask4_apply (by intro r hr c hc; simp only [Sees]; omega) (load_unit _ h1 128 (128 * k.val + 1024 * 3) _ (k0_off5_eq k ⟨3, by decide⟩) (k0_off5_inb k ⟨3, by decide⟩)) (load_unit _ h2 256 (128 * (k.val + 8 * 3 - 1)) _ (off6_eq k ⟨3, by decide⟩) (k0_off6_inb k ⟨3, by decide⟩)) (load_unit _ h3 256 (128 * (k.val + 8 * 3 - 1)) _ (off6_eq k ⟨3, by decide⟩) (k0_off6_inb k ⟨3, by decide⟩)) (load_unit _ h5 128 (128 * k.val + 1024 * 3) _ (k0_off5_eq k ⟨3, by decide⟩) (k0_off5_inb k ⟨3, by decide⟩))
        (load_unit _ h6 128 (128 * k.val + 1024 * 3) _ (k0_off5_eq k ⟨3, by decide⟩) (k0_off5_inb k ⟨3, by decide⟩)) (load_unit _ h7 128 (128 * k.val + 1024 * 3) _ (k0_off5_eq k ⟨3, by decide⟩) (k0_off5_inb k ⟨3, by decide⟩)) (load_unit _ h11 128 (128 * k.val + 1024 * 3) _ (k0_off5_eq k ⟨3, by decide⟩) (k0_off5_inb k ⟨3, by decide⟩)) (load_unit _ h12 128 (128 * k.val + 1024 * 3) _ (k0_off5_eq k ⟨3, by decide⟩) (k0_off5_inb k ⟨3, by decide⟩)) (by omega) (fun t => t % 1024 / 128 = k.val)
        (load_unit _ hA 256 (128 * (k.val + 8 * 3 - 1)) _ (off6_eq k ⟨3, by decide⟩) (k0_off6_inb k ⟨3, by decide⟩)) (by intro r hr; omega) (by intro r hr; omega) (by intro c hc t ht hS hs; simp only [Sees] at hs; exact ⟨(t - (128 * k.val + 1024 * 3)) / 1, by omega, by omega⟩) r e) x
    · exact piece_unit 256 (128 * (k.val + 8 * 2 - 1)) _ (off6_eq k ⟨2, by decide⟩) (k0_off6_inb k ⟨2, by decide⟩) (B128.dv (andi trip4.sl.v36 trip4.sl.v39) (View.readAt (Elt Ideal) arg1.view (Rect.unit (s := S4096x128) (k0_off5 k 16#32) S128x128.size (k0_off5_inb k 2)).toLoadRect X1) (View.readAt (Elt Ideal) arg2.view (Rect.unit (s := S4096x128) (k0_off6 k 16#32) S256x128.size (k0_off6_inb k 2)).toLoadRect X2) (View.readAt (Elt Ideal) arg3.view (Rect.unit (s := S4096x128) (k0_off6 k 16#32) S256x128.size (k0_off6_inb k 2)).toLoadRect X3) (View.readAt (Elt Ideal) arg5.view (Rect.unit (s := S4096x128) (k0_off5 k 16#32) S128x128.size (k0_off5_inb k 2)).toLoadRect X5) (View.readAt (Elt Ideal) arg6.view (Rect.unit (s := S4096x128) (k0_off5 k 16#32) S128x128.size (k0_off5_inb k 2)).toLoadRect X6) (View.readAt (Elt Ideal) arg7.view (Rect.unit (s := S4096x128) (k0_off5 k 16#32) S128x128.size (k0_off5_inb k 2)).toLoadRect X7) (View.readAt (Elt Ideal) arg11.view (Rect.unit (s := S4096x128) (k0_off5 k 16#32) S128x128.size (k0_off5_inb k 2)).toLoadRect X11) (View.readAt (Elt Ideal) arg12.view (Rect.unit (s := S4096x128) (k0_off5 k 16#32) S128x128.size (k0_off5_inb k 2)).toLoadRect X12) (View.readAt (Elt Ideal) arg15.view (Rect.unit (s := S4096x128) (k0_off6 k 16#32) S256x128.size (k0_off6_inb k 2)).toLoadRect f15) ) (fun j e => A j e + ∑ t ∈ Finset.range 4096, (if t % 1024 / 128 = k.val then wt 1 q kk l (e / 64) t j * g t e else 0)) (fun r e => B128.dv_at (andi trip4.sl.v36 trip4.sl.v39) (View.readAt (Elt Ideal) arg1.view (Rect.unit (s := S4096x128) (k0_off5 k 16#32) S128x128.size (k0_off5_inb k 2)).toLoadRect X1) (View.readAt (Elt Ideal) arg2.view (Rect.unit (s := S4096x128) (k0_off6 k 16#32) S256x128.size (k0_off6_inb k 2)).toLoadRect X2) (View.readAt (Elt Ideal) arg3.view (Rect.unit (s := S4096x128) (k0_off6 k 16#32) S256x128.size (k0_off6_inb k 2)).toLoadRect X3) (View.readAt (Elt Ideal) arg5.view (Rect.unit (s := S4096x128) (k0_off5 k 16#32) S128x128.size (k0_off5_inb k 2)).toLoadRect X5) (View.readAt (Elt Ideal) arg6.view (Rect.unit (s := S4096x128) (k0_off5 k 16#32) S128x128.size (k0_off5_inb k 2)).toLoadRect X6) (View.readAt (Elt Ideal) arg7.view (Rect.unit (s := S4096x128) (k0_off5 k 16#32) S128x128.size (k0_off5_inb k 2)).toLoadRect X7) (View.readAt (Elt Ideal) arg11.view (Rect.unit (s := S4096x128) (k0_off5 k 16#32) S128x128.size (k0_off5_inb k 2)).toLoadRect X11) (View.readAt (Elt Ideal) arg12.view (Rect.unit (s := S4096x128) (k0_off5 k 16#32) S128x128.size (k0_off5_inb k 2)).toLoadRect X12) (View.readAt (Elt Ideal) arg15.view (Rect.unit (s := S4096x128) (k0_off6 k 16#32) S256x128.size (k0_off6_inb k 2)).toLoadRect f15) 1 1 (128 * k.val + 1024 * 2) (128 * (k.val + 8 * 2 - 1)) q kk
        v g l dd A (fun r c => c ≤ r + 128 ∧ r + 128 ≤ c + 128)
        mask4_apply (by intro r hr c hc; simp only [Sees]; omega) (load_unit _ h1 128 (128 * k.val + 1024 * 2) _ (k0_off5_eq k ⟨2, by decide⟩) (k0_off5_inb k ⟨2, by decide⟩)) (load_unit _ h2 256 (128 * (k.val + 8 * 2 - 1)) _ (off6_eq k ⟨2, by decide⟩) (k0_off6_inb k ⟨2, by decide⟩)) (load_unit _ h3 256 (128 * (k.val + 8 * 2 - 1)) _ (off6_eq k ⟨2, by decide⟩) (k0_off6_inb k ⟨2, by decide⟩)) (load_unit _ h5 128 (128 * k.val + 1024 * 2) _ (k0_off5_eq k ⟨2, by decide⟩) (k0_off5_inb k ⟨2, by decide⟩))
        (load_unit _ h6 128 (128 * k.val + 1024 * 2) _ (k0_off5_eq k ⟨2, by decide⟩) (k0_off5_inb k ⟨2, by decide⟩)) (load_unit _ h7 128 (128 * k.val + 1024 * 2) _ (k0_off5_eq k ⟨2, by decide⟩) (k0_off5_inb k ⟨2, by decide⟩)) (load_unit _ h11 128 (128 * k.val + 1024 * 2) _ (k0_off5_eq k ⟨2, by decide⟩) (k0_off5_inb k ⟨2, by decide⟩)) (load_unit _ h12 128 (128 * k.val + 1024 * 2) _ (k0_off5_eq k ⟨2, by decide⟩) (k0_off5_inb k ⟨2, by decide⟩)) (by omega) (fun t => t % 1024 / 128 = k.val)
        (load_unit _ hA 256 (128 * (k.val + 8 * 2 - 1)) _ (off6_eq k ⟨2, by decide⟩) (k0_off6_inb k ⟨2, by decide⟩)) (by intro r hr; omega) (by intro r hr; omega) (by intro c hc t ht hS hs; simp only [Sees] at hs; exact ⟨(t - (128 * k.val + 1024 * 2)) / 1, by omega, by omega⟩) r e) x
    · exact piece_unit 256 (128 * (k.val + 8 * 1 - 1)) _ (off6_eq k ⟨1, by decide⟩) (k0_off6_inb k ⟨1, by decide⟩) (B128.dv (andi trip4.sl.v36 trip4.sl.v39) (View.readAt (Elt Ideal) arg1.view (Rect.unit (s := S4096x128) (k0_off5 k 8#32) S128x128.size (k0_off5_inb k 1)).toLoadRect X1) (View.readAt (Elt Ideal) arg2.view (Rect.unit (s := S4096x128) (k0_off6 k 8#32) S256x128.size (k0_off6_inb k 1)).toLoadRect X2) (View.readAt (Elt Ideal) arg3.view (Rect.unit (s := S4096x128) (k0_off6 k 8#32) S256x128.size (k0_off6_inb k 1)).toLoadRect X3) (View.readAt (Elt Ideal) arg5.view (Rect.unit (s := S4096x128) (k0_off5 k 8#32) S128x128.size (k0_off5_inb k 1)).toLoadRect X5) (View.readAt (Elt Ideal) arg6.view (Rect.unit (s := S4096x128) (k0_off5 k 8#32) S128x128.size (k0_off5_inb k 1)).toLoadRect X6) (View.readAt (Elt Ideal) arg7.view (Rect.unit (s := S4096x128) (k0_off5 k 8#32) S128x128.size (k0_off5_inb k 1)).toLoadRect X7) (View.readAt (Elt Ideal) arg11.view (Rect.unit (s := S4096x128) (k0_off5 k 8#32) S128x128.size (k0_off5_inb k 1)).toLoadRect X11) (View.readAt (Elt Ideal) arg12.view (Rect.unit (s := S4096x128) (k0_off5 k 8#32) S128x128.size (k0_off5_inb k 1)).toLoadRect X12) (View.readAt (Elt Ideal) arg15.view (Rect.unit (s := S4096x128) (k0_off6 k 8#32) S256x128.size (k0_off6_inb k 1)).toLoadRect f15) ) (fun j e => A j e + ∑ t ∈ Finset.range 4096, (if t % 1024 / 128 = k.val then wt 1 q kk l (e / 64) t j * g t e else 0)) (fun r e => B128.dv_at (andi trip4.sl.v36 trip4.sl.v39) (View.readAt (Elt Ideal) arg1.view (Rect.unit (s := S4096x128) (k0_off5 k 8#32) S128x128.size (k0_off5_inb k 1)).toLoadRect X1) (View.readAt (Elt Ideal) arg2.view (Rect.unit (s := S4096x128) (k0_off6 k 8#32) S256x128.size (k0_off6_inb k 1)).toLoadRect X2) (View.readAt (Elt Ideal) arg3.view (Rect.unit (s := S4096x128) (k0_off6 k 8#32) S256x128.size (k0_off6_inb k 1)).toLoadRect X3) (View.readAt (Elt Ideal) arg5.view (Rect.unit (s := S4096x128) (k0_off5 k 8#32) S128x128.size (k0_off5_inb k 1)).toLoadRect X5) (View.readAt (Elt Ideal) arg6.view (Rect.unit (s := S4096x128) (k0_off5 k 8#32) S128x128.size (k0_off5_inb k 1)).toLoadRect X6) (View.readAt (Elt Ideal) arg7.view (Rect.unit (s := S4096x128) (k0_off5 k 8#32) S128x128.size (k0_off5_inb k 1)).toLoadRect X7) (View.readAt (Elt Ideal) arg11.view (Rect.unit (s := S4096x128) (k0_off5 k 8#32) S128x128.size (k0_off5_inb k 1)).toLoadRect X11) (View.readAt (Elt Ideal) arg12.view (Rect.unit (s := S4096x128) (k0_off5 k 8#32) S128x128.size (k0_off5_inb k 1)).toLoadRect X12) (View.readAt (Elt Ideal) arg15.view (Rect.unit (s := S4096x128) (k0_off6 k 8#32) S256x128.size (k0_off6_inb k 1)).toLoadRect f15) 1 1 (128 * k.val + 1024 * 1) (128 * (k.val + 8 * 1 - 1)) q kk
        v g l dd A (fun r c => c ≤ r + 128 ∧ r + 128 ≤ c + 128)
        mask4_apply (by intro r hr c hc; simp only [Sees]; omega) (load_unit _ h1 128 (128 * k.val + 1024 * 1) _ (k0_off5_eq k ⟨1, by decide⟩) (k0_off5_inb k ⟨1, by decide⟩)) (load_unit _ h2 256 (128 * (k.val + 8 * 1 - 1)) _ (off6_eq k ⟨1, by decide⟩) (k0_off6_inb k ⟨1, by decide⟩)) (load_unit _ h3 256 (128 * (k.val + 8 * 1 - 1)) _ (off6_eq k ⟨1, by decide⟩) (k0_off6_inb k ⟨1, by decide⟩)) (load_unit _ h5 128 (128 * k.val + 1024 * 1) _ (k0_off5_eq k ⟨1, by decide⟩) (k0_off5_inb k ⟨1, by decide⟩))
        (load_unit _ h6 128 (128 * k.val + 1024 * 1) _ (k0_off5_eq k ⟨1, by decide⟩) (k0_off5_inb k ⟨1, by decide⟩)) (load_unit _ h7 128 (128 * k.val + 1024 * 1) _ (k0_off5_eq k ⟨1, by decide⟩) (k0_off5_inb k ⟨1, by decide⟩)) (load_unit _ h11 128 (128 * k.val + 1024 * 1) _ (k0_off5_eq k ⟨1, by decide⟩) (k0_off5_inb k ⟨1, by decide⟩)) (load_unit _ h12 128 (128 * k.val + 1024 * 1) _ (k0_off5_eq k ⟨1, by decide⟩) (k0_off5_inb k ⟨1, by decide⟩)) (by omega) (fun t => t % 1024 / 128 = k.val)
        (load_unit _ hA 256 (128 * (k.val + 8 * 1 - 1)) _ (off6_eq k ⟨1, by decide⟩) (k0_off6_inb k ⟨1, by decide⟩)) (by intro r hr; omega) (by intro r hr; omega) (by intro c hc t ht hS hs; simp only [Sees] at hs; exact ⟨(t - (128 * k.val + 1024 * 1)) / 1, by omega, by omega⟩) r e) x
    · exact piece_unit 256 (128 * (k.val + 8 * 0 - 1)) _ (off6_eq k ⟨0, by decide⟩) (k0_off6_inb k ⟨0, by decide⟩) (B128.dv (trip4.sl.v22 k) (View.readAt (Elt Ideal) arg1.view (Rect.unit (s := S4096x128) (k0_off5 k 0#32) S128x128.size (k0_off5_inb k 0)).toLoadRect X1) (View.readAt (Elt Ideal) arg2.view (Rect.unit (s := S4096x128) (k0_off6 k 0#32) S256x128.size (k0_off6_inb k 0)).toLoadRect X2) (View.readAt (Elt Ideal) arg3.view (Rect.unit (s := S4096x128) (k0_off6 k 0#32) S256x128.size (k0_off6_inb k 0)).toLoadRect X3) (View.readAt (Elt Ideal) arg5.view (Rect.unit (s := S4096x128) (k0_off5 k 0#32) S128x128.size (k0_off5_inb k 0)).toLoadRect X5) (View.readAt (Elt Ideal) arg6.view (Rect.unit (s := S4096x128) (k0_off5 k 0#32) S128x128.size (k0_off5_inb k 0)).toLoadRect X6) (View.readAt (Elt Ideal) arg7.view (Rect.unit (s := S4096x128) (k0_off5 k 0#32) S128x128.size (k0_off5_inb k 0)).toLoadRect X7) (View.readAt (Elt Ideal) arg11.view (Rect.unit (s := S4096x128) (k0_off5 k 0#32) S128x128.size (k0_off5_inb k 0)).toLoadRect X11) (View.readAt (Elt Ideal) arg12.view (Rect.unit (s := S4096x128) (k0_off5 k 0#32) S128x128.size (k0_off5_inb k 0)).toLoadRect X12) (View.readAt (Elt Ideal) arg15.view (Rect.unit (s := S4096x128) (k0_off6 k 0#32) S256x128.size (k0_off6_inb k 0)).toLoadRect f15) ) (fun j e => A j e + ∑ t ∈ Finset.range 4096, (if t % 1024 / 128 = k.val then wt 1 q kk l (e / 64) t j * g t e else 0)) (fun r e => B128.dv_at (trip4.sl.v22 k) (View.readAt (Elt Ideal) arg1.view (Rect.unit (s := S4096x128) (k0_off5 k 0#32) S128x128.size (k0_off5_inb k 0)).toLoadRect X1) (View.readAt (Elt Ideal) arg2.view (Rect.unit (s := S4096x128) (k0_off6 k 0#32) S256x128.size (k0_off6_inb k 0)).toLoadRect X2) (View.readAt (Elt Ideal) arg3.view (Rect.unit (s := S4096x128) (k0_off6 k 0#32) S256x128.size (k0_off6_inb k 0)).toLoadRect X3) (View.readAt (Elt Ideal) arg5.view (Rect.unit (s := S4096x128) (k0_off5 k 0#32) S128x128.size (k0_off5_inb k 0)).toLoadRect X5) (View.readAt (Elt Ideal) arg6.view (Rect.unit (s := S4096x128) (k0_off5 k 0#32) S128x128.size (k0_off5_inb k 0)).toLoadRect X6) (View.readAt (Elt Ideal) arg7.view (Rect.unit (s := S4096x128) (k0_off5 k 0#32) S128x128.size (k0_off5_inb k 0)).toLoadRect X7) (View.readAt (Elt Ideal) arg11.view (Rect.unit (s := S4096x128) (k0_off5 k 0#32) S128x128.size (k0_off5_inb k 0)).toLoadRect X11) (View.readAt (Elt Ideal) arg12.view (Rect.unit (s := S4096x128) (k0_off5 k 0#32) S128x128.size (k0_off5_inb k 0)).toLoadRect X12) (View.readAt (Elt Ideal) arg15.view (Rect.unit (s := S4096x128) (k0_off6 k 0#32) S256x128.size (k0_off6_inb k 0)).toLoadRect f15) 1 1 (128 * k.val + 1024 * 0) (128 * (k.val + 8 * 0 - 1)) q kk
        v g l dd A (fun r c => c ≤ r + (if k.val = 0 then 0 else 128) ∧ r + (if k.val = 0 then 0 else 128) ≤ c + 128)
        (mask4_0_apply k) (by intro r hr c hc; by_cases h0 : k.val = 0 <;> simp only [h0, if_true, if_false] <;> simp only [Sees] <;> omega) (load_unit _ h1 128 (128 * k.val + 1024 * 0) _ (k0_off5_eq k ⟨0, by decide⟩) (k0_off5_inb k ⟨0, by decide⟩)) (load_unit _ h2 256 (128 * (k.val + 8 * 0 - 1)) _ (off6_eq k ⟨0, by decide⟩) (k0_off6_inb k ⟨0, by decide⟩)) (load_unit _ h3 256 (128 * (k.val + 8 * 0 - 1)) _ (off6_eq k ⟨0, by decide⟩) (k0_off6_inb k ⟨0, by decide⟩)) (load_unit _ h5 128 (128 * k.val + 1024 * 0) _ (k0_off5_eq k ⟨0, by decide⟩) (k0_off5_inb k ⟨0, by decide⟩))
        (load_unit _ h6 128 (128 * k.val + 1024 * 0) _ (k0_off5_eq k ⟨0, by decide⟩) (k0_off5_inb k ⟨0, by decide⟩)) (load_unit _ h7 128 (128 * k.val + 1024 * 0) _ (k0_off5_eq k ⟨0, by decide⟩) (k0_off5_inb k ⟨0, by decide⟩)) (load_unit _ h11 128 (128 * k.val + 1024 * 0) _ (k0_off5_eq k ⟨0, by decide⟩) (k0_off5_inb k ⟨0, by decide⟩)) (load_unit _ h12 128 (128 * k.val + 1024 * 0) _ (k0_off5_eq k ⟨0, by decide⟩) (k0_off5_inb k ⟨0, by decide⟩)) (by omega) (fun t => t % 1024 / 128 = k.val)
        (load_unit _ hA 256 (128 * (k.val + 8 * 0 - 1)) _ (off6_eq k ⟨0, by decide⟩) (k0_off6_inb k ⟨0, by decide⟩)) (by intro r hr; omega) (by intro r hr; omega) (by intro c hc t ht hS hs; simp only [Sees] at hs; exact ⟨(t - (128 * k.val + 1024 * 0)) / 1, by omega, by omega⟩) r e) x
  · intro hout
    have hne : ∀ u < 4, ∀ r < 256, ((ix2 ti ei) 0).val ≠ (128 * (k.val + 8 * u - 1)) + 1 * r := by
      intro u hu r hr h
      have hu' : u = 0 ∨ u = 1 ∨ u = 2 ∨ u = 3 := by omega
      rcases hu' with rfl | rfl | rfl | rfl
      · obtain ⟨j, hj⟩ := mem_unit 256 (128 * (k.val + 8 * 0 - 1)) _ (off6_eq k ⟨0, by decide⟩) (k0_off6_inb k ⟨0, by decide⟩) (ix2 ti ei) ⟨r, hr, h⟩
        exact hout _ (List.mem_cons_of_mem _ (List.mem_cons_of_mem _ (List.mem_cons_of_mem _ List.mem_cons_self))) j hj
      · obtain ⟨j, hj⟩ := mem_unit 256 (128 * (k.val + 8 * 1 - 1)) _ (off6_eq k ⟨1, by decide⟩) (k0_off6_inb k ⟨1, by decide⟩) (ix2 ti ei) ⟨r, hr, h⟩
        exact hout _ (List.mem_cons_of_mem _ (List.mem_cons_of_mem _ List.mem_cons_self)) j hj
      · obtain ⟨j, hj⟩ := mem_unit 256 (128 * (k.val + 8 * 2 - 1)) _ (off6_eq k ⟨2, by decide⟩) (k0_off6_inb k ⟨2, by decide⟩) (ix2 ti ei) ⟨r, hr, h⟩
        exact hout _ (List.mem_cons_of_mem _ List.mem_cons_self) j hj
      · obtain ⟨j, hj⟩ := mem_unit 256 (128 * (k.val + 8 * 3 - 1)) _ (off6_eq k ⟨3, by decide⟩) (k0_off6_inb k ⟨3, by decide⟩) (ix2 ti ei) ⟨r, hr, h⟩
        exact hout _ List.mem_cons_self j hj
    have hz : ∀ t < 4096, t % 1024 / 128 = k.val → ¬ Sees 1 t ti.val := by
      intro t ht hS hs
      simp only [Sees] at hs
      exact hne (t / 1024) (by omega) (ti.val - 128 * (k.val + 8 * (t / 1024) - 1)) (by omega) (by simp only [ix2_apply_0]; omega)
    refine read_add_zero (hA ti ei) (Finset.sum_eq_zero fun t ht => ?_)
    by_cases hS : t % 1024 / 128 = k.val
    · refine (if_pos hS).trans ?_
      show wt 1 q kk l (ei.val / 64) t ti.val * g t ei.val = 0
      rw [wt_eq_zero q kk l _ (hz t (Finset.mem_range.mp ht) hS), zero_mul]
    · exact if_neg hS

end Cert.Proof.Value

end
-- ==== Proof.Value.All4.lean ====
/- The loop `k0_t4_loop`: what all its trips add to the gradients. -/
module

public import proofs.«01_k».proof.Proof.Value.Step4
public import proofs.«01_k».proof.Proof.Ideal.Loop4
public import proofs.«01_k».proof.Proof.Value.Sums

@[expose] public section

set_option maxRecDepth 16384
set_option maxHeartbeats 4000000

noncomputable section

namespace Cert.Proof.Value

open Cert.KernelIdeal Cert.KernelIdeal.Gen Cert.Proof.KernelIdeal
open Idealize.ShloMosaic Idealize.ShloMosaic.TcCoe Idealize.ShloMosaic.Tactic

theorem loop4_aux (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (G13 : BufTy.Contents (Elt Ideal) arg13.view.ty) (G14 : BufTy.Contents (Elt Ideal) arg14.view.ty) (G15 : BufTy.Contents (Elt Ideal) arg15.view.ty)
    (q kk v g : ℕ → ℕ → ℝ) (l dd : ℕ → ℕ → ℝ)
    (h1 : RealAt arg1.view X1 q) (h2 : RealAt arg2.view X2 kk) (h3 : RealAt arg3.view X3 v) (h5 : RealAt arg5.view X5 (fun t _ => l 0 t))
    (h6 : RealAt arg6.view X6 (fun t _ => l 1 t)) (h7 : RealAt arg7.view X7 g) (h11 : RealAt arg11.view X11 (fun t _ => dd 0 t))
    (h12 : RealAt arg12.view X12 (fun t _ => dd 1 t)) (A B C : ℕ → ℕ → ℝ) (hA : RealAt arg13.view G13 A) (hB : RealAt arg14.view G14 B) (hC : RealAt arg15.view G15 C) :
    ∀ k ≤ 8, RealAt arg13.view (acc4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).1 (fun t e => A t e + if t % 1024 / 128 < k then ∑ j ∈ Finset.range 4096, ds 1 q kk v g l dd (e / 64) t j * kk j e else 0)
      ∧ RealAt arg14.view (acc4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).2.1 (fun j e => B j e + ∑ t ∈ Finset.range 4096, if t % 1024 / 128 < k then ds 1 q kk v g l dd (e / 64) t j * q t e else 0)
      ∧ RealAt arg15.view (acc4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k).2.2 (fun j e => C j e + ∑ t ∈ Finset.range 4096, if t % 1024 / 128 < k then wt 1 q kk l (e / 64) t j * g t e else 0)
  | 0, _ => by
    refine ⟨fun t e => ?_, fun t e => ?_, fun t e => ?_⟩
    · exact read_add_zero (hA t e) (if_neg (Nat.not_lt_zero _))
    · exact read_add_zero (hB t e) (Finset.sum_eq_zero fun _ _ => if_neg (Nat.not_lt_zero _))
    · exact read_add_zero (hC t e) (Finset.sum_eq_zero fun _ _ => if_neg (Nat.not_lt_zero _))
  | k + 1, hk1 => by
    obtain ⟨ihA, ihB, ihC⟩ := loop4_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 q kk v g l dd h1 h2 h3 h5 h6 h7 h11 h12 A B C hA hB hC k (by omega)
    have hk : k < k0_t4_loop.trips := lt_of_lt_of_eq (show k < 8 by omega) (show 8 = k0_t4_loop.trips by decide)
    have he : (acc4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 (k + 1)) = _ := next4_eq (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 ⟨k, hk⟩ (acc4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 k)
    rw [he]
    refine ⟨fun t e => ?_, fun t e => ?_, fun t e => ?_⟩
    · refine (step4_dq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 _ _ _ ⟨k, hk⟩ q kk v g _ l dd h1 h2 h3 h5 h6 h7 h11 h12 ihA t e).trans (congrArg Real.toEReal ?_)
      exact add_if_succ _ _ _ k
    · refine (step4_dk 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 _ _ _ ⟨k, hk⟩ q kk v g _ l dd h1 h2 h3 h5 h6 h7 h11 h12 ihB t e).trans (congrArg Real.toEReal ?_)
      exact add_sum_if_succ _ _ _ k
    · refine (step4_dv 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 _ _ _ ⟨k, hk⟩ q kk v g _ l dd h1 h2 h3 h5 h6 h7 h11 h12 ihC t e).trans (congrArg Real.toEReal ?_)
      exact add_sum_if_succ _ _ _ k

theorem loop4 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (G13 : BufTy.Contents (Elt Ideal) arg13.view.ty) (G14 : BufTy.Contents (Elt Ideal) arg14.view.ty) (G15 : BufTy.Contents (Elt Ideal) arg15.view.ty)
    (q kk v g : ℕ → ℕ → ℝ) (l dd : ℕ → ℕ → ℝ)
    (h1 : RealAt arg1.view X1 q) (h2 : RealAt arg2.view X2 kk) (h3 : RealAt arg3.view X3 v) (h5 : RealAt arg5.view X5 (fun t _ => l 0 t))
    (h6 : RealAt arg6.view X6 (fun t _ => l 1 t)) (h7 : RealAt arg7.view X7 g) (h11 : RealAt arg11.view X11 (fun t _ => dd 0 t))
    (h12 : RealAt arg12.view X12 (fun t _ => dd 1 t)) (A B C : ℕ → ℕ → ℝ) (hA : RealAt arg13.view G13 A) (hB : RealAt arg14.view G14 B) (hC : RealAt arg15.view G15 C) :
    RealAt arg13.view (acc4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 8).1 (fun t e => A t e + dqSum 1 q kk v g l dd t e)
      ∧ RealAt arg14.view (acc4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 8).2.1 (fun t e => B t e + dkSum 1 q kk v g l dd t e)
      ∧ RealAt arg15.view (acc4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 8).2.2 (fun t e => C t e + dvSum 1 q kk g l t e) := by
  obtain ⟨ihA, ihB, ihC⟩ := loop4_aux 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 q kk v g l dd h1 h2 h3 h5 h6 h7 h11 h12 A B C hA hB hC 8 le_rfl
  have hlt : ∀ t < 4096, t % 1024 / 128 < 8 := by intro t ht; omega
  refine ⟨fun t e => (ihA t e).trans (congrArg Real.toEReal ?_), fun t e => (ihB t e).trans (congrArg Real.toEReal ?_), fun t e => (ihC t e).trans (congrArg Real.toEReal ?_)⟩
  · exact congrArg (A t.val e.val + ·) (if_pos (hlt _ t.isLt))
  · exact congrArg (B t.val e.val + ·) (Finset.sum_congr rfl fun j hj => if_pos (hlt _ (Finset.mem_range.mp hj)))
  · exact congrArg (C t.val e.val + ·) (Finset.sum_congr rfl fun j hj => if_pos (hlt _ (Finset.mem_range.mp hj)))

end Cert.Proof.Value

end
-- ==== Proof.Value.Leaves.lean ====
/- What the body leaves in the results' buffers, when the inputs' hold real numbers. -/
module

public import proofs.«01_k».proof.Proof.Ideal.Launch
public import proofs.«01_k».proof.Proof.Value.Ends
public import proofs.«01_k».proof.Proof.Value.All2
public import proofs.«01_k».proof.Proof.Value.All3
public import proofs.«01_k».proof.Proof.Value.All4

@[expose] public section

set_option maxRecDepth 16384
set_option maxHeartbeats 4000000

noncomputable section

namespace Cert.Proof.Value

open Cert.KernelIdeal Cert.KernelIdeal.Gen Cert.Proof.KernelIdeal
open Idealize.ShloMosaic Idealize.ShloMosaic.TcCoe Idealize.ShloMosaic.Tactic
theorem acc2_8 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (G13 : BufTy.Contents (Elt Ideal) arg13.view.ty) (G14 : BufTy.Contents (Elt Ideal) arg14.view.ty) (G15 : BufTy.Contents (Elt Ideal) arg15.view.ty) :
    (acc2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 8) = next2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 7 (acc2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 7) := rfl

theorem acc3_8 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (G13 : BufTy.Contents (Elt Ideal) arg13.view.ty) (G14 : BufTy.Contents (Elt Ideal) arg14.view.ty) (G15 : BufTy.Contents (Elt Ideal) arg15.view.ty) :
    (acc3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 8) = next3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 7 (acc3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 7) := rfl

theorem acc4_8 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (G13 : BufTy.Contents (Elt Ideal) arg13.view.ty) (G14 : BufTy.Contents (Elt Ideal) arg14.view.ty) (G15 : BufTy.Contents (Elt Ideal) arg15.view.ty) :
    (acc4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 8) = next4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 7 (acc4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 X11 X12 G13 G14 G15 7) := rfl

/-- A block of the results holds the real numbers `x`. -/
abbrev IsReal (y : S4096x128.Idx → EReal) (x : ℕ → ℕ → ℝ) : Prop := ∀ (t : Fin 4096) (e : Fin 128), y (ix2 t e) = ((x t.val e.val : ℝ) : EReal)

theorem body_real (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (q kk v o g : ℕ → ℕ → ℝ) (l : ℕ → ℕ → ℝ)
    (h1 : RealAt arg1.view X1 q) (h2 : RealAt arg2.view X2 kk) (h3 : RealAt arg3.view X3 v) (h4 : RealAt arg4.view X4 o) (h5 : RealAt arg5.view X5 (fun t _ => l 0 t))
    (h6 : RealAt arg6.view X6 (fun t _ => l 1 t)) (h7 : RealAt arg7.view X7 g) :
    IsReal (arg8.view.read (Elt Ideal) (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 f8 f9 f10 f11 f12 f13 f14 f15).1) (fun t e => dqSum 16 q kk v g l (fun a t => dotp a (g t) (o t)) t e + dqSum 4 q kk v g l (fun a t => dotp a (g t) (o t)) t e + dqSum 1 q kk v g l (fun a t => dotp a (g t) (o t)) t e)
    ∧ IsReal (arg9.view.read (Elt Ideal) (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 f8 f9 f10 f11 f12 f13 f14 f15).2.1) (fun t e => dkSum 16 q kk v g l (fun a t => dotp a (g t) (o t)) t e + dkSum 4 q kk v g l (fun a t => dotp a (g t) (o t)) t e + dkSum 1 q kk v g l (fun a t => dotp a (g t) (o t)) t e)
    ∧ IsReal (arg10.view.read (Elt Ideal) (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 f8 f9 f10 f11 f12 f13 f14 f15).2.2.1) (fun t e => dvSum 16 q kk g l t e + dvSum 4 q kk g l t e + dvSum 1 q kk g l t e) := by
  unfold bodyRun; dsimp only
  rw [show Scf.trips (0#32) (Scalar.addi 0#32 16#32) 1#32 = 16 from by decide]
  have h11 := pre_11 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X4 X7 f11 o g h4 h7
  have h12 := pre_12 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X4 X7 f12 o g h4 h7
  generalize arg11.view.writes (Elt Ideal) f11 _ = D0 at h11 ⊢
  generalize arg12.view.writes (Elt Ideal) f12 _ = D1 at h12 ⊢
  generalize hz : acc2 (F := Ideal) _ _ _ _ _ _ _ _ _ _ _ _ _ _ _ _ _ _ _ _ _ _ _ _ _ _ _ _ _ _ _ _ _ _ _ _ _ _ _ _ _ _ _ _ _ _ = Z
  generalize hy : next2 (F := Ideal) _ _ _ _ _ _ _ _ _ _ _ _ _ _ _ _ _ _ _ _ _ _ _ _ _ _ _ _ _ _ _ _ _ _ _ _ _ _ _ _ _ _ _ _ = Y
  have hr := loop2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 D0 D1 f13 f14 f15 q kk v g l (fun a t => dotp a (g t) (o t)) h1 h2 h3 h5 h6 h7 h11 h12
  rw [acc2_8, hz, hy] at hr
  clear hz hy
  obtain ⟨ha, hb, hd⟩ := hr
  generalize hz : acc3 (F := Ideal) _ _ _ _ _ _ _ _ _ _ _ _ _ _ _ _ _ _ _ _ _ _ _ _ _ _ _ _ _ _ _ _ _ _ _ _ _ _ _ _ _ _ _ _ _ _ = Z3
  generalize hy : next3 (F := Ideal) _ _ _ _ _ _ _ _ _ _ _ _ _ _ _ _ _ _ _ _ _ _ _ _ _ _ _ _ _ _ _ _ _ _ _ _ _ _ _ _ _ _ _ _ = Y3
  have hr := loop3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 D0 D1 _ _ _ q kk v g l (fun a t => dotp a (g t) (o t)) h1 h2 h3 h5 h6 h7 h11 h12 _ _ _ ha hb hd
  rw [acc3_8, hz, hy] at hr
  clear hz hy
  clear ha hb hd
  obtain ⟨ha, hb, hd⟩ := hr
  rw [show Scf.trips (0#32) (Scalar.addi 0#32 8#32) 1#32 = 8 from by decide]
  have hr := loop4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X5 X6 X7 D0 D1 _ _ _ q kk v g l (fun a t => dotp a (g t) (o t)) h1 h2 h3 h5 h6 h7 h11 h12 _ _ _ ha hb hd
  clear ha hb hd
  obtain ⟨ha, hb, hd⟩ := hr
  exact ⟨fin_8 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ f8 _ ha, fin_9 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ f9 _ hb, fin_10 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ f10 _ hd⟩

/-- What the body leaves, when its inputs are real. -/
theorem leaves_real (c : Dev nD) (i : grid0.Coords) (x1 x2 x3 x4 x5 x6 x7 : Vec Ideal S4096x128 .f32) (y8 y9 y10 : Vec Ideal S4096x128 .bf16)
    (hl : Leaves (F := Ideal) c i x1 x2 x3 x4 x5 x6 x7 y8 y9 y10) (q kk v o g : ℕ → ℕ → ℝ) (l : ℕ → ℕ → ℝ) (h1 : IsReal x1 q) (h2 : IsReal x2 kk) (h3 : IsReal x3 v) (h4 : IsReal x4 o)
    (h5 : IsReal x5 (fun t _ => l 0 t)) (h6 : IsReal x6 (fun t _ => l 1 t)) (h7 : IsReal x7 g) :
    IsReal y8 (fun t e => dqSum 16 q kk v g l (fun a t => dotp a (g t) (o t)) t e + dqSum 4 q kk v g l (fun a t => dotp a (g t) (o t)) t e + dqSum 1 q kk v g l (fun a t => dotp a (g t) (o t)) t e)
    ∧ IsReal y9 (fun t e => dkSum 16 q kk v g l (fun a t => dotp a (g t) (o t)) t e + dkSum 4 q kk v g l (fun a t => dotp a (g t) (o t)) t e + dkSum 1 q kk v g l (fun a t => dotp a (g t) (o t)) t e)
    ∧ IsReal y10 (fun t e => dvSum 16 q kk g l t e + dvSum 4 q kk g l t e + dvSum 1 q kk g l t e) := by
  unfold Leaves at hl
  refine hl.elim fun arg1 hl => ?_
  refine hl.elim fun harg1 hl => ?_
  refine hl.elim fun arg2 hl => ?_
  refine hl.elim fun harg2 hl => ?_
  refine hl.elim fun arg3 hl => ?_
  refine hl.elim fun harg3 hl => ?_
  refine hl.elim fun arg4 hl => ?_
  refine hl.elim fun harg4 hl => ?_
  refine hl.elim fun arg5 hl => ?_
  refine hl.elim fun harg5 hl => ?_
  refine hl.elim fun arg6 hl => ?_
  refine hl.elim fun harg6 hl => ?_
  refine hl.elim fun arg7 hl => ?_
  refine hl.elim fun harg7 hl => ?_
  refine hl.elim fun arg8 hl => ?_
  refine hl.elim fun harg8 hl => ?_
  refine hl.elim fun arg9 hl => ?_
  refine hl.elim fun harg9 hl => ?_
  refine hl.elim fun arg10 hl => ?_
  refine hl.elim fun harg10 hl => ?_
  refine hl.elim fun arg11 hl => ?_
  refine hl.elim fun harg11 hl => ?_
  refine hl.elim fun arg12 hl => ?_
  refine hl.elim fun harg12 hl => ?_
  refine hl.elim fun arg13 hl => ?_
  refine hl.elim fun harg13 hl => ?_
  refine hl.elim fun arg14 hl => ?_
  refine hl.elim fun harg14 hl => ?_
  refine hl.elim fun arg15 hl => ?_
  refine hl.elim fun harg15 hl => ?_
  refine hl.elim fun X1 hl => ?_
  refine hl.elim fun X2 hl => ?_
  refine hl.elim fun X3 hl => ?_
  refine hl.elim fun X4 hl => ?_
  refine hl.elim fun X5 hl => ?_
  refine hl.elim fun X6 hl => ?_
  refine hl.elim fun X7 hl => ?_
  refine hl.elim fun f8 hl => ?_
  refine hl.elim fun f9 hl => ?_
  refine hl.elim fun f10 hl => ?_
  refine hl.elim fun f11 hl => ?_
  refine hl.elim fun f12 hl => ?_
  refine hl.elim fun f13 hl => ?_
  refine hl.elim fun f14 hl => ?_
  refine hl.elim fun f15 hl => ?_
  obtain ⟨e1, e2, e3, e4, e5, e6, e7, e8, e9, e10⟩ := hl
  rw [e8, e9, e10]
  exact body_real c i arg1 harg1 arg2 harg2 arg3 harg3 arg4 harg4 arg5 harg5 arg6 harg6 arg7 harg7 arg8 harg8 arg9 harg9 arg10 harg10 arg11 harg11 arg12 harg12 arg13 harg13 arg14 harg14 arg15 harg15 X1 X2 X3 X4 X5 X6 X7 f8 f9 f10 f11 f12 f13 f14 f15 q kk v o g l (fun t e => (congrFun e1 (ix2 t e)).trans (h1 t e)) (fun t e => (congrFun e2 (ix2 t e)).trans (h2 t e)) (fun t e => (congrFun e3 (ix2 t e)).trans (h3 t e))
    (fun t e => (congrFun e4 (ix2 t e)).trans (h4 t e)) (fun t e => (congrFun e5 (ix2 t e)).trans (h5 t e)) (fun t e => (congrFun e6 (ix2 t e)).trans (h6 t e)) (fun t e => (congrFun e7 (ix2 t e)).trans (h7 t e))

end Cert.Proof.Value

end
-- ==== Proof.Value.Agree.lean ====
/- The kernel's three sums and the reference's derivative are the same real numbers: the three patterns' weights added are the reference's multiplicity-weighted softmax,
   and the kernel's row statistic (the product of the output with its gradient) is the reference's correction of the scores' gradient. -/
module

public import proofs.«01_k».proof.Proof.Value.Ref
public import proofs.«01_k».proof.Proof.Value.Leaves

@[expose] public section

set_option maxRecDepth 16384
set_option maxHeartbeats 4000000

noncomputable section

namespace Cert.Proof.Value

/-- A head's product is the sum over its 64 lanes. -/
theorem dotp_eq (a : ℕ) (ha : a < 2) (x y : ℕ → ℝ) : dotp a x y = ∑ d : Fin 64, x (64 * a + d.val) * y (64 * a + d.val) := by
  have hs : dotp a x y = (∑ d : Fin 64, if d.val / 64 = a then x d.val * y d.val else 0) + ∑ d : Fin 64, if (64 + d.val) / 64 = a then x (64 + d.val) * y (64 + d.val) else 0 := by
    unfold dotp
    exact Fin.sum_univ_add (a := 64) (b := 64) fun e => if e.val / 64 = a then x e.val * y e.val else 0
  rw [hs]
  rcases (by omega : a = 0 ∨ a = 1) with rfl | rfl
  · rw [Finset.sum_congr rfl fun (d : Fin 64) _ => if_pos (by have := d.isLt; omega : d.val / 64 = 0),
      Finset.sum_congr (s₁ := Finset.univ) rfl fun (d : Fin 64) _ => if_neg (by have := d.isLt; omega : ¬ (64 + d.val) / 64 = 0), Finset.sum_const_zero, add_zero]
    refine Finset.sum_congr rfl fun d _ => ?_
    rw [show 64 * 0 + d.val = d.val by omega]
  · rw [Finset.sum_congr rfl fun (d : Fin 64) _ => if_neg (by have := d.isLt; omega : ¬ d.val / 64 = 1),
      Finset.sum_congr (s₁ := Finset.univ) rfl fun (d : Fin 64) _ => if_pos (by have := d.isLt; omega : (64 + d.val) / 64 = 1), Finset.sum_const_zero, zero_add]

section
variable (W M G : ℕ → ℕ → ℝ) (p : ℕ)

/-- The blocks the kernel reads for head pair `p`. -/
def kq (t e : ℕ) : ℝ := W t (128 * p + e)
def kk' (t e : ℕ) : ℝ := W t (512 + 128 * p + e)
def kv (t e : ℕ) : ℝ := W t (1024 + 128 * p + e)
def ko (t e : ℕ) : ℝ := ro W M ((128 * p + e) / 64) t ((128 * p + e) % 64)
def kg (t e : ℕ) : ℝ := G t (128 * p + e)
def kl (a t : ℕ) : ℝ := rl W M (2 * p + a) t
def kd (a t : ℕ) : ℝ := dotp a (kg G p t) (ko W M p t)

/-- A weight without its mask. -/
def ku (a t j : ℕ) : ℝ := Real.exp (rs W (2 * p + a) t j - rl W M (2 * p + a) t)

theorem score_eq (a t j : ℕ) (ha : a < 2) : dotp a (fun e => kq W p t e * 0.125) (kk' W p j) = rs W (2 * p + a) t j := by
  rw [dotp_eq a ha]
  unfold rs kq kk'
  rw [Finset.sum_mul]
  refine Finset.sum_congr rfl fun d _ => ?_
  rw [show 128 * p + (64 * a + d.val) = 64 * (2 * p + a) + d.val by ring, show 512 + 128 * p + (64 * a + d.val) = 512 + 64 * (2 * p + a) + d.val by ring]
  ring

theorem wt_eq (d a t j : ℕ) (ha : a < 2) : wt d (kq W p) (kk' W p) (kl W M p) a t j = (if Sees d t j then 1 else 0) * ku W M p a t j := by
  unfold wt
  rw [score_eq W p a t j ha]
  by_cases h : Sees d t j
  · rw [if_pos h, if_pos h, one_mul]; rfl
  · rw [if_neg h, if_neg h, zero_mul]

/-- The three patterns' weights added. -/
theorem tm_ku (a t j : ℕ) (ht : t < 4096) : tm t j * ku W M p a t j = rp W M (2 * p + a) t j / rden W M (2 * p + a) t := by
  unfold rp rE
  by_cases h : 0 < tm t j
  · rw [if_pos h]
    unfold ku rl
    rw [show rs W (2 * p + a) t j - (M (2 * p + a) t + Real.log (rden W M (2 * p + a) t)) = (rs W (2 * p + a) t j - M (2 * p + a) t) - Real.log (rden W M (2 * p + a) t) by ring,
      Real.exp_sub, Real.exp_log (rden_pos W M _ t ht)]
    ring
  · have hz : tm t j = 0 := le_antisymm (not_lt.mp h) (tm_nonneg t j)
    rw [hz]; simp

theorem wt_sum (a t j : ℕ) (ha : a < 2) (ht : t < 4096) :
    wt 16 (kq W p) (kk' W p) (kl W M p) a t j + wt 4 (kq W p) (kk' W p) (kl W M p) a t j + wt 1 (kq W p) (kk' W p) (kl W M p) a t j
      = rp W M (2 * p + a) t j / rden W M (2 * p + a) t := by
  rw [← tm_ku W M p a t j ht, wt_eq W M p 16 a t j ha, wt_eq W M p 4 a t j ha, wt_eq W M p 1 a t j ha]
  unfold tm
  ring

theorem gv_eq (a t j : ℕ) (ha : a < 2) : dotp a (kg G p t) (kv W p j) = ∑ d : Fin 64, G t (64 * (2 * p + a) + d.val) * W j (1024 + 64 * (2 * p + a) + d.val) := by
  rw [dotp_eq a ha]
  unfold kg kv
  refine Finset.sum_congr rfl fun d _ => ?_
  rw [show 128 * p + (64 * a + d.val) = 64 * (2 * p + a) + d.val by ring, show 1024 + 128 * p + (64 * a + d.val) = 1024 + 64 * (2 * p + a) + d.val by ring]

theorem kd_eq (a t : ℕ) (ha : a < 2) : kd W M G p a t = ∑ d : Fin 64, G t (64 * (2 * p + a) + d.val) * (rnum W M (2 * p + a) t d.val / rden W M (2 * p + a) t) := by
  unfold kd
  rw [dotp_eq a ha]
  unfold kg ko
  refine Finset.sum_congr rfl fun d _ => ?_
  have hd : d.val < 64 := d.isLt
  rw [show (128 * p + (64 * a + d.val)) / 64 = 2 * p + a by omega, show (128 * p + (64 * a + d.val)) % 64 = d.val by omega,
    show 128 * p + (64 * a + d.val) = 64 * (2 * p + a) + d.val by ring]
  rfl

theorem ds_sum (a t j : ℕ) (ha : a < 2) (ht : t < 4096) :
    ds 16 (kq W p) (kk' W p) (kv W p) (kg G p) (kl W M p) (kd W M G p) a t j + ds 4 (kq W p) (kk' W p) (kv W p) (kg G p) (kl W M p) (kd W M G p) a t j
      + ds 1 (kq W p) (kk' W p) (kv W p) (kg G p) (kl W M p) (kd W M G p) a t j = rds W M G (2 * p + a) t j := by
  have hw := wt_sum W M p a t j ha ht
  have hne : rden W M (2 * p + a) t ≠ 0 := (rden_pos W M _ t ht).ne'
  unfold ds
  rw [← add_mul, ← add_mul, ← add_mul, ← add_mul, hw, gv_eq W G p a t j ha, kd_eq W M G p a t ha]
  unfold rds
  have h1 : rgv W M G (2 * p + a) t j = (∑ d : Fin 64, G t (64 * (2 * p + a) + d.val) * W j (1024 + 64 * (2 * p + a) + d.val)) / rden W M (2 * p + a) t := by
    unfold rgv
    rw [Finset.sum_div]
    exact Finset.sum_congr rfl fun d _ => by ring
  have h2 : rc W M G (2 * p + a) t = (∑ d : Fin 64, G t (64 * (2 * p + a) + d.val) * (rnum W M (2 * p + a) t d.val / rden W M (2 * p + a) t)) / rden W M (2 * p + a) t := by
    unfold rc
    rw [Finset.sum_div]
    exact Finset.sum_congr rfl fun d _ => by ring
  rw [h1, h2]
  unfold rp
  ring

theorem dq_eq (t e : ℕ) (he : e < 128) (ht : t < 4096) :
    dqSum 16 (kq W p) (kk' W p) (kv W p) (kg G p) (kl W M p) (kd W M G p) t e + dqSum 4 (kq W p) (kk' W p) (kv W p) (kg G p) (kl W M p) (kd W M G p) t e
      + dqSum 1 (kq W p) (kk' W p) (kv W p) (kg G p) (kl W M p) (kd W M G p) t e = rdq W M G ((128 * p + e) / 64) t ((128 * p + e) % 64) := by
  unfold dqSum rdq
  rw [← Finset.sum_add_distrib, ← Finset.sum_add_distrib, Finset.sum_range]
  refine Finset.sum_congr rfl fun j _ => ?_
  rw [← add_mul, ← add_mul, ds_sum W M G p (e / 64) t j.val (by omega) ht]
  unfold kk'
  rw [show (128 * p + e) / 64 = 2 * p + e / 64 by omega, show 512 + 64 * (2 * p + e / 64) + (128 * p + e) % 64 = 512 + 128 * p + e by omega]

theorem dk_eq (j e : ℕ) (he : e < 128) :
    dkSum 16 (kq W p) (kk' W p) (kv W p) (kg G p) (kl W M p) (kd W M G p) j e + dkSum 4 (kq W p) (kk' W p) (kv W p) (kg G p) (kl W M p) (kd W M G p) j e
      + dkSum 1 (kq W p) (kk' W p) (kv W p) (kg G p) (kl W M p) (kd W M G p) j e = rdk W M G ((128 * p + e) / 64) j ((128 * p + e) % 64) := by
  unfold dkSum rdk
  rw [← Finset.sum_add_distrib, ← Finset.sum_add_distrib, Finset.sum_range]
  refine Finset.sum_congr rfl fun t _ => ?_
  rw [← add_mul, ← add_mul, ds_sum W M G p (e / 64) t.val j (by omega) t.isLt]
  unfold kq
  rw [show (128 * p + e) / 64 = 2 * p + e / 64 by omega, show 64 * (2 * p + e / 64) + (128 * p + e) % 64 = 128 * p + e by omega]

theorem dv_eq (j e : ℕ) (he : e < 128) :
    dvSum 16 (kq W p) (kk' W p) (kg G p) (kl W M p) j e + dvSum 4 (kq W p) (kk' W p) (kg G p) (kl W M p) j e + dvSum 1 (kq W p) (kk' W p) (kg G p) (kl W M p) j e
      = rdv W M G ((128 * p + e) / 64) j ((128 * p + e) % 64) := by
  unfold dvSum rdv
  rw [← Finset.sum_add_distrib, ← Finset.sum_add_distrib, Finset.sum_range]
  refine Finset.sum_congr rfl fun t _ => ?_
  rw [← add_mul, ← add_mul, wt_sum W M p (e / 64) t.val j (by omega) t.isLt]
  unfold kg
  rw [show (128 * p + e) / 64 = 2 * p + e / 64 by omega, show 64 * (2 * p + e / 64) + (128 * p + e) % 64 = 128 * p + e by omega]
  ring

end

end Cert.Proof.Value

end
-- ==== Proof.Value.Host.lean ====
/- What the host computes before the kernel starts: the forward pass the kernel's inputs come from, as the values of the reference's own forward operations. -/
module

public import proofs.«01_k».proof.Proof.Gen.KernelIdeal.Frame
public import proofs.«01_k».proof.Proof.Gen.ReferenceIdeal.Read

@[expose] public section

set_option maxRecDepth 16384
set_option maxHeartbeats 4000000

noncomputable section

namespace Cert.Proof.Value.Host

open Cert.KernelIdeal Cert.KernelIdeal.Gen
open Idealize.ShloMosaic Idealize.ShloMosaic.TcCoe Idealize.ShloMosaic.Tactic Idealize.ShloMosaic.StableHlo
open Cert.ReferenceIdeal.Read

variable {F : FTy → Type} [FloatOps F] [Named F]

/-- The device's buffers after a list of host operations. -/
abbrev run (ops : List (HloOp τ sig (Elt F))) (W : Valuation τ sig (Elt F)) : Valuation τ sig (Elt F) := after ops W

theorem c0_v2 (W : Valuation τ sig (Elt F)) (x : (⟨S4096x1536, .f32⟩ : BufTy).Contents (Elt F)) (hx : W (Proc.devRef .tc main_arg0) = x) : run hostOps0 W (Proc.devRef .tc main_v2) = val_main_v2 (F := F) x := by
  simp only [hostOps0, TRef.binary, TRef.nullary, TRef.ternary, TRef.unary, TRef.toBuf, TRef.ofBuf, cast_eq]
  after_results_simp
  all_goals first | rfl | (simp only [hx] <;> rfl)

theorem c0_v5 (W : Valuation τ sig (Elt F)) (x : (⟨S4096x1536, .f32⟩ : BufTy).Contents (Elt F)) (hx : W (Proc.devRef .tc main_arg0) = x) : run hostOps0 W (Proc.devRef .tc main_v5) = val_main_v5 (F := F) x := by
  simp only [hostOps0, TRef.binary, TRef.nullary, TRef.ternary, TRef.unary, TRef.toBuf, TRef.ofBuf, cast_eq]
  after_results_simp
  all_goals first | rfl | (simp only [hx] <;> rfl)

theorem c0_v8 (W : Valuation τ sig (Elt F)) (x : (⟨S4096x1536, .f32⟩ : BufTy).Contents (Elt F)) (hx : W (Proc.devRef .tc main_arg0) = x) : run hostOps0 W (Proc.devRef .tc main_v8) = val_main_v8 (F := F) x := by
  simp only [hostOps0, TRef.binary, TRef.nullary, TRef.ternary, TRef.unary, TRef.toBuf, TRef.ofBuf, cast_eq]
  after_results_simp
  all_goals first | rfl | (simp only [hx] <;> rfl)

theorem c0_v15 (W : Valuation τ sig (Elt F)) (x : (⟨S4096x1536, .f32⟩ : BufTy).Contents (Elt F)) (hx : W (Proc.devRef .tc main_arg0) = x) : run hostOps0 W (Proc.devRef .tc main_v15) = val_main_v15 (F := F) := by
  simp only [hostOps0, TRef.binary, TRef.nullary, TRef.ternary, TRef.unary, TRef.toBuf, TRef.ofBuf, cast_eq]
  after_results_simp
  all_goals first | rfl | (simp only [hx] <;> rfl)

theorem c0_v20 (W : Valuation τ sig (Elt F)) (x : (⟨S4096x1536, .f32⟩ : BufTy).Contents (Elt F)) (hx : W (Proc.devRef .tc main_arg0) = x) : run hostOps0 W (Proc.devRef .tc main_v20) = val_main_v20 (F := F) := by
  simp only [hostOps0, TRef.binary, TRef.nullary, TRef.ternary, TRef.unary, TRef.toBuf, TRef.ofBuf, cast_eq]
  after_results_simp
  all_goals first | rfl | (simp only [hx] <;> rfl)

theorem c0_c_1 (W : Valuation τ sig (Elt F)) (x : (⟨S4096x1536, .f32⟩ : BufTy).Contents (Elt F)) (hx : W (Proc.devRef .tc main_arg0) = x) : run hostOps0 W (Proc.devRef .tc main_c_1) = val_main_c_1 (F := F) := by
  simp only [hostOps0, TRef.binary, TRef.nullary, TRef.ternary, TRef.unary, TRef.toBuf, TRef.ofBuf, cast_eq]
  after_results_simp
  all_goals first | rfl | (simp only [hx] <;> rfl)

theorem c1_v21 (W : Valuation τ sig (Elt F)) (x : (⟨S4096x1536, .f32⟩ : BufTy).Contents (Elt F)) (hv15 : W (Proc.devRef .tc main_v15) = val_main_v15 (F := F)) (hc_1 : W (Proc.devRef .tc main_c_1) = val_main_c_1 (F := F)) : run hostOps0_1 W (Proc.devRef .tc main_v21) = val_main_v21 (F := F) := by
  simp only [hostOps0_1, TRef.binary, TRef.nullary, TRef.ternary, TRef.unary, TRef.toBuf, TRef.ofBuf, cast_eq]
  after_results_simp
  all_goals first | rfl | (simp only [hv15, hc_1] <;> rfl)

theorem k1_v2 (W : Valuation τ sig (Elt F)) : run hostOps0_1 W (Proc.devRef .tc main_v2) = W (Proc.devRef .tc main_v2) := by
  simp only [hostOps0_1, TRef.binary, TRef.nullary, TRef.ternary, TRef.unary, TRef.toBuf, TRef.ofBuf, cast_eq]
  after_results_simp

theorem k1_v5 (W : Valuation τ sig (Elt F)) : run hostOps0_1 W (Proc.devRef .tc main_v5) = W (Proc.devRef .tc main_v5) := by
  simp only [hostOps0_1, TRef.binary, TRef.nullary, TRef.ternary, TRef.unary, TRef.toBuf, TRef.ofBuf, cast_eq]
  after_results_simp

theorem k1_v8 (W : Valuation τ sig (Elt F)) : run hostOps0_1 W (Proc.devRef .tc main_v8) = W (Proc.devRef .tc main_v8) := by
  simp only [hostOps0_1, TRef.binary, TRef.nullary, TRef.ternary, TRef.unary, TRef.toBuf, TRef.ofBuf, cast_eq]
  after_results_simp

theorem k1_v20 (W : Valuation τ sig (Elt F)) : run hostOps0_1 W (Proc.devRef .tc main_v20) = W (Proc.devRef .tc main_v20) := by
  simp only [hostOps0_1, TRef.binary, TRef.nullary, TRef.ternary, TRef.unary, TRef.toBuf, TRef.ofBuf, cast_eq]
  after_results_simp

theorem c2_v27 (W : Valuation τ sig (Elt F)) (x : (⟨S4096x1536, .f32⟩ : BufTy).Contents (Elt F)) (hv20 : W (Proc.devRef .tc main_v20) = val_main_v20 (F := F)) (hv21 : W (Proc.devRef .tc main_v21) = val_main_v21 (F := F)) : run hostOps0_2 W (Proc.devRef .tc main_v27) = val_main_v27 (F := F) := by
  simp only [hostOps0_2, TRef.binary, TRef.nullary, TRef.ternary, TRef.unary, TRef.toBuf, TRef.ofBuf, cast_eq]
  after_results_simp
  all_goals first | rfl | (simp only [hv20, hv21] <;> rfl)

theorem c2_v34 (W : Valuation τ sig (Elt F)) (x : (⟨S4096x1536, .f32⟩ : BufTy).Contents (Elt F)) (hv20 : W (Proc.devRef .tc main_v20) = val_main_v20 (F := F)) (hv21 : W (Proc.devRef .tc main_v21) = val_main_v21 (F := F)) : run hostOps0_2 W (Proc.devRef .tc main_v34) = val_main_v34 (F := F) := by
  simp only [hostOps0_2, TRef.binary, TRef.nullary, TRef.ternary, TRef.unary, TRef.toBuf, TRef.ofBuf, cast_eq]
  after_results_simp
  all_goals first | rfl | (simp only [hv20, hv21] <;> rfl)

theorem c2_v39 (W : Valuation τ sig (Elt F)) (x : (⟨S4096x1536, .f32⟩ : BufTy).Contents (Elt F)) (hv20 : W (Proc.devRef .tc main_v20) = val_main_v20 (F := F)) (hv21 : W (Proc.devRef .tc main_v21) = val_main_v21 (F := F)) : run hostOps0_2 W (Proc.devRef .tc main_v39) = val_main_v39 (F := F) := by
  simp only [hostOps0_2, TRef.binary, TRef.nullary, TRef.ternary, TRef.unary, TRef.toBuf, TRef.ofBuf, cast_eq]
  after_results_simp
  all_goals first | rfl | (simp only [hv20, hv21] <;> rfl)

theorem c2_c_5 (W : Valuation τ sig (Elt F)) (x : (⟨S4096x1536, .f32⟩ : BufTy).Contents (Elt F)) (hv20 : W (Proc.devRef .tc main_v20) = val_main_v20 (F := F)) (hv21 : W (Proc.devRef .tc main_v21) = val_main_v21 (F := F)) : run hostOps0_2 W (Proc.devRef .tc main_c_5) = val_main_c_5 (F := F) := by
  simp only [hostOps0_2, TRef.binary, TRef.nullary, TRef.ternary, TRef.unary, TRef.toBuf, TRef.ofBuf, cast_eq]
  after_results_simp
  all_goals first | rfl | (simp only [hv20, hv21] <;> rfl)

theorem k2_v2 (W : Valuation τ sig (Elt F)) : run hostOps0_2 W (Proc.devRef .tc main_v2) = W (Proc.devRef .tc main_v2) := by
  simp only [hostOps0_2, TRef.binary, TRef.nullary, TRef.ternary, TRef.unary, TRef.toBuf, TRef.ofBuf, cast_eq]
  after_results_simp

theorem k2_v5 (W : Valuation τ sig (Elt F)) : run hostOps0_2 W (Proc.devRef .tc main_v5) = W (Proc.devRef .tc main_v5) := by
  simp only [hostOps0_2, TRef.binary, TRef.nullary, TRef.ternary, TRef.unary, TRef.toBuf, TRef.ofBuf, cast_eq]
  after_results_simp

theorem k2_v8 (W : Valuation τ sig (Elt F)) : run hostOps0_2 W (Proc.devRef .tc main_v8) = W (Proc.devRef .tc main_v8) := by
  simp only [hostOps0_2, TRef.binary, TRef.nullary, TRef.ternary, TRef.unary, TRef.toBuf, TRef.ofBuf, cast_eq]
  after_results_simp

theorem c3_v40 (W : Valuation τ sig (Elt F)) (x : (⟨S4096x1536, .f32⟩ : BufTy).Contents (Elt F)) (hv34 : W (Proc.devRef .tc main_v34) = val_main_v34 (F := F)) (hc_5 : W (Proc.devRef .tc main_c_5) = val_main_c_5 (F := F)) : run hostOps0_3 W (Proc.devRef .tc main_v40) = val_main_v40 (F := F) := by
  simp only [hostOps0_3, TRef.binary, TRef.nullary, TRef.ternary, TRef.unary, TRef.toBuf, TRef.ofBuf, cast_eq]
  after_results_simp
  all_goals first | rfl | (simp only [hv34, hc_5] <;> rfl)

theorem k3_v2 (W : Valuation τ sig (Elt F)) : run hostOps0_3 W (Proc.devRef .tc main_v2) = W (Proc.devRef .tc main_v2) := by
  simp only [hostOps0_3, TRef.binary, TRef.nullary, TRef.ternary, TRef.unary, TRef.toBuf, TRef.ofBuf, cast_eq]
  after_results_simp

theorem k3_v5 (W : Valuation τ sig (Elt F)) : run hostOps0_3 W (Proc.devRef .tc main_v5) = W (Proc.devRef .tc main_v5) := by
  simp only [hostOps0_3, TRef.binary, TRef.nullary, TRef.ternary, TRef.unary, TRef.toBuf, TRef.ofBuf, cast_eq]
  after_results_simp

theorem k3_v8 (W : Valuation τ sig (Elt F)) : run hostOps0_3 W (Proc.devRef .tc main_v8) = W (Proc.devRef .tc main_v8) := by
  simp only [hostOps0_3, TRef.binary, TRef.nullary, TRef.ternary, TRef.unary, TRef.toBuf, TRef.ofBuf, cast_eq]
  after_results_simp

theorem k3_v27 (W : Valuation τ sig (Elt F)) : run hostOps0_3 W (Proc.devRef .tc main_v27) = W (Proc.devRef .tc main_v27) := by
  simp only [hostOps0_3, TRef.binary, TRef.nullary, TRef.ternary, TRef.unary, TRef.toBuf, TRef.ofBuf, cast_eq]
  after_results_simp

theorem k3_v39 (W : Valuation τ sig (Elt F)) : run hostOps0_3 W (Proc.devRef .tc main_v39) = W (Proc.devRef .tc main_v39) := by
  simp only [hostOps0_3, TRef.binary, TRef.nullary, TRef.ternary, TRef.unary, TRef.toBuf, TRef.ofBuf, cast_eq]
  after_results_simp

theorem c4_v45 (W : Valuation τ sig (Elt F)) (x : (⟨S4096x1536, .f32⟩ : BufTy).Contents (Elt F)) (hv27 : W (Proc.devRef .tc main_v27) = val_main_v27 (F := F)) (hv39 : W (Proc.devRef .tc main_v39) = val_main_v39 (F := F)) (hv40 : W (Proc.devRef .tc main_v40) = val_main_v40 (F := F)) : run hostOps0_4 W (Proc.devRef .tc main_v45) = val_main_v45 (F := F) := by
  simp only [hostOps0_4, TRef.binary, TRef.nullary, TRef.ternary, TRef.unary, TRef.toBuf, TRef.ofBuf, cast_eq]
  after_results_simp
  all_goals first | rfl | (simp only [hv27, hv39, hv40] <;> rfl)

theorem c4_v52 (W : Valuation τ sig (Elt F)) (x : (⟨S4096x1536, .f32⟩ : BufTy).Contents (Elt F)) (hv27 : W (Proc.devRef .tc main_v27) = val_main_v27 (F := F)) (hv39 : W (Proc.devRef .tc main_v39) = val_main_v39 (F := F)) (hv40 : W (Proc.devRef .tc main_v40) = val_main_v40 (F := F)) : run hostOps0_4 W (Proc.devRef .tc main_v52) = val_main_v52 (F := F) := by
  simp only [hostOps0_4, TRef.binary, TRef.nullary, TRef.ternary, TRef.unary, TRef.toBuf, TRef.ofBuf, cast_eq]
  after_results_simp
  all_goals first | rfl | (simp only [hv27, hv39, hv40] <;> rfl)

theorem c4_v57 (W : Valuation τ sig (Elt F)) (x : (⟨S4096x1536, .f32⟩ : BufTy).Contents (Elt F)) (hv27 : W (Proc.devRef .tc main_v27) = val_main_v27 (F := F)) (hv39 : W (Proc.devRef .tc main_v39) = val_main_v39 (F := F)) (hv40 : W (Proc.devRef .tc main_v40) = val_main_v40 (F := F)) : run hostOps0_4 W (Proc.devRef .tc main_v57) = val_main_v57 (F := F) := by
  simp only [hostOps0_4, TRef.binary, TRef.nullary, TRef.ternary, TRef.unary, TRef.toBuf, TRef.ofBuf, cast_eq]
  after_results_simp
  all_goals first | rfl | (simp only [hv27, hv39, hv40] <;> rfl)

theorem c4_c_9 (W : Valuation τ sig (Elt F)) (x : (⟨S4096x1536, .f32⟩ : BufTy).Contents (Elt F)) (hv27 : W (Proc.devRef .tc main_v27) = val_main_v27 (F := F)) (hv39 : W (Proc.devRef .tc main_v39) = val_main_v39 (F := F)) (hv40 : W (Proc.devRef .tc main_v40) = val_main_v40 (F := F)) : run hostOps0_4 W (Proc.devRef .tc main_c_9) = val_main_c_9 (F := F) := by
  simp only [hostOps0_4, TRef.binary, TRef.nullary, TRef.ternary, TRef.unary, TRef.toBuf, TRef.ofBuf, cast_eq]
  after_results_simp
  all_goals first | rfl | (simp only [hv27, hv39, hv40] <;> rfl)

theorem k4_v2 (W : Valuation τ sig (Elt F)) : run hostOps0_4 W (Proc.devRef .tc main_v2) = W (Proc.devRef .tc main_v2) := by
  simp only [hostOps0_4, TRef.binary, TRef.nullary, TRef.ternary, TRef.unary, TRef.toBuf, TRef.ofBuf, cast_eq]
  after_results_simp

theorem k4_v5 (W : Valuation τ sig (Elt F)) : run hostOps0_4 W (Proc.devRef .tc main_v5) = W (Proc.devRef .tc main_v5) := by
  simp only [hostOps0_4, TRef.binary, TRef.nullary, TRef.ternary, TRef.unary, TRef.toBuf, TRef.ofBuf, cast_eq]
  after_results_simp

theorem k4_v8 (W : Valuation τ sig (Elt F)) : run hostOps0_4 W (Proc.devRef .tc main_v8) = W (Proc.devRef .tc main_v8) := by
  simp only [hostOps0_4, TRef.binary, TRef.nullary, TRef.ternary, TRef.unary, TRef.toBuf, TRef.ofBuf, cast_eq]
  after_results_simp

theorem c5_v58 (W : Valuation τ sig (Elt F)) (x : (⟨S4096x1536, .f32⟩ : BufTy).Contents (Elt F)) (hv52 : W (Proc.devRef .tc main_v52) = val_main_v52 (F := F)) (hc_9 : W (Proc.devRef .tc main_c_9) = val_main_c_9 (F := F)) : run hostOps0_5 W (Proc.devRef .tc main_v58) = val_main_v58 (F := F) := by
  simp only [hostOps0_5, TRef.binary, TRef.nullary, TRef.ternary, TRef.unary, TRef.toBuf, TRef.ofBuf, cast_eq]
  after_results_simp
  all_goals first | rfl | (simp only [hv52, hc_9] <;> rfl)

theorem k5_v2 (W : Valuation τ sig (Elt F)) : run hostOps0_5 W (Proc.devRef .tc main_v2) = W (Proc.devRef .tc main_v2) := by
  simp only [hostOps0_5, TRef.binary, TRef.nullary, TRef.ternary, TRef.unary, TRef.toBuf, TRef.ofBuf, cast_eq]
  after_results_simp

theorem k5_v5 (W : Valuation τ sig (Elt F)) : run hostOps0_5 W (Proc.devRef .tc main_v5) = W (Proc.devRef .tc main_v5) := by
  simp only [hostOps0_5, TRef.binary, TRef.nullary, TRef.ternary, TRef.unary, TRef.toBuf, TRef.ofBuf, cast_eq]
  after_results_simp

theorem k5_v8 (W : Valuation τ sig (Elt F)) : run hostOps0_5 W (Proc.devRef .tc main_v8) = W (Proc.devRef .tc main_v8) := by
  simp only [hostOps0_5, TRef.binary, TRef.nullary, TRef.ternary, TRef.unary, TRef.toBuf, TRef.ofBuf, cast_eq]
  after_results_simp

theorem k5_v45 (W : Valuation τ sig (Elt F)) : run hostOps0_5 W (Proc.devRef .tc main_v45) = W (Proc.devRef .tc main_v45) := by
  simp only [hostOps0_5, TRef.binary, TRef.nullary, TRef.ternary, TRef.unary, TRef.toBuf, TRef.ofBuf, cast_eq]
  after_results_simp

theorem k5_v57 (W : Valuation τ sig (Elt F)) : run hostOps0_5 W (Proc.devRef .tc main_v57) = W (Proc.devRef .tc main_v57) := by
  simp only [hostOps0_5, TRef.binary, TRef.nullary, TRef.ternary, TRef.unary, TRef.toBuf, TRef.ofBuf, cast_eq]
  after_results_simp

theorem c6_v63 (W : Valuation τ sig (Elt F)) (x : (⟨S4096x1536, .f32⟩ : BufTy).Contents (Elt F)) (hv2 : W (Proc.devRef .tc main_v2) = val_main_v2 (F := F) x) (hv5 : W (Proc.devRef .tc main_v5) = val_main_v5 (F := F) x) (hv45 : W (Proc.devRef .tc main_v45) = val_main_v45 (F := F)) (hv57 : W (Proc.devRef .tc main_v57) = val_main_v57 (F := F)) (hv58 : W (Proc.devRef .tc main_v58) = val_main_v58 (F := F)) : run hostOps0_6 W (Proc.devRef .tc main_v63) = val_main_v63 (F := F) := by
  simp only [hostOps0_6, TRef.binary, TRef.nullary, TRef.ternary, TRef.unary, TRef.toBuf, TRef.ofBuf, cast_eq]
  after_results_simp
  all_goals first | rfl | (simp only [hv2, hv5, hv45, hv57, hv58] <;> rfl)

theorem c6_v66 (W : Valuation τ sig (Elt F)) (x : (⟨S4096x1536, .f32⟩ : BufTy).Contents (Elt F)) (hv2 : W (Proc.devRef .tc main_v2) = val_main_v2 (F := F) x) (hv5 : W (Proc.devRef .tc main_v5) = val_main_v5 (F := F) x) (hv45 : W (Proc.devRef .tc main_v45) = val_main_v45 (F := F)) (hv57 : W (Proc.devRef .tc main_v57) = val_main_v57 (F := F)) (hv58 : W (Proc.devRef .tc main_v58) = val_main_v58 (F := F)) : run hostOps0_6 W (Proc.devRef .tc main_v66) = val_main_v66 (F := F) x := by
  simp only [hostOps0_6, TRef.binary, TRef.nullary, TRef.ternary, TRef.unary, TRef.toBuf, TRef.ofBuf, cast_eq]
  after_results_simp
  all_goals first | rfl | (simp only [hv2, hv5, hv45, hv57, hv58] <;> rfl)

theorem c6_v68 (W : Valuation τ sig (Elt F)) (x : (⟨S4096x1536, .f32⟩ : BufTy).Contents (Elt F)) (hv2 : W (Proc.devRef .tc main_v2) = val_main_v2 (F := F) x) (hv5 : W (Proc.devRef .tc main_v5) = val_main_v5 (F := F) x) (hv45 : W (Proc.devRef .tc main_v45) = val_main_v45 (F := F)) (hv57 : W (Proc.devRef .tc main_v57) = val_main_v57 (F := F)) (hv58 : W (Proc.devRef .tc main_v58) = val_main_v58 (F := F)) : run hostOps0_6 W (Proc.devRef .tc main_v68) = val_main_v68 (F := F) := by
  simp only [hostOps0_6, TRef.binary, TRef.nullary, TRef.ternary, TRef.unary, TRef.toBuf, TRef.ofBuf, cast_eq]
  after_results_simp
  all_goals first | rfl | (simp only [hv2, hv5, hv45, hv57, hv58] <;> rfl)

theorem c6_cst_13 (W : Valuation τ sig (Elt F)) (x : (⟨S4096x1536, .f32⟩ : BufTy).Contents (Elt F)) (hv2 : W (Proc.devRef .tc main_v2) = val_main_v2 (F := F) x) (hv5 : W (Proc.devRef .tc main_v5) = val_main_v5 (F := F) x) (hv45 : W (Proc.devRef .tc main_v45) = val_main_v45 (F := F)) (hv57 : W (Proc.devRef .tc main_v57) = val_main_v57 (F := F)) (hv58 : W (Proc.devRef .tc main_v58) = val_main_v58 (F := F)) : run hostOps0_6 W (Proc.devRef .tc main_cst_13) = val_main_cst_13 (F := F) := by
  simp only [hostOps0_6, TRef.binary, TRef.nullary, TRef.ternary, TRef.unary, TRef.toBuf, TRef.ofBuf, cast_eq]
  after_results_simp
  all_goals first | rfl | (simp only [hv2, hv5, hv45, hv57, hv58] <;> rfl)

theorem k6_v8 (W : Valuation τ sig (Elt F)) : run hostOps0_6 W (Proc.devRef .tc main_v8) = W (Proc.devRef .tc main_v8) := by
  simp only [hostOps0_6, TRef.binary, TRef.nullary, TRef.ternary, TRef.unary, TRef.toBuf, TRef.ofBuf, cast_eq]
  after_results_simp

theorem c7_v69 (W : Valuation τ sig (Elt F)) (x : (⟨S4096x1536, .f32⟩ : BufTy).Contents (Elt F)) (hv66 : W (Proc.devRef .tc main_v66) = val_main_v66 (F := F) x) (hv68 : W (Proc.devRef .tc main_v68) = val_main_v68 (F := F)) (hcst_13 : W (Proc.devRef .tc main_cst_13) = val_main_cst_13 (F := F)) : run hostOps0_7 W (Proc.devRef .tc main_v69) = val_main_v69_0 (F := F) x := by
  simp only [hostOps0_7, TRef.binary, TRef.nullary, TRef.ternary, TRef.unary, TRef.toBuf, TRef.ofBuf, cast_eq]
  after_results_simp
  all_goals first | rfl | (simp only [hv66, hv68, hcst_13] <;> rfl)

theorem k7_v8 (W : Valuation τ sig (Elt F)) : run hostOps0_7 W (Proc.devRef .tc main_v8) = W (Proc.devRef .tc main_v8) := by
  simp only [hostOps0_7, TRef.binary, TRef.nullary, TRef.ternary, TRef.unary, TRef.toBuf, TRef.ofBuf, cast_eq]
  after_results_simp

theorem k7_v63 (W : Valuation τ sig (Elt F)) : run hostOps0_7 W (Proc.devRef .tc main_v63) = W (Proc.devRef .tc main_v63) := by
  simp only [hostOps0_7, TRef.binary, TRef.nullary, TRef.ternary, TRef.unary, TRef.toBuf, TRef.ofBuf, cast_eq]
  after_results_simp

end Cert.Proof.Value.Host

end
-- ==== Proof.Value.Host8.lean ====
/- What the host computes before the kernel starts: the forward pass the kernel's inputs come from, all of them composed, as the values of the reference's own forward operations. -/
module

public import proofs.«01_k».proof.Proof.Value.Host

@[expose] public section

set_option maxRecDepth 16384
set_option maxHeartbeats 4000000

noncomputable section

namespace Cert.Proof.Value.Host

open Cert.KernelIdeal Cert.KernelIdeal.Gen
open Idealize.ShloMosaic Idealize.ShloMosaic.TcCoe Idealize.ShloMosaic.Tactic Idealize.ShloMosaic.StableHlo
open Cert.ReferenceIdeal.Read

variable {F : FTy → Type} [FloatOps F] [Named F]

/-- The row statistics of every second head from head `a` on, each spread over the 128 lanes of its head pair. -/
def lanes (a : ℕ) (hs : S8x4096.SlicesBy ![a, 0] ![2, 1] S4x4096) (y : (⟨S8x4096, .f32⟩ : BufTy).Contents (Elt F)) : (⟨S4096x512, .f32⟩ : BufTy).Contents (Elt F) :=
  shapeCast S4096x512 (broadcastInDim S4096x4x128 ![0, 1, 2] bcast_S4096x4x1_S4096x4x128_0_1_2
    (broadcastInDim S4096x4x1 ![0, 1] bcast_S4096x4_S4096x4x1_0_1
      (transpose S4096x4 [1, 0] (Host.slice S4x4096 ![a, 0] ![2, 1] y hs) transposes_S4x4096_S4096x4_1_0))) shapeCasts_S4096x4x128_S4096x512

theorem c8_v86 (W : Valuation τ sig (Elt F)) (x : (⟨S4096x1536, .f32⟩ : BufTy).Contents (Elt F)) (hv63 : W (Proc.devRef .tc main_v63) = val_main_v63 (F := F)) (hv69 : W (Proc.devRef .tc main_v69) = val_main_v69_0 (F := F) x) (hv8 : W (Proc.devRef .tc main_v8) = val_main_v8 (F := F) x) : run hostOps0_8 W (Proc.devRef .tc main_v86) = val_main_v94 (F := F) x := by
  simp only [hostOps0_8, TRef.binary, TRef.nullary, TRef.ternary, TRef.unary, TRef.toBuf, TRef.ofBuf, cast_eq]
  after_results_simp
  simp only [hv63, hv69, hv8]
  rfl

theorem c8_v91 (W : Valuation τ sig (Elt F)) (x : (⟨S4096x1536, .f32⟩ : BufTy).Contents (Elt F)) (hv63 : W (Proc.devRef .tc main_v63) = val_main_v63 (F := F)) (hv69 : W (Proc.devRef .tc main_v69) = val_main_v69_0 (F := F) x) (hv8 : W (Proc.devRef .tc main_v8) = val_main_v8 (F := F) x) : run hostOps0_8 W (Proc.devRef .tc main_v91) = lanes 0 slicesBy_S8x4096_S4x4096_0s2_0s1 (val_main_v92 (F := F) x) := by
  simp only [hostOps0_8, TRef.binary, TRef.nullary, TRef.ternary, TRef.unary, TRef.toBuf, TRef.ofBuf, cast_eq]
  after_results_simp
  simp only [hv63, hv69, hv8]
  rfl

theorem c8_v96 (W : Valuation τ sig (Elt F)) (x : (⟨S4096x1536, .f32⟩ : BufTy).Contents (Elt F)) (hv63 : W (Proc.devRef .tc main_v63) = val_main_v63 (F := F)) (hv69 : W (Proc.devRef .tc main_v69) = val_main_v69_0 (F := F) x) (hv8 : W (Proc.devRef .tc main_v8) = val_main_v8 (F := F) x) : run hostOps0_8 W (Proc.devRef .tc main_v96) = lanes 1 slicesBy_S8x4096_S4x4096_1s2_0s1 (val_main_v92 (F := F) x) := by
  simp only [hostOps0_8, TRef.binary, TRef.nullary, TRef.ternary, TRef.unary, TRef.toBuf, TRef.ofBuf, cast_eq]
  after_results_simp
  simp only [hv63, hv69, hv8]
  rfl

/-- What the kernel finds in the three buffers the host computes: the attention's output and the two sets of row statistics. -/
theorem all (W : Valuation τ sig (Elt F)) (x : (⟨S4096x1536, .f32⟩ : BufTy).Contents (Elt F)) (hx : W (Proc.devRef .tc main_arg0) = x) :
    let Z := after (List.flatten [hostOps0, hostOps0_1, hostOps0_2, hostOps0_3, hostOps0_4, hostOps0_5, hostOps0_6, hostOps0_7, hostOps0_8]) W
    Z (Proc.devRef .tc main_v86) = val_main_v94 (F := F) x ∧ Z (Proc.devRef .tc main_v91) = lanes 0 slicesBy_S8x4096_S4x4096_0s2_0s1 (val_main_v92 (F := F) x)
      ∧ Z (Proc.devRef .tc main_v96) = lanes 1 slicesBy_S8x4096_S4x4096_1s2_0s1 (val_main_v92 (F := F) x) := by
  intro Z
  have hZ : Z = run hostOps0_8 (run hostOps0_7 (run hostOps0_6 (run hostOps0_5 (run hostOps0_4 (run hostOps0_3 (run hostOps0_2 (run hostOps0_1 (run hostOps0 W)))))))) := by
    show after (List.flatten _) W = _
    simp only [List.flatten_cons, List.flatten_nil, List.append_nil, after_append]
  clear_value Z
  subst hZ
  have a1_v2 : run hostOps0 W (Proc.devRef .tc main_v2) = val_main_v2 (F := F) x := c0_v2 _ x hx
  have a1_v5 : run hostOps0 W (Proc.devRef .tc main_v5) = val_main_v5 (F := F) x := c0_v5 _ x hx
  have a1_v8 : run hostOps0 W (Proc.devRef .tc main_v8) = val_main_v8 (F := F) x := c0_v8 _ x hx
  have a1_v15 : run hostOps0 W (Proc.devRef .tc main_v15) = val_main_v15 (F := F) := c0_v15 _ x hx
  have a1_v20 : run hostOps0 W (Proc.devRef .tc main_v20) = val_main_v20 (F := F) := c0_v20 _ x hx
  have a1_c_1 : run hostOps0 W (Proc.devRef .tc main_c_1) = val_main_c_1 (F := F) := c0_c_1 _ x hx
  generalize run hostOps0 W = W1 at *
  have a2_v21 : run hostOps0_1 W1 (Proc.devRef .tc main_v21) = val_main_v21 (F := F) := c1_v21 _ x a1_v15 a1_c_1
  have a2_v2 : run hostOps0_1 W1 (Proc.devRef .tc main_v2) = val_main_v2 (F := F) x := (k1_v2 _).trans a1_v2
  have a2_v5 : run hostOps0_1 W1 (Proc.devRef .tc main_v5) = val_main_v5 (F := F) x := (k1_v5 _).trans a1_v5
  have a2_v8 : run hostOps0_1 W1 (Proc.devRef .tc main_v8) = val_main_v8 (F := F) x := (k1_v8 _).trans a1_v8
  have a2_v20 : run hostOps0_1 W1 (Proc.devRef .tc main_v20) = val_main_v20 (F := F) := (k1_v20 _).trans a1_v20
  generalize run hostOps0_1 W1 = W2 at *
  have a3_v27 : run hostOps0_2 W2 (Proc.devRef .tc main_v27) = val_main_v27 (F := F) := c2_v27 _ x a2_v20 a2_v21
  have a3_v34 : run hostOps0_2 W2 (Proc.devRef .tc main_v34) = val_main_v34 (F := F) := c2_v34 _ x a2_v20 a2_v21
  have a3_v39 : run hostOps0_2 W2 (Proc.devRef .tc main_v39) = val_main_v39 (F := F) := c2_v39 _ x a2_v20 a2_v21
  have a3_c_5 : run hostOps0_2 W2 (Proc.devRef .tc main_c_5) = val_main_c_5 (F := F) := c2_c_5 _ x a2_v20 a2_v21
  have a3_v2 : run hostOps0_2 W2 (Proc.devRef .tc main_v2) = val_main_v2 (F := F) x := (k2_v2 _).trans a2_v2
  have a3_v5 : run hostOps0_2 W2 (Proc.devRef .tc main_v5) = val_main_v5 (F := F) x := (k2_v5 _).trans a2_v5
  have a3_v8 : run hostOps0_2 W2 (Proc.devRef .tc main_v8) = val_main_v8 (F := F) x := (k2_v8 _).trans a2_v8
  generalize run hostOps0_2 W2 = W3 at *
  have a4_v40 : run hostOps0_3 W3 (Proc.devRef .tc main_v40) = val_main_v40 (F := F) := c3_v40 _ x a3_v34 a3_c_5
  have a4_v2 : run hostOps0_3 W3 (Proc.devRef .tc main_v2) = val_main_v2 (F := F) x := (k3_v2 _).trans a3_v2
  have a4_v5 : run hostOps0_3 W3 (Proc.devRef .tc main_v5) = val_main_v5 (F := F) x := (k3_v5 _).trans a3_v5
  have a4_v8 : run hostOps0_3 W3 (Proc.devRef .tc main_v8) = val_main_v8 (F := F) x := (k3_v8 _).trans a3_v8
  have a4_v27 : run hostOps0_3 W3 (Proc.devRef .tc main_v27) = val_main_v27 (F := F) := (k3_v27 _).trans a3_v27
  have a4_v39 : run hostOps0_3 W3 (Proc.devRef .tc main_v39) = val_main_v39 (F := F) := (k3_v39 _).trans a3_v39
  generalize run hostOps0_3 W3 = W4 at *
  have a5_v45 : run hostOps0_4 W4 (Proc.devRef .tc main_v45) = val_main_v45 (F := F) := c4_v45 _ x a4_v27 a4_v39 a4_v40
  have a5_v52 : run hostOps0_4 W4 (Proc.devRef .tc main_v52) = val_main_v52 (F := F) := c4_v52 _ x a4_v27 a4_v39 a4_v40
  have a5_v57 : run hostOps0_4 W4 (Proc.devRef .tc main_v57) = val_main_v57 (F := F) := c4_v57 _ x a4_v27 a4_v39 a4_v40
  have a5_c_9 : run hostOps0_4 W4 (Proc.devRef .tc main_c_9) = val_main_c_9 (F := F) := c4_c_9 _ x a4_v27 a4_v39 a4_v40
  have a5_v2 : run hostOps0_4 W4 (Proc.devRef .tc main_v2) = val_main_v2 (F := F) x := (k4_v2 _).trans a4_v2
  have a5_v5 : run hostOps0_4 W4 (Proc.devRef .tc main_v5) = val_main_v5 (F := F) x := (k4_v5 _).trans a4_v5
  have a5_v8 : run hostOps0_4 W4 (Proc.devRef .tc main_v8) = val_main_v8 (F := F) x := (k4_v8 _).trans a4_v8
  generalize run hostOps0_4 W4 = W5 at *
  have a6_v58 : run hostOps0_5 W5 (Proc.devRef .tc main_v58) = val_main_v58 (F := F) := c5_v58 _ x a5_v52 a5_c_9
  have a6_v2 : run hostOps0_5 W5 (Proc.devRef .tc main_v2) = val_main_v2 (F := F) x := (k5_v2 _).trans a5_v2
  have a6_v5 : run hostOps0_5 W5 (Proc.devRef .tc main_v5) = val_main_v5 (F := F) x := (k5_v5 _).trans a5_v5
  have a6_v8 : run hostOps0_5 W5 (Proc.devRef .tc main_v8) = val_main_v8 (F := F) x := (k5_v8 _).trans a5_v8
  have a6_v45 : run hostOps0_5 W5 (Proc.devRef .tc main_v45) = val_main_v45 (F := F) := (k5_v45 _).trans a5_v45
  have a6_v57 : run hostOps0_5 W5 (Proc.devRef .tc main_v57) = val_main_v57 (F := F) := (k5_v57 _).trans a5_v57
  generalize run hostOps0_5 W5 = W6 at *
  have a7_v63 : run hostOps0_6 W6 (Proc.devRef .tc main_v63) = val_main_v63 (F := F) := c6_v63 _ x a6_v2 a6_v5 a6_v45 a6_v57 a6_v58
  have a7_v66 : run hostOps0_6 W6 (Proc.devRef .tc main_v66) = val_main_v66 (F := F) x := c6_v66 _ x a6_v2 a6_v5 a6_v45 a6_v57 a6_v58
  have a7_v68 : run hostOps0_6 W6 (Proc.devRef .tc main_v68) = val_main_v68 (F := F) := c6_v68 _ x a6_v2 a6_v5 a6_v45 a6_v57 a6_v58
  have a7_cst_13 : run hostOps0_6 W6 (Proc.devRef .tc main_cst_13) = val_main_cst_13 (F := F) := c6_cst_13 _ x a6_v2 a6_v5 a6_v45 a6_v57 a6_v58
  have a7_v8 : run hostOps0_6 W6 (Proc.devRef .tc main_v8) = val_main_v8 (F := F) x := (k6_v8 _).trans a6_v8
  generalize run hostOps0_6 W6 = W7 at *
  have a8_v69 : run hostOps0_7 W7 (Proc.devRef .tc main_v69) = val_main_v69_0 (F := F) x := c7_v69 _ x a7_v66 a7_v68 a7_cst_13
  have a8_v8 : run hostOps0_7 W7 (Proc.devRef .tc main_v8) = val_main_v8 (F := F) x := (k7_v8 _).trans a7_v8
  have a8_v63 : run hostOps0_7 W7 (Proc.devRef .tc main_v63) = val_main_v63 (F := F) := (k7_v63 _).trans a7_v63
  generalize run hostOps0_7 W7 = W8 at *
  exact ⟨c8_v86 _ x a8_v63 a8_v69 a8_v8, c8_v91 _ x a8_v63 a8_v69 a8_v8, c8_v96 _ x a8_v63 a8_v69 a8_v8⟩

end Cert.Proof.Value.Host

end
-- ==== Proof.Value.Geometry.lean ====
/- Where each window's block lies in its array, and the row statistics' lanes read at an index. -/
module

public import proofs.«01_k».proof.Proof.Value.Agree
public import proofs.«01_k».proof.Proof.Value.Host8
public import proofs.«01_k».proof.Proof.Ideal.Launch

@[expose] public section

set_option maxRecDepth 16384
set_option maxHeartbeats 4000000

noncomputable section

namespace Cert.Proof.Value

open Cert.KernelIdeal Cert.KernelIdeal.Gen Cert.Proof.KernelIdeal
open Idealize.ShloMosaic Idealize.ShloMosaic.TcCoe Idealize.ShloMosaic.Tactic

theorem idx0_0 : ∀ t : Fin cfg0.N, (cfg0.win 0).index t (0 : Fin 2) = 0 := by decide
theorem idx0_1 : ∀ t : Fin cfg0.N, (cfg0.win 0).index t (1 : Fin 2) = t.val := by decide
theorem emb0_0 (t : Fin cfg0.N) (y : S4096x128.Idx) : (((cfg0.win 0).rect t).emb y (0 : Fin 2) : ℕ) = (y 0).val := by
  refine ((cfg0.win 0).rect_emb_val t y (0 : Fin 2)).trans ?_
  rw [idx0_0, zero_mul, zero_add]
theorem emb0_1 (t : Fin cfg0.N) (y : S4096x128.Idx) : (((cfg0.win 0).rect t).emb y (1 : Fin 2) : ℕ) = 128 * t.val + (y 1).val := by
  refine ((cfg0.win 0).rect_emb_val t y (1 : Fin 2)).trans ?_
  rw [idx0_1]
  show t.val * 128 + (y 1).val = _
  omega

theorem idx1_0 : ∀ t : Fin cfg0.N, (cfg0.win 1).index t (0 : Fin 2) = 0 := by decide
theorem idx1_1 : ∀ t : Fin cfg0.N, (cfg0.win 1).index t (1 : Fin 2) = 4 + t.val := by decide
theorem emb1_0 (t : Fin cfg0.N) (y : S4096x128.Idx) : (((cfg0.win 1).rect t).emb y (0 : Fin 2) : ℕ) = (y 0).val := by
  refine ((cfg0.win 1).rect_emb_val t y (0 : Fin 2)).trans ?_
  rw [idx1_0, zero_mul, zero_add]
theorem emb1_1 (t : Fin cfg0.N) (y : S4096x128.Idx) : (((cfg0.win 1).rect t).emb y (1 : Fin 2) : ℕ) = 512 + 128 * t.val + (y 1).val := by
  refine ((cfg0.win 1).rect_emb_val t y (1 : Fin 2)).trans ?_
  rw [idx1_1]
  show (4 + t.val) * 128 + (y 1).val = _
  omega

theorem idx2_0 : ∀ t : Fin cfg0.N, (cfg0.win 2).index t (0 : Fin 2) = 0 := by decide
theorem idx2_1 : ∀ t : Fin cfg0.N, (cfg0.win 2).index t (1 : Fin 2) = 8 + t.val := by decide
theorem emb2_0 (t : Fin cfg0.N) (y : S4096x128.Idx) : (((cfg0.win 2).rect t).emb y (0 : Fin 2) : ℕ) = (y 0).val := by
  refine ((cfg0.win 2).rect_emb_val t y (0 : Fin 2)).trans ?_
  rw [idx2_0, zero_mul, zero_add]
theorem emb2_1 (t : Fin cfg0.N) (y : S4096x128.Idx) : (((cfg0.win 2).rect t).emb y (1 : Fin 2) : ℕ) = 1024 + 128 * t.val + (y 1).val := by
  refine ((cfg0.win 2).rect_emb_val t y (1 : Fin 2)).trans ?_
  rw [idx2_1]
  show (8 + t.val) * 128 + (y 1).val = _
  omega

theorem idx3_0 : ∀ t : Fin cfg0.N, (cfg0.win 3).index t (0 : Fin 2) = 0 := by decide
theorem idx3_1 : ∀ t : Fin cfg0.N, (cfg0.win 3).index t (1 : Fin 2) = t.val := by decide
theorem emb3_0 (t : Fin cfg0.N) (y : S4096x128.Idx) : (((cfg0.win 3).rect t).emb y (0 : Fin 2) : ℕ) = (y 0).val := by
  refine ((cfg0.win 3).rect_emb_val t y (0 : Fin 2)).trans ?_
  rw [idx3_0, zero_mul, zero_add]
theorem emb3_1 (t : Fin cfg0.N) (y : S4096x128.Idx) : (((cfg0.win 3).rect t).emb y (1 : Fin 2) : ℕ) = 128 * t.val + (y 1).val := by
  refine ((cfg0.win 3).rect_emb_val t y (1 : Fin 2)).trans ?_
  rw [idx3_1]
  show t.val * 128 + (y 1).val = _
  omega

theorem idx4_0 : ∀ t : Fin cfg0.N, (cfg0.win 4).index t (0 : Fin 2) = 0 := by decide
theorem idx4_1 : ∀ t : Fin cfg0.N, (cfg0.win 4).index t (1 : Fin 2) = t.val := by decide
theorem emb4_0 (t : Fin cfg0.N) (y : S4096x128.Idx) : (((cfg0.win 4).rect t).emb y (0 : Fin 2) : ℕ) = (y 0).val := by
  refine ((cfg0.win 4).rect_emb_val t y (0 : Fin 2)).trans ?_
  rw [idx4_0, zero_mul, zero_add]
theorem emb4_1 (t : Fin cfg0.N) (y : S4096x128.Idx) : (((cfg0.win 4).rect t).emb y (1 : Fin 2) : ℕ) = 128 * t.val + (y 1).val := by
  refine ((cfg0.win 4).rect_emb_val t y (1 : Fin 2)).trans ?_
  rw [idx4_1]
  show t.val * 128 + (y 1).val = _
  omega

theorem idx5_0 : ∀ t : Fin cfg0.N, (cfg0.win 5).index t (0 : Fin 2) = 0 := by decide
theorem idx5_1 : ∀ t : Fin cfg0.N, (cfg0.win 5).index t (1 : Fin 2) = t.val := by decide
theorem emb5_0 (t : Fin cfg0.N) (y : S4096x128.Idx) : (((cfg0.win 5).rect t).emb y (0 : Fin 2) : ℕ) = (y 0).val := by
  refine ((cfg0.win 5).rect_emb_val t y (0 : Fin 2)).trans ?_
  rw [idx5_0, zero_mul, zero_add]
theorem emb5_1 (t : Fin cfg0.N) (y : S4096x128.Idx) : (((cfg0.win 5).rect t).emb y (1 : Fin 2) : ℕ) = 128 * t.val + (y 1).val := by
  refine ((cfg0.win 5).rect_emb_val t y (1 : Fin 2)).trans ?_
  rw [idx5_1]
  show t.val * 128 + (y 1).val = _
  omega

theorem idx6_0 : ∀ t : Fin cfg0.N, (cfg0.win 6).index t (0 : Fin 2) = 0 := by decide
theorem idx6_1 : ∀ t : Fin cfg0.N, (cfg0.win 6).index t (1 : Fin 2) = t.val := by decide
theorem emb6_0 (t : Fin cfg0.N) (y : S4096x128.Idx) : (((cfg0.win 6).rect t).emb y (0 : Fin 2) : ℕ) = (y 0).val := by
  refine ((cfg0.win 6).rect_emb_val t y (0 : Fin 2)).trans ?_
  rw [idx6_0, zero_mul, zero_add]
theorem emb6_1 (t : Fin cfg0.N) (y : S4096x128.Idx) : (((cfg0.win 6).rect t).emb y (1 : Fin 2) : ℕ) = 128 * t.val + (y 1).val := by
  refine ((cfg0.win 6).rect_emb_val t y (1 : Fin 2)).trans ?_
  rw [idx6_1]
  show t.val * 128 + (y 1).val = _
  omega

theorem idx7_0 : ∀ t : Fin cfg0.N, (cfg0.win 7).index t (0 : Fin 2) = 0 := by decide
theorem idx7_1 : ∀ t : Fin cfg0.N, (cfg0.win 7).index t (1 : Fin 2) = t.val := by decide
theorem emb7_0 (t : Fin cfg0.N) (y : S4096x128.Idx) : (((cfg0.win 7).rect t).emb y (0 : Fin 2) : ℕ) = (y 0).val := by
  refine ((cfg0.win 7).rect_emb_val t y (0 : Fin 2)).trans ?_
  rw [idx7_0, zero_mul, zero_add]
theorem emb7_1 (t : Fin cfg0.N) (y : S4096x128.Idx) : (((cfg0.win 7).rect t).emb y (1 : Fin 2) : ℕ) = 128 * t.val + (y 1).val := by
  refine ((cfg0.win 7).rect_emb_val t y (1 : Fin 2)).trans ?_
  rw [idx7_1]
  show t.val * 128 + (y 1).val = _
  omega

theorem idx8_0 : ∀ t : Fin cfg0.N, (cfg0.win 8).index t (0 : Fin 2) = 0 := by decide
theorem idx8_1 : ∀ t : Fin cfg0.N, (cfg0.win 8).index t (1 : Fin 2) = t.val := by decide
theorem emb8_0 (t : Fin cfg0.N) (y : S4096x128.Idx) : (((cfg0.win 8).rect t).emb y (0 : Fin 2) : ℕ) = (y 0).val := by
  refine ((cfg0.win 8).rect_emb_val t y (0 : Fin 2)).trans ?_
  rw [idx8_0, zero_mul, zero_add]
theorem emb8_1 (t : Fin cfg0.N) (y : S4096x128.Idx) : (((cfg0.win 8).rect t).emb y (1 : Fin 2) : ℕ) = 128 * t.val + (y 1).val := by
  refine ((cfg0.win 8).rect_emb_val t y (1 : Fin 2)).trans ?_
  rw [idx8_1]
  show t.val * 128 + (y 1).val = _
  omega

theorem idx9_0 : ∀ t : Fin cfg0.N, (cfg0.win 9).index t (0 : Fin 2) = 0 := by decide
theorem idx9_1 : ∀ t : Fin cfg0.N, (cfg0.win 9).index t (1 : Fin 2) = t.val := by decide
theorem emb9_0 (t : Fin cfg0.N) (y : S4096x128.Idx) : (((cfg0.win 9).rect t).emb y (0 : Fin 2) : ℕ) = (y 0).val := by
  refine ((cfg0.win 9).rect_emb_val t y (0 : Fin 2)).trans ?_
  rw [idx9_0, zero_mul, zero_add]
theorem emb9_1 (t : Fin cfg0.N) (y : S4096x128.Idx) : (((cfg0.win 9).rect t).emb y (1 : Fin 2) : ℕ) = 128 * t.val + (y 1).val := by
  refine ((cfg0.win 9).rect_emb_val t y (1 : Fin 2)).trans ?_
  rw [idx9_1]
  show t.val * 128 + (y 1).val = _
  omega

/-- The row statistics' lanes: a head pair's 128 lanes hold the row's statistic of the pair's head `a`. -/
theorem lanes_at {F : FTy → Type} [FloatOps F] [Named F] (a : ℕ) (hs : S8x4096.SlicesBy ![a, 0] ![2, 1] S4x4096) (y : (⟨S8x4096, .f32⟩ : BufTy).Contents (Elt F)) (i : S4096x512.Idx) (j : S8x4096.Idx)
    (hj0 : (j 0).val = 2 * ((i 1).val / 128) + a) (hj1 : (j 1).val = (i 0).val) : Host.lanes a hs y i = y j := by
  have h0 : (i 0).val < 4096 := (i 0).isLt
  have h1 : (i 1).val < 512 := (i 1).isLt
  have k3 : (i 1).val / 128 < 4 := by omega
  have k4 : (i 1).val % 128 < 128 := by omega
  unfold Host.lanes
  rw [shapeCast_apply _ shapeCasts_S4096x4x128_S4096x512 i (ix3 (⟨(i 0).val, h0⟩ : Fin 4096) (⟨(i 1).val / 128, k3⟩ : Fin 4) (⟨(i 1).val % 128, k4⟩ : Fin 128))
    (by rewrite [Shape.rowMajor_val_three, Shape.rowMajor_val_two]; show ((i 0).val * 4 + (i 1).val / 128) * 128 + (i 1).val % 128 = (i 0).val * 512 + (i 1).val; omega)]
  rw [broadcastInDim_apply _ bcast_S4096x4x1_S4096x4x128_0_1_2 _ _ (ix3 (⟨(i 0).val, h0⟩ : Fin 4096) (⟨(i 1).val / 128, k3⟩ : Fin 4) (⟨0, by decide⟩ : Fin 1)) (fun b => match b with
    | ⟨0, _⟩ => by show (i 0).val = if (4096 : Nat) = 1 then 0 else (i 0).val; rw [if_neg (by decide)]
    | ⟨1, _⟩ => by show (i 1).val / 128 = if (4 : Nat) = 1 then 0 else (i 1).val / 128; rw [if_neg (by decide)]
    | ⟨2, _⟩ => by show 0 = if (1 : Nat) = 1 then 0 else (i 1).val % 128; rw [if_pos rfl])]
  rw [broadcastInDim_apply _ bcast_S4096x4_S4096x4x1_0_1 _ _ (ix2 (⟨(i 0).val, h0⟩ : Fin 4096) (⟨(i 1).val / 128, k3⟩ : Fin 4)) (fun b => match b with
    | ⟨0, _⟩ => by show (i 0).val = if (4096 : Nat) = 1 then 0 else (i 0).val; rw [if_neg (by decide)]
    | ⟨1, _⟩ => by show (i 1).val / 128 = if (4 : Nat) = 1 then 0 else (i 1).val / 128; rw [if_neg (by decide)])]
  rw [transpose_apply [1, 0] _ transposes_S4x4096_S4096x4_1_0 _ (ix2 (⟨(i 1).val / 128, k3⟩ : Fin 4) (⟨(i 0).val, h0⟩ : Fin 4096)) (fun b => match b with
    | ⟨0, _⟩ => rfl
    | ⟨1, _⟩ => rfl)]
  refine congrArg y (funext fun b => Fin.ext ?_)
  match b with
  | ⟨0, _⟩ => show a + 2 * ((i 1).val / 128) = (j 0).val; omega
  | ⟨1, _⟩ => show 0 + 1 * (i 0).val = (j 1).val; omega

end Cert.Proof.Value

end
-- ==== Proof.Value.Inputs.lean ====
/- The blocks the body reads, as real numbers. -/
module

public import proofs.«01_k».proof.Proof.Value.Geometry

@[expose] public section

set_option maxRecDepth 16384
set_option maxHeartbeats 4000000

noncomputable section

namespace Cert.Proof.Value

open Cert.KernelIdeal Cert.KernelIdeal.Gen Cert.Proof.KernelIdeal
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation BodyObligationLoose cellOf)
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- A window's block reads its array at the block's indices, whatever the arrays hold. -/
theorem read0 (c : Dev nD) (Z : (b : Ref sig .tc) → Buf (Elt Ideal) ((c : Thread nD τ).loc b)) (t : Fin cfg0.N) (y : S4096x128.Idx) :
    ((cfg0.win 0).blk t).view.read (Elt Ideal) (Z (Pipeline.arrRef spec0 0)) y = Z main_arg0 (((cfg0.win 0).rect t).emb y) := rfl
theorem read1 (c : Dev nD) (Z : (b : Ref sig .tc) → Buf (Elt Ideal) ((c : Thread nD τ).loc b)) (t : Fin cfg0.N) (y : S4096x128.Idx) :
    ((cfg0.win 1).blk t).view.read (Elt Ideal) (Z (Pipeline.arrRef spec0 1)) y = Z main_arg0 (((cfg0.win 1).rect t).emb y) := rfl
theorem read2 (c : Dev nD) (Z : (b : Ref sig .tc) → Buf (Elt Ideal) ((c : Thread nD τ).loc b)) (t : Fin cfg0.N) (y : S4096x128.Idx) :
    ((cfg0.win 2).blk t).view.read (Elt Ideal) (Z (Pipeline.arrRef spec0 2)) y = Z main_arg0 (((cfg0.win 2).rect t).emb y) := rfl
theorem read3 (c : Dev nD) (Z : (b : Ref sig .tc) → Buf (Elt Ideal) ((c : Thread nD τ).loc b)) (t : Fin cfg0.N) (y : S4096x128.Idx) :
    ((cfg0.win 3).blk t).view.read (Elt Ideal) (Z (Pipeline.arrRef spec0 3)) y = Z main_v86 (((cfg0.win 3).rect t).emb y) := rfl
theorem read4 (c : Dev nD) (Z : (b : Ref sig .tc) → Buf (Elt Ideal) ((c : Thread nD τ).loc b)) (t : Fin cfg0.N) (y : S4096x128.Idx) :
    ((cfg0.win 4).blk t).view.read (Elt Ideal) (Z (Pipeline.arrRef spec0 4)) y = Z main_v91 (((cfg0.win 4).rect t).emb y) := rfl
theorem read5 (c : Dev nD) (Z : (b : Ref sig .tc) → Buf (Elt Ideal) ((c : Thread nD τ).loc b)) (t : Fin cfg0.N) (y : S4096x128.Idx) :
    ((cfg0.win 5).blk t).view.read (Elt Ideal) (Z (Pipeline.arrRef spec0 5)) y = Z main_v96 (((cfg0.win 5).rect t).emb y) := rfl
theorem read6 (c : Dev nD) (Z : (b : Ref sig .tc) → Buf (Elt Ideal) ((c : Thread nD τ).loc b)) (t : Fin cfg0.N) (y : S4096x128.Idx) :
    ((cfg0.win 6).blk t).view.read (Elt Ideal) (Z (Pipeline.arrRef spec0 6)) y = Z main_arg1 (((cfg0.win 6).rect t).emb y) := rfl

theorem lanes4 (c : Dev nD) (Z : (b : Ref sig .tc) → Buf (Elt Ideal) ((c : Thread nD τ).loc b)) (x : X0) (W M : ℕ → ℕ → ℝ)
    (hz : Z main_v91 = Host.lanes 0 slicesBy_S8x4096_S4x4096_0s2_0s1 (Cert.ReferenceIdeal.Read.val_main_v92 (F := Ideal) x)) (hx : Arr x W)
    (hM : ∀ i : Cert.ReferenceIdeal.S8x4096.Idx, Cert.ReferenceIdeal.Read.val_main_v70 (F := Ideal) x i = ((M (i 0).val (i 1).val : ℝ) : EReal)) (t : Fin cfg0.N) (s : Fin 4096) (e : Fin 128) :
    ((cfg0.win 4).blk t).view.read (Elt Ideal) (Z (Pipeline.arrRef spec0 4)) (ix2 s e) = ((kl W M t.val 0 s.val : ℝ) : EReal) := by
  have ht : t.val < 4 := t.isLt
  have he : e.val < 128 := e.isLt
  have h0 : (((cfg0.win 4).rect t).emb (ix2 s e) (0 : Fin 2) : ℕ) = s.val := emb4_0 t (ix2 s e)
  have h1 : (((cfg0.win 4).rect t).emb (ix2 s e) (1 : Fin 2) : ℕ) = 128 * t.val + e.val := emb4_1 t (ix2 s e)
  refine (read4 c Z t (ix2 s e)).trans ((congrFun hz _).trans ?_)
  generalize ((cfg0.win 4).rect t).emb (ix2 s e) = i at h0 h1
  exact (lanes_at (F := Ideal) 0 slicesBy_S8x4096_S4x4096_0s2_0s1 (Cert.ReferenceIdeal.Read.val_main_v92 (F := Ideal) x) i (ix2 (⟨2 * t.val + 0, by omega⟩ : Fin 8) s)
    (by rw [h1]; show 2 * t.val + 0 = 2 * ((128 * t.val + e.val) / 128) + 0; omega) h0.symm).trans (v92_at hx hM (ix2 (⟨2 * t.val + 0, by omega⟩ : Fin 8) s))

theorem lanes5 (c : Dev nD) (Z : (b : Ref sig .tc) → Buf (Elt Ideal) ((c : Thread nD τ).loc b)) (x : X0) (W M : ℕ → ℕ → ℝ)
    (hz : Z main_v96 = Host.lanes 1 slicesBy_S8x4096_S4x4096_1s2_0s1 (Cert.ReferenceIdeal.Read.val_main_v92 (F := Ideal) x)) (hx : Arr x W)
    (hM : ∀ i : Cert.ReferenceIdeal.S8x4096.Idx, Cert.ReferenceIdeal.Read.val_main_v70 (F := Ideal) x i = ((M (i 0).val (i 1).val : ℝ) : EReal)) (t : Fin cfg0.N) (s : Fin 4096) (e : Fin 128) :
    ((cfg0.win 5).blk t).view.read (Elt Ideal) (Z (Pipeline.arrRef spec0 5)) (ix2 s e) = ((kl W M t.val 1 s.val : ℝ) : EReal) := by
  have ht : t.val < 4 := t.isLt
  have he : e.val < 128 := e.isLt
  have h0 : (((cfg0.win 5).rect t).emb (ix2 s e) (0 : Fin 2) : ℕ) = s.val := emb5_0 t (ix2 s e)
  have h1 : (((cfg0.win 5).rect t).emb (ix2 s e) (1 : Fin 2) : ℕ) = 128 * t.val + e.val := emb5_1 t (ix2 s e)
  refine (read5 c Z t (ix2 s e)).trans ((congrFun hz _).trans ?_)
  generalize ((cfg0.win 5).rect t).emb (ix2 s e) = i at h0 h1
  exact (lanes_at (F := Ideal) 1 slicesBy_S8x4096_S4x4096_1s2_0s1 (Cert.ReferenceIdeal.Read.val_main_v92 (F := Ideal) x) i (ix2 (⟨2 * t.val + 1, by omega⟩ : Fin 8) s)
    (by rw [h1]; show 2 * t.val + 1 = 2 * ((128 * t.val + e.val) / 128) + 1; omega) h0.symm).trans (v92_at hx hM (ix2 (⟨2 * t.val + 1, by omega⟩ : Fin 8) s))

/-- Every argument of every device is real, and so are the rows' maxima. -/
structure Reals (W M G : Dev nD → ℕ → ℕ → ℝ) : Prop where
  x : ∀ c : Dev nD, Arr (m ((c : Thread nD τ).loc main_arg0)) (W c)
  g : ∀ c : Dev nD, Arr1 (m ((c : Thread nD τ).loc main_arg1)) (G c)
  mx : ∀ (c : Dev nD) (i : Cert.ReferenceIdeal.S8x4096.Idx), Cert.ReferenceIdeal.Read.val_main_v70 (F := Ideal) (m ((c : Thread nD τ).loc main_arg0)) i = ((M c (i 0).val (i 1).val : ℝ) : EReal)

section
variable {m} {W M G : Dev nD → ℕ → ℕ → ℝ} (hr : Reals m W M G) (c : Dev nD) (t : Fin cfg0.N)
include hr

theorem in0 : IsReal (iblk m c 0 t) (kq (W c) t.val) := fun s e => by
  refine (read0 c (fun b => V m c b) t (ix2 s e)).trans ?_
  refine (congrFun (V_main_arg0 m c) (((cfg0.win 0).rect t).emb (ix2 s e))).trans ((hr.x c _).trans ?_)
  exact congrArg Real.toEReal (congrArg₂ (W c) (emb0_0 t (ix2 s e)) (emb0_1 t (ix2 s e)))

theorem in1 : IsReal (iblk m c 1 t) (kk' (W c) t.val) := fun s e => by
  refine (read1 c (fun b => V m c b) t (ix2 s e)).trans ?_
  refine (congrFun (V_main_arg0 m c) (((cfg0.win 1).rect t).emb (ix2 s e))).trans ((hr.x c _).trans ?_)
  exact congrArg Real.toEReal (congrArg₂ (W c) (emb1_0 t (ix2 s e)) (emb1_1 t (ix2 s e)))

theorem in2 : IsReal (iblk m c 2 t) (kv (W c) t.val) := fun s e => by
  refine (read2 c (fun b => V m c b) t (ix2 s e)).trans ?_
  refine (congrFun (V_main_arg0 m c) (((cfg0.win 2).rect t).emb (ix2 s e))).trans ((hr.x c _).trans ?_)
  exact congrArg Real.toEReal (congrArg₂ (W c) (emb2_0 t (ix2 s e)) (emb2_1 t (ix2 s e)))

theorem in6 : IsReal (iblk m c 6 t) (kg (G c) t.val) := fun s e => by
  refine (read6 c (fun b => V m c b) t (ix2 s e)).trans ?_
  refine (congrFun (V_main_arg1 m c) (((cfg0.win 6).rect t).emb (ix2 s e))).trans ((hr.g c _).trans ?_)
  exact congrArg Real.toEReal (congrArg₂ (G c) (emb6_0 t (ix2 s e)) (emb6_1 t (ix2 s e)))

theorem in3 : IsReal (iblk m c 3 t) (ko (W c) (M c) t.val) := fun s e => by
  refine (read3 c (fun b => V m c b) t (ix2 s e)).trans ?_
  refine (congrFun (Host.all (fun b => m (c, b)) (m ((c : Thread nD τ).loc main_arg0)) rfl).1 (((cfg0.win 3).rect t).emb (ix2 s e))).trans ((v94_at (hr.x c) (hr.mx c) _).trans ?_)
  refine congrArg Real.toEReal ?_
  show ro (W c) (M c) ((((cfg0.win 3).rect t).emb (ix2 s e) (1 : Fin 2) : ℕ) / 64) (((cfg0.win 3).rect t).emb (ix2 s e) (0 : Fin 2) : ℕ) ((((cfg0.win 3).rect t).emb (ix2 s e) (1 : Fin 2) : ℕ) % 64) = _
  rw [emb3_0, emb3_1]
  rfl

theorem in4 : IsReal (iblk m c 4 t) (fun s _ => kl (W c) (M c) t.val 0 s) := fun s e =>
  lanes4 c (fun b => V m c b) (m ((c : Thread nD τ).loc main_arg0)) (W c) (M c) (Host.all (F := Ideal) (fun b => m (c, b)) (m ((c : Thread nD τ).loc main_arg0)) rfl).2.1 (hr.x c) (hr.mx c) t s e

theorem in5 : IsReal (iblk m c 5 t) (fun s _ => kl (W c) (M c) t.val 1 s) := fun s e =>
  lanes5 c (fun b => V m c b) (m ((c : Thread nD τ).loc main_arg0)) (W c) (M c) (Host.all (F := Ideal) (fun b => m (c, b)) (m ((c : Thread nD τ).loc main_arg0)) rfl).2.2 (hr.x c) (hr.mx c) t s e

end

end Cert.Proof.Value

end
-- ==== Proof.Value.Exact.lean ====
/- The launch with its results named: the three gradients, as real numbers, in the arrays the run leaves. -/
module

public import proofs.«01_k».proof.Proof.Value.Inputs

@[expose] public section

set_option maxRecDepth 16384
set_option maxHeartbeats 4000000

noncomputable section

namespace Cert.Proof.Value

open Cert.KernelIdeal Cert.KernelIdeal.Gen Cert.Proof.KernelIdeal
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation BodyObligationLoose cellOf)
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- The three gradients, as the arrays the run leaves. -/
def out7 (W M G : ℕ → ℕ → ℝ) : S4096x512.Idx → EReal := fun i => ((rdq W M G ((i 1).val / 64) (i 0).val ((i 1).val % 64) : ℝ) : EReal)
def out8 (W M G : ℕ → ℕ → ℝ) : S4096x512.Idx → EReal := fun i => ((rdk W M G ((i 1).val / 64) (i 0).val ((i 1).val % 64) : ℝ) : EReal)
def out9 (W M G : ℕ → ℕ → ℝ) : S4096x512.Idx → EReal := fun i => ((rdv W M G ((i 1).val / 64) (i 0).val ((i 1).val % 64) : ℝ) : EReal)

variable (W M G : Dev nD → ℕ → ℕ → ℝ)

def blk7 (c : Dev nD) (t : Fin cfg0.N) : Vec Ideal S4096x128 .bf16 := fun y => out7 (W c) (M c) (G c) (((cfg0.win 7).rect t).emb y)
def blk8 (c : Dev nD) (t : Fin cfg0.N) : Vec Ideal S4096x128 .bf16 := fun y => out8 (W c) (M c) (G c) (((cfg0.win 8).rect t).emb y)
def blk9 (c : Dev nD) (t : Fin cfg0.N) : Vec Ideal S4096x128 .bf16 := fun y => out9 (W c) (M c) (G c) (((cfg0.win 9).rect t).emb y)

/-- What the body leaves at a point is that point's block of the three gradients. -/
theorem leaves_blocks {m} {W M G} (hr : Reals m W M G) (c : Dev nD) (t : Fin cfg0.N) (y8 y9 y10 : Vec Ideal S4096x128 .bf16)
    (hl : Leaves (F := Ideal) c (grid0.coords t) (iblk m c 0 t) (iblk m c 1 t) (iblk m c 2 t) (iblk m c 3 t) (iblk m c 4 t) (iblk m c 5 t) (iblk m c 6 t) y8 y9 y10) :
    y8 = blk7 W M G c t ∧ y9 = blk8 W M G c t ∧ y10 = blk9 W M G c t := by
  obtain ⟨h8, h9, h10⟩ := leaves_real c (grid0.coords t) _ _ _ _ _ _ _ y8 y9 y10 hl (kq (W c) t.val) (kk' (W c) t.val) (kv (W c) t.val) (ko (W c) (M c) t.val) (kg (G c) t.val) (kl (W c) (M c) t.val)
    (in0 hr c t) (in1 hr c t) (in2 hr c t) (in3 hr c t) (in4 hr c t) (in5 hr c t) (in6 hr c t)
  refine ⟨funext fun y => ?_, funext fun y => ?_, funext fun y => ?_⟩
  · obtain ⟨s, e, rfl⟩ : ∃ (s : Fin 4096) (e : Fin 128), y = ix2 s e := ⟨y 0, y 1, eq_ix2 y⟩
    refine (h8 s e).trans ((congrArg Real.toEReal (dq_eq (W c) (M c) (G c) t.val s.val e.val e.isLt s.isLt)).trans ?_)
    show _ = ((rdq (W c) (M c) (G c) ((((cfg0.win 7).rect t).emb (ix2 s e) (1 : Fin 2) : ℕ) / 64) (((cfg0.win 7).rect t).emb (ix2 s e) (0 : Fin 2) : ℕ) ((((cfg0.win 7).rect t).emb (ix2 s e) (1 : Fin 2) : ℕ) % 64) : ℝ) : EReal)
    rw [emb7_0, emb7_1]
    rfl
  · obtain ⟨s, e, rfl⟩ : ∃ (s : Fin 4096) (e : Fin 128), y = ix2 s e := ⟨y 0, y 1, eq_ix2 y⟩
    refine (h9 s e).trans ((congrArg Real.toEReal (dk_eq (W c) (M c) (G c) t.val s.val e.val e.isLt)).trans ?_)
    show _ = ((rdk (W c) (M c) (G c) ((((cfg0.win 8).rect t).emb (ix2 s e) (1 : Fin 2) : ℕ) / 64) (((cfg0.win 8).rect t).emb (ix2 s e) (0 : Fin 2) : ℕ) ((((cfg0.win 8).rect t).emb (ix2 s e) (1 : Fin 2) : ℕ) % 64) : ℝ) : EReal)
    rw [emb8_0, emb8_1]
    rfl
  · obtain ⟨s, e, rfl⟩ : ∃ (s : Fin 4096) (e : Fin 128), y = ix2 s e := ⟨y 0, y 1, eq_ix2 y⟩
    refine (h10 s e).trans ((congrArg Real.toEReal (dv_eq (W c) (M c) (G c) t.val s.val e.val e.isLt)).trans ?_)
    show _ = ((rdv (W c) (M c) (G c) ((((cfg0.win 9).rect t).emb (ix2 s e) (1 : Fin 2) : ℕ) / 64) (((cfg0.win 9).rect t).emb (ix2 s e) (0 : Fin 2) : ℕ) ((((cfg0.win 9).rect t).emb (ix2 s e) (1 : Fin 2) : ℕ) % 64) : ℝ) : EReal)
    rw [emb9_0, emb9_1]
    rfl

abbrev D := dats (F := Ideal) m (blk7 W M G) (blk8 W M G) (blk9 W M G)

/-- What the body is called with, the results' buffers as the launch finds them, -/
def bodyPreAt (c : Dev nD) (t : Fin cfg0.N) : sProp 𝕄 :=
  iprop((D m W M G 0 c).Φ t.castSucc ∗ (D m W M G 0 c).owesAt () t.castSucc
    ∗ (∃ d, owns (c : Thread nD τ) (st0_0 t) fullShare ((D m W M G 0 c).before 0 t d))
    ∗ (∃ d, owns (c : Thread nD τ) (st0_1 t) fullShare ((D m W M G 0 c).before 1 t d))
    ∗ (∃ d, owns (c : Thread nD τ) (st0_2 t) fullShare ((D m W M G 0 c).before 2 t d))
    ∗ (∃ d, owns (c : Thread nD τ) (st0_3 t) fullShare ((D m W M G 0 c).before 3 t d))
    ∗ (∃ d, owns (c : Thread nD τ) (st0_4 t) fullShare ((D m W M G 0 c).before 4 t d))
    ∗ (∃ d, owns (c : Thread nD τ) (st0_5 t) fullShare ((D m W M G 0 c).before 5 t d))
    ∗ (∃ d, owns (c : Thread nD τ) (st0_6 t) fullShare ((D m W M G 0 c).before 6 t d))
    ∗ (∃ d, owns (c : Thread nD τ) (st0_7 t) fullShare ((D m W M G 0 c).before 7 t d))
    ∗ (∃ d, owns (c : Thread nD τ) (st0_8 t) fullShare ((D m W M G 0 c).before 8 t d))
    ∗ (∃ d, owns (c : Thread nD τ) (st0_9 t) fullShare ((D m W M G 0 c).before 9 t d)))

/-- and what it returns, the results' buffers at their blocks. -/
def bodyPostAt (c : Dev nD) (t : Fin cfg0.N) : sProp 𝕄 :=
  iprop((D m W M G 0 c).Φ t.succ ∗ (D m W M G 0 c).owesAt () t.succ
    ∗ owns (c : Thread nD τ) (st0_0 t) fullShare ((D m W M G 0 c).after 0 t)
    ∗ owns (c : Thread nD τ) (st0_1 t) fullShare ((D m W M G 0 c).after 1 t)
    ∗ owns (c : Thread nD τ) (st0_2 t) fullShare ((D m W M G 0 c).after 2 t)
    ∗ owns (c : Thread nD τ) (st0_3 t) fullShare ((D m W M G 0 c).after 3 t)
    ∗ owns (c : Thread nD τ) (st0_4 t) fullShare ((D m W M G 0 c).after 4 t)
    ∗ owns (c : Thread nD τ) (st0_5 t) fullShare ((D m W M G 0 c).after 5 t)
    ∗ owns (c : Thread nD τ) (st0_6 t) fullShare ((D m W M G 0 c).after 6 t)
    ∗ owns (c : Thread nD τ) (st0_7 t) fullShare ((D m W M G 0 c).after 7 t)
    ∗ owns (c : Thread nD τ) (st0_8 t) fullShare ((D m W M G 0 c).after 8 t)
    ∗ owns (c : Thread nD τ) (st0_9 t) fullShare ((D m W M G 0 c).after 9 t))

variable {m W M G}

theorem pre_at (c : Dev nD) (t : Fin cfg0.N) : bodyPreAt m W M G c t ⊢ bodyPre m (blk7 W M G) (blk8 W M G) (blk9 W M G) c t := by
  unfold bodyPreAt bodyPre
  iintro ⟨HΦ, Ho, H0, H1, H2, H3, H4, H5, H6, ⟨%d7, H7⟩, ⟨%d8, H8⟩, ⟨%d9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iexists _; iexact H9

theorem sound_body_at (hr : Reals m W M G) (c : Dev nD) (t : Fin cfg0.N) :
    bodyPreAt m W M G c t ⊢ wp frame (wpE (defs₀ (F := Ideal)) Variants.none c none) Set.univ (bodyAt0 t) (fun _ => bodyPostAt m W M G c t) := by
  refine ((pre_at c t).trans (sound_body m (blk7 W M G) (blk8 W M G) (blk9 W M G) c t)).trans (wp_mono Idealize.ShloMosaic.frame _ _ fun _ => ?_)
  unfold bodyPost bodyPostAt
  rw [show (D m W M G 0 c).after 7 t = blk7 W M G c t from after0_7 m _ _ _ c t, show (D m W M G 0 c).after 8 t = blk8 W M G c t from after0_8 m _ _ _ c t,
    show (D m W M G 0 c).after 9 t = blk9 W M G c t from after0_9 m _ _ _ c t]
  iintro ⟨HΦ, Ho, H0, H1, H2, H3, H4, H5, H6, ⟨%y8, %y9, %y10, %hl, H7, H8, H9⟩⟩
  obtain ⟨rfl, rfl, rfl⟩ := leaves_blocks hr c t y8 y9 y10 hl
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation_at (hr : Reals m W M G) (c : Dev nD) : BodyObligation (D m W M G 0 c) (defs₀ (F := Ideal)) Variants.none () Set.univ := fun t => by
  rw [bigSep_W0, bigSep_W0, defs₀_row]
  exact triple_restated (sound_body_at hr c t) rfl .rfl fun _ => .rfl

set_option backward.isDefEq.respectTransparency.types false in
/-- The launch, every array named. -/
theorem run_main_at (hr : Reals m W M G) : θ_run defs (onTc (τ := τ) (main (F := Ideal))) (s₀ m ρ) (fun r => Pipeline.FramePost cfgs (D m W M G) 0 (V m) r ∧ r.2.sem = fun _ => 0) :=
  Pipeline.θ_run_frame_shared (Q' := _) cfgs (D m W M G) (0 : Fin 1) launch₀0 defs₀ Variants.none m ρ main
    (hbody := fun c => (body_obligation_at hr c).loose) (hq := fun _ _ _ => rfl)
    (howed := fun _ _ => rfl) (V := V m) (hmain := hmain m Variants.none) (hA := A_eq m (blk7 W M G) (blk8 W M G) (blk9 W M G)) (hΦ := fun _ _ => rfl)

theorem cover7 (i : S4096x512.Idx) : ∃ t : Fin cfg0.N, (cfg0.win 7).flush t = true ∧ i ∈ ((cfg0.win 7).blk t).view.set := by
  have h0 : (i 0).val < 4096 := (i 0).isLt
  have h1 : (i 1).val < 512 := (i 1).isLt
  have hf : ∀ t : Fin cfg0.N, (cfg0.win 7).flush t = true := by decide
  refine ⟨⟨(i 1).val / 128, by show (i 1).val / 128 < 4; omega⟩, hf _, ?_⟩
  have key := ((cfg0.win 7).blk ⟨(i 1).val / 128, by show (i 1).val / 128 < 4; omega⟩).view.emb_mem_set (ix2 (i 0) (⟨(i 1).val % 128, by omega⟩ : Fin 128) : S4096x128.Idx)
  refine Eq.mp (congrArg (· ∈ _) ?_) key
  refine funext fun a => Fin.ext ?_
  match a with
  | ⟨0, _⟩ => exact emb7_0 _ _
  | ⟨1, _⟩ =>
    refine (emb7_1 _ _).trans ?_
    show 128 * ((i 1).val / 128) + (i 1).val % 128 = (i 1).val
    omega

theorem arr7 (c : Dev nD) : (D m W M G 0 c).arrAt 7 cfg0.N = out7 (W c) (M c) (G c) :=
  (D m W M G 0 c).arrAt_eq_of_cover 7 (out7 (W c) (M c) (G c)) (fun t _ => rfl) cover7

theorem cover8 (i : S4096x512.Idx) : ∃ t : Fin cfg0.N, (cfg0.win 8).flush t = true ∧ i ∈ ((cfg0.win 8).blk t).view.set := by
  have h0 : (i 0).val < 4096 := (i 0).isLt
  have h1 : (i 1).val < 512 := (i 1).isLt
  have hf : ∀ t : Fin cfg0.N, (cfg0.win 8).flush t = true := by decide
  refine ⟨⟨(i 1).val / 128, by show (i 1).val / 128 < 4; omega⟩, hf _, ?_⟩
  have key := ((cfg0.win 8).blk ⟨(i 1).val / 128, by show (i 1).val / 128 < 4; omega⟩).view.emb_mem_set (ix2 (i 0) (⟨(i 1).val % 128, by omega⟩ : Fin 128) : S4096x128.Idx)
  refine Eq.mp (congrArg (· ∈ _) ?_) key
  refine funext fun a => Fin.ext ?_
  match a with
  | ⟨0, _⟩ => exact emb8_0 _ _
  | ⟨1, _⟩ =>
    refine (emb8_1 _ _).trans ?_
    show 128 * ((i 1).val / 128) + (i 1).val % 128 = (i 1).val
    omega

theorem arr8 (c : Dev nD) : (D m W M G 0 c).arrAt 8 cfg0.N = out8 (W c) (M c) (G c) :=
  (D m W M G 0 c).arrAt_eq_of_cover 8 (out8 (W c) (M c) (G c)) (fun t _ => rfl) cover8

theorem cover9 (i : S4096x512.Idx) : ∃ t : Fin cfg0.N, (cfg0.win 9).flush t = true ∧ i ∈ ((cfg0.win 9).blk t).view.set := by
  have h0 : (i 0).val < 4096 := (i 0).isLt
  have h1 : (i 1).val < 512 := (i 1).isLt
  have hf : ∀ t : Fin cfg0.N, (cfg0.win 9).flush t = true := by decide
  refine ⟨⟨(i 1).val / 128, by show (i 1).val / 128 < 4; omega⟩, hf _, ?_⟩
  have key := ((cfg0.win 9).blk ⟨(i 1).val / 128, by show (i 1).val / 128 < 4; omega⟩).view.emb_mem_set (ix2 (i 0) (⟨(i 1).val % 128, by omega⟩ : Fin 128) : S4096x128.Idx)
  refine Eq.mp (congrArg (· ∈ _) ?_) key
  refine funext fun a => Fin.ext ?_
  match a with
  | ⟨0, _⟩ => exact emb9_0 _ _
  | ⟨1, _⟩ =>
    refine (emb9_1 _ _).trans ?_
    show 128 * ((i 1).val / 128) + (i 1).val % 128 = (i 1).val
    omega

theorem arr9 (c : Dev nD) : (D m W M G 0 c).arrAt 9 cfg0.N = out9 (W c) (M c) (G c) :=
  (D m W M G 0 c).arrAt_eq_of_cover 9 (out9 (W c) (M c) (G c)) (fun t _ => rfl) cover9

/-- The run leaves the three gradients in its results, the arguments as they were and every counter at zero. -/
theorem run_gradients (hr : Reals m W M G) : θ_run defs (onTc (τ := τ) (main (F := Ideal))) ⟨m, fun _ => 0, ρ⟩ (fun r => ∀ c : Dev nD,
      (r.2.mem ((c.tc : Thread nD τ).loc main_v97_0) = out7 (W c) (M c) (G c) ∧ r.2.mem ((c.tc : Thread nD τ).loc main_v97_1) = out8 (W c) (M c) (G c)
        ∧ r.2.mem ((c.tc : Thread nD τ).loc main_v97_2) = out9 (W c) (M c) (G c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨⟨((h.1 c).1 7).trans (arr7 c), ((h.1 c).1 8).trans (arr8 c), ((h.1 c).1 9).trans (arr9 c)⟩,
      ((h.1 c).1 2).trans (((D m W M G 0 c).arrAt_in 2 rfl _).trans ((A_eq m _ _ _ c 2).trans (V_main_arg0 m c))),
      ((h.1 c).1 6).trans (((D m W M G 0 c).arrAt_in 6 rfl _).trans ((A_eq m _ _ _ c 6).trans (V_main_arg1 m c)))⟩)
    (run_main_at ρ hr)

end Cert.Proof.Value

end
-- ==== Proof.Step.Sums.lean ====
/- Arrays of extended reals read at natural numbers, and sums over a range taken piece by piece. -/
module

public import proofs.«01_k».proof.Proof.Value.Finite

@[expose] public section

noncomputable section

namespace Cert.Proof.Step

open Idealize.ShloMosaic

/-- An array at natural numbers, zero outside it. -/
def at2 {a b : ℕ} (x : (⟨2, ![a, b]⟩ : Shape).Idx → EReal) (i j : ℕ) : EReal :=
  if h : i < a ∧ j < b then x (ix2 (⟨i, h.1⟩ : Fin a) (⟨j, h.2⟩ : Fin b)) else 0

theorem at2_eq {a b : ℕ} (x : (⟨2, ![a, b]⟩ : Shape).Idx → EReal) (i : (⟨2, ![a, b]⟩ : Shape).Idx) : x i = at2 x (i 0).val (i 1).val := by
  have hi : (i 0).val < a ∧ (i 1).val < b := ⟨(i 0).isLt, (i 1).isLt⟩
  unfold at2
  rw [dif_pos hi]
  exact congrArg x (eq_ix2 i)

/-- A sum over the first `n` numbers grows by the next `w`. -/
theorem grow {f : ℕ → EReal} {n w : ℕ} {s x : EReal} {g : Fin w → EReal} (hx : x = s + ∑ j ∈ Finset.range n, f j) (hg : ∀ k, g k = f (n + k.val)) :
    x + (0 + ∑ k, g k) = s + ∑ j ∈ Finset.range (n + w), f j := by
  rw [hx, zero_add, Finset.sum_range_add, ← add_assoc, Finset.sum_range fun k => f (n + k)]
  exact congrArg _ (Finset.sum_congr rfl fun k _ => hg k)

/-- The product of the columns `i` of `A` and `j` of `B` over the first `n` rows. -/
def rows (A B : ℕ → ℕ → EReal) (n i j : ℕ) : EReal := ∑ r ∈ Finset.range n, A r i * B r j

theorem rows_zero (A B : ℕ → ℕ → EReal) (i j : ℕ) : rows A B 0 i j = 0 := by
  unfold rows
  rw [Finset.sum_range_zero]

theorem rows_step {A B : ℕ → ℕ → EReal} {n w i j : ℕ} {x : EReal} {f g : Fin w → EReal} (hx : x = rows A B n i j) (hf : ∀ k, f k = A (n + k.val) i) (hg : ∀ k, g k = B (n + k.val) j) :
    x + (0 + ∑ k, f k * g k) = rows A B (n + w) i j :=
  (grow (f := fun r => A r i * B r j) (s := 0) (hx.trans (zero_add _).symm) fun k => congrArg₂ (· * ·) (hf k) (hg k)).trans (zero_add _)

end Cert.Proof.Step

end
-- ==== Proof.Fwd.Chunk.lean ====
/- The steps of one grid point's body of the feed-forward block's forward call, read at an index. -/
module

public import proofs.«01_k».proof.Proof.Gen.FwdIdeal.Frame
public import Idealize.ShloMosaic.Lib.Pipeline.ValueKit
public import Idealize.ShloMosaic.Lib.Pipeline.ValueKit.Acc
public import proofs.«01_k».proof.Proof.Step.Sums

@[expose] public section

noncomputable section

namespace Cert.Proof.Fwd

open Cert.FwdIdeal Cert.FwdIdeal.Gen
open Idealize.ShloMosaic Idealize.ShloMosaic.TcCoe Idealize.ShloMosaic.Tactic
open Cert.Proof.Step

/-- The residual stream, its normalised rows and the two weights. -/
structure Args where
  h : ℕ → ℕ → EReal
  u : ℕ → ℕ → EReal
  up : ℕ → ℕ → EReal
  down : ℕ → ℕ → EReal

/-- The hidden layer before its activation. -/
def hid (p : Args) (r c : ℕ) : EReal := ∑ k : Fin 1024, p.u r k.val * p.up k.val c
/-- The square of its positive part. -/
def act (p : Args) (r c : ℕ) : EReal := max (hid p r c) 0 * max (hid p r c) 0
/-- The residual stream with the products over the first `n` hidden columns added. -/
def acc (p : Args) (n r k : ℕ) : EReal := p.h r k + ∑ j ∈ Finset.range n, act p r j * p.down j k

variable {p : Args} {R n : ℕ}

abbrev IsN (p : Args) (R : ℕ) (z : S512x1024.Idx → EReal) : Prop := ∀ i : S512x1024.Idx, z i = p.u (R + (i 0).val) (i 1).val
abbrev IsAcc (p : Args) (R n : ℕ) (z : S512x1024.Idx → EReal) : Prop := ∀ i : S512x1024.Idx, z i = acc p n (R + (i 0).val) (i 1).val
abbrev IsUp (p : Args) (n : ℕ) (z : S1x1024x512.Idx → EReal) : Prop := ∀ i : S1x1024x512.Idx, z i = p.up (i 1).val (n + (i 2).val)
abbrev IsDown (p : Args) (n : ℕ) (z : S1x256x1024.Idx → EReal) : Prop := ∀ i : S1x256x1024.Idx, z i = p.down (n + (i 1).val) (i 2).val
abbrev IsHid (p : Args) (R n : ℕ) (z : S512x512.Idx → EReal) : Prop := ∀ i : S512x512.Idx, z i = hid p (R + (i 0).val) (n + (i 1).val)
abbrev IsAct (p : Args) (R n : ℕ) (z : S512x512.Idx → EReal) : Prop := ∀ i : S512x512.Idx, z i = act p (R + (i 0).val) (n + (i 1).val)
abbrev IsHalf (p : Args) (R n : ℕ) (z : S512x256.Idx → EReal) : Prop := ∀ i : S512x256.Idx, z i = act p (R + (i 0).val) (n + (i 1).val)

theorem act_of {y : EReal} {r c : ℕ} (h : y = hid p r c) : max y 0 * max y 0 = act p r c := by rw [h]; rfl

theorem acc_step {r k : ℕ} {x : EReal} {f g : Fin 256 → EReal} (hx : x = acc p n r k) (hf : ∀ j, f j = act p r (n + j.val)) (hg : ∀ j, g j = p.down (n + j.val) k) :
    x + (0 + ∑ j, f j * g j) = acc p (n + 256) r k :=
  grow (f := fun j => act p r j * p.down j k) hx fun j => congrArg₂ (· * ·) (hf j) (hg j)

theorem pay1_at {v1 : FVec Ideal S512x1024 .bf16} {u : Vec Ideal S1x1024x512 .bf16} (h1 : IsN p R v1) (hu : IsUp p n u) : IsHid p R n (k0_pay1 v1 u) := by
  intro i
  unfold k0_pay1
  simp only [pointwise]
  rw [zero_add]
  exact Finset.sum_congr rfl fun k _ => congrArg₂ (· * ·) (h1 _) (hu _)

theorem pay4_at {v0 : Vec Ideal S512x1024 .bf16} (h : IsN p R v0) : IsN p R (k0_pay4 v0) := by
  intro i
  unfold k0_pay4
  simp only [pointwise]
  exact h _

section
variable {v1 : FVec Ideal S512x1024 .bf16} {v0 : Vec Ideal S512x1024 .bf16} {u : Vec Ideal S1x1024x512 .bf16}
theorem pay5_at (h : IsN p R v0) (hu : IsUp p n u) : IsHid p R n (k0_pay5 v0 u) := fun i => pay1_at (pay4_at h) hu i
theorem pay8_at (h : IsN p R v0) (hu : IsUp p n u) : IsHid p R n (k0_pay8 v0 u) := fun i => pay1_at (pay4_at h) hu i
theorem pay11_at (h : IsN p R v1) (hu : IsUp p n u) : IsHid p R n (k0_pay11 v1 u) := fun i => pay1_at h hu i
theorem pay14_at (h : IsN p R v1) (hu : IsUp p n u) : IsHid p R n (k0_pay14 v1 u) := fun i => pay1_at h hu i
theorem pay16_at (h : IsN p R v1) (hu : IsUp p n u) : IsHid p R n (k0_pay16 v1 u) := fun i => pay1_at h hu i
theorem pay22_at (h : IsN p R v1) (hu : IsUp p n u) : IsHid p R n (k0_pay22 v1 u) := fun i => pay1_at h hu i
theorem pay25_at (h : IsN p R v1) (hu : IsUp p n u) : IsHid p R n (k0_pay25 v1 u) := fun i => pay1_at h hu i

theorem pay10_at (h : IsN p R v0) (hu : IsUp p n u) : IsAct p R n (k0_pay10 v0 u) := by
  intro i
  unfold k0_pay10
  simp only [pointwise]
  exact act_of (pay8_at h hu i)
theorem pay18_at (h : IsN p R v1) (hu : IsUp p n u) : IsAct p R n (k0_pay18 v1 u) := by
  intro i
  unfold k0_pay18
  simp only [pointwise]
  exact act_of (pay16_at h hu i)
theorem pay27_at (h : IsN p R v1) (hu : IsUp p n u) : IsAct p R n (k0_pay27 v1 u) := by
  intro i
  unfold k0_pay27
  simp only [pointwise]
  exact act_of (pay25_at h hu i)
end

theorem lo (F : ℕ → ℕ → EReal) (R n a j : ℕ) : F (R + (0 + a)) (n + (0 + j)) = F (R + a) (n + j) := by rw [zero_add, zero_add]
theorem hi (F : ℕ → ℕ → EReal) (R n a j : ℕ) : F (R + (0 + a)) (n + (256 + j)) = F (R + a) (n + 256 + j) := by rw [zero_add, add_assoc]

theorem pay20_at {v1 : FVec Ideal S512x1024 .bf16} {u : Vec Ideal S1x1024x512 .bf16} (h : IsN p R v1) (hu : IsUp p n u) : IsHalf p R (n + 256) (k0_pay20 v1 u) := by
  intro i
  have hz := pay18_at h hu
  unfold k0_pay20
  generalize k0_pay18 v1 u = z at hz ⊢
  simp only [pointwise]
  exact (hz _).trans (hi (act p) R n (i 0).val (i 1).val)

theorem pay28_at {v1 : FVec Ideal S512x1024 .bf16} {u : Vec Ideal S1x1024x512 .bf16} (h : IsN p R v1) (hu : IsUp p n u) : IsHalf p R n (k0_pay28 v1 u) := by
  intro i
  have hz := pay27_at h hu
  unfold k0_pay28
  generalize k0_pay27 v1 u = z at hz ⊢
  simp only [pointwise]
  exact (hz _).trans (lo (act p) R n (i 0).val (i 1).val)

section
variable {v0 : Vec Ideal S512x1024 .bf16} {v1 : FVec Ideal S512x1024 .bf16} {v2 : Vec Ideal S512x1024 .f32} {x : FVec Ideal S512x1024 .f32} {u : Vec Ideal S1x1024x512 .bf16} {va vb vc vd : Vec Ideal S1x256x1024 .bf16}

theorem pay7_at (h0 : IsN p R v0) (h2 : IsAcc p R n v2) (hu : IsUp p n u) (ha : IsDown p n va) (hb : IsDown p (n + 256) vb) : IsAcc p R (n + 512) (k0_pay7 v0 v2 u va vb) := by
  intro i
  have hz := pay5_at h0 hu
  unfold k0_pay7
  generalize k0_pay5 v0 u = z at hz ⊢
  simp only [pointwise]
  exact acc_step (n := n + 256) (acc_step (h2 i) (fun j => act_of ((hz _).trans (lo (hid p) R n (i 0).val j.val))) (fun j => ha _)) (fun j => act_of ((hz _).trans (hi (hid p) R n (i 0).val j.val))) (fun j => hb _)

theorem pay13_at {y : FVec Ideal S512x512 .bf16} (h1 : IsN p R v1) (hx : IsAcc p R n x) (hy : IsAct p R n y) (ha : IsDown p n va) (hb : IsDown p (n + 256) vb) (hu : IsUp p (n + 512) u) (hc : IsDown p (n + 512) vc) (hd : IsDown p (n + 768) vd) :
    IsAcc p R (n + 1024) (k0_pay13 v1 x y va vb u vc vd) := by
  intro i
  have hz := pay11_at h1 hu
  unfold k0_pay13
  generalize k0_pay11 v1 u = z at hz ⊢
  simp only [pointwise]
  exact acc_step (n := n + 768) (acc_step (n := n + 512) (acc_step (n := n + 256) (acc_step (hx i) (fun j => (hy _).trans (lo (act p) R n (i 0).val j.val)) (fun j => ha _)) (fun j => (hy _).trans (hi (act p) R n (i 0).val j.val)) (fun j => hb _))
    (fun j => act_of ((hz _).trans (lo (hid p) R (n + 512) (i 0).val j.val))) (fun j => hc _)) (fun j => act_of ((hz _).trans (hi (hid p) R (n + 512) (i 0).val j.val))) (fun j => hd _)

theorem pay19_at {y : FVec Ideal S512x512 .f32} (h1 : IsN p R v1) (hx : IsAcc p R n x) (hy : IsHid p R n y) (ha : IsDown p n va) (hb : IsDown p (n + 256) vb) (hu : IsUp p (n + 512) u) (hc : IsDown p (n + 512) vc) :
    IsAcc p R (n + 768) (k0_pay19 v1 x y va vb u vc) := by
  intro i
  have hz := pay18_at h1 hu
  unfold k0_pay19
  generalize k0_pay18 v1 u = z at hz ⊢
  simp only [pointwise]
  exact acc_step (n := n + 512) (acc_step (n := n + 256) (acc_step (hx i) (fun j => act_of ((hy _).trans (lo (hid p) R n (i 0).val j.val))) (fun j => ha _)) (fun j => act_of ((hy _).trans (hi (hid p) R n (i 0).val j.val))) (fun j => hb _))
    (fun j => (hz _).trans (lo (act p) R (n + 512) (i 0).val j.val)) (fun j => hc _)

theorem pay24_at {y : FVec Ideal S512x256 .bf16} (h1 : IsN p R v1) (hx : IsAcc p R n x) (hy : IsHalf p R n y) (ha : IsDown p n va) (hu : IsUp p (n + 256) u) (hb : IsDown p (n + 256) vb) (hc : IsDown p (n + 512) vc) :
    IsAcc p R (n + 768) (k0_pay24 v1 x y (k0_pay21 va) u vb vc) := by
  intro i
  have hz := pay22_at h1 hu
  unfold k0_pay24 k0_pay21
  generalize k0_pay22 v1 u = z at hz ⊢
  simp only [pointwise]
  exact acc_step (n := n + 512) (acc_step (n := n + 256) (acc_step (hx i) (fun j => hy _) (fun j => ha _)) (fun j => act_of ((hz _).trans (lo (hid p) R (n + 256) (i 0).val j.val))) (fun j => hb _))
    (fun j => act_of ((hz _).trans (hi (hid p) R (n + 256) (i 0).val j.val))) (fun j => hc _)

theorem pay3_at {y : FVec Ideal S512x512 .bf16} {w : FVec Ideal S512x256 .bf16} (h1 : IsN p R v1) (hx : IsAcc p R n x) (hy : IsAct p R n y) (hw : IsHalf p R n w) (ha : IsDown p n va) (hb : IsDown p (n + 256) vb) (hu : IsUp p (n + 512) u) (hc : IsDown p (n + 512) vc) (hd : IsDown p (n + 768) vd) :
    IsAcc p R (n + 1024) (k0_pay3 v1 x y w va vb u vc vd) := by
  intro i
  have hz := pay1_at h1 hu
  unfold k0_pay3
  generalize k0_pay1 v1 u = z at hz ⊢
  simp only [pointwise]
  exact acc_step (n := n + 768) (acc_step (n := n + 512) (acc_step (n := n + 256) (acc_step (hx i) (fun j => hw _) (fun j => ha _)) (fun j => (hy _).trans (hi (act p) R n (i 0).val j.val)) (fun j => hb _))
    (fun j => act_of ((hz _).trans (lo (hid p) R (n + 512) (i 0).val j.val))) (fun j => hc _)) (fun j => act_of ((hz _).trans (hi (hid p) R (n + 512) (i 0).val j.val))) (fun j => hd _)
end

end Cert.Proof.Fwd

end
-- ==== Proof.Fwd.Body.lean ====
/- What one grid point leaves in its two results, and the arrays the host prepares. -/
module

public import proofs.«01_k».proof.Proof.Gen.FwdIdeal.Value
public import proofs.«01_k».proof.Proof.Gen.FwdReferenceIdeal.Read
public import proofs.«01_k».proof.Proof.Fwd.Chunk
public import Idealize.ShloMosaic.Lib.Claim
public import Idealize.ShloMosaic.Lib.Pipeline.Covers

@[expose] public section

noncomputable section

namespace Cert.Proof.Fwd

open Cert.FwdIdeal Cert.FwdIdeal.Gen
open Idealize.ShloMosaic Idealize.ShloMosaic.TcCoe Idealize.ShloMosaic.Tactic
open Cert.Proof.Step

variable {p : Args} {R n : ℕ}

theorem ldN {F : ℕ → ℕ → EReal} {x : Vec Ideal S512x1024 .bf16} (h : ∀ i : S512x1024.Idx, x i = F (R + (i 0).val) (i 1).val)
    (inb : ∀ a, (![0, 0] : Fin 2 → ℕ) a + S512x1024.size a ≤ S512x1024.size a) (i : S512x1024.Idx) : View.ld x (Rect.unit ![0, 0] S512x1024.size inb) i = F (R + (i 0).val) (i 1).val := by
  refine (h _).trans (congrArg₂ F ?_ ?_)
  · show R + (0 + 1 * (i 0).val) = R + (i 0).val
    omega
  · show 0 + 1 * (i 1).val = (i 1).val
    omega

theorem ldUp {x : Vec Ideal S8x1024x512 .bf16} (h : ∀ i : S8x1024x512.Idx, x i = p.up (i 1).val (512 * (i 0).val + (i 2).val)) {c : ℕ} (n : ℕ) (hn : n = 512 * c)
    (inb : ∀ a, (![c, 0, 0] : Fin 3 → ℕ) a + (![1, 1024, 512] : Fin 3 → ℕ) a ≤ S8x1024x512.size a) : IsUp p n (View.ld x (Rect.unit ![c, 0, 0] ![1, 1024, 512] inb)) := by
  intro i
  have h0 : (i 0).val < 1 := (i 0).isLt
  refine (h _).trans (congrArg₂ p.up ?_ ?_)
  · show 0 + 1 * (i 1).val = (i 1).val
    omega
  · show 512 * (c + 1 * (i 0).val) + (0 + 1 * (i 2).val) = n + (i 2).val
    omega

theorem ldDown {x : Vec Ideal S8x256x1024 .bf16} {d : ℕ} (h : ∀ i : S8x256x1024.Idx, x i = p.down (512 * (i 0).val + d + (i 1).val) (i 2).val) {c : ℕ} (n : ℕ) (hn : n = 512 * c + d)
    (inb : ∀ a, (![c, 0, 0] : Fin 3 → ℕ) a + (![1, 256, 1024] : Fin 3 → ℕ) a ≤ S8x256x1024.size a) : IsDown p n (View.ld x (Rect.unit ![c, 0, 0] ![1, 256, 1024] inb)) := by
  intro i
  have h0 : (i 0).val < 1 := (i 0).isLt
  refine (h _).trans (congrArg₂ p.down ?_ ?_)
  · show 512 * (c + 1 * (i 0).val) + d + (0 + 1 * (i 1).val) = n + (i 1).val
    omega
  · show 0 + 1 * (i 2).val = (i 2).val
    omega

/-- The blocks a grid point reads, the rows' blocks from row `R`. -/
structure Reads (p : Args) (R : ℕ) (x0 : Vec Ideal S512x1024 .f32) (x1 : Vec Ideal S512x1024 .bf16) (x2 : Vec Ideal S8x1024x512 .bf16) (x3 x4 : Vec Ideal S8x256x1024 .bf16) : Prop where
  h0 : ∀ i : S512x1024.Idx, x0 i = p.h (R + (i 0).val) (i 1).val
  h1 : IsN p R x1
  h2 : ∀ i : S8x1024x512.Idx, x2 i = p.up (i 1).val (512 * (i 0).val + (i 2).val)
  h3 : ∀ i : S8x256x1024.Idx, x3 i = p.down (512 * (i 0).val + 0 + (i 1).val) (i 2).val
  h4 : ∀ i : S8x256x1024.Idx, x4 i = p.down (512 * (i 0).val + 256 + (i 1).val) (i 2).val

variable {x0 : Vec Ideal S512x1024 .f32} {x1 : Vec Ideal S512x1024 .bf16} {x2 : Vec Ideal S8x1024x512 .bf16} {x3 x4 : Vec Ideal S8x256x1024 .bf16} (H : Reads p R x0 x1 x2 x3 x4)
include H

theorem n_at : IsN p R (k0_pay29 x0 x1 x2 x3 x4) := pay4_at (ldN (F := p.u) H.h1 _)
theorem y_at : IsHid p R 1536 (k0_pay30 x0 x1 x2 x3 x4) := pay14_at (n_at H) (ldUp H.h2 1536 rfl _)

theorem out5 (i : S512x4096.Idx) : out0_5 x0 x1 x2 x3 x4 i = hid p (R + (i 0).val) (i 1).val := by
  unfold out0_5
  canon_tiles x h
  · exact (pay1_at (n_at H) (ldUp H.h2 3584 rfl _) x).trans (congrArg₂ (hid p) (by omega) (by omega))
  · exact (pay25_at (n_at H) (ldUp H.h2 3072 rfl _) x).trans (congrArg₂ (hid p) (by omega) (by omega))
  · exact (pay22_at (n_at H) (ldUp H.h2 2560 rfl _) x).trans (congrArg₂ (hid p) (by omega) (by omega))
  · exact (pay16_at (n_at H) (ldUp H.h2 2048 rfl _) x).trans (congrArg₂ (hid p) (by omega) (by omega))
  · exact (y_at H x).trans (congrArg₂ (hid p) (by omega) (by omega))
  · exact (pay11_at (n_at H) (ldUp H.h2 1024 rfl _) x).trans (congrArg₂ (hid p) (by omega) (by omega))
  · exact (pay8_at (ldN (F := p.u) H.h1 _) (ldUp H.h2 512 rfl _) x).trans (congrArg₂ (hid p) (by omega) (by omega))
  · exact (pay5_at (ldN (F := p.u) H.h1 _) (ldUp H.h2 0 rfl _) x).trans (congrArg₂ (hid p) (by omega) (by omega))

/-- The residual stream's share after the first chunk. -/
theorem a7 : IsAcc p R 512 (k0_pay7 x1 x0 (View.ld x2 r0_1) (View.ld x3 r0_3) (View.ld x4 r0_3)) :=
  pay7_at (n := 0) H.h1 (fun i => (H.h0 i).trans (by unfold acc; rw [Finset.sum_range_zero, add_zero])) (ldUp H.h2 0 rfl _) (ldDown H.h3 0 rfl _) (ldDown H.h4 256 rfl _)
theorem a13 : IsAcc p R 1536 (k0_pay13 (k0_pay29 x0 x1 x2 x3 x4) (k0_pay7 x1 x0 (View.ld x2 r0_1) (View.ld x3 r0_3) (View.ld x4 r0_3)) (k0_pay10 x1 (View.ld x2 r0_4)) (View.ld x3 r0_6) (View.ld x4 r0_6) (View.ld x2 r0_7) (View.ld x3 r0_9) (View.ld x4 r0_9)) :=
  pay13_at (n := 512) (n_at H) (a7 H) (pay10_at H.h1 (ldUp H.h2 512 rfl _)) (ldDown H.h3 512 rfl _) (ldDown H.h4 768 rfl _) (ldUp H.h2 1024 rfl _) (ldDown H.h3 1024 rfl _) (ldDown H.h4 1280 rfl _)
theorem a19 {x : FVec Ideal S512x1024 .f32} (hx : IsAcc p R 1536 x) : IsAcc p R 2304 (k0_pay19 (k0_pay29 x0 x1 x2 x3 x4) x (k0_pay30 x0 x1 x2 x3 x4) (View.ld x3 r0_12) (View.ld x4 r0_12) (View.ld x2 r0_13) (View.ld x3 r0_15)) :=
  pay19_at (n := 1536) (n_at H) hx (y_at H) (ldDown H.h3 1536 rfl _) (ldDown H.h4 1792 rfl _) (ldUp H.h2 2048 rfl _) (ldDown H.h3 2048 rfl _)
theorem a24 {x : FVec Ideal S512x1024 .f32} (hx : IsAcc p R 2304 x) : IsAcc p R 3072 (k0_pay24 (k0_pay29 x0 x1 x2 x3 x4) x (k0_pay20 (k0_pay29 x0 x1 x2 x3 x4) (View.ld x2 r0_13)) (k0_pay21 (View.ld x4 r0_15)) (View.ld x2 r0_16) (View.ld x3 r0_18) (View.ld x4 r0_18)) :=
  pay24_at (n := 2304) (n_at H) hx (pay20_at (n := 2048) (n_at H) (ldUp H.h2 2048 rfl _)) (ldDown H.h4 2304 rfl _) (ldUp H.h2 2560 rfl _) (ldDown H.h3 2560 rfl _) (ldDown H.h4 2816 rfl _)
theorem a3 {x : FVec Ideal S512x1024 .f32} (hx : IsAcc p R 3072 x) : IsAcc p R 4096 (k0_pay3 (k0_pay29 x0 x1 x2 x3 x4) x (k0_pay27 (k0_pay29 x0 x1 x2 x3 x4) (View.ld x2 r0_19)) (k0_pay28 (k0_pay29 x0 x1 x2 x3 x4) (View.ld x2 r0_19)) (View.ld x3 r0_21) (View.ld x4 r0_21) (View.ld x2 r0_22) (View.ld x3 r0_24) (View.ld x4 r0_24)) :=
  pay3_at (n := 3072) (n_at H) hx (pay27_at (n_at H) (ldUp H.h2 3072 rfl _)) (pay28_at (n_at H) (ldUp H.h2 3072 rfl _)) (ldDown H.h3 3072 rfl _) (ldDown H.h4 3328 rfl _) (ldUp H.h2 3584 rfl _) (ldDown H.h3 3584 rfl _) (ldDown H.h4 3840 rfl _)

theorem out6 (i : S512x1024.Idx) : out0_6 x0 x1 x2 x3 x4 i = acc p 4096 (R + (i 0).val) (i 1).val := by
  unfold out0_6
  frame_out
  exact a3 H (a24 H (a19 H (a13 H))) i

omit H

variable (m : (ℓ : Loc nD τ sig) → Buf (Elt Ideal) ℓ) (c : Dev nD)

/-- What a device's arguments hold. -/
def held : Args :=
  ⟨at2 (m ((c : Thread nD τ).loc main_arg0)), at2 (Cert.FwdReferenceIdeal.Read.val_main_v11 (F := Ideal) (m ((c : Thread nD τ).loc main_arg0)) (m ((c : Thread nD τ).loc main_arg1))),
    at2 (m ((c : Thread nD τ).loc main_arg2)), at2 (m ((c : Thread nD τ).loc main_arg3))⟩

theorem entry_u (i : S4096x1024.Idx) : V m c main_v17 i = (held m c).u (i 0).val (i 1).val := by
  refine Eq.trans ?_ (at2_eq (Cert.FwdReferenceIdeal.Read.val_main_v11 (F := Ideal) (m ((c : Thread nD τ).loc main_arg0)) (m ((c : Thread nD τ).loc main_arg1))) i)
  entry_read
  rfl

theorem entry_up (i : S8x1024x512.Idx) : V m c main_v2 i = (held m c).up (i 1).val (512 * (i 0).val + (i 2).val) := by
  entry_read
  pointwise
  refine (at2_eq (m ((c : Thread nD τ).loc main_arg2)) _).trans (congrArg₂ (held m c).up rfl ?_)
  show (i 0).val * 512 + (i 2).val = 512 * (i 0).val + (i 2).val
  omega

theorem entry_a (i : S8x256x1024.Idx) : V m c main_v19 i = (held m c).down (512 * (i 0).val + 0 + (i 1).val) (i 2).val := by
  entry_read
  pointwise
  refine (at2_eq (m ((c : Thread nD τ).loc main_arg3)) _).trans (congrArg₂ (held m c).down ?_ rfl)
  show (i 0).val * 512 + (i 1).val = 512 * (i 0).val + 0 + (i 1).val
  omega

theorem entry_b (i : S8x256x1024.Idx) : V m c main_v21 i = (held m c).down (512 * (i 0).val + 256 + (i 1).val) (i 2).val := by
  entry_read
  pointwise
  refine (at2_eq (m ((c : Thread nD τ).loc main_arg3)) _).trans (congrArg₂ (held m c).down ?_ rfl)
  show (i 0).val * 512 + 256 + (i 1).val = 512 * (i 0).val + 256 + (i 1).val
  omega

theorem idx0_0 : ∀ t : Fin cfg0.N, (cfg0.win 0).index t (0 : Fin 2) = t.val := by decide
theorem idx0_1 : ∀ t : Fin cfg0.N, (cfg0.win 0).index t (1 : Fin 2) = 0 := by decide
theorem idx1_0 : ∀ t : Fin cfg0.N, (cfg0.win 1).index t (0 : Fin 2) = t.val := by decide
theorem idx1_1 : ∀ t : Fin cfg0.N, (cfg0.win 1).index t (1 : Fin 2) = 0 := by decide
theorem idx2 : ∀ t : Fin cfg0.N, ∀ a : Fin 3, (cfg0.win 2).index t a = 0 := by decide
theorem idx3 : ∀ t : Fin cfg0.N, ∀ a : Fin 3, (cfg0.win 3).index t a = 0 := by decide
theorem idx4 : ∀ t : Fin cfg0.N, ∀ a : Fin 3, (cfg0.win 4).index t a = 0 := by decide
theorem idx5_0 : ∀ t : Fin cfg0.N, (cfg0.win 5).index t (0 : Fin 2) = t.val := by decide
theorem idx5_1 : ∀ t : Fin cfg0.N, (cfg0.win 5).index t (1 : Fin 2) = 0 := by decide
theorem idx6_0 : ∀ t : Fin cfg0.N, (cfg0.win 6).index t (0 : Fin 2) = t.val := by decide
theorem idx6_1 : ∀ t : Fin cfg0.N, (cfg0.win 6).index t (1 : Fin 2) = 0 := by decide

theorem emb0_0 (t : Fin cfg0.N) (y : S512x1024.Idx) : (((cfg0.win 0).rect t).emb y (0 : Fin 2) : ℕ) = 512 * t.val + (y 0).val := by
  refine ((cfg0.win 0).rect_emb_val t y (0 : Fin 2)).trans ?_
  rw [idx0_0]
  show t.val * 512 + (y 0).val = _
  omega
theorem emb0_1 (t : Fin cfg0.N) (y : S512x1024.Idx) : (((cfg0.win 0).rect t).emb y (1 : Fin 2) : ℕ) = (y 1).val := by
  refine ((cfg0.win 0).rect_emb_val t y (1 : Fin 2)).trans ?_
  rw [idx0_1, zero_mul, zero_add]
theorem emb1_0 (t : Fin cfg0.N) (y : S512x1024.Idx) : (((cfg0.win 1).rect t).emb y (0 : Fin 2) : ℕ) = 512 * t.val + (y 0).val := by
  refine ((cfg0.win 1).rect_emb_val t y (0 : Fin 2)).trans ?_
  rw [idx1_0]
  show t.val * 512 + (y 0).val = _
  omega
theorem emb1_1 (t : Fin cfg0.N) (y : S512x1024.Idx) : (((cfg0.win 1).rect t).emb y (1 : Fin 2) : ℕ) = (y 1).val := by
  refine ((cfg0.win 1).rect_emb_val t y (1 : Fin 2)).trans ?_
  rw [idx1_1, zero_mul, zero_add]
theorem emb2 (t : Fin cfg0.N) (y : S8x1024x512.Idx) (a : Fin 3) : (((cfg0.win 2).rect t).emb y a : ℕ) = (y a).val := by
  refine ((cfg0.win 2).rect_emb_val t y a).trans ?_
  rw [idx2, zero_mul, zero_add]
theorem emb3 (t : Fin cfg0.N) (y : S8x256x1024.Idx) (a : Fin 3) : (((cfg0.win 3).rect t).emb y a : ℕ) = (y a).val := by
  refine ((cfg0.win 3).rect_emb_val t y a).trans ?_
  rw [idx3, zero_mul, zero_add]
theorem emb4 (t : Fin cfg0.N) (y : S8x256x1024.Idx) (a : Fin 3) : (((cfg0.win 4).rect t).emb y a : ℕ) = (y a).val := by
  refine ((cfg0.win 4).rect_emb_val t y a).trans ?_
  rw [idx4, zero_mul, zero_add]

theorem read0 (Z : (b : Ref sig .tc) → Buf (Elt Ideal) ((c : Thread nD τ).loc b)) (t : Fin cfg0.N) (y : S512x1024.Idx) :
    ((cfg0.win 0).blk t).view.read (Elt Ideal) (Z (Pipeline.arrRef spec0 0)) y = Z main_arg0 (((cfg0.win 0).rect t).emb y) := rfl
theorem read1 (Z : (b : Ref sig .tc) → Buf (Elt Ideal) ((c : Thread nD τ).loc b)) (t : Fin cfg0.N) (y : S512x1024.Idx) :
    ((cfg0.win 1).blk t).view.read (Elt Ideal) (Z (Pipeline.arrRef spec0 1)) y = Z main_v17 (((cfg0.win 1).rect t).emb y) := rfl
theorem read2 (Z : (b : Ref sig .tc) → Buf (Elt Ideal) ((c : Thread nD τ).loc b)) (t : Fin cfg0.N) (y : S8x1024x512.Idx) :
    ((cfg0.win 2).blk t).view.read (Elt Ideal) (Z (Pipeline.arrRef spec0 2)) y = Z main_v2 (((cfg0.win 2).rect t).emb y) := rfl
theorem read3 (Z : (b : Ref sig .tc) → Buf (Elt Ideal) ((c : Thread nD τ).loc b)) (t : Fin cfg0.N) (y : S8x256x1024.Idx) :
    ((cfg0.win 3).blk t).view.read (Elt Ideal) (Z (Pipeline.arrRef spec0 3)) y = Z main_v19 (((cfg0.win 3).rect t).emb y) := rfl
theorem read4 (Z : (b : Ref sig .tc) → Buf (Elt Ideal) ((c : Thread nD τ).loc b)) (t : Fin cfg0.N) (y : S8x256x1024.Idx) :
    ((cfg0.win 4).blk t).view.read (Elt Ideal) (Z (Pipeline.arrRef spec0 4)) y = Z main_v21 (((cfg0.win 4).rect t).emb y) := rfl

theorem point (t : Fin cfg0.N) : Reads (held m c) (512 * t.val) (iblk m c 0 t) (iblk m c 1 t) (iblk m c 2 t) (iblk m c 3 t) (iblk m c 4 t) where
  h0 y := (read0 c (fun b => V m c b) t y).trans ((congrFun (V_main_arg0 m c) _).trans ((at2_eq (m ((c : Thread nD τ).loc main_arg0)) _).trans (congrArg₂ (held m c).h (emb0_0 t y) (emb0_1 t y))))
  h1 y := (read1 c (fun b => V m c b) t y).trans ((entry_u m c _).trans (congrArg₂ (held m c).u (emb1_0 t y) (emb1_1 t y)))
  h2 y := (read2 c (fun b => V m c b) t y).trans ((entry_up m c _).trans (congrArg₂ (held m c).up (emb2 t y 1) (congrArg₂ (fun a b : ℕ => 512 * a + b) (emb2 t y 0) (emb2 t y 2))))
  h3 y := (read3 c (fun b => V m c b) t y).trans ((entry_a m c _).trans (congrArg₂ (held m c).down (congrArg₂ (fun a b : ℕ => 512 * a + 0 + b) (emb3 t y 0) (emb3 t y 1)) (emb3 t y 2)))
  h4 y := (read4 c (fun b => V m c b) t y).trans ((entry_b m c _).trans (congrArg₂ (held m c).down (congrArg₂ (fun a b : ℕ => 512 * a + 256 + b) (emb4 t y 0) (emb4 t y 1)) (emb4 t y 2)))

theorem arr5 : (dats m 0 c).arrAt 5 cfg0.N = fun i : S4096x4096.Idx => hid (held m c) (i 0).val (i 1).val := by
  refine (dats m 0 c).arrAt_eq_of_covers 5 _ (by decide +kernel) fun t hf y => ?_
  blk_simp
  rw [after0_5]
  refine (out5 (point m c t) y).trans (congrArg₂ (hid (held m c)) ?_ ?_)
  · rw [show win0_5.index t 0 = t.val from idx5_0 t]
    omega
  · rw [show win0_5.index t 1 = 0 from idx5_1 t]
    omega

theorem arr6 : (dats m 0 c).arrAt 6 cfg0.N = fun i : S4096x1024.Idx => acc (held m c) 4096 (i 0).val (i 1).val := by
  refine (dats m 0 c).arrAt_eq_of_covers 6 _ (by decide +kernel) fun t hf y => ?_
  blk_simp
  rw [after0_6]
  refine (out6 (point m c t) y).trans (congrArg₂ (acc (held m c) 4096) ?_ ?_)
  · rw [show win0_6.index t 0 = t.val from idx6_0 t]
    omega
  · rw [show win0_6.index t 1 = 0 from idx6_1 t]
    omega

end Cert.Proof.Fwd

end
-- ==== Proof.Fwd.Claims.lean ====
/- The claims about the feed-forward block's forward call. -/
module

public import proofs.«01_k».proof.Defs
public import proofs.«01_k».proof.Proof.Gen.Fwd.Frame
public import proofs.«01_k».proof.Proof.Gen.FwdReferenceIdeal.Run
public import proofs.«01_k».proof.Proof.Fwd.Body

@[expose] public section

noncomputable section

namespace Cert.Proof.Fwd

open Idealize.ShloMosaic Idealize.ShloMosaic.TcCoe Idealize.SL.Sem
open Cert.Proof.Step
open Cert.FwdReferenceIdeal Cert.FwdReferenceIdeal.Read

section
variable (x0 : (⟨S4096x1024, .f32⟩ : BufTy).Contents (Elt Ideal)) (x1 : (⟨S1x1024, .f32⟩ : BufTy).Contents (Elt Ideal)) (x2 : (⟨S1024x4096, .f32⟩ : BufTy).Contents (Elt Ideal)) (x3 : (⟨S4096x1024, .f32⟩ : BufTy).Contents (Elt Ideal))

/-- What the reference's arguments hold. -/
def given : Args := ⟨at2 x0, at2 (val_main_v11 (F := Ideal) x0 x1), at2 x2, at2 x3⟩

theorem v12_at (i : S4096x4096.Idx) : val_main_v12 (F := Ideal) x0 x1 x2 i = hid (given x0 x1 x2 x3) (i 0).val (i 1).val :=
  (val_main_v12_apply x0 x1 x2 i).trans (Finset.sum_congr rfl fun k _ => congrArg₂ (· * ·) (at2_eq (val_main_v11 (F := Ideal) x0 x1) _) (at2_eq x2 _))

theorem v15_at (i : S4096x4096.Idx) : val_main_v15 (F := Ideal) x0 x1 x2 i = act (given x0 x1 x2 x3) (i 0).val (i 1).val := by
  have h : val_main_v14 (F := Ideal) x0 x1 x2 i = max (hid (given x0 x1 x2 x3) (i 0).val (i 1).val) 0 :=
    congrArg₂ max (v12_at x0 x1 x2 x3 i) ((val_main_call0_v0_apply (F := Ideal) i).trans Ideal.ofBits_zero_f32)
  exact congrArg₂ (· * ·) h h

theorem v17_at (i : S4096x1024.Idx) : val_main_v17 (F := Ideal) x0 x1 x2 x3 i = acc (given x0 x1 x2 x3) 4096 (i 0).val (i 1).val := by
  refine congrArg₂ (· + ·) (at2_eq x0 i) ((val_main_v16_apply x0 x1 x2 x3 i).trans ?_)
  refine (Finset.sum_congr rfl fun k _ => congrArg₂ (· * ·) (v15_at x0 x1 x2 x3 _) (at2_eq x3 _)).trans ?_
  exact (Finset.sum_range fun j => act (given x0 x1 x2 x3) (i 0).val j * at2 x3 j (i 1).val).symm
end

theorem frame_fwd : Cert.quiescent_Fwd := fun m ρ _ => Cert.Fwd.Gen.frame (F := Bits) m ρ

theorem frame_fwdIdeal : Cert.quiescent_FwdIdeal := fun m ρ _ => Cert.FwdIdeal.Gen.frame (F := Ideal) m ρ

theorem frame_fwdReferenceIdeal : Cert.quiescent_FwdReferenceIdeal := fun m ρ _ =>
  (θ_run Cert.FwdReferenceIdeal.defs _ _).mono (fun r h => ⟨fun c => (h c).2.2, Idealize.ShloMosaic.sem_eq_zero_of_no_sems (by decide) r.2⟩)
    (Cert.FwdReferenceIdeal.Value.run (F := Ideal) m ρ)

/-- The two programs leave the same hidden layer and the same residual stream. -/
theorem algebraic_fwd : Cert.algebraic_FwdIdeal_FwdReferenceIdeal := by
  intro m ρ m' ρ' _ hagree
  refine ⟨fun c => fun i : S4096x4096.Idx => hid (held m c) (i 0).val (i 1).val, fun c => fun i : S4096x1024.Idx => acc (held m c) 4096 (i 0).val (i 1).val,
    (θ_run Cert.FwdIdeal.defs _ _).mono (fun r h c => ⟨(h c).1.trans (arr5 m c), (h c).2.1.trans (arr6 m c), (h c).2.2⟩) (Cert.FwdIdeal.Value.run_blocks (F := Ideal) m ρ), ?_⟩
  have H : ∀ c : Dev nD, given (m' ((c : Thread nD τ).loc main_arg0)) (m' ((c : Thread nD τ).loc main_arg1)) (m' ((c : Thread nD τ).loc main_arg2)) (m' ((c : Thread nD τ).loc main_arg3)) = held m c := fun c => by
    obtain ⟨a0, a1, a2, a3⟩ := hagree c
    rw [a0, a1, a2, a3]
    rfl
  refine (θ_run Cert.FwdReferenceIdeal.defs _ _).mono (fun r h c => ⟨?_, ?_, (h c).2.2⟩) (Cert.FwdReferenceIdeal.Value.run (F := Ideal) m' ρ')
  · exact (h c).1.trans ((val_main_v13_eq (F := Ideal) _ _ _).trans (funext fun i => (v12_at _ _ _ (m' ((c : Thread nD τ).loc main_arg3)) i).trans (congrArg (fun p => hid p (i 0).val (i 1).val) (H c))))
  · exact (h c).2.1.trans ((val_main_v17_eq (F := Ideal) _ _ _ _).trans (funext fun i => (v17_at _ _ _ _ i).trans (congrArg (fun p => acc p 4096 (i 0).val (i 1).val) (H c))))

end Cert.Proof.Fwd

end
-- ==== Proof.Up.Body.lean ====
/- What one grid point adds to the running product, and the result after the last. -/
module

public import proofs.«01_k».proof.Proof.Gen.UpIdeal.Value
public import Idealize.ShloMosaic.Lib.Pipeline.ValueKit
public import Idealize.ShloMosaic.Lib.Pipeline.ValueKit.Acc
public import Idealize.ShloMosaic.Lib.Claim
public import Idealize.ShloMosaic.Lib.Pipeline.Covers
public import Idealize.ShloMosaic.Lib.Pipeline.ReadBack
public import proofs.«01_k».proof.Proof.Step.Sums

@[expose] public section

noncomputable section

namespace Cert.Proof.Up

open Cert.UpIdeal Cert.UpIdeal.Gen
open Idealize.ShloMosaic Idealize.ShloMosaic.TcCoe Idealize.ShloMosaic.Tactic
open Cert.Proof.Step

variable {A B : ℕ → ℕ → EReal} {n c : ℕ}

abbrev IsA (A : ℕ → ℕ → EReal) (n : ℕ) (z : S512x1024.Idx → EReal) : Prop := ∀ i : S512x1024.Idx, z i = A (n + (i 0).val) (i 1).val
abbrev IsB (B : ℕ → ℕ → EReal) (n c : ℕ) (z : S512x1024.Idx → EReal) : Prop := ∀ i : S512x1024.Idx, z i = B (n + (i 0).val) (c + (i 1).val)
abbrev IsAcc (A B : ℕ → ℕ → EReal) (n c : ℕ) (z : S1024x1024.Idx → EReal) : Prop := ∀ i : S1024x1024.Idx, z i = rows A B n (i 0).val (c + (i 1).val)
abbrev IsAll (A B : ℕ → ℕ → EReal) (n : ℕ) (z : S1024x4096.Idx → EReal) : Prop := ∀ i : S1024x4096.Idx, z i = rows A B n (i 0).val (i 1).val
abbrev IsOut (A B : ℕ → ℕ → EReal) (n c : ℕ) (z : S1x1024x512.Idx → EReal) : Prop := ∀ i : S1x1024x512.Idx, z i = rows A B n (i 1).val (c + (i 2).val)

section
variable {v3 v11 : Vec Ideal S512x1024 .bf16} {s : Vec Ideal S1024x1024 .f32}

theorem pay15_at (h3 : IsB B n c v3) (h11 : IsA A n v11) (hs : IsAcc A B n c s) : IsAcc A B (n + 512) c (k0_pay15 v3 v11 s) := by
  intro i
  unfold k0_pay15 k0_pay14
  simp only [pointwise]
  exact rows_step (hs i) (fun k => h11 _) (fun k => h3 _)
theorem pay16_at (h3 : IsB B n c v3) (h11 : IsA A n v11) (hs : IsAcc A B n c s) : IsAcc A B (n + 512) c (k0_pay16 v3 v11 s) := fun i => pay15_at h3 h11 hs i
theorem pay1_at (h3 : IsB B n c v3) (h11 : IsA A n v11) (hs : IsAcc A B n c s) : IsAcc A B (n + 512) c (k0_pay1 (k0_pay17 v3 v11 s)) := fun i => pay15_at h3 h11 hs i
theorem pay2_at (h3 : IsB B n c v3) (h11 : IsA A n v11) (hs : IsAcc A B n c s) : IsAcc A B (n + 512) c (k0_pay2 (k0_pay13 v3) (k0_pay14 v11) s) := fun i => pay15_at h3 h11 hs i
end

section
variable {z : Vec Ideal S1024x512 .f32} (h : ∀ i : S1024x512.Idx, z i = rows A B n (i 0).val (c + (i 1).val))
include h
theorem pay6_at : IsOut A B n c (k0_pay6 z) := by
  intro i
  unfold k0_pay6
  simp only [pointwise]
  exact h _
theorem pay3_at : IsOut A B n c (k0_pay3 (k0_pay11 z)) := fun i => pay6_at h i
theorem pay4_at : IsOut A B n c (k0_pay4 z) := fun i => pay6_at h i
theorem pay5_at : IsOut A B n c (k0_pay5 z) := fun i => pay6_at h i
theorem pay7_at : IsOut A B n c (k0_pay7 z) := fun i => pay6_at h i
theorem pay8_at : IsOut A B n c (k0_pay8 z) := fun i => pay6_at h i
theorem pay9_at : IsOut A B n c (k0_pay9 z) := fun i => pay6_at h i
theorem pay10_at : IsOut A B n c (k0_pay10 z) := fun i => pay6_at h i
end

theorem ldB {x : Vec Ideal S512x4096 .bf16} (h : ∀ i : S512x4096.Idx, x i = B (n + (i 0).val) (i 1).val) (c : ℕ)
    (inb : ∀ a, (![0, c] : Fin 2 → ℕ) a + S512x1024.size a ≤ S512x4096.size a) : IsB B n c (View.ld x (Rect.unit ![0, c] S512x1024.size inb)) := by
  intro i
  refine (h _).trans (congrArg₂ B ?_ ?_)
  · show n + (0 + 1 * (i 0).val) = n + (i 0).val
    omega
  · show c + 1 * (i 1).val = c + (i 1).val
    omega

theorem ldS {x : Vec Ideal S1024x4096 .f32} (h : IsAll A B n x) (c : ℕ)
    (inb : ∀ a, (![0, c] : Fin 2 → ℕ) a + S1024x1024.size a ≤ S1024x4096.size a) : IsAcc A B n c (View.ld x (Rect.unit ![0, c] S1024x1024.size inb)) := by
  intro i
  refine (h _).trans (congrArg₂ (rows A B n) ?_ ?_)
  · show 0 + 1 * (i 0).val = (i 0).val
    omega
  · show c + 1 * (i 1).val = c + (i 1).val
    omega

theorem fill_at : IsAll A B 0 (k0_pay12 (F := Ideal)) := by
  intro i
  unfold k0_pay12
  simp only [pointwise]
  exact (rows_zero _ _ _ _).symm

/-- The index of the product a tile's element is. -/
theorem tile_at {i : S1024x4096.Idx} {x : S1024x1024.Idx} {c : ℕ} {y : EReal} (h : y = rows A B n (x 0).val (c + (x 1).val)) (h0 : (i 0).val = (x 0).val) (h1 : (i 1).val = c + (x 1).val) :
    y = rows A B n (i 0).val (i 1).val := by
  rw [h, h0, h1]

theorem placed {w : S1024x1024.Idx → EReal} {c : ℕ} (h : IsAcc A B n c w) (x : S1024x1024.Idx)
    (inb : ∀ a, (![0, c] : Fin 2 → ℕ) a + S1024x1024.size a ≤ S1024x4096.size a) :
    w x = rows A B n ((Rect.unit (s := S1024x4096) ![0, c] S1024x1024.size inb).emb x 0).val ((Rect.unit (s := S1024x4096) ![0, c] S1024x1024.size inb).emb x 1).val :=
  (h x).trans (congrArg₂ (rows A B n) (show (x 0).val = 0 + 1 * (x 0).val by omega) (show c + (x 1).val = c + 1 * (x 1).val by omega))

/-- A column block of the finished product. -/
theorem read_some {L : List (View.Piece (Elt Ideal) S1024x4096 .f32)} (h : IsAll A B n (View.canon L)) (c : ℕ)
    (inb : ∀ a, (![0, c] : Fin 2 → ℕ) a + S1024x512.size a ≤ S1024x4096.size a) (i : S1024x512.Idx) :
    (View.whole cc0_scratch0).readCov L (Rect.unit (s := S1024x4096) ![0, c] S1024x512.size inb).toLoadRect i = rows A B n (i 0).val (c + (i 1).val) := by
  refine (congrFun (View.readCov_eq_canon' (View.whole cc0_scratch0) L (Rect.unit (s := S1024x4096) ![0, c] S1024x512.size inb).toLoadRect) i).trans ((h _).trans (congrArg₂ (rows A B n) ?_ ?_))
  · show 0 + 1 * (i 0).val = (i 0).val
    omega
  · show c + 1 * (i 1).val = c + (i 1).val
    omega

theorem zero2 : ∀ a : Fin 2, (![0, 0] : Fin 2 → ℕ) a = 0 := by decide

/-- The pieces one grid point stores over what the point before left. -/
theorem tiles_at {x0 : Vec Ideal S512x1024 .bf16} {x1 : Vec Ideal S512x4096 .bf16} {s : Vec Ideal S1024x4096 .f32} (ha : IsA A n x0) (hb : ∀ i : S512x4096.Idx, x1 i = B (n + (i 0).val) (i 1).val) (hs : IsAll A B n s) :
    IsAll A B (n + 512) (View.canon (Val := Elt Ideal) (s := S1024x4096) (e := .f32) [
      ⟨Rect.unit ![0, 3072] S1024x1024.size inb_S1024x4096_S1024x1024_0_3072, k0_pay2 (k0_pay13 (View.ld x1 (Rect.unit ![0, 3072] S512x1024.size inb_S512x4096_S512x1024_0_3072))) (k0_pay14 x0) (View.ld s (Rect.unit ![0, 3072] S1024x1024.size inb_S1024x4096_S1024x1024_0_3072))⟩,
      ⟨Rect.unit ![0, 2048] S1024x1024.size inb_S1024x4096_S1024x1024_0_2048, k0_pay1 (k0_pay17 (View.ld x1 (Rect.unit ![0, 2048] S512x1024.size inb_S512x4096_S512x1024_0_2048)) x0 (View.ld s (Rect.unit ![0, 2048] S1024x1024.size inb_S1024x4096_S1024x1024_0_2048)))⟩,
      ⟨Rect.unit ![0, 1024] S1024x1024.size inb_S1024x4096_S1024x1024_0_1024, k0_pay16 (View.ld x1 (Rect.unit ![0, 1024] S512x1024.size inb_S512x4096_S512x1024_0_1024)) x0 (View.ld s (Rect.unit ![0, 1024] S1024x1024.size inb_S1024x4096_S1024x1024_0_1024))⟩,
      ⟨Rect.unit ![0, 0] S1024x1024.size inb_S1024x4096_S1024x1024_0_0, k0_pay15 (View.ld x1 (Rect.unit ![0, 0] S512x1024.size inb_S512x4096_S512x1024_0_0)) x0 (View.ld s (Rect.unit ![0, 0] S1024x1024.size inb_S1024x4096_S1024x1024_0_0))⟩]) := by
  intro i
  canon_tiles x h
  · exact tile_at (pay2_at (ldB hb 3072 _) ha (ldS hs 3072 _) x) (by omega) h1
  · exact tile_at (pay1_at (ldB hb 2048 _) ha (ldS hs 2048 _) x) (by omega) h1
  · exact tile_at (pay16_at (ldB hb 1024 _) ha (ldS hs 1024 _) x) (by omega) h1
  · exact tile_at (pay15_at (ldB hb 0 _) ha (ldS hs 0 _) x) (by omega) (by omega)

theorem chunk_at {i : S8x1024x512.Idx} {x : S1x1024x512.Idx} {c k : ℕ} {y : EReal} (h : y = rows A B n (x 1).val (c + (x 2).val)) (h0 : (i 0).val = k + (x 0).val) (h1 : (i 1).val = (x 1).val) (h2 : (i 2).val = (x 2).val) (hc : c = 512 * k) :
    y = rows A B n (i 1).val (512 * (i 0).val + (i 2).val) := by
  have : (x 0).val < 1 := (x 0).isLt
  rw [h, h1, h2, h0]
  refine congrArg (rows A B n _) ?_
  omega

variable (m : (ℓ : Loc nD τ sig) → Buf (Elt Ideal) ℓ) {d : Dev nD} {t : Fin cfg0.N}

theorem stepB (h : ¬ t.val % 8 = 0) (h' : ¬ t.val % 8 = 7) (ha : IsA A n (iblk m d 0 t)) (hb : ∀ i : S512x4096.Idx, iblk m d 1 t i = B (n + (i 0).val) (i 1).val)
    (hs : ∀ hn, IsAll A B n (outsAt0 m d (t.val - 1) hn).2) : IsAll A B (n + 512) (outsAt0 m d t.val t.isLt).2 := by
  intro i
  rw [outsAt0_B m d t h h']
  frame_out
  rw [read_unread_whole]
  exact tiles_at ha hb (hs _) i

theorem stepC (h : ¬ t.val % 8 = 0) (h' : t.val % 8 = 7) (ha : IsA A n (iblk m d 0 t)) (hb : ∀ i : S512x4096.Idx, iblk m d 1 t i = B (n + (i 0).val) (i 1).val)
    (hs : ∀ hn, IsAll A B n (outsAt0 m d (t.val - 1) hn).2) (i : S8x1024x512.Idx) : (outsAt0 m d t.val t.isLt).1 i = rows A B (n + 512) (i 1).val (512 * (i 0).val + (i 2).val) := by
  rw [outsAt0_C m d t h h']
  frame_out
  rw [read_unread_whole]
  have T := tiles_at ha hb (hs (Nat.lt_of_le_of_lt (Nat.sub_le _ _) t.isLt))
  canon_tiles x h
  · exact chunk_at (pay5_at (read_some T 3584 _) x) h0 (by omega) (by omega) rfl
  · exact chunk_at (pay4_at (read_some T 3072 _) x) h0 (by omega) (by omega) rfl
  · exact chunk_at (pay3_at (read_some T 2560 _) x) h0 (by omega) (by omega) rfl
  · exact chunk_at (pay10_at (read_some T 2048 _) x) h0 (by omega) (by omega) rfl
  · exact chunk_at (pay9_at (read_some T 1536 _) x) h0 (by omega) (by omega) rfl
  · exact chunk_at (pay8_at (read_some T 1024 _) x) h0 (by omega) (by omega) rfl
  · exact chunk_at (pay7_at (read_some T 512 _) x) h0 (by omega) (by omega) rfl
  · exact chunk_at (k := 0) (pay6_at (read_some T 0 _) x) (by omega) (by omega) (by omega) rfl

theorem stepA (h : t.val % 8 = 0) (h' : ¬ t.val % 8 = 7) (ha : IsA A 0 (iblk m d 0 t)) (hb : ∀ i : S512x4096.Idx, iblk m d 1 t i = B (0 + (i 0).val) (i 1).val) :
    IsAll A B (0 + 512) (outsAt0 m d t.val t.isLt).2 := by
  intro i
  rw [outsAt0_A m d t h h']
  frame_out
  refine (View.canon_append_of_piecesOf (Val := Elt Ideal) (s := S1024x4096) (e := .f32) (fun i : S1024x4096.Idx => rows A B (0 + 512) (i 0).val (i 1).val) [_] [_, _, _, _] ⟨fun x => ?_, fun x => ?_, fun x => ?_, fun x => ?_, trivial⟩ i ?_)
  · refine placed (pay2_at (ldB hb 3072 _) ha ?_) x inb_S1024x4096_S1024x1024_0_3072
    rw [View.readCov_skip _ _ _ _ _ rfl, View.readCov_skip _ _ _ _ _ rfl, View.readCov_skip _ _ _ _ _ rfl, View.readCov_fill _ _ _ _ _ zero2]
    exact ldS fill_at 3072 _
  · refine placed (pay1_at (ldB hb 2048 _) ha ?_) x inb_S1024x4096_S1024x1024_0_2048
    rw [View.readCov_skip _ _ _ _ _ rfl, View.readCov_skip _ _ _ _ _ rfl, View.readCov_fill _ _ _ _ _ zero2]
    exact ldS fill_at 2048 _
  · refine placed (pay16_at (ldB hb 1024 _) ha ?_) x inb_S1024x4096_S1024x1024_0_1024
    rw [View.readCov_skip _ _ _ _ _ rfl, View.readCov_fill _ _ _ _ _ zero2]
    exact ldS fill_at 1024 _
  · refine placed (pay15_at (ldB hb 0 _) ha ?_) x inb_S1024x4096_S1024x1024_0_0
    rw [View.readCov_fill _ _ _ _ _ zero2]
    exact ldS fill_at 0 _
  · exact View.cover_of_tiled_head _ _ _ rfl i

theorem entry_u (i : S4096x1024.Idx) : V m d main_v0 i = at2 (m ((d : Thread nD τ).loc main_arg0)) (i 0).val (i 1).val := by
  refine Eq.trans ?_ (at2_eq (m ((d : Thread nD τ).loc main_arg0)) i)
  entry_read
  rfl

theorem entry_da (i : S4096x4096.Idx) : V m d main_v1 i = at2 (m ((d : Thread nD τ).loc main_arg1)) (i 0).val (i 1).val := by
  refine Eq.trans ?_ (at2_eq (m ((d : Thread nD τ).loc main_arg1)) i)
  entry_read
  rfl

theorem idx0_0 : ∀ t : Fin cfg0.N, (cfg0.win 0).index t (0 : Fin 2) = t.val := by decide
theorem idx0_1 : ∀ t : Fin cfg0.N, (cfg0.win 0).index t (1 : Fin 2) = 0 := by decide
theorem idx1_0 : ∀ t : Fin cfg0.N, (cfg0.win 1).index t (0 : Fin 2) = t.val := by decide
theorem idx1_1 : ∀ t : Fin cfg0.N, (cfg0.win 1).index t (1 : Fin 2) = 0 := by decide
theorem idx2 : ∀ t : Fin cfg0.N, ∀ a : Fin 3, (cfg0.win 2).index t a = 0 := by decide

theorem emb0_0 (t : Fin cfg0.N) (y : S512x1024.Idx) : (((cfg0.win 0).rect t).emb y (0 : Fin 2) : ℕ) = 512 * t.val + (y 0).val := by
  refine ((cfg0.win 0).rect_emb_val t y (0 : Fin 2)).trans ?_
  rw [idx0_0]
  show t.val * 512 + (y 0).val = _
  omega
theorem emb0_1 (t : Fin cfg0.N) (y : S512x1024.Idx) : (((cfg0.win 0).rect t).emb y (1 : Fin 2) : ℕ) = (y 1).val := by
  refine ((cfg0.win 0).rect_emb_val t y (1 : Fin 2)).trans ?_
  rw [idx0_1, zero_mul, zero_add]
theorem emb1_0 (t : Fin cfg0.N) (y : S512x4096.Idx) : (((cfg0.win 1).rect t).emb y (0 : Fin 2) : ℕ) = 512 * t.val + (y 0).val := by
  refine ((cfg0.win 1).rect_emb_val t y (0 : Fin 2)).trans ?_
  rw [idx1_0]
  show t.val * 512 + (y 0).val = _
  omega
theorem emb1_1 (t : Fin cfg0.N) (y : S512x4096.Idx) : (((cfg0.win 1).rect t).emb y (1 : Fin 2) : ℕ) = (y 1).val := by
  refine ((cfg0.win 1).rect_emb_val t y (1 : Fin 2)).trans ?_
  rw [idx1_1, zero_mul, zero_add]

theorem read0 (Z : (b : Ref sig .tc) → Buf (Elt Ideal) ((d : Thread nD τ).loc b)) (t : Fin cfg0.N) (y : S512x1024.Idx) :
    ((cfg0.win 0).blk t).view.read (Elt Ideal) (Z (Pipeline.arrRef spec0 0)) y = Z main_v0 (((cfg0.win 0).rect t).emb y) := rfl
theorem read1 (Z : (b : Ref sig .tc) → Buf (Elt Ideal) ((d : Thread nD τ).loc b)) (t : Fin cfg0.N) (y : S512x4096.Idx) :
    ((cfg0.win 1).blk t).view.read (Elt Ideal) (Z (Pipeline.arrRef spec0 1)) y = Z main_v1 (((cfg0.win 1).rect t).emb y) := rfl

variable (d)

/-- What a device's arguments hold. -/
def held0 : ℕ → ℕ → EReal := at2 (m ((d : Thread nD τ).loc main_arg0))
def held1 : ℕ → ℕ → EReal := at2 (m ((d : Thread nD τ).loc main_arg1))

theorem blk0 (t : Fin cfg0.N) (y : S512x1024.Idx) : iblk m d 0 t y = held0 m d (512 * t.val + (y 0).val) (y 1).val :=
  (read0 (fun b => V m d b) t y).trans ((entry_u m _).trans (congrArg₂ (held0 m d) (emb0_0 t y) (emb0_1 t y)))
theorem blk1 (t : Fin cfg0.N) (y : S512x4096.Idx) : iblk m d 1 t y = held1 m d (512 * t.val + (y 0).val) (y 1).val :=
  (read1 (fun b => V m d b) t y).trans ((entry_da m _).trans (congrArg₂ (held1 m d) (emb1_0 t y) (emb1_1 t y)))

/-- The running product after each grid point but the last. -/
theorem running : ∀ (k : ℕ) (hk : k < cfg0.N), k < 7 → IsAll (held0 m d) (held1 m d) (512 * (k + 1)) (outsAt0 m d k hk).2
  | 0, hk, _ => stepA m (t := ⟨0, hk⟩) rfl (show ¬ 0 % 8 = 7 by decide) (blk0 m d ⟨0, hk⟩) (blk1 m d ⟨0, hk⟩)
  | k + 1, hk, h => stepB m (t := ⟨k + 1, hk⟩) (n := 512 * (k + 1)) (show ¬ (k + 1) % 8 = 0 by omega) (show ¬ (k + 1) % 8 = 7 by omega) (blk0 m d ⟨k + 1, hk⟩) (blk1 m d ⟨k + 1, hk⟩)
      fun hn => running k hn (by omega)

theorem arr2 : (dats m 0 d).arrAt 2 cfg0.N = fun i : S8x1024x512.Idx => rows (held0 m d) (held1 m d) 4096 (i 1).val (512 * (i 0).val + (i 2).val) := by
  refine (dats m 0 d).arrAt_eq_of_covers 2 _ (by decide +kernel) fun t hf y => ?_
  blk_simp
  rw [after0_2]
  have h7 : t.val % 8 = 7 := (flush0_2 t).mp hf
  have hN : t.val < 8 := lt_of_lt_of_eq t.isLt N_0
  have ht : t.val = 7 := by omega
  have e : 512 * t.val + 512 = 4096 := by omega
  refine (stepC m (n := 512 * t.val) (by omega) h7 (blk0 m d t) (blk1 m d t) (fun hn => ?_) y).trans ?_
  · have := running m d (t.val - 1) hn (by omega)
    rwa [show 512 * (t.val - 1 + 1) = 512 * t.val by omega] at this
  · rw [e]
    refine congrArg₂ (rows _ _ 4096) ?_ ?_
    · rw [show win0_2.index t 1 = 0 from idx2 t 1]
      omega
    · rw [show win0_2.index t 0 = 0 from idx2 t 0, show win0_2.index t 2 = 0 from idx2 t 2]
      omega

end Cert.Proof.Up

end
-- ==== Proof.Up.Claims.lean ====
/- The claims about the call that makes the gradient of the feed-forward block's first weight. -/
module

public import proofs.«01_k».proof.Defs
public import proofs.«01_k».proof.Proof.Gen.Up.Frame
public import proofs.«01_k».proof.Proof.Gen.UpReferenceIdeal.Read
public import proofs.«01_k».proof.Proof.Up.Body

@[expose] public section

noncomputable section

namespace Cert.Proof.Up

open Idealize.ShloMosaic Idealize.ShloMosaic.TcCoe Idealize.SL.Sem
open Cert.Proof.Step
open Cert.UpReferenceIdeal Cert.UpReferenceIdeal.Read

section
variable (x0 : (⟨S4096x1024, .f32⟩ : BufTy).Contents (Elt Ideal)) (x1 : (⟨S4096x4096, .f32⟩ : BufTy).Contents (Elt Ideal))

theorem v3_at (i : S1024x4096.Idx) : val_main_v3 (F := Ideal) x0 x1 i = rows (at2 x0) (at2 x1) 4096 (i 0).val (i 1).val := by
  refine (val_main_v3_apply (F := Ideal) x0 x1 i).trans ((val_main_v2_apply x0 x1 _).trans ?_)
  refine (Finset.sum_congr rfl fun k _ => (congrArg₂ (· * ·) (at2_eq x1 _) (at2_eq x0 _)).trans (mul_comm _ _)).trans ?_
  exact (Finset.sum_range fun r => at2 x0 r (i 0).val * at2 x1 r (i 1).val).symm

theorem v6_at (i : S8x1024x512.Idx) : val_main_v6 (F := Ideal) x0 x1 i = rows (at2 x0) (at2 x1) 4096 (i 1).val (512 * (i 0).val + (i 2).val) := by
  refine (val_main_v5_apply (F := Ideal) x0 x1 i).trans ((val_main_v4_apply (F := Ideal) x0 x1 _).trans ((v3_at x0 x1 _).trans ?_))
  have h0 : (i 0).val < 8 := (i 0).isLt
  have h2 : (i 2).val < 512 := (i 2).isLt
  refine congrArg₂ (rows _ _ 4096) ?_ ?_
  · show (((i 1).val * 8 + (i 0).val) * 512 + (i 2).val) / 4096 = (i 1).val
    omega
  · show (((i 1).val * 8 + (i 0).val) * 512 + (i 2).val) % 4096 = 512 * (i 0).val + (i 2).val
    omega
end

theorem frame_up : Cert.quiescent_Up := fun m ρ _ => Cert.Up.Gen.frame (F := Bits) m ρ

theorem frame_upIdeal : Cert.quiescent_UpIdeal := fun m ρ _ => Cert.UpIdeal.Gen.frame (F := Ideal) m ρ

theorem frame_upReferenceIdeal : Cert.quiescent_UpReferenceIdeal := fun m ρ _ =>
  (θ_run Cert.UpReferenceIdeal.defs _ _).mono (fun r h => ⟨fun c => (h c).2, Idealize.ShloMosaic.sem_eq_zero_of_no_sems (by decide) r.2⟩)
    (Cert.UpReferenceIdeal.Value.run (F := Ideal) m ρ)

/-- The two programs leave the same gradient. -/
theorem algebraic_up : Cert.algebraic_UpIdeal_UpReferenceIdeal := by
  intro m ρ m' ρ' _ hagree
  refine ⟨fun c => fun i : S8x1024x512.Idx => rows (held0 m c) (held1 m c) 4096 (i 1).val (512 * (i 0).val + (i 2).val),
    (θ_run Cert.UpIdeal.defs _ _).mono (fun r h c => ⟨(h c).1.trans (arr2 m c), (h c).2⟩) (Cert.UpIdeal.Value.run_blocks (F := Ideal) m ρ), ?_⟩
  refine (θ_run Cert.UpReferenceIdeal.defs _ _).mono (fun r h c => ⟨?_, (h c).2⟩) (Cert.UpReferenceIdeal.Value.run (F := Ideal) m' ρ')
  refine (h c).1.trans ((val_main_v6_eq (F := Ideal) _ _).trans (funext fun i => (v6_at _ _ i).trans ?_))
  obtain ⟨a0, a1⟩ := hagree c
  rw [a0, a1]
  rfl

end Cert.Proof.Up

end
-- ==== Proof.Down.Body.lean ====
/- What one grid point adds to the running product, and the result after the last. -/
module

public import proofs.«01_k».proof.Proof.Gen.DownIdeal.Value
public import Idealize.ShloMosaic.Lib.Pipeline.ValueKit
public import Idealize.ShloMosaic.Lib.Pipeline.ValueKit.Acc
public import Idealize.ShloMosaic.Lib.Claim
public import Idealize.ShloMosaic.Lib.Pipeline.Covers
public import Idealize.ShloMosaic.Lib.Pipeline.ReadBack
public import proofs.«01_k».proof.Proof.Step.Sums

@[expose] public section

noncomputable section

namespace Cert.Proof.Down

open Cert.DownIdeal Cert.DownIdeal.Gen
open Idealize.ShloMosaic Idealize.ShloMosaic.TcCoe Idealize.ShloMosaic.Tactic
open Cert.Proof.Step

variable {A B : ℕ → ℕ → EReal} {n c : ℕ}

/-- The square of the positive part. -/
def act (A : ℕ → ℕ → EReal) (r c : ℕ) : EReal := max (A r c) 0 * max (A r c) 0

abbrev IsA (A : ℕ → ℕ → EReal) (n c : ℕ) (z : S512x1024.Idx → EReal) : Prop := ∀ i : S512x1024.Idx, z i = A (n + (i 0).val) (c + (i 1).val)
abbrev IsB (B : ℕ → ℕ → EReal) (n : ℕ) (z : S512x1024.Idx → EReal) : Prop := ∀ i : S512x1024.Idx, z i = B (n + (i 0).val) (i 1).val
abbrev IsAcc (A B : ℕ → ℕ → EReal) (n c : ℕ) (z : S1024x1024.Idx → EReal) : Prop := ∀ i : S1024x1024.Idx, z i = rows (act A) B n (c + (i 0).val) (i 1).val
abbrev IsAll (A B : ℕ → ℕ → EReal) (n : ℕ) (z : S4096x1024.Idx → EReal) : Prop := ∀ i : S4096x1024.Idx, z i = rows (act A) B n (i 0).val (i 1).val

theorem act_of {y : EReal} {r k : ℕ} (h : y = A r k) : max y 0 * max y 0 = act A r k := by rw [h]; rfl

section
variable {v3 : Vec Ideal S512x1024 .f32} {v4 v5 : Vec Ideal S512x1024 .bf16} {s : Vec Ideal S1024x1024 .f32}

theorem pay6_at (h3 : IsB B n v3) (h5 : IsA A n c v5) (hs : IsAcc A B n c s) : IsAcc A B (n + 512) c (k0_pay6 v3 v5 s) := by
  intro i
  unfold k0_pay6 k0_pay5
  simp only [pointwise]
  exact rows_step (hs i) (fun k => act_of (h5 _)) (fun k => h3 _)
theorem pay7_at (h3 : IsB B n v3) (h5 : IsA A n c v5) (hs : IsAcc A B n c s) : IsAcc A B (n + 512) c (k0_pay7 v3 v5 s) := fun i => pay6_at h3 h5 hs i
theorem pay1_at (h3 : IsB B n v3) (h5 : IsA A n c v5) (hs : IsAcc A B n c s) : IsAcc A B (n + 512) c (k0_pay1 (k0_pay5 v3) v5 s) := fun i => pay6_at h3 h5 hs i
theorem pay2_at (h3 : IsB B n v3) (h5 : IsA A n c v5) (hs : IsAcc A B n c s) : IsAcc A B (n + 512) c (k0_pay2 (k0_pay5 v3) v5 s) := fun i => pay6_at h3 h5 hs i
end

theorem ldA {x : Vec Ideal S512x4096 .bf16} (h : ∀ i : S512x4096.Idx, x i = A (n + (i 0).val) (i 1).val) (c : ℕ)
    (inb : ∀ a, (![0, c] : Fin 2 → ℕ) a + S512x1024.size a ≤ S512x4096.size a) : IsA A n c (View.ld x (Rect.unit ![0, c] S512x1024.size inb)) := by
  intro i
  refine (h _).trans (congrArg₂ A ?_ ?_)
  · show n + (0 + 1 * (i 0).val) = n + (i 0).val
    omega
  · show c + 1 * (i 1).val = c + (i 1).val
    omega

theorem ldS {x : Vec Ideal S4096x1024 .f32} (h : IsAll A B n x) (c : ℕ)
    (inb : ∀ a, (![c, 0] : Fin 2 → ℕ) a + S1024x1024.size a ≤ S4096x1024.size a) : IsAcc A B n c (View.ld x (Rect.unit ![c, 0] S1024x1024.size inb)) := by
  intro i
  refine (h _).trans (congrArg₂ (rows (act A) B n) ?_ ?_)
  · show c + 1 * (i 0).val = c + (i 0).val
    omega
  · show 0 + 1 * (i 1).val = (i 1).val
    omega

theorem fill_at : IsAll A B 0 (k0_pay4 (F := Ideal)) := by
  intro i
  unfold k0_pay4
  simp only [pointwise]
  exact (rows_zero _ _ _ _).symm

/-- The index of the product a tile's element is. -/
theorem tile_at {i : S4096x1024.Idx} {x : S1024x1024.Idx} {c : ℕ} {y : EReal} (h : y = rows (act A) B n (c + (x 0).val) (x 1).val) (h0 : (i 0).val = c + (x 0).val) (h1 : (i 1).val = (x 1).val) :
    y = rows (act A) B n (i 0).val (i 1).val := by
  rw [h, h0, h1]

theorem placed {w : S1024x1024.Idx → EReal} {c : ℕ} (h : IsAcc A B n c w) (x : S1024x1024.Idx)
    (inb : ∀ a, (![c, 0] : Fin 2 → ℕ) a + S1024x1024.size a ≤ S4096x1024.size a) :
    w x = rows (act A) B n ((Rect.unit (s := S4096x1024) ![c, 0] S1024x1024.size inb).emb x 0).val ((Rect.unit (s := S4096x1024) ![c, 0] S1024x1024.size inb).emb x 1).val :=
  (h x).trans (congrArg₂ (rows (act A) B n) (show c + (x 0).val = c + 1 * (x 0).val by omega) (show (x 1).val = 0 + 1 * (x 1).val by omega))

theorem read_all {L : List (View.Piece (Elt Ideal) S4096x1024 .f32)} (h : IsAll A B n (View.canon L))
    (inb : ∀ a, (![0, 0] : Fin 2 → ℕ) a + S4096x1024.size a ≤ S4096x1024.size a) :
    IsAll A B n (k0_pay3 ((View.whole cc0_scratch0).readCov L (Rect.unit (s := S4096x1024) ![0, 0] S4096x1024.size inb).toLoadRect)) := by
  intro i
  refine (congrFun (View.readCov_eq_canon' (View.whole cc0_scratch0) L (Rect.unit (s := S4096x1024) ![0, 0] S4096x1024.size inb).toLoadRect) i).trans ((h _).trans (congrArg₂ (rows (act A) B n) ?_ ?_))
  · show 0 + 1 * (i 0).val = (i 0).val
    omega
  · show 0 + 1 * (i 1).val = (i 1).val
    omega

theorem zero2 : ∀ a : Fin 2, (![0, 0] : Fin 2 → ℕ) a = 0 := by decide

variable (m : (ℓ : Loc nD τ sig) → Buf (Elt Ideal) ℓ) {d : Dev nD} {t : Fin cfg0.N}

theorem stepB (h : ¬ t.val % 8 = 0) (h' : ¬ t.val % 8 = 7) (ha : ∀ i : S512x4096.Idx, iblk m d 0 t i = A (n + (i 0).val) (i 1).val) (hb : IsB B n (iblk m d 1 t))
    (hs : ∀ hn, IsAll A B n (outsAt0 m d (t.val - 1) hn).2) : IsAll A B (n + 512) (outsAt0 m d t.val t.isLt).2 := by
  intro i
  rw [outsAt0_B m d t h h']
  frame_out
  rw [read_unread_whole]
  canon_tiles x h
  · exact tile_at (pay2_at hb (ldA ha 3072 _) (ldS (hs _) 3072 _) x) h0 (by omega)
  · exact tile_at (pay1_at hb (ldA ha 2048 _) (ldS (hs _) 2048 _) x) h0 (by omega)
  · exact tile_at (pay7_at hb (ldA ha 1024 _) (ldS (hs _) 1024 _) x) h0 (by omega)
  · exact tile_at (pay6_at hb (ldA ha 0 _) (ldS (hs _) 0 _) x) (by omega) (by omega)

theorem stepC (h : ¬ t.val % 8 = 0) (h' : t.val % 8 = 7) (ha : ∀ i : S512x4096.Idx, iblk m d 0 t i = A (n + (i 0).val) (i 1).val) (hb : IsB B n (iblk m d 1 t))
    (hs : ∀ hn, IsAll A B n (outsAt0 m d (t.val - 1) hn).2) : IsAll A B (n + 512) (outsAt0 m d t.val t.isLt).1 := by
  intro i
  rw [outsAt0_C m d t h h']
  frame_out
  rw [read_unread_whole]
  refine read_all (fun i => ?_) _ i
  canon_tiles x h
  · exact tile_at (pay2_at hb (ldA ha 3072 _) (ldS (hs _) 3072 _) x) h0 (by omega)
  · exact tile_at (pay1_at hb (ldA ha 2048 _) (ldS (hs _) 2048 _) x) h0 (by omega)
  · exact tile_at (pay7_at hb (ldA ha 1024 _) (ldS (hs _) 1024 _) x) h0 (by omega)
  · exact tile_at (pay6_at hb (ldA ha 0 _) (ldS (hs _) 0 _) x) (by omega) (by omega)

theorem stepA (h : t.val % 8 = 0) (h' : ¬ t.val % 8 = 7) (ha : ∀ i : S512x4096.Idx, iblk m d 0 t i = A (0 + (i 0).val) (i 1).val) (hb : IsB B 0 (iblk m d 1 t)) :
    IsAll A B (0 + 512) (outsAt0 m d t.val t.isLt).2 := by
  intro i
  rw [outsAt0_A m d t h h']
  frame_out
  refine (View.canon_append_of_piecesOf (Val := Elt Ideal) (s := S4096x1024) (e := .f32) (fun i : S4096x1024.Idx => rows (act A) B (0 + 512) (i 0).val (i 1).val) [_] [_, _, _, _] ⟨fun x => ?_, fun x => ?_, fun x => ?_, fun x => ?_, trivial⟩ i ?_)
  · refine placed (pay2_at hb (ldA ha 3072 _) ?_) x inb_S4096x1024_S1024x1024_3072_0
    rw [View.readCov_skip _ _ _ _ _ rfl, View.readCov_skip _ _ _ _ _ rfl, View.readCov_skip _ _ _ _ _ rfl, View.readCov_fill _ _ _ _ _ zero2]
    exact ldS fill_at 3072 _
  · refine placed (pay1_at hb (ldA ha 2048 _) ?_) x inb_S4096x1024_S1024x1024_2048_0
    rw [View.readCov_skip _ _ _ _ _ rfl, View.readCov_skip _ _ _ _ _ rfl, View.readCov_fill _ _ _ _ _ zero2]
    exact ldS fill_at 2048 _
  · refine placed (pay7_at hb (ldA ha 1024 _) ?_) x inb_S4096x1024_S1024x1024_1024_0
    rw [View.readCov_skip _ _ _ _ _ rfl, View.readCov_fill _ _ _ _ _ zero2]
    exact ldS fill_at 1024 _
  · refine placed (pay6_at hb (ldA ha 0 _) ?_) x inb_S4096x1024_S1024x1024_0_0
    rw [View.readCov_fill _ _ _ _ _ zero2]
    exact ldS fill_at 0 _
  · exact View.cover_of_tiled_head _ _ _ rfl i

theorem entry_a (i : S4096x4096.Idx) : V m d main_v0 i = at2 (m ((d : Thread nD τ).loc main_arg0)) (i 0).val (i 1).val := by
  refine Eq.trans ?_ (at2_eq (m ((d : Thread nD τ).loc main_arg0)) i)
  entry_read
  rfl

theorem entry_b (i : S4096x1024.Idx) : V m d main_arg1 i = at2 (m ((d : Thread nD τ).loc main_arg1)) (i 0).val (i 1).val :=
  (congrFun (V_main_arg1 m d) i).trans (at2_eq (m ((d : Thread nD τ).loc main_arg1)) i)

theorem idx0_0 : ∀ t : Fin cfg0.N, (cfg0.win 0).index t (0 : Fin 2) = t.val := by decide
theorem idx0_1 : ∀ t : Fin cfg0.N, (cfg0.win 0).index t (1 : Fin 2) = 0 := by decide
theorem idx1_0 : ∀ t : Fin cfg0.N, (cfg0.win 1).index t (0 : Fin 2) = t.val := by decide
theorem idx1_1 : ∀ t : Fin cfg0.N, (cfg0.win 1).index t (1 : Fin 2) = 0 := by decide
theorem idx2 : ∀ t : Fin cfg0.N, ∀ a : Fin 2, (cfg0.win 2).index t a = 0 := by decide

theorem emb0_0 (t : Fin cfg0.N) (y : S512x4096.Idx) : (((cfg0.win 0).rect t).emb y (0 : Fin 2) : ℕ) = 512 * t.val + (y 0).val := by
  refine ((cfg0.win 0).rect_emb_val t y (0 : Fin 2)).trans ?_
  rw [idx0_0]
  show t.val * 512 + (y 0).val = _
  omega
theorem emb0_1 (t : Fin cfg0.N) (y : S512x4096.Idx) : (((cfg0.win 0).rect t).emb y (1 : Fin 2) : ℕ) = (y 1).val := by
  refine ((cfg0.win 0).rect_emb_val t y (1 : Fin 2)).trans ?_
  rw [idx0_1, zero_mul, zero_add]
theorem emb1_0 (t : Fin cfg0.N) (y : S512x1024.Idx) : (((cfg0.win 1).rect t).emb y (0 : Fin 2) : ℕ) = 512 * t.val + (y 0).val := by
  refine ((cfg0.win 1).rect_emb_val t y (0 : Fin 2)).trans ?_
  rw [idx1_0]
  show t.val * 512 + (y 0).val = _
  omega
theorem emb1_1 (t : Fin cfg0.N) (y : S512x1024.Idx) : (((cfg0.win 1).rect t).emb y (1 : Fin 2) : ℕ) = (y 1).val := by
  refine ((cfg0.win 1).rect_emb_val t y (1 : Fin 2)).trans ?_
  rw [idx1_1, zero_mul, zero_add]

theorem read0 (Z : (b : Ref sig .tc) → Buf (Elt Ideal) ((d : Thread nD τ).loc b)) (t : Fin cfg0.N) (y : S512x4096.Idx) :
    ((cfg0.win 0).blk t).view.read (Elt Ideal) (Z (Pipeline.arrRef spec0 0)) y = Z main_v0 (((cfg0.win 0).rect t).emb y) := rfl
theorem read1 (Z : (b : Ref sig .tc) → Buf (Elt Ideal) ((d : Thread nD τ).loc b)) (t : Fin cfg0.N) (y : S512x1024.Idx) :
    ((cfg0.win 1).blk t).view.read (Elt Ideal) (Z (Pipeline.arrRef spec0 1)) y = Z main_arg1 (((cfg0.win 1).rect t).emb y) := rfl

variable (d)

theorem blk0 (t : Fin cfg0.N) (y : S512x4096.Idx) : iblk m d 0 t y = at2 (m ((d : Thread nD τ).loc main_arg0)) (512 * t.val + (y 0).val) (y 1).val :=
  (read0 (fun b => V m d b) t y).trans ((entry_a m _).trans (congrArg₂ (at2 (m ((d : Thread nD τ).loc main_arg0))) (emb0_0 t y) (emb0_1 t y)))
theorem blk1 (t : Fin cfg0.N) (y : S512x1024.Idx) : iblk m d 1 t y = at2 (m ((d : Thread nD τ).loc main_arg1)) (512 * t.val + (y 0).val) (y 1).val :=
  (read1 (fun b => V m d b) t y).trans ((entry_b m _).trans (congrArg₂ (at2 (m ((d : Thread nD τ).loc main_arg1))) (emb1_0 t y) (emb1_1 t y)))

/-- What a device's arguments hold. -/
def held0 : ℕ → ℕ → EReal := at2 (m ((d : Thread nD τ).loc main_arg0))
def held1 : ℕ → ℕ → EReal := at2 (m ((d : Thread nD τ).loc main_arg1))

/-- The running product after each grid point but the last. -/
theorem running : ∀ (k : ℕ) (hk : k < cfg0.N), k < 7 → IsAll (held0 m d) (held1 m d) (512 * (k + 1)) (outsAt0 m d k hk).2
  | 0, hk, _ => stepA m (t := ⟨0, hk⟩) rfl (show ¬ 0 % 8 = 7 by decide) (blk0 m d ⟨0, hk⟩) (blk1 m d ⟨0, hk⟩)
  | k + 1, hk, h => stepB m (t := ⟨k + 1, hk⟩) (n := 512 * (k + 1)) (show ¬ (k + 1) % 8 = 0 by omega) (show ¬ (k + 1) % 8 = 7 by omega) (blk0 m d ⟨k + 1, hk⟩) (blk1 m d ⟨k + 1, hk⟩)
      fun hn => running k hn (by omega)

theorem arr2 : (dats m 0 d).arrAt 2 cfg0.N = fun i : S4096x1024.Idx => rows (act (held0 m d)) (held1 m d) 4096 (i 0).val (i 1).val := by
  refine (dats m 0 d).arrAt_eq_of_covers 2 _ (by decide +kernel) fun t hf y => ?_
  blk_simp
  rw [after0_2]
  have h7 : t.val % 8 = 7 := (flush0_2 t).mp hf
  have hN : t.val < 8 := lt_of_lt_of_eq t.isLt N_0
  have ht : t.val = 7 := by omega
  have e : 512 * t.val + 512 = 4096 := by omega
  refine (stepC m (n := 512 * t.val) (by omega) h7 (blk0 m d t) (blk1 m d t) (fun hn => ?_) y).trans ?_
  · have := running m d (t.val - 1) hn (by omega)
    rwa [show 512 * (t.val - 1 + 1) = 512 * t.val by omega] at this
  · rw [e]
    refine congrArg₂ (rows _ _ 4096) ?_ ?_
    · rw [show win0_2.index t 0 = 0 from idx2 t 0]
      omega
    · rw [show win0_2.index t 1 = 0 from idx2 t 1]
      omega

end Cert.Proof.Down

end
-- ==== Proof.Down.Claims.lean ====
/- The claims about the call that makes the gradient of the feed-forward block's second weight. -/
module

public import proofs.«01_k».proof.Defs
public import proofs.«01_k».proof.Proof.Gen.Down.Frame
public import proofs.«01_k».proof.Proof.Gen.DownReferenceIdeal.Read
public import proofs.«01_k».proof.Proof.Down.Body

@[expose] public section

noncomputable section

namespace Cert.Proof.Down

open Idealize.ShloMosaic Idealize.ShloMosaic.TcCoe Idealize.SL.Sem
open Cert.Proof.Step
open Cert.DownReferenceIdeal Cert.DownReferenceIdeal.Read

section
variable (x0 : (⟨S4096x4096, .f32⟩ : BufTy).Contents (Elt Ideal)) (x1 : (⟨S4096x1024, .f32⟩ : BufTy).Contents (Elt Ideal))

theorem v2_at (i : S4096x4096.Idx) : val_main_v2 (F := Ideal) x0 i = act (at2 x0) (i 0).val (i 1).val := by
  have h : val_main_v1 (F := Ideal) x0 i = max (at2 x0 (i 0).val (i 1).val) 0 :=
    congrArg₂ max (at2_eq x0 i) ((val_main_call0_v0_apply (F := Ideal) i).trans Ideal.ofBits_zero_f32)
  exact congrArg₂ (· * ·) h h

theorem v6_at (i : S4096x1024.Idx) : val_main_v6 (F := Ideal) x0 x1 i = rows (act (at2 x0)) (at2 x1) 4096 (i 0).val (i 1).val := by
  refine (val_main_v5_apply (F := Ideal) x0 x1 i).trans ((val_main_v4_apply x0 x1 _).trans ?_)
  refine (Finset.sum_congr rfl fun k _ => (congrArg₂ (· * ·) (at2_eq x1 _) (v2_at x0 _)).trans (mul_comm _ _)).trans ?_
  exact (Finset.sum_range fun r => act (at2 x0) r (i 0).val * at2 x1 r (i 1).val).symm
end

theorem frame_down : Cert.quiescent_Down := fun m ρ _ => Cert.Down.Gen.frame (F := Bits) m ρ

theorem frame_downIdeal : Cert.quiescent_DownIdeal := fun m ρ _ => Cert.DownIdeal.Gen.frame (F := Ideal) m ρ

theorem frame_downReferenceIdeal : Cert.quiescent_DownReferenceIdeal := fun m ρ _ =>
  (θ_run Cert.DownReferenceIdeal.defs _ _).mono (fun r h => ⟨fun c => (h c).2, Idealize.ShloMosaic.sem_eq_zero_of_no_sems (by decide) r.2⟩)
    (Cert.DownReferenceIdeal.Value.run (F := Ideal) m ρ)

/-- The two programs leave the same gradient. -/
theorem algebraic_down : Cert.algebraic_DownIdeal_DownReferenceIdeal := by
  intro m ρ m' ρ' _ hagree
  refine ⟨fun c => fun i : S4096x1024.Idx => rows (act (held0 m c)) (held1 m c) 4096 (i 0).val (i 1).val,
    (θ_run Cert.DownIdeal.defs _ _).mono (fun r h c => ⟨(h c).1.trans (arr2 m c), (h c).2⟩) (Cert.DownIdeal.Value.run_blocks (F := Ideal) m ρ), ?_⟩
  refine (θ_run Cert.DownReferenceIdeal.defs _ _).mono (fun r h c => ⟨?_, (h c).2⟩) (Cert.DownReferenceIdeal.Value.run (F := Ideal) m' ρ')
  refine (h c).1.trans ((val_main_v6_eq (F := Ideal) _ _).trans (funext fun i => (v6_at _ _ i).trans ?_))
  obtain ⟨a0, a1⟩ := hagree c
  rw [a0, a1]
  rfl

end Cert.Proof.Down

end
-- ==== Proof.OutBwd.Body.lean ====
/- What one grid point of the output projection's derivative leaves in its three results. -/
module

public import proofs.«01_k».proof.Proof.Gen.OutBwdIdeal.Value
public import Idealize.ShloMosaic.Lib.Pipeline.ValueKit
public import Idealize.ShloMosaic.Lib.Pipeline.ValueKit.Acc
public import Idealize.ShloMosaic.Lib.Claim
public import Idealize.ShloMosaic.Lib.Pipeline.Covers
public import Idealize.ShloMosaic.Lib.Pipeline.ReadBack
public import proofs.«01_k».proof.Proof.Step.Sums

@[expose] public section

noncomputable section

namespace Cert.Proof.OutBwd

open Cert.OutBwdIdeal Cert.OutBwdIdeal.Gen
open Idealize.ShloMosaic Idealize.ShloMosaic.TcCoe Idealize.ShloMosaic.Tactic
open Cert.Proof.Step

/-- The incoming gradient, the two halves of the mixed heads and the weight. -/
structure Args where
  dh : ℕ → ℕ → EReal
  attn : ℕ → ℕ → EReal
  ml : ℕ → ℕ → EReal
  w : ℕ → ℕ → EReal

/-- The two halves side by side. -/
def both (p : Args) (r c : ℕ) : EReal := if c < 512 then p.attn r c else p.ml r (c - 512)
/-- Their gradient. -/
def dmix (p : Args) (r c : ℕ) : EReal := ∑ k : Fin 1024, p.dh r k.val * p.w c k.val
/-- The weight's gradient over the first `n` rows. -/
abbrev dw (p : Args) (n i j : ℕ) : EReal := rows (both p) p.dh n i j

variable {p : Args} {n c : ℕ}

abbrev IsD (p : Args) (n : ℕ) (z : S512x1024.Idx → EReal) : Prop := ∀ i : S512x1024.Idx, z i = p.dh (n + (i 0).val) (i 1).val
abbrev IsA (p : Args) (n : ℕ) (z : S512x512.Idx → EReal) : Prop := ∀ i : S512x512.Idx, z i = p.attn (n + (i 0).val) (i 1).val
abbrev IsM (p : Args) (n : ℕ) (z : S512x512.Idx → EReal) : Prop := ∀ i : S512x512.Idx, z i = p.ml (n + (i 0).val) (i 1).val
abbrev IsH (p : Args) (n c : ℕ) (z : S512x512.Idx → EReal) : Prop := ∀ i : S512x512.Idx, z i = both p (n + (i 0).val) (c + (i 1).val)
abbrev IsW (p : Args) (z : S1024x1024.Idx → EReal) : Prop := ∀ i : S1024x1024.Idx, z i = p.w (i 0).val (i 1).val
abbrev IsAcc (p : Args) (n c : ℕ) (z : S512x1024.Idx → EReal) : Prop := ∀ i : S512x1024.Idx, z i = dw p n (c + (i 0).val) (i 1).val
abbrev IsAll (p : Args) (n : ℕ) (z : S1024x1024.Idx → EReal) : Prop := ∀ i : S1024x1024.Idx, z i = dw p n (i 0).val (i 1).val

theorem half_a {z : S512x512.Idx → EReal} (h : IsA p n z) : IsH p n 0 z := by
  intro i
  have h1 : (i 1).val < 512 := (i 1).isLt
  rw [h i]
  unfold both
  rw [zero_add, if_pos h1]
theorem half_m {z : S512x512.Idx → EReal} (h : IsM p n z) : IsH p n 512 z := by
  intro i
  rw [h i]
  unfold both
  rw [if_neg (by omega), show 512 + (i 1).val - 512 = (i 1).val by omega]

section
variable {v3 : Vec Ideal S512x1024 .f32} {v5 : Vec Ideal S1024x1024 .bf16} {s : Vec Ideal S512x1024 .f32} {v13 : Vec Ideal S512x512 .f32}

theorem pay4_at (h3 : IsD p n v3) (h5 : IsW p v5) (i : S512x1024.Idx) : k0_pay4 v3 v5 i = dmix p (n + (i 0).val) (i 1).val := by
  unfold k0_pay4 k0_pay3
  simp only [pointwise]
  rw [zero_add]
  exact Finset.sum_congr rfl fun k _ => congrArg₂ (· * ·) (h3 _) (h5 _)
theorem pay5_at (h3 : IsD p n v3) (h5 : IsW p v5) (i : S512x512.Idx) : k0_pay5 v3 v5 i = dmix p (n + (i 0).val) (i 1).val := by
  have hz := pay4_at h3 h5
  unfold k0_pay5
  generalize k0_pay4 v3 v5 = z at hz ⊢
  simp only [pointwise]
  refine (hz _).trans (congrArg₂ (dmix p) ?_ ?_)
  · show n + (0 + (i 0).val) = n + (i 0).val
    omega
  · show 0 + (i 1).val = (i 1).val
    omega
theorem pay6_at (h3 : IsD p n v3) (h5 : IsW p v5) (i : S512x512.Idx) : k0_pay6 v3 v5 i = dmix p (n + (i 0).val) (512 + (i 1).val) := by
  have hz := pay4_at h3 h5
  unfold k0_pay6
  generalize k0_pay4 v3 v5 = z at hz ⊢
  simp only [pointwise]
  refine (hz _).trans (congrArg₂ (dmix p) ?_ ?_)
  · show n + (0 + (i 0).val) = n + (i 0).val
    omega
  · rfl
theorem pay7_at (h3 : IsD p n v3) (hs : IsAcc p n c s) (h : IsH p n c v13) : IsAcc p (n + 512) c (k0_pay7 v3 s v13) := by
  intro i
  unfold k0_pay7 k0_pay3
  simp only [pointwise]
  exact rows_step (hs i) (fun k => h _) (fun k => h3 _)
theorem pay8_at (h3 : IsD p n v3) (hs : IsAcc p n c s) (h : IsH p n c v13) : IsAcc p (n + 512) c (k0_pay8 v3 s v13) := fun i => pay7_at h3 hs h i
end

theorem ldS {x : Vec Ideal S1024x1024 .f32} (h : IsAll p n x) (c : ℕ)
    (inb : ∀ a, (![c, 0] : Fin 2 → ℕ) a + S512x1024.size a ≤ S1024x1024.size a) : IsAcc p n c (View.ld x (Rect.unit ![c, 0] S512x1024.size inb)) := by
  intro i
  refine (h _).trans (congrArg₂ (dw p n) ?_ ?_)
  · show c + 1 * (i 0).val = c + (i 0).val
    omega
  · show 0 + 1 * (i 1).val = (i 1).val
    omega

theorem fill_at : IsAll p 0 (k0_pay2 (F := Ideal)) := by
  intro i
  unfold k0_pay2
  simp only [pointwise]
  exact (rows_zero _ _ _ _).symm

/-- The index of the product a tile's element is. -/
theorem tile_at {i : S1024x1024.Idx} {x : S512x1024.Idx} {c : ℕ} {y : EReal} (h : y = dw p n (c + (x 0).val) (x 1).val) (h0 : (i 0).val = c + (x 0).val) (h1 : (i 1).val = (x 1).val) :
    y = dw p n (i 0).val (i 1).val := by
  rw [h, h0, h1]

theorem placed {w : S512x1024.Idx → EReal} {c : ℕ} (h : IsAcc p n c w) (x : S512x1024.Idx)
    (inb : ∀ a, (![c, 0] : Fin 2 → ℕ) a + S512x1024.size a ≤ S1024x1024.size a) :
    w x = dw p n ((Rect.unit (s := S1024x1024) ![c, 0] S512x1024.size inb).emb x 0).val ((Rect.unit (s := S1024x1024) ![c, 0] S512x1024.size inb).emb x 1).val :=
  (h x).trans (congrArg₂ (dw p n) (show c + (x 0).val = c + 1 * (x 0).val by omega) (show (x 1).val = 0 + 1 * (x 1).val by omega))

theorem read_all {L : List (View.Piece (Elt Ideal) S1024x1024 .f32)} (h : IsAll p n (View.canon L))
    (inb : ∀ a, (![0, 0] : Fin 2 → ℕ) a + S1024x1024.size a ≤ S1024x1024.size a) :
    IsAll p n (k0_pay1 ((View.whole cc0_scratch0).readCov L (Rect.unit (s := S1024x1024) ![0, 0] S1024x1024.size inb).toLoadRect)) := by
  intro i
  refine (congrFun (View.readCov_eq_canon' (View.whole cc0_scratch0) L (Rect.unit (s := S1024x1024) ![0, 0] S1024x1024.size inb).toLoadRect) i).trans ((h _).trans (congrArg₂ (dw p n) ?_ ?_))
  · show 0 + 1 * (i 0).val = (i 0).val
    omega
  · show 0 + 1 * (i 1).val = (i 1).val
    omega

theorem zero2 : ∀ a : Fin 2, (![0, 0] : Fin 2 → ℕ) a = 0 := by decide

variable (m : (ℓ : Loc nD τ sig) → Buf (Elt Ideal) ℓ) {d : Dev nD} {t : Fin cfg0.N}

theorem stepB (h : ¬ t.val % 8 = 0) (h' : ¬ t.val % 8 = 7) (hd : IsD p n (iblk m d 0 t)) (ha : IsA p n (iblk m d 1 t)) (hm : IsM p n (iblk m d 2 t))
    (hs : ∀ hn, IsAll p n (outsAt0 m d (t.val - 1) hn).2.2.2) : IsAll p (n + 512) (outsAt0 m d t.val t.isLt).2.2.2 := by
  intro i
  rw [outsAt0_B m d t h h']
  frame_out
  rw [read_unread_whole]
  canon_tiles x h
  · exact tile_at (pay8_at hd (ldS (hs _) 512 _) (half_m hm) x) h0 (by omega)
  · exact tile_at (pay7_at hd (ldS (hs _) 0 _) (half_a ha) x) (by omega) (by omega)

theorem stepC (h : ¬ t.val % 8 = 0) (h' : t.val % 8 = 7) (hd : IsD p n (iblk m d 0 t)) (ha : IsA p n (iblk m d 1 t)) (hm : IsM p n (iblk m d 2 t))
    (hs : ∀ hn, IsAll p n (outsAt0 m d (t.val - 1) hn).2.2.2) : IsAll p (n + 512) (outsAt0 m d t.val t.isLt).2.2.1 := by
  intro i
  rw [outsAt0_C m d t h h']
  frame_out
  rw [read_unread_whole]
  refine read_all (fun i => ?_) _ i
  canon_tiles x h
  · exact tile_at (pay8_at hd (ldS (hs _) 512 _) (half_m hm) x) h0 (by omega)
  · exact tile_at (pay7_at hd (ldS (hs _) 0 _) (half_a ha) x) (by omega) (by omega)

theorem stepA (h : t.val % 8 = 0) (h' : ¬ t.val % 8 = 7) (hd : IsD p 0 (iblk m d 0 t)) (ha : IsA p 0 (iblk m d 1 t)) (hm : IsM p 0 (iblk m d 2 t)) :
    IsAll p (0 + 512) (outsAt0 m d t.val t.isLt).2.2.2 := by
  intro i
  rw [outsAt0_A m d t h h']
  frame_out
  refine (View.canon_append_of_piecesOf (Val := Elt Ideal) (s := S1024x1024) (e := .f32) (fun i : S1024x1024.Idx => dw p (0 + 512) (i 0).val (i 1).val) [_] [_, _] ⟨fun x => ?_, fun x => ?_, trivial⟩ i ?_)
  · refine placed (pay8_at hd ?_ (half_m hm)) x inb_S1024x1024_S512x1024_512_0
    rw [View.readCov_skip _ _ _ _ _ rfl, View.readCov_fill _ _ _ _ _ zero2]
    exact ldS fill_at 512 _
  · refine placed (pay7_at hd ?_ (half_a ha)) x inb_S1024x1024_S512x1024_0_0
    rw [View.readCov_fill _ _ _ _ _ zero2]
    exact ldS fill_at 0 _
  · exact View.cover_of_tiled_head _ _ _ rfl i

theorem out4 (hd : IsD p n (iblk m d 0 t)) (hw : IsW p (iblk m d 3 t)) (i : S512x512.Idx) : (outsAt0 m d t.val t.isLt).1 i = dmix p (n + (i 0).val) (i 1).val := by
  by_cases h : t.val % 8 = 0
  · rw [outsAt0_A m d t h (by omega)]
    frame_out
    exact pay5_at hd hw i
  · by_cases h' : t.val % 8 = 7
    · rw [outsAt0_C m d t h h']
      frame_out
      exact pay5_at hd hw i
    · rw [outsAt0_B m d t h h']
      frame_out
      exact pay5_at hd hw i

theorem out5 (hd : IsD p n (iblk m d 0 t)) (hw : IsW p (iblk m d 3 t)) (i : S512x512.Idx) : (outsAt0 m d t.val t.isLt).2.1 i = dmix p (n + (i 0).val) (512 + (i 1).val) := by
  by_cases h : t.val % 8 = 0
  · rw [outsAt0_A m d t h (by omega)]
    frame_out
    exact pay6_at hd hw i
  · by_cases h' : t.val % 8 = 7
    · rw [outsAt0_C m d t h h']
      frame_out
      exact pay6_at hd hw i
    · rw [outsAt0_B m d t h h']
      frame_out
      exact pay6_at hd hw i

variable (d)

/-- What a device's arguments hold. -/
def held : Args :=
  ⟨at2 (m ((d : Thread nD τ).loc main_arg0)), at2 (m ((d : Thread nD τ).loc main_arg1)), at2 (m ((d : Thread nD τ).loc main_arg2)), at2 (m ((d : Thread nD τ).loc main_arg3))⟩

theorem entry_w (i : S1024x1024.Idx) : V m d main_v0 i = (held m d).w (i 0).val (i 1).val := by
  refine Eq.trans ?_ (at2_eq (m ((d : Thread nD τ).loc main_arg3)) i)
  entry_read
  rfl

theorem idx0_0 : ∀ t : Fin cfg0.N, (cfg0.win 0).index t (0 : Fin 2) = t.val := by decide
theorem idx0_1 : ∀ t : Fin cfg0.N, (cfg0.win 0).index t (1 : Fin 2) = 0 := by decide
theorem idx1_0 : ∀ t : Fin cfg0.N, (cfg0.win 1).index t (0 : Fin 2) = t.val := by decide
theorem idx1_1 : ∀ t : Fin cfg0.N, (cfg0.win 1).index t (1 : Fin 2) = 0 := by decide
theorem idx2_0 : ∀ t : Fin cfg0.N, (cfg0.win 2).index t (0 : Fin 2) = t.val := by decide
theorem idx2_1 : ∀ t : Fin cfg0.N, (cfg0.win 2).index t (1 : Fin 2) = 0 := by decide
theorem idx4_0 : ∀ t : Fin cfg0.N, (cfg0.win 4).index t (0 : Fin 2) = t.val := by decide
theorem idx4_1 : ∀ t : Fin cfg0.N, (cfg0.win 4).index t (1 : Fin 2) = 0 := by decide
theorem idx5_0 : ∀ t : Fin cfg0.N, (cfg0.win 5).index t (0 : Fin 2) = t.val := by decide
theorem idx5_1 : ∀ t : Fin cfg0.N, (cfg0.win 5).index t (1 : Fin 2) = 0 := by decide
theorem idx3 : ∀ t : Fin cfg0.N, ∀ a : Fin 2, (cfg0.win 3).index t a = 0 := by decide
theorem idx6 : ∀ t : Fin cfg0.N, ∀ a : Fin 2, (cfg0.win 6).index t a = 0 := by decide

theorem emb0_0 (t : Fin cfg0.N) (y : S512x1024.Idx) : (((cfg0.win 0).rect t).emb y (0 : Fin 2) : ℕ) = 512 * t.val + (y 0).val := by
  refine ((cfg0.win 0).rect_emb_val t y (0 : Fin 2)).trans ?_
  rw [idx0_0]
  show t.val * 512 + (y 0).val = _
  omega
theorem emb0_1 (t : Fin cfg0.N) (y : S512x1024.Idx) : (((cfg0.win 0).rect t).emb y (1 : Fin 2) : ℕ) = (y 1).val := by
  refine ((cfg0.win 0).rect_emb_val t y (1 : Fin 2)).trans ?_
  rw [idx0_1, zero_mul, zero_add]
theorem emb1_0 (t : Fin cfg0.N) (y : S512x512.Idx) : (((cfg0.win 1).rect t).emb y (0 : Fin 2) : ℕ) = 512 * t.val + (y 0).val := by
  refine ((cfg0.win 1).rect_emb_val t y (0 : Fin 2)).trans ?_
  rw [idx1_0]
  show t.val * 512 + (y 0).val = _
  omega
theorem emb1_1 (t : Fin cfg0.N) (y : S512x512.Idx) : (((cfg0.win 1).rect t).emb y (1 : Fin 2) : ℕ) = (y 1).val := by
  refine ((cfg0.win 1).rect_emb_val t y (1 : Fin 2)).trans ?_
  rw [idx1_1, zero_mul, zero_add]
theorem emb2_0 (t : Fin cfg0.N) (y : S512x512.Idx) : (((cfg0.win 2).rect t).emb y (0 : Fin 2) : ℕ) = 512 * t.val + (y 0).val := by
  refine ((cfg0.win 2).rect_emb_val t y (0 : Fin 2)).trans ?_
  rw [idx2_0]
  show t.val * 512 + (y 0).val = _
  omega
theorem emb2_1 (t : Fin cfg0.N) (y : S512x512.Idx) : (((cfg0.win 2).rect t).emb y (1 : Fin 2) : ℕ) = (y 1).val := by
  refine ((cfg0.win 2).rect_emb_val t y (1 : Fin 2)).trans ?_
  rw [idx2_1, zero_mul, zero_add]
theorem emb3 (t : Fin cfg0.N) (y : S1024x1024.Idx) (a : Fin 2) : (((cfg0.win 3).rect t).emb y a : ℕ) = (y a).val := by
  refine ((cfg0.win 3).rect_emb_val t y a).trans ?_
  rw [idx3, zero_mul, zero_add]

theorem read0 (Z : (b : Ref sig .tc) → Buf (Elt Ideal) ((d : Thread nD τ).loc b)) (t : Fin cfg0.N) (y : S512x1024.Idx) :
    ((cfg0.win 0).blk t).view.read (Elt Ideal) (Z (Pipeline.arrRef spec0 0)) y = Z main_arg0 (((cfg0.win 0).rect t).emb y) := rfl
theorem read1 (Z : (b : Ref sig .tc) → Buf (Elt Ideal) ((d : Thread nD τ).loc b)) (t : Fin cfg0.N) (y : S512x512.Idx) :
    ((cfg0.win 1).blk t).view.read (Elt Ideal) (Z (Pipeline.arrRef spec0 1)) y = Z main_arg1 (((cfg0.win 1).rect t).emb y) := rfl
theorem read2 (Z : (b : Ref sig .tc) → Buf (Elt Ideal) ((d : Thread nD τ).loc b)) (t : Fin cfg0.N) (y : S512x512.Idx) :
    ((cfg0.win 2).blk t).view.read (Elt Ideal) (Z (Pipeline.arrRef spec0 2)) y = Z main_arg2 (((cfg0.win 2).rect t).emb y) := rfl
theorem read3 (Z : (b : Ref sig .tc) → Buf (Elt Ideal) ((d : Thread nD τ).loc b)) (t : Fin cfg0.N) (y : S1024x1024.Idx) :
    ((cfg0.win 3).blk t).view.read (Elt Ideal) (Z (Pipeline.arrRef spec0 3)) y = Z main_v0 (((cfg0.win 3).rect t).emb y) := rfl

theorem blk0 (t : Fin cfg0.N) : IsD (held m d) (512 * t.val) (iblk m d 0 t) := fun y =>
  (read0 d (fun b => V m d b) t y).trans ((congrFun (V_main_arg0 m d) _).trans ((at2_eq (m ((d : Thread nD τ).loc main_arg0)) _).trans (congrArg₂ (held m d).dh (emb0_0 t y) (emb0_1 t y))))
theorem blk1 (t : Fin cfg0.N) : IsA (held m d) (512 * t.val) (iblk m d 1 t) := fun y =>
  (read1 d (fun b => V m d b) t y).trans ((congrFun (V_main_arg1 m d) _).trans ((at2_eq (m ((d : Thread nD τ).loc main_arg1)) _).trans (congrArg₂ (held m d).attn (emb1_0 t y) (emb1_1 t y))))
theorem blk2 (t : Fin cfg0.N) : IsM (held m d) (512 * t.val) (iblk m d 2 t) := fun y =>
  (read2 d (fun b => V m d b) t y).trans ((congrFun (V_main_arg2 m d) _).trans ((at2_eq (m ((d : Thread nD τ).loc main_arg2)) _).trans (congrArg₂ (held m d).ml (emb2_0 t y) (emb2_1 t y))))
theorem blk3 (t : Fin cfg0.N) : IsW (held m d) (iblk m d 3 t) := fun y =>
  (read3 d (fun b => V m d b) t y).trans ((entry_w m d _).trans (congrArg₂ (held m d).w (emb3 t y 0) (emb3 t y 1)))

/-- The weight's running gradient after each grid point but the last. -/
theorem running : ∀ (k : ℕ) (hk : k < cfg0.N), k < 7 → IsAll (held m d) (512 * (k + 1)) (outsAt0 m d k hk).2.2.2
  | 0, hk, _ => stepA m (t := ⟨0, hk⟩) rfl (show ¬ 0 % 8 = 7 by decide) (blk0 m d ⟨0, hk⟩) (blk1 m d ⟨0, hk⟩) (blk2 m d ⟨0, hk⟩)
  | k + 1, hk, h => stepB m (t := ⟨k + 1, hk⟩) (n := 512 * (k + 1)) (show ¬ (k + 1) % 8 = 0 by omega) (show ¬ (k + 1) % 8 = 7 by omega) (blk0 m d ⟨k + 1, hk⟩) (blk1 m d ⟨k + 1, hk⟩) (blk2 m d ⟨k + 1, hk⟩)
      fun hn => running k hn (by omega)

theorem arr4 : (dats m 0 d).arrAt 4 cfg0.N = fun i : S4096x512.Idx => dmix (held m d) (i 0).val (i 1).val := by
  refine (dats m 0 d).arrAt_eq_of_covers 4 _ (by decide +kernel) fun t hf y => ?_
  blk_simp
  rw [after0_4]
  refine (out4 m (blk0 m d t) (blk3 m d t) y).trans (congrArg₂ (dmix (held m d)) ?_ ?_)
  · rw [show win0_4.index t 0 = t.val from idx4_0 t]
    omega
  · rw [show win0_4.index t 1 = 0 from idx4_1 t]
    omega

theorem arr5 : (dats m 0 d).arrAt 5 cfg0.N = fun i : S4096x512.Idx => dmix (held m d) (i 0).val (512 + (i 1).val) := by
  refine (dats m 0 d).arrAt_eq_of_covers 5 _ (by decide +kernel) fun t hf y => ?_
  blk_simp
  rw [after0_5]
  refine (out5 m (blk0 m d t) (blk3 m d t) y).trans (congrArg₂ (dmix (held m d)) ?_ ?_)
  · rw [show win0_5.index t 0 = t.val from idx5_0 t]
    omega
  · rw [show win0_5.index t 1 = 0 from idx5_1 t]
    omega

theorem arr6 : (dats m 0 d).arrAt 6 cfg0.N = fun i : S1024x1024.Idx => dw (held m d) 4096 (i 0).val (i 1).val := by
  refine (dats m 0 d).arrAt_eq_of_covers 6 _ (by decide +kernel) fun t hf y => ?_
  blk_simp
  rw [after0_6]
  have h7 : t.val % 8 = 7 := (flush0_6 t).mp hf
  have hN : t.val < 8 := lt_of_lt_of_eq t.isLt N_0
  have ht : t.val = 7 := by omega
  have e : 512 * t.val + 512 = 4096 := by omega
  refine (stepC m (n := 512 * t.val) (by omega) h7 (blk0 m d t) (blk1 m d t) (blk2 m d t) (fun hn => ?_) y).trans ?_
  · have := running m d (t.val - 1) hn (by omega)
    rwa [show 512 * (t.val - 1 + 1) = 512 * t.val by omega] at this
  · rw [e]
    refine congrArg₂ (dw _ 4096) ?_ ?_
    · rw [show win0_6.index t 0 = 0 from idx6 t 0]
      omega
    · rw [show win0_6.index t 1 = 0 from idx6 t 1]
      omega

end Cert.Proof.OutBwd

end
-- ==== Proof.OutBwd.Claims.lean ====
/- The claims about the output projection's backward call. -/
module

public import proofs.«01_k».proof.Defs
public import proofs.«01_k».proof.Proof.Gen.OutBwd.Frame
public import proofs.«01_k».proof.Proof.Gen.OutBwdReferenceIdeal.Read
public import proofs.«01_k».proof.Proof.OutBwd.Body

@[expose] public section

noncomputable section

namespace Cert.Proof.OutBwd

open Idealize.ShloMosaic Idealize.ShloMosaic.TcCoe Idealize.ShloMosaic.Tactic Idealize.SL.Sem
open Cert.Proof.Step
open Cert.OutBwdReferenceIdeal Cert.OutBwdReferenceIdeal.Read

section
variable (x0 : (⟨S4096x1024, .f32⟩ : BufTy).Contents (Elt Ideal)) (x1 x2 : (⟨S4096x512, .f32⟩ : BufTy).Contents (Elt Ideal)) (x3 : (⟨S1024x1024, .f32⟩ : BufTy).Contents (Elt Ideal))

/-- What the reference's arguments hold. -/
def given : Args := ⟨at2 x0, at2 x1, at2 x2, at2 x3⟩

theorem v0_at (i : S4096x1024.Idx) : val_main_v0 (F := Ideal) x1 x2 i = both (given x0 x1 x2 x3) (i 0).val (i 1).val := by
  have h : (i 1).val < 1024 := (i 1).isLt
  rw [eq_ix2 i]
  unfold val_main_v0
  pointwise
  unfold both
  split
  · exact at2_eq x1 _
  · exact at2_eq x2 _

theorem v4_at (i : S4096x1024.Idx) : val_main_v4 (F := Ideal) x0 x3 i = dmix (given x0 x1 x2 x3) (i 0).val (i 1).val :=
  (val_main_v4_apply x0 x3 i).trans (Finset.sum_congr rfl fun k _ => congrArg₂ (· * ·) (at2_eq x0 _) (at2_eq x3 _))

theorem v5_at (i : S4096x512.Idx) : val_main_v5 (F := Ideal) x0 x3 i = dmix (given x0 x1 x2 x3) (i 0).val (i 1).val :=
  (val_main_v5_apply x0 x3 i).trans ((v4_at x0 x1 x2 x3 _).trans (congrArg₂ (dmix _) (show (i 0).val = (i 0).val from rfl) (show (i 1).val = (i 1).val from rfl)))

theorem v6_at (i : S4096x512.Idx) : val_main_v6 (F := Ideal) x0 x3 i = dmix (given x0 x1 x2 x3) (i 0).val (512 + (i 1).val) := by
  refine (val_main_v6_apply x0 x3 i).trans ((v4_at x0 x1 x2 x3 _).trans (congrArg₂ (dmix _) ?_ ?_))
  · rfl
  · rfl

theorem v7_at (i : S1024x1024.Idx) : val_main_v7 (F := Ideal) x0 x1 x2 i = dw (given x0 x1 x2 x3) 4096 (i 0).val (i 1).val := by
  refine (val_main_v3_apply (F := Ideal) x0 x1 x2 i).trans ((val_main_v2_apply x0 x1 x2 _).trans ?_)
  refine (Finset.sum_congr rfl fun k _ => (congrArg₂ (· * ·) (at2_eq x0 _) (v0_at x0 x1 x2 x3 _)).trans (mul_comm _ _)).trans ?_
  exact (Finset.sum_range fun r => both (given x0 x1 x2 x3) r (i 0).val * at2 x0 r (i 1).val).symm
end

theorem frame_outBwd : Cert.quiescent_OutBwd := fun m ρ _ => Cert.OutBwd.Gen.frame (F := Bits) m ρ

theorem frame_outBwdIdeal : Cert.quiescent_OutBwdIdeal := fun m ρ _ => Cert.OutBwdIdeal.Gen.frame (F := Ideal) m ρ

theorem frame_outBwdReferenceIdeal : Cert.quiescent_OutBwdReferenceIdeal := fun m ρ _ =>
  (θ_run Cert.OutBwdReferenceIdeal.defs _ _).mono (fun r h => ⟨fun c => (h c).2.2.2, Idealize.ShloMosaic.sem_eq_zero_of_no_sems (by decide) r.2⟩)
    (Cert.OutBwdReferenceIdeal.Value.run (F := Ideal) m ρ)

/-- The two programs leave the same three gradients. -/
theorem algebraic_outBwd : Cert.algebraic_OutBwdIdeal_OutBwdReferenceIdeal := by
  intro m ρ m' ρ' _ hagree
  refine ⟨fun c => fun i : S4096x512.Idx => dmix (held m c) (i 0).val (i 1).val, fun c => fun i : S4096x512.Idx => dmix (held m c) (i 0).val (512 + (i 1).val),
    fun c => fun i : S1024x1024.Idx => dw (held m c) 4096 (i 0).val (i 1).val,
    (θ_run Cert.OutBwdIdeal.defs _ _).mono (fun r h c => ⟨(h c).1.trans (arr4 m c), (h c).2.1.trans (arr5 m c), (h c).2.2.1.trans (arr6 m c), (h c).2.2.2⟩) (Cert.OutBwdIdeal.Value.run_blocks (F := Ideal) m ρ), ?_⟩
  have H : ∀ c : Dev nD, given (m' ((c : Thread nD τ).loc main_arg0)) (m' ((c : Thread nD τ).loc main_arg1)) (m' ((c : Thread nD τ).loc main_arg2)) (m' ((c : Thread nD τ).loc main_arg3)) = held m c := fun c => by
    obtain ⟨a0, a1, a2, a3⟩ := hagree c
    rw [a0, a1, a2, a3]
    rfl
  refine (θ_run Cert.OutBwdReferenceIdeal.defs _ _).mono (fun r h c => ⟨?_, ?_, ?_, (h c).2.2.2⟩) (Cert.OutBwdReferenceIdeal.Value.run (F := Ideal) m' ρ')
  · exact (h c).1.trans ((val_main_v5_eq (F := Ideal) _ _).trans (funext fun i => (v5_at _ (m' ((c : Thread nD τ).loc main_arg1)) (m' ((c : Thread nD τ).loc main_arg2)) _ i).trans (congrArg (fun p => dmix p (i 0).val (i 1).val) (H c))))
  · exact (h c).2.1.trans ((val_main_v6_eq (F := Ideal) _ _).trans (funext fun i => (v6_at _ (m' ((c : Thread nD τ).loc main_arg1)) (m' ((c : Thread nD τ).loc main_arg2)) _ i).trans (congrArg (fun p => dmix p (i 0).val (512 + (i 1).val)) (H c))))
  · exact (h c).2.2.1.trans ((val_main_v7_eq (F := Ideal) _ _ _).trans (funext fun i => (v7_at _ _ _ (m' ((c : Thread nD τ).loc main_arg3)) i).trans (congrArg (fun p => dw p 4096 (i 0).val (i 1).val) (H c))))

end Cert.Proof.OutBwd

end
-- ==== Proof.InProj.Spec.lean ====
/- The projections into the heads and the rotation of their first sixteen lanes, at natural numbers. -/
module

public import proofs.«01_k».proof.Proof.Step.Sums

@[expose] public section

noncomputable section

namespace Cert.Proof.InProj

open Idealize.ShloMosaic
open Cert.Proof.Step

/-- The residual stream, the norm's gain, the weight (zero past its last column) and the angles' cosines and sines. -/
structure Args where
  x : ℕ → ℕ → EReal
  g : ℕ → ℕ → EReal
  w : ℕ → ℕ → EReal
  cos : ℕ → ℕ → EReal
  sin : ℕ → ℕ → EReal

/-- A row's mean square, with the small constant added. -/
def ms (p : Args) (r : ℕ) : EReal := Ideal.div (∑ q : Fin 1024, p.x r q.val * p.x r q.val) (Ideal.ofBits .f32 0x44800000#32) + Ideal.ofBits .f32 0x358637BD#32
/-- The normalised residual stream. -/
def norm (p : Args) (r k : ℕ) : EReal := p.x r k * Ideal.rsqrt (ms p r) * p.g 0 k
/-- The projection. -/
def proj (p : Args) (r j : ℕ) : EReal := ∑ k : Fin 1024, norm p r k.val * p.w k.val j
/-- The projection with the first sixteen lanes of each head of sixty-four turned. -/
def rot (p : Args) (r j : ℕ) : EReal :=
  if j % 64 < 8 then proj p r j * p.cos r (j % 64) - proj p r (j + 8) * p.sin r (j % 64)
  else if j % 64 < 16 then proj p r j * p.cos r (j % 64 - 8) + proj p r (j - 8) * p.sin r (j % 64 - 8)
  else proj p r j

/-- The attention's operands: the queries' and the keys' heads turned, the values as they are. -/
def qkv (p : Args) (r j : ℕ) : EReal := if j < 1024 then rot p r j else proj p r j

/-- The three tables the rotation reads, one entry a lane of two heads. -/
def tabC (p : Args) (r j : ℕ) : EReal := if j % 64 < 8 then p.cos r (j % 64) else if j % 64 < 16 then p.cos r (j % 64 - 8) else 1
def tabA (p : Args) (r j : ℕ) : EReal := if j % 64 < 8 then -p.sin r (j % 64) else 0
def tabB (p : Args) (r j : ℕ) : EReal := if j % 64 < 8 then 0 else if j % 64 < 16 then p.sin r (j % 64 - 8) else 0

theorem tabC_fst (p : Args) (r j k : ℕ) (hk : k < 8) (e : j % 64 = k) : p.cos r k = tabC p r j := by
  unfold tabC
  rw [if_pos (by omega), e]
theorem tabC_snd (p : Args) (r j k : ℕ) (hk : k < 8) (e : j % 64 = k + 8) : p.cos r k = tabC p r j := by
  unfold tabC
  rw [if_neg (by omega), if_pos (by omega), show j % 64 - 8 = k by omega]
theorem tabC_rest (p : Args) (r j : ℕ) (e : 16 ≤ j % 64) : 1 = tabC p r j := by
  unfold tabC
  rw [if_neg (by omega), if_neg (by omega)]
theorem tabA_fst (p : Args) (r j k : ℕ) (hk : k < 8) (e : j % 64 = k) : -p.sin r k = tabA p r j := by
  unfold tabA
  rw [if_pos (by omega), e]
theorem tabA_rest (p : Args) (r j : ℕ) (e : 8 ≤ j % 64) : 0 = tabA p r j := by
  unfold tabA
  rw [if_neg (by omega)]
theorem tabB_fst (p : Args) (r j : ℕ) (e : j % 64 < 8) : 0 = tabB p r j := by
  unfold tabB
  rw [if_pos (by omega)]
theorem tabB_snd (p : Args) (r j k : ℕ) (hk : k < 8) (e : j % 64 = k + 8) : p.sin r k = tabB p r j := by
  unfold tabB
  rw [if_neg (by omega), if_pos (by omega), show j % 64 - 8 = k by omega]
theorem tabB_rest (p : Args) (r j : ℕ) (e : 16 ≤ j % 64) : 0 = tabB p r j := by
  unfold tabB
  rw [if_neg (by omega), if_neg (by omega)]

theorem rope_at (p : Args) (r n j : ℕ) (hj : j < 128) (hn : n % 64 = 0) {x y z c a b : EReal} (hx : x = proj p r (n + j)) (hy : y = proj p r (n + (j + 8) % 128)) (hz : z = proj p r (n + (j + 120) % 128))
    (hc : c = tabC p r j) (ha : a = tabA p r j) (hb : b = tabB p r j) : x * c + y * a + z * b = rot p r (n + j) := by
  have e : (n + j) % 64 = j % 64 := by omega
  subst hx hy hz hc ha hb
  unfold rot tabC tabA tabB
  rw [e]
  by_cases h8 : j % 64 < 8
  · rw [if_pos h8, if_pos h8, if_pos h8, if_pos h8, mul_zero, add_zero, mul_neg, ← sub_eq_add_neg, show (j + 8) % 128 = j + 8 by omega, ← add_assoc]
  · rw [if_neg h8, if_neg h8, if_neg h8, if_neg h8, mul_zero, add_zero]
    by_cases h16 : j % 64 < 16
    · rw [if_pos h16, if_pos h16, if_pos h16, show n + (j + 120) % 128 = n + j - 8 by omega]
    · rw [if_neg h16, if_neg h16, if_neg h16, mul_zero, add_zero, mul_one]

theorem rot_fst (p : Args) (r n k : ℕ) (hn : n % 64 = 0) (hk : k < 8) : proj p r (n + k) * p.cos r k - proj p r (n + (8 + k)) * p.sin r k = rot p r (n + k) := by
  have e : (n + k) % 64 = k := by omega
  unfold rot
  rw [e, if_pos hk, show n + (8 + k) = n + k + 8 by omega]
theorem rot_snd (p : Args) (r n k : ℕ) (hn : n % 64 = 0) (hk : k < 8) : proj p r (n + (8 + k)) * p.cos r k + proj p r (n + k) * p.sin r k = rot p r (n + (8 + k)) := by
  have e : (n + (8 + k)) % 64 = 8 + k := by omega
  unfold rot
  rw [e, if_neg (by omega), if_pos (by omega), show 8 + k - 8 = k by omega, show n + (8 + k) - 8 = n + k by omega]
theorem rot_rest (p : Args) (r n k : ℕ) (hn : n % 64 = 0) (hk : k < 48) : proj p r (n + (16 + k)) = rot p r (n + (16 + k)) := by
  have e : (n + (16 + k)) % 64 = 16 + k := by omega
  unfold rot
  rw [e, if_neg (by omega), if_neg (by omega)]

end Cert.Proof.InProj

end
-- ==== Proof.InProj.Chunk.lean ====
/- The steps of one grid point's body of the projections, read at an index. -/
module

public import proofs.«01_k».proof.Proof.Gen.InProjIdeal.Frame
public import Idealize.ShloMosaic.Lib.Pipeline.ValueKit
public import Idealize.ShloMosaic.Lib.Pipeline.ValueKit.Acc
public import proofs.«01_k».proof.Proof.InProj.Spec

@[expose] public section

noncomputable section

namespace Cert.Proof.InProj

open Cert.InProjIdeal Cert.InProjIdeal.Gen
open Idealize.ShloMosaic Idealize.ShloMosaic.TcCoe Idealize.ShloMosaic.Tactic
open Cert.Proof.Step

variable {p : Args} {R n : ℕ}

abbrev IsX (p : Args) (R : ℕ) (z : S512x1024.Idx → EReal) : Prop := ∀ i : S512x1024.Idx, z i = p.x (R + (i 0).val) (i 1).val
abbrev IsG (p : Args) (z : S1x1024.Idx → EReal) : Prop := ∀ i : S1x1024.Idx, z i = p.g 0 (i 1).val
abbrev IsU (p : Args) (R : ℕ) (z : S512x1024.Idx → EReal) : Prop := ∀ i : S512x1024.Idx, z i = norm p (R + (i 0).val) (i 1).val
abbrev IsW (p : Args) (n : ℕ) (z : S1024x512.Idx → EReal) : Prop := ∀ i : S1024x512.Idx, z i = p.w (i 0).val (n + (i 1).val)
abbrev IsP (p : Args) (R n : ℕ) (z : S512x512.Idx → EReal) : Prop := ∀ i : S512x512.Idx, z i = proj p (R + (i 0).val) (n + (i 1).val)
abbrev IsL (F : ℕ → ℕ → EReal) (R n : ℕ) (z : S512x128.Idx → EReal) : Prop := ∀ i : S512x128.Idx, z i = F (R + (i 0).val) (n + (i 1).val)
abbrev IsT (F : ℕ → ℕ → EReal) (R : ℕ) (z : S512x128.Idx → EReal) : Prop := ∀ i : S512x128.Idx, z i = F (R + (i 0).val) (i 1).val

theorem pay1_at {v14 : FVec Ideal S512x1024 .bf16} {v : Vec Ideal S1024x512 .bf16} (h : IsU p R v14) (hw : IsW p n v) : IsP p R n (k0_pay1 v14 v) := by
  intro i
  unfold k0_pay1
  simp only [pointwise]
  rw [zero_add]
  exact Finset.sum_congr rfl fun k _ => congrArg₂ (· * ·) (h _) (hw _)
theorem pay2_at {v14 : FVec Ideal S512x1024 .bf16} {v : Vec Ideal S1024x512 .bf16} (h : IsU p R v14) (hw : IsW p n v) : IsP p R n (k0_pay2 v14 v) := by
  intro i
  unfold k0_pay2
  simp only [pointwise]
  rw [zero_add]
  exact Finset.sum_congr rfl fun k _ => congrArg₂ (· * ·) (h _) (hw _)
theorem pay3_at {v14 : FVec Ideal S512x1024 .bf16} {v : Vec Ideal S1024x512 .bf16} (h : IsU p R v14) (hw : IsW p n v) : IsP p R n (k0_pay3 v14 v) := by
  intro i
  unfold k0_pay3
  simp only [pointwise]
  rw [zero_add]
  exact Finset.sum_congr rfl fun k _ => congrArg₂ (· * ·) (h _) (hw _)
theorem pay15_at {v14 : FVec Ideal S512x1024 .bf16} {v : Vec Ideal S1024x512 .bf16} (h : IsU p R v14) (hw : IsW p n v) : IsP p R n (k0_pay15 v14 v) := by
  intro i
  unfold k0_pay15
  simp only [pointwise]
  rw [zero_add]
  exact Finset.sum_congr rfl fun k _ => congrArg₂ (· * ·) (h _) (hw _)
theorem pay20_at {v14 : FVec Ideal S512x1024 .bf16} {v : Vec Ideal S1024x512 .bf16} (h : IsU p R v14) (hw : IsW p n v) : IsP p R n (k0_pay20 v14 v) := by
  intro i
  unfold k0_pay20
  simp only [pointwise]
  rw [zero_add]
  exact Finset.sum_congr rfl fun k _ => congrArg₂ (· * ·) (h _) (hw _)
theorem pay21_at {v14 : FVec Ideal S512x1024 .bf16} {v : Vec Ideal S1024x512 .bf16} (h : IsU p R v14) (hw : IsW p n v) : IsP p R n (k0_pay21 v14 v) := by
  intro i
  unfold k0_pay21
  simp only [pointwise]
  rw [zero_add]
  exact Finset.sum_congr rfl fun k _ => congrArg₂ (· * ·) (h _) (hw _)
theorem pay4_at {v14 : FVec Ideal S512x1024 .bf16} {v : Vec Ideal S1024x128 .bf16} (h : IsU p R v14) (hw : ∀ i : S1024x128.Idx, v i = p.w (i 0).val (n + (i 1).val)) : IsL (proj p) R n (k0_pay4 v14 v) := by
  intro i
  unfold k0_pay4
  simp only [pointwise]
  rw [zero_add]
  exact Finset.sum_congr rfl fun k _ => congrArg₂ (· * ·) (h _) (hw _)
theorem pay5_at {v0 : Vec Ideal S512x1024 .f32} {v11 : Vec Ideal S1x1024 .f32} (h : IsX p R v0) (hg : IsG p v11) : IsU p R (k0_pay5 v0 v11) := by
  intro i
  unfold k0_pay5
  simp only [pointwise]
  unfold norm ms
  exact congrArg₂ (· * ·) (congrArg₂ (· * ·) (h i) (congrArg Ideal.rsqrt (congrArg (fun s => Ideal.div s (Ideal.ofBits .f32 0x44800000#32) + Ideal.ofBits .f32 0x358637BD#32)
    (Finset.sum_congr rfl fun k _ => congrArg₂ (· * ·) (h _) (h _))))) (hg _)
theorem pay6_at {F : ℕ → ℕ → EReal} {v : Vec Ideal S512x128 .f32} (h : IsT F R v) : IsT F R (k0_pay6 v) := by
  intro i
  unfold k0_pay6
  simp only [pointwise]
  exact h i
theorem pay7_at {F : ℕ → ℕ → EReal} {v : Vec Ideal S512x128 .f32} (h : IsT F R v) : IsT F R (k0_pay7 v) := by
  intro i
  unfold k0_pay7
  simp only [pointwise]
  exact h i
theorem pay8_at {F : ℕ → ℕ → EReal} {v : Vec Ideal S512x128 .f32} (h : IsT F R v) : IsT F R (k0_pay8 v) := by
  intro i
  unfold k0_pay8
  simp only [pointwise]
  exact h i
theorem pay9_at {v0 : Vec Ideal S512x1024 .f32} {v11 : Vec Ideal S1x1024 .f32} {v : Vec Ideal S1024x512 .bf16} (h : IsX p R v0) (hg : IsG p v11) (hw : IsW p n v) : IsP p R n (k0_pay9 v0 v11 v) := by
  have hu := pay5_at h hg
  unfold k0_pay9
  generalize k0_pay5 v0 v11 = u at hu ⊢
  intro i
  simp only [pointwise]
  rw [zero_add]
  exact Finset.sum_congr rfl fun k _ => congrArg₂ (· * ·) (hu _) (hw _)

section
variable {c a b : FVec Ideal S512x128 .f32} {z : FVec Ideal S512x512 .f32}

/-- Two heads turned, from three readings of the projection's lanes. -/
theorem turn_at (hc : IsT (tabC p) R c) (ha : IsT (tabA p) R a) (hb : IsT (tabB p) R b) (hz : IsP p R n z) (o : ℕ) (hn : (n + o) % 64 = 0) {i : S512x128.Idx} {j0 j1 j2 : S512x512.Idx}
    (r0 : (j0 0).val = (i 0).val) (r1 : (j1 0).val = (i 0).val) (r2 : (j2 0).val = (i 0).val)
    (e0 : (j0 1).val = o + (i 1).val) (e1 : (j1 1).val = o + ((i 1).val + 128 - 120) % 128) (e2 : (j2 1).val = o + ((i 1).val + 128 - 8) % 128) :
    z j0 * c i + z j1 * a i + z j2 * b i = rot p (R + (i 0).val) (n + o + (i 1).val) := by
  have hi : (i 1).val < 128 := (i 1).isLt
  refine rope_at p _ (n + o) _ hi hn ?_ ?_ ?_ (hc i) (ha i) (hb i)
  · rw [hz, r0, e0, ← Nat.add_assoc]
  · rw [hz, r1, e1, ← Nat.add_assoc, show (i 1).val + 128 - 120 = (i 1).val + 8 by omega]
  · rw [hz, r2, e2, ← Nat.add_assoc, show (i 1).val + 128 - 8 = (i 1).val + 120 by omega]

theorem pay13_at (hc : IsT (tabC p) R c) (ha : IsT (tabA p) R a) (hb : IsT (tabB p) R b) (hz : IsP p R n z) (hn : (n + 256) % 64 = 0) : IsL (rot p) R (n + 256) (k0_pay13 c a b z) := by
  intro i
  unfold k0_pay13
  simp only [pointwise]
  exact turn_at hc ha hb hz 256 hn (Nat.zero_add _) (Nat.zero_add _) (Nat.zero_add _) rfl rfl rfl
theorem pay14_at (hc : IsT (tabC p) R c) (ha : IsT (tabA p) R a) (hb : IsT (tabB p) R b) (hz : IsP p R n z) (hn : (n + 384) % 64 = 0) : IsL (rot p) R (n + 384) (k0_pay14 c a b z) := by
  intro i
  unfold k0_pay14
  simp only [pointwise]
  exact turn_at hc ha hb hz 384 hn (Nat.zero_add _) (Nat.zero_add _) (Nat.zero_add _) rfl rfl rfl
theorem pay17_at (hc : IsT (tabC p) R c) (ha : IsT (tabA p) R a) (hb : IsT (tabB p) R b) (hz : IsP p R n z) (hn : (n + 128) % 64 = 0) : IsL (rot p) R (n + 128) (k0_pay17 c a b z) := by
  intro i
  unfold k0_pay17
  simp only [pointwise]
  exact turn_at hc ha hb hz 128 hn (Nat.zero_add _) (Nat.zero_add _) (Nat.zero_add _) rfl rfl rfl
theorem pay18_at (hc : IsT (tabC p) R c) (ha : IsT (tabA p) R a) (hb : IsT (tabB p) R b) (hz : IsP p R n z) (hn : (n + 256) % 64 = 0) : IsL (rot p) R (n + 256) (k0_pay18 c a b z) := by
  intro i
  unfold k0_pay18
  simp only [pointwise]
  exact turn_at hc ha hb hz 256 hn (Nat.zero_add _) (Nat.zero_add _) (Nat.zero_add _) rfl rfl rfl
theorem pay19_at (hc : IsT (tabC p) R c) (ha : IsT (tabA p) R a) (hb : IsT (tabB p) R b) (hz : IsP p R n z) (hn : (n + 384) % 64 = 0) : IsL (rot p) R (n + 384) (k0_pay19 c a b z) := by
  intro i
  unfold k0_pay19
  simp only [pointwise]
  exact turn_at hc ha hb hz 384 hn (Nat.zero_add _) (Nat.zero_add _) (Nat.zero_add _) rfl rfl rfl
theorem pay12_at {x : FVec Ideal S512x128 .f32} (hc : IsT (tabC p) R c) (ha : IsT (tabA p) R a) (hb : IsT (tabB p) R b) (hx : IsL (proj p) R n x) (hn : n % 64 = 0) : IsL (rot p) R n (k0_pay12 c a b x) := by
  intro i
  have hi : (i 1).val < 128 := (i 1).isLt
  unfold k0_pay12
  simp only [pointwise]
  refine rope_at p _ n _ hi hn (hx i) ((hx _).trans (congrArg₂ (proj p) rfl ?_)) ((hx _).trans (congrArg₂ (proj p) rfl ?_)) (hc i) (ha i) (hb i)
  · show n + ((i 1).val + 128 - 120) % 128 = _
    rw [show (i 1).val + 128 - 120 = (i 1).val + 8 by omega]
  · show n + ((i 1).val + 128 - 8) % 128 = _
    rw [show (i 1).val + 128 - 8 = (i 1).val + 120 by omega]
end

section
variable {c a b : Vec Ideal S512x128 .f32} {v0 : Vec Ideal S512x1024 .f32} {v11 : Vec Ideal S1x1024 .f32} {w : Vec Ideal S1024x512 .bf16}

theorem pay10_at (h : IsX p R v0) (hg : IsG p v11) (hc : IsT (tabC p) R c) (ha : IsT (tabA p) R a) (hb : IsT (tabB p) R b) (hw : IsW p n w) (hn : (n + 0) % 64 = 0) : IsL (rot p) R (n + 0) (k0_pay10 v0 v11 c a b w) := by
  have hz := pay9_at h hg hw
  have hc := pay6_at hc
  have ha := pay7_at ha
  have hb := pay8_at hb
  unfold k0_pay10
  generalize k0_pay9 v0 v11 w = z at hz ⊢
  generalize k0_pay6 c = c at hc ⊢
  generalize k0_pay7 a = a at ha ⊢
  generalize k0_pay8 b = b at hb ⊢
  intro i
  simp only [pointwise]
  exact turn_at hc ha hb hz 0 hn (Nat.zero_add _) (Nat.zero_add _) (Nat.zero_add _) rfl rfl rfl
theorem pay16_at {v14 : FVec Ideal S512x1024 .bf16} (h : IsU p R v14) (hc : IsT (tabC p) R c) (ha : IsT (tabA p) R a) (hb : IsT (tabB p) R b) (hw : IsW p n w) (hn : (n + 0) % 64 = 0) : IsL (rot p) R (n + 0) (k0_pay16 v14 c a b w) := by
  have hz := pay15_at h hw
  unfold k0_pay16
  generalize k0_pay15 v14 w = z at hz ⊢
  intro i
  simp only [pointwise]
  exact turn_at hc ha hb hz 0 hn (Nat.zero_add _) (Nat.zero_add _) (Nat.zero_add _) rfl rfl rfl
theorem pay11_at (h : IsX p R v0) (hg : IsG p v11) (hw : IsW p n w) : IsL (proj p) R (n + 128) (k0_pay11 v0 v11 w) := by
  have hz := pay9_at h hg hw
  unfold k0_pay11
  generalize k0_pay9 v0 v11 w = z at hz ⊢
  intro i
  simp only [pointwise]
  refine (hz _).trans (congrArg₂ (proj p) ?_ ?_)
  · show R + (0 + (i 0).val) = R + (i 0).val
    omega
  · show n + (128 + (i 1).val) = n + 128 + (i 1).val
    omega
end

theorem ldW {z : Vec Ideal S1024x3840 .bf16} (h : ∀ i : S1024x3840.Idx, z i = p.w (i 0).val (i 1).val) (c : ℕ) (inb : ∀ a, (![0, c] : Fin 2 → ℕ) a + S1024x512.size a ≤ S1024x3840.size a) :
    IsW p c (View.ld z (Rect.unit ![0, c] S1024x512.size inb)) := by
  intro i
  refine (h _).trans (congrArg₂ p.w ?_ ?_)
  · show 0 + 1 * (i 0).val = (i 0).val
    omega
  · show c + 1 * (i 1).val = c + (i 1).val
    omega
theorem ldG {z : Vec Ideal S1024x3840 .bf16} (h : ∀ i : S1024x3840.Idx, z i = p.w (i 0).val (i 1).val) (c : ℕ) (inb : ∀ a, (![0, c] : Fin 2 → ℕ) a + S1024x128.size a ≤ S1024x3840.size a) (i : S1024x128.Idx) :
    View.ld z (Rect.unit ![0, c] S1024x128.size inb) i = p.w (i 0).val (c + (i 1).val) := by
  refine (h _).trans (congrArg₂ p.w ?_ ?_)
  · show 0 + 1 * (i 0).val = (i 0).val
    omega
  · show c + 1 * (i 1).val = c + (i 1).val
    omega

end Cert.Proof.InProj

end
-- ==== Proof.InProj.Body.lean ====
/- What the projections' call leaves in its result arrays. -/
module

public import proofs.«01_k».proof.Proof.InProj.Chunk

@[expose] public section

noncomputable section

namespace Cert.Proof.InProj

open Cert.InProjIdeal Cert.InProjIdeal.Gen
open Idealize.ShloMosaic Idealize.ShloMosaic.TcCoe Idealize.ShloMosaic.Tactic
open Cert.Proof.Step

variable {p : Args} {R : ℕ} (m : (ℓ : Loc nD τ sig) → Buf (Elt Ideal) ℓ) {d : Dev nD} {t : Fin cfg0.N}

theorem tile_turned {x : S512x128.Idx} {i : S512x1536.Idx} {n : ℕ} {y : EReal} (h : y = rot p (R + (x 0).val) (n + (x 1).val)) (hn : n + 128 ≤ 1024) (h0 : (i 0).val = (x 0).val) (h1 : (i 1).val = n + (x 1).val) :
    y = qkv p (R + (i 0).val) (i 1).val := by
  have hx : (x 1).val < 128 := (x 1).isLt
  unfold qkv
  rw [if_pos (by omega), h, h0, h1]
theorem tile_kept {x : S512x512.Idx} {i : S512x1536.Idx} {y : EReal} (h : y = proj p (R + (x 0).val) (1024 + (x 1).val)) (h0 : (i 0).val = (x 0).val) (h1 : (i 1).val = 1024 + (x 1).val) :
    y = qkv p (R + (i 0).val) (i 1).val := by
  unfold qkv
  rw [if_neg (by omega), h, h0, h1]

section
variable (h0 : IsX p R (iblk m d 0 t)) (h1 : IsG p (iblk m d 1 t)) (h2 : ∀ i : S1024x3840.Idx, iblk m d 2 t i = p.w (i 0).val (i 1).val)
  (h3 : IsT (tabC p) R (iblk m d 3 t)) (h4 : IsT (tabA p) R (iblk m d 4 t)) (h5 : IsT (tabB p) R (iblk m d 5 t))
include h0 h1 h2

theorem out7 (i : S512x1024.Idx) : (outsAt0 m d t).2.1 i = proj p (R + (i 0).val) (1536 + (i 1).val) := by
  unfold outsAt0
  frame_out
  canon_tiles x ht
  · exact (pay1_at (pay5_at h0 h1) (ldW h2 2048 _) x).trans (congrArg₂ (proj p) (by omega) (by omega))
  · exact (pay21_at (pay5_at h0 h1) (ldW h2 1536 _) x).trans (congrArg₂ (proj p) (by omega) (by omega))
theorem out8 (i : S512x512.Idx) : (outsAt0 m d t).2.2.1 i = proj p (R + (i 0).val) (2560 + (i 1).val) := by
  unfold outsAt0
  frame_out
  exact pay2_at (pay5_at h0 h1) (ldW h2 2560 _) i
theorem out9 (i : S512x512.Idx) : (outsAt0 m d t).2.2.2.1 i = proj p (R + (i 0).val) (3072 + (i 1).val) := by
  unfold outsAt0
  frame_out
  exact pay3_at (pay5_at h0 h1) (ldW h2 3072 _) i
theorem out10 (i : S512x128.Idx) : (outsAt0 m d t).2.2.2.2.1 i = proj p (R + (i 0).val) (3584 + (i 1).val) := by
  unfold outsAt0
  frame_out
  exact pay4_at (pay5_at h0 h1) (ldG h2 3584 _) i
omit h2 in
theorem out11 (i : S512x1024.Idx) : (outsAt0 m d t).2.2.2.2.2 i = norm p (R + (i 0).val) (i 1).val := by
  unfold outsAt0
  frame_out
  exact pay5_at h0 h1 i

include h3 h4 h5
theorem out6 (i : S512x1536.Idx) : (outsAt0 m d t).1 i = qkv p (R + (i 0).val) (i 1).val := by
  have hu := pay5_at h0 h1
  have hc := pay6_at h3
  have ha := pay7_at h4
  have hb := pay8_at h5
  unfold outsAt0
  frame_out
  canon_tiles x ht using (View.cover_of_tiledBy (s := S512x1536) _ ![512, 128] (by sl_kernel_rfl) i)
  · exact tile_kept (pay20_at hu (ldW h2 1024 _) x) (by omega) (by omega)
  · exact tile_turned (pay19_at hc ha hb (pay15_at hu (ldW h2 512 _)) rfl x) (by omega) (by omega) (by omega)
  · exact tile_turned (pay18_at hc ha hb (pay15_at hu (ldW h2 512 _)) rfl x) (by omega) (by omega) (by omega)
  · exact tile_turned (pay17_at hc ha hb (pay15_at hu (ldW h2 512 _)) rfl x) (by omega) (by omega) (by omega)
  · exact tile_turned (pay16_at hu hc ha hb (ldW h2 512 _) rfl x) (by omega) (by omega) (by omega)
  · exact tile_turned (pay14_at hc ha hb (pay9_at h0 h1 (ldW h2 0 _)) rfl x) (by omega) (by omega) (by omega)
  · exact tile_turned (pay13_at hc ha hb (pay9_at h0 h1 (ldW h2 0 _)) rfl x) (by omega) (by omega) (by omega)
  · exact tile_turned (pay12_at hc ha hb (pay11_at h0 h1 (ldW h2 0 _)) rfl x) (by omega) (by omega) (by omega)
  · exact tile_turned (pay10_at h0 h1 h3 h4 h5 (ldW h2 0 _) rfl x) (by omega) (by omega) (by omega)
end

variable (d)

/-- What a device's arguments hold. -/
def held : Args :=
  ⟨at2 (m ((d : Thread nD τ).loc main_arg0)), at2 (m ((d : Thread nD τ).loc main_arg1)), at2 (m ((d : Thread nD τ).loc main_arg2)), at2 (m ((d : Thread nD τ).loc main_arg3)), at2 (m ((d : Thread nD τ).loc main_arg4))⟩

theorem entry_w (i : S1024x3840.Idx) : V m d main_v1 i = (held m d).w (i 0).val (i 1).val := by
  show pad S1024x3840 ![0, 0] ![0, 248] ![0, 0] (m ((d : Thread nD τ).loc main_arg2) : FVec Ideal S1024x3592 .f32) (sitofp (F := Ideal) .f32 (constantI S_ 32 0#32)) pads_S1024x3592_S1024x3840_000_02480 h_S_ i = _
  have h0 : (i 0).val < 1024 := (i 0).isLt
  rw [eq_ix2 i]
  pointwise
  by_cases h : (i 1).val < 3592
  · have hh : (i 0).val < 1024 ∧ (i 1).val < 3592 := ⟨h0, h⟩
    rw [dif_pos (by
      intro a
      match a with
      | 0 => exact ⟨Nat.zero_le _, Nat.mod_one _, by show ((i 0).val - 0) / (0 + 1) < 1024; omega⟩
      | 1 => exact ⟨Nat.zero_le _, Nat.mod_one _, by show ((i 1).val - 0) / (0 + 1) < 3592; omega⟩)]
    exact at2_eq (m ((d : Thread nD τ).loc main_arg2)) (ix2 (i 0) (⟨(i 1).val, h⟩ : Fin 3592))
  · rw [dif_neg (by
      intro hc
      have h1 : ((i 1).val - 0) / (0 + 1) < 3592 := (hc 1).2.2
      omega)]
    show _ = at2 (m ((d : Thread nD τ).loc main_arg2)) (i 0).val (i 1).val
    unfold at2
    rw [dif_neg (by
      intro hc
      exact h hc.2)]
    show (((0#32 : BitVec 32).toInt : ℝ) : EReal) = 0
    simp

theorem entry_c (i : S4096x128.Idx) : V m d main_v5 i = tabC (held m d) (i 0).val (i 1).val := by
  have e : V m d main_v5 = (fun (u : FVec Ideal S4096x8 .f32) (o : FVec Ideal S4096x48 .f32) => (concatenate S4096x128 1 [⟨S4096x8, u⟩, ⟨S4096x8, u⟩, ⟨S4096x48, o⟩, ⟨S4096x8, u⟩, ⟨S4096x8, u⟩, ⟨S4096x48, o⟩] concatenates_S4096x8_S4096x8_S4096x48_S4096x8_S4096x8_S4096x48_S4096x128_d1 : FVec Ideal S4096x128 .f32))
    (m ((d : Thread nD τ).loc main_arg3)) (broadcastInDim S4096x48 ![] bcast_S_S4096x48 (constant (F := Ideal) S_ .f32 0x3F800000#32)) := rfl
  have hi : (i 1).val < 128 := (i 1).isLt
  rw [e, eq_ix2 i]
  pointwise
  split
  · exact (at2_eq (m ((d : Thread nD τ).loc main_arg3)) _).trans (tabC_fst (held m d) _ _ ((i 1).val) (by omega) (by omega))
  split
  · exact (at2_eq (m ((d : Thread nD τ).loc main_arg3)) _).trans (tabC_snd (held m d) _ _ ((i 1).val - 8) (by omega) (by omega))
  split
  · exact tabC_rest _ _ _ (by omega)
  split
  · exact (at2_eq (m ((d : Thread nD τ).loc main_arg3)) _).trans (tabC_fst (held m d) _ _ ((i 1).val - 8 - 8 - 48) (by omega) (by omega))
  split
  · exact (at2_eq (m ((d : Thread nD τ).loc main_arg3)) _).trans (tabC_snd (held m d) _ _ ((i 1).val - 8 - 8 - 48 - 8) (by omega) (by omega))
  · exact tabC_rest _ _ _ (by omega)

theorem entry_a (i : S4096x128.Idx) : V m d main_v8 i = tabA (held m d) (i 0).val (i 1).val := by
  have e : V m d main_v8 = (fun (u z : FVec Ideal S4096x8 .f32) (o : FVec Ideal S4096x48 .f32) => (concatenate S4096x128 1 [⟨S4096x8, u⟩, ⟨S4096x8, z⟩, ⟨S4096x48, o⟩, ⟨S4096x8, u⟩, ⟨S4096x8, z⟩, ⟨S4096x48, o⟩] concatenates_S4096x8_S4096x8_S4096x48_S4096x8_S4096x8_S4096x48_S4096x128_d1 : FVec Ideal S4096x128 .f32))
    (Host.negf (m ((d : Thread nD τ).loc main_arg4) : FVec Ideal S4096x8 .f32)) (broadcastInDim S4096x8 ![] bcast_S_S4096x8 (constant (F := Ideal) S_ .f32 0x00000000#32)) (broadcastInDim S4096x48 ![] bcast_S_S4096x48 (constant (F := Ideal) S_ .f32 0x00000000#32)) := rfl
  have hi : (i 1).val < 128 := (i 1).isLt
  rw [e, eq_ix2 i]
  pointwise
  split
  · exact (congrArg Neg.neg (at2_eq (m ((d : Thread nD τ).loc main_arg4)) _)).trans (tabA_fst (held m d) _ _ ((i 1).val) (by omega) (by omega))
  split
  · exact tabA_rest _ _ _ (by omega)
  split
  · exact tabA_rest _ _ _ (by omega)
  split
  · exact (congrArg Neg.neg (at2_eq (m ((d : Thread nD τ).loc main_arg4)) _)).trans (tabA_fst (held m d) _ _ ((i 1).val - 8 - 8 - 48) (by omega) (by omega))
  split
  · exact tabA_rest _ _ _ (by omega)
  · exact tabA_rest _ _ _ (by omega)

theorem entry_b (i : S4096x128.Idx) : V m d main_v9 i = tabB (held m d) (i 0).val (i 1).val := by
  have e : V m d main_v9 = (fun (z u : FVec Ideal S4096x8 .f32) (o : FVec Ideal S4096x48 .f32) => (concatenate S4096x128 1 [⟨S4096x8, z⟩, ⟨S4096x8, u⟩, ⟨S4096x48, o⟩, ⟨S4096x8, z⟩, ⟨S4096x8, u⟩, ⟨S4096x48, o⟩] concatenates_S4096x8_S4096x8_S4096x48_S4096x8_S4096x8_S4096x48_S4096x128_d1 : FVec Ideal S4096x128 .f32))
    (broadcastInDim S4096x8 ![] bcast_S_S4096x8 (constant (F := Ideal) S_ .f32 0x00000000#32)) (m ((d : Thread nD τ).loc main_arg4) : FVec Ideal S4096x8 .f32) (broadcastInDim S4096x48 ![] bcast_S_S4096x48 (constant (F := Ideal) S_ .f32 0x00000000#32)) := rfl
  have hi : (i 1).val < 128 := (i 1).isLt
  rw [e, eq_ix2 i]
  pointwise
  split
  · exact tabB_fst _ _ _ (by omega)
  split
  · exact (at2_eq (m ((d : Thread nD τ).loc main_arg4)) _).trans (tabB_snd (held m d) _ _ ((i 1).val - 8) (by omega) (by omega))
  split
  · exact tabB_rest _ _ _ (by omega)
  split
  · exact tabB_fst _ _ _ (by omega)
  split
  · exact (at2_eq (m ((d : Thread nD τ).loc main_arg4)) _).trans (tabB_snd (held m d) _ _ ((i 1).val - 8 - 8 - 48 - 8) (by omega) (by omega))
  · exact tabB_rest _ _ _ (by omega)

theorem idx0_0 : ∀ t : Fin cfg0.N, (cfg0.win 0).index t (0 : Fin 2) = t.val := by decide
theorem idx0_1 : ∀ t : Fin cfg0.N, (cfg0.win 0).index t (1 : Fin 2) = 0 := by decide
theorem idx3_0 : ∀ t : Fin cfg0.N, (cfg0.win 3).index t (0 : Fin 2) = t.val := by decide
theorem idx3_1 : ∀ t : Fin cfg0.N, (cfg0.win 3).index t (1 : Fin 2) = 0 := by decide
theorem idx4_0 : ∀ t : Fin cfg0.N, (cfg0.win 4).index t (0 : Fin 2) = t.val := by decide
theorem idx4_1 : ∀ t : Fin cfg0.N, (cfg0.win 4).index t (1 : Fin 2) = 0 := by decide
theorem idx5_0 : ∀ t : Fin cfg0.N, (cfg0.win 5).index t (0 : Fin 2) = t.val := by decide
theorem idx5_1 : ∀ t : Fin cfg0.N, (cfg0.win 5).index t (1 : Fin 2) = 0 := by decide
theorem idx6_0 : ∀ t : Fin cfg0.N, (cfg0.win 6).index t (0 : Fin 2) = t.val := by decide
theorem idx6_1 : ∀ t : Fin cfg0.N, (cfg0.win 6).index t (1 : Fin 2) = 0 := by decide
theorem idx7_0 : ∀ t : Fin cfg0.N, (cfg0.win 7).index t (0 : Fin 2) = t.val := by decide
theorem idx7_1 : ∀ t : Fin cfg0.N, (cfg0.win 7).index t (1 : Fin 2) = 0 := by decide
theorem idx8_0 : ∀ t : Fin cfg0.N, (cfg0.win 8).index t (0 : Fin 2) = t.val := by decide
theorem idx8_1 : ∀ t : Fin cfg0.N, (cfg0.win 8).index t (1 : Fin 2) = 0 := by decide
theorem idx9_0 : ∀ t : Fin cfg0.N, (cfg0.win 9).index t (0 : Fin 2) = t.val := by decide
theorem idx9_1 : ∀ t : Fin cfg0.N, (cfg0.win 9).index t (1 : Fin 2) = 0 := by decide
theorem idx10_0 : ∀ t : Fin cfg0.N, (cfg0.win 10).index t (0 : Fin 2) = t.val := by decide
theorem idx10_1 : ∀ t : Fin cfg0.N, (cfg0.win 10).index t (1 : Fin 2) = 0 := by decide
theorem idx11_0 : ∀ t : Fin cfg0.N, (cfg0.win 11).index t (0 : Fin 2) = t.val := by decide
theorem idx11_1 : ∀ t : Fin cfg0.N, (cfg0.win 11).index t (1 : Fin 2) = 0 := by decide
theorem idx1 : ∀ t : Fin cfg0.N, ∀ a : Fin 2, (cfg0.win 1).index t a = 0 := by decide
theorem idx2 : ∀ t : Fin cfg0.N, ∀ a : Fin 2, (cfg0.win 2).index t a = 0 := by decide

theorem emb0_0 (t : Fin cfg0.N) (y : S512x1024.Idx) : (((cfg0.win 0).rect t).emb y (0 : Fin 2) : ℕ) = 512 * t.val + (y 0).val := by
  refine ((cfg0.win 0).rect_emb_val t y (0 : Fin 2)).trans ?_
  rw [idx0_0]
  show t.val * 512 + (y 0).val = _
  omega
theorem emb0_1 (t : Fin cfg0.N) (y : S512x1024.Idx) : (((cfg0.win 0).rect t).emb y (1 : Fin 2) : ℕ) = (y 1).val := by
  refine ((cfg0.win 0).rect_emb_val t y (1 : Fin 2)).trans ?_
  rw [idx0_1, zero_mul, zero_add]
theorem emb3_0 (t : Fin cfg0.N) (y : S512x128.Idx) : (((cfg0.win 3).rect t).emb y (0 : Fin 2) : ℕ) = 512 * t.val + (y 0).val := by
  refine ((cfg0.win 3).rect_emb_val t y (0 : Fin 2)).trans ?_
  rw [idx3_0]
  show t.val * 512 + (y 0).val = _
  omega
theorem emb3_1 (t : Fin cfg0.N) (y : S512x128.Idx) : (((cfg0.win 3).rect t).emb y (1 : Fin 2) : ℕ) = (y 1).val := by
  refine ((cfg0.win 3).rect_emb_val t y (1 : Fin 2)).trans ?_
  rw [idx3_1, zero_mul, zero_add]
theorem emb4_0 (t : Fin cfg0.N) (y : S512x128.Idx) : (((cfg0.win 4).rect t).emb y (0 : Fin 2) : ℕ) = 512 * t.val + (y 0).val := by
  refine ((cfg0.win 4).rect_emb_val t y (0 : Fin 2)).trans ?_
  rw [idx4_0]
  show t.val * 512 + (y 0).val = _
  omega
theorem emb4_1 (t : Fin cfg0.N) (y : S512x128.Idx) : (((cfg0.win 4).rect t).emb y (1 : Fin 2) : ℕ) = (y 1).val := by
  refine ((cfg0.win 4).rect_emb_val t y (1 : Fin 2)).trans ?_
  rw [idx4_1, zero_mul, zero_add]
theorem emb5_0 (t : Fin cfg0.N) (y : S512x128.Idx) : (((cfg0.win 5).rect t).emb y (0 : Fin 2) : ℕ) = 512 * t.val + (y 0).val := by
  refine ((cfg0.win 5).rect_emb_val t y (0 : Fin 2)).trans ?_
  rw [idx5_0]
  show t.val * 512 + (y 0).val = _
  omega
theorem emb5_1 (t : Fin cfg0.N) (y : S512x128.Idx) : (((cfg0.win 5).rect t).emb y (1 : Fin 2) : ℕ) = (y 1).val := by
  refine ((cfg0.win 5).rect_emb_val t y (1 : Fin 2)).trans ?_
  rw [idx5_1, zero_mul, zero_add]
theorem emb1 (t : Fin cfg0.N) (y : S1x1024.Idx) (a : Fin 2) : (((cfg0.win 1).rect t).emb y a : ℕ) = (y a).val := by
  refine ((cfg0.win 1).rect_emb_val t y a).trans ?_
  rw [idx1, zero_mul, zero_add]
theorem emb2 (t : Fin cfg0.N) (y : S1024x3840.Idx) (a : Fin 2) : (((cfg0.win 2).rect t).emb y a : ℕ) = (y a).val := by
  refine ((cfg0.win 2).rect_emb_val t y a).trans ?_
  rw [idx2, zero_mul, zero_add]

theorem read0 (Z : (b : Ref sig .tc) → Buf (Elt Ideal) ((d : Thread nD τ).loc b)) (t : Fin cfg0.N) (y : S512x1024.Idx) :
    ((cfg0.win 0).blk t).view.read (Elt Ideal) (Z (Pipeline.arrRef spec0 0)) y = Z main_arg0 (((cfg0.win 0).rect t).emb y) := rfl
theorem read1 (Z : (b : Ref sig .tc) → Buf (Elt Ideal) ((d : Thread nD τ).loc b)) (t : Fin cfg0.N) (y : S1x1024.Idx) :
    ((cfg0.win 1).blk t).view.read (Elt Ideal) (Z (Pipeline.arrRef spec0 1)) y = Z main_arg1 (((cfg0.win 1).rect t).emb y) := rfl
theorem read2 (Z : (b : Ref sig .tc) → Buf (Elt Ideal) ((d : Thread nD τ).loc b)) (t : Fin cfg0.N) (y : S1024x3840.Idx) :
    ((cfg0.win 2).blk t).view.read (Elt Ideal) (Z (Pipeline.arrRef spec0 2)) y = Z main_v1 (((cfg0.win 2).rect t).emb y) := rfl
theorem read3 (Z : (b : Ref sig .tc) → Buf (Elt Ideal) ((d : Thread nD τ).loc b)) (t : Fin cfg0.N) (y : S512x128.Idx) :
    ((cfg0.win 3).blk t).view.read (Elt Ideal) (Z (Pipeline.arrRef spec0 3)) y = Z main_v5 (((cfg0.win 3).rect t).emb y) := rfl
theorem read4 (Z : (b : Ref sig .tc) → Buf (Elt Ideal) ((d : Thread nD τ).loc b)) (t : Fin cfg0.N) (y : S512x128.Idx) :
    ((cfg0.win 4).blk t).view.read (Elt Ideal) (Z (Pipeline.arrRef spec0 4)) y = Z main_v8 (((cfg0.win 4).rect t).emb y) := rfl
theorem read5 (Z : (b : Ref sig .tc) → Buf (Elt Ideal) ((d : Thread nD τ).loc b)) (t : Fin cfg0.N) (y : S512x128.Idx) :
    ((cfg0.win 5).blk t).view.read (Elt Ideal) (Z (Pipeline.arrRef spec0 5)) y = Z main_v9 (((cfg0.win 5).rect t).emb y) := rfl

theorem blk0 (t : Fin cfg0.N) : IsX (held m d) (512 * t.val) (iblk m d 0 t) := fun y =>
  (read0 d (fun b => V m d b) t y).trans ((congrFun (V_main_arg0 m d) _).trans ((at2_eq (m ((d : Thread nD τ).loc main_arg0)) _).trans (congrArg₂ (held m d).x (emb0_0 t y) (emb0_1 t y))))
theorem blk1 (t : Fin cfg0.N) : IsG (held m d) (iblk m d 1 t) := fun y =>
  (read1 d (fun b => V m d b) t y).trans ((congrFun (V_main_arg1 m d) _).trans ((at2_eq (m ((d : Thread nD τ).loc main_arg1)) _).trans (congrArg₂ (held m d).g ((emb1 t y 0).trans (Nat.lt_one_iff.mp (y 0).isLt)) (emb1 t y 1))))
theorem blk2 (t : Fin cfg0.N) (y : S1024x3840.Idx) : iblk m d 2 t y = (held m d).w (y 0).val (y 1).val :=
  (read2 d (fun b => V m d b) t y).trans ((entry_w m d _).trans (congrArg₂ (held m d).w (emb2 t y 0) (emb2 t y 1)))
theorem blk3 (t : Fin cfg0.N) : IsT (tabC (held m d)) (512 * t.val) (iblk m d 3 t) := fun y =>
  (read3 d (fun b => V m d b) t y).trans ((entry_c m d _).trans (congrArg₂ (tabC (held m d)) (emb3_0 t y) (emb3_1 t y)))
theorem blk4 (t : Fin cfg0.N) : IsT (tabA (held m d)) (512 * t.val) (iblk m d 4 t) := fun y =>
  (read4 d (fun b => V m d b) t y).trans ((entry_a m d _).trans (congrArg₂ (tabA (held m d)) (emb4_0 t y) (emb4_1 t y)))
theorem blk5 (t : Fin cfg0.N) : IsT (tabB (held m d)) (512 * t.val) (iblk m d 5 t) := fun y =>
  (read5 d (fun b => V m d b) t y).trans ((entry_b m d _).trans (congrArg₂ (tabB (held m d)) (emb5_0 t y) (emb5_1 t y)))

theorem arr6 : (dats m 0 d).arrAt 6 cfg0.N = fun i : S4096x1536.Idx => qkv (held m d) (i 0).val (i 1).val := by
  refine (dats m 0 d).arrAt_eq_of_covers 6 _ (by decide +kernel) fun t hf y => ?_
  blk_simp
  rw [after0_6]
  refine (out6 m (blk0 m d t) (blk1 m d t) (blk2 m d t) (blk3 m d t) (blk4 m d t) (blk5 m d t) y).trans (congrArg₂ (qkv (held m d)) ?_ ?_)
  · rw [show win0_6.index t 0 = t.val from idx6_0 t]
    omega
  · rw [show win0_6.index t 1 = 0 from idx6_1 t]
    omega

theorem arr7 : (dats m 0 d).arrAt 7 cfg0.N = fun i : S4096x1024.Idx => proj (held m d) (i 0).val (1536 + (i 1).val) := by
  refine (dats m 0 d).arrAt_eq_of_covers 7 _ (by decide +kernel) fun t hf y => ?_
  blk_simp
  rw [after0_7]
  refine (out7 m (blk0 m d t) (blk1 m d t) (blk2 m d t) y).trans (congrArg₂ (proj (held m d)) ?_ ?_)
  · rw [show win0_7.index t 0 = t.val from idx7_0 t]
    omega
  · rw [show win0_7.index t 1 = 0 from idx7_1 t]
    omega

theorem arr8 : (dats m 0 d).arrAt 8 cfg0.N = fun i : S4096x512.Idx => proj (held m d) (i 0).val (2560 + (i 1).val) := by
  refine (dats m 0 d).arrAt_eq_of_covers 8 _ (by decide +kernel) fun t hf y => ?_
  blk_simp
  rw [after0_8]
  refine (out8 m (blk0 m d t) (blk1 m d t) (blk2 m d t) y).trans (congrArg₂ (proj (held m d)) ?_ ?_)
  · rw [show win0_8.index t 0 = t.val from idx8_0 t]
    omega
  · rw [show win0_8.index t 1 = 0 from idx8_1 t]
    omega

theorem arr9 : (dats m 0 d).arrAt 9 cfg0.N = fun i : S4096x512.Idx => proj (held m d) (i 0).val (3072 + (i 1).val) := by
  refine (dats m 0 d).arrAt_eq_of_covers 9 _ (by decide +kernel) fun t hf y => ?_
  blk_simp
  rw [after0_9]
  refine (out9 m (blk0 m d t) (blk1 m d t) (blk2 m d t) y).trans (congrArg₂ (proj (held m d)) ?_ ?_)
  · rw [show win0_9.index t 0 = t.val from idx9_0 t]
    omega
  · rw [show win0_9.index t 1 = 0 from idx9_1 t]
    omega

theorem arr10 : (dats m 0 d).arrAt 10 cfg0.N = fun i : S4096x128.Idx => proj (held m d) (i 0).val (3584 + (i 1).val) := by
  refine (dats m 0 d).arrAt_eq_of_covers 10 _ (by decide +kernel) fun t hf y => ?_
  blk_simp
  rw [after0_10]
  refine (out10 m (blk0 m d t) (blk1 m d t) (blk2 m d t) y).trans (congrArg₂ (proj (held m d)) ?_ ?_)
  · rw [show win0_10.index t 0 = t.val from idx10_0 t]
    omega
  · rw [show win0_10.index t 1 = 0 from idx10_1 t]
    omega

theorem arr11 : (dats m 0 d).arrAt 11 cfg0.N = fun i : S4096x1024.Idx => norm (held m d) (i 0).val (i 1).val := by
  refine (dats m 0 d).arrAt_eq_of_covers 11 _ (by decide +kernel) fun t hf y => ?_
  blk_simp
  rw [after0_11]
  refine (out11 m (blk0 m d t) (blk1 m d t) y).trans (congrArg₂ (norm (held m d)) ?_ ?_)
  · rw [show win0_11.index t 0 = t.val from idx11_0 t]
    omega
  · rw [show win0_11.index t 1 = 0 from idx11_1 t]
    omega

end Cert.Proof.InProj

end
-- ==== Proof.InProj.Reference.lean ====
/- The projections as the reference computes them, stage by stage. -/
module

public import proofs.«01_k».proof.Proof.Gen.InProjReferenceIdeal.Read
public import Idealize.ShloMosaic.Lib.Pipeline.ValueKit
public import proofs.«01_k».proof.Proof.InProj.Spec

@[expose] public section

noncomputable section

namespace Cert.Proof.InProj

open Idealize.ShloMosaic Idealize.ShloMosaic.TcCoe Idealize.ShloMosaic.Tactic
open Cert.Proof.Step
open Cert.InProjReferenceIdeal Cert.InProjReferenceIdeal.Read

variable (x0 : (⟨S4096x1024, .f32⟩ : BufTy).Contents (Elt Ideal)) (x1 : (⟨S1x1024, .f32⟩ : BufTy).Contents (Elt Ideal)) (x2 : (⟨S1024x3592, .f32⟩ : BufTy).Contents (Elt Ideal)) (x3 x4 : (⟨S4096x8, .f32⟩ : BufTy).Contents (Elt Ideal))

/-- What the reference's arguments hold. -/
def given : Args := ⟨at2 x0, at2 x1, at2 x2, at2 x3, at2 x4⟩

theorem v6_at (i : S4096x1.Idx) : val_main_v6 (F := Ideal) x0 i = ms (given x0 x1 x2 x3 x4) (i 0).val := by
  refine (congrArg (fun s => Ideal.div s (Ideal.ofBits .f32 0x44800000#32) + Ideal.ofBits .f32 0x358637BD#32) ((val_main_v2_apply x0 i).trans (val_main_v1_apply x0 _))).trans ?_
  refine congrArg (fun s => Ideal.div s (Ideal.ofBits .f32 0x44800000#32) + Ideal.ofBits .f32 0x358637BD#32) ?_
  refine (congrArg (· + _) (show val_main_cst (F := Ideal) _ = 0 from Ideal.ofBits_zero_f32)).trans ((zero_add _).trans ?_)
  exact Finset.sum_congr rfl fun k _ => congrArg₂ (· * ·) (at2_eq x0 _) (at2_eq x0 _)
theorem v11_at (i : S4096x1024.Idx) : val_main_v11 (F := Ideal) x0 x1 i = norm (given x0 x1 x2 x3 x4) (i 0).val (i 1).val :=
  congrArg₂ (· * ·) (congrArg₂ (· * ·) (at2_eq x0 i) ((val_main_v8_apply x0 i).trans (congrArg Ideal.rsqrt (v6_at x0 x1 x2 x3 x4 _)))) ((val_main_v10_apply x1 i).trans (at2_eq x1 _))
theorem v12_at (i : S4096x3592.Idx) : val_main_v12 (F := Ideal) x0 x1 x2 i = proj (given x0 x1 x2 x3 x4) (i 0).val (i 1).val :=
  (val_main_v12_apply x0 x1 x2 i).trans (Finset.sum_congr rfl fun k _ => congrArg₂ (· * ·) (v11_at x0 x1 x2 x3 x4 _) (at2_eq x2 _))

theorem v13_at (i : S4096x512.Idx) : val_main_v13 (F := Ideal) x0 x1 x2 i = proj (given x0 x1 x2 x3 x4) (i 0).val (0 + (i 1).val) := by
  refine (val_main_v13_apply x0 x1 x2 i).trans ((v12_at x0 x1 x2 x3 x4 _).trans (congrArg₂ (proj _) rfl ?_))
  show (i 1).val = 0 + (i 1).val
  omega
theorem v14_at (i : S4096x8x64.Idx) : val_main_v14 (F := Ideal) x0 x1 x2 i = proj (given x0 x1 x2 x3 x4) (i 0).val (64 * (i 1).val + (i 2).val) := by
  have h0 : (i 0).val < 4096 := (i 0).isLt
  have h1 : (i 1).val < 8 := (i 1).isLt
  have h2 : (i 2).val < 64 := (i 2).isLt
  refine (val_main_v14_apply x0 x1 x2 i).trans ((v13_at x0 x1 x2 x3 x4 _).trans (congrArg₂ (proj _) ?_ ?_))
  · show (((i 0).val * 8 + (i 1).val) * 64 + (i 2).val) / 512 = _
    omega
  · show 0 + (((i 0).val * 8 + (i 1).val) * 64 + (i 2).val) % 512 = _
    omega
theorem v17_at (i : S4096x8x8.Idx) : val_main_v17 (F := Ideal) x0 x1 x2 i = proj (given x0 x1 x2 x3 x4) (i 0).val (64 * (i 1).val + (i 2).val) :=
  (val_main_v17_apply x0 x1 x2 i).trans (v14_at x0 x1 x2 x3 x4 _)
theorem v18_at (i : S4096x8x8.Idx) : val_main_v18 (F := Ideal) x0 x1 x2 i = proj (given x0 x1 x2 x3 x4) (i 0).val (64 * (i 1).val + (8 + (i 2).val)) :=
  (val_main_v18_apply x0 x1 x2 i).trans (v14_at x0 x1 x2 x3 x4 _)
theorem v29_at (i : S4096x8x48.Idx) : val_main_v29 (F := Ideal) x0 x1 x2 i = rot (given x0 x1 x2 x3 x4) (i 0).val (64 * (i 1).val + (16 + (i 2).val)) :=
  (val_main_v29_apply x0 x1 x2 i).trans ((v14_at x0 x1 x2 x3 x4 _).trans (rot_rest _ _ (64 * (i 1).val) _ (by omega) (i 2).isLt))
theorem v23_at (i : S4096x8x8.Idx) : val_main_v23 (F := Ideal) x0 x1 x2 x3 x4 i = rot (given x0 x1 x2 x3 x4) (i 0).val (64 * (i 1).val + (i 2).val) :=
  (congrArg₂ (· - ·) (congrArg₂ (· * ·) (v17_at x0 x1 x2 x3 x4 i) ((val_main_v19_apply x3 i).trans ((val_main_v15_apply x3 _).trans (at2_eq x3 _))))
    (congrArg₂ (· * ·) (v18_at x0 x1 x2 x3 x4 i) ((val_main_v21_apply x4 i).trans ((val_main_v16_apply x4 _).trans (at2_eq x4 _))))).trans (rot_fst (given x0 x1 x2 x3 x4) _ (64 * (i 1).val) _ (by omega) (i 2).isLt)
theorem v28_at (i : S4096x8x8.Idx) : val_main_v28 (F := Ideal) x0 x1 x2 x3 x4 i = rot (given x0 x1 x2 x3 x4) (i 0).val (64 * (i 1).val + (8 + (i 2).val)) :=
  (congrArg₂ (· + ·) (congrArg₂ (· * ·) (v18_at x0 x1 x2 x3 x4 i) ((val_main_v24_apply x3 i).trans ((val_main_v15_apply x3 _).trans (at2_eq x3 _))))
    (congrArg₂ (· * ·) (v17_at x0 x1 x2 x3 x4 i) ((val_main_v26_apply x4 i).trans ((val_main_v16_apply x4 _).trans (at2_eq x4 _))))).trans (rot_snd (given x0 x1 x2 x3 x4) _ (64 * (i 1).val) _ (by omega) (i 2).isLt)
theorem v30_at (i : S4096x8x64.Idx) : val_main_v30 (F := Ideal) x0 x1 x2 x3 x4 i = rot (given x0 x1 x2 x3 x4) (i 0).val (64 * (i 1).val + (i 2).val) := by
  have hi : (i 2).val < 64 := (i 2).isLt
  have ha := v23_at x0 x1 x2 x3 x4
  have hb := v28_at x0 x1 x2 x3 x4
  have hc := v29_at x0 x1 x2 x3 x4
  unfold val_main_v30
  generalize val_main_v23 (F := Ideal) x0 x1 x2 x3 x4 = a at ha ⊢
  generalize val_main_v28 (F := Ideal) x0 x1 x2 x3 x4 = b at hb ⊢
  generalize val_main_v29 (F := Ideal) x0 x1 x2 = c at hc ⊢
  rw [eq_ix3 i]
  pointwise
  split
  · exact ha _
  split
  · exact (hb _).trans (congrArg (rot _ _) (show 64 * (i 1).val + (8 + ((i 2).val - 8)) = 64 * (i 1).val + (i 2).val by omega))
  · exact (hc _).trans (congrArg (rot _ _) (show 64 * (i 1).val + (16 + ((i 2).val - 8 - 8)) = 64 * (i 1).val + (i 2).val by omega))
theorem v31_at (i : S4096x512.Idx) : val_main_v31 (F := Ideal) x0 x1 x2 x3 x4 i = rot (given x0 x1 x2 x3 x4) (i 0).val (0 + (i 1).val) := by
  have h0 : (i 0).val < 4096 := (i 0).isLt
  have h1 : (i 1).val < 512 := (i 1).isLt
  refine (val_main_v31_apply x0 x1 x2 x3 x4 i).trans ((v30_at x0 x1 x2 x3 x4 _).trans (congrArg₂ (rot _) ?_ ?_))
  · show ((i 0).val * 512 + (i 1).val) / 512 = _
    omega
  · show 64 * (((i 0).val * 512 + (i 1).val) / 64 % 8) + ((i 0).val * 512 + (i 1).val) % 64 = _
    omega

theorem v32_at (i : S4096x512.Idx) : val_main_v32 (F := Ideal) x0 x1 x2 i = proj (given x0 x1 x2 x3 x4) (i 0).val (512 + (i 1).val) := by
  refine (val_main_v32_apply x0 x1 x2 i).trans ((v12_at x0 x1 x2 x3 x4 _).trans (congrArg₂ (proj _) rfl ?_))
  show 512 + (i 1).val = 512 + (i 1).val
  omega
theorem v33_at (i : S4096x8x64.Idx) : val_main_v33 (F := Ideal) x0 x1 x2 i = proj (given x0 x1 x2 x3 x4) (i 0).val (512 + 64 * (i 1).val + (i 2).val) := by
  have h0 : (i 0).val < 4096 := (i 0).isLt
  have h1 : (i 1).val < 8 := (i 1).isLt
  have h2 : (i 2).val < 64 := (i 2).isLt
  refine (val_main_v33_apply x0 x1 x2 i).trans ((v32_at x0 x1 x2 x3 x4 _).trans (congrArg₂ (proj _) ?_ ?_))
  · show (((i 0).val * 8 + (i 1).val) * 64 + (i 2).val) / 512 = _
    omega
  · show 512 + (((i 0).val * 8 + (i 1).val) * 64 + (i 2).val) % 512 = _
    omega
theorem v36_at (i : S4096x8x8.Idx) : val_main_v36 (F := Ideal) x0 x1 x2 i = proj (given x0 x1 x2 x3 x4) (i 0).val (512 + 64 * (i 1).val + (i 2).val) :=
  (val_main_v36_apply x0 x1 x2 i).trans (v33_at x0 x1 x2 x3 x4 _)
theorem v37_at (i : S4096x8x8.Idx) : val_main_v37 (F := Ideal) x0 x1 x2 i = proj (given x0 x1 x2 x3 x4) (i 0).val (512 + 64 * (i 1).val + (8 + (i 2).val)) :=
  (val_main_v37_apply x0 x1 x2 i).trans (v33_at x0 x1 x2 x3 x4 _)
theorem v48_at (i : S4096x8x48.Idx) : val_main_v48 (F := Ideal) x0 x1 x2 i = rot (given x0 x1 x2 x3 x4) (i 0).val (512 + 64 * (i 1).val + (16 + (i 2).val)) :=
  (val_main_v48_apply x0 x1 x2 i).trans ((v33_at x0 x1 x2 x3 x4 _).trans (rot_rest _ _ (512 + 64 * (i 1).val) _ (by omega) (i 2).isLt))
theorem v42_at (i : S4096x8x8.Idx) : val_main_v42 (F := Ideal) x0 x1 x2 x3 x4 i = rot (given x0 x1 x2 x3 x4) (i 0).val (512 + 64 * (i 1).val + (i 2).val) :=
  (congrArg₂ (· - ·) (congrArg₂ (· * ·) (v36_at x0 x1 x2 x3 x4 i) ((val_main_v38_apply x3 i).trans ((val_main_v34_apply x3 _).trans (at2_eq x3 _))))
    (congrArg₂ (· * ·) (v37_at x0 x1 x2 x3 x4 i) ((val_main_v40_apply x4 i).trans ((val_main_v35_apply x4 _).trans (at2_eq x4 _))))).trans (rot_fst (given x0 x1 x2 x3 x4) _ (512 + 64 * (i 1).val) _ (by omega) (i 2).isLt)
theorem v47_at (i : S4096x8x8.Idx) : val_main_v47 (F := Ideal) x0 x1 x2 x3 x4 i = rot (given x0 x1 x2 x3 x4) (i 0).val (512 + 64 * (i 1).val + (8 + (i 2).val)) :=
  (congrArg₂ (· + ·) (congrArg₂ (· * ·) (v37_at x0 x1 x2 x3 x4 i) ((val_main_v43_apply x3 i).trans ((val_main_v34_apply x3 _).trans (at2_eq x3 _))))
    (congrArg₂ (· * ·) (v36_at x0 x1 x2 x3 x4 i) ((val_main_v45_apply x4 i).trans ((val_main_v35_apply x4 _).trans (at2_eq x4 _))))).trans (rot_snd (given x0 x1 x2 x3 x4) _ (512 + 64 * (i 1).val) _ (by omega) (i 2).isLt)
theorem v49_at (i : S4096x8x64.Idx) : val_main_v49 (F := Ideal) x0 x1 x2 x3 x4 i = rot (given x0 x1 x2 x3 x4) (i 0).val (512 + 64 * (i 1).val + (i 2).val) := by
  have hi : (i 2).val < 64 := (i 2).isLt
  have ha := v42_at x0 x1 x2 x3 x4
  have hb := v47_at x0 x1 x2 x3 x4
  have hc := v48_at x0 x1 x2 x3 x4
  unfold val_main_v49
  generalize val_main_v42 (F := Ideal) x0 x1 x2 x3 x4 = a at ha ⊢
  generalize val_main_v47 (F := Ideal) x0 x1 x2 x3 x4 = b at hb ⊢
  generalize val_main_v48 (F := Ideal) x0 x1 x2 = c at hc ⊢
  rw [eq_ix3 i]
  pointwise
  split
  · exact ha _
  split
  · exact (hb _).trans (congrArg (rot _ _) (show 512 + 64 * (i 1).val + (8 + ((i 2).val - 8)) = 512 + 64 * (i 1).val + (i 2).val by omega))
  · exact (hc _).trans (congrArg (rot _ _) (show 512 + 64 * (i 1).val + (16 + ((i 2).val - 8 - 8)) = 512 + 64 * (i 1).val + (i 2).val by omega))
theorem v50_at (i : S4096x512.Idx) : val_main_v50 (F := Ideal) x0 x1 x2 x3 x4 i = rot (given x0 x1 x2 x3 x4) (i 0).val (512 + (i 1).val) := by
  have h0 : (i 0).val < 4096 := (i 0).isLt
  have h1 : (i 1).val < 512 := (i 1).isLt
  refine (val_main_v50_apply x0 x1 x2 x3 x4 i).trans ((v49_at x0 x1 x2 x3 x4 _).trans (congrArg₂ (rot _) ?_ ?_))
  · show ((i 0).val * 512 + (i 1).val) / 512 = _
    omega
  · show 512 + 64 * (((i 0).val * 512 + (i 1).val) / 64 % 8) + ((i 0).val * 512 + (i 1).val) % 64 = _
    omega

theorem v52_at (i : S4096x1536.Idx) : val_main_v52 (F := Ideal) x0 x1 x2 x3 x4 i = qkv (given x0 x1 x2 x3 x4) (i 0).val (i 1).val := by
  have hi : (i 1).val < 1536 := (i 1).isLt
  have ha := v31_at x0 x1 x2 x3 x4
  have hb := v50_at x0 x1 x2 x3 x4
  have hc : ∀ i : S4096x512.Idx, val_main_v51 (F := Ideal) x0 x1 x2 i = proj (given x0 x1 x2 x3 x4) (i 0).val (1024 + (i 1).val) := fun i =>
    (val_main_v51_apply x0 x1 x2 i).trans (v12_at x0 x1 x2 x3 x4 _)
  unfold val_main_v52
  generalize val_main_v31 (F := Ideal) x0 x1 x2 x3 x4 = a at ha ⊢
  generalize val_main_v50 (F := Ideal) x0 x1 x2 x3 x4 = b at hb ⊢
  generalize val_main_v51 (F := Ideal) x0 x1 x2 = c at hc ⊢
  rw [eq_ix2 i]
  pointwise
  split
  · exact (ha _).trans ((congrArg (rot _ _) (show 0 + (i 1).val = (i 1).val by omega)).trans (if_pos (show (i 1).val < 1024 by omega)).symm)
  split
  · exact (hb _).trans ((congrArg (rot _ _) (show 512 + ((i 1).val - 512) = (i 1).val by omega)).trans (if_pos (show (i 1).val < 1024 by omega)).symm)
  · exact (hc _).trans ((congrArg (proj _ _) (show 1024 + ((i 1).val - 512 - 512) = (i 1).val by omega)).trans (if_neg (show ¬ (i 1).val < 1024 by omega)).symm)
theorem v55_at (i : S4096x1024.Idx) : val_main_v55 (F := Ideal) x0 x1 x2 i = proj (given x0 x1 x2 x3 x4) (i 0).val (1536 + (i 1).val) :=
  (val_main_v55_apply x0 x1 x2 i).trans (v12_at x0 x1 x2 x3 x4 _)
theorem v56_at (i : S4096x512.Idx) : val_main_v56 (F := Ideal) x0 x1 x2 i = proj (given x0 x1 x2 x3 x4) (i 0).val (2560 + (i 1).val) :=
  (val_main_v56_apply x0 x1 x2 i).trans (v12_at x0 x1 x2 x3 x4 _)
theorem v57_at (i : S4096x512.Idx) : val_main_v57 (F := Ideal) x0 x1 x2 i = proj (given x0 x1 x2 x3 x4) (i 0).val (3072 + (i 1).val) :=
  (val_main_v57_apply x0 x1 x2 i).trans (v12_at x0 x1 x2 x3 x4 _)
theorem v53_at (i : S4096x8.Idx) : val_main_v53 (F := Ideal) x0 x1 x2 i = proj (given x0 x1 x2 x3 x4) (i 0).val (3584 + (i 1).val) :=
  (val_main_v53_apply x0 x1 x2 i).trans (v12_at x0 x1 x2 x3 x4 _)

/-- Past the weight's last column the projection is zero. -/
theorem proj_past (r j : ℕ) (h : 3592 ≤ j) : 0 = proj (given x0 x1 x2 x3 x4) r j := by
  refine (Finset.sum_eq_zero fun k _ => ?_).symm
  have e : (given x0 x1 x2 x3 x4).w k.val j = 0 := by
    show at2 x2 k.val j = 0
    unfold at2
    rw [dif_neg (by
      intro hc
      have := hc.2
      omega)]
  rw [e, mul_zero]

theorem v54_at (i : S4096x128.Idx) : val_main_v54 (F := Ideal) x0 x1 x2 i = proj (given x0 x1 x2 x3 x4) (i 0).val (3584 + (i 1).val) := by
  have h0 : (i 0).val < 4096 := (i 0).isLt
  have ha := v53_at x0 x1 x2 x3 x4
  unfold val_main_v54
  generalize val_main_v53 (F := Ideal) x0 x1 x2 = a at ha ⊢
  rw [eq_ix2 i]
  pointwise
  by_cases h : (i 1).val < 8
  · rw [dif_pos h]
    exact ha _
  · rw [dif_neg h]
    refine Eq.trans ?_ (proj_past x0 x1 x2 x3 x4 _ _ (show 3592 ≤ 3584 + (i 1).val by omega))
    show (((0#32 : BitVec 32).toInt : ℝ) : EReal) = 0
    simp

end Cert.Proof.InProj

end
-- ==== Proof.InProj.Claims.lean ====
/- The claims about the input projection's call. -/
module

public import proofs.«01_k».proof.Defs
public import proofs.«01_k».proof.Proof.Gen.InProj.Frame
public import proofs.«01_k».proof.Proof.Gen.InProjIdeal.Value
public import proofs.«01_k».proof.Proof.Gen.InProjReferenceIdeal.Read
public import proofs.«01_k».proof.Proof.InProj.Body
public import proofs.«01_k».proof.Proof.InProj.Reference

@[expose] public section

noncomputable section

namespace Cert.Proof.InProj

open Idealize.ShloMosaic Idealize.ShloMosaic.TcCoe Idealize.ShloMosaic.Tactic Idealize.SL.Sem
open Cert.Proof.Step
open Cert.InProjReferenceIdeal Cert.InProjReferenceIdeal.Read

theorem frame_inProj : Cert.quiescent_InProj := fun m ρ _ => Cert.InProj.Gen.frame (F := Bits) m ρ

theorem frame_inProjIdeal : Cert.quiescent_InProjIdeal := fun m ρ _ => Cert.InProjIdeal.Gen.frame (F := Ideal) m ρ

theorem frame_inProjReferenceIdeal : Cert.quiescent_InProjReferenceIdeal := fun m ρ _ =>
  (θ_run Cert.InProjReferenceIdeal.defs _ _).mono (fun r h => ⟨fun c => (h c).2.2.2.2.2.2, Idealize.ShloMosaic.sem_eq_zero_of_no_sems (by decide) r.2⟩)
    (Cert.InProjReferenceIdeal.Value.run (F := Ideal) m ρ)

/-- The two programs leave the same six arrays. -/
theorem algebraic_inProj : Cert.algebraic_InProjIdeal_InProjReferenceIdeal := by
  intro m ρ m' ρ' _ hagree
  refine ⟨fun c => fun i : S4096x1536.Idx => qkv (held m c) (i 0).val (i 1).val, fun c => fun i : S4096x1024.Idx => proj (held m c) (i 0).val (1536 + (i 1).val),
    fun c => fun i : S4096x512.Idx => proj (held m c) (i 0).val (2560 + (i 1).val), fun c => fun i : S4096x512.Idx => proj (held m c) (i 0).val (3072 + (i 1).val),
    fun c => fun i : S4096x128.Idx => proj (held m c) (i 0).val (3584 + (i 1).val), fun c => fun i : S4096x1024.Idx => norm (held m c) (i 0).val (i 1).val,
    (θ_run Cert.InProjIdeal.defs _ _).mono (fun r h c => ⟨(h c).1.trans (arr6 m c), (h c).2.1.trans (arr7 m c), (h c).2.2.1.trans (arr8 m c), (h c).2.2.2.1.trans (arr9 m c), (h c).2.2.2.2.1.trans (arr10 m c), (h c).2.2.2.2.2.1.trans (arr11 m c), (h c).2.2.2.2.2.2⟩) (Cert.InProjIdeal.Value.run_blocks (F := Ideal) m ρ), ?_⟩
  have H : ∀ c : Dev nD, given (m' ((c : Thread nD τ).loc main_arg0)) (m' ((c : Thread nD τ).loc main_arg1)) (m' ((c : Thread nD τ).loc main_arg2)) (m' ((c : Thread nD τ).loc main_arg3)) (m' ((c : Thread nD τ).loc main_arg4)) = held m c := fun c => by
    obtain ⟨a0, a1, a2, a3, a4⟩ := hagree c
    rw [a0, a1, a2, a3, a4]
    rfl
  refine (θ_run Cert.InProjReferenceIdeal.defs _ _).mono (fun r h c => ⟨?_, ?_, ?_, ?_, ?_, ?_, (h c).2.2.2.2.2.2⟩) (Cert.InProjReferenceIdeal.Value.run (F := Ideal) m' ρ')
  · exact (h c).1.trans ((val_main_v52_eq (F := Ideal) m' c).trans (funext fun i => (v52_at (m' ((c : Thread nD τ).loc main_arg0)) (m' ((c : Thread nD τ).loc main_arg1)) (m' ((c : Thread nD τ).loc main_arg2)) (m' ((c : Thread nD τ).loc main_arg3)) (m' ((c : Thread nD τ).loc main_arg4)) i).trans (congrArg (fun p => qkv p (i 0).val (i 1).val) (H c))))
  · exact (h c).2.1.trans ((val_main_v55_eq (F := Ideal) _ _ _).trans (funext fun i => (v55_at (m' ((c : Thread nD τ).loc main_arg0)) (m' ((c : Thread nD τ).loc main_arg1)) (m' ((c : Thread nD τ).loc main_arg2)) (m' ((c : Thread nD τ).loc main_arg3)) (m' ((c : Thread nD τ).loc main_arg4)) i).trans (congrArg (fun p => proj p (i 0).val (1536 + (i 1).val)) (H c))))
  · exact (h c).2.2.1.trans ((val_main_v56_eq (F := Ideal) _ _ _).trans (funext fun i => (v56_at (m' ((c : Thread nD τ).loc main_arg0)) (m' ((c : Thread nD τ).loc main_arg1)) (m' ((c : Thread nD τ).loc main_arg2)) (m' ((c : Thread nD τ).loc main_arg3)) (m' ((c : Thread nD τ).loc main_arg4)) i).trans (congrArg (fun p => proj p (i 0).val (2560 + (i 1).val)) (H c))))
  · exact (h c).2.2.2.1.trans ((val_main_v57_eq (F := Ideal) _ _ _).trans (funext fun i => (v57_at (m' ((c : Thread nD τ).loc main_arg0)) (m' ((c : Thread nD τ).loc main_arg1)) (m' ((c : Thread nD τ).loc main_arg2)) (m' ((c : Thread nD τ).loc main_arg3)) (m' ((c : Thread nD τ).loc main_arg4)) i).trans (congrArg (fun p => proj p (i 0).val (3072 + (i 1).val)) (H c))))
  · exact (h c).2.2.2.2.1.trans ((val_main_v54_eq (F := Ideal) _ _ _).trans (funext fun i => (v54_at (m' ((c : Thread nD τ).loc main_arg0)) (m' ((c : Thread nD τ).loc main_arg1)) (m' ((c : Thread nD τ).loc main_arg2)) (m' ((c : Thread nD τ).loc main_arg3)) (m' ((c : Thread nD τ).loc main_arg4)) i).trans (congrArg (fun p => proj p (i 0).val (3584 + (i 1).val)) (H c))))
  · exact (h c).2.2.2.2.2.1.trans ((val_main_v58_eq (F := Ideal) _ _).trans (funext fun i => (v11_at (m' ((c : Thread nD τ).loc main_arg0)) (m' ((c : Thread nD τ).loc main_arg1)) (m' ((c : Thread nD τ).loc main_arg2)) (m' ((c : Thread nD τ).loc main_arg3)) (m' ((c : Thread nD τ).loc main_arg4)) i).trans (congrArg (fun p => norm p (i 0).val (i 1).val) (H c))))

end Cert.Proof.InProj

end
-- ==== Proof.lean ====
module

public import proofs.«01_k».proof.Defs
public import proofs.«01_k».proof.Proof.Ideal.Launch
public import proofs.«01_k».proof.Proof.Bits.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Mlp.Claims
public import proofs.«01_k».proof.Proof.Value.Exact
public import proofs.«01_k».proof.Proof.Value.Finite
public import proofs.«01_k».proof.Proof.Fwd.Claims
public import proofs.«01_k».proof.Proof.Up.Claims
public import proofs.«01_k».proof.Proof.Down.Claims
public import proofs.«01_k».proof.Proof.OutBwd.Claims
public import proofs.«01_k».proof.Proof.InProj.Claims
public import Idealize.ShloMosaic.Lib.Claim

@[expose] public section

noncomputable section

namespace Cert.Proof

open Idealize.ShloMosaic Idealize.SL.Sem

theorem frame_kernel : Cert.quiescent_Kernel := fun m ρ _ => Cert.Proof.Kernel.frame_any m ρ

theorem frame_kernelIdeal : Cert.quiescent_KernelIdeal := fun m ρ _ => Cert.Proof.KernelIdeal.frame_any m ρ

theorem frame_referenceIdeal : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The mask's constant is what the table names. -/
theorem preserves : Cert.preserves_Kernel_KernelIdeal :=
  IdealRules.named_const.statement Cert.KernelIdeal.κ "mask" .f32 0xF149F2CA#32 ⊥ rfl

theorem frame_kernelIdeal_finite : Cert.quiescent_KernelIdeal_pre_finite := fun m ρ _ => Cert.Proof.KernelIdeal.frame_any m ρ

theorem frame_referenceIdeal_finite : Cert.quiescent_ReferenceIdeal_pre_finite := fun m ρ _ => frame_referenceIdeal m ρ trivial

open Cert.Proof.Value in
/-- Of finite arguments the two programs leave the same three gradients. -/
theorem algebraic : Cert.algebraic_KernelIdeal_ReferenceIdeal_pre_finite := by
  intro m ρ m' ρ' hpre hagree
  have hfin := fun c => finite_entries _ _ (hpre c)
  have hM := fun c => v70_real (atNat_eq _ (hfin c).1)
  choose M hM using hM
  have hr : Reals m (fun c => atNat (m ((c.tc : Thread Cert.KernelIdeal.nD Cert.KernelIdeal.τ).loc Cert.KernelIdeal.main_arg0))) M
      (fun c => atNat (m ((c.tc : Thread Cert.KernelIdeal.nD Cert.KernelIdeal.τ).loc Cert.KernelIdeal.main_arg1))) :=
    ⟨fun c => atNat_eq _ (hfin c).1, fun c => atNat_eq _ (hfin c).2, hM⟩
  refine ⟨fun c => out7 (atNat (m ((c.tc : Thread Cert.KernelIdeal.nD Cert.KernelIdeal.τ).loc Cert.KernelIdeal.main_arg0))) (M c) (atNat (m ((c.tc : Thread Cert.KernelIdeal.nD Cert.KernelIdeal.τ).loc Cert.KernelIdeal.main_arg1))),
    fun c => out8 (atNat (m ((c.tc : Thread Cert.KernelIdeal.nD Cert.KernelIdeal.τ).loc Cert.KernelIdeal.main_arg0))) (M c) (atNat (m ((c.tc : Thread Cert.KernelIdeal.nD Cert.KernelIdeal.τ).loc Cert.KernelIdeal.main_arg1))),
    fun c => out9 (atNat (m ((c.tc : Thread Cert.KernelIdeal.nD Cert.KernelIdeal.τ).loc Cert.KernelIdeal.main_arg0))) (M c) (atNat (m ((c.tc : Thread Cert.KernelIdeal.nD Cert.KernelIdeal.τ).loc Cert.KernelIdeal.main_arg1))),
    (θ_run Cert.KernelIdeal.defs _ _).mono (fun r h c => ⟨(h c).1.1, (h c).1.2.1, (h c).1.2.2, (h c).2.1, (h c).2.2⟩) (run_gradients ρ hr), ?_⟩
  refine (θ_run Cert.ReferenceIdeal.defs _ _).mono (fun r h c => ⟨?_, ?_, ?_, (h c).2.2.2.1, (h c).2.2.2.2⟩) (Cert.ReferenceIdeal.Value.run (F := Ideal) m' ρ')
  · refine (h c).1.trans ((Cert.ReferenceIdeal.Read.val_main_v131_eq (F := Ideal) _).trans (funext fun i => ?_))
    exact (congrFun (congrArg₂ (Cert.ReferenceIdeal.Read.val_main_v131 (F := Ideal)) (hagree c).1 (hagree c).2) i).trans (v131_at (hr.x c) (hM c) (hr.g c) i)
  · refine (h c).2.1.trans ((Cert.ReferenceIdeal.Read.val_main_v133_eq (F := Ideal) _).trans (funext fun i => ?_))
    exact (congrFun (congrArg₂ (Cert.ReferenceIdeal.Read.val_main_v133 (F := Ideal)) (hagree c).1 (hagree c).2) i).trans (v133_at (hr.x c) (hM c) (hr.g c) i)
  · refine (h c).2.2.1.trans ((Cert.ReferenceIdeal.Read.val_main_v135_eq (F := Ideal) _).trans (funext fun i => ?_))
    exact (congrFun (congrArg₂ (Cert.ReferenceIdeal.Read.val_main_v135 (F := Ideal)) (hagree c).1 (hagree c).2) i).trans (v135_at (hr.x c) (hM c) (hr.g c) i)

theorem claim : Cert.Claim :=
  ⟨Cert.Kernel.Gen.facts, Cert.KernelIdeal.Gen.facts, Cert.ReferenceIdeal.Gen.facts, Cert.Mlp.Gen.facts, Cert.MlpIdeal.Gen.facts, Cert.MlpReferenceIdeal.Gen.facts,
    Cert.Fwd.Gen.facts, Cert.FwdIdeal.Gen.facts, Cert.FwdReferenceIdeal.Gen.facts, Cert.Up.Gen.facts, Cert.UpIdeal.Gen.facts, Cert.UpReferenceIdeal.Gen.facts, Cert.Down.Gen.facts, Cert.DownIdeal.Gen.facts, Cert.DownReferenceIdeal.Gen.facts,
    Cert.OutBwd.Gen.facts, Cert.OutBwdIdeal.Gen.facts, Cert.OutBwdReferenceIdeal.Gen.facts, Cert.InProj.Gen.facts, Cert.InProjIdeal.Gen.facts, Cert.InProjReferenceIdeal.Gen.facts,
    Cert.Pre_finite.Gen.facts, Cert.Pre_mlp_finite.Gen.facts,
    frame_kernel, frame_kernelIdeal, frame_kernelIdeal_finite, frame_referenceIdeal, frame_referenceIdeal_finite,
    Mlp.frame_mlp, Mlp.frame_mlpIdeal, Mlp.frame_mlpIdeal_finite, Mlp.frame_mlpReferenceIdeal, Mlp.frame_mlpReferenceIdeal_finite,
    Fwd.frame_fwd, Fwd.frame_fwdIdeal, Fwd.frame_fwdReferenceIdeal,
    Up.frame_up, Up.frame_upIdeal, Up.frame_upReferenceIdeal,
    Down.frame_down, Down.frame_downIdeal, Down.frame_downReferenceIdeal,
    OutBwd.frame_outBwd, OutBwd.frame_outBwdIdeal, OutBwd.frame_outBwdReferenceIdeal,
    InProj.frame_inProj, InProj.frame_inProjIdeal, InProj.frame_inProjReferenceIdeal,
    preserves, algebraic, trivial, Mlp.algebraic_mlp, trivial, Fwd.algebraic_fwd, trivial, Up.algebraic_up, trivial, Down.algebraic_down,
    trivial, OutBwd.algebraic_outBwd, trivial, InProj.algebraic_inProj⟩

end Cert.Proof

end
